-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalRefIdeal (m : (ℓ : Loc Cert.FfnFinalRefIdeal.nD Cert.FfnFinalRefIdeal.τ Cert.FfnFinalRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnRefIdeal (m : (ℓ : Loc Cert.XattnRefIdeal.nD Cert.XattnRefIdeal.τ Cert.XattnRefIdeal.sig) → Buf (Elt Ideal) ℓ) : Prop :=
  True

def Pre_GlaBwd (m : (ℓ : Loc Cert.GlaBwd.nD Cert.GlaBwd.τ Cert.GlaBwd.sig) → Buf (Elt Bits) ℓ) : Prop :=
  True

def Pre_GlaBwdIdeal (m : (ℓ : Loc Cert.GlaBwdIdeal.nD Cert.GlaBwdIdeal.τ Cert.GlaBwdIdeal.sig) → Buf (Elt Ideal) ℓ) : Prop :=
  True

def Pre_GlaBwdRefIdeal (m : (ℓ : Loc Cert.GlaBwdRefIdeal.nD Cert.GlaBwdRefIdeal.τ Cert.GlaBwdRefIdeal.sig) → Buf (Elt Ideal) ℓ) : Prop :=
  True

def Pre_XattnSample (m : (ℓ : Loc Cert.XattnSample.nD Cert.XattnSample.τ Cert.XattnSample.sig) → Buf (Elt Bits) ℓ) : Prop :=
  True

def Pre_XattnSampleIdeal (m : (ℓ : Loc Cert.XattnSampleIdeal.nD Cert.XattnSampleIdeal.τ Cert.XattnSampleIdeal.sig) → Buf (Elt Ideal) ℓ) : Prop :=
  True

def Pre_XattnSampleRefIdeal (m : (ℓ : Loc Cert.XattnSampleRefIdeal.nD Cert.XattnSampleRefIdeal.τ Cert.XattnSampleRefIdeal.sig) → Buf (Elt Ideal) ℓ) : Prop :=
  True

def Pre_KvProjSample (m : (ℓ : Loc Cert.KvProjSample.nD Cert.KvProjSample.τ Cert.KvProjSample.sig) → Buf (Elt Bits) ℓ) : Prop :=
  True

def Pre_KvProjSampleIdeal (m : (ℓ : Loc Cert.KvProjSampleIdeal.nD Cert.KvProjSampleIdeal.τ Cert.KvProjSampleIdeal.sig) → Buf (Elt Ideal) ℓ) : Prop :=
  True

def Pre_KvProjSampleRefIdeal (m : (ℓ : Loc Cert.KvProjSampleRefIdeal.nD Cert.KvProjSampleRefIdeal.τ Cert.KvProjSampleRefIdeal.sig) → Buf (Elt Ideal) ℓ) : Prop :=
  True

def Pre_GlaSample (m : (ℓ : Loc Cert.GlaSample.nD Cert.GlaSample.τ Cert.GlaSample.sig) → Buf (Elt Bits) ℓ) : Prop :=
  True

def Pre_GlaSampleIdeal (m : (ℓ : Loc Cert.GlaSampleIdeal.nD Cert.GlaSampleIdeal.τ Cert.GlaSampleIdeal.sig) → Buf (Elt Ideal) ℓ) : Prop :=
  True

def Pre_GlaSampleRefIdeal (m : (ℓ : Loc Cert.GlaSampleRefIdeal.nD Cert.GlaSampleRefIdeal.τ Cert.GlaSampleRefIdeal.sig) → Buf (Elt Ideal) ℓ) : Prop :=
  True

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4)
      ∧ r.2.mem ((c.tc : Thread Cert.FfnFinal.nD Cert.FfnFinal.τ).loc Cert.FfnFinal.main_arg5) = m ((c.tc : Thread Cert.FfnFinal.nD Cert.FfnFinal.τ).loc Cert.FfnFinal.main_arg5))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
      ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4)
      ∧ r.2.mem ((c.tc : Thread Cert.FfnFinalRefIdeal.nD Cert.FfnFinalRefIdeal.τ).loc Cert.FfnFinalRefIdeal.main_arg5) = m ((c.tc : Thread Cert.FfnFinalRefIdeal.nD Cert.FfnFinalRefIdeal.τ).loc Cert.FfnFinalRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4))
      ∧ r.2.sem = fun _ => 0)

def quiescent_GlaBwd [hGlaBwd : Cert.GlaBwd.Facts] : Prop :=
  ∀ (m : (ℓ : Loc Cert.GlaBwd.nD Cert.GlaBwd.τ Cert.GlaBwd.sig) → Buf (Elt Bits) ℓ) (g : Dev Cert.GlaBwd.nD → PrngReg), Pre_GlaBwd m →
    θ_run (Cert.GlaBwd.defs (F := Bits)) (onTc (τ := Cert.GlaBwd.τ) (Cert.GlaBwd.main (F := Bits))) ⟨m, fun _ => 0, g⟩ (fun r => (∀ c : Dev Cert.GlaBwd.nD,
      r.2.mem ((c.tc : Thread Cert.GlaBwd.nD Cert.GlaBwd.τ).loc Cert.GlaBwd.main_arg0) = m ((c.tc : Thread Cert.GlaBwd.nD Cert.GlaBwd.τ).loc Cert.GlaBwd.main_arg0)
      ∧ r.2.mem ((c.tc : Thread Cert.GlaBwd.nD Cert.GlaBwd.τ).loc Cert.GlaBwd.main_arg1) = m ((c.tc : Thread Cert.GlaBwd.nD Cert.GlaBwd.τ).loc Cert.GlaBwd.main_arg1)
      ∧ r.2.mem ((c.tc : Thread Cert.GlaBwd.nD Cert.GlaBwd.τ).loc Cert.GlaBwd.main_arg2) = m ((c.tc : Thread Cert.GlaBwd.nD Cert.GlaBwd.τ).loc Cert.GlaBwd.main_arg2)
      ∧ r.2.mem ((c.tc : Thread Cert.GlaBwd.nD Cert.GlaBwd.τ).loc Cert.GlaBwd.main_arg3) = m ((c.tc : Thread Cert.GlaBwd.nD Cert.GlaBwd.τ).loc Cert.GlaBwd.main_arg3)
      ∧ r.2.mem ((c.tc : Thread Cert.GlaBwd.nD Cert.GlaBwd.τ).loc Cert.GlaBwd.main_arg4) = m ((c.tc : Thread Cert.GlaBwd.nD Cert.GlaBwd.τ).loc Cert.GlaBwd.main_arg4))
      ∧ r.2.sem = fun _ => 0)

def quiescent_GlaBwdIdeal [hGlaBwdIdeal : Cert.GlaBwdIdeal.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg), Pre_GlaBwdIdeal m →
    θ_run (Cert.GlaBwdIdeal.defs (F := Ideal)) (onTc (τ := Cert.GlaBwdIdeal.τ) (Cert.GlaBwdIdeal.main (F := Ideal))) ⟨m, fun _ => 0, g⟩ (fun r => (∀ c : Dev Cert.GlaBwdIdeal.nD,
      r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
      ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
      ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
      ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3)
      ∧ r.2.mem ((c.tc : Thread Cert.GlaBwdIdeal.nD Cert.GlaBwdIdeal.τ).loc Cert.GlaBwdIdeal.main_arg4) = m ((c.tc : Thread Cert.GlaBwdIdeal.nD Cert.GlaBwdIdeal.τ).loc Cert.GlaBwdIdeal.main_arg4))
      ∧ r.2.sem = fun _ => 0)

def quiescent_GlaBwdRefIdeal [hGlaBwdRefIdeal : Cert.GlaBwdRefIdeal.Facts] : Prop :=
  ∀ (m : (ℓ : Loc Cert.GlaBwdRefIdeal.nD Cert.GlaBwdRefIdeal.τ Cert.GlaBwdRefIdeal.sig) → Buf (Elt Ideal) ℓ) (g : Dev Cert.GlaBwdRefIdeal.nD → PrngReg), Pre_GlaBwdRefIdeal m →
    θ_run (Cert.GlaBwdRefIdeal.defs (F := Ideal)) (onTc (τ := Cert.GlaBwdRefIdeal.τ) (Cert.GlaBwdRefIdeal.main (F := Ideal))) ⟨m, fun _ => 0, g⟩ (fun r => (∀ c : Dev Cert.GlaBwdRefIdeal.nD,
      r.2.mem ((c.tc : Thread Cert.GlaBwdRefIdeal.nD Cert.GlaBwdRefIdeal.τ).loc Cert.GlaBwdRefIdeal.main_arg0) = m ((c.tc : Thread Cert.GlaBwdRefIdeal.nD Cert.GlaBwdRefIdeal.τ).loc Cert.GlaBwdRefIdeal.main_arg0)
      ∧ r.2.mem ((c.tc : Thread Cert.GlaBwdRefIdeal.nD Cert.GlaBwdRefIdeal.τ).loc Cert.GlaBwdRefIdeal.main_arg1) = m ((c.tc : Thread Cert.GlaBwdRefIdeal.nD Cert.GlaBwdRefIdeal.τ).loc Cert.GlaBwdRefIdeal.main_arg1)
      ∧ r.2.mem ((c.tc : Thread Cert.GlaBwdRefIdeal.nD Cert.GlaBwdRefIdeal.τ).loc Cert.GlaBwdRefIdeal.main_arg2) = m ((c.tc : Thread Cert.GlaBwdRefIdeal.nD Cert.GlaBwdRefIdeal.τ).loc Cert.GlaBwdRefIdeal.main_arg2)
      ∧ r.2.mem ((c.tc : Thread Cert.GlaBwdRefIdeal.nD Cert.GlaBwdRefIdeal.τ).loc Cert.GlaBwdRefIdeal.main_arg3) = m ((c.tc : Thread Cert.GlaBwdRefIdeal.nD Cert.GlaBwdRefIdeal.τ).loc Cert.GlaBwdRefIdeal.main_arg3)
      ∧ r.2.mem ((c.tc : Thread Cert.GlaBwdRefIdeal.nD Cert.GlaBwdRefIdeal.τ).loc Cert.GlaBwdRefIdeal.main_arg4) = m ((c.tc : Thread Cert.GlaBwdRefIdeal.nD Cert.GlaBwdRefIdeal.τ).loc Cert.GlaBwdRefIdeal.main_arg4))
      ∧ r.2.sem = fun _ => 0)

def quiescent_XattnSample [hXattnSample : Cert.XattnSample.Facts] : Prop :=
  ∀ (m : (ℓ : Loc Cert.XattnSample.nD Cert.XattnSample.τ Cert.XattnSample.sig) → Buf (Elt Bits) ℓ) (g : Dev Cert.XattnSample.nD → PrngReg), Pre_XattnSample m →
    θ_run (Cert.XattnSample.defs (F := Bits)) (onTc (τ := Cert.XattnSample.τ) (Cert.XattnSample.main (F := Bits))) ⟨m, fun _ => 0, g⟩ (fun r => (∀ c : Dev Cert.XattnSample.nD,
      r.2.mem ((c.tc : Thread Cert.XattnSample.nD Cert.XattnSample.τ).loc Cert.XattnSample.main_arg0) = m ((c.tc : Thread Cert.XattnSample.nD Cert.XattnSample.τ).loc Cert.XattnSample.main_arg0)
      ∧ r.2.mem ((c.tc : Thread Cert.XattnSample.nD Cert.XattnSample.τ).loc Cert.XattnSample.main_arg1) = m ((c.tc : Thread Cert.XattnSample.nD Cert.XattnSample.τ).loc Cert.XattnSample.main_arg1)
      ∧ r.2.mem ((c.tc : Thread Cert.XattnSample.nD Cert.XattnSample.τ).loc Cert.XattnSample.main_arg2) = m ((c.tc : Thread Cert.XattnSample.nD Cert.XattnSample.τ).loc Cert.XattnSample.main_arg2)
      ∧ r.2.mem ((c.tc : Thread Cert.XattnSample.nD Cert.XattnSample.τ).loc Cert.XattnSample.main_arg3) = m ((c.tc : Thread Cert.XattnSample.nD Cert.XattnSample.τ).loc Cert.XattnSample.main_arg3)
      ∧ r.2.mem ((c.tc : Thread Cert.XattnSample.nD Cert.XattnSample.τ).loc Cert.XattnSample.main_arg4) = m ((c.tc : Thread Cert.XattnSample.nD Cert.XattnSample.τ).loc Cert.XattnSample.main_arg4))
      ∧ r.2.sem = fun _ => 0)

def quiescent_XattnSampleIdeal [hXattnSampleIdeal : Cert.XattnSampleIdeal.Facts] : Prop :=
  ∀ (m : (ℓ : Loc Cert.XattnSampleIdeal.nD Cert.XattnSampleIdeal.τ Cert.XattnSampleIdeal.sig) → Buf (Elt Ideal) ℓ) (g : Dev Cert.XattnSampleIdeal.nD → PrngReg), Pre_XattnSampleIdeal m →
    θ_run (Cert.XattnSampleIdeal.defs (F := Ideal)) (onTc (τ := Cert.XattnSampleIdeal.τ) (Cert.XattnSampleIdeal.main (F := Ideal))) ⟨m, fun _ => 0, g⟩ (fun r => (∀ c : Dev Cert.XattnSampleIdeal.nD,
      r.2.mem ((c.tc : Thread Cert.XattnSampleIdeal.nD Cert.XattnSampleIdeal.τ).loc Cert.XattnSampleIdeal.main_arg0) = m ((c.tc : Thread Cert.XattnSampleIdeal.nD Cert.XattnSampleIdeal.τ).loc Cert.XattnSampleIdeal.main_arg0)
      ∧ r.2.mem ((c.tc : Thread Cert.XattnSampleIdeal.nD Cert.XattnSampleIdeal.τ).loc Cert.XattnSampleIdeal.main_arg1) = m ((c.tc : Thread Cert.XattnSampleIdeal.nD Cert.XattnSampleIdeal.τ).loc Cert.XattnSampleIdeal.main_arg1)
      ∧ r.2.mem ((c.tc : Thread Cert.XattnSampleIdeal.nD Cert.XattnSampleIdeal.τ).loc Cert.XattnSampleIdeal.main_arg2) = m ((c.tc : Thread Cert.XattnSampleIdeal.nD Cert.XattnSampleIdeal.τ).loc Cert.XattnSampleIdeal.main_arg2)
      ∧ r.2.mem ((c.tc : Thread Cert.XattnSampleIdeal.nD Cert.XattnSampleIdeal.τ).loc Cert.XattnSampleIdeal.main_arg3) = m ((c.tc : Thread Cert.XattnSampleIdeal.nD Cert.XattnSampleIdeal.τ).loc Cert.XattnSampleIdeal.main_arg3)
      ∧ r.2.mem ((c.tc : Thread Cert.XattnSampleIdeal.nD Cert.XattnSampleIdeal.τ).loc Cert.XattnSampleIdeal.main_arg4) = m ((c.tc : Thread Cert.XattnSampleIdeal.nD Cert.XattnSampleIdeal.τ).loc Cert.XattnSampleIdeal.main_arg4))
      ∧ r.2.sem = fun _ => 0)

def quiescent_XattnSampleRefIdeal [hXattnSampleRefIdeal : Cert.XattnSampleRefIdeal.Facts] : Prop :=
  ∀ (m : (ℓ : Loc Cert.XattnSampleRefIdeal.nD Cert.XattnSampleRefIdeal.τ Cert.XattnSampleRefIdeal.sig) → Buf (Elt Ideal) ℓ) (g : Dev Cert.XattnSampleRefIdeal.nD → PrngReg), Pre_XattnSampleRefIdeal m →
    θ_run (Cert.XattnSampleRefIdeal.defs (F := Ideal)) (onTc (τ := Cert.XattnSampleRefIdeal.τ) (Cert.XattnSampleRefIdeal.main (F := Ideal))) ⟨m, fun _ => 0, g⟩ (fun r => (∀ c : Dev Cert.XattnSampleRefIdeal.nD,
      r.2.mem ((c.tc : Thread Cert.XattnSampleRefIdeal.nD Cert.XattnSampleRefIdeal.τ).loc Cert.XattnSampleRefIdeal.main_arg0) = m ((c.tc : Thread Cert.XattnSampleRefIdeal.nD Cert.XattnSampleRefIdeal.τ).loc Cert.XattnSampleRefIdeal.main_arg0)
      ∧ r.2.mem ((c.tc : Thread Cert.XattnSampleRefIdeal.nD Cert.XattnSampleRefIdeal.τ).loc Cert.XattnSampleRefIdeal.main_arg1) = m ((c.tc : Thread Cert.XattnSampleRefIdeal.nD Cert.XattnSampleRefIdeal.τ).loc Cert.XattnSampleRefIdeal.main_arg1)
      ∧ r.2.mem ((c.tc : Thread Cert.XattnSampleRefIdeal.nD Cert.XattnSampleRefIdeal.τ).loc Cert.XattnSampleRefIdeal.main_arg2) = m ((c.tc : Thread Cert.XattnSampleRefIdeal.nD Cert.XattnSampleRefIdeal.τ).loc Cert.XattnSampleRefIdeal.main_arg2)
      ∧ r.2.mem ((c.tc : Thread Cert.XattnSampleRefIdeal.nD Cert.XattnSampleRefIdeal.τ).loc Cert.XattnSampleRefIdeal.main_arg3) = m ((c.tc : Thread Cert.XattnSampleRefIdeal.nD Cert.XattnSampleRefIdeal.τ).loc Cert.XattnSampleRefIdeal.main_arg3)
      ∧ r.2.mem ((c.tc : Thread Cert.XattnSampleRefIdeal.nD Cert.XattnSampleRefIdeal.τ).loc Cert.XattnSampleRefIdeal.main_arg4) = m ((c.tc : Thread Cert.XattnSampleRefIdeal.nD Cert.XattnSampleRefIdeal.τ).loc Cert.XattnSampleRefIdeal.main_arg4))
      ∧ r.2.sem = fun _ => 0)

def quiescent_KvProjSample [hKvProjSample : Cert.KvProjSample.Facts] : Prop :=
  ∀ (m : (ℓ : Loc Cert.KvProjSample.nD Cert.KvProjSample.τ Cert.KvProjSample.sig) → Buf (Elt Bits) ℓ) (g : Dev Cert.KvProjSample.nD → PrngReg), Pre_KvProjSample m →
    θ_run (Cert.KvProjSample.defs (F := Bits)) (onTc (τ := Cert.KvProjSample.τ) (Cert.KvProjSample.main (F := Bits))) ⟨m, fun _ => 0, g⟩ (fun r => (∀ c : Dev Cert.KvProjSample.nD,
      r.2.mem ((c.tc : Thread Cert.KvProjSample.nD Cert.KvProjSample.τ).loc Cert.KvProjSample.main_arg0) = m ((c.tc : Thread Cert.KvProjSample.nD Cert.KvProjSample.τ).loc Cert.KvProjSample.main_arg0)
      ∧ r.2.mem ((c.tc : Thread Cert.KvProjSample.nD Cert.KvProjSample.τ).loc Cert.KvProjSample.main_arg1) = m ((c.tc : Thread Cert.KvProjSample.nD Cert.KvProjSample.τ).loc Cert.KvProjSample.main_arg1)
      ∧ r.2.mem ((c.tc : Thread Cert.KvProjSample.nD Cert.KvProjSample.τ).loc Cert.KvProjSample.main_arg2) = m ((c.tc : Thread Cert.KvProjSample.nD Cert.KvProjSample.τ).loc Cert.KvProjSample.main_arg2))
      ∧ r.2.sem = fun _ => 0)

def quiescent_KvProjSampleIdeal [hKvProjSampleIdeal : Cert.KvProjSampleIdeal.Facts] : Prop :=
  ∀ (m : (ℓ : Loc Cert.KvProjSampleIdeal.nD Cert.KvProjSampleIdeal.τ Cert.KvProjSampleIdeal.sig) → Buf (Elt Ideal) ℓ) (g : Dev Cert.KvProjSampleIdeal.nD → PrngReg), Pre_KvProjSampleIdeal m →
    θ_run (Cert.KvProjSampleIdeal.defs (F := Ideal)) (onTc (τ := Cert.KvProjSampleIdeal.τ) (Cert.KvProjSampleIdeal.main (F := Ideal))) ⟨m, fun _ => 0, g⟩ (fun r => (∀ c : Dev Cert.KvProjSampleIdeal.nD,
      r.2.mem ((c.tc : Thread Cert.KvProjSampleIdeal.nD Cert.KvProjSampleIdeal.τ).loc Cert.KvProjSampleIdeal.main_arg0) = m ((c.tc : Thread Cert.KvProjSampleIdeal.nD Cert.KvProjSampleIdeal.τ).loc Cert.KvProjSampleIdeal.main_arg0)
      ∧ r.2.mem ((c.tc : Thread Cert.KvProjSampleIdeal.nD Cert.KvProjSampleIdeal.τ).loc Cert.KvProjSampleIdeal.main_arg1) = m ((c.tc : Thread Cert.KvProjSampleIdeal.nD Cert.KvProjSampleIdeal.τ).loc Cert.KvProjSampleIdeal.main_arg1)
      ∧ r.2.mem ((c.tc : Thread Cert.KvProjSampleIdeal.nD Cert.KvProjSampleIdeal.τ).loc Cert.KvProjSampleIdeal.main_arg2) = m ((c.tc : Thread Cert.KvProjSampleIdeal.nD Cert.KvProjSampleIdeal.τ).loc Cert.KvProjSampleIdeal.main_arg2))
      ∧ r.2.sem = fun _ => 0)

def quiescent_KvProjSampleRefIdeal [hKvProjSampleRefIdeal : Cert.KvProjSampleRefIdeal.Facts] : Prop :=
  ∀ (m : (ℓ : Loc Cert.KvProjSampleRefIdeal.nD Cert.KvProjSampleRefIdeal.τ Cert.KvProjSampleRefIdeal.sig) → Buf (Elt Ideal) ℓ) (g : Dev Cert.KvProjSampleRefIdeal.nD → PrngReg), Pre_KvProjSampleRefIdeal m →
    θ_run (Cert.KvProjSampleRefIdeal.defs (F := Ideal)) (onTc (τ := Cert.KvProjSampleRefIdeal.τ) (Cert.KvProjSampleRefIdeal.main (F := Ideal))) ⟨m, fun _ => 0, g⟩ (fun r => (∀ c : Dev Cert.KvProjSampleRefIdeal.nD,
      r.2.mem ((c.tc : Thread Cert.KvProjSampleRefIdeal.nD Cert.KvProjSampleRefIdeal.τ).loc Cert.KvProjSampleRefIdeal.main_arg0) = m ((c.tc : Thread Cert.KvProjSampleRefIdeal.nD Cert.KvProjSampleRefIdeal.τ).loc Cert.KvProjSampleRefIdeal.main_arg0)
      ∧ r.2.mem ((c.tc : Thread Cert.KvProjSampleRefIdeal.nD Cert.KvProjSampleRefIdeal.τ).loc Cert.KvProjSampleRefIdeal.main_arg1) = m ((c.tc : Thread Cert.KvProjSampleRefIdeal.nD Cert.KvProjSampleRefIdeal.τ).loc Cert.KvProjSampleRefIdeal.main_arg1)
      ∧ r.2.mem ((c.tc : Thread Cert.KvProjSampleRefIdeal.nD Cert.KvProjSampleRefIdeal.τ).loc Cert.KvProjSampleRefIdeal.main_arg2) = m ((c.tc : Thread Cert.KvProjSampleRefIdeal.nD Cert.KvProjSampleRefIdeal.τ).loc Cert.KvProjSampleRefIdeal.main_arg2))
      ∧ r.2.sem = fun _ => 0)

def quiescent_GlaSample [hGlaSample : Cert.GlaSample.Facts] : Prop :=
  ∀ (m : (ℓ : Loc Cert.GlaSample.nD Cert.GlaSample.τ Cert.GlaSample.sig) → Buf (Elt Bits) ℓ) (g : Dev Cert.GlaSample.nD → PrngReg), Pre_GlaSample m →
    θ_run (Cert.GlaSample.defs (F := Bits)) (onTc (τ := Cert.GlaSample.τ) (Cert.GlaSample.main (F := Bits))) ⟨m, fun _ => 0, g⟩ (fun r => (∀ c : Dev Cert.GlaSample.nD,
      r.2.mem ((c.tc : Thread Cert.GlaSample.nD Cert.GlaSample.τ).loc Cert.GlaSample.main_arg0) = m ((c.tc : Thread Cert.GlaSample.nD Cert.GlaSample.τ).loc Cert.GlaSample.main_arg0)
      ∧ r.2.mem ((c.tc : Thread Cert.GlaSample.nD Cert.GlaSample.τ).loc Cert.GlaSample.main_arg1) = m ((c.tc : Thread Cert.GlaSample.nD Cert.GlaSample.τ).loc Cert.GlaSample.main_arg1)
      ∧ r.2.mem ((c.tc : Thread Cert.GlaSample.nD Cert.GlaSample.τ).loc Cert.GlaSample.main_arg2) = m ((c.tc : Thread Cert.GlaSample.nD Cert.GlaSample.τ).loc Cert.GlaSample.main_arg2))
      ∧ r.2.sem = fun _ => 0)

def quiescent_GlaSampleIdeal [hGlaSampleIdeal : Cert.GlaSampleIdeal.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg), Pre_GlaSampleIdeal m →
    θ_run (Cert.GlaSampleIdeal.defs (F := Ideal)) (onTc (τ := Cert.GlaSampleIdeal.τ) (Cert.GlaSampleIdeal.main (F := Ideal))) ⟨m, fun _ => 0, g⟩ (fun r => (∀ c : Dev Cert.GlaSampleIdeal.nD,
      r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
      ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
      ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2))
      ∧ r.2.sem = fun _ => 0)

def quiescent_GlaSampleRefIdeal [hGlaSampleRefIdeal : Cert.GlaSampleRefIdeal.Facts] : Prop :=
  ∀ (m : (ℓ : Loc Cert.GlaSampleRefIdeal.nD Cert.GlaSampleRefIdeal.τ Cert.GlaSampleRefIdeal.sig) → Buf (Elt Ideal) ℓ) (g : Dev Cert.GlaSampleRefIdeal.nD → PrngReg), Pre_GlaSampleRefIdeal m →
    θ_run (Cert.GlaSampleRefIdeal.defs (F := Ideal)) (onTc (τ := Cert.GlaSampleRefIdeal.τ) (Cert.GlaSampleRefIdeal.main (F := Ideal))) ⟨m, fun _ => 0, g⟩ (fun r => (∀ c : Dev Cert.GlaSampleRefIdeal.nD,
      r.2.mem ((c.tc : Thread Cert.GlaSampleRefIdeal.nD Cert.GlaSampleRefIdeal.τ).loc Cert.GlaSampleRefIdeal.main_arg0) = m ((c.tc : Thread Cert.GlaSampleRefIdeal.nD Cert.GlaSampleRefIdeal.τ).loc Cert.GlaSampleRefIdeal.main_arg0)
      ∧ r.2.mem ((c.tc : Thread Cert.GlaSampleRefIdeal.nD Cert.GlaSampleRefIdeal.τ).loc Cert.GlaSampleRefIdeal.main_arg1) = m ((c.tc : Thread Cert.GlaSampleRefIdeal.nD Cert.GlaSampleRefIdeal.τ).loc Cert.GlaSampleRefIdeal.main_arg1)
      ∧ r.2.mem ((c.tc : Thread Cert.GlaSampleRefIdeal.nD Cert.GlaSampleRefIdeal.τ).loc Cert.GlaSampleRefIdeal.main_arg2) = m ((c.tc : Thread Cert.GlaSampleRefIdeal.nD Cert.GlaSampleRefIdeal.τ).loc Cert.GlaSampleRefIdeal.main_arg2))
      ∧ r.2.sem = fun _ => 0)

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)) →
    ∃ (v0 : (c : Dev Cert.GlaIdeal.nD) → Buf (Elt Ideal) ((c.tc : Thread Cert.GlaIdeal.nD Cert.GlaIdeal.τ).loc Cert.GlaIdeal.main_v5)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v5) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v60) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnFinal_FfnFinalIdeal : Prop :=
  True

def algebraic_FfnFinalIdeal_FfnFinalRefIdeal [hFfnFinalIdeal : Cert.FfnFinalIdeal.Facts] [hFfnFinalRefIdeal : Cert.FfnFinalRefIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)
      ∧ m' ((c.tc : Thread Cert.FfnFinalRefIdeal.nD Cert.FfnFinalRefIdeal.τ).loc Cert.FfnFinalRefIdeal.main_arg5) = m ((c.tc : Thread Cert.FfnFinalIdeal.nD Cert.FfnFinalIdeal.τ).loc Cert.FfnFinalIdeal.main_arg5)) →
    ∃ (v0 : (c : Dev Cert.FfnFinalIdeal.nD) → Buf (Elt Ideal) ((c.tc : Thread Cert.FfnFinalIdeal.nD Cert.FfnFinalIdeal.τ).loc Cert.FfnFinalIdeal.main_v5)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v5) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
          ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v33) = v0 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4)
          ∧ r.2.mem ((c.tc : Thread Cert.FfnFinalRefIdeal.nD Cert.FfnFinalRefIdeal.τ).loc Cert.FfnFinalRefIdeal.main_arg5) = m' ((c.tc : Thread Cert.FfnFinalRefIdeal.nD Cert.FfnFinalRefIdeal.τ).loc Cert.FfnFinalRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)) →
    ∃ (v0 : (c : Dev Cert.KvProjIdeal.nD) → Buf (Elt Ideal) ((c.tc : Thread Cert.KvProjIdeal.nD Cert.KvProjIdeal.τ).loc Cert.KvProjIdeal.main_v2)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v2) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v14) = v0 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Xattn_XattnIdeal : Prop :=
  True

def algebraic_XattnIdeal_XattnRefIdeal [hXattnIdeal : Cert.XattnIdeal.Facts] [hXattnRefIdeal : Cert.XattnRefIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)) →
    ∃ (v0 : (c : Dev Cert.XattnIdeal.nD) → Buf (Elt Ideal) ((c.tc : Thread Cert.XattnIdeal.nD Cert.XattnIdeal.τ).loc Cert.XattnIdeal.main_v3)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v3) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v38) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4))

def preserves_GlaBwd_GlaBwdIdeal : Prop :=
  True

def algebraic_GlaBwdIdeal_GlaBwdRefIdeal [hGlaBwdIdeal : Cert.GlaBwdIdeal.Facts] [hGlaBwdRefIdeal : Cert.GlaBwdRefIdeal.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg)
    (m' : (ℓ : Loc Cert.GlaBwdRefIdeal.nD Cert.GlaBwdRefIdeal.τ Cert.GlaBwdRefIdeal.sig) → Buf (Elt Ideal) ℓ) (g' : Dev Cert.GlaBwdRefIdeal.nD → PrngReg), Pre_GlaBwdIdeal m →
    (∀ c : Dev Cert.GlaBwdIdeal.nD,
      m' ((c.tc : Thread Cert.GlaBwdRefIdeal.nD Cert.GlaBwdRefIdeal.τ).loc Cert.GlaBwdRefIdeal.main_arg0) = m ((c.tc : Thread Cert.GlaBwdIdeal.nD Cert.GlaBwdIdeal.τ).loc Cert.GlaBwdIdeal.main_arg0)
      ∧ m' ((c.tc : Thread Cert.GlaBwdRefIdeal.nD Cert.GlaBwdRefIdeal.τ).loc Cert.GlaBwdRefIdeal.main_arg1) = m ((c.tc : Thread Cert.GlaBwdIdeal.nD Cert.GlaBwdIdeal.τ).loc Cert.GlaBwdIdeal.main_arg1)
      ∧ m' ((c.tc : Thread Cert.GlaBwdRefIdeal.nD Cert.GlaBwdRefIdeal.τ).loc Cert.GlaBwdRefIdeal.main_arg2) = m ((c.tc : Thread Cert.GlaBwdIdeal.nD Cert.GlaBwdIdeal.τ).loc Cert.GlaBwdIdeal.main_arg2)
      ∧ m' ((c.tc : Thread Cert.GlaBwdRefIdeal.nD Cert.GlaBwdRefIdeal.τ).loc Cert.GlaBwdRefIdeal.main_arg3) = m ((c.tc : Thread Cert.GlaBwdIdeal.nD Cert.GlaBwdIdeal.τ).loc Cert.GlaBwdIdeal.main_arg3)
      ∧ m' ((c.tc : Thread Cert.GlaBwdRefIdeal.nD Cert.GlaBwdRefIdeal.τ).loc Cert.GlaBwdRefIdeal.main_arg4) = m ((c.tc : Thread Cert.GlaBwdIdeal.nD Cert.GlaBwdIdeal.τ).loc Cert.GlaBwdIdeal.main_arg4)) →
    ∃ (v0 : (c : Dev Cert.GlaBwdIdeal.nD) → Buf (Elt Ideal) ((c.tc : Thread Cert.GlaBwdIdeal.nD Cert.GlaBwdIdeal.τ).loc Cert.GlaBwdIdeal.main_v6)),
      θ_run (Cert.GlaBwdIdeal.defs (F := Ideal)) (onTc (τ := Cert.GlaBwdIdeal.τ) (Cert.GlaBwdIdeal.main (F := Ideal))) ⟨m, fun _ => 0, g⟩ (fun r => ∀ c : Dev Cert.GlaBwdIdeal.nD,
          r.2.mem ((c.tc : Thread Cert.GlaBwdIdeal.nD Cert.GlaBwdIdeal.τ).loc Cert.GlaBwdIdeal.main_v6) = v0 c
          ∧ r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
          ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
          ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
          ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3)
          ∧ r.2.mem ((c.tc : Thread Cert.GlaBwdIdeal.nD Cert.GlaBwdIdeal.τ).loc Cert.GlaBwdIdeal.main_arg4) = m ((c.tc : Thread Cert.GlaBwdIdeal.nD Cert.GlaBwdIdeal.τ).loc Cert.GlaBwdIdeal.main_arg4))
      ∧ θ_run (Cert.GlaBwdRefIdeal.defs (F := Ideal)) (onTc (τ := Cert.GlaBwdRefIdeal.τ) (Cert.GlaBwdRefIdeal.main (F := Ideal))) ⟨m', fun _ => 0, g'⟩ (fun r => ∀ c : Dev Cert.GlaBwdRefIdeal.nD,
          r.2.mem ((c.tc : Thread Cert.GlaBwdRefIdeal.nD Cert.GlaBwdRefIdeal.τ).loc Cert.GlaBwdRefIdeal.main_v86) = v0 c
          ∧ r.2.mem ((c.tc : Thread Cert.GlaBwdRefIdeal.nD Cert.GlaBwdRefIdeal.τ).loc Cert.GlaBwdRefIdeal.main_arg0) = m' ((c.tc : Thread Cert.GlaBwdRefIdeal.nD Cert.GlaBwdRefIdeal.τ).loc Cert.GlaBwdRefIdeal.main_arg0)
          ∧ r.2.mem ((c.tc : Thread Cert.GlaBwdRefIdeal.nD Cert.GlaBwdRefIdeal.τ).loc Cert.GlaBwdRefIdeal.main_arg1) = m' ((c.tc : Thread Cert.GlaBwdRefIdeal.nD Cert.GlaBwdRefIdeal.τ).loc Cert.GlaBwdRefIdeal.main_arg1)
          ∧ r.2.mem ((c.tc : Thread Cert.GlaBwdRefIdeal.nD Cert.GlaBwdRefIdeal.τ).loc Cert.GlaBwdRefIdeal.main_arg2) = m' ((c.tc : Thread Cert.GlaBwdRefIdeal.nD Cert.GlaBwdRefIdeal.τ).loc Cert.GlaBwdRefIdeal.main_arg2)
          ∧ r.2.mem ((c.tc : Thread Cert.GlaBwdRefIdeal.nD Cert.GlaBwdRefIdeal.τ).loc Cert.GlaBwdRefIdeal.main_arg3) = m' ((c.tc : Thread Cert.GlaBwdRefIdeal.nD Cert.GlaBwdRefIdeal.τ).loc Cert.GlaBwdRefIdeal.main_arg3)
          ∧ r.2.mem ((c.tc : Thread Cert.GlaBwdRefIdeal.nD Cert.GlaBwdRefIdeal.τ).loc Cert.GlaBwdRefIdeal.main_arg4) = m' ((c.tc : Thread Cert.GlaBwdRefIdeal.nD Cert.GlaBwdRefIdeal.τ).loc Cert.GlaBwdRefIdeal.main_arg4))

def preserves_XattnSample_XattnSampleIdeal : Prop :=
  True

def algebraic_XattnSampleIdeal_XattnSampleRefIdeal [hXattnSampleIdeal : Cert.XattnSampleIdeal.Facts] [hXattnSampleRefIdeal : Cert.XattnSampleRefIdeal.Facts] : Prop :=
  ∀ (m : (ℓ : Loc Cert.XattnSampleIdeal.nD Cert.XattnSampleIdeal.τ Cert.XattnSampleIdeal.sig) → Buf (Elt Ideal) ℓ) (g : Dev Cert.XattnSampleIdeal.nD → PrngReg)
    (m' : (ℓ : Loc Cert.XattnSampleRefIdeal.nD Cert.XattnSampleRefIdeal.τ Cert.XattnSampleRefIdeal.sig) → Buf (Elt Ideal) ℓ) (g' : Dev Cert.XattnSampleRefIdeal.nD → PrngReg), Pre_XattnSampleIdeal m →
    (∀ c : Dev Cert.XattnSampleIdeal.nD,
      m' ((c.tc : Thread Cert.XattnSampleRefIdeal.nD Cert.XattnSampleRefIdeal.τ).loc Cert.XattnSampleRefIdeal.main_arg0) = m ((c.tc : Thread Cert.XattnSampleIdeal.nD Cert.XattnSampleIdeal.τ).loc Cert.XattnSampleIdeal.main_arg0)
      ∧ m' ((c.tc : Thread Cert.XattnSampleRefIdeal.nD Cert.XattnSampleRefIdeal.τ).loc Cert.XattnSampleRefIdeal.main_arg1) = m ((c.tc : Thread Cert.XattnSampleIdeal.nD Cert.XattnSampleIdeal.τ).loc Cert.XattnSampleIdeal.main_arg1)
      ∧ m' ((c.tc : Thread Cert.XattnSampleRefIdeal.nD Cert.XattnSampleRefIdeal.τ).loc Cert.XattnSampleRefIdeal.main_arg2) = m ((c.tc : Thread Cert.XattnSampleIdeal.nD Cert.XattnSampleIdeal.τ).loc Cert.XattnSampleIdeal.main_arg2)
      ∧ m' ((c.tc : Thread Cert.XattnSampleRefIdeal.nD Cert.XattnSampleRefIdeal.τ).loc Cert.XattnSampleRefIdeal.main_arg3) = m ((c.tc : Thread Cert.XattnSampleIdeal.nD Cert.XattnSampleIdeal.τ).loc Cert.XattnSampleIdeal.main_arg3)
      ∧ m' ((c.tc : Thread Cert.XattnSampleRefIdeal.nD Cert.XattnSampleRefIdeal.τ).loc Cert.XattnSampleRefIdeal.main_arg4) = m ((c.tc : Thread Cert.XattnSampleIdeal.nD Cert.XattnSampleIdeal.τ).loc Cert.XattnSampleIdeal.main_arg4)) →
    ∃ (v0 : (c : Dev Cert.XattnSampleIdeal.nD) → Buf (Elt Ideal) ((c.tc : Thread Cert.XattnSampleIdeal.nD Cert.XattnSampleIdeal.τ).loc Cert.XattnSampleIdeal.main_v3)),
      θ_run (Cert.XattnSampleIdeal.defs (F := Ideal)) (onTc (τ := Cert.XattnSampleIdeal.τ) (Cert.XattnSampleIdeal.main (F := Ideal))) ⟨m, fun _ => 0, g⟩ (fun r => ∀ c : Dev Cert.XattnSampleIdeal.nD,
          r.2.mem ((c.tc : Thread Cert.XattnSampleIdeal.nD Cert.XattnSampleIdeal.τ).loc Cert.XattnSampleIdeal.main_v3) = v0 c
          ∧ r.2.mem ((c.tc : Thread Cert.XattnSampleIdeal.nD Cert.XattnSampleIdeal.τ).loc Cert.XattnSampleIdeal.main_arg0) = m ((c.tc : Thread Cert.XattnSampleIdeal.nD Cert.XattnSampleIdeal.τ).loc Cert.XattnSampleIdeal.main_arg0)
          ∧ r.2.mem ((c.tc : Thread Cert.XattnSampleIdeal.nD Cert.XattnSampleIdeal.τ).loc Cert.XattnSampleIdeal.main_arg1) = m ((c.tc : Thread Cert.XattnSampleIdeal.nD Cert.XattnSampleIdeal.τ).loc Cert.XattnSampleIdeal.main_arg1)
          ∧ r.2.mem ((c.tc : Thread Cert.XattnSampleIdeal.nD Cert.XattnSampleIdeal.τ).loc Cert.XattnSampleIdeal.main_arg2) = m ((c.tc : Thread Cert.XattnSampleIdeal.nD Cert.XattnSampleIdeal.τ).loc Cert.XattnSampleIdeal.main_arg2)
          ∧ r.2.mem ((c.tc : Thread Cert.XattnSampleIdeal.nD Cert.XattnSampleIdeal.τ).loc Cert.XattnSampleIdeal.main_arg3) = m ((c.tc : Thread Cert.XattnSampleIdeal.nD Cert.XattnSampleIdeal.τ).loc Cert.XattnSampleIdeal.main_arg3)
          ∧ r.2.mem ((c.tc : Thread Cert.XattnSampleIdeal.nD Cert.XattnSampleIdeal.τ).loc Cert.XattnSampleIdeal.main_arg4) = m ((c.tc : Thread Cert.XattnSampleIdeal.nD Cert.XattnSampleIdeal.τ).loc Cert.XattnSampleIdeal.main_arg4))
      ∧ θ_run (Cert.XattnSampleRefIdeal.defs (F := Ideal)) (onTc (τ := Cert.XattnSampleRefIdeal.τ) (Cert.XattnSampleRefIdeal.main (F := Ideal))) ⟨m', fun _ => 0, g'⟩ (fun r => ∀ c : Dev Cert.XattnSampleRefIdeal.nD,
          r.2.mem ((c.tc : Thread Cert.XattnSampleRefIdeal.nD Cert.XattnSampleRefIdeal.τ).loc Cert.XattnSampleRefIdeal.main_v38) = v0 c
          ∧ r.2.mem ((c.tc : Thread Cert.XattnSampleRefIdeal.nD Cert.XattnSampleRefIdeal.τ).loc Cert.XattnSampleRefIdeal.main_arg0) = m' ((c.tc : Thread Cert.XattnSampleRefIdeal.nD Cert.XattnSampleRefIdeal.τ).loc Cert.XattnSampleRefIdeal.main_arg0)
          ∧ r.2.mem ((c.tc : Thread Cert.XattnSampleRefIdeal.nD Cert.XattnSampleRefIdeal.τ).loc Cert.XattnSampleRefIdeal.main_arg1) = m' ((c.tc : Thread Cert.XattnSampleRefIdeal.nD Cert.XattnSampleRefIdeal.τ).loc Cert.XattnSampleRefIdeal.main_arg1)
          ∧ r.2.mem ((c.tc : Thread Cert.XattnSampleRefIdeal.nD Cert.XattnSampleRefIdeal.τ).loc Cert.XattnSampleRefIdeal.main_arg2) = m' ((c.tc : Thread Cert.XattnSampleRefIdeal.nD Cert.XattnSampleRefIdeal.τ).loc Cert.XattnSampleRefIdeal.main_arg2)
          ∧ r.2.mem ((c.tc : Thread Cert.XattnSampleRefIdeal.nD Cert.XattnSampleRefIdeal.τ).loc Cert.XattnSampleRefIdeal.main_arg3) = m' ((c.tc : Thread Cert.XattnSampleRefIdeal.nD Cert.XattnSampleRefIdeal.τ).loc Cert.XattnSampleRefIdeal.main_arg3)
          ∧ r.2.mem ((c.tc : Thread Cert.XattnSampleRefIdeal.nD Cert.XattnSampleRefIdeal.τ).loc Cert.XattnSampleRefIdeal.main_arg4) = m' ((c.tc : Thread Cert.XattnSampleRefIdeal.nD Cert.XattnSampleRefIdeal.τ).loc Cert.XattnSampleRefIdeal.main_arg4))

def preserves_KvProjSample_KvProjSampleIdeal : Prop :=
  True

def algebraic_KvProjSampleIdeal_KvProjSampleRefIdeal [hKvProjSampleIdeal : Cert.KvProjSampleIdeal.Facts] [hKvProjSampleRefIdeal : Cert.KvProjSampleRefIdeal.Facts] : Prop :=
  ∀ (m : (ℓ : Loc Cert.KvProjSampleIdeal.nD Cert.KvProjSampleIdeal.τ Cert.KvProjSampleIdeal.sig) → Buf (Elt Ideal) ℓ) (g : Dev Cert.KvProjSampleIdeal.nD → PrngReg)
    (m' : (ℓ : Loc Cert.KvProjSampleRefIdeal.nD Cert.KvProjSampleRefIdeal.τ Cert.KvProjSampleRefIdeal.sig) → Buf (Elt Ideal) ℓ) (g' : Dev Cert.KvProjSampleRefIdeal.nD → PrngReg), Pre_KvProjSampleIdeal m →
    (∀ c : Dev Cert.KvProjSampleIdeal.nD,
      m' ((c.tc : Thread Cert.KvProjSampleRefIdeal.nD Cert.KvProjSampleRefIdeal.τ).loc Cert.KvProjSampleRefIdeal.main_arg0) = m ((c.tc : Thread Cert.KvProjSampleIdeal.nD Cert.KvProjSampleIdeal.τ).loc Cert.KvProjSampleIdeal.main_arg0)
      ∧ m' ((c.tc : Thread Cert.KvProjSampleRefIdeal.nD Cert.KvProjSampleRefIdeal.τ).loc Cert.KvProjSampleRefIdeal.main_arg1) = m ((c.tc : Thread Cert.KvProjSampleIdeal.nD Cert.KvProjSampleIdeal.τ).loc Cert.KvProjSampleIdeal.main_arg1)
      ∧ m' ((c.tc : Thread Cert.KvProjSampleRefIdeal.nD Cert.KvProjSampleRefIdeal.τ).loc Cert.KvProjSampleRefIdeal.main_arg2) = m ((c.tc : Thread Cert.KvProjSampleIdeal.nD Cert.KvProjSampleIdeal.τ).loc Cert.KvProjSampleIdeal.main_arg2)) →
    ∃ (v0 : (c : Dev Cert.KvProjSampleIdeal.nD) → Buf (Elt Ideal) ((c.tc : Thread Cert.KvProjSampleIdeal.nD Cert.KvProjSampleIdeal.τ).loc Cert.KvProjSampleIdeal.main_v2)),
      θ_run (Cert.KvProjSampleIdeal.defs (F := Ideal)) (onTc (τ := Cert.KvProjSampleIdeal.τ) (Cert.KvProjSampleIdeal.main (F := Ideal))) ⟨m, fun _ => 0, g⟩ (fun r => ∀ c : Dev Cert.KvProjSampleIdeal.nD,
          r.2.mem ((c.tc : Thread Cert.KvProjSampleIdeal.nD Cert.KvProjSampleIdeal.τ).loc Cert.KvProjSampleIdeal.main_v2) = v0 c
          ∧ r.2.mem ((c.tc : Thread Cert.KvProjSampleIdeal.nD Cert.KvProjSampleIdeal.τ).loc Cert.KvProjSampleIdeal.main_arg0) = m ((c.tc : Thread Cert.KvProjSampleIdeal.nD Cert.KvProjSampleIdeal.τ).loc Cert.KvProjSampleIdeal.main_arg0)
          ∧ r.2.mem ((c.tc : Thread Cert.KvProjSampleIdeal.nD Cert.KvProjSampleIdeal.τ).loc Cert.KvProjSampleIdeal.main_arg1) = m ((c.tc : Thread Cert.KvProjSampleIdeal.nD Cert.KvProjSampleIdeal.τ).loc Cert.KvProjSampleIdeal.main_arg1)
          ∧ r.2.mem ((c.tc : Thread Cert.KvProjSampleIdeal.nD Cert.KvProjSampleIdeal.τ).loc Cert.KvProjSampleIdeal.main_arg2) = m ((c.tc : Thread Cert.KvProjSampleIdeal.nD Cert.KvProjSampleIdeal.τ).loc Cert.KvProjSampleIdeal.main_arg2))
      ∧ θ_run (Cert.KvProjSampleRefIdeal.defs (F := Ideal)) (onTc (τ := Cert.KvProjSampleRefIdeal.τ) (Cert.KvProjSampleRefIdeal.main (F := Ideal))) ⟨m', fun _ => 0, g'⟩ (fun r => ∀ c : Dev Cert.KvProjSampleRefIdeal.nD,
          r.2.mem ((c.tc : Thread Cert.KvProjSampleRefIdeal.nD Cert.KvProjSampleRefIdeal.τ).loc Cert.KvProjSampleRefIdeal.main_v14) = v0 c
          ∧ r.2.mem ((c.tc : Thread Cert.KvProjSampleRefIdeal.nD Cert.KvProjSampleRefIdeal.τ).loc Cert.KvProjSampleRefIdeal.main_arg0) = m' ((c.tc : Thread Cert.KvProjSampleRefIdeal.nD Cert.KvProjSampleRefIdeal.τ).loc Cert.KvProjSampleRefIdeal.main_arg0)
          ∧ r.2.mem ((c.tc : Thread Cert.KvProjSampleRefIdeal.nD Cert.KvProjSampleRefIdeal.τ).loc Cert.KvProjSampleRefIdeal.main_arg1) = m' ((c.tc : Thread Cert.KvProjSampleRefIdeal.nD Cert.KvProjSampleRefIdeal.τ).loc Cert.KvProjSampleRefIdeal.main_arg1)
          ∧ r.2.mem ((c.tc : Thread Cert.KvProjSampleRefIdeal.nD Cert.KvProjSampleRefIdeal.τ).loc Cert.KvProjSampleRefIdeal.main_arg2) = m' ((c.tc : Thread Cert.KvProjSampleRefIdeal.nD Cert.KvProjSampleRefIdeal.τ).loc Cert.KvProjSampleRefIdeal.main_arg2))

def preserves_GlaSample_GlaSampleIdeal : Prop :=
  True

def algebraic_GlaSampleIdeal_GlaSampleRefIdeal [hGlaSampleIdeal : Cert.GlaSampleIdeal.Facts] [hGlaSampleRefIdeal : Cert.GlaSampleRefIdeal.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg)
    (m' : (ℓ : Loc Cert.GlaSampleRefIdeal.nD Cert.GlaSampleRefIdeal.τ Cert.GlaSampleRefIdeal.sig) → Buf (Elt Ideal) ℓ) (g' : Dev Cert.GlaSampleRefIdeal.nD → PrngReg), Pre_GlaSampleIdeal m →
    (∀ c : Dev Cert.GlaSampleIdeal.nD,
      m' ((c.tc : Thread Cert.GlaSampleRefIdeal.nD Cert.GlaSampleRefIdeal.τ).loc Cert.GlaSampleRefIdeal.main_arg0) = m ((c.tc : Thread Cert.GlaSampleIdeal.nD Cert.GlaSampleIdeal.τ).loc Cert.GlaSampleIdeal.main_arg0)
      ∧ m' ((c.tc : Thread Cert.GlaSampleRefIdeal.nD Cert.GlaSampleRefIdeal.τ).loc Cert.GlaSampleRefIdeal.main_arg1) = m ((c.tc : Thread Cert.GlaSampleIdeal.nD Cert.GlaSampleIdeal.τ).loc Cert.GlaSampleIdeal.main_arg1)
      ∧ m' ((c.tc : Thread Cert.GlaSampleRefIdeal.nD Cert.GlaSampleRefIdeal.τ).loc Cert.GlaSampleRefIdeal.main_arg2) = m ((c.tc : Thread Cert.GlaSampleIdeal.nD Cert.GlaSampleIdeal.τ).loc Cert.GlaSampleIdeal.main_arg2)) →
    ∃ (v0 : (c : Dev Cert.GlaSampleIdeal.nD) → Buf (Elt Ideal) ((c.tc : Thread Cert.GlaSampleIdeal.nD Cert.GlaSampleIdeal.τ).loc Cert.GlaSampleIdeal.main_v5)),
      θ_run (Cert.GlaSampleIdeal.defs (F := Ideal)) (onTc (τ := Cert.GlaSampleIdeal.τ) (Cert.GlaSampleIdeal.main (F := Ideal))) ⟨m, fun _ => 0, g⟩ (fun r => ∀ c : Dev Cert.GlaSampleIdeal.nD,
          r.2.mem ((c.tc : Thread Cert.GlaSampleIdeal.nD Cert.GlaSampleIdeal.τ).loc Cert.GlaSampleIdeal.main_v5) = v0 c
          ∧ r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
          ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
          ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2))
      ∧ θ_run (Cert.GlaSampleRefIdeal.defs (F := Ideal)) (onTc (τ := Cert.GlaSampleRefIdeal.τ) (Cert.GlaSampleRefIdeal.main (F := Ideal))) ⟨m', fun _ => 0, g'⟩ (fun r => ∀ c : Dev Cert.GlaSampleRefIdeal.nD,
          r.2.mem ((c.tc : Thread Cert.GlaSampleRefIdeal.nD Cert.GlaSampleRefIdeal.τ).loc Cert.GlaSampleRefIdeal.main_v60) = v0 c
          ∧ r.2.mem ((c.tc : Thread Cert.GlaSampleRefIdeal.nD Cert.GlaSampleRefIdeal.τ).loc Cert.GlaSampleRefIdeal.main_arg0) = m' ((c.tc : Thread Cert.GlaSampleRefIdeal.nD Cert.GlaSampleRefIdeal.τ).loc Cert.GlaSampleRefIdeal.main_arg0)
          ∧ r.2.mem ((c.tc : Thread Cert.GlaSampleRefIdeal.nD Cert.GlaSampleRefIdeal.τ).loc Cert.GlaSampleRefIdeal.main_arg1) = m' ((c.tc : Thread Cert.GlaSampleRefIdeal.nD Cert.GlaSampleRefIdeal.τ).loc Cert.GlaSampleRefIdeal.main_arg1)
          ∧ r.2.mem ((c.tc : Thread Cert.GlaSampleRefIdeal.nD Cert.GlaSampleRefIdeal.τ).loc Cert.GlaSampleRefIdeal.main_arg2) = m' ((c.tc : Thread Cert.GlaSampleRefIdeal.nD Cert.GlaSampleRefIdeal.τ).loc Cert.GlaSampleRefIdeal.main_arg2))

def Claim : Prop :=
  ∃ (hGla : Cert.Gla.Facts) (hGlaIdeal : Cert.GlaIdeal.Facts) (hGlaRefIdeal : Cert.GlaRefIdeal.Facts) (hFfn : Cert.Ffn.Facts) (hFfnIdeal : Cert.FfnIdeal.Facts) (hFfnRefIdeal : Cert.FfnRefIdeal.Facts) (hFfnFinal : Cert.FfnFinal.Facts) (hFfnFinalIdeal : Cert.FfnFinalIdeal.Facts) (hFfnFinalRefIdeal : Cert.FfnFinalRefIdeal.Facts) (hInProj : Cert.InProj.Facts) (hInProjIdeal : Cert.InProjIdeal.Facts) (hInProjRefIdeal : Cert.InProjRefIdeal.Facts) (hKvProj : Cert.KvProj.Facts) (hKvProjIdeal : Cert.KvProjIdeal.Facts) (hKvProjRefIdeal : Cert.KvProjRefIdeal.Facts) (hOutProj : Cert.OutProj.Facts) (hOutProjIdeal : Cert.OutProjIdeal.Facts) (hOutProjRefIdeal : Cert.OutProjRefIdeal.Facts) (hXattn : Cert.Xattn.Facts) (hXattnIdeal : Cert.XattnIdeal.Facts) (hXattnRefIdeal : Cert.XattnRefIdeal.Facts) (hGlaBwd : Cert.GlaBwd.Facts) (hGlaBwdIdeal : Cert.GlaBwdIdeal.Facts) (hGlaBwdRefIdeal : Cert.GlaBwdRefIdeal.Facts) (hXattnSample : Cert.XattnSample.Facts) (hXattnSampleIdeal : Cert.XattnSampleIdeal.Facts) (hXattnSampleRefIdeal : Cert.XattnSampleRefIdeal.Facts) (hKvProjSample : Cert.KvProjSample.Facts) (hKvProjSampleIdeal : Cert.KvProjSampleIdeal.Facts) (hKvProjSampleRefIdeal : Cert.KvProjSampleRefIdeal.Facts) (hGlaSample : Cert.GlaSample.Facts) (hGlaSampleIdeal : Cert.GlaSampleIdeal.Facts) (hGlaSampleRefIdeal : Cert.GlaSampleRefIdeal.Facts),
    quiescent_Gla (hGla := hGla)
    ∧ quiescent_GlaIdeal (hGlaIdeal := hGlaIdeal)
    ∧ quiescent_GlaRefIdeal (hGlaRefIdeal := hGlaRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnFinal (hFfnFinal := hFfnFinal)
    ∧ quiescent_FfnFinalIdeal (hFfnFinalIdeal := hFfnFinalIdeal)
    ∧ quiescent_FfnFinalRefIdeal (hFfnFinalRefIdeal := hFfnFinalRefIdeal)
    ∧ quiescent_InProj (hInProj := hInProj)
    ∧ quiescent_InProjIdeal (hInProjIdeal := hInProjIdeal)
    ∧ quiescent_InProjRefIdeal (hInProjRefIdeal := hInProjRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Xattn (hXattn := hXattn)
    ∧ quiescent_XattnIdeal (hXattnIdeal := hXattnIdeal)
    ∧ quiescent_XattnRefIdeal (hXattnRefIdeal := hXattnRefIdeal)
    ∧ quiescent_GlaBwd (hGlaBwd := hGlaBwd)
    ∧ quiescent_GlaBwdIdeal (hGlaBwdIdeal := hGlaBwdIdeal)
    ∧ quiescent_GlaBwdRefIdeal (hGlaBwdRefIdeal := hGlaBwdRefIdeal)
    ∧ quiescent_XattnSample (hXattnSample := hXattnSample)
    ∧ quiescent_XattnSampleIdeal (hXattnSampleIdeal := hXattnSampleIdeal)
    ∧ quiescent_XattnSampleRefIdeal (hXattnSampleRefIdeal := hXattnSampleRefIdeal)
    ∧ quiescent_KvProjSample (hKvProjSample := hKvProjSample)
    ∧ quiescent_KvProjSampleIdeal (hKvProjSampleIdeal := hKvProjSampleIdeal)
    ∧ quiescent_KvProjSampleRefIdeal (hKvProjSampleRefIdeal := hKvProjSampleRefIdeal)
    ∧ quiescent_GlaSample (hGlaSample := hGlaSample)
    ∧ quiescent_GlaSampleIdeal (hGlaSampleIdeal := hGlaSampleIdeal)
    ∧ quiescent_GlaSampleRefIdeal (hGlaSampleRefIdeal := hGlaSampleRefIdeal)
    ∧ preserves_Gla_GlaIdeal
    ∧ algebraic_GlaIdeal_GlaRefIdeal (hGlaIdeal := hGlaIdeal) (hGlaRefIdeal := hGlaRefIdeal)
    ∧ preserves_Ffn_FfnIdeal
    ∧ algebraic_FfnIdeal_FfnRefIdeal (hFfnIdeal := hFfnIdeal) (hFfnRefIdeal := hFfnRefIdeal)
    ∧ preserves_FfnFinal_FfnFinalIdeal
    ∧ algebraic_FfnFinalIdeal_FfnFinalRefIdeal (hFfnFinalIdeal := hFfnFinalIdeal) (hFfnFinalRefIdeal := hFfnFinalRefIdeal)
    ∧ preserves_InProj_InProjIdeal
    ∧ algebraic_InProjIdeal_InProjRefIdeal (hInProjIdeal := hInProjIdeal) (hInProjRefIdeal := hInProjRefIdeal)
    ∧ preserves_KvProj_KvProjIdeal
    ∧ algebraic_KvProjIdeal_KvProjRefIdeal (hKvProjIdeal := hKvProjIdeal) (hKvProjRefIdeal := hKvProjRefIdeal)
    ∧ preserves_OutProj_OutProjIdeal
    ∧ algebraic_OutProjIdeal_OutProjRefIdeal (hOutProjIdeal := hOutProjIdeal) (hOutProjRefIdeal := hOutProjRefIdeal)
    ∧ preserves_Xattn_XattnIdeal
    ∧ algebraic_XattnIdeal_XattnRefIdeal (hXattnIdeal := hXattnIdeal) (hXattnRefIdeal := hXattnRefIdeal)
    ∧ preserves_GlaBwd_GlaBwdIdeal
    ∧ algebraic_GlaBwdIdeal_GlaBwdRefIdeal (hGlaBwdIdeal := hGlaBwdIdeal) (hGlaBwdRefIdeal := hGlaBwdRefIdeal)
    ∧ preserves_XattnSample_XattnSampleIdeal
    ∧ algebraic_XattnSampleIdeal_XattnSampleRefIdeal (hXattnSampleIdeal := hXattnSampleIdeal) (hXattnSampleRefIdeal := hXattnSampleRefIdeal)
    ∧ preserves_KvProjSample_KvProjSampleIdeal
    ∧ algebraic_KvProjSampleIdeal_KvProjSampleRefIdeal (hKvProjSampleIdeal := hKvProjSampleIdeal) (hKvProjSampleRefIdeal := hKvProjSampleRefIdeal)
    ∧ preserves_GlaSample_GlaSampleIdeal
    ∧ algebraic_GlaSampleIdeal_GlaSampleRefIdeal (hGlaSampleIdeal := hGlaSampleIdeal) (hGlaSampleRefIdeal := hGlaSampleRefIdeal)
-- ==== Gla.lean ====
abbrev S16384x11776 : Shape := ⟨2, ![16384, 11776]⟩
abbrev S16x1024 : Shape := ⟨2, ![16, 1024]⟩
abbrev S1024 : Shape := ⟨1, ![1024]⟩
abbrev S_ : Shape := ⟨0, ![]⟩
abbrev S128x1024 : Shape := ⟨2, ![128, 1024]⟩
abbrev S1 : Shape := ⟨1, ![1]⟩
abbrev S1x1024 : Shape := ⟨2, ![1, 1024]⟩
abbrev S16384x2048 : Shape := ⟨2, ![16384, 2048]⟩
abbrev S128x2048 : Shape := ⟨2, ![128, 2048]⟩
abbrev S128x512 : Shape := ⟨2, ![128, 512]⟩
abbrev S4x512x256 : Shape := ⟨3, ![4, 512, 256]⟩
abbrev S64x64 : Shape := ⟨2, ![64, 64]⟩
abbrev S64x128 : Shape := ⟨2, ![64, 128]⟩
abbrev S64x1024 : Shape := ⟨2, ![64, 1024]⟩
abbrev S64x2048 : Shape := ⟨2, ![64, 2048]⟩
abbrev S64x256 : Shape := ⟨2, ![64, 256]⟩
abbrev S1x512x256 : Shape := ⟨3, ![1, 512, 256]⟩
abbrev S512x256 : Shape := ⟨2, ![512, 256]⟩
abbrev S64x512 : Shape := ⟨2, ![64, 512]⟩
abbrev S1x256 : Shape := ⟨2, ![1, 256]⟩

abbrev nBuf : Space → Nat
  | .hbm => 11
  | .vmem => 13
  | .smem => 0
  | _ => 0

abbrev bufTy : (tb : Table) → Fin (tcTables nBuf tb) → BufTy
  | .hbm, ⟨0, _⟩ => ⟨S16384x11776, .f32⟩
  | .hbm, ⟨1, _⟩ => ⟨S16x1024, .f32⟩
  | .hbm, ⟨2, _⟩ => ⟨S1024, .f32⟩
  | .hbm, ⟨3, _⟩ => ⟨S_, .f32⟩
  | .hbm, ⟨4, _⟩ => ⟨S128x1024, .f32⟩
  | .hbm, ⟨5, _⟩ => ⟨S_, .i32⟩
  | .hbm, ⟨6, _⟩ => ⟨S1, .i32⟩
  | .hbm, ⟨7, _⟩ => ⟨S128x1024, .f32⟩
  | .hbm, ⟨8, _⟩ => ⟨S128x1024, .bf16⟩
  | .hbm, ⟨9, _⟩ => ⟨S1x1024, .f32⟩
  | .hbm, ⟨10, _⟩ => ⟨S16384x2048, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .f32⟩
  | .local _ .vmem, ⟨5, _⟩ => ⟨S128x2048, .f32⟩
  | .local _ .vmem, ⟨6, _⟩ => ⟨S128x512, .f32⟩
  | .local _ .vmem, ⟨7, _⟩ => ⟨S128x512, .f32⟩
  | .local _ .vmem, ⟨8, _⟩ => ⟨S128x1024, .bf16⟩
  | .local _ .vmem, ⟨9, _⟩ => ⟨S1x1024, .f32⟩
  | .local _ .vmem, ⟨10, _⟩ => ⟨S128x2048, .f32⟩
  | .local _ .vmem, ⟨11, _⟩ => ⟨S128x2048, .f32⟩
  | .local _ .vmem, ⟨12, _⟩ => ⟨S4x512x256, .f32⟩
  | _, _ => ⟨S16384x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GlaRefIdeal.lean ====
abbrev S16384x11776 : Shape := ⟨2, ![16384, 11776]⟩
abbrev S16x1024 : Shape := ⟨2, ![16, 1024]⟩
abbrev S1024 : Shape := ⟨1, ![1024]⟩
abbrev S16384x1024 : Shape := ⟨2, ![16384, 1024]⟩
abbrev S4x4096x4x256 : Shape := ⟨4, ![4, 4096, 4, 256]⟩
abbrev S_ : Shape := ⟨0, ![]⟩
abbrev S16384x2048 : Shape := ⟨2, ![16384, 2048]⟩
abbrev S4x4096x4x512 : Shape := ⟨4, ![4, 4096, 4, 512]⟩
abbrev S16384x16 : Shape := ⟨2, ![16384, 16]⟩
abbrev S4x4096x16 : Shape := ⟨3, ![4, 4096, 16]⟩
abbrev S4x4096x1024 : Shape := ⟨3, ![4, 4096, 1024]⟩
abbrev S1x1x1024 : Shape := ⟨3, ![1, 1, 1024]⟩
abbrev S4x64x64x4x256 : Shape := ⟨5, ![4, 64, 64, 4, 256]⟩
abbrev S4x64x64x4x512 : Shape := ⟨5, ![4, 64, 64, 4, 512]⟩
abbrev S4x64x1x4x256 : Shape := ⟨5, ![4, 64, 1, 4, 256]⟩
abbrev S4x64x4x64x64 : Shape := ⟨5, ![4, 64, 4, 64, 64]⟩
abbrev S64x64 : Shape := ⟨2, ![64, 64]⟩
abbrev S4x64x4x512x64 : Shape := ⟨5, ![4, 64, 4, 512, 64]⟩
abbrev S4x64x4x256 : Shape := ⟨4, ![4, 64, 4, 256]⟩
abbrev S4x4x256x512 : Shape := ⟨4, ![4, 4, 256, 512]⟩
abbrev S64x4x64x4x512 : Shape := ⟨5, ![64, 4, 64, 4, 512]⟩
abbrev S64x4x64x4x256 : Shape := ⟨5, ![64, 4, 64, 4, 256]⟩
abbrev S64x4x4x256 : Shape := ⟨4, ![64, 4, 4, 256]⟩
abbrev S1x4x64x4x512 : Shape := ⟨5, ![1, 4, 64, 4, 512]⟩
abbrev S4x64x4x512 : Shape := ⟨4, ![4, 64, 4, 512]⟩
abbrev S1x4x64x4x256 : Shape := ⟨5, ![1, 4, 64, 4, 256]⟩
abbrev S1x4x4x256 : Shape := ⟨4, ![1, 4, 4, 256]⟩
abbrev S4x4x256 : Shape := ⟨3, ![4, 4, 256]⟩
abbrev S4x4x512x64 : Shape := ⟨4, ![4, 4, 512, 64]⟩
abbrev S4x4x256x1 : Shape := ⟨4, ![4, 4, 256, 1]⟩

abbrev nBuf : Space → Nat
  | .hbm => 151
  | .vmem => 0
  | .smem => 0
  | _ => 0

abbrev hbmTy0_0 (i : Nat) : BufTy := match i % 128 with
  | 0 => ⟨S16384x11776, .f32⟩
  | 1 => ⟨S16x1024, .f32⟩
  | 2 => ⟨S1024, .f32⟩
  | 3 => ⟨S16384x1024, .f32⟩
  | 4 => ⟨S4x4096x4x256, .f32⟩
  | 5 => ⟨S_, .f32⟩
  | 6 => ⟨S4x4096x4x256, .f32⟩
  | 7 => ⟨S4x4096x4x256, .f32⟩
  | 8 => ⟨S16384x1024, .f32⟩
  | 9 => ⟨S4x4096x4x256, .f32⟩
  | 10 => ⟨S16384x2048, .f32⟩
  | 11 => ⟨S4x4096x4x512, .f32⟩
  | 12 => ⟨S16384x16, .f32⟩
  | 13 => ⟨S4x4096x16, .f32⟩
  | 14 => ⟨S4x4096x1024, .f32⟩
  | 15 => ⟨S1x1x1024, .f32⟩
  | 16 => ⟨S4x4096x1024, .f32⟩
  | 17 => ⟨S4x4096x1024, .f32⟩
  | 18 => ⟨S4x4096x1024, .f32⟩
  | 19 => ⟨S_, .f32⟩
  | 20 => ⟨S4x4096x1024, .f32⟩
  | 21 => ⟨S4x4096x1024, .f32⟩
  | 22 => ⟨S4x4096x1024, .f32⟩
  | 23 => ⟨S4x4096x1024, .f32⟩
  | 24 => ⟨S4x4096x1024, .i1⟩
  | 25 => ⟨S4x4096x1024, .f32⟩
  | 26 => ⟨S4x4096x1024, .f32⟩
  | 27 => ⟨S4x4096x1024, .f32⟩
  | 28 => ⟨S4x4096x1024, .f32⟩
  | 29 => ⟨S4x4096x1024, .f32⟩
  | 30 => ⟨S4x4096x1024, .f32⟩
  | 31 => ⟨S4x4096x1024, .f32⟩
  | 32 => ⟨S4x4096x1024, .f32⟩
  | 33 => ⟨S4x4096x1024, .f32⟩
  | 34 => ⟨S_, .f32⟩
  | 35 => ⟨S4x4096x1024, .f32⟩
  | 36 => ⟨S4x4096x1024, .f32⟩
  | 37 => ⟨S4x4096x4x256, .f32⟩
  | 38 => ⟨S4x64x64x4x256, .f32⟩
  | 39 => ⟨S4x64x64x4x256, .f32⟩
  | 40 => ⟨S4x64x64x4x512, .f32⟩
  | 41 => ⟨S4x64x64x4x256, .f32⟩
  | 42 => ⟨S_, .f32⟩
  | 43 => ⟨S_, .f32⟩
  | 44 => ⟨S4x64x64x4x256, .f32⟩
  | 45 => ⟨S4x64x1x4x256, .f32⟩
  | 46 => ⟨S4x64x64x4x256, .f32⟩
  | 47 => ⟨S4x64x64x4x256, .f32⟩
  | 48 => ⟨S4x64x64x4x256, .f32⟩
  | 49 => ⟨S4x64x64x4x256, .f32⟩
  | 50 => ⟨S4x64x64x4x256, .f32⟩
  | 51 => ⟨S4x64x64x4x256, .f32⟩
  | 52 => ⟨S4x64x64x4x256, .f32⟩
  | 53 => ⟨S4x64x64x4x256, .f32⟩
  | 54 => ⟨S4x64x4x64x64, .f32⟩
  | 55 => ⟨S_, .i1⟩
  | 56 => ⟨S64x64, .i1⟩
  | 57 => ⟨S64x64, .i32⟩
  | 58 => ⟨S_, .i32⟩
  | 59 => ⟨S64x64, .i32⟩
  | 60 => ⟨S64x64, .i32⟩
  | 61 => ⟨S64x64, .i32⟩
  | 62 => ⟨S64x64, .i1⟩
  | 63 => ⟨S_, .i1⟩
  | 64 => ⟨S64x64, .i1⟩
  | 65 => ⟨S64x64, .i1⟩
  | 66 => ⟨S_, .f32⟩
  | 67 => ⟨S_, .f32⟩
  | 68 => ⟨S4x64x4x64x64, .i1⟩
  | 69 => ⟨S4x64x4x64x64, .f32⟩
  | 70 => ⟨S4x64x4x64x64, .f32⟩
  | 71 => ⟨S4x64x4x512x64, .f32⟩
  | 72 => ⟨S4x64x64x4x512, .f32⟩
  | 73 => ⟨S4x64x64x4x256, .f32⟩
  | 74 => ⟨S4x64x64x4x256, .f32⟩
  | 75 => ⟨S4x64x1x4x256, .f32⟩
  | 76 => ⟨S4x64x64x4x256, .f32⟩
  | 77 => ⟨S4x64x64x4x256, .f32⟩
  | 78 => ⟨S4x64x64x4x256, .f32⟩
  | 79 => ⟨S4x64x64x4x256, .f32⟩
  | 80 => ⟨S4x64x1x4x256, .f32⟩
  | 81 => ⟨S4x64x4x256, .f32⟩
  | 82 => ⟨S4x64x4x256, .f32⟩
  | 83 => ⟨S_, .f32⟩
  | 84 => ⟨S4x4x256x512, .f32⟩
  | 85 => ⟨S64x4x64x4x512, .f32⟩
  | 86 => ⟨S64x4x64x4x256, .f32⟩
  | 87 => ⟨S64x4x64x4x256, .f32⟩
  | 88 => ⟨S64x4x64x4x512, .f32⟩
  | 89 => ⟨S64x4x4x256, .f32⟩
  | 90 => ⟨S_, .f32⟩
  | 91 => ⟨S64x4x64x4x512, .f32⟩
  | 92 => ⟨S_, .i32⟩
  | 93 => ⟨S64x4x64x4x512, .f32⟩
  | 94 => ⟨S64x4x64x4x256, .f32⟩
  | 95 => ⟨S64x4x64x4x256, .f32⟩
  | 96 => ⟨S64x4x64x4x512, .f32⟩
  | 97 => ⟨S64x4x4x256, .f32⟩
  | 98 => ⟨S_, .i32⟩
  | 99 => ⟨S4x4x256x512, .f32⟩
  | 100 => ⟨S64x4x64x4x512, .f32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S1x4x64x4x512, .f32⟩
  | 108 => ⟨S4x64x4x512, .f32⟩
  | 109 => ⟨S_, .i32⟩
  | 110 => ⟨S_, .i32⟩
  | 111 => ⟨S_, .i32⟩
  | 112 => ⟨S_, .i32⟩
  | 113 => ⟨S1x4x64x4x256, .f32⟩
  | 114 => ⟨S4x64x4x256, .f32⟩
  | 115 => ⟨S_, .i32⟩
  | 116 => ⟨S_, .i32⟩
  | 117 => ⟨S_, .i32⟩
  | 118 => ⟨S_, .i32⟩
  | 119 => ⟨S1x4x64x4x256, .f32⟩
  | 120 => ⟨S4x64x4x256, .f32⟩
  | 121 => ⟨S_, .i32⟩
  | 122 => ⟨S_, .i32⟩
  | 123 => ⟨S_, .i32⟩
  | 124 => ⟨S_, .i32⟩
  | 125 => ⟨S1x4x64x4x512, .f32⟩
  | 126 => ⟨S4x64x4x512, .f32⟩
  | 127 => ⟨S_, .i32⟩
  | _ => ⟨S16384x11776, .f32⟩

abbrev hbmTy0_1 (i : Nat) : BufTy := match i % 128 with
  | 0 => ⟨S_, .i32⟩
  | 1 => ⟨S_, .i32⟩
  | 2 => ⟨S1x4x4x256, .f32⟩
  | 3 => ⟨S4x4x256, .f32⟩
  | 4 => ⟨S4x4x512x64, .f32⟩
  | 5 => ⟨S4x64x4x512, .f32⟩
  | 6 => ⟨S4x64x4x512, .f32⟩
  | 7 => ⟨S4x4x256x1, .f32⟩
  | 8 => ⟨S4x4x256x512, .f32⟩
  | 9 => ⟨S4x4x256x512, .f32⟩
  | 10 => ⟨S4x4x256x512, .f32⟩
  | 11 => ⟨S4x4x256x512, .f32⟩
  | 12 => ⟨S1x4x64x4x512, .f32⟩
  | 13 => ⟨S_, .i32⟩
  | 14 => ⟨S_, .i32⟩
  | 15 => ⟨S_, .i32⟩
  | 16 => ⟨S_, .i32⟩
  | 17 => ⟨S64x4x64x4x512, .f32⟩
  | 18 => ⟨S_, .i32⟩
  | 19 => ⟨S_, .i32⟩
  | 20 => ⟨S4x64x64x4x512, .f32⟩
  | 21 => ⟨S4x4096x4x512, .f32⟩
  | 22 => ⟨S16384x2048, .f32⟩
  | _ => ⟨S16384x11776, .f32⟩

abbrev hbmTy (i : Nat) : BufTy := match i / 128 with
  | 0 => hbmTy0_0 i
  | 1 => hbmTy0_1 i
  | _ => ⟨S16384x11776, .f32⟩

abbrev bufTy : (tb : Table) → Fin (tcTables nBuf tb) → BufTy
  | .hbm, ⟨i, _⟩ => hbmTy i
  | _, _ => ⟨S16384x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_call0_cst : Ref sig .tc := ⟨.hbm, 42, rfl⟩
abbrev main_call1_call0_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c : Ref sig .tc := ⟨.hbm, 55, rfl⟩
abbrev main_v35 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_0 : Ref sig .tc := ⟨.hbm, 63, rfl⟩
abbrev main_call2_v5 : Ref sig .tc := ⟨.hbm, 64, rfl⟩
abbrev main_v36 : Ref sig .tc := ⟨.hbm, 65, rfl⟩
abbrev main_cst_1 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_2 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_3 : Ref sig .tc := ⟨.hbm, 90, rfl⟩
abbrev main_v56 : Ref sig .tc := ⟨.hbm, 91, rfl⟩
abbrev main_c_4 : Ref sig .tc := ⟨.hbm, 92, rfl⟩
abbrev main_v57_0 : Ref sig .tc := ⟨.hbm, 93, rfl⟩
abbrev main_v57_1 : Ref sig .tc := ⟨.hbm, 94, rfl⟩
abbrev main_v57_2 : Ref sig .tc := ⟨.hbm, 95, rfl⟩
abbrev main_v57_3 : Ref sig .tc := ⟨.hbm, 96, rfl⟩
abbrev main_v57_4 : Ref sig .tc := ⟨.hbm, 97, rfl⟩
abbrev main_v57_5 : Ref sig .tc := ⟨.hbm, 98, rfl⟩
abbrev main_v57_6 : Ref sig .tc := ⟨.hbm, 99, rfl⟩
abbrev main_v57_7 : Ref sig .tc := ⟨.hbm, 100, rfl⟩
abbrev main_while0c_c_12 : Ref sig .tc := ⟨.hbm, 101, rfl⟩
abbrev main_while0c_v61 : Ref sig .tc := ⟨.hbm, 102, rfl⟩
abbrev main_while0b_call4_c : Ref sig .tc := ⟨.hbm, 103, rfl⟩
abbrev main_while0b_call4_c_0 : Ref sig .tc := ⟨.hbm, 104, rfl⟩
abbrev main_while0b_call4_c_1 : Ref sig .tc := ⟨.hbm, 105, rfl⟩
abbrev main_while0b_call4_c_2 : Ref sig .tc := ⟨.hbm, 106, rfl⟩
abbrev main_while0b_call4_v0 : Ref sig .tc := ⟨.hbm, 107, rfl⟩
abbrev main_while0b_v61 : Ref sig .tc := ⟨.hbm, 108, rfl⟩
abbrev main_while0b_call5_c : Ref sig .tc := ⟨.hbm, 109, rfl⟩
abbrev main_while0b_call5_c_0 : Ref sig .tc := ⟨.hbm, 110, rfl⟩
abbrev main_while0b_call5_c_1 : Ref sig .tc := ⟨.hbm, 111, rfl⟩
abbrev main_while0b_call5_c_2 : Ref sig .tc := ⟨.hbm, 112, rfl⟩
abbrev main_while0b_call5_v0 : Ref sig .tc := ⟨.hbm, 113, rfl⟩
abbrev main_while0b_v62 : Ref sig .tc := ⟨.hbm, 114, rfl⟩
abbrev main_while0b_call6_c : Ref sig .tc := ⟨.hbm, 115, rfl⟩
abbrev main_while0b_call6_c_0 : Ref sig .tc := ⟨.hbm, 116, rfl⟩
abbrev main_while0b_call6_c_1 : Ref sig .tc := ⟨.hbm, 117, rfl⟩
abbrev main_while0b_call6_c_2 : Ref sig .tc := ⟨.hbm, 118, rfl⟩
abbrev main_while0b_call6_v0 : Ref sig .tc := ⟨.hbm, 119, rfl⟩
abbrev main_while0b_v63 : Ref sig .tc := ⟨.hbm, 120, rfl⟩
abbrev main_while0b_call7_c : Ref sig .tc := ⟨.hbm, 121, rfl⟩
abbrev main_while0b_call7_c_0 : Ref sig .tc := ⟨.hbm, 122, rfl⟩
abbrev main_while0b_call7_c_1 : Ref sig .tc := ⟨.hbm, 123, rfl⟩
abbrev main_while0b_call7_c_2 : Ref sig .tc := ⟨.hbm, 124, rfl⟩
abbrev main_while0b_call7_v0 : Ref sig .tc := ⟨.hbm, 125, rfl⟩
abbrev main_while0b_v64 : Ref sig .tc := ⟨.hbm, 126, rfl⟩
abbrev main_while0b_call8_c : Ref sig .tc := ⟨.hbm, 127, rfl⟩
abbrev main_while0b_call8_c_0 : Ref sig .tc := ⟨.hbm, 128, rfl⟩
abbrev main_while0b_call8_c_1 : Ref sig .tc := ⟨.hbm, 129, rfl⟩
abbrev main_while0b_call8_v0 : Ref sig .tc := ⟨.hbm, 130, rfl⟩
abbrev main_while0b_v65 : Ref sig .tc := ⟨.hbm, 131, rfl⟩
abbrev main_while0b_v66 : Ref sig .tc := ⟨.hbm, 132, rfl⟩
abbrev main_while0b_v67 : Ref sig .tc := ⟨.hbm, 133, rfl⟩
abbrev main_while0b_v68 : Ref sig .tc := ⟨.hbm, 134, rfl⟩
abbrev main_while0b_v69 : Ref sig .tc := ⟨.hbm, 135, rfl⟩
abbrev main_while0b_v70 : Ref sig .tc := ⟨.hbm, 136, rfl⟩
abbrev main_while0b_v71 : Ref sig .tc := ⟨.hbm, 137, rfl⟩
abbrev main_while0b_v72 : Ref sig .tc := ⟨.hbm, 138, rfl⟩
abbrev main_while0b_v73 : Ref sig .tc := ⟨.hbm, 139, rfl⟩
abbrev main_while0b_call9_v0 : Ref sig .tc := ⟨.hbm, 140, rfl⟩
abbrev main_while0b_call9_c : Ref sig .tc := ⟨.hbm, 141, rfl⟩
abbrev main_while0b_call9_c_0 : Ref sig .tc := ⟨.hbm, 142, rfl⟩
abbrev main_while0b_call9_c_1 : Ref sig .tc := ⟨.hbm, 143, rfl⟩
abbrev main_while0b_call9_c_2 : Ref sig .tc := ⟨.hbm, 144, rfl⟩
abbrev main_while0b_v74 : Ref sig .tc := ⟨.hbm, 145, rfl⟩
abbrev main_while0b_c_12 : Ref sig .tc := ⟨.hbm, 146, rfl⟩
abbrev main_while0b_v75 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩

abbrev nD : Nat := 1
abbrev τ : Topo := Topo.v7x

variable {F : FTy → Type} [FloatOps F]

abbrev main_while0_count : Scf.Loop 32 := ⟨0#32, 64#32, 1#32⟩
-- ==== Ffn.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S1x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S_, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== FfnFinal.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnFinalRefIdeal.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x5632, .f32⟩
  | .hbm, ⟨23, _⟩ => ⟨S16384x5632, .f32⟩
  | .hbm, ⟨24, _⟩ => ⟨S16384x5632, .f32⟩
  | .hbm, ⟨25, _⟩ => ⟨S_, .f32⟩
  | .hbm, ⟨26, _⟩ => ⟨S16384x5632, .f32⟩
  | .hbm, ⟨27, _⟩ => ⟨S16384x5632, .f32⟩
  | .hbm, ⟨28, _⟩ => ⟨S_, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x2048, .f32⟩
  | .hbm, ⟨51, _⟩ => ⟨S16384x2048, .f32⟩
  | .hbm, ⟨52, _⟩ => ⟨S1x2048, .f32⟩
  | .hbm, ⟨53, _⟩ => ⟨S16384x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== InProj.lean ====
abbrev S16384x2048 : Shape := ⟨2, ![16384, 2048]⟩
abbrev S2048 : Shape := ⟨1, ![2048]⟩
abbrev S2048x11776 : Shape := ⟨2, ![2048, 11776]⟩
abbrev S1x2048 : Shape := ⟨2, ![1, 2048]⟩
abbrev S16384x11776 : Shape := ⟨2, ![16384, 11776]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11776, .f32⟩
  | .hbm, ⟨3, _⟩ => ⟨S1x2048, .f32⟩
  | .hbm, ⟨4, _⟩ => ⟨S2048x11776, .bf16⟩
  | .hbm, ⟨5, _⟩ => ⟨S16384x11776, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 23], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S16384x2048 : Shape := ⟨2, ![16384, 2048]⟩
abbrev S2048 : Shape := ⟨1, ![2048]⟩
abbrev S2048x11776 : Shape := ⟨2, ![2048, 11776]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11776 : Shape := ⟨2, ![16384, 11776]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11776, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x11776, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KvProj.lean ====
abbrev S1024x2048 : Shape := ⟨2, ![1024, 2048]⟩
abbrev S2048 : Shape := ⟨1, ![2048]⟩
abbrev S2048x4096 : Shape := ⟨2, ![2048, 4096]⟩
abbrev S1x2048 : Shape := ⟨2, ![1, 2048]⟩
abbrev S1024x4096 : Shape := ⟨2, ![1024, 4096]⟩
abbrev S256x2048 : Shape := ⟨2, ![256, 2048]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x4096, .f32⟩
  | .hbm, ⟨3, _⟩ => ⟨S1x2048, .f32⟩
  | .hbm, ⟨4, _⟩ => ⟨S2048x4096, .bf16⟩
  | .hbm, ⟨5, _⟩ => ⟨S1024x4096, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S256x1024, .bf16⟩
  | .local _ .vmem, ⟨6, _⟩ => ⟨S256x1024, .bf16⟩
  | .local _ .vmem, ⟨7, _⟩ => ⟨S256x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvProjIdeal.lean ====
abbrev S1024x2048 : Shape := ⟨2, ![1024, 2048]⟩
abbrev S2048 : Shape := ⟨1, ![2048]⟩
abbrev S2048x4096 : Shape := ⟨2, ![2048, 4096]⟩
abbrev S1x2048 : Shape := ⟨2, ![1, 2048]⟩
abbrev S1024x4096 : Shape := ⟨2, ![1024, 4096]⟩
abbrev S256x2048 : Shape := ⟨2, ![256, 2048]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x4096, .f32⟩
  | .hbm, ⟨3, _⟩ => ⟨S1x2048, .f32⟩
  | .hbm, ⟨4, _⟩ => ⟨S2048x4096, .bf16⟩
  | .hbm, ⟨5, _⟩ => ⟨S1024x4096, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S256x1024, .bf16⟩
  | .local _ .vmem, ⟨6, _⟩ => ⟨S256x1024, .bf16⟩
  | .local _ .vmem, ⟨7, _⟩ => ⟨S256x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvProjRefIdeal.lean ====
abbrev S1024x2048 : Shape := ⟨2, ![1024, 2048]⟩
abbrev S2048 : Shape := ⟨1, ![2048]⟩
abbrev S2048x4096 : Shape := ⟨2, ![2048, 4096]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1024x4096 : Shape := ⟨2, ![1024, 4096]⟩

abbrev nBuf : Space → Nat
  | .hbm => 21
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x4096, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | .hbm, ⟨19, _⟩ => ⟨S1024x4096, .f32⟩
  | .hbm, ⟨20, _⟩ => ⟨S1024x4096, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OutProj.lean ====
abbrev S16384x2048 : Shape := ⟨2, ![16384, 2048]⟩
abbrev S4096x2048 : Shape := ⟨2, ![4096, 2048]⟩
abbrev S2048x2048 : Shape := ⟨2, ![2048, 2048]⟩
abbrev S512x512 : Shape := ⟨2, ![512, 512]⟩
abbrev S512x2048 : Shape := ⟨2, ![512, 2048]⟩
abbrev S2048x512 : Shape := ⟨2, ![2048, 512]⟩

abbrev nBuf : Space → Nat
  | .hbm => 9
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S16384x2048, .bf16⟩
  | .hbm, ⟨3, _⟩ => ⟨S4096x2048, .f32⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x2048, .bf16⟩
  | .hbm, ⟨8, _⟩ => ⟨S16384x2048, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x512, .f32⟩
  | .local _ .vmem, ⟨11, _⟩ => ⟨S512x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S16384x2048 : Shape := ⟨2, ![16384, 2048]⟩
abbrev S4096x2048 : Shape := ⟨2, ![4096, 2048]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S16384x2048, .bf16⟩
  | .hbm, ⟨3, _⟩ => ⟨S4096x2048, .f32⟩
  | .hbm, ⟨4, _⟩ => ⟨S16384x2048, .f32⟩
  | .hbm, ⟨5, _⟩ => ⟨S16384x2048, .f32⟩
  | .hbm, ⟨6, _⟩ => ⟨S16384x4096, .f32⟩
  | .hbm, ⟨7, _⟩ => ⟨S16384x2048, .f32⟩
  | .hbm, ⟨8, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Xattn.lean ====
abbrev S16384x2048 : Shape := ⟨2, ![16384, 2048]⟩
abbrev S2048 : Shape := ⟨1, ![2048]⟩
abbrev S2048x2048 : Shape := ⟨2, ![2048, 2048]⟩
abbrev S1024x4096 : Shape := ⟨2, ![1024, 4096]⟩
abbrev S1x2048 : Shape := ⟨2, ![1, 2048]⟩
abbrev S512x2048 : Shape := ⟨2, ![512, 2048]⟩
abbrev S256x4096 : Shape := ⟨2, ![256, 4096]⟩
abbrev S512 : Shape := ⟨1, ![512]⟩
abbrev S512x1 : Shape := ⟨2, ![512, 1]⟩
abbrev S256x512 : Shape := ⟨2, ![256, 512]⟩
abbrev S512x512 : Shape := ⟨2, ![512, 512]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S1024x4096, .bf16⟩
  | .hbm, ⟨4, _⟩ => ⟨S2048x2048, .f32⟩
  | .hbm, ⟨5, _⟩ => ⟨S1x2048, .f32⟩
  | .hbm, ⟨6, _⟩ => ⟨S2048x2048, .bf16⟩
  | .hbm, ⟨7, _⟩ => ⟨S2048x2048, .bf16⟩
  | .hbm, ⟨8, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S256x4096, .bf16⟩
  | .local _ .vmem, ⟨5, _⟩ => ⟨S256x4096, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== XattnRefIdeal.lean ====
abbrev S16384x2048 : Shape := ⟨2, ![16384, 2048]⟩
abbrev S2048 : Shape := ⟨1, ![2048]⟩
abbrev S2048x2048 : Shape := ⟨2, ![2048, 2048]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S4x4096x4x512 : Shape := ⟨4, ![4, 4096, 4, 512]⟩
abbrev S1024x2048 : Shape := ⟨2, ![1024, 2048]⟩
abbrev S4x256x4x512 : Shape := ⟨4, ![4, 256, 4, 512]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x512x4096 : Shape := ⟨4, ![4, 4, 512, 4096]⟩

abbrev nBuf : Space → Nat
  | .hbm => 51
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S1024x4096, .bf16⟩
  | .hbm, ⟨4, _⟩ => ⟨S2048x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S4x4096x4x512, .f32⟩
  | .hbm, ⟨23, _⟩ => ⟨S1024x4096, .f32⟩
  | .hbm, ⟨24, _⟩ => ⟨S1024x2048, .f32⟩
  | .hbm, ⟨25, _⟩ => ⟨S1024x2048, .f32⟩
  | .hbm, ⟨26, _⟩ => ⟨S4x256x4x512, .f32⟩
  | .hbm, ⟨27, _⟩ => ⟨S4x256x4x512, .f32⟩
  | .hbm, ⟨28, _⟩ => ⟨S4x4x4096x256, .f32⟩
  | .hbm, ⟨29, _⟩ => ⟨S_, .f32⟩
  | .hbm, ⟨30, _⟩ => ⟨S4x4x4096x256, .f32⟩
  | .hbm, ⟨31, _⟩ => ⟨S4x4x4096x256, .f32⟩
  | .hbm, ⟨32, _⟩ => ⟨S_, .f32⟩
  | .hbm, ⟨33, _⟩ => ⟨S4x4x4096, .f32⟩
  | .hbm, ⟨34, _⟩ => ⟨S_, .f32⟩
  | .hbm, ⟨35, _⟩ => ⟨S4x4x4096, .f32⟩
  | .hbm, ⟨36, _⟩ => ⟨S4x4x4096, .f32⟩
  | .hbm, ⟨37, _⟩ => ⟨S4x4x4096x1, .f32⟩
  | .hbm, ⟨38, _⟩ => ⟨S4x4x4096x256, .f32⟩
  | .hbm, ⟨39, _⟩ => ⟨S4x4x4096x256, .f32⟩
  | .hbm, ⟨40, _⟩ => ⟨S4x4x4096x256, .f32⟩
  | .hbm, ⟨41, _⟩ => ⟨S_, .f32⟩
  | .hbm, ⟨42, _⟩ => ⟨S4x4x4096, .f32⟩
  | .hbm, ⟨43, _⟩ => ⟨S4x4x4096x1, .f32⟩
  | .hbm, ⟨44, _⟩ => ⟨S4x4x4096x256, .f32⟩
  | .hbm, ⟨45, _⟩ => ⟨S4x4x4096x256, .f32⟩
  | .hbm, ⟨46, _⟩ => ⟨S4x4x512x4096, .f32⟩
  | .hbm, ⟨47, _⟩ => ⟨S4x4096x4x512, .f32⟩
  | .hbm, ⟨48, _⟩ => ⟨S16384x2048, .f32⟩
  | .hbm, ⟨49, _⟩ => ⟨S16384x2048, .f32⟩
  | .hbm, ⟨50, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== GlaBwd.lean ====
abbrev S16384x11776 : Shape := ⟨2, ![16384, 11776]⟩
abbrev S16384x2048 : Shape := ⟨2, ![16384, 2048]⟩
abbrev S16x1024 : Shape := ⟨2, ![16, 1024]⟩
abbrev S1024 : Shape := ⟨1, ![1024]⟩
abbrev S512 : Shape := ⟨1, ![512]⟩
abbrev S_ : Shape := ⟨0, ![]⟩
abbrev S128x1024 : Shape := ⟨2, ![128, 1024]⟩
abbrev S1 : Shape := ⟨1, ![1]⟩
abbrev S1x1024 : Shape := ⟨2, ![1, 1024]⟩
abbrev S1x512 : Shape := ⟨2, ![1, 512]⟩
abbrev S128x2048 : Shape := ⟨2, ![128, 2048]⟩
abbrev S128x512 : Shape := ⟨2, ![128, 512]⟩
abbrev S4x512x256 : Shape := ⟨3, ![4, 512, 256]⟩
abbrev S64x64 : Shape := ⟨2, ![64, 64]⟩
abbrev S64x128 : Shape := ⟨2, ![64, 128]⟩
abbrev S64x1024 : Shape := ⟨2, ![64, 1024]⟩
abbrev S64x2048 : Shape := ⟨2, ![64, 2048]⟩
abbrev S64x256 : Shape := ⟨2, ![64, 256]⟩
abbrev S1x512x256 : Shape := ⟨3, ![1, 512, 256]⟩
abbrev S512x256 : Shape := ⟨2, ![512, 256]⟩
abbrev S64x512 : Shape := ⟨2, ![64, 512]⟩
abbrev S1x256 : Shape := ⟨2, ![1, 256]⟩
abbrev S64 : Shape := ⟨1, ![64]⟩
abbrev S64x1 : Shape := ⟨2, ![64, 1]⟩

abbrev nBuf : Space → Nat
  | .hbm => 14
  | .vmem => 18
  | .smem => 0
  | _ => 0

abbrev bufTy : (tb : Table) → Fin (tcTables nBuf tb) → BufTy
  | .hbm, ⟨0, _⟩ => ⟨S16384x11776, .f32⟩
  | .hbm, ⟨1, _⟩ => ⟨S16384x2048, .f32⟩
  | .hbm, ⟨2, _⟩ => ⟨S16x1024, .f32⟩
  | .hbm, ⟨3, _⟩ => ⟨S1024, .f32⟩
  | .hbm, ⟨4, _⟩ => ⟨S512, .f32⟩
  | .hbm, ⟨5, _⟩ => ⟨S_, .f32⟩
  | .hbm, ⟨6, _⟩ => ⟨S128x1024, .f32⟩
  | .hbm, ⟨7, _⟩ => ⟨S_, .i32⟩
  | .hbm, ⟨8, _⟩ => ⟨S1, .i32⟩
  | .hbm, ⟨9, _⟩ => ⟨S128x1024, .f32⟩
  | .hbm, ⟨10, _⟩ => ⟨S128x1024, .bf16⟩
  | .hbm, ⟨11, _⟩ => ⟨S1x1024, .f32⟩
  | .hbm, ⟨12, _⟩ => ⟨S1x512, .f32⟩
  | .hbm, ⟨13, _⟩ => ⟨S16384x2048, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .f32⟩
  | .local _ .vmem, ⟨5, _⟩ => ⟨S128x2048, .f32⟩
  | .local _ .vmem, ⟨6, _⟩ => ⟨S128x512, .f32⟩
  | .local _ .vmem, ⟨7, _⟩ => ⟨S128x512, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x1024, .bf16⟩
  | .local _ .vmem, ⟨13, _⟩ => ⟨S1x1024, .f32⟩
  | .local _ .vmem, ⟨14, _⟩ => ⟨S1x512, .f32⟩
  | .local _ .vmem, ⟨15, _⟩ => ⟨S128x2048, .bf16⟩
  | .local _ .vmem, ⟨16, _⟩ => ⟨S128x2048, .bf16⟩
  | .local _ .vmem, ⟨17, _⟩ => ⟨S4x512x256, .f32⟩
  | _, _ => ⟨S16384x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c127_i32 : BitVec 32 := 127#32
  let v0 : BitVec 32 := Scalar.subi c127_i32 arg0
  let c9_i32 : BitVec 32 := 9#32
  let c0_i32 : BitVec 32 := 0#32
  ![v0.toNat, c9_i32.toNat]

def cc0_transform_1 (i : grid0.Coords) : Fin 2 → Nat :=
  let arg0 : BitVec 32 := BitVec.ofNat 32 (i 0).val
  let c127_i32 : BitVec 32 := 127#32
  let v0 : BitVec 32 := Scalar.subi c127_i32 arg0
  let c10_i32 : BitVec 32 := 10#32
  let c0_i32 : BitVec 32 := 0#32
  ![v0.toNat, c10_i32.toNat]

def cc0_transform_2 (i : grid0.Coords) : Fin 2 → Nat :=
  let arg0 : BitVec 32 := BitVec.ofNat 32 (i 0).val
  let c127_i32 : BitVec 32 := 127#32
  let v0 : BitVec 32 := Scalar.subi c127_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c127_i32 : BitVec 32 := 127#32
  let v0 : BitVec 32 := Scalar.subi c127_i32 arg0
  let c22_i32 : BitVec 32 := 22#32
  let c0_i32 : BitVec 32 := 0#32
  ![v0.toNat, c22_i32.toNat]

def cc0_transform_4 (i : grid0.Coords) : Fin 2 → Nat :=
  let arg0 : BitVec 32 := BitVec.ofNat 32 (i 0).val
  let c127_i32 : BitVec 32 := 127#32
  let v0 : BitVec 32 := Scalar.subi c127_i32 arg0
  let c3_i32 : BitVec 32 := 3#32
  let c0_i32 : BitVec 32 := 0#32
  ![v0.toNat, c3_i32.toNat]

def cc0_transform_5 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GlaBwdRefIdeal.lean ====
abbrev S16384x11776 : Shape := ⟨2, ![16384, 11776]⟩
abbrev S16384x2048 : Shape := ⟨2, ![16384, 2048]⟩
abbrev S16x1024 : Shape := ⟨2, ![16, 1024]⟩
abbrev S1024 : Shape := ⟨1, ![1024]⟩
abbrev S512 : Shape := ⟨1, ![512]⟩
abbrev S16384x1024 : Shape := ⟨2, ![16384, 1024]⟩
abbrev S4x4096x4x256 : Shape := ⟨4, ![4, 4096, 4, 256]⟩
abbrev S_ : Shape := ⟨0, ![]⟩
abbrev S4x4096x4x512 : Shape := ⟨4, ![4, 4096, 4, 512]⟩
abbrev S16384x16 : Shape := ⟨2, ![16384, 16]⟩
abbrev S4x4096x16 : Shape := ⟨3, ![4, 4096, 16]⟩
abbrev S4x4096x1024 : Shape := ⟨3, ![4, 4096, 1024]⟩
abbrev S1x1x1024 : Shape := ⟨3, ![1, 1, 1024]⟩
abbrev S4x64x64x4x256 : Shape := ⟨5, ![4, 64, 64, 4, 256]⟩
abbrev S4x64x64x4x512 : Shape := ⟨5, ![4, 64, 64, 4, 512]⟩
abbrev S4x64x1x4x256 : Shape := ⟨5, ![4, 64, 1, 4, 256]⟩
abbrev S4x64x4x64x64 : Shape := ⟨5, ![4, 64, 4, 64, 64]⟩
abbrev S64x64 : Shape := ⟨2, ![64, 64]⟩
abbrev S4x64x4x512x64 : Shape := ⟨5, ![4, 64, 4, 512, 64]⟩
abbrev S4x64x4x256 : Shape := ⟨4, ![4, 64, 4, 256]⟩
abbrev S4x4x256x512 : Shape := ⟨4, ![4, 4, 256, 512]⟩
abbrev S64x4x64x4x512 : Shape := ⟨5, ![64, 4, 64, 4, 512]⟩
abbrev S64x4x64x4x256 : Shape := ⟨5, ![64, 4, 64, 4, 256]⟩
abbrev S64x4x4x256 : Shape := ⟨4, ![64, 4, 4, 256]⟩
abbrev S1x4x64x4x512 : Shape := ⟨5, ![1, 4, 64, 4, 512]⟩
abbrev S4x64x4x512 : Shape := ⟨4, ![4, 64, 4, 512]⟩
abbrev S1x4x64x4x256 : Shape := ⟨5, ![1, 4, 64, 4, 256]⟩
abbrev S1x4x4x256 : Shape := ⟨4, ![1, 4, 4, 256]⟩
abbrev S4x4x256 : Shape := ⟨3, ![4, 4, 256]⟩
abbrev S4x4x512x64 : Shape := ⟨4, ![4, 4, 512, 64]⟩
abbrev S4x4x256x1 : Shape := ⟨4, ![4, 4, 256, 1]⟩
abbrev S4x4096x2048 : Shape := ⟨3, ![4, 4096, 2048]⟩
abbrev S4x4096x4 : Shape := ⟨3, ![4, 4096, 4]⟩
abbrev S4x4096x4x1 : Shape := ⟨4, ![4, 4096, 4, 1]⟩
abbrev S1x1x1x512 : Shape := ⟨4, ![1, 1, 1, 512]⟩

abbrev nBuf : Space → Nat
  | .hbm => 190
  | .vmem => 0
  | .smem => 0
  | _ => 0

abbrev hbmTy0_0 (i : Nat) : BufTy := match i % 128 with
  | 0 => ⟨S16384x11776, .f32⟩
  | 1 => ⟨S16384x2048, .f32⟩
  | 2 => ⟨S16x1024, .f32⟩
  | 3 => ⟨S1024, .f32⟩
  | 4 => ⟨S512, .f32⟩
  | 5 => ⟨S16384x1024, .f32⟩
  | 6 => ⟨S4x4096x4x256, .f32⟩
  | 7 => ⟨S_, .f32⟩
  | 8 => ⟨S4x4096x4x256, .f32⟩
  | 9 => ⟨S4x4096x4x256, .f32⟩
  | 10 => ⟨S16384x1024, .f32⟩
  | 11 => ⟨S4x4096x4x256, .f32⟩
  | 12 => ⟨S16384x2048, .f32⟩
  | 13 => ⟨S4x4096x4x512, .f32⟩
  | 14 => ⟨S16384x16, .f32⟩
  | 15 => ⟨S4x4096x16, .f32⟩
  | 16 => ⟨S4x4096x1024, .f32⟩
  | 17 => ⟨S1x1x1024, .f32⟩
  | 18 => ⟨S4x4096x1024, .f32⟩
  | 19 => ⟨S4x4096x1024, .f32⟩
  | 20 => ⟨S4x4096x1024, .f32⟩
  | 21 => ⟨S_, .f32⟩
  | 22 => ⟨S4x4096x1024, .f32⟩
  | 23 => ⟨S4x4096x1024, .f32⟩
  | 24 => ⟨S4x4096x1024, .f32⟩
  | 25 => ⟨S4x4096x1024, .f32⟩
  | 26 => ⟨S4x4096x1024, .i1⟩
  | 27 => ⟨S4x4096x1024, .f32⟩
  | 28 => ⟨S4x4096x1024, .f32⟩
  | 29 => ⟨S4x4096x1024, .f32⟩
  | 30 => ⟨S4x4096x1024, .f32⟩
  | 31 => ⟨S4x4096x1024, .f32⟩
  | 32 => ⟨S4x4096x1024, .f32⟩
  | 33 => ⟨S4x4096x1024, .f32⟩
  | 34 => ⟨S4x4096x1024, .f32⟩
  | 35 => ⟨S4x4096x1024, .f32⟩
  | 36 => ⟨S_, .f32⟩
  | 37 => ⟨S4x4096x1024, .f32⟩
  | 38 => ⟨S4x4096x1024, .f32⟩
  | 39 => ⟨S4x4096x4x256, .f32⟩
  | 40 => ⟨S4x4096x4x256, .f32⟩
  | 41 => ⟨S4x4096x4x256, .f32⟩
  | 42 => ⟨S4x4096x4x512, .f32⟩
  | 43 => ⟨S4x4096x4x256, .f32⟩
  | 44 => ⟨S4x64x64x4x256, .f32⟩
  | 45 => ⟨S4x64x64x4x256, .f32⟩
  | 46 => ⟨S4x64x64x4x512, .f32⟩
  | 47 => ⟨S4x64x64x4x256, .f32⟩
  | 48 => ⟨S_, .f32⟩
  | 49 => ⟨S_, .f32⟩
  | 50 => ⟨S4x64x64x4x256, .f32⟩
  | 51 => ⟨S4x64x1x4x256, .f32⟩
  | 52 => ⟨S4x64x64x4x256, .f32⟩
  | 53 => ⟨S4x64x64x4x256, .f32⟩
  | 54 => ⟨S4x64x64x4x256, .f32⟩
  | 55 => ⟨S4x64x64x4x256, .f32⟩
  | 56 => ⟨S4x64x64x4x256, .f32⟩
  | 57 => ⟨S4x64x64x4x256, .f32⟩
  | 58 => ⟨S4x64x64x4x256, .f32⟩
  | 59 => ⟨S4x64x64x4x256, .f32⟩
  | 60 => ⟨S4x64x4x64x64, .f32⟩
  | 61 => ⟨S_, .i1⟩
  | 62 => ⟨S64x64, .i1⟩
  | 63 => ⟨S64x64, .i32⟩
  | 64 => ⟨S_, .i32⟩
  | 65 => ⟨S64x64, .i32⟩
  | 66 => ⟨S64x64, .i32⟩
  | 67 => ⟨S64x64, .i32⟩
  | 68 => ⟨S64x64, .i1⟩
  | 69 => ⟨S_, .i1⟩
  | 70 => ⟨S64x64, .i1⟩
  | 71 => ⟨S64x64, .i1⟩
  | 72 => ⟨S_, .f32⟩
  | 73 => ⟨S_, .f32⟩
  | 74 => ⟨S4x64x4x64x64, .i1⟩
  | 75 => ⟨S4x64x4x64x64, .f32⟩
  | 76 => ⟨S4x64x4x64x64, .f32⟩
  | 77 => ⟨S4x64x4x512x64, .f32⟩
  | 78 => ⟨S4x64x64x4x512, .f32⟩
  | 79 => ⟨S4x64x64x4x256, .f32⟩
  | 80 => ⟨S4x64x64x4x256, .f32⟩
  | 81 => ⟨S4x64x1x4x256, .f32⟩
  | 82 => ⟨S4x64x64x4x256, .f32⟩
  | 83 => ⟨S4x64x64x4x256, .f32⟩
  | 84 => ⟨S4x64x64x4x256, .f32⟩
  | 85 => ⟨S4x64x64x4x256, .f32⟩
  | 86 => ⟨S4x64x1x4x256, .f32⟩
  | 87 => ⟨S4x64x4x256, .f32⟩
  | 88 => ⟨S4x64x4x256, .f32⟩
  | 89 => ⟨S_, .f32⟩
  | 90 => ⟨S4x4x256x512, .f32⟩
  | 91 => ⟨S64x4x64x4x512, .f32⟩
  | 92 => ⟨S64x4x64x4x256, .f32⟩
  | 93 => ⟨S64x4x64x4x256, .f32⟩
  | 94 => ⟨S64x4x64x4x512, .f32⟩
  | 95 => ⟨S64x4x4x256, .f32⟩
  | 96 => ⟨S_, .f32⟩
  | 97 => ⟨S64x4x64x4x512, .f32⟩
  | 98 => ⟨S_, .i32⟩
  | 99 => ⟨S64x4x64x4x512, .f32⟩
  | 100 => ⟨S64x4x64x4x256, .f32⟩
  | 101 => ⟨S64x4x64x4x256, .f32⟩
  | 102 => ⟨S64x4x64x4x512, .f32⟩
  | 103 => ⟨S64x4x4x256, .f32⟩
  | 104 => ⟨S_, .i32⟩
  | 105 => ⟨S4x4x256x512, .f32⟩
  | 106 => ⟨S64x4x64x4x512, .f32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S1x4x64x4x512, .f32⟩
  | 114 => ⟨S4x64x4x512, .f32⟩
  | 115 => ⟨S_, .i32⟩
  | 116 => ⟨S_, .i32⟩
  | 117 => ⟨S_, .i32⟩
  | 118 => ⟨S_, .i32⟩
  | 119 => ⟨S1x4x64x4x256, .f32⟩
  | 120 => ⟨S4x64x4x256, .f32⟩
  | 121 => ⟨S_, .i32⟩
  | 122 => ⟨S_, .i32⟩
  | 123 => ⟨S_, .i32⟩
  | 124 => ⟨S_, .i32⟩
  | 125 => ⟨S1x4x64x4x256, .f32⟩
  | 126 => ⟨S4x64x4x256, .f32⟩
  | 127 => ⟨S_, .i32⟩
  | _ => ⟨S16384x11776, .f32⟩

abbrev hbmTy0_1 (i : Nat) : BufTy := match i % 128 with
  | 0 => ⟨S_, .i32⟩
  | 1 => ⟨S_, .i32⟩
  | 2 => ⟨S_, .i32⟩
  | 3 => ⟨S1x4x64x4x512, .f32⟩
  | 4 => ⟨S4x64x4x512, .f32⟩
  | 5 => ⟨S_, .i32⟩
  | 6 => ⟨S_, .i32⟩
  | 7 => ⟨S_, .i32⟩
  | 8 => ⟨S1x4x4x256, .f32⟩
  | 9 => ⟨S4x4x256, .f32⟩
  | 10 => ⟨S4x4x512x64, .f32⟩
  | 11 => ⟨S4x64x4x512, .f32⟩
  | 12 => ⟨S4x64x4x512, .f32⟩
  | 13 => ⟨S4x4x256x1, .f32⟩
  | 14 => ⟨S4x4x256x512, .f32⟩
  | 15 => ⟨S4x4x256x512, .f32⟩
  | 16 => ⟨S4x4x256x512, .f32⟩
  | 17 => ⟨S4x4x256x512, .f32⟩
  | 18 => ⟨S1x4x64x4x512, .f32⟩
  | 19 => ⟨S_, .i32⟩
  | 20 => ⟨S_, .i32⟩
  | 21 => ⟨S_, .i32⟩
  | 22 => ⟨S_, .i32⟩
  | 23 => ⟨S64x4x64x4x512, .f32⟩
  | 24 => ⟨S_, .i32⟩
  | 25 => ⟨S_, .i32⟩
  | 26 => ⟨S4x64x64x4x512, .f32⟩
  | 27 => ⟨S4x4096x4x512, .f32⟩
  | 28 => ⟨S4x4096x4x512, .f32⟩
  | 29 => ⟨S4x4096x4x512, .f32⟩
  | 30 => ⟨S4x4096x4x512, .f32⟩
  | 31 => ⟨S16384x2048, .f32⟩
  | 32 => ⟨S4x4096x2048, .f32⟩
  | 33 => ⟨S4x4096x4x512, .f32⟩
  | 34 => ⟨S_, .f32⟩
  | 35 => ⟨S4x4096x4, .f32⟩
  | 36 => ⟨S4x4096x4x1, .f32⟩
  | 37 => ⟨S_, .f32⟩
  | 38 => ⟨S4x4096x4x1, .f32⟩
  | 39 => ⟨S4x4096x4x1, .f32⟩
  | 40 => ⟨S_, .f32⟩
  | 41 => ⟨S4x4096x4x1, .f32⟩
  | 42 => ⟨S4x4096x4x1, .f32⟩
  | 43 => ⟨S4x4096x4x1, .f32⟩
  | 44 => ⟨S4x4096x4x512, .f32⟩
  | 45 => ⟨S4x4096x4x512, .f32⟩
  | 46 => ⟨S1x1x1x512, .f32⟩
  | 47 => ⟨S4x4096x4x512, .f32⟩
  | 48 => ⟨S4x4096x4x512, .f32⟩
  | 49 => ⟨S4x4096x2048, .f32⟩
  | 50 => ⟨S4x4096x2048, .f32⟩
  | 51 => ⟨S4x4096x2048, .f32⟩
  | 52 => ⟨S_, .f32⟩
  | 53 => ⟨S4x4096x2048, .f32⟩
  | 54 => ⟨S4x4096x2048, .f32⟩
  | 55 => ⟨S_, .f32⟩
  | 56 => ⟨S4x4096x2048, .f32⟩
  | 57 => ⟨S4x4096x2048, .f32⟩
  | 58 => ⟨S4x4096x2048, .f32⟩
  | 59 => ⟨S4x4096x2048, .f32⟩
  | 60 => ⟨S16384x2048, .f32⟩
  | 61 => ⟨S16384x2048, .bf16⟩
  | _ => ⟨S16384x11776, .f32⟩

abbrev hbmTy (i : Nat) : BufTy := match i / 128 with
  | 0 => hbmTy0_0 i
  | 1 => hbmTy0_1 i
  | _ => ⟨S16384x11776, .f32⟩

abbrev bufTy : (tb : Table) → Fin (tcTables nBuf tb) → BufTy
  | .hbm, ⟨i, _⟩ => hbmTy i
  | _, _ => ⟨S16384x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call5_call0_cst : Ref sig .tc := ⟨.hbm, 48, rfl⟩
abbrev main_call5_call0_v0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c : Ref sig .tc := ⟨.hbm, 61, rfl⟩
abbrev main_v39 : Ref sig .tc := ⟨.hbm, 62, rfl⟩
abbrev main_call6_v0 : Ref sig .tc := ⟨.hbm, 63, rfl⟩
abbrev main_call6_c : Ref sig .tc := ⟨.hbm, 64, rfl⟩
abbrev main_call6_v1 : Ref sig .tc := ⟨.hbm, 65, rfl⟩
abbrev main_call6_v2 : Ref sig .tc := ⟨.hbm, 66, rfl⟩
abbrev main_call6_v3 : Ref sig .tc := ⟨.hbm, 67, rfl⟩
abbrev main_call6_v4 : Ref sig .tc := ⟨.hbm, 68, rfl⟩
abbrev main_call6_c_0 : Ref sig .tc := ⟨.hbm, 69, rfl⟩
abbrev main_call6_v5 : Ref sig .tc := ⟨.hbm, 70, rfl⟩
abbrev main_v40 : Ref sig .tc := ⟨.hbm, 71, rfl⟩
abbrev main_cst_1 : Ref sig .tc := ⟨.hbm, 72, rfl⟩
abbrev main_call7_v0 : Ref sig .tc := ⟨.hbm, 73, rfl⟩
abbrev main_call7_v1 : Ref sig .tc := ⟨.hbm, 74, rfl⟩
abbrev main_call7_v2 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_2 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_3 : Ref sig .tc := ⟨.hbm, 96, rfl⟩
abbrev main_v60 : Ref sig .tc := ⟨.hbm, 97, rfl⟩
abbrev main_c_4 : Ref sig .tc := ⟨.hbm, 98, rfl⟩
abbrev main_v61_0 : Ref sig .tc := ⟨.hbm, 99, rfl⟩
abbrev main_v61_1 : Ref sig .tc := ⟨.hbm, 100, rfl⟩
abbrev main_v61_2 : Ref sig .tc := ⟨.hbm, 101, rfl⟩
abbrev main_v61_3 : Ref sig .tc := ⟨.hbm, 102, rfl⟩
abbrev main_v61_4 : Ref sig .tc := ⟨.hbm, 103, rfl⟩
abbrev main_v61_5 : Ref sig .tc := ⟨.hbm, 104, rfl⟩
abbrev main_v61_6 : Ref sig .tc := ⟨.hbm, 105, rfl⟩
abbrev main_v61_7 : Ref sig .tc := ⟨.hbm, 106, rfl⟩
abbrev main_while0c_c_15 : Ref sig .tc := ⟨.hbm, 107, rfl⟩
abbrev main_while0c_v87 : Ref sig .tc := ⟨.hbm, 108, rfl⟩
abbrev main_while0b_call8_c : Ref sig .tc := ⟨.hbm, 109, rfl⟩
abbrev main_while0b_call8_c_0 : Ref sig .tc := ⟨.hbm, 110, rfl⟩
abbrev main_while0b_call8_c_1 : Ref sig .tc := ⟨.hbm, 111, rfl⟩
abbrev main_while0b_call8_c_2 : Ref sig .tc := ⟨.hbm, 112, rfl⟩
abbrev main_while0b_call8_v0 : Ref sig .tc := ⟨.hbm, 113, rfl⟩
abbrev main_while0b_v87 : Ref sig .tc := ⟨.hbm, 114, rfl⟩
abbrev main_while0b_call9_c : Ref sig .tc := ⟨.hbm, 115, rfl⟩
abbrev main_while0b_call9_c_0 : Ref sig .tc := ⟨.hbm, 116, rfl⟩
abbrev main_while0b_call9_c_1 : Ref sig .tc := ⟨.hbm, 117, rfl⟩
abbrev main_while0b_call9_c_2 : Ref sig .tc := ⟨.hbm, 118, rfl⟩
abbrev main_while0b_call9_v0 : Ref sig .tc := ⟨.hbm, 119, rfl⟩
abbrev main_while0b_v88 : Ref sig .tc := ⟨.hbm, 120, rfl⟩
abbrev main_while0b_call10_c : Ref sig .tc := ⟨.hbm, 121, rfl⟩
abbrev main_while0b_call10_c_0 : Ref sig .tc := ⟨.hbm, 122, rfl⟩
abbrev main_while0b_call10_c_1 : Ref sig .tc := ⟨.hbm, 123, rfl⟩
abbrev main_while0b_call10_c_2 : Ref sig .tc := ⟨.hbm, 124, rfl⟩
abbrev main_while0b_call10_v0 : Ref sig .tc := ⟨.hbm, 125, rfl⟩
abbrev main_while0b_v89 : Ref sig .tc := ⟨.hbm, 126, rfl⟩
abbrev main_while0b_call11_c : Ref sig .tc := ⟨.hbm, 127, rfl⟩
abbrev main_while0b_call11_c_0 : Ref sig .tc := ⟨.hbm, 128, rfl⟩
abbrev main_while0b_call11_c_1 : Ref sig .tc := ⟨.hbm, 129, rfl⟩
abbrev main_while0b_call11_c_2 : Ref sig .tc := ⟨.hbm, 130, rfl⟩
abbrev main_while0b_call11_v0 : Ref sig .tc := ⟨.hbm, 131, rfl⟩
abbrev main_while0b_v90 : Ref sig .tc := ⟨.hbm, 132, rfl⟩
abbrev main_while0b_call12_c : Ref sig .tc := ⟨.hbm, 133, rfl⟩
abbrev main_while0b_call12_c_0 : Ref sig .tc := ⟨.hbm, 134, rfl⟩
abbrev main_while0b_call12_c_1 : Ref sig .tc := ⟨.hbm, 135, rfl⟩
abbrev main_while0b_call12_v0 : Ref sig .tc := ⟨.hbm, 136, rfl⟩
abbrev main_while0b_v91 : Ref sig .tc := ⟨.hbm, 137, rfl⟩
abbrev main_while0b_v92 : Ref sig .tc := ⟨.hbm, 138, rfl⟩
abbrev main_while0b_v93 : Ref sig .tc := ⟨.hbm, 139, rfl⟩
abbrev main_while0b_v94 : Ref sig .tc := ⟨.hbm, 140, rfl⟩
abbrev main_while0b_v95 : Ref sig .tc := ⟨.hbm, 141, rfl⟩
abbrev main_while0b_v96 : Ref sig .tc := ⟨.hbm, 142, rfl⟩
abbrev main_while0b_v97 : Ref sig .tc := ⟨.hbm, 143, rfl⟩
abbrev main_while0b_v98 : Ref sig .tc := ⟨.hbm, 144, rfl⟩
abbrev main_while0b_v99 : Ref sig .tc := ⟨.hbm, 145, rfl⟩
abbrev main_while0b_call13_v0 : Ref sig .tc := ⟨.hbm, 146, rfl⟩
abbrev main_while0b_call13_c : Ref sig .tc := ⟨.hbm, 147, rfl⟩
abbrev main_while0b_call13_c_0 : Ref sig .tc := ⟨.hbm, 148, rfl⟩
abbrev main_while0b_call13_c_1 : Ref sig .tc := ⟨.hbm, 149, rfl⟩
abbrev main_while0b_call13_c_2 : Ref sig .tc := ⟨.hbm, 150, rfl⟩
abbrev main_while0b_v100 : Ref sig .tc := ⟨.hbm, 151, rfl⟩
abbrev main_while0b_c_15 : Ref sig .tc := ⟨.hbm, 152, rfl⟩
abbrev main_while0b_v101 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_cst_5 : Ref sig .tc := ⟨.hbm, 162, rfl⟩
abbrev main_v70 : Ref sig .tc := ⟨.hbm, 163, rfl⟩
abbrev main_v71 : Ref sig .tc := ⟨.hbm, 164, rfl⟩
abbrev main_cst_6 : Ref sig .tc := ⟨.hbm, 165, rfl⟩
abbrev main_v72 : Ref sig .tc := ⟨.hbm, 166, rfl⟩
abbrev main_v73 : Ref sig .tc := ⟨.hbm, 167, rfl⟩
abbrev main_cst_7 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_call15_v0 : Ref sig .tc := ⟨.hbm, 178, rfl⟩
abbrev main_call15_v1 : Ref sig .tc := ⟨.hbm, 179, rfl⟩
abbrev main_call15_cst : Ref sig .tc := ⟨.hbm, 180, rfl⟩
abbrev main_call15_v2 : Ref sig .tc := ⟨.hbm, 181, rfl⟩
abbrev main_call15_v3 : Ref sig .tc := ⟨.hbm, 182, rfl⟩
abbrev main_call15_cst_0 : Ref sig .tc := ⟨.hbm, 183, rfl⟩
abbrev main_call15_v4 : Ref sig .tc := ⟨.hbm, 184, rfl⟩
abbrev main_call15_v5 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩

abbrev nD : Nat := 1
abbrev τ : Topo := Topo.v7x

variable {F : FTy → Type} [FloatOps F]

abbrev main_while0_count : Scf.Loop 32 := ⟨0#32, 64#32, 1#32⟩
-- ==== XattnSample.lean ====
abbrev S16384x2048 : Shape := ⟨2, ![16384, 2048]⟩
abbrev S2048 : Shape := ⟨1, ![2048]⟩
abbrev S2048x2048 : Shape := ⟨2, ![2048, 2048]⟩
abbrev S256x4096 : Shape := ⟨2, ![256, 4096]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S256x512 : Shape := ⟨2, ![256, 512]⟩
abbrev S512x512 : Shape := ⟨2, ![512, 512]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S256x4096, .bf16⟩
  | .hbm, ⟨4, _⟩ => ⟨S2048x2048, .f32⟩
  | .hbm, ⟨5, _⟩ => ⟨S1x2048, .f32⟩
  | .hbm, ⟨6, _⟩ => ⟨S2048x2048, .bf16⟩
  | .hbm, ⟨7, _⟩ => ⟨S2048x2048, .bf16⟩
  | .hbm, ⟨8, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S256x4096, .bf16⟩
  | .local _ .vmem, ⟨5, _⟩ => ⟨S256x4096, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== XattnSampleRefIdeal.lean ====
abbrev S16384x2048 : Shape := ⟨2, ![16384, 2048]⟩
abbrev S2048 : Shape := ⟨1, ![2048]⟩
abbrev S2048x2048 : Shape := ⟨2, ![2048, 2048]⟩
abbrev S256x4096 : Shape := ⟨2, ![256, 4096]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x16384x4x512 : Shape := ⟨4, ![1, 16384, 4, 512]⟩
abbrev S256x2048 : Shape := ⟨2, ![256, 2048]⟩
abbrev S1x256x4x512 : Shape := ⟨4, ![1, 256, 4, 512]⟩
abbrev S1x4x16384x256 : Shape := ⟨4, ![1, 4, 16384, 256]⟩
abbrev S1x4x16384 : Shape := ⟨3, ![1, 4, 16384]⟩
abbrev S1x4x16384x1 : Shape := ⟨4, ![1, 4, 16384, 1]⟩
abbrev S1x4x512x16384 : Shape := ⟨4, ![1, 4, 512, 16384]⟩

abbrev nBuf : Space → Nat
  | .hbm => 51
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S256x4096, .bf16⟩
  | .hbm, ⟨4, _⟩ => ⟨S2048x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S1x16384x4x512, .f32⟩
  | .hbm, ⟨23, _⟩ => ⟨S256x4096, .f32⟩
  | .hbm, ⟨24, _⟩ => ⟨S256x2048, .f32⟩
  | .hbm, ⟨25, _⟩ => ⟨S256x2048, .f32⟩
  | .hbm, ⟨26, _⟩ => ⟨S1x256x4x512, .f32⟩
  | .hbm, ⟨27, _⟩ => ⟨S1x256x4x512, .f32⟩
  | .hbm, ⟨28, _⟩ => ⟨S1x4x16384x256, .f32⟩
  | .hbm, ⟨29, _⟩ => ⟨S_, .f32⟩
  | .hbm, ⟨30, _⟩ => ⟨S1x4x16384x256, .f32⟩
  | .hbm, ⟨31, _⟩ => ⟨S1x4x16384x256, .f32⟩
  | .hbm, ⟨32, _⟩ => ⟨S_, .f32⟩
  | .hbm, ⟨33, _⟩ => ⟨S1x4x16384, .f32⟩
  | .hbm, ⟨34, _⟩ => ⟨S_, .f32⟩
  | .hbm, ⟨35, _⟩ => ⟨S1x4x16384, .f32⟩
  | .hbm, ⟨36, _⟩ => ⟨S1x4x16384, .f32⟩
  | .hbm, ⟨37, _⟩ => ⟨S1x4x16384x1, .f32⟩
  | .hbm, ⟨38, _⟩ => ⟨S1x4x16384x256, .f32⟩
  | .hbm, ⟨39, _⟩ => ⟨S1x4x16384x256, .f32⟩
  | .hbm, ⟨40, _⟩ => ⟨S1x4x16384x256, .f32⟩
  | .hbm, ⟨41, _⟩ => ⟨S_, .f32⟩
  | .hbm, ⟨42, _⟩ => ⟨S1x4x16384, .f32⟩
  | .hbm, ⟨43, _⟩ => ⟨S1x4x16384x1, .f32⟩
  | .hbm, ⟨44, _⟩ => ⟨S1x4x16384x256, .f32⟩
  | .hbm, ⟨45, _⟩ => ⟨S1x4x16384x256, .f32⟩
  | .hbm, ⟨46, _⟩ => ⟨S1x4x512x16384, .f32⟩
  | .hbm, ⟨47, _⟩ => ⟨S1x16384x4x512, .f32⟩
  | .hbm, ⟨48, _⟩ => ⟨S16384x2048, .f32⟩
  | .hbm, ⟨49, _⟩ => ⟨S16384x2048, .f32⟩
  | .hbm, ⟨50, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== KvProjSample.lean ====
abbrev S256x2048 : Shape := ⟨2, ![256, 2048]⟩
abbrev S2048 : Shape := ⟨1, ![2048]⟩
abbrev S2048x4096 : Shape := ⟨2, ![2048, 4096]⟩
abbrev S1x2048 : Shape := ⟨2, ![1, 2048]⟩
abbrev S256x4096 : Shape := ⟨2, ![256, 4096]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x4096, .f32⟩
  | .hbm, ⟨3, _⟩ => ⟨S1x2048, .f32⟩
  | .hbm, ⟨4, _⟩ => ⟨S2048x4096, .bf16⟩
  | .hbm, ⟨5, _⟩ => ⟨S256x4096, .bf16⟩
  | .local _ .vmem, ⟨0, _⟩ => ⟨S256x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvProjSampleRefIdeal.lean ====
abbrev S256x2048 : Shape := ⟨2, ![256, 2048]⟩
abbrev S2048 : Shape := ⟨1, ![2048]⟩
abbrev S2048x4096 : Shape := ⟨2, ![2048, 4096]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S256x4096 : Shape := ⟨2, ![256, 4096]⟩

abbrev nBuf : Space → Nat
  | .hbm => 21
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x4096, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x4096, .f32⟩
  | .hbm, ⟨20, _⟩ => ⟨S256x4096, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== GlaSample.lean ====
abbrev S16384x11776 : Shape := ⟨2, ![16384, 11776]⟩
abbrev S16x1024 : Shape := ⟨2, ![16, 1024]⟩
abbrev S1024 : Shape := ⟨1, ![1024]⟩
abbrev S_ : Shape := ⟨0, ![]⟩
abbrev S128x1024 : Shape := ⟨2, ![128, 1024]⟩
abbrev S1 : Shape := ⟨1, ![1]⟩
abbrev S1x1024 : Shape := ⟨2, ![1, 1024]⟩
abbrev S16384x2048 : Shape := ⟨2, ![16384, 2048]⟩
abbrev S128x2048 : Shape := ⟨2, ![128, 2048]⟩
abbrev S128x512 : Shape := ⟨2, ![128, 512]⟩
abbrev S4x512x256 : Shape := ⟨3, ![4, 512, 256]⟩
abbrev S64x64 : Shape := ⟨2, ![64, 64]⟩
abbrev S64x128 : Shape := ⟨2, ![64, 128]⟩
abbrev S64x1024 : Shape := ⟨2, ![64, 1024]⟩
abbrev S64x2048 : Shape := ⟨2, ![64, 2048]⟩
abbrev S64x256 : Shape := ⟨2, ![64, 256]⟩
abbrev S1x512x256 : Shape := ⟨3, ![1, 512, 256]⟩
abbrev S512x256 : Shape := ⟨2, ![512, 256]⟩
abbrev S64x512 : Shape := ⟨2, ![64, 512]⟩
abbrev S1x256 : Shape := ⟨2, ![1, 256]⟩

abbrev nBuf : Space → Nat
  | .hbm => 11
  | .vmem => 13
  | .smem => 0
  | _ => 0

abbrev bufTy : (tb : Table) → Fin (tcTables nBuf tb) → BufTy
  | .hbm, ⟨0, _⟩ => ⟨S16384x11776, .f32⟩
  | .hbm, ⟨1, _⟩ => ⟨S16x1024, .f32⟩
  | .hbm, ⟨2, _⟩ => ⟨S1024, .f32⟩
  | .hbm, ⟨3, _⟩ => ⟨S_, .f32⟩
  | .hbm, ⟨4, _⟩ => ⟨S128x1024, .f32⟩
  | .hbm, ⟨5, _⟩ => ⟨S_, .i32⟩
  | .hbm, ⟨6, _⟩ => ⟨S1, .i32⟩
  | .hbm, ⟨7, _⟩ => ⟨S128x1024, .f32⟩
  | .hbm, ⟨8, _⟩ => ⟨S128x1024, .bf16⟩
  | .hbm, ⟨9, _⟩ => ⟨S1x1024, .f32⟩
  | .hbm, ⟨10, _⟩ => ⟨S16384x2048, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .f32⟩
  | .local _ .vmem, ⟨5, _⟩ => ⟨S128x2048, .f32⟩
  | .local _ .vmem, ⟨6, _⟩ => ⟨S128x512, .f32⟩
  | .local _ .vmem, ⟨7, _⟩ => ⟨S128x512, .f32⟩
  | .local _ .vmem, ⟨8, _⟩ => ⟨S128x1024, .bf16⟩
  | .local _ .vmem, ⟨9, _⟩ => ⟨S1x1024, .f32⟩
  | .local _ .vmem, ⟨10, _⟩ => ⟨S128x2048, .f32⟩
  | .local _ .vmem, ⟨11, _⟩ => ⟨S128x2048, .f32⟩
  | .local _ .vmem, ⟨12, _⟩ => ⟨S4x512x256, .f32⟩
  | _, _ => ⟨S16384x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GlaSampleRefIdeal.lean ====
abbrev S16384x11776 : Shape := ⟨2, ![16384, 11776]⟩
abbrev S16x1024 : Shape := ⟨2, ![16, 1024]⟩
abbrev S1024 : Shape := ⟨1, ![1024]⟩
abbrev S16384x1024 : Shape := ⟨2, ![16384, 1024]⟩
abbrev S1x16384x4x256 : Shape := ⟨4, ![1, 16384, 4, 256]⟩
abbrev S_ : Shape := ⟨0, ![]⟩
abbrev S16384x2048 : Shape := ⟨2, ![16384, 2048]⟩
abbrev S1x16384x4x512 : Shape := ⟨4, ![1, 16384, 4, 512]⟩
abbrev S16384x16 : Shape := ⟨2, ![16384, 16]⟩
abbrev S1x16384x16 : Shape := ⟨3, ![1, 16384, 16]⟩
abbrev S1x16384x1024 : Shape := ⟨3, ![1, 16384, 1024]⟩
abbrev S1x1x1024 : Shape := ⟨3, ![1, 1, 1024]⟩
abbrev S1x256x64x4x256 : Shape := ⟨5, ![1, 256, 64, 4, 256]⟩
abbrev S1x256x64x4x512 : Shape := ⟨5, ![1, 256, 64, 4, 512]⟩
abbrev S1x256x1x4x256 : Shape := ⟨5, ![1, 256, 1, 4, 256]⟩
abbrev S1x256x4x64x64 : Shape := ⟨5, ![1, 256, 4, 64, 64]⟩
abbrev S64x64 : Shape := ⟨2, ![64, 64]⟩
abbrev S1x256x4x512x64 : Shape := ⟨5, ![1, 256, 4, 512, 64]⟩
abbrev S1x256x4x256 : Shape := ⟨4, ![1, 256, 4, 256]⟩
abbrev S1x4x256x512 : Shape := ⟨4, ![1, 4, 256, 512]⟩
abbrev S256x1x64x4x512 : Shape := ⟨5, ![256, 1, 64, 4, 512]⟩
abbrev S256x1x64x4x256 : Shape := ⟨5, ![256, 1, 64, 4, 256]⟩
abbrev S256x1x4x256 : Shape := ⟨4, ![256, 1, 4, 256]⟩
abbrev S1x1x64x4x512 : Shape := ⟨5, ![1, 1, 64, 4, 512]⟩
abbrev S1x64x4x512 : Shape := ⟨4, ![1, 64, 4, 512]⟩
abbrev S1x1x64x4x256 : Shape := ⟨5, ![1, 1, 64, 4, 256]⟩
abbrev S1x64x4x256 : Shape := ⟨4, ![1, 64, 4, 256]⟩
abbrev S1x1x4x256 : Shape := ⟨4, ![1, 1, 4, 256]⟩
abbrev S1x4x256 : Shape := ⟨3, ![1, 4, 256]⟩
abbrev S1x4x512x64 : Shape := ⟨4, ![1, 4, 512, 64]⟩
abbrev S1x4x256x1 : Shape := ⟨4, ![1, 4, 256, 1]⟩

abbrev nBuf : Space → Nat
  | .hbm => 151
  | .vmem => 0
  | .smem => 0
  | _ => 0

abbrev hbmTy0_0 (i : Nat) : BufTy := match i % 128 with
  | 0 => ⟨S16384x11776, .f32⟩
  | 1 => ⟨S16x1024, .f32⟩
  | 2 => ⟨S1024, .f32⟩
  | 3 => ⟨S16384x1024, .f32⟩
  | 4 => ⟨S1x16384x4x256, .f32⟩
  | 5 => ⟨S_, .f32⟩
  | 6 => ⟨S1x16384x4x256, .f32⟩
  | 7 => ⟨S1x16384x4x256, .f32⟩
  | 8 => ⟨S16384x1024, .f32⟩
  | 9 => ⟨S1x16384x4x256, .f32⟩
  | 10 => ⟨S16384x2048, .f32⟩
  | 11 => ⟨S1x16384x4x512, .f32⟩
  | 12 => ⟨S16384x16, .f32⟩
  | 13 => ⟨S1x16384x16, .f32⟩
  | 14 => ⟨S1x16384x1024, .f32⟩
  | 15 => ⟨S1x1x1024, .f32⟩
  | 16 => ⟨S1x16384x1024, .f32⟩
  | 17 => ⟨S1x16384x1024, .f32⟩
  | 18 => ⟨S1x16384x1024, .f32⟩
  | 19 => ⟨S_, .f32⟩
  | 20 => ⟨S1x16384x1024, .f32⟩
  | 21 => ⟨S1x16384x1024, .f32⟩
  | 22 => ⟨S1x16384x1024, .f32⟩
  | 23 => ⟨S1x16384x1024, .f32⟩
  | 24 => ⟨S1x16384x1024, .i1⟩
  | 25 => ⟨S1x16384x1024, .f32⟩
  | 26 => ⟨S1x16384x1024, .f32⟩
  | 27 => ⟨S1x16384x1024, .f32⟩
  | 28 => ⟨S1x16384x1024, .f32⟩
  | 29 => ⟨S1x16384x1024, .f32⟩
  | 30 => ⟨S1x16384x1024, .f32⟩
  | 31 => ⟨S1x16384x1024, .f32⟩
  | 32 => ⟨S1x16384x1024, .f32⟩
  | 33 => ⟨S1x16384x1024, .f32⟩
  | 34 => ⟨S_, .f32⟩
  | 35 => ⟨S1x16384x1024, .f32⟩
  | 36 => ⟨S1x16384x1024, .f32⟩
  | 37 => ⟨S1x16384x4x256, .f32⟩
  | 38 => ⟨S1x256x64x4x256, .f32⟩
  | 39 => ⟨S1x256x64x4x256, .f32⟩
  | 40 => ⟨S1x256x64x4x512, .f32⟩
  | 41 => ⟨S1x256x64x4x256, .f32⟩
  | 42 => ⟨S_, .f32⟩
  | 43 => ⟨S_, .f32⟩
  | 44 => ⟨S1x256x64x4x256, .f32⟩
  | 45 => ⟨S1x256x1x4x256, .f32⟩
  | 46 => ⟨S1x256x64x4x256, .f32⟩
  | 47 => ⟨S1x256x64x4x256, .f32⟩
  | 48 => ⟨S1x256x64x4x256, .f32⟩
  | 49 => ⟨S1x256x64x4x256, .f32⟩
  | 50 => ⟨S1x256x64x4x256, .f32⟩
  | 51 => ⟨S1x256x64x4x256, .f32⟩
  | 52 => ⟨S1x256x64x4x256, .f32⟩
  | 53 => ⟨S1x256x64x4x256, .f32⟩
  | 54 => ⟨S1x256x4x64x64, .f32⟩
  | 55 => ⟨S_, .i1⟩
  | 56 => ⟨S64x64, .i1⟩
  | 57 => ⟨S64x64, .i32⟩
  | 58 => ⟨S_, .i32⟩
  | 59 => ⟨S64x64, .i32⟩
  | 60 => ⟨S64x64, .i32⟩
  | 61 => ⟨S64x64, .i32⟩
  | 62 => ⟨S64x64, .i1⟩
  | 63 => ⟨S_, .i1⟩
  | 64 => ⟨S64x64, .i1⟩
  | 65 => ⟨S64x64, .i1⟩
  | 66 => ⟨S_, .f32⟩
  | 67 => ⟨S_, .f32⟩
  | 68 => ⟨S1x256x4x64x64, .i1⟩
  | 69 => ⟨S1x256x4x64x64, .f32⟩
  | 70 => ⟨S1x256x4x64x64, .f32⟩
  | 71 => ⟨S1x256x4x512x64, .f32⟩
  | 72 => ⟨S1x256x64x4x512, .f32⟩
  | 73 => ⟨S1x256x64x4x256, .f32⟩
  | 74 => ⟨S1x256x64x4x256, .f32⟩
  | 75 => ⟨S1x256x1x4x256, .f32⟩
  | 76 => ⟨S1x256x64x4x256, .f32⟩
  | 77 => ⟨S1x256x64x4x256, .f32⟩
  | 78 => ⟨S1x256x64x4x256, .f32⟩
  | 79 => ⟨S1x256x64x4x256, .f32⟩
  | 80 => ⟨S1x256x1x4x256, .f32⟩
  | 81 => ⟨S1x256x4x256, .f32⟩
  | 82 => ⟨S1x256x4x256, .f32⟩
  | 83 => ⟨S_, .f32⟩
  | 84 => ⟨S1x4x256x512, .f32⟩
  | 85 => ⟨S256x1x64x4x512, .f32⟩
  | 86 => ⟨S256x1x64x4x256, .f32⟩
  | 87 => ⟨S256x1x64x4x256, .f32⟩
  | 88 => ⟨S256x1x64x4x512, .f32⟩
  | 89 => ⟨S256x1x4x256, .f32⟩
  | 90 => ⟨S_, .f32⟩
  | 91 => ⟨S256x1x64x4x512, .f32⟩
  | 92 => ⟨S_, .i32⟩
  | 93 => ⟨S256x1x64x4x512, .f32⟩
  | 94 => ⟨S256x1x64x4x256, .f32⟩
  | 95 => ⟨S256x1x64x4x256, .f32⟩
  | 96 => ⟨S256x1x64x4x512, .f32⟩
  | 97 => ⟨S256x1x4x256, .f32⟩
  | 98 => ⟨S_, .i32⟩
  | 99 => ⟨S1x4x256x512, .f32⟩
  | 100 => ⟨S256x1x64x4x512, .f32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S1x1x64x4x512, .f32⟩
  | 108 => ⟨S1x64x4x512, .f32⟩
  | 109 => ⟨S_, .i32⟩
  | 110 => ⟨S_, .i32⟩
  | 111 => ⟨S_, .i32⟩
  | 112 => ⟨S_, .i32⟩
  | 113 => ⟨S1x1x64x4x256, .f32⟩
  | 114 => ⟨S1x64x4x256, .f32⟩
  | 115 => ⟨S_, .i32⟩
  | 116 => ⟨S_, .i32⟩
  | 117 => ⟨S_, .i32⟩
  | 118 => ⟨S_, .i32⟩
  | 119 => ⟨S1x1x64x4x256, .f32⟩
  | 120 => ⟨S1x64x4x256, .f32⟩
  | 121 => ⟨S_, .i32⟩
  | 122 => ⟨S_, .i32⟩
  | 123 => ⟨S_, .i32⟩
  | 124 => ⟨S_, .i32⟩
  | 125 => ⟨S1x1x64x4x512, .f32⟩
  | 126 => ⟨S1x64x4x512, .f32⟩
  | 127 => ⟨S_, .i32⟩
  | _ => ⟨S16384x11776, .f32⟩

abbrev hbmTy0_1 (i : Nat) : BufTy := match i % 128 with
  | 0 => ⟨S_, .i32⟩
  | 1 => ⟨S_, .i32⟩
  | 2 => ⟨S1x1x4x256, .f32⟩
  | 3 => ⟨S1x4x256, .f32⟩
  | 4 => ⟨S1x4x512x64, .f32⟩
  | 5 => ⟨S1x64x4x512, .f32⟩
  | 6 => ⟨S1x64x4x512, .f32⟩
  | 7 => ⟨S1x4x256x1, .f32⟩
  | 8 => ⟨S1x4x256x512, .f32⟩
  | 9 => ⟨S1x4x256x512, .f32⟩
  | 10 => ⟨S1x4x256x512, .f32⟩
  | 11 => ⟨S1x4x256x512, .f32⟩
  | 12 => ⟨S1x1x64x4x512, .f32⟩
  | 13 => ⟨S_, .i32⟩
  | 14 => ⟨S_, .i32⟩
  | 15 => ⟨S_, .i32⟩
  | 16 => ⟨S_, .i32⟩
  | 17 => ⟨S256x1x64x4x512, .f32⟩
  | 18 => ⟨S_, .i32⟩
  | 19 => ⟨S_, .i32⟩
  | 20 => ⟨S1x256x64x4x512, .f32⟩
  | 21 => ⟨S1x16384x4x512, .f32⟩
  | 22 => ⟨S16384x2048, .f32⟩
  | _ => ⟨S16384x11776, .f32⟩

abbrev hbmTy (i : Nat) : BufTy := match i / 128 with
  | 0 => hbmTy0_0 i
  | 1 => hbmTy0_1 i
  | _ => ⟨S16384x11776, .f32⟩

abbrev bufTy : (tb : Table) → Fin (tcTables nBuf tb) → BufTy
  | .hbm, ⟨i, _⟩ => hbmTy i
  | _, _ => ⟨S16384x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_call0_cst : Ref sig .tc := ⟨.hbm, 42, rfl⟩
abbrev main_call1_call0_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c : Ref sig .tc := ⟨.hbm, 55, rfl⟩
abbrev main_v35 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_0 : Ref sig .tc := ⟨.hbm, 63, rfl⟩
abbrev main_call2_v5 : Ref sig .tc := ⟨.hbm, 64, rfl⟩
abbrev main_v36 : Ref sig .tc := ⟨.hbm, 65, rfl⟩
abbrev main_cst_1 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_2 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_3 : Ref sig .tc := ⟨.hbm, 90, rfl⟩
abbrev main_v56 : Ref sig .tc := ⟨.hbm, 91, rfl⟩
abbrev main_c_4 : Ref sig .tc := ⟨.hbm, 92, rfl⟩
abbrev main_v57_0 : Ref sig .tc := ⟨.hbm, 93, rfl⟩
abbrev main_v57_1 : Ref sig .tc := ⟨.hbm, 94, rfl⟩
abbrev main_v57_2 : Ref sig .tc := ⟨.hbm, 95, rfl⟩
abbrev main_v57_3 : Ref sig .tc := ⟨.hbm, 96, rfl⟩
abbrev main_v57_4 : Ref sig .tc := ⟨.hbm, 97, rfl⟩
abbrev main_v57_5 : Ref sig .tc := ⟨.hbm, 98, rfl⟩
abbrev main_v57_6 : Ref sig .tc := ⟨.hbm, 99, rfl⟩
abbrev main_v57_7 : Ref sig .tc := ⟨.hbm, 100, rfl⟩
abbrev main_while0c_c_12 : Ref sig .tc := ⟨.hbm, 101, rfl⟩
abbrev main_while0c_v61 : Ref sig .tc := ⟨.hbm, 102, rfl⟩
abbrev main_while0b_call4_c : Ref sig .tc := ⟨.hbm, 103, rfl⟩
abbrev main_while0b_call4_c_0 : Ref sig .tc := ⟨.hbm, 104, rfl⟩
abbrev main_while0b_call4_c_1 : Ref sig .tc := ⟨.hbm, 105, rfl⟩
abbrev main_while0b_call4_c_2 : Ref sig .tc := ⟨.hbm, 106, rfl⟩
abbrev main_while0b_call4_v0 : Ref sig .tc := ⟨.hbm, 107, rfl⟩
abbrev main_while0b_v61 : Ref sig .tc := ⟨.hbm, 108, rfl⟩
abbrev main_while0b_call5_c : Ref sig .tc := ⟨.hbm, 109, rfl⟩
abbrev main_while0b_call5_c_0 : Ref sig .tc := ⟨.hbm, 110, rfl⟩
abbrev main_while0b_call5_c_1 : Ref sig .tc := ⟨.hbm, 111, rfl⟩
abbrev main_while0b_call5_c_2 : Ref sig .tc := ⟨.hbm, 112, rfl⟩
abbrev main_while0b_call5_v0 : Ref sig .tc := ⟨.hbm, 113, rfl⟩
abbrev main_while0b_v62 : Ref sig .tc := ⟨.hbm, 114, rfl⟩
abbrev main_while0b_call6_c : Ref sig .tc := ⟨.hbm, 115, rfl⟩
abbrev main_while0b_call6_c_0 : Ref sig .tc := ⟨.hbm, 116, rfl⟩
abbrev main_while0b_call6_c_1 : Ref sig .tc := ⟨.hbm, 117, rfl⟩
abbrev main_while0b_call6_c_2 : Ref sig .tc := ⟨.hbm, 118, rfl⟩
abbrev main_while0b_call6_v0 : Ref sig .tc := ⟨.hbm, 119, rfl⟩
abbrev main_while0b_v63 : Ref sig .tc := ⟨.hbm, 120, rfl⟩
abbrev main_while0b_call7_c : Ref sig .tc := ⟨.hbm, 121, rfl⟩
abbrev main_while0b_call7_c_0 : Ref sig .tc := ⟨.hbm, 122, rfl⟩
abbrev main_while0b_call7_c_1 : Ref sig .tc := ⟨.hbm, 123, rfl⟩
abbrev main_while0b_call7_c_2 : Ref sig .tc := ⟨.hbm, 124, rfl⟩
abbrev main_while0b_call7_v0 : Ref sig .tc := ⟨.hbm, 125, rfl⟩
abbrev main_while0b_v64 : Ref sig .tc := ⟨.hbm, 126, rfl⟩
abbrev main_while0b_call8_c : Ref sig .tc := ⟨.hbm, 127, rfl⟩
abbrev main_while0b_call8_c_0 : Ref sig .tc := ⟨.hbm, 128, rfl⟩
abbrev main_while0b_call8_c_1 : Ref sig .tc := ⟨.hbm, 129, rfl⟩
abbrev main_while0b_call8_v0 : Ref sig .tc := ⟨.hbm, 130, rfl⟩
abbrev main_while0b_v65 : Ref sig .tc := ⟨.hbm, 131, rfl⟩
abbrev main_while0b_v66 : Ref sig .tc := ⟨.hbm, 132, rfl⟩
abbrev main_while0b_v67 : Ref sig .tc := ⟨.hbm, 133, rfl⟩
abbrev main_while0b_v68 : Ref sig .tc := ⟨.hbm, 134, rfl⟩
abbrev main_while0b_v69 : Ref sig .tc := ⟨.hbm, 135, rfl⟩
abbrev main_while0b_v70 : Ref sig .tc := ⟨.hbm, 136, rfl⟩
abbrev main_while0b_v71 : Ref sig .tc := ⟨.hbm, 137, rfl⟩
abbrev main_while0b_v72 : Ref sig .tc := ⟨.hbm, 138, rfl⟩
abbrev main_while0b_v73 : Ref sig .tc := ⟨.hbm, 139, rfl⟩
abbrev main_while0b_call9_v0 : Ref sig .tc := ⟨.hbm, 140, rfl⟩
abbrev main_while0b_call9_c : Ref sig .tc := ⟨.hbm, 141, rfl⟩
abbrev main_while0b_call9_c_0 : Ref sig .tc := ⟨.hbm, 142, rfl⟩
abbrev main_while0b_call9_c_1 : Ref sig .tc := ⟨.hbm, 143, rfl⟩
abbrev main_while0b_call9_c_2 : Ref sig .tc := ⟨.hbm, 144, rfl⟩
abbrev main_while0b_v74 : Ref sig .tc := ⟨.hbm, 145, rfl⟩
abbrev main_while0b_c_12 : Ref sig .tc := ⟨.hbm, 146, rfl⟩
abbrev main_while0b_v75 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩

abbrev nD : Nat := 1
abbrev τ : Topo := Topo.v7x

variable {F : FTy → Type} [FloatOps F]

abbrev main_while0_count : Scf.Loop 32 := ⟨0#32, 256#32, 1#32⟩
-- ==== Proof.GlaMath.lean ====
/-
  THE MATHEMATICS OF ONE CHUNK of the gated linear attention sweep, in scalars.
-/
module

public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaProof

/-- Column `k` of head `h` among the keys' columns. -/
def HC (h : Fin 4) (k : Fin 256) : Fin 1024 := ⟨h.val * 256 + k.val, by omega⟩
/-- Column `w` of head `h` among the values' columns. -/
def VC (h : Fin 4) (w : Fin 512) : Fin 2048 := ⟨h.val * 512 + w.val, by omega⟩

/-- The sum of the first `i + 1` of 64 numbers. -/
def CUM (g : Fin 64 → EReal) (i : Fin 64) : EReal := ∑ j : Fin 64, if j.val ≤ i.val then g j else 0

/-- A chunk's output in head `h`: the causal part from its own rows, and the part read off the carried state `S`. -/
def OUTT (qe ke qin : Fin 64 → Fin 1024 → EReal) (v : Fin 64 → Fin 2048 → EReal) (S : Fin 512 → Fin 256 → EReal) (h : Fin 4) (i : Fin 64) (w : Fin 512) : EReal :=
  (∑ j : Fin 64, (if j.val ≤ i.val then ∑ k : Fin 256, qe i (HC h k) * ke j (HC h k) else 0) * v j (VC h w)) + ∑ k : Fin 256, qin i (HC h k) * S w k

/-- The state a chunk leaves in head `h`: the one it finds, decayed, and its own keys and values. -/
def NEWT (kend : Fin 64 → Fin 1024 → EReal) (dec : Fin 1024 → EReal) (v : Fin 64 → Fin 2048 → EReal) (S : Fin 512 → Fin 256 → EReal) (h : Fin 4) (w : Fin 512) (k : Fin 256) : EReal :=
  S w k * dec (HC h k) + ∑ j : Fin 64, v j (VC h w) * kend j (HC h k)

/-- The log-decay of one entry: the log-sigmoid of the gate's pre-activation `p`, over 16. -/
def GKS (p : EReal) : EReal :=
  Ideal.div (0 - (max (0 - p) 0 + Ideal.log1p (Ideal.exp (0 - max (0 - p) (-(0 - p)))))) (Ideal.ofBits .f32 0x41800000#32)

/-- `log (1 + eᶻ)` is never `−∞`. -/
theorem log1p_exp_ne_bot (z : EReal) : Ideal.log1p (Ideal.exp z) ≠ ⊥ := by
  unfold Ideal.log1p
  induction z using EReal.rec with
  | bot => show Ideal.log (1 + (0 : EReal)) ≠ ⊥; rw [add_zero]; show (if (1 : ℝ) ≤ 0 then (⊥ : EReal) else _) ≠ ⊥; rw [if_neg (by norm_num)]; exact EReal.coe_ne_bot _
  | top => show Ideal.log (1 + (⊤ : EReal)) ≠ ⊥; rw [show (1 : EReal) + ⊤ = ⊤ from rfl]; show (⊤ : EReal) ≠ ⊥; simp
  | coe r =>
    show Ideal.log (((1 : ℝ) : EReal) + ((Real.exp r : ℝ) : EReal)) ≠ ⊥
    rw [← EReal.coe_add]
    show (if (1 + Real.exp r : ℝ) ≤ 0 then (⊥ : EReal) else _) ≠ ⊥
    rw [if_neg (by have := Real.exp_pos r; linarith)]
    exact EReal.coe_ne_bot _

/-- The divisor 16. -/
theorem sixteen : Ideal.ofBits .f32 0x41800000#32 = ((16 : ℝ) : EReal) := by
  simp [Ideal.ofBits, Ideal.ieee]
  rw [← EReal.coe_mul]
  exact congrArg _ (by norm_num)

/-- The log-decay is never `+∞`. -/
theorem GKS_ne_top (p : EReal) : GKS p ≠ ⊤ := by
  unfold GKS
  have h1 : max (0 - p) 0 + Ideal.log1p (Ideal.exp (0 - max (0 - p) (-(0 - p)))) ≠ ⊥ := by
    rw [EReal.add_ne_bot_iff]
    exact ⟨fun h => by have := le_max_right (0 - p) 0; rw [h] at this; exact absurd this (by simp), log1p_exp_ne_bot _⟩
  generalize max (0 - p) 0 + Ideal.log1p (Ideal.exp (0 - max (0 - p) (-(0 - p)))) = y at h1
  rw [sixteen, zero_sub]
  unfold Ideal.div
  rw [if_neg (by norm_num), ← EReal.coe_inv]
  induction y using EReal.rec with
  | bot => exact absurd rfl h1
  | top => rw [EReal.neg_top, EReal.bot_mul_coe_of_pos (by norm_num)]; simp
  | coe r => rw [← EReal.coe_neg, ← EReal.coe_mul]; exact EReal.coe_ne_top _

/-- A number with its rounding error added back: the kernel's split into a high and a low part, read over the reals. -/
theorem add_sub_self {x : EReal} (h : x ≠ ⊤) : x + (x - x) = x := by
  induction x using EReal.rec with
  | bot => rfl
  | top => exact absurd rfl h
  | coe r => rw [← EReal.coe_sub, ← EReal.coe_add]; simp

/-- The running sum as the product with the triangle of ones, of the high and the low part. -/
theorem cum_split (t x : Fin 64 → EReal) (i : Fin 64) (ht : ∀ j, t j = if j.val ≤ i.val then 1 else 0) (hx : ∀ j, x j ≠ ⊤) :
    (∑ j, t j * x j) + ∑ j, t j * (x j - x j) = CUM x i := by
  rw [← Finset.sum_add_distrib]
  refine Finset.sum_congr rfl fun j _ => ?_
  rw [ht j]
  by_cases h : j.val ≤ i.val
  · rw [if_pos h, if_pos h, one_mul, one_mul, add_sub_self (hx j)]
  · rw [if_neg h, if_neg h, zero_mul, zero_mul, add_zero]

end Cert.GlaProof

end
-- ==== Proof.GlaHeads.lean ====
/-
  THE KERNEL'S HEADS: each head's output and each head's new state, as the chunk's mathematics of what goes in.
-/
module

public import proofs.«01_k».proof.Proof.GlaMath
public import proofs.«01_k».proof.Proof.Gen.GlaIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaProof

open Cert.GlaIdeal Cert.GlaIdeal.Gen

/-- The mask keeps the rows up to the row itself. -/
theorem mask_at (i j : Fin 64) : k0_pay3 (ix2 i j) = if j.val ≤ i.val then 1#1 else 0#1 := by
  revert i j
  decide +kernel

/-- A product under the mask, as the kernel's selection leaves it. -/
theorem select_mask (i j : Fin 64) (x y : EReal) :
    Scalar.select (k0_pay3 (ix2 i j)) (x * y) 0 = (if j.val ≤ i.val then x else 0) * y := by
  rw [mask_at]
  by_cases h : j.val ≤ i.val <;> simp [h, Scalar.select]

/-- The first chunk's output in head 0. -/
theorem out_0_0 (qin : FVec Ideal S64x1024 .bf16) (v : FVec Ideal S64x2048 .bf16) (tri : FVec Ideal S64x64 .bf16) (a b q k : FVec Ideal S64x1024 .f32) (st : FVec Ideal S1x512x256 .f32) (i : Fin 64) (w : Fin 512) :
    k0_pay20 qin v (k0_pay18 k0_pay3 tri a b q k) st (ix2 i w)
      = OUTT (fun i c => k0_pay12 tri a b q (ix2 i c)) (fun i c => k0_pay13 tri a b k (ix2 i c)) (fun i c => qin (ix2 i c)) (fun i c => v (ix2 i c)) (fun w k => st (ix3 0 w k)) 0 i w := by
  pointwise [k0_pay20, k0_pay18, k0_pay19, OUTT, HC, VC]
  exact congrArg₂ (· + ·) (Finset.sum_congr rfl fun j _ => select_mask i j _ _) rfl

/-- The first chunk's output in head 1. -/
theorem out_0_1 (qe ke qin : FVec Ideal S64x1024 .bf16) (v : FVec Ideal S64x2048 .bf16) (st : FVec Ideal S1x512x256 .f32) (i : Fin 64) (w : Fin 512) :
    k0_pay23 k0_pay3 qe ke qin v st (ix2 i w)
      = OUTT (fun i c => qe (ix2 i c)) (fun i c => ke (ix2 i c)) (fun i c => qin (ix2 i c)) (fun i c => v (ix2 i c)) (fun w k => st (ix3 0 w k)) 1 i w := by
  pointwise [k0_pay23, k0_pay22, OUTT, HC, VC]
  exact congrArg₂ (· + ·) (Finset.sum_congr rfl fun j _ => select_mask i j _ _) rfl

/-- The first chunk's output in head 2. -/
theorem out_0_2 (qe ke qin : FVec Ideal S64x1024 .bf16) (v : FVec Ideal S64x2048 .bf16) (st : FVec Ideal S1x512x256 .f32) (i : Fin 64) (w : Fin 512) :
    k0_pay27 k0_pay3 qe ke qin v st (ix2 i w)
      = OUTT (fun i c => qe (ix2 i c)) (fun i c => ke (ix2 i c)) (fun i c => qin (ix2 i c)) (fun i c => v (ix2 i c)) (fun w k => st (ix3 0 w k)) 2 i w := by
  pointwise [k0_pay27, k0_pay26, OUTT, HC, VC]
  exact congrArg₂ (· + ·) (Finset.sum_congr rfl fun j _ => select_mask i j _ _) rfl

/-- The first chunk's output in head 3. -/
theorem out_0_3 (qe ke qin : FVec Ideal S64x1024 .bf16) (v : FVec Ideal S64x2048 .bf16) (st : FVec Ideal S1x512x256 .f32) (i : Fin 64) (w : Fin 512) :
    k0_pay30 k0_pay3 qe ke qin v st (ix2 i w)
      = OUTT (fun i c => qe (ix2 i c)) (fun i c => ke (ix2 i c)) (fun i c => qin (ix2 i c)) (fun i c => v (ix2 i c)) (fun w k => st (ix3 0 w k)) 3 i w := by
  pointwise [k0_pay30, k0_pay29, OUTT, HC, VC]
  exact congrArg₂ (· + ·) (Finset.sum_congr rfl fun j _ => select_mask i j _ _) rfl

/-- The second chunk's output in head 0. -/
theorem out_1_0 (tri : FVec Ideal S64x64 .bf16) (lo : FVec Ideal S64x1024 .bf16) (s q k : FVec Ideal S64x1024 .f32) (v : FVec Ideal S64x2048 .f32) (st : FVec Ideal S1x512x256 .f32) (i : Fin 64) (w : Fin 512) :
    k0_pay49 k0_pay3 tri lo s q k v st (ix2 i w)
      = OUTT (fun i c => k0_pay42 tri lo s q (ix2 i c)) (fun i c => k0_pay43 tri lo s k (ix2 i c)) (fun i c => k0_pay44 tri lo s q (ix2 i c)) (fun i c => k0_pay47 (F := Ideal) v (ix2 i c)) (fun w k => st (ix3 0 w k)) 0 i w := by
  pointwise [k0_pay49, k0_pay48, OUTT, HC, VC]
  exact congrArg₂ (· + ·) (Finset.sum_congr rfl fun j _ => select_mask i j _ _) rfl

/-- The second chunk's output in head 1. -/
theorem out_1_1 (qe ke qin : FVec Ideal S64x1024 .bf16) (v : FVec Ideal S64x2048 .bf16) (st : FVec Ideal S1x512x256 .f32) (i : Fin 64) (w : Fin 512) :
    k0_pay53 k0_pay3 qe ke qin v st (ix2 i w)
      = OUTT (fun i c => qe (ix2 i c)) (fun i c => ke (ix2 i c)) (fun i c => qin (ix2 i c)) (fun i c => v (ix2 i c)) (fun w k => st (ix3 0 w k)) 1 i w := by
  pointwise [k0_pay53, k0_pay52, OUTT, HC, VC]
  exact congrArg₂ (· + ·) (Finset.sum_congr rfl fun j _ => select_mask i j _ _) rfl

/-- The second chunk's output in head 2. -/
theorem out_1_2 (qe ke qin : FVec Ideal S64x1024 .bf16) (v : FVec Ideal S64x2048 .bf16) (st : FVec Ideal S1x512x256 .f32) (i : Fin 64) (w : Fin 512) :
    k0_pay57 qin v (k0_pay55 k0_pay3 qe ke) st (ix2 i w)
      = OUTT (fun i c => qe (ix2 i c)) (fun i c => ke (ix2 i c)) (fun i c => qin (ix2 i c)) (fun i c => v (ix2 i c)) (fun w k => st (ix3 0 w k)) 2 i w := by
  pointwise [k0_pay57, k0_pay55, k0_pay56, OUTT, HC, VC]
  exact congrArg₂ (· + ·) (Finset.sum_congr rfl fun j _ => select_mask i j _ _) rfl

/-- The second chunk's output in head 3. -/
theorem out_1_3 (qe ke qin : FVec Ideal S64x1024 .bf16) (v : FVec Ideal S64x2048 .bf16) (st : FVec Ideal S1x512x256 .f32) (i : Fin 64) (w : Fin 512) :
    k0_pay60 k0_pay3 qe ke qin v st (ix2 i w)
      = OUTT (fun i c => qe (ix2 i c)) (fun i c => ke (ix2 i c)) (fun i c => qin (ix2 i c)) (fun i c => v (ix2 i c)) (fun w k => st (ix3 0 w k)) 3 i w := by
  pointwise [k0_pay60, k0_pay59, OUTT, HC, VC]
  exact congrArg₂ (· + ·) (Finset.sum_congr rfl fun j _ => select_mask i j _ _) rfl

/-- The state the first chunk leaves in head 0. -/
theorem new_0_0 (kend : FVec Ideal S64x1024 .bf16) (dec : FVec Ideal S1x1024 .f32) (v : FVec Ideal S64x2048 .bf16) (st : FVec Ideal S1x512x256 .f32) (w : Fin 512) (k : Fin 256) :
    k0_pay21 kend dec v st (ix3 0 w k)
      = NEWT (fun i c => kend (ix2 i c)) (fun c => dec (ix2 0 c)) (fun i c => v (ix2 i c)) (fun w k => st (ix3 0 w k)) 0 w k := by
  pointwise [k0_pay21, k0_pay19, NEWT, HC, VC]

/-- The state the first chunk leaves in head 1. -/
theorem new_0_1 (kend : FVec Ideal S64x1024 .bf16) (dec : FVec Ideal S1x1024 .f32) (v : FVec Ideal S64x2048 .bf16) (st : FVec Ideal S1x512x256 .f32) (w : Fin 512) (k : Fin 256) :
    k0_pay25 (k0_pay24 kend dec v st) (ix3 0 w k)
      = NEWT (fun i c => kend (ix2 i c)) (fun c => dec (ix2 0 c)) (fun i c => v (ix2 i c)) (fun w k => st (ix3 0 w k)) 1 w k := by
  pointwise [k0_pay25, k0_pay24, k0_pay22, NEWT, HC, VC]

/-- The state the first chunk leaves in head 2. -/
theorem new_0_2 (kend : FVec Ideal S64x1024 .bf16) (dec : FVec Ideal S1x1024 .f32) (v : FVec Ideal S64x2048 .bf16) (st : FVec Ideal S1x512x256 .f32) (w : Fin 512) (k : Fin 256) :
    k0_pay28 kend dec v st (ix3 0 w k)
      = NEWT (fun i c => kend (ix2 i c)) (fun c => dec (ix2 0 c)) (fun i c => v (ix2 i c)) (fun w k => st (ix3 0 w k)) 2 w k := by
  pointwise [k0_pay28, k0_pay26, NEWT, HC, VC]

/-- The state the first chunk leaves in head 3. -/
theorem new_0_3 (kend : FVec Ideal S64x1024 .bf16) (dec : FVec Ideal S1x1024 .f32) (v : FVec Ideal S64x2048 .bf16) (st : FVec Ideal S1x512x256 .f32) (w : Fin 512) (k : Fin 256) :
    k0_pay32 kend v (k0_pay29 st) (k0_pay31 dec) (ix3 0 w k)
      = NEWT (fun i c => kend (ix2 i c)) (fun c => dec (ix2 0 c)) (fun i c => v (ix2 i c)) (fun w k => st (ix3 0 w k)) 3 w k := by
  pointwise [k0_pay32, k0_pay31, k0_pay29, NEWT, HC, VC]

/-- The state the second chunk leaves in head 0. -/
theorem new_1_0 (tri : FVec Ideal S64x64 .bf16) (lo : FVec Ideal S64x1024 .bf16) (s : FVec Ideal S64x1024 .f32) (kend : FVec Ideal S64x1024 .bf16) (v : FVec Ideal S64x2048 .bf16) (st : FVec Ideal S1x512x256 .f32) (w : Fin 512) (k : Fin 256) :
    k0_pay51 kend v (k0_pay48 st) (k0_pay50 tri lo s) (ix3 0 w k)
      = NEWT (fun i c => kend (ix2 i c)) (fun c => k0_pay46 tri lo s (ix2 0 c)) (fun i c => v (ix2 i c)) (fun w k => st (ix3 0 w k)) 0 w k := by
  pointwise [k0_pay51, k0_pay50, k0_pay48, NEWT, HC, VC]

/-- The state the second chunk leaves in head 1. -/
theorem new_1_1 (kend : FVec Ideal S64x1024 .bf16) (dec : FVec Ideal S1x1024 .f32) (v : FVec Ideal S64x2048 .bf16) (st : FVec Ideal S1x512x256 .f32) (w : Fin 512) (k : Fin 256) :
    k0_pay54 kend dec v st (ix3 0 w k)
      = NEWT (fun i c => kend (ix2 i c)) (fun c => dec (ix2 0 c)) (fun i c => v (ix2 i c)) (fun w k => st (ix3 0 w k)) 1 w k := by
  pointwise [k0_pay54, k0_pay52, NEWT, HC, VC]

/-- The state the second chunk leaves in head 2. -/
theorem new_1_2 (kend : FVec Ideal S64x1024 .bf16) (dec : FVec Ideal S1x1024 .f32) (v : FVec Ideal S64x2048 .bf16) (st : FVec Ideal S1x512x256 .f32) (w : Fin 512) (k : Fin 256) :
    k0_pay58 kend dec v st (ix3 0 w k)
      = NEWT (fun i c => kend (ix2 i c)) (fun c => dec (ix2 0 c)) (fun i c => v (ix2 i c)) (fun w k => st (ix3 0 w k)) 2 w k := by
  pointwise [k0_pay58, k0_pay56, NEWT, HC, VC]

/-- The state the second chunk leaves in head 3. -/
theorem new_1_3 (kend : FVec Ideal S64x1024 .bf16) (dec : FVec Ideal S1x1024 .f32) (v : FVec Ideal S64x2048 .bf16) (st : FVec Ideal S1x512x256 .f32) (w : Fin 512) (k : Fin 256) :
    k0_pay61 kend dec v st (ix3 0 w k)
      = NEWT (fun i c => kend (ix2 i c)) (fun c => dec (ix2 0 c)) (fun i c => v (ix2 i c)) (fun w k => st (ix3 0 w k)) 3 w k := by
  pointwise [k0_pay61, k0_pay59, NEWT, HC, VC]

/-- The heads' outputs side by side, in head 0. -/
theorem cat_0_0 (a b c d : FVec Ideal S64x512 .f32) (i : Fin 64) (w : Fin 512) : k0_pay33 a b c d (ix2 i (VC 0 w)) = a (ix2 i w) := by
  pointwise [k0_pay33, VC]

/-- The heads' outputs side by side, in head 1. -/
theorem cat_0_1 (a b c d : FVec Ideal S64x512 .f32) (i : Fin 64) (w : Fin 512) : k0_pay33 a b c d (ix2 i (VC 1 w)) = b (ix2 i w) := by
  pointwise [k0_pay33, VC]

/-- The heads' outputs side by side, in head 2. -/
theorem cat_0_2 (a b c d : FVec Ideal S64x512 .f32) (i : Fin 64) (w : Fin 512) : k0_pay33 a b c d (ix2 i (VC 2 w)) = c (ix2 i w) := by
  pointwise [k0_pay33, VC]
  rw [dif_neg (by omega), dif_neg (by omega), dif_pos (by omega)]
  exact congrArg c (congrArg (ix2 i) (Fin.ext (by dsimp only; omega)))

/-- The heads' outputs side by side, in head 3. -/
theorem cat_0_3 (a b c d : FVec Ideal S64x512 .f32) (i : Fin 64) (w : Fin 512) : k0_pay33 a b c d (ix2 i (VC 3 w)) = d (ix2 i w) := by
  pointwise [k0_pay33, VC]
  rw [dif_neg (by omega), dif_neg (by omega), dif_neg (by omega)]
  exact congrArg d (congrArg (ix2 i) (Fin.ext (by dsimp only; omega)))

/-- The heads' outputs side by side, in head 0. -/
theorem cat_1_0 (a b c d : FVec Ideal S64x512 .f32) (i : Fin 64) (w : Fin 512) : k0_pay1 a b c d (ix2 i (VC 0 w)) = a (ix2 i w) := by
  pointwise [k0_pay1, VC]

/-- The heads' outputs side by side, in head 1. -/
theorem cat_1_1 (a b c d : FVec Ideal S64x512 .f32) (i : Fin 64) (w : Fin 512) : k0_pay1 a b c d (ix2 i (VC 1 w)) = b (ix2 i w) := by
  pointwise [k0_pay1, VC]

/-- The heads' outputs side by side, in head 2. -/
theorem cat_1_2 (a b c d : FVec Ideal S64x512 .f32) (i : Fin 64) (w : Fin 512) : k0_pay1 a b c d (ix2 i (VC 2 w)) = c (ix2 i w) := by
  pointwise [k0_pay1, VC]
  rw [dif_neg (by omega), dif_neg (by omega), dif_pos (by omega)]
  exact congrArg c (congrArg (ix2 i) (Fin.ext (by dsimp only; omega)))

/-- The heads' outputs side by side, in head 3. -/
theorem cat_1_3 (a b c d : FVec Ideal S64x512 .f32) (i : Fin 64) (w : Fin 512) : k0_pay1 a b c d (ix2 i (VC 3 w)) = d (ix2 i w) := by
  pointwise [k0_pay1, VC]
  rw [dif_neg (by omega), dif_neg (by omega), dif_neg (by omega)]
  exact congrArg d (congrArg (ix2 i) (Fin.ext (by dsimp only; omega)))

end Cert.GlaProof

end
-- ==== Proof.GlaGate.lean ====
/-
  THE KERNEL'S GATE: the running log-decays and what the chunk multiplies by them.
-/
module

public import proofs.«01_k».proof.Proof.GlaHeads
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaProof

open Cert.GlaIdeal Cert.GlaIdeal.Gen

/-- The scaled queries against the middle row. -/
theorem qe_0 (tri : FVec Ideal S64x64 .bf16) (a b x : FVec Ideal S64x1024 .f32) (i : Fin 64) (c : Fin 1024) : k0_pay12 tri a b x (ix2 i c) = x (ix2 i c) * Ideal.ofBits .f32 0x3D800000#32 * Ideal.exp (k0_pay8 tri a b (ix2 i c) - k0_pay8 tri a b (ix2 31 c)) := by
  pointwise [k0_pay12, k0_pay9, k0_pay11]

/-- The keys against the middle row. -/
theorem ke_0 (tri : FVec Ideal S64x64 .bf16) (a b x : FVec Ideal S64x1024 .f32) (i : Fin 64) (c : Fin 1024) : k0_pay13 tri a b x (ix2 i c) = x (ix2 i c) * Ideal.exp (k0_pay8 tri a b (ix2 31 c) - k0_pay8 tri a b (ix2 i c)) := by
  pointwise [k0_pay13, k0_pay9]

/-- The scaled queries decayed from the chunk's start. -/
theorem qin_0 (tri : FVec Ideal S64x64 .bf16) (a b x : FVec Ideal S64x1024 .f32) (i : Fin 64) (c : Fin 1024) : k0_pay14 tri a b x (ix2 i c) = x (ix2 i c) * Ideal.ofBits .f32 0x3D800000#32 * Ideal.exp (k0_pay8 tri a b (ix2 i c)) := by
  pointwise [k0_pay14, k0_pay11]

/-- The keys decayed to the chunk's end. -/
theorem kend_0 (tri : FVec Ideal S64x64 .bf16) (a b x : FVec Ideal S64x1024 .f32) (i : Fin 64) (c : Fin 1024) : k0_pay15 tri a b x (ix2 i c) = x (ix2 i c) * Ideal.exp (k0_pay8 tri a b (ix2 63 c) - k0_pay8 tri a b (ix2 i c)) := by
  pointwise [k0_pay15, k0_pay10]

/-- The chunk's whole decay. -/
theorem dec_0 (tri : FVec Ideal S64x64 .bf16) (a b x : FVec Ideal S64x1024 .f32) (i : Fin 64) (c : Fin 1024) : k0_pay16 tri a b (ix2 0 c) = Ideal.exp (k0_pay8 tri a b (ix2 63 c)) := by
  pointwise [k0_pay16, k0_pay10]

/-- The scaled queries against the middle row. -/
theorem qe_1 (tri : FVec Ideal S64x64 .bf16) (lo : FVec Ideal S64x1024 .bf16) (s x : FVec Ideal S64x1024 .f32) (i : Fin 64) (c : Fin 1024) : k0_pay42 tri lo s x (ix2 i c) = x (ix2 i c) * Ideal.ofBits .f32 0x3D800000#32 * Ideal.exp (k0_pay38 tri lo s (ix2 i c) - k0_pay38 tri lo s (ix2 31 c)) := by
  pointwise [k0_pay42, k0_pay39, k0_pay41]

/-- The keys against the middle row. -/
theorem ke_1 (tri : FVec Ideal S64x64 .bf16) (lo : FVec Ideal S64x1024 .bf16) (s x : FVec Ideal S64x1024 .f32) (i : Fin 64) (c : Fin 1024) : k0_pay43 tri lo s x (ix2 i c) = x (ix2 i c) * Ideal.exp (k0_pay38 tri lo s (ix2 31 c) - k0_pay38 tri lo s (ix2 i c)) := by
  pointwise [k0_pay43, k0_pay39]

/-- The scaled queries decayed from the chunk's start. -/
theorem qin_1 (tri : FVec Ideal S64x64 .bf16) (lo : FVec Ideal S64x1024 .bf16) (s x : FVec Ideal S64x1024 .f32) (i : Fin 64) (c : Fin 1024) : k0_pay44 tri lo s x (ix2 i c) = x (ix2 i c) * Ideal.ofBits .f32 0x3D800000#32 * Ideal.exp (k0_pay38 tri lo s (ix2 i c)) := by
  pointwise [k0_pay44, k0_pay41]

/-- The keys decayed to the chunk's end. -/
theorem kend_1 (tri : FVec Ideal S64x64 .bf16) (lo : FVec Ideal S64x1024 .bf16) (s x : FVec Ideal S64x1024 .f32) (i : Fin 64) (c : Fin 1024) : k0_pay45 tri lo s x (ix2 i c) = x (ix2 i c) * Ideal.exp (k0_pay38 tri lo s (ix2 63 c) - k0_pay38 tri lo s (ix2 i c)) := by
  pointwise [k0_pay45, k0_pay40]

/-- The chunk's whole decay. -/
theorem dec_1 (tri : FVec Ideal S64x64 .bf16) (lo : FVec Ideal S64x1024 .bf16) (s x : FVec Ideal S64x1024 .f32) (i : Fin 64) (c : Fin 1024) : k0_pay46 tri lo s (ix2 0 c) = Ideal.exp (k0_pay38 tri lo s (ix2 63 c)) := by
  pointwise [k0_pay46, k0_pay40]

/-- The values pass as they are. -/
theorem v_0 (x : FVec Ideal S64x2048 .f32) (i : Fin 64) (c : Fin 2048) : k0_pay17 (F := Ideal) x (ix2 i c) = x (ix2 i c) := by
  pointwise [k0_pay17]

/-- The values pass as they are. -/
theorem v_1 (x : FVec Ideal S64x2048 .f32) (i : Fin 64) (c : Fin 2048) : k0_pay47 (F := Ideal) x (ix2 i c) = x (ix2 i c) := by
  pointwise [k0_pay47]

/-- The triangle of ones. -/
theorem tri_at (i j : Fin 64) : k0_pay4 (F := Ideal) (ix2 i j) = if j.val ≤ i.val then 1 else 0 := by
  pointwise [k0_pay4]
  rw [mask_at]
  by_cases h : j.val ≤ i.val <;> simp [h, Scalar.select]

/-- The gate's pre-activation, as the kernel sums it over the 128 columns it loads. -/
def PREK (low : FVec Ideal S64x128 .f32) (W : FVec Ideal S128x1024 .bf16) (b : FVec Ideal S1x1024 .f32) (i : Fin 64) (c : Fin 1024) : EReal :=
  (∑ l : Fin 128, low (ix2 i l) * W (ix2 l c)) + b (ix2 0 c)

/-- The kernel's absolute value. -/
theorem abs_max (x : Ideal .f32) : FloatOps.absf x = max (x : EReal) (-x) := rfl

theorem p6_at (low : FVec Ideal S64x128 .f32) (W : FVec Ideal S128x1024 .bf16) (b : FVec Ideal S1x1024 .f32)(i : Fin 64) (c : Fin 1024) :
    k0_pay6 (F := Ideal) low W b (ix2 i c) = max (0 - PREK low W b i c) 0 := by
  pointwise [k0_pay6, k0_pay5, PREK]

theorem p7_at (low : FVec Ideal S64x128 .f32) (W : FVec Ideal S128x1024 .bf16) (b : FVec Ideal S1x1024 .f32)(i : Fin 64) (c : Fin 1024) :
    k0_pay7 (F := Ideal) low W b (ix2 i c) = Ideal.log1p (Ideal.exp (0 - max (0 - PREK low W b i c) (-(0 - PREK low W b i c)))) := by
  pointwise [k0_pay7, k0_pay5, PREK]
  rfl

theorem p34_at (low : FVec Ideal S64x128 .f32) (W : FVec Ideal S128x1024 .bf16) (b : FVec Ideal S1x1024 .f32)(i : Fin 64) (c : Fin 1024) :
    k0_pay34 (F := Ideal) low W b (ix2 i c) = GKS (PREK low W b i c) := by
  pointwise [k0_pay34, PREK, GKS]
  rfl

theorem split_0 (tri : FVec Ideal S64x64 .bf16) (a b : FVec Ideal S64x1024 .f32) (i : Fin 64) (c : Fin 1024) :
    k0_pay8 tri a b (ix2 i c) = (∑ x : Fin 64, tri (ix2 i x) * Ideal.div (0 - (a (ix2 x c) + b (ix2 x c))) (Ideal.ofBits FTy.f32 0x41800000#32)) +
      ∑ x : Fin 64, tri (ix2 i x) * (Ideal.div (0 - (a (ix2 x c) + b (ix2 x c))) (Ideal.ofBits FTy.f32 0x41800000#32) - Ideal.div (0 - (a (ix2 x c) + b (ix2 x c))) (Ideal.ofBits FTy.f32 0x41800000#32)) := by
  pointwise [k0_pay8]

theorem split_1 (tri : FVec Ideal S64x64 .bf16) (low : FVec Ideal S64x128 .f32) (W : FVec Ideal S128x1024 .bf16) (b : FVec Ideal S1x1024 .f32)(i : Fin 64) (c : Fin 1024) :
    k0_pay38 tri (k0_pay36 low W b) (k0_pay37 tri low W b) (ix2 i c) = (∑ x : Fin 64, tri (ix2 i x) * k0_pay34 (F := Ideal) low W b (ix2 x c)) +
      ∑ x : Fin 64, tri (ix2 i x) * (k0_pay34 (F := Ideal) low W b (ix2 x c) - k0_pay34 (F := Ideal) low W b (ix2 x c)) := by
  pointwise [k0_pay38, k0_pay36, k0_pay37, k0_pay35]

/-- The first chunk's running log-decay. -/
theorem G_0 (low : FVec Ideal S64x128 .f32) (W : FVec Ideal S128x1024 .bf16) (b : FVec Ideal S1x1024 .f32) (i : Fin 64) (c : Fin 1024) :
    k0_pay8 (F := Ideal) k0_pay4 (k0_pay6 low W b) (k0_pay7 low W b) (ix2 i c) = CUM (fun j => GKS (PREK low W b j c)) i := by
  rw [split_0]
  simp only [p6_at, p7_at]
  exact cum_split (fun j => k0_pay4 (F := Ideal) (ix2 i j)) (fun j => GKS (PREK low W b j c)) i (fun j => tri_at i j) (fun j => GKS_ne_top _)

/-- The second chunk's running log-decay. -/
theorem G_1 (low : FVec Ideal S64x128 .f32) (W : FVec Ideal S128x1024 .bf16) (b : FVec Ideal S1x1024 .f32) (i : Fin 64) (c : Fin 1024) :
    k0_pay38 (F := Ideal) k0_pay4 (k0_pay36 low W b) (k0_pay37 k0_pay4 low W b) (ix2 i c) = CUM (fun j => GKS (PREK low W b j c)) i := by
  rw [split_1]
  simp only [p34_at]
  exact cum_split (fun j => k0_pay4 (F := Ideal) (ix2 i j)) (fun j => GKS (PREK low W b j c)) i (fun j => tri_at i j) (fun j => GKS_ne_top _)

end Cert.GlaProof

end
-- ==== Proof.GlaBlocks.lean ====
/-
  THE KERNEL'S BLOCKS: what each load of a grid point reads of the arguments.
-/
module

public import proofs.«01_k».proof.Proof.GlaGate
public import Idealize.ShloMosaic.Lib.Routing.OpsSet
public import Idealize.ShloMosaic.Lib.Routing.OpsPair
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaProof

open Cert.GlaIdeal Cert.GlaIdeal.Gen

open Idealize.ShloMosaic.Routing

/-- Where update `(a, e')` of the padded gate weight lands: 64 rows down. -/
theorem lands_pad (idx : IVec S1 32) (hidx : (idx (ix1 0)).toInt = 64) (a : Fin 16) (e' : Fin 1024) (r : Fin 128) (e : Fin 1024) :
    scatter_S128x1024_S1_S16x1024_01_n_0_0.resultIdx? (ix2 a e') idx = some (ix2 r e) ↔ 64 + a.val = r.val ∧ e' = e := by
  have hw0 : scatter_S128x1024_S1_S16x1024_01_n_0_0.window (ix2 a e') 0 = a.val := rfl
  have hw1 : scatter_S128x1024_S1_S16x1024_01_n_0_0.window (ix2 a e') 1 = e'.val := rfl
  have hs1 : scatter_S128x1024_S1_S16x1024_01_n_0_0.start (ix2 a e') idx 1 = 0 := rfl
  have hs0 : scatter_S128x1024_S1_S16x1024_01_n_0_0.start (ix2 a e') idx 0 = 64 := by
    refine Eq.trans ?_ hidx
    unfold ScatterDims.start
    rw [dif_pos (by decide)]
    refine congrArg (fun z => (idx z).toInt) (funext fun b => ?_)
    match b with
    | ⟨0, _⟩ => exact Subsingleton.elim (α := Fin 1) _ _
  refine (resultIdx?_ix2 (R := 128) (C := 1024) scatter_S128x1024_S1_S16x1024_01_n_0_0 (ix2 a e') idx r e).trans ?_
  rw [Fin.ext_iff]
  refine Iff.trans (and_congr (Eq.congr (congrArg₂ (· + ·) hs0 (congrArg Nat.cast hw0)) rfl) (Eq.congr (congrArg₂ (· + ·) hs1 (congrArg Nat.cast hw1)) rfl)) ?_
  omega

/-- The gate weight padded to 128 rows: its 16 rows from row 64, zero elsewhere. -/
theorem pad_at (x0 : FVec Ideal S128x1024 .f32) (idx : IVec S1 32) (hidx : (idx (ix1 0)).toInt = 64) (U : FVec Ideal S16x1024 .f32) (r : Fin 128) (e : Fin 1024) :
    Host.scatter scatter_S128x1024_S1_S16x1024_01_n_0_0 (fun _ b => b) x0 idx U (ix2 r e)
      = if h : 64 ≤ r.val ∧ r.val < 80 then U (ix2 ⟨r.val - 64, by omega⟩ e) else x0 (ix2 r e) := by
  have lands : ∀ j : S16x1024.Idx, scatter_S128x1024_S1_S16x1024_01_n_0_0.resultIdx? j idx = some (ix2 r e) → 64 + (j 0).val = r.val ∧ j 1 = e := fun j hj =>
    (lands_pad idx hidx (j 0) (j 1) r e).1 ((congrArg (fun t => scatter_S128x1024_S1_S16x1024_01_n_0_0.resultIdx? t idx) (eq_ix2 j).symm).trans hj)
  by_cases h : 64 ≤ r.val ∧ r.val < 80
  · rw [dif_pos h]
    refine scatter_set_hit _ x0 idx U _ _ (fun j hj => ?_) (ix2 (⟨r.val - 64, by omega⟩ : Fin 16) e) ((lands_pad idx hidx _ _ r e).2 ⟨by dsimp only; omega, rfl⟩)
    obtain ⟨h0, h1⟩ := lands j hj
    refine (congrArg U (eq_ix2 j)).trans (congrArg U (congrArg₂ ix2 (Fin.ext ?_) h1))
    show (j 0).val = r.val - 64
    omega
  · rw [dif_neg h]
    refine scatter_set_miss _ x0 idx U _ fun j hj => h ?_
    have h0 := (lands j hj).1
    have h2 : (j 0).val < 16 := (j 0).isLt
    omega

variable (m : (ℓ : Loc nD τ sig) → Buf (Elt Ideal) ℓ)

/-- Where each window's block sits at a grid point. -/
theorem idx : ∀ t : Fin cfg0.N, win0_0.index t = ![t.val, 9] ∧ win0_1.index t = ![t.val, 10] ∧ win0_2.index t = ![t.val, 2] ∧ win0_3.index t = ![t.val, 22]
    ∧ win0_4.index t = ![0, 0] ∧ win0_5.index t = ![0, 0] ∧ win0_6.index t = ![t.val, 0] ∧ t.val < 128 :=
  (by decide +kernel : ∀ t : Fin grid0.N, _)

/-- The projections, as the kernel finds them. -/
abbrev PJ (c : Dev nD) : FVec Ideal S16384x11776 .f32 := m ((c : Thread nD τ).loc main_arg0)
/-- The gate's weight, as the kernel finds it. -/
abbrev GW (c : Dev nD) : FVec Ideal S16x1024 .f32 := m ((c : Thread nD τ).loc main_arg1)
/-- The gate's bias, as the kernel finds it. -/
abbrev GB (c : Dev nD) : FVec Ideal S1024 .f32 := m ((c : Thread nD τ).loc main_arg2)

theorem q_blk (c : Dev nD) (t : Fin cfg0.N) (i : Fin 128) (l : Fin 1024) :
    X0_0 m c t (ix2 i l) = PJ m c (ix2 ⟨t.val * 128 + i.val, by have := (idx t).2.2.2.2.2.2.2; omega⟩ ⟨9216 + l.val, by omega⟩) := by
  unfold X0_0 Pipeline.Window.fill
  rw [dif_pos (moved0_0 t _)]
  blk_point [iblk, V, idx t]

theorem q_at0 (c : Dev nD) (t : Fin cfg0.N) (i : Fin 64) (l : Fin 1024) :
    View.ld (X0_0 m c t) (Rect.unit ![0, 0] ![64, 1024] inb_S128x1024_S64x1024_0_0) (ix2 i l) = PJ m c (ix2 ⟨t.val * 128 + 0 + i.val, by have := (idx t).2.2.2.2.2.2.2; omega⟩ ⟨9216 + l.val, by omega⟩) :=
  (show _ = X0_0 m c t (ix2 ⟨0 + i.val, by omega⟩ l) by blk_point).trans ((q_blk m c t _ l).trans (congrArg _ (congrArg₂ ix2 (Fin.ext (by dsimp only; omega)) rfl)))

theorem q_at1 (c : Dev nD) (t : Fin cfg0.N) (i : Fin 64) (l : Fin 1024) :
    View.ld (X0_0 m c t) (Rect.unit ![64, 0] ![64, 1024] inb_S128x1024_S64x1024_64_0) (ix2 i l) = PJ m c (ix2 ⟨t.val * 128 + 64 + i.val, by have := (idx t).2.2.2.2.2.2.2; omega⟩ ⟨9216 + l.val, by omega⟩) :=
  (show _ = X0_0 m c t (ix2 ⟨64 + i.val, by omega⟩ l) by blk_point).trans ((q_blk m c t _ l).trans (congrArg _ (congrArg₂ ix2 (Fin.ext (by dsimp only; omega)) rfl)))

theorem k_blk (c : Dev nD) (t : Fin cfg0.N) (i : Fin 128) (l : Fin 1024) :
    X0_1 m c t (ix2 i l) = PJ m c (ix2 ⟨t.val * 128 + i.val, by have := (idx t).2.2.2.2.2.2.2; omega⟩ ⟨10240 + l.val, by omega⟩) := by
  unfold X0_1 Pipeline.Window.fill
  rw [dif_pos (moved0_1 t _)]
  blk_point [iblk, V, idx t]

theorem k_at0 (c : Dev nD) (t : Fin cfg0.N) (i : Fin 64) (l : Fin 1024) :
    View.ld (X0_1 m c t) (Rect.unit ![0, 0] ![64, 1024] inb_S128x1024_S64x1024_0_0) (ix2 i l) = PJ m c (ix2 ⟨t.val * 128 + 0 + i.val, by have := (idx t).2.2.2.2.2.2.2; omega⟩ ⟨10240 + l.val, by omega⟩) :=
  (show _ = X0_1 m c t (ix2 ⟨0 + i.val, by omega⟩ l) by blk_point).trans ((k_blk m c t _ l).trans (congrArg _ (congrArg₂ ix2 (Fin.ext (by dsimp only; omega)) rfl)))

theorem k_at1 (c : Dev nD) (t : Fin cfg0.N) (i : Fin 64) (l : Fin 1024) :
    View.ld (X0_1 m c t) (Rect.unit ![64, 0] ![64, 1024] inb_S128x1024_S64x1024_64_0) (ix2 i l) = PJ m c (ix2 ⟨t.val * 128 + 64 + i.val, by have := (idx t).2.2.2.2.2.2.2; omega⟩ ⟨10240 + l.val, by omega⟩) :=
  (show _ = X0_1 m c t (ix2 ⟨64 + i.val, by omega⟩ l) by blk_point).trans ((k_blk m c t _ l).trans (congrArg _ (congrArg₂ ix2 (Fin.ext (by dsimp only; omega)) rfl)))

theorem v_blk (c : Dev nD) (t : Fin cfg0.N) (i : Fin 128) (l : Fin 2048) :
    X0_2 m c t (ix2 i l) = PJ m c (ix2 ⟨t.val * 128 + i.val, by have := (idx t).2.2.2.2.2.2.2; omega⟩ ⟨4096 + l.val, by omega⟩) := by
  unfold X0_2 Pipeline.Window.fill
  rw [dif_pos (moved0_2 t _)]
  blk_point [iblk, V, idx t]

theorem v_at0 (c : Dev nD) (t : Fin cfg0.N) (i : Fin 64) (l : Fin 2048) :
    View.ld (X0_2 m c t) (Rect.unit ![0, 0] ![64, 2048] inb_S128x2048_S64x2048_0_0) (ix2 i l) = PJ m c (ix2 ⟨t.val * 128 + 0 + i.val, by have := (idx t).2.2.2.2.2.2.2; omega⟩ ⟨4096 + l.val, by omega⟩) :=
  (show _ = X0_2 m c t (ix2 ⟨0 + i.val, by omega⟩ l) by blk_point).trans ((v_blk m c t _ l).trans (congrArg _ (congrArg₂ ix2 (Fin.ext (by dsimp only; omega)) rfl)))

theorem v_at1 (c : Dev nD) (t : Fin cfg0.N) (i : Fin 64) (l : Fin 2048) :
    View.ld (X0_2 m c t) (Rect.unit ![64, 0] ![64, 2048] inb_S128x2048_S64x2048_64_0) (ix2 i l) = PJ m c (ix2 ⟨t.val * 128 + 64 + i.val, by have := (idx t).2.2.2.2.2.2.2; omega⟩ ⟨4096 + l.val, by omega⟩) :=
  (show _ = X0_2 m c t (ix2 ⟨64 + i.val, by omega⟩ l) by blk_point).trans ((v_blk m c t _ l).trans (congrArg _ (congrArg₂ ix2 (Fin.ext (by dsimp only; omega)) rfl)))

theorem low_at0 (c : Dev nD) (t : Fin cfg0.N) (i : Fin 64) (l : Fin 128) :
    View.ld (iblk m c 3 t) (Rect.unit ![0, 0] ![64, 128] inb_S128x512_S64x128_0_0) (ix2 i l) = PJ m c (ix2 ⟨t.val * 128 + 0 + i.val, by have := (idx t).2.2.2.2.2.2.2; omega⟩ ⟨11264 + l.val, by omega⟩) := by
  blk_point [iblk, V, idx t]

theorem low_at1 (c : Dev nD) (t : Fin cfg0.N) (i : Fin 64) (l : Fin 128) :
    View.ld (iblk m c 3 t) (Rect.unit ![64, 0] ![64, 128] inb_S128x512_S64x128_64_0) (ix2 i l) = PJ m c (ix2 ⟨t.val * 128 + 64 + i.val, by have := (idx t).2.2.2.2.2.2.2; omega⟩ ⟨11264 + l.val, by omega⟩) := by
  blk_point [iblk, V, idx t]

theorem b_at (c : Dev nD) (t : Fin cfg0.N) (l : Fin 1024) :
    iblk m c 5 t (ix2 0 l) = GB m c (ix1 l) := by
  blk_point [iblk, V, idx t]
theorem w_at (c : Dev nD) (t : Fin cfg0.N) (r : Fin 128) (e : Fin 1024) :
    iblk m c 4 t (ix2 r e) = if h : 64 ≤ r.val ∧ r.val < 80 then GW m c (ix2 ⟨r.val - 64, by omega⟩ e) else 0 := by
  blk_simp [iblk, idx t]
  entry_read
  have he : (((View.whole main_v3).slice (win0_4.rect t)).emb (ix2 r e)) = ix2 r e := by blk_ext [idx t]
  rw [he]
  refine (show ∀ X : FVec Ideal S128x1024 .f32, truncf FTy.bf16 X bitsLt_bf16_f32 (ix2 r e) = X (ix2 r e) from fun X => by pointwise) _ |>.trans ?_
  refine (pad_at _ _ (by rfl) _ r e).trans ?_
  by_cases h : 64 ≤ r.val ∧ r.val < 80
  · rw [dif_pos h, dif_pos h]; try rfl
  · rw [dif_neg h, dif_neg h]; pointwise

end Cert.GlaProof

end
-- ==== Proof.GlaChunk.lean ====
/-
  THE SWEEP IN SCALARS: the chunks one after another, over the projections, the gate's weight and its bias.
-/
module

public import proofs.«01_k».proof.Proof.GlaMath
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaProof

variable (P : Fin 16384 → Fin 11776 → EReal) (W : Fin 16 → Fin 1024 → EReal) (b : Fin 1024 → EReal)

/-- The gate's pre-activation at a row. -/
def PRE (r : Fin 16384) (c : Fin 1024) : EReal := (∑ l : Fin 16, P r ⟨11328 + l.val, by omega⟩ * W l c) + b c
/-- Row `i` of chunk `n`. -/
def ROW (n : ℕ) (i : Fin 64) : Fin 16384 := ⟨(64 * n + i.val) % 16384, Nat.mod_lt _ (by norm_num)⟩
/-- The running log-decay inside chunk `n`. -/
def GC (n : ℕ) (i : Fin 64) (c : Fin 1024) : EReal := CUM (fun j => GKS (PRE P W b (ROW n j) c)) i
/-- Chunk `n`'s scaled queries against its middle row. -/
def QE (n : ℕ) (i : Fin 64) (c : Fin 1024) : EReal := P (ROW n i) ⟨9216 + c.val, by omega⟩ * Ideal.ofBits .f32 0x3D800000#32 * Ideal.exp (GC P W b n i c - GC P W b n 31 c)
/-- Chunk `n`'s keys against its middle row. -/
def KE (n : ℕ) (i : Fin 64) (c : Fin 1024) : EReal := P (ROW n i) ⟨10240 + c.val, by omega⟩ * Ideal.exp (GC P W b n 31 c - GC P W b n i c)
/-- Chunk `n`'s scaled queries decayed from its start. -/
def QIN (n : ℕ) (i : Fin 64) (c : Fin 1024) : EReal := P (ROW n i) ⟨9216 + c.val, by omega⟩ * Ideal.ofBits .f32 0x3D800000#32 * Ideal.exp (GC P W b n i c)
/-- Chunk `n`'s keys decayed to its end. -/
def KEND (n : ℕ) (i : Fin 64) (c : Fin 1024) : EReal := P (ROW n i) ⟨10240 + c.val, by omega⟩ * Ideal.exp (GC P W b n 63 c - GC P W b n i c)
/-- Chunk `n`'s whole decay. -/
def DEC (n : ℕ) (c : Fin 1024) : EReal := Ideal.exp (GC P W b n 63 c)
/-- Chunk `n`'s values. -/
def VV (n : ℕ) (i : Fin 64) (c : Fin 2048) : EReal := P (ROW n i) ⟨4096 + c.val, by omega⟩

/-- The state chunk `n` leaves of the state `S` it finds. -/
def NXT (n : ℕ) (S : Fin 4 → Fin 512 → Fin 256 → EReal) (h : Fin 4) : Fin 512 → Fin 256 → EReal :=
  NEWT (KEND P W b n) (DEC P W b n) (VV P n) (S h) h
/-- Chunk `n`'s output from the state `S` it finds. -/
def OTC (n : ℕ) (S : Fin 4 → Fin 512 → Fin 256 → EReal) (h : Fin 4) : Fin 64 → Fin 512 → EReal :=
  OUTT (QE P W b n) (KE P W b n) (QIN P W b n) (VV P n) (S h) h

/-- The state chunk `n` finds; every sequence of 64 chunks starts from nothing. -/
def ST : ℕ → Fin 4 → Fin 512 → Fin 256 → EReal
  | 0 => fun _ _ _ => 0
  | n + 1 => if (n + 1) % 64 = 0 then fun _ _ _ => 0 else NXT P W b n (ST n)

theorem ST_reset (n : ℕ) (h : n % 64 = 0) : ST P W b n = fun _ _ _ => 0 := by
  cases n with
  | zero => rfl
  | succ n => rw [ST, if_pos h]
theorem ST_step (n : ℕ) (h : (n + 1) % 64 ≠ 0) : ST P W b (n + 1) = NXT P W b n (ST P W b n) := by
  rw [ST, if_neg h]

/-- The sweep's result at a row and a column. -/
def SWEEP (r : Fin 16384) (c : Fin 2048) : EReal :=
  OTC P W b (r.val / 64) (ST P W b (r.val / 64)) ⟨c.val / 512, by omega⟩ ⟨r.val % 64, by omega⟩ ⟨c.val % 512, by omega⟩

/-- Every column is one of a head. -/
theorem VC_split (c : Fin 2048) : c = VC ⟨c.val / 512, by omega⟩ ⟨c.val % 512, by omega⟩ := Fin.ext (by unfold VC; dsimp only; omega)
theorem SWEEP_at (r : Fin 16384) (n : ℕ) (i : Fin 64) (h : Fin 4) (w : Fin 512) (hr : r.val = 64 * n + i.val) :
    SWEEP P W b r (VC h w) = OTC P W b n (ST P W b n) h i w := by
  unfold SWEEP
  rw [show r.val / 64 = n by omega]
  congr 1
  · exact Fin.ext (by unfold VC; dsimp only; omega)
  · exact Fin.ext (by dsimp only; omega)
  · exact Fin.ext (by unfold VC; dsimp only; omega)

end Cert.GlaProof

end
-- ==== Proof.GlaFns.lean ====
/-
  THE KERNEL'S CHUNK FUNCTIONS: what a grid point computes of its two chunks before the products, in scalars.
-/
module

public import proofs.«01_k».proof.Proof.GlaBlocks
public import proofs.«01_k».proof.Proof.GlaChunk
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaProof

open Cert.GlaIdeal Cert.GlaIdeal.Gen

variable (m : (ℓ : Loc nD τ sig) → Buf (Elt Ideal) ℓ)

/-- The projections as a function of row and column. -/
abbrev PF (c : Dev nD) : Fin 16384 → Fin 11776 → EReal := fun r e => PJ m c (ix2 r e)
/-- The gate's weight as a function of row and column. -/
abbrev WF (c : Dev nD) : Fin 16 → Fin 1024 → EReal := fun r e => GW m c (ix2 r e)
/-- The gate's bias as a function of the column. -/
abbrev BF (c : Dev nD) : Fin 1024 → EReal := fun e => GB m c (ix1 e)

theorem row_0 (t : Fin cfg0.N) (i : Fin 64) (h : t.val * 128 + 0 + i.val < 16384) : (⟨t.val * 128 + 0 + i.val, h⟩ : Fin 16384) = ROW (2 * t.val) i :=
  Fin.ext (by unfold ROW; dsimp only; omega)

/-- The load of the low-rank columns at half 0. -/
abbrev LW0 (c : Dev nD) (t : Fin cfg0.N) : FVec Ideal S64x128 .f32 := View.ld (iblk m c 3 t) (Rect.unit ![0, 0] ![64, 128] inb_S128x512_S64x128_0_0)
abbrev LQ0 (c : Dev nD) (t : Fin cfg0.N) : FVec Ideal S64x1024 .f32 := View.ld (X0_0 m c t) (Rect.unit ![0, 0] ![64, 1024] inb_S128x1024_S64x1024_0_0)
abbrev LK0 (c : Dev nD) (t : Fin cfg0.N) : FVec Ideal S64x1024 .f32 := View.ld (X0_1 m c t) (Rect.unit ![0, 0] ![64, 1024] inb_S128x1024_S64x1024_0_0)
abbrev LV0 (c : Dev nD) (t : Fin cfg0.N) : FVec Ideal S64x2048 .f32 := View.ld (X0_2 m c t) (Rect.unit ![0, 0] ![64, 2048] inb_S128x2048_S64x2048_0_0)

theorem lw_at0 (c : Dev nD) (t : Fin cfg0.N) (i : Fin 64) (l : Fin 128) : LW0 m c t (ix2 i l) = PF m c (ROW (2 * t.val) i) ⟨11264 + l.val, by omega⟩ :=
  (low_at0 m c t i l).trans (congrArg (PJ m c) (congrArg₂ ix2 (row_0 t i _) rfl))
theorem lq_at0 (c : Dev nD) (t : Fin cfg0.N) (i : Fin 64) (l : Fin 1024) : LQ0 m c t (ix2 i l) = PF m c (ROW (2 * t.val) i) ⟨9216 + l.val, by omega⟩ :=
  (q_at0 m c t i l).trans (congrArg (PJ m c) (congrArg₂ ix2 (row_0 t i _) rfl))
theorem lk_at0 (c : Dev nD) (t : Fin cfg0.N) (i : Fin 64) (l : Fin 1024) : LK0 m c t (ix2 i l) = PF m c (ROW (2 * t.val) i) ⟨10240 + l.val, by omega⟩ :=
  (k_at0 m c t i l).trans (congrArg (PJ m c) (congrArg₂ ix2 (row_0 t i _) rfl))
theorem lv_at0 (c : Dev nD) (t : Fin cfg0.N) (i : Fin 64) (l : Fin 2048) : LV0 m c t (ix2 i l) = PF m c (ROW (2 * t.val) i) ⟨4096 + l.val, by omega⟩ :=
  (v_at0 m c t i l).trans (congrArg (PJ m c) (congrArg₂ ix2 (row_0 t i _) rfl))

/-- The pre-activation, from the padded weight. -/
theorem pre_0 (c : Dev nD) (t : Fin cfg0.N) (i : Fin 64) (e : Fin 1024) :
    PREK (LW0 m c t) (iblk m c 4 t) (iblk m c 5 t) i e = PRE (PF m c) (WF m c) (BF m c) (ROW (2 * t.val) i) e := by
  unfold PREK PRE
  rw [b_at m c t e]
  refine congrArg₂ (· + ·) (Eq.symm ?_) rfl
  refine Finset.sum_of_injOn (fun l : Fin 16 => (⟨64 + l.val, by omega⟩ : Fin 128)) (fun a _ b _ h => Fin.ext (by have := congrArg Fin.val h; dsimp only at this; omega)) (fun _ _ => Finset.mem_coe.2 (Finset.mem_univ _)) (fun l _ hl => ?_) (fun l _ => ?_)
  · rw [w_at, dif_neg, mul_zero]
    rintro ⟨h1, h2⟩
    exact hl ⟨⟨l.val - 64, by omega⟩, Finset.mem_coe.2 (Finset.mem_univ _), Fin.ext (by dsimp only; omega)⟩
  · rw [w_at, lw_at0, dif_pos ⟨by dsimp only; omega, by dsimp only; omega⟩]
    refine congrArg₂ (· * ·) (congrArg (PJ m c) (congrArg (ix2 _) (Fin.ext (by dsimp only; omega)))) (congrArg (GW m c) (congrArg₂ ix2 (Fin.ext (by dsimp only; omega)) rfl))

theorem g_0 (c : Dev nD) (t : Fin cfg0.N) (i : Fin 64) (e : Fin 1024) :
    k0_pay8 (F := Ideal) k0_pay4 (k0_pay6 (LW0 m c t) (iblk m c 4 t) (iblk m c 5 t)) (k0_pay7 (LW0 m c t) (iblk m c 4 t) (iblk m c 5 t)) (ix2 i e) = GC (PF m c) (WF m c) (BF m c) (2 * t.val) i e := by
  rw [G_0]
  unfold GC
  exact congrArg (fun f => CUM f i) (funext fun j => congrArg GKS (pre_0 m c t j e))

theorem qef_0 (c : Dev nD) (t : Fin cfg0.N) :
    (fun i e => k0_pay12 (F := Ideal) k0_pay4 (k0_pay6 (LW0 m c t) (iblk m c 4 t) (iblk m c 5 t)) (k0_pay7 (LW0 m c t) (iblk m c 4 t) (iblk m c 5 t)) (LQ0 m c t) (ix2 i e)) = QE (PF m c) (WF m c) (BF m c) (2 * t.val) := by
  funext i e
  rw [qe_0, lq_at0]
  simp only [g_0]
  rfl

theorem kef_0 (c : Dev nD) (t : Fin cfg0.N) :
    (fun i e => k0_pay13 (F := Ideal) k0_pay4 (k0_pay6 (LW0 m c t) (iblk m c 4 t) (iblk m c 5 t)) (k0_pay7 (LW0 m c t) (iblk m c 4 t) (iblk m c 5 t)) (LK0 m c t) (ix2 i e)) = KE (PF m c) (WF m c) (BF m c) (2 * t.val) := by
  funext i e
  rw [ke_0, lk_at0]
  simp only [g_0]
  rfl

theorem qinf_0 (c : Dev nD) (t : Fin cfg0.N) :
    (fun i e => k0_pay14 (F := Ideal) k0_pay4 (k0_pay6 (LW0 m c t) (iblk m c 4 t) (iblk m c 5 t)) (k0_pay7 (LW0 m c t) (iblk m c 4 t) (iblk m c 5 t)) (LQ0 m c t) (ix2 i e)) = QIN (PF m c) (WF m c) (BF m c) (2 * t.val) := by
  funext i e
  rw [qin_0, lq_at0]
  simp only [g_0]
  rfl

theorem kendf_0 (c : Dev nD) (t : Fin cfg0.N) :
    (fun i e => k0_pay15 (F := Ideal) k0_pay4 (k0_pay6 (LW0 m c t) (iblk m c 4 t) (iblk m c 5 t)) (k0_pay7 (LW0 m c t) (iblk m c 4 t) (iblk m c 5 t)) (LK0 m c t) (ix2 i e)) = KEND (PF m c) (WF m c) (BF m c) (2 * t.val) := by
  funext i e
  rw [kend_0, lk_at0]
  simp only [g_0]
  rfl

theorem decf_0 (c : Dev nD) (t : Fin cfg0.N) :
    (fun e => k0_pay16 (F := Ideal) k0_pay4 (k0_pay6 (LW0 m c t) (iblk m c 4 t) (iblk m c 5 t)) (k0_pay7 (LW0 m c t) (iblk m c 4 t) (iblk m c 5 t)) (ix2 0 e)) = DEC (PF m c) (WF m c) (BF m c) (2 * t.val) := by
  funext e
  rw [dec_0 _ _ _ (LQ0 m c t) 0]
  simp only [g_0]
  rfl

theorem vf_0 (c : Dev nD) (t : Fin cfg0.N) :
    (fun i e => k0_pay17 (F := Ideal) (LV0 m c t) (ix2 i e)) = VV (PF m c) (2 * t.val) := by
  funext i e
  rw [v_0, lv_at0]
  rfl

theorem row_1 (t : Fin cfg0.N) (i : Fin 64) (h : t.val * 128 + 64 + i.val < 16384) : (⟨t.val * 128 + 64 + i.val, h⟩ : Fin 16384) = ROW (2 * t.val + 1) i :=
  Fin.ext (by unfold ROW; dsimp only; omega)

/-- The load of the low-rank columns at half 1. -/
abbrev LW1 (c : Dev nD) (t : Fin cfg0.N) : FVec Ideal S64x128 .f32 := View.ld (iblk m c 3 t) (Rect.unit ![64, 0] ![64, 128] inb_S128x512_S64x128_64_0)
abbrev LQ1 (c : Dev nD) (t : Fin cfg0.N) : FVec Ideal S64x1024 .f32 := View.ld (X0_0 m c t) (Rect.unit ![64, 0] ![64, 1024] inb_S128x1024_S64x1024_64_0)
abbrev LK1 (c : Dev nD) (t : Fin cfg0.N) : FVec Ideal S64x1024 .f32 := View.ld (X0_1 m c t) (Rect.unit ![64, 0] ![64, 1024] inb_S128x1024_S64x1024_64_0)
abbrev LV1 (c : Dev nD) (t : Fin cfg0.N) : FVec Ideal S64x2048 .f32 := View.ld (X0_2 m c t) (Rect.unit ![64, 0] ![64, 2048] inb_S128x2048_S64x2048_64_0)

theorem lw_at1 (c : Dev nD) (t : Fin cfg0.N) (i : Fin 64) (l : Fin 128) : LW1 m c t (ix2 i l) = PF m c (ROW (2 * t.val + 1) i) ⟨11264 + l.val, by omega⟩ :=
  (low_at1 m c t i l).trans (congrArg (PJ m c) (congrArg₂ ix2 (row_1 t i _) rfl))
theorem lq_at1 (c : Dev nD) (t : Fin cfg0.N) (i : Fin 64) (l : Fin 1024) : LQ1 m c t (ix2 i l) = PF m c (ROW (2 * t.val + 1) i) ⟨9216 + l.val, by omega⟩ :=
  (q_at1 m c t i l).trans (congrArg (PJ m c) (congrArg₂ ix2 (row_1 t i _) rfl))
theorem lk_at1 (c : Dev nD) (t : Fin cfg0.N) (i : Fin 64) (l : Fin 1024) : LK1 m c t (ix2 i l) = PF m c (ROW (2 * t.val + 1) i) ⟨10240 + l.val, by omega⟩ :=
  (k_at1 m c t i l).trans (congrArg (PJ m c) (congrArg₂ ix2 (row_1 t i _) rfl))
theorem lv_at1 (c : Dev nD) (t : Fin cfg0.N) (i : Fin 64) (l : Fin 2048) : LV1 m c t (ix2 i l) = PF m c (ROW (2 * t.val + 1) i) ⟨4096 + l.val, by omega⟩ :=
  (v_at1 m c t i l).trans (congrArg (PJ m c) (congrArg₂ ix2 (row_1 t i _) rfl))

/-- The pre-activation, from the padded weight. -/
theorem pre_1 (c : Dev nD) (t : Fin cfg0.N) (i : Fin 64) (e : Fin 1024) :
    PREK (LW1 m c t) (iblk m c 4 t) (iblk m c 5 t) i e = PRE (PF m c) (WF m c) (BF m c) (ROW (2 * t.val + 1) i) e := by
  unfold PREK PRE
  rw [b_at m c t e]
  refine congrArg₂ (· + ·) (Eq.symm ?_) rfl
  refine Finset.sum_of_injOn (fun l : Fin 16 => (⟨64 + l.val, by omega⟩ : Fin 128)) (fun a _ b _ h => Fin.ext (by have := congrArg Fin.val h; dsimp only at this; omega)) (fun _ _ => Finset.mem_coe.2 (Finset.mem_univ _)) (fun l _ hl => ?_) (fun l _ => ?_)
  · rw [w_at, dif_neg, mul_zero]
    rintro ⟨h1, h2⟩
    exact hl ⟨⟨l.val - 64, by omega⟩, Finset.mem_coe.2 (Finset.mem_univ _), Fin.ext (by dsimp only; omega)⟩
  · rw [w_at, lw_at1, dif_pos ⟨by dsimp only; omega, by dsimp only; omega⟩]
    refine congrArg₂ (· * ·) (congrArg (PJ m c) (congrArg (ix2 _) (Fin.ext (by dsimp only; omega)))) (congrArg (GW m c) (congrArg₂ ix2 (Fin.ext (by dsimp only; omega)) rfl))

theorem g_1 (c : Dev nD) (t : Fin cfg0.N) (i : Fin 64) (e : Fin 1024) :
    k0_pay38 (F := Ideal) k0_pay4 (k0_pay36 (LW1 m c t) (iblk m c 4 t) (iblk m c 5 t)) (k0_pay37 k0_pay4 (LW1 m c t) (iblk m c 4 t) (iblk m c 5 t)) (ix2 i e) = GC (PF m c) (WF m c) (BF m c) (2 * t.val + 1) i e := by
  rw [G_1]
  unfold GC
  exact congrArg (fun f => CUM f i) (funext fun j => congrArg GKS (pre_1 m c t j e))

theorem qef_1 (c : Dev nD) (t : Fin cfg0.N) :
    (fun i e => k0_pay42 (F := Ideal) k0_pay4 (k0_pay36 (LW1 m c t) (iblk m c 4 t) (iblk m c 5 t)) (k0_pay37 k0_pay4 (LW1 m c t) (iblk m c 4 t) (iblk m c 5 t)) (LQ1 m c t) (ix2 i e)) = QE (PF m c) (WF m c) (BF m c) (2 * t.val + 1) := by
  funext i e
  rw [qe_1, lq_at1]
  simp only [g_1]
  rfl

theorem kef_1 (c : Dev nD) (t : Fin cfg0.N) :
    (fun i e => k0_pay43 (F := Ideal) k0_pay4 (k0_pay36 (LW1 m c t) (iblk m c 4 t) (iblk m c 5 t)) (k0_pay37 k0_pay4 (LW1 m c t) (iblk m c 4 t) (iblk m c 5 t)) (LK1 m c t) (ix2 i e)) = KE (PF m c) (WF m c) (BF m c) (2 * t.val + 1) := by
  funext i e
  rw [ke_1, lk_at1]
  simp only [g_1]
  rfl

theorem qinf_1 (c : Dev nD) (t : Fin cfg0.N) :
    (fun i e => k0_pay44 (F := Ideal) k0_pay4 (k0_pay36 (LW1 m c t) (iblk m c 4 t) (iblk m c 5 t)) (k0_pay37 k0_pay4 (LW1 m c t) (iblk m c 4 t) (iblk m c 5 t)) (LQ1 m c t) (ix2 i e)) = QIN (PF m c) (WF m c) (BF m c) (2 * t.val + 1) := by
  funext i e
  rw [qin_1, lq_at1]
  simp only [g_1]
  rfl

theorem kendf_1 (c : Dev nD) (t : Fin cfg0.N) :
    (fun i e => k0_pay45 (F := Ideal) k0_pay4 (k0_pay36 (LW1 m c t) (iblk m c 4 t) (iblk m c 5 t)) (k0_pay37 k0_pay4 (LW1 m c t) (iblk m c 4 t) (iblk m c 5 t)) (LK1 m c t) (ix2 i e)) = KEND (PF m c) (WF m c) (BF m c) (2 * t.val + 1) := by
  funext i e
  rw [kend_1, lk_at1]
  simp only [g_1]
  rfl

theorem decf_1 (c : Dev nD) (t : Fin cfg0.N) :
    (fun e => k0_pay46 (F := Ideal) k0_pay4 (k0_pay36 (LW1 m c t) (iblk m c 4 t) (iblk m c 5 t)) (k0_pay37 k0_pay4 (LW1 m c t) (iblk m c 4 t) (iblk m c 5 t)) (ix2 0 e)) = DEC (PF m c) (WF m c) (BF m c) (2 * t.val + 1) := by
  funext e
  rw [dec_1 _ _ _ (LQ1 m c t) 0]
  simp only [g_1]
  rfl

theorem vf_1 (c : Dev nD) (t : Fin cfg0.N) :
    (fun i e => k0_pay47 (F := Ideal) (LV1 m c t) (ix2 i e)) = VV (PF m c) (2 * t.val + 1) := by
  funext i e
  rw [v_1, lv_at1]
  rfl

end Cert.GlaProof

end
-- ==== Proof.GlaHalf.lean ====
/-
  THE KERNEL'S HALF POINTS: each head's output and next state of a chunk, from the state it finds.
-/
module

public import proofs.«01_k».proof.Proof.GlaFns
public import proofs.«01_k».proof.Proof.GlaHeads
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaProof

open Cert.GlaIdeal Cert.GlaIdeal.Gen

variable (m : (ℓ : Loc nD τ sig) → Buf (Elt Ideal) ℓ)

theorem nxt_0_0 (c : Dev nD) (t : Fin cfg0.N) (st : FVec Ideal S1x512x256 .f32) (S : Fin 4 → Fin 512 → Fin 256 → EReal) (hS : ∀ w k, st (ix3 0 w k) = S 0 w k) (w : Fin 512) (k : Fin 256) :
    k0_pay21 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st (ix3 0 w k) = NXT (PF m c) (WF m c) (BF m c) (2 * t.val) S 0 w k := by
  refine (new_0_0 _ _ _ _ w k).trans ?_
  rw [kendf_0, decf_0, vf_0, show (fun w k => st (ix3 0 w k)) = S 0 from funext fun w => funext fun k => hS w k]
  rfl

theorem oct_0_0 (c : Dev nD) (t : Fin cfg0.N) (st : FVec Ideal S1x512x256 .f32) (S : Fin 4 → Fin 512 → Fin 256 → EReal) (hS : ∀ w k, st (ix3 0 w k) = S 0 w k) (i : Fin 64) (w : Fin 512) :
    k0_pay20 (k0_pay14 k0_pay4 (k0_pay6 (LW0 m c t) (iblk m c 4 t) (iblk m c 5 t)) (k0_pay7 (LW0 m c t) (iblk m c 4 t) (iblk m c 5 t)) (LQ0 m c t)) (k0_pay17 (F := Ideal) (LV0 m c t)) (k0_pay18 k0_pay3 k0_pay4 (k0_pay6 (LW0 m c t) (iblk m c 4 t) (iblk m c 5 t)) (k0_pay7 (LW0 m c t) (iblk m c 4 t) (iblk m c 5 t)) (LQ0 m c t) (LK0 m c t)) st (ix2 i w) = OTC (PF m c) (WF m c) (BF m c) (2 * t.val) S 0 i w := by
  refine (out_0_0 _ _ _ _ _ _ _ _ i w).trans ?_
  rw [qef_0, kef_0, qinf_0, vf_0, show (fun w k => st (ix3 0 w k)) = S 0 from funext fun w => funext fun k => hS w k]
  rfl

theorem nxt_0_1 (c : Dev nD) (t : Fin cfg0.N) (st : FVec Ideal S1x512x256 .f32) (S : Fin 4 → Fin 512 → Fin 256 → EReal) (hS : ∀ w k, st (ix3 0 w k) = S 1 w k) (w : Fin 512) (k : Fin 256) :
    k0_pay25 (k0_pay24 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st) (ix3 0 w k) = NXT (PF m c) (WF m c) (BF m c) (2 * t.val) S 1 w k := by
  refine (new_0_1 _ _ _ _ w k).trans ?_
  rw [kendf_0, decf_0, vf_0, show (fun w k => st (ix3 0 w k)) = S 1 from funext fun w => funext fun k => hS w k]
  rfl

theorem oct_0_1 (c : Dev nD) (t : Fin cfg0.N) (st : FVec Ideal S1x512x256 .f32) (S : Fin 4 → Fin 512 → Fin 256 → EReal) (hS : ∀ w k, st (ix3 0 w k) = S 1 w k) (i : Fin 64) (w : Fin 512) :
    k0_pay23 k0_pay3 (k0_pay12 k0_pay4 (k0_pay6 (LW0 m c t) (iblk m c 4 t) (iblk m c 5 t)) (k0_pay7 (LW0 m c t) (iblk m c 4 t) (iblk m c 5 t)) (LQ0 m c t)) (k0_pay13 k0_pay4 (k0_pay6 (LW0 m c t) (iblk m c 4 t) (iblk m c 5 t)) (k0_pay7 (LW0 m c t) (iblk m c 4 t) (iblk m c 5 t)) (LK0 m c t)) (k0_pay14 k0_pay4 (k0_pay6 (LW0 m c t) (iblk m c 4 t) (iblk m c 5 t)) (k0_pay7 (LW0 m c t) (iblk m c 4 t) (iblk m c 5 t)) (LQ0 m c t)) (k0_pay17 (F := Ideal) (LV0 m c t)) st (ix2 i w) = OTC (PF m c) (WF m c) (BF m c) (2 * t.val) S 1 i w := by
  refine (out_0_1 _ _ _ _ _ i w).trans ?_
  rw [qef_0, kef_0, qinf_0, vf_0, show (fun w k => st (ix3 0 w k)) = S 1 from funext fun w => funext fun k => hS w k]
  rfl

theorem nxt_0_2 (c : Dev nD) (t : Fin cfg0.N) (st : FVec Ideal S1x512x256 .f32) (S : Fin 4 → Fin 512 → Fin 256 → EReal) (hS : ∀ w k, st (ix3 0 w k) = S 2 w k) (w : Fin 512) (k : Fin 256) :
    k0_pay28 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st (ix3 0 w k) = NXT (PF m c) (WF m c) (BF m c) (2 * t.val) S 2 w k := by
  refine (new_0_2 _ _ _ _ w k).trans ?_
  rw [kendf_0, decf_0, vf_0, show (fun w k => st (ix3 0 w k)) = S 2 from funext fun w => funext fun k => hS w k]
  rfl

theorem oct_0_2 (c : Dev nD) (t : Fin cfg0.N) (st : FVec Ideal S1x512x256 .f32) (S : Fin 4 → Fin 512 → Fin 256 → EReal) (hS : ∀ w k, st (ix3 0 w k) = S 2 w k) (i : Fin 64) (w : Fin 512) :
    k0_pay27 k0_pay3 (k0_pay12 k0_pay4 (k0_pay6 (LW0 m c t) (iblk m c 4 t) (iblk m c 5 t)) (k0_pay7 (LW0 m c t) (iblk m c 4 t) (iblk m c 5 t)) (LQ0 m c t)) (k0_pay13 k0_pay4 (k0_pay6 (LW0 m c t) (iblk m c 4 t) (iblk m c 5 t)) (k0_pay7 (LW0 m c t) (iblk m c 4 t) (iblk m c 5 t)) (LK0 m c t)) (k0_pay14 k0_pay4 (k0_pay6 (LW0 m c t) (iblk m c 4 t) (iblk m c 5 t)) (k0_pay7 (LW0 m c t) (iblk m c 4 t) (iblk m c 5 t)) (LQ0 m c t)) (k0_pay17 (F := Ideal) (LV0 m c t)) st (ix2 i w) = OTC (PF m c) (WF m c) (BF m c) (2 * t.val) S 2 i w := by
  refine (out_0_2 _ _ _ _ _ i w).trans ?_
  rw [qef_0, kef_0, qinf_0, vf_0, show (fun w k => st (ix3 0 w k)) = S 2 from funext fun w => funext fun k => hS w k]
  rfl

theorem nxt_0_3 (c : Dev nD) (t : Fin cfg0.N) (st : FVec Ideal S1x512x256 .f32) (S : Fin 4 → Fin 512 → Fin 256 → EReal) (hS : ∀ w k, st (ix3 0 w k) = S 3 w k) (w : Fin 512) (k : Fin 256) :
    k0_pay32 (k0_pay15 k0_pay4 (k0_pay6 (LW0 m c t) (iblk m c 4 t) (iblk m c 5 t)) (k0_pay7 (LW0 m c t) (iblk m c 4 t) (iblk m c 5 t)) (LK0 m c t)) (k0_pay17 (F := Ideal) (LV0 m c t)) (k0_pay29 st) (k0_pay31 (k0_pay16 k0_pay4 (k0_pay6 (LW0 m c t) (iblk m c 4 t) (iblk m c 5 t)) (k0_pay7 (LW0 m c t) (iblk m c 4 t) (iblk m c 5 t)))) (ix3 0 w k) = NXT (PF m c) (WF m c) (BF m c) (2 * t.val) S 3 w k := by
  refine (new_0_3 _ _ _ _ w k).trans ?_
  rw [kendf_0, decf_0, vf_0, show (fun w k => st (ix3 0 w k)) = S 3 from funext fun w => funext fun k => hS w k]
  rfl

theorem oct_0_3 (c : Dev nD) (t : Fin cfg0.N) (st : FVec Ideal S1x512x256 .f32) (S : Fin 4 → Fin 512 → Fin 256 → EReal) (hS : ∀ w k, st (ix3 0 w k) = S 3 w k) (i : Fin 64) (w : Fin 512) :
    k0_pay30 k0_pay3 (k0_pay12 k0_pay4 (k0_pay6 (LW0 m c t) (iblk m c 4 t) (iblk m c 5 t)) (k0_pay7 (LW0 m c t) (iblk m c 4 t) (iblk m c 5 t)) (LQ0 m c t)) (k0_pay13 k0_pay4 (k0_pay6 (LW0 m c t) (iblk m c 4 t) (iblk m c 5 t)) (k0_pay7 (LW0 m c t) (iblk m c 4 t) (iblk m c 5 t)) (LK0 m c t)) (k0_pay14 k0_pay4 (k0_pay6 (LW0 m c t) (iblk m c 4 t) (iblk m c 5 t)) (k0_pay7 (LW0 m c t) (iblk m c 4 t) (iblk m c 5 t)) (LQ0 m c t)) (k0_pay17 (F := Ideal) (LV0 m c t)) st (ix2 i w) = OTC (PF m c) (WF m c) (BF m c) (2 * t.val) S 3 i w := by
  refine (out_0_3 _ _ _ _ _ i w).trans ?_
  rw [qef_0, kef_0, qinf_0, vf_0, show (fun w k => st (ix3 0 w k)) = S 3 from funext fun w => funext fun k => hS w k]
  rfl

theorem nxt_1_0 (c : Dev nD) (t : Fin cfg0.N) (st : FVec Ideal S1x512x256 .f32) (S : Fin 4 → Fin 512 → Fin 256 → EReal) (hS : ∀ w k, st (ix3 0 w k) = S 0 w k) (w : Fin 512) (k : Fin 256) :
    k0_pay51 (k0_pay45 k0_pay4 (k0_pay36 (LW1 m c t) (iblk m c 4 t) (iblk m c 5 t)) (k0_pay37 k0_pay4 (LW1 m c t) (iblk m c 4 t) (iblk m c 5 t)) (LK1 m c t)) (k0_pay47 (F := Ideal) (LV1 m c t)) (k0_pay48 st) (k0_pay50 k0_pay4 (k0_pay36 (LW1 m c t) (iblk m c 4 t) (iblk m c 5 t)) (k0_pay37 k0_pay4 (LW1 m c t) (iblk m c 4 t) (iblk m c 5 t))) (ix3 0 w k) = NXT (PF m c) (WF m c) (BF m c) (2 * t.val + 1) S 0 w k := by
  refine (new_1_0 _ _ _ _ _ _ w k).trans ?_
  rw [kendf_1, decf_1, vf_1, show (fun w k => st (ix3 0 w k)) = S 0 from funext fun w => funext fun k => hS w k]
  rfl

theorem oct_1_0 (c : Dev nD) (t : Fin cfg0.N) (st : FVec Ideal S1x512x256 .f32) (S : Fin 4 → Fin 512 → Fin 256 → EReal) (hS : ∀ w k, st (ix3 0 w k) = S 0 w k) (i : Fin 64) (w : Fin 512) :
    k0_pay49 k0_pay3 k0_pay4 (k0_pay36 (LW1 m c t) (iblk m c 4 t) (iblk m c 5 t)) (k0_pay37 k0_pay4 (LW1 m c t) (iblk m c 4 t) (iblk m c 5 t)) (LQ1 m c t) (LK1 m c t) (LV1 m c t) st (ix2 i w) = OTC (PF m c) (WF m c) (BF m c) (2 * t.val + 1) S 0 i w := by
  refine (out_1_0 _ _ _ _ _ _ _ i w).trans ?_
  rw [qef_1, kef_1, qinf_1, vf_1, show (fun w k => st (ix3 0 w k)) = S 0 from funext fun w => funext fun k => hS w k]
  rfl

theorem nxt_1_1 (c : Dev nD) (t : Fin cfg0.N) (st : FVec Ideal S1x512x256 .f32) (S : Fin 4 → Fin 512 → Fin 256 → EReal) (hS : ∀ w k, st (ix3 0 w k) = S 1 w k) (w : Fin 512) (k : Fin 256) :
    k0_pay54 (k0_pay45 k0_pay4 (k0_pay36 (LW1 m c t) (iblk m c 4 t) (iblk m c 5 t)) (k0_pay37 k0_pay4 (LW1 m c t) (iblk m c 4 t) (iblk m c 5 t)) (LK1 m c t)) (k0_pay46 k0_pay4 (k0_pay36 (LW1 m c t) (iblk m c 4 t) (iblk m c 5 t)) (k0_pay37 k0_pay4 (LW1 m c t) (iblk m c 4 t) (iblk m c 5 t))) (k0_pay47 (F := Ideal) (LV1 m c t)) st (ix3 0 w k) = NXT (PF m c) (WF m c) (BF m c) (2 * t.val + 1) S 1 w k := by
  refine (new_1_1 _ _ _ _ w k).trans ?_
  rw [kendf_1, decf_1, vf_1, show (fun w k => st (ix3 0 w k)) = S 1 from funext fun w => funext fun k => hS w k]
  rfl

theorem oct_1_1 (c : Dev nD) (t : Fin cfg0.N) (st : FVec Ideal S1x512x256 .f32) (S : Fin 4 → Fin 512 → Fin 256 → EReal) (hS : ∀ w k, st (ix3 0 w k) = S 1 w k) (i : Fin 64) (w : Fin 512) :
    k0_pay53 k0_pay3 (k0_pay42 k0_pay4 (k0_pay36 (LW1 m c t) (iblk m c 4 t) (iblk m c 5 t)) (k0_pay37 k0_pay4 (LW1 m c t) (iblk m c 4 t) (iblk m c 5 t)) (LQ1 m c t)) (k0_pay43 k0_pay4 (k0_pay36 (LW1 m c t) (iblk m c 4 t) (iblk m c 5 t)) (k0_pay37 k0_pay4 (LW1 m c t) (iblk m c 4 t) (iblk m c 5 t)) (LK1 m c t)) (k0_pay44 k0_pay4 (k0_pay36 (LW1 m c t) (iblk m c 4 t) (iblk m c 5 t)) (k0_pay37 k0_pay4 (LW1 m c t) (iblk m c 4 t) (iblk m c 5 t)) (LQ1 m c t)) (k0_pay47 (F := Ideal) (LV1 m c t)) st (ix2 i w) = OTC (PF m c) (WF m c) (BF m c) (2 * t.val + 1) S 1 i w := by
  refine (out_1_1 _ _ _ _ _ i w).trans ?_
  rw [qef_1, kef_1, qinf_1, vf_1, show (fun w k => st (ix3 0 w k)) = S 1 from funext fun w => funext fun k => hS w k]
  rfl

theorem nxt_1_2 (c : Dev nD) (t : Fin cfg0.N) (st : FVec Ideal S1x512x256 .f32) (S : Fin 4 → Fin 512 → Fin 256 → EReal) (hS : ∀ w k, st (ix3 0 w k) = S 2 w k) (w : Fin 512) (k : Fin 256) :
    k0_pay58 (k0_pay45 k0_pay4 (k0_pay36 (LW1 m c t) (iblk m c 4 t) (iblk m c 5 t)) (k0_pay37 k0_pay4 (LW1 m c t) (iblk m c 4 t) (iblk m c 5 t)) (LK1 m c t)) (k0_pay46 k0_pay4 (k0_pay36 (LW1 m c t) (iblk m c 4 t) (iblk m c 5 t)) (k0_pay37 k0_pay4 (LW1 m c t) (iblk m c 4 t) (iblk m c 5 t))) (k0_pay47 (F := Ideal) (LV1 m c t)) st (ix3 0 w k) = NXT (PF m c) (WF m c) (BF m c) (2 * t.val + 1) S 2 w k := by
  refine (new_1_2 _ _ _ _ w k).trans ?_
  rw [kendf_1, decf_1, vf_1, show (fun w k => st (ix3 0 w k)) = S 2 from funext fun w => funext fun k => hS w k]
  rfl

theorem oct_1_2 (c : Dev nD) (t : Fin cfg0.N) (st : FVec Ideal S1x512x256 .f32) (S : Fin 4 → Fin 512 → Fin 256 → EReal) (hS : ∀ w k, st (ix3 0 w k) = S 2 w k) (i : Fin 64) (w : Fin 512) :
    k0_pay57 (k0_pay44 k0_pay4 (k0_pay36 (LW1 m c t) (iblk m c 4 t) (iblk m c 5 t)) (k0_pay37 k0_pay4 (LW1 m c t) (iblk m c 4 t) (iblk m c 5 t)) (LQ1 m c t)) (k0_pay47 (F := Ideal) (LV1 m c t)) (k0_pay55 k0_pay3 (k0_pay42 k0_pay4 (k0_pay36 (LW1 m c t) (iblk m c 4 t) (iblk m c 5 t)) (k0_pay37 k0_pay4 (LW1 m c t) (iblk m c 4 t) (iblk m c 5 t)) (LQ1 m c t)) (k0_pay43 k0_pay4 (k0_pay36 (LW1 m c t) (iblk m c 4 t) (iblk m c 5 t)) (k0_pay37 k0_pay4 (LW1 m c t) (iblk m c 4 t) (iblk m c 5 t)) (LK1 m c t))) st (ix2 i w) = OTC (PF m c) (WF m c) (BF m c) (2 * t.val + 1) S 2 i w := by
  refine (out_1_2 _ _ _ _ _ i w).trans ?_
  rw [qef_1, kef_1, qinf_1, vf_1, show (fun w k => st (ix3 0 w k)) = S 2 from funext fun w => funext fun k => hS w k]
  rfl

theorem nxt_1_3 (c : Dev nD) (t : Fin cfg0.N) (st : FVec Ideal S1x512x256 .f32) (S : Fin 4 → Fin 512 → Fin 256 → EReal) (hS : ∀ w k, st (ix3 0 w k) = S 3 w k) (w : Fin 512) (k : Fin 256) :
    k0_pay61 (k0_pay45 k0_pay4 (k0_pay36 (LW1 m c t) (iblk m c 4 t) (iblk m c 5 t)) (k0_pay37 k0_pay4 (LW1 m c t) (iblk m c 4 t) (iblk m c 5 t)) (LK1 m c t)) (k0_pay46 k0_pay4 (k0_pay36 (LW1 m c t) (iblk m c 4 t) (iblk m c 5 t)) (k0_pay37 k0_pay4 (LW1 m c t) (iblk m c 4 t) (iblk m c 5 t))) (k0_pay47 (F := Ideal) (LV1 m c t)) st (ix3 0 w k) = NXT (PF m c) (WF m c) (BF m c) (2 * t.val + 1) S 3 w k := by
  refine (new_1_3 _ _ _ _ w k).trans ?_
  rw [kendf_1, decf_1, vf_1, show (fun w k => st (ix3 0 w k)) = S 3 from funext fun w => funext fun k => hS w k]
  rfl

theorem oct_1_3 (c : Dev nD) (t : Fin cfg0.N) (st : FVec Ideal S1x512x256 .f32) (S : Fin 4 → Fin 512 → Fin 256 → EReal) (hS : ∀ w k, st (ix3 0 w k) = S 3 w k) (i : Fin 64) (w : Fin 512) :
    k0_pay60 k0_pay3 (k0_pay42 k0_pay4 (k0_pay36 (LW1 m c t) (iblk m c 4 t) (iblk m c 5 t)) (k0_pay37 k0_pay4 (LW1 m c t) (iblk m c 4 t) (iblk m c 5 t)) (LQ1 m c t)) (k0_pay43 k0_pay4 (k0_pay36 (LW1 m c t) (iblk m c 4 t) (iblk m c 5 t)) (k0_pay37 k0_pay4 (LW1 m c t) (iblk m c 4 t) (iblk m c 5 t)) (LK1 m c t)) (k0_pay44 k0_pay4 (k0_pay36 (LW1 m c t) (iblk m c 4 t) (iblk m c 5 t)) (k0_pay37 k0_pay4 (LW1 m c t) (iblk m c 4 t) (iblk m c 5 t)) (LQ1 m c t)) (k0_pay47 (F := Ideal) (LV1 m c t)) st (ix2 i w) = OTC (PF m c) (WF m c) (BF m c) (2 * t.val + 1) S 3 i w := by
  refine (out_1_3 _ _ _ _ _ i w).trans ?_
  rw [qef_1, kef_1, qinf_1, vf_1, show (fun w k => st (ix3 0 w k)) = S 3 from funext fun w => funext fun k => hS w k]
  rfl

end Cert.GlaProof

end
-- ==== Proof.GlaPoint.lean ====
/-
  THE KERNEL'S POINTS: the rows and the carried state of a grid point, from the state the point before left.
-/
module

public import proofs.«01_k».proof.Proof.GlaHalf
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaProof

open Cert.GlaIdeal Cert.GlaIdeal.Gen

variable (m : (ℓ : Loc nD τ sig) → Buf (Elt Ideal) ℓ)

theorem piece_ix (x : S1x512x256.Idx) : x = ix3 0 (x 1) (x 2) :=
  funext fun a => match a with
    | ⟨0, _⟩ => Subsingleton.elim (α := Fin 1) _ _
    | ⟨1, _⟩ => rfl
    | ⟨2, _⟩ => rfl

/-- The four heads side by side, at any column. -/
theorem cats_0 (a b c d : FVec Ideal S64x512 .f32) (T : Fin 4 → Fin 64 → Fin 512 → EReal) (ha : ∀ i w, a (ix2 i w) = T 0 i w) (hb : ∀ i w, b (ix2 i w) = T 1 i w) (hc : ∀ i w, c (ix2 i w) = T 2 i w) (hd : ∀ i w, d (ix2 i w) = T 3 i w)
    (i : Fin 64) (e : Fin 2048) : k0_pay33 a b c d (ix2 i e) = T ⟨e.val / 512, by omega⟩ i ⟨e.val % 512, by omega⟩ := by
  conv_lhs => rw [VC_split e]
  generalize (⟨e.val % 512, by omega⟩ : Fin 512) = w
  generalize (⟨e.val / 512, by omega⟩ : Fin 4) = h
  match h with
  | 0 => exact (cat_0_0 a b c d i w).trans (ha i w)
  | 1 => exact (cat_0_1 a b c d i w).trans (hb i w)
  | 2 => exact (cat_0_2 a b c d i w).trans (hc i w)
  | 3 => exact (cat_0_3 a b c d i w).trans (hd i w)

/-- The four heads side by side, at any column. -/
theorem cats_1 (a b c d : FVec Ideal S64x512 .f32) (T : Fin 4 → Fin 64 → Fin 512 → EReal) (ha : ∀ i w, a (ix2 i w) = T 0 i w) (hb : ∀ i w, b (ix2 i w) = T 1 i w) (hc : ∀ i w, c (ix2 i w) = T 2 i w) (hd : ∀ i w, d (ix2 i w) = T 3 i w)
    (i : Fin 64) (e : Fin 2048) : k0_pay1 a b c d (ix2 i e) = T ⟨e.val / 512, by omega⟩ i ⟨e.val % 512, by omega⟩ := by
  conv_lhs => rw [VC_split e]
  generalize (⟨e.val % 512, by omega⟩ : Fin 512) = w
  generalize (⟨e.val / 512, by omega⟩ : Fin 4) = h
  match h with
  | 0 => exact (cat_1_0 a b c d i w).trans (ha i w)
  | 1 => exact (cat_1_1 a b c d i w).trans (hb i w)
  | 2 => exact (cat_1_2 a b c d i w).trans (hc i w)
  | 3 => exact (cat_1_3 a b c d i w).trans (hd i w)

/-- What the first chunk leaves in head 0. -/
theorem mid_0 (c : Dev nD) (t : Fin cfg0.N) (st : FVec Ideal S1x512x256 .f32) (hS : ∀ w k, st (ix3 0 w k) = ST (PF m c) (WF m c) (BF m c) (2 * t.val) 0 w k) (w : Fin 512) (k : Fin 256) :
    k0_pay21 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st (ix3 0 w k) = ST (PF m c) (WF m c) (BF m c) (2 * t.val + 1) 0 w k := by
  rw [nxt_0_0 m c t st _ hS, ST_step _ _ _ _ (by omega)]
/-- What the point leaves in head 0. -/
theorem end_0 (c : Dev nD) (t : Fin cfg0.N) (st : FVec Ideal S1x512x256 .f32) (hS : ∀ w k, st (ix3 0 w k) = ST (PF m c) (WF m c) (BF m c) (2 * t.val) 0 w k) (w : Fin 512) (k : Fin 256) :
    k0_pay51 (k0_pay45 k0_pay4 (k0_pay36 (LW1 m c t) (iblk m c 4 t) (iblk m c 5 t)) (k0_pay37 k0_pay4 (LW1 m c t) (iblk m c 4 t) (iblk m c 5 t)) (LK1 m c t)) (k0_pay47 (F := Ideal) (LV1 m c t)) (k0_pay48 (k0_pay21 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st)) (k0_pay50 k0_pay4 (k0_pay36 (LW1 m c t) (iblk m c 4 t) (iblk m c 5 t)) (k0_pay37 k0_pay4 (LW1 m c t) (iblk m c 4 t) (iblk m c 5 t))) (ix3 0 w k) = NXT (PF m c) (WF m c) (BF m c) (2 * t.val + 1) (ST (PF m c) (WF m c) (BF m c) (2 * t.val + 1)) 0 w k :=
  nxt_1_0 m c t _ _ (fun w k => mid_0 m c t st hS w k) w k

/-- What the first chunk leaves in head 1. -/
theorem mid_1 (c : Dev nD) (t : Fin cfg0.N) (st : FVec Ideal S1x512x256 .f32) (hS : ∀ w k, st (ix3 0 w k) = ST (PF m c) (WF m c) (BF m c) (2 * t.val) 1 w k) (w : Fin 512) (k : Fin 256) :
    k0_pay25 (k0_pay24 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st) (ix3 0 w k) = ST (PF m c) (WF m c) (BF m c) (2 * t.val + 1) 1 w k := by
  rw [nxt_0_1 m c t st _ hS, ST_step _ _ _ _ (by omega)]
/-- What the point leaves in head 1. -/
theorem end_1 (c : Dev nD) (t : Fin cfg0.N) (st : FVec Ideal S1x512x256 .f32) (hS : ∀ w k, st (ix3 0 w k) = ST (PF m c) (WF m c) (BF m c) (2 * t.val) 1 w k) (w : Fin 512) (k : Fin 256) :
    k0_pay54 (k0_pay45 k0_pay4 (k0_pay36 (LW1 m c t) (iblk m c 4 t) (iblk m c 5 t)) (k0_pay37 k0_pay4 (LW1 m c t) (iblk m c 4 t) (iblk m c 5 t)) (LK1 m c t)) (k0_pay46 k0_pay4 (k0_pay36 (LW1 m c t) (iblk m c 4 t) (iblk m c 5 t)) (k0_pay37 k0_pay4 (LW1 m c t) (iblk m c 4 t) (iblk m c 5 t))) (k0_pay47 (F := Ideal) (LV1 m c t)) (k0_pay25 (k0_pay24 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st)) (ix3 0 w k) = NXT (PF m c) (WF m c) (BF m c) (2 * t.val + 1) (ST (PF m c) (WF m c) (BF m c) (2 * t.val + 1)) 1 w k :=
  nxt_1_1 m c t _ _ (fun w k => mid_1 m c t st hS w k) w k

/-- What the first chunk leaves in head 2. -/
theorem mid_2 (c : Dev nD) (t : Fin cfg0.N) (st : FVec Ideal S1x512x256 .f32) (hS : ∀ w k, st (ix3 0 w k) = ST (PF m c) (WF m c) (BF m c) (2 * t.val) 2 w k) (w : Fin 512) (k : Fin 256) :
    k0_pay28 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st (ix3 0 w k) = ST (PF m c) (WF m c) (BF m c) (2 * t.val + 1) 2 w k := by
  rw [nxt_0_2 m c t st _ hS, ST_step _ _ _ _ (by omega)]
/-- What the point leaves in head 2. -/
theorem end_2 (c : Dev nD) (t : Fin cfg0.N) (st : FVec Ideal S1x512x256 .f32) (hS : ∀ w k, st (ix3 0 w k) = ST (PF m c) (WF m c) (BF m c) (2 * t.val) 2 w k) (w : Fin 512) (k : Fin 256) :
    k0_pay58 (k0_pay45 k0_pay4 (k0_pay36 (LW1 m c t) (iblk m c 4 t) (iblk m c 5 t)) (k0_pay37 k0_pay4 (LW1 m c t) (iblk m c 4 t) (iblk m c 5 t)) (LK1 m c t)) (k0_pay46 k0_pay4 (k0_pay36 (LW1 m c t) (iblk m c 4 t) (iblk m c 5 t)) (k0_pay37 k0_pay4 (LW1 m c t) (iblk m c 4 t) (iblk m c 5 t))) (k0_pay47 (F := Ideal) (LV1 m c t)) (k0_pay28 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st) (ix3 0 w k) = NXT (PF m c) (WF m c) (BF m c) (2 * t.val + 1) (ST (PF m c) (WF m c) (BF m c) (2 * t.val + 1)) 2 w k :=
  nxt_1_2 m c t _ _ (fun w k => mid_2 m c t st hS w k) w k

/-- What the first chunk leaves in head 3. -/
theorem mid_3 (c : Dev nD) (t : Fin cfg0.N) (st : FVec Ideal S1x512x256 .f32) (hS : ∀ w k, st (ix3 0 w k) = ST (PF m c) (WF m c) (BF m c) (2 * t.val) 3 w k) (w : Fin 512) (k : Fin 256) :
    k0_pay32 (k0_pay15 k0_pay4 (k0_pay6 (LW0 m c t) (iblk m c 4 t) (iblk m c 5 t)) (k0_pay7 (LW0 m c t) (iblk m c 4 t) (iblk m c 5 t)) (LK0 m c t)) (k0_pay17 (F := Ideal) (LV0 m c t)) (k0_pay29 st) (k0_pay31 (k0_pay16 k0_pay4 (k0_pay6 (LW0 m c t) (iblk m c 4 t) (iblk m c 5 t)) (k0_pay7 (LW0 m c t) (iblk m c 4 t) (iblk m c 5 t)))) (ix3 0 w k) = ST (PF m c) (WF m c) (BF m c) (2 * t.val + 1) 3 w k := by
  rw [nxt_0_3 m c t st _ hS, ST_step _ _ _ _ (by omega)]
/-- What the point leaves in head 3. -/
theorem end_3 (c : Dev nD) (t : Fin cfg0.N) (st : FVec Ideal S1x512x256 .f32) (hS : ∀ w k, st (ix3 0 w k) = ST (PF m c) (WF m c) (BF m c) (2 * t.val) 3 w k) (w : Fin 512) (k : Fin 256) :
    k0_pay61 (k0_pay45 k0_pay4 (k0_pay36 (LW1 m c t) (iblk m c 4 t) (iblk m c 5 t)) (k0_pay37 k0_pay4 (LW1 m c t) (iblk m c 4 t) (iblk m c 5 t)) (LK1 m c t)) (k0_pay46 k0_pay4 (k0_pay36 (LW1 m c t) (iblk m c 4 t) (iblk m c 5 t)) (k0_pay37 k0_pay4 (LW1 m c t) (iblk m c 4 t) (iblk m c 5 t))) (k0_pay47 (F := Ideal) (LV1 m c t)) (k0_pay32 (k0_pay15 k0_pay4 (k0_pay6 (LW0 m c t) (iblk m c 4 t) (iblk m c 5 t)) (k0_pay7 (LW0 m c t) (iblk m c 4 t) (iblk m c 5 t)) (LK0 m c t)) (k0_pay17 (F := Ideal) (LV0 m c t)) (k0_pay29 st) (k0_pay31 (k0_pay16 k0_pay4 (k0_pay6 (LW0 m c t) (iblk m c 4 t) (iblk m c 5 t)) (k0_pay7 (LW0 m c t) (iblk m c 4 t) (iblk m c 5 t))))) (ix3 0 w k) = NXT (PF m c) (WF m c) (BF m c) (2 * t.val + 1) (ST (PF m c) (WF m c) (BF m c) (2 * t.val + 1)) 3 w k :=
  nxt_1_3 m c t _ _ (fun w k => mid_3 m c t st hS w k) w k

/-- The first 64 rows a point leaves. -/
theorem rows_0 (c : Dev nD) (t : Fin cfg0.N) (st0 : FVec Ideal S1x512x256 .f32) (st1 : FVec Ideal S1x512x256 .f32) (st2 : FVec Ideal S1x512x256 .f32) (st3 : FVec Ideal S1x512x256 .f32) (hS0 : ∀ w k, st0 (ix3 0 w k) = ST (PF m c) (WF m c) (BF m c) (2 * t.val) 0 w k) (hS1 : ∀ w k, st1 (ix3 0 w k) = ST (PF m c) (WF m c) (BF m c) (2 * t.val) 1 w k) (hS2 : ∀ w k, st2 (ix3 0 w k) = ST (PF m c) (WF m c) (BF m c) (2 * t.val) 2 w k) (hS3 : ∀ w k, st3 (ix3 0 w k) = ST (PF m c) (WF m c) (BF m c) (2 * t.val) 3 w k) (i : Fin 64) (e : Fin 2048) :
    k0_pay33 (k0_pay20 (k0_pay14 k0_pay4 (k0_pay6 (LW0 m c t) (iblk m c 4 t) (iblk m c 5 t)) (k0_pay7 (LW0 m c t) (iblk m c 4 t) (iblk m c 5 t)) (LQ0 m c t)) (k0_pay17 (F := Ideal) (LV0 m c t)) (k0_pay18 k0_pay3 k0_pay4 (k0_pay6 (LW0 m c t) (iblk m c 4 t) (iblk m c 5 t)) (k0_pay7 (LW0 m c t) (iblk m c 4 t) (iblk m c 5 t)) (LQ0 m c t) (LK0 m c t)) st0) (k0_pay23 k0_pay3 (k0_pay12 k0_pay4 (k0_pay6 (LW0 m c t) (iblk m c 4 t) (iblk m c 5 t)) (k0_pay7 (LW0 m c t) (iblk m c 4 t) (iblk m c 5 t)) (LQ0 m c t)) (k0_pay13 k0_pay4 (k0_pay6 (LW0 m c t) (iblk m c 4 t) (iblk m c 5 t)) (k0_pay7 (LW0 m c t) (iblk m c 4 t) (iblk m c 5 t)) (LK0 m c t)) (k0_pay14 k0_pay4 (k0_pay6 (LW0 m c t) (iblk m c 4 t) (iblk m c 5 t)) (k0_pay7 (LW0 m c t) (iblk m c 4 t) (iblk m c 5 t)) (LQ0 m c t)) (k0_pay17 (F := Ideal) (LV0 m c t)) st1) (k0_pay27 k0_pay3 (k0_pay12 k0_pay4 (k0_pay6 (LW0 m c t) (iblk m c 4 t) (iblk m c 5 t)) (k0_pay7 (LW0 m c t) (iblk m c 4 t) (iblk m c 5 t)) (LQ0 m c t)) (k0_pay13 k0_pay4 (k0_pay6 (LW0 m c t) (iblk m c 4 t) (iblk m c 5 t)) (k0_pay7 (LW0 m c t) (iblk m c 4 t) (iblk m c 5 t)) (LK0 m c t)) (k0_pay14 k0_pay4 (k0_pay6 (LW0 m c t) (iblk m c 4 t) (iblk m c 5 t)) (k0_pay7 (LW0 m c t) (iblk m c 4 t) (iblk m c 5 t)) (LQ0 m c t)) (k0_pay17 (F := Ideal) (LV0 m c t)) st2) (k0_pay30 k0_pay3 (k0_pay12 k0_pay4 (k0_pay6 (LW0 m c t) (iblk m c 4 t) (iblk m c 5 t)) (k0_pay7 (LW0 m c t) (iblk m c 4 t) (iblk m c 5 t)) (LQ0 m c t)) (k0_pay13 k0_pay4 (k0_pay6 (LW0 m c t) (iblk m c 4 t) (iblk m c 5 t)) (k0_pay7 (LW0 m c t) (iblk m c 4 t) (iblk m c 5 t)) (LK0 m c t)) (k0_pay14 k0_pay4 (k0_pay6 (LW0 m c t) (iblk m c 4 t) (iblk m c 5 t)) (k0_pay7 (LW0 m c t) (iblk m c 4 t) (iblk m c 5 t)) (LQ0 m c t)) (k0_pay17 (F := Ideal) (LV0 m c t)) st3) (ix2 i e) = OTC (PF m c) (WF m c) (BF m c) (2 * t.val) (ST (PF m c) (WF m c) (BF m c) (2 * t.val)) ⟨e.val / 512, by omega⟩ i ⟨e.val % 512, by omega⟩ :=
  cats_0 _ _ _ _ (OTC (PF m c) (WF m c) (BF m c) (2 * t.val) (ST (PF m c) (WF m c) (BF m c) (2 * t.val))) (oct_0_0 m c t st0 _ hS0) (oct_0_1 m c t st1 _ hS1) (oct_0_2 m c t st2 _ hS2) (oct_0_3 m c t st3 _ hS3) i e
/-- The last 64 rows a point leaves. -/
theorem rows_1 (c : Dev nD) (t : Fin cfg0.N) (st0 : FVec Ideal S1x512x256 .f32) (st1 : FVec Ideal S1x512x256 .f32) (st2 : FVec Ideal S1x512x256 .f32) (st3 : FVec Ideal S1x512x256 .f32) (hS0 : ∀ w k, st0 (ix3 0 w k) = ST (PF m c) (WF m c) (BF m c) (2 * t.val) 0 w k) (hS1 : ∀ w k, st1 (ix3 0 w k) = ST (PF m c) (WF m c) (BF m c) (2 * t.val) 1 w k) (hS2 : ∀ w k, st2 (ix3 0 w k) = ST (PF m c) (WF m c) (BF m c) (2 * t.val) 2 w k) (hS3 : ∀ w k, st3 (ix3 0 w k) = ST (PF m c) (WF m c) (BF m c) (2 * t.val) 3 w k) (i : Fin 64) (e : Fin 2048) :
    k0_pay1 (k0_pay49 k0_pay3 k0_pay4 (k0_pay36 (LW1 m c t) (iblk m c 4 t) (iblk m c 5 t)) (k0_pay37 k0_pay4 (LW1 m c t) (iblk m c 4 t) (iblk m c 5 t)) (LQ1 m c t) (LK1 m c t) (LV1 m c t) (k0_pay21 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st0)) (k0_pay53 k0_pay3 (k0_pay42 k0_pay4 (k0_pay36 (LW1 m c t) (iblk m c 4 t) (iblk m c 5 t)) (k0_pay37 k0_pay4 (LW1 m c t) (iblk m c 4 t) (iblk m c 5 t)) (LQ1 m c t)) (k0_pay43 k0_pay4 (k0_pay36 (LW1 m c t) (iblk m c 4 t) (iblk m c 5 t)) (k0_pay37 k0_pay4 (LW1 m c t) (iblk m c 4 t) (iblk m c 5 t)) (LK1 m c t)) (k0_pay44 k0_pay4 (k0_pay36 (LW1 m c t) (iblk m c 4 t) (iblk m c 5 t)) (k0_pay37 k0_pay4 (LW1 m c t) (iblk m c 4 t) (iblk m c 5 t)) (LQ1 m c t)) (k0_pay47 (F := Ideal) (LV1 m c t)) (k0_pay25 (k0_pay24 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st1))) (k0_pay57 (k0_pay44 k0_pay4 (k0_pay36 (LW1 m c t) (iblk m c 4 t) (iblk m c 5 t)) (k0_pay37 k0_pay4 (LW1 m c t) (iblk m c 4 t) (iblk m c 5 t)) (LQ1 m c t)) (k0_pay47 (F := Ideal) (LV1 m c t)) (k0_pay55 k0_pay3 (k0_pay42 k0_pay4 (k0_pay36 (LW1 m c t) (iblk m c 4 t) (iblk m c 5 t)) (k0_pay37 k0_pay4 (LW1 m c t) (iblk m c 4 t) (iblk m c 5 t)) (LQ1 m c t)) (k0_pay43 k0_pay4 (k0_pay36 (LW1 m c t) (iblk m c 4 t) (iblk m c 5 t)) (k0_pay37 k0_pay4 (LW1 m c t) (iblk m c 4 t) (iblk m c 5 t)) (LK1 m c t))) (k0_pay28 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st2)) (k0_pay60 k0_pay3 (k0_pay42 k0_pay4 (k0_pay36 (LW1 m c t) (iblk m c 4 t) (iblk m c 5 t)) (k0_pay37 k0_pay4 (LW1 m c t) (iblk m c 4 t) (iblk m c 5 t)) (LQ1 m c t)) (k0_pay43 k0_pay4 (k0_pay36 (LW1 m c t) (iblk m c 4 t) (iblk m c 5 t)) (k0_pay37 k0_pay4 (LW1 m c t) (iblk m c 4 t) (iblk m c 5 t)) (LK1 m c t)) (k0_pay44 k0_pay4 (k0_pay36 (LW1 m c t) (iblk m c 4 t) (iblk m c 5 t)) (k0_pay37 k0_pay4 (LW1 m c t) (iblk m c 4 t) (iblk m c 5 t)) (LQ1 m c t)) (k0_pay47 (F := Ideal) (LV1 m c t)) (k0_pay32 (k0_pay15 k0_pay4 (k0_pay6 (LW0 m c t) (iblk m c 4 t) (iblk m c 5 t)) (k0_pay7 (LW0 m c t) (iblk m c 4 t) (iblk m c 5 t)) (LK0 m c t)) (k0_pay17 (F := Ideal) (LV0 m c t)) (k0_pay29 st3) (k0_pay31 (k0_pay16 k0_pay4 (k0_pay6 (LW0 m c t) (iblk m c 4 t) (iblk m c 5 t)) (k0_pay7 (LW0 m c t) (iblk m c 4 t) (iblk m c 5 t)))))) (ix2 i e) = OTC (PF m c) (WF m c) (BF m c) (2 * t.val + 1) (ST (PF m c) (WF m c) (BF m c) (2 * t.val + 1)) ⟨e.val / 512, by omega⟩ i ⟨e.val % 512, by omega⟩ :=
  cats_1 _ _ _ _ (OTC (PF m c) (WF m c) (BF m c) (2 * t.val + 1) (ST (PF m c) (WF m c) (BF m c) (2 * t.val + 1))) (oct_1_0 m c t _ _ (fun w k => mid_0 m c t st0 hS0 w k)) (oct_1_1 m c t _ _ (fun w k => mid_1 m c t st1 hS1 w k)) (oct_1_2 m c t _ _ (fun w k => mid_2 m c t st2 hS2 w k)) (oct_1_3 m c t _ _ (fun w k => mid_3 m c t st3 hS3 w k)) i e

theorem emb_0 (w : Fin 512) (k : Fin 256) : (Rect.unit (s := S4x512x256) ![0, 0, 0] ![1, 512, 256] inb_S4x512x256_S1x512x256_0_0_0).emb (ix3 0 w k) = ix3 0 w k := by
  blk_ext
theorem mem_0 (w : Fin 512) (k : Fin 256) : (ix3 0 w k : S4x512x256.Idx) ∈ (Rect.unit (s := S4x512x256) ![0, 0, 0] ![1, 512, 256] inb_S4x512x256_S1x512x256_0_0_0).set :=
  Rect.mem_set_unit.2 fun a => match a with
    | ⟨0, _⟩ => ⟨Nat.le_refl 0, Nat.lt_succ_self 0⟩
    | ⟨1, _⟩ => ⟨Nat.zero_le _, (Nat.zero_add 512).symm ▸ w.isLt⟩
    | ⟨2, _⟩ => ⟨Nat.zero_le _, (Nat.zero_add 256).symm ▸ k.isLt⟩
theorem ld_0 (X : FVec Ideal S4x512x256 .f32) (w : Fin 512) (k : Fin 256) : View.ld (Val := Elt Ideal) (e' := .f32) (S := S4x512x256) X (Rect.unit ![0, 0, 0] ![1, 512, 256] inb_S4x512x256_S1x512x256_0_0_0) (ix3 (0 : Fin 1) w k) = X (ix3 0 w k) := by
  exact congrArg X (emb_0 w k)
theorem zero_0 (c : Dev nD) (t : Fin cfg0.N) (h0 : t.val % 32 = 0) (w : Fin 512) (k : Fin 256) :
    View.ld (Val := Elt Ideal) (e' := .f32) (S := S4x512x256) (k0_pay2 (F := Ideal)) (Rect.unit ![0, 0, 0] ![1, 512, 256] inb_S4x512x256_S1x512x256_0_0_0) (ix3 (0 : Fin 1) w k) = ST (PF m c) (WF m c) (BF m c) (2 * t.val) 0 w k := by
  rw [ST_reset _ _ _ _ (by omega)]
  refine (ld_0 _ w k).trans ?_
  pointwise [k0_pay2]

theorem emb_1 (w : Fin 512) (k : Fin 256) : (Rect.unit (s := S4x512x256) ![1, 0, 0] ![1, 512, 256] inb_S4x512x256_S1x512x256_1_0_0).emb (ix3 0 w k) = ix3 1 w k := by
  blk_ext
theorem mem_1 (w : Fin 512) (k : Fin 256) : (ix3 1 w k : S4x512x256.Idx) ∈ (Rect.unit (s := S4x512x256) ![1, 0, 0] ![1, 512, 256] inb_S4x512x256_S1x512x256_1_0_0).set :=
  Rect.mem_set_unit.2 fun a => match a with
    | ⟨0, _⟩ => ⟨Nat.le_refl 1, Nat.lt_succ_self 1⟩
    | ⟨1, _⟩ => ⟨Nat.zero_le _, (Nat.zero_add 512).symm ▸ w.isLt⟩
    | ⟨2, _⟩ => ⟨Nat.zero_le _, (Nat.zero_add 256).symm ▸ k.isLt⟩
theorem ld_1 (X : FVec Ideal S4x512x256 .f32) (w : Fin 512) (k : Fin 256) : View.ld (Val := Elt Ideal) (e' := .f32) (S := S4x512x256) X (Rect.unit ![1, 0, 0] ![1, 512, 256] inb_S4x512x256_S1x512x256_1_0_0) (ix3 (0 : Fin 1) w k) = X (ix3 1 w k) := by
  exact congrArg X (emb_1 w k)
theorem zero_1 (c : Dev nD) (t : Fin cfg0.N) (h0 : t.val % 32 = 0) (w : Fin 512) (k : Fin 256) :
    View.ld (Val := Elt Ideal) (e' := .f32) (S := S4x512x256) (k0_pay2 (F := Ideal)) (Rect.unit ![1, 0, 0] ![1, 512, 256] inb_S4x512x256_S1x512x256_1_0_0) (ix3 (0 : Fin 1) w k) = ST (PF m c) (WF m c) (BF m c) (2 * t.val) 1 w k := by
  rw [ST_reset _ _ _ _ (by omega)]
  refine (ld_1 _ w k).trans ?_
  pointwise [k0_pay2]

theorem emb_2 (w : Fin 512) (k : Fin 256) : (Rect.unit (s := S4x512x256) ![2, 0, 0] ![1, 512, 256] inb_S4x512x256_S1x512x256_2_0_0).emb (ix3 0 w k) = ix3 2 w k := by
  blk_ext
theorem mem_2 (w : Fin 512) (k : Fin 256) : (ix3 2 w k : S4x512x256.Idx) ∈ (Rect.unit (s := S4x512x256) ![2, 0, 0] ![1, 512, 256] inb_S4x512x256_S1x512x256_2_0_0).set :=
  Rect.mem_set_unit.2 fun a => match a with
    | ⟨0, _⟩ => ⟨Nat.le_refl 2, Nat.lt_succ_self 2⟩
    | ⟨1, _⟩ => ⟨Nat.zero_le _, (Nat.zero_add 512).symm ▸ w.isLt⟩
    | ⟨2, _⟩ => ⟨Nat.zero_le _, (Nat.zero_add 256).symm ▸ k.isLt⟩
theorem ld_2 (X : FVec Ideal S4x512x256 .f32) (w : Fin 512) (k : Fin 256) : View.ld (Val := Elt Ideal) (e' := .f32) (S := S4x512x256) X (Rect.unit ![2, 0, 0] ![1, 512, 256] inb_S4x512x256_S1x512x256_2_0_0) (ix3 (0 : Fin 1) w k) = X (ix3 2 w k) := by
  exact congrArg X (emb_2 w k)
theorem zero_2 (c : Dev nD) (t : Fin cfg0.N) (h0 : t.val % 32 = 0) (w : Fin 512) (k : Fin 256) :
    View.ld (Val := Elt Ideal) (e' := .f32) (S := S4x512x256) (k0_pay2 (F := Ideal)) (Rect.unit ![2, 0, 0] ![1, 512, 256] inb_S4x512x256_S1x512x256_2_0_0) (ix3 (0 : Fin 1) w k) = ST (PF m c) (WF m c) (BF m c) (2 * t.val) 2 w k := by
  rw [ST_reset _ _ _ _ (by omega)]
  refine (ld_2 _ w k).trans ?_
  pointwise [k0_pay2]

theorem emb_3 (w : Fin 512) (k : Fin 256) : (Rect.unit (s := S4x512x256) ![3, 0, 0] ![1, 512, 256] inb_S4x512x256_S1x512x256_3_0_0).emb (ix3 0 w k) = ix3 3 w k := by
  blk_ext
theorem mem_3 (w : Fin 512) (k : Fin 256) : (ix3 3 w k : S4x512x256.Idx) ∈ (Rect.unit (s := S4x512x256) ![3, 0, 0] ![1, 512, 256] inb_S4x512x256_S1x512x256_3_0_0).set :=
  Rect.mem_set_unit.2 fun a => match a with
    | ⟨0, _⟩ => ⟨Nat.le_refl 3, Nat.lt_succ_self 3⟩
    | ⟨1, _⟩ => ⟨Nat.zero_le _, (Nat.zero_add 512).symm ▸ w.isLt⟩
    | ⟨2, _⟩ => ⟨Nat.zero_le _, (Nat.zero_add 256).symm ▸ k.isLt⟩
theorem ld_3 (X : FVec Ideal S4x512x256 .f32) (w : Fin 512) (k : Fin 256) : View.ld (Val := Elt Ideal) (e' := .f32) (S := S4x512x256) X (Rect.unit ![3, 0, 0] ![1, 512, 256] inb_S4x512x256_S1x512x256_3_0_0) (ix3 (0 : Fin 1) w k) = X (ix3 3 w k) := by
  exact congrArg X (emb_3 w k)
theorem zero_3 (c : Dev nD) (t : Fin cfg0.N) (h0 : t.val % 32 = 0) (w : Fin 512) (k : Fin 256) :
    View.ld (Val := Elt Ideal) (e' := .f32) (S := S4x512x256) (k0_pay2 (F := Ideal)) (Rect.unit ![3, 0, 0] ![1, 512, 256] inb_S4x512x256_S1x512x256_3_0_0) (ix3 (0 : Fin 1) w k) = ST (PF m c) (WF m c) (BF m c) (2 * t.val) 3 w k := by
  rw [ST_reset _ _ _ _ (by omega)]
  refine (ld_3 _ w k).trans ?_
  pointwise [k0_pay2]

theorem out_A (c : Dev nD) (t : Fin cfg0.N) (h0 : t.val % 32 = 0) (y : S128x2048.Idx) (r : Fin 16384) (e : Fin 2048) (hr : r.val = t.val * 128 + (y 0).val) (he : e.val = (y 1).val) :
    (outsAt0 m c t.val t.isLt).1 y = SWEEP (PF m c) (WF m c) (BF m c) r e := by
  rw [outsAt0_A m c t h0]; dsimp only; frame_open
  simp (disch := decide) only [↓ View.readCov_skip, ↓ View.readCov_cons_toLoadRect, ↓ View.readCov_fill]
  frame_out
  try simp only [read_unread_whole]
  canon_tiles x hh
  · rw [eq_ix2 x]
    refine (rows_1 m c t _ _ _ _ (fun w k => zero_0 m c t h0 w k) (fun w k => zero_1 m c t h0 w k) (fun w k => zero_2 m c t h0 w k) (fun w k => zero_3 m c t h0 w k) (x 0) (x 1)).trans ?_
    unfold SWEEP
    rw [show r.val / 64 = 2 * t.val + 1 by omega]
    congr 1 <;> exact Fin.ext (by dsimp only; omega)
  · rw [eq_ix2 x]
    refine (rows_0 m c t _ _ _ _ (fun w k => zero_0 m c t h0 w k) (fun w k => zero_1 m c t h0 w k) (fun w k => zero_2 m c t h0 w k) (fun w k => zero_3 m c t h0 w k) (x 0) (x 1)).trans ?_
    unfold SWEEP
    rw [show r.val / 64 = 2 * t.val by omega]
    congr 1 <;> exact Fin.ext (by dsimp only; omega)

theorem sc_A (c : Dev nD) (t : Fin cfg0.N) (h0 : t.val % 32 = 0) (h : Fin 4) (w : Fin 512) (k : Fin 256) :
    (outsAt0 m c t.val t.isLt).2 (ix3 h w k) = NXT (PF m c) (WF m c) (BF m c) (2 * t.val + 1) (ST (PF m c) (WF m c) (BF m c) (2 * t.val + 1)) h w k := by
  rw [outsAt0_A m c t h0]; dsimp only; frame_open
  simp (disch := decide) only [↓ View.readCov_skip, ↓ View.readCov_cons_toLoadRect, ↓ View.readCov_fill]
  frame_out
  try simp only [read_unread_whole]
  refine View.canon_append_of_piecesOf (Val := Elt Ideal) (e := .f32) (fun z : S4x512x256.Idx => NXT (PF m c) (WF m c) (BF m c) (2 * t.val + 1) (ST (PF m c) (WF m c) (BF m c) (2 * t.val + 1)) (z 0) (z 1) (z 2)) _ [_, _, _, _] ⟨fun x => ?_, fun x => ?_, fun x => ?_, fun x => ?_, trivial⟩ _ ?_
  · rw [piece_ix x]
    refine (end_3 m c t _ (fun w k => zero_3 m c t h0 w k) (x 1) (x 2)).trans ?_
    exact congrArg (fun z : S4x512x256.Idx => NXT (PF m c) (WF m c) (BF m c) (2 * t.val + 1) (ST (PF m c) (WF m c) (BF m c) (2 * t.val + 1)) (z 0) (z 1) (z 2)) (emb_3 (x 1) (x 2)).symm
  · rw [piece_ix x]
    refine (end_2 m c t _ (fun w k => zero_2 m c t h0 w k) (x 1) (x 2)).trans ?_
    exact congrArg (fun z : S4x512x256.Idx => NXT (PF m c) (WF m c) (BF m c) (2 * t.val + 1) (ST (PF m c) (WF m c) (BF m c) (2 * t.val + 1)) (z 0) (z 1) (z 2)) (emb_2 (x 1) (x 2)).symm
  · rw [piece_ix x]
    refine (end_1 m c t _ (fun w k => zero_1 m c t h0 w k) (x 1) (x 2)).trans ?_
    exact congrArg (fun z : S4x512x256.Idx => NXT (PF m c) (WF m c) (BF m c) (2 * t.val + 1) (ST (PF m c) (WF m c) (BF m c) (2 * t.val + 1)) (z 0) (z 1) (z 2)) (emb_1 (x 1) (x 2)).symm
  · rw [piece_ix x]
    refine (end_0 m c t _ (fun w k => zero_0 m c t h0 w k) (x 1) (x 2)).trans ?_
    exact congrArg (fun z : S4x512x256.Idx => NXT (PF m c) (WF m c) (BF m c) (2 * t.val + 1) (ST (PF m c) (WF m c) (BF m c) (2 * t.val + 1)) (z 0) (z 1) (z 2)) (emb_0 (x 1) (x 2)).symm
  · match h with
    | 0 => exact ⟨_, List.mem_cons_of_mem _ (List.mem_cons_of_mem _ (List.mem_cons_of_mem _ List.mem_cons_self)), mem_0 w k⟩
    | 1 => exact ⟨_, List.mem_cons_of_mem _ (List.mem_cons_of_mem _ List.mem_cons_self), mem_1 w k⟩
    | 2 => exact ⟨_, List.mem_cons_of_mem _ List.mem_cons_self, mem_2 w k⟩
    | 3 => exact ⟨_, List.mem_cons_self, mem_3 w k⟩

theorem out_B (c : Dev nD) (t : Fin cfg0.N) (h0 : ¬t.val % 32 = 0) (ih : ∀ h w k, (outsAt0 m c (t.val - 1) (Nat.lt_of_le_of_lt (Nat.sub_le _ _) t.isLt)).2 (ix3 h w k) = ST (PF m c) (WF m c) (BF m c) (2 * t.val) h w k) (y : S128x2048.Idx) (r : Fin 16384) (e : Fin 2048) (hr : r.val = t.val * 128 + (y 0).val) (he : e.val = (y 1).val) :
    (outsAt0 m c t.val t.isLt).1 y = SWEEP (PF m c) (WF m c) (BF m c) r e := by
  rw [outsAt0_B m c t h0]; dsimp only; frame_open
  simp (disch := decide) only [↓ View.readCov_skip, ↓ View.readCov_cons_toLoadRect, ↓ View.readCov_fill]
  frame_out
  try simp only [read_unread_whole]
  canon_tiles x hh
  · rw [eq_ix2 x]
    refine (rows_1 m c t _ _ _ _ (fun w k => (ld_0 _ w k).trans (ih 0 w k)) (fun w k => (ld_1 _ w k).trans (ih 1 w k)) (fun w k => (ld_2 _ w k).trans (ih 2 w k)) (fun w k => (ld_3 _ w k).trans (ih 3 w k)) (x 0) (x 1)).trans ?_
    unfold SWEEP
    rw [show r.val / 64 = 2 * t.val + 1 by omega]
    congr 1 <;> exact Fin.ext (by dsimp only; omega)
  · rw [eq_ix2 x]
    refine (rows_0 m c t _ _ _ _ (fun w k => (ld_0 _ w k).trans (ih 0 w k)) (fun w k => (ld_1 _ w k).trans (ih 1 w k)) (fun w k => (ld_2 _ w k).trans (ih 2 w k)) (fun w k => (ld_3 _ w k).trans (ih 3 w k)) (x 0) (x 1)).trans ?_
    unfold SWEEP
    rw [show r.val / 64 = 2 * t.val by omega]
    congr 1 <;> exact Fin.ext (by dsimp only; omega)

theorem sc_B (c : Dev nD) (t : Fin cfg0.N) (h0 : ¬t.val % 32 = 0) (ih : ∀ h w k, (outsAt0 m c (t.val - 1) (Nat.lt_of_le_of_lt (Nat.sub_le _ _) t.isLt)).2 (ix3 h w k) = ST (PF m c) (WF m c) (BF m c) (2 * t.val) h w k) (h : Fin 4) (w : Fin 512) (k : Fin 256) :
    (outsAt0 m c t.val t.isLt).2 (ix3 h w k) = NXT (PF m c) (WF m c) (BF m c) (2 * t.val + 1) (ST (PF m c) (WF m c) (BF m c) (2 * t.val + 1)) h w k := by
  rw [outsAt0_B m c t h0]; dsimp only; frame_open
  simp (disch := decide) only [↓ View.readCov_skip, ↓ View.readCov_cons_toLoadRect, ↓ View.readCov_fill]
  frame_out
  try simp only [read_unread_whole]
  refine View.canon_append_of_piecesOf (Val := Elt Ideal) (e := .f32) (fun z : S4x512x256.Idx => NXT (PF m c) (WF m c) (BF m c) (2 * t.val + 1) (ST (PF m c) (WF m c) (BF m c) (2 * t.val + 1)) (z 0) (z 1) (z 2)) _ [_, _, _, _] ⟨fun x => ?_, fun x => ?_, fun x => ?_, fun x => ?_, trivial⟩ _ ?_
  · rw [piece_ix x]
    refine (end_3 m c t _ (fun w k => (ld_3 _ w k).trans (ih 3 w k)) (x 1) (x 2)).trans ?_
    exact congrArg (fun z : S4x512x256.Idx => NXT (PF m c) (WF m c) (BF m c) (2 * t.val + 1) (ST (PF m c) (WF m c) (BF m c) (2 * t.val + 1)) (z 0) (z 1) (z 2)) (emb_3 (x 1) (x 2)).symm
  · rw [piece_ix x]
    refine (end_2 m c t _ (fun w k => (ld_2 _ w k).trans (ih 2 w k)) (x 1) (x 2)).trans ?_
    exact congrArg (fun z : S4x512x256.Idx => NXT (PF m c) (WF m c) (BF m c) (2 * t.val + 1) (ST (PF m c) (WF m c) (BF m c) (2 * t.val + 1)) (z 0) (z 1) (z 2)) (emb_2 (x 1) (x 2)).symm
  · rw [piece_ix x]
    refine (end_1 m c t _ (fun w k => (ld_1 _ w k).trans (ih 1 w k)) (x 1) (x 2)).trans ?_
    exact congrArg (fun z : S4x512x256.Idx => NXT (PF m c) (WF m c) (BF m c) (2 * t.val + 1) (ST (PF m c) (WF m c) (BF m c) (2 * t.val + 1)) (z 0) (z 1) (z 2)) (emb_1 (x 1) (x 2)).symm
  · rw [piece_ix x]
    refine (end_0 m c t _ (fun w k => (ld_0 _ w k).trans (ih 0 w k)) (x 1) (x 2)).trans ?_
    exact congrArg (fun z : S4x512x256.Idx => NXT (PF m c) (WF m c) (BF m c) (2 * t.val + 1) (ST (PF m c) (WF m c) (BF m c) (2 * t.val + 1)) (z 0) (z 1) (z 2)) (emb_0 (x 1) (x 2)).symm
  · match h with
    | 0 => exact ⟨_, List.mem_cons_of_mem _ (List.mem_cons_of_mem _ (List.mem_cons_of_mem _ List.mem_cons_self)), mem_0 w k⟩
    | 1 => exact ⟨_, List.mem_cons_of_mem _ (List.mem_cons_of_mem _ List.mem_cons_self), mem_1 w k⟩
    | 2 => exact ⟨_, List.mem_cons_of_mem _ List.mem_cons_self, mem_2 w k⟩
    | 3 => exact ⟨_, List.mem_cons_self, mem_3 w k⟩

end Cert.GlaProof

end
-- ==== Proof.GlaFinal.lean ====
/-
  THE KERNEL'S RESULT: the state carried from point to point, each point's rows, and the array they fill.
-/
module

public import proofs.«01_k».proof.Proof.GlaPoint
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaProof

open Cert.GlaIdeal Cert.GlaIdeal.Gen

variable (m : (ℓ : Loc nD τ sig) → Buf (Elt Ideal) ℓ)

/-- The carried state after each point. -/
theorem carried (c : Dev nD) : ∀ (n : ℕ) (hn : n < cfg0.N) (h : Fin 4) (w : Fin 512) (k : Fin 256),
    (outsAt0 m c n hn).2 (ix3 h w k) = NXT (PF m c) (WF m c) (BF m c) (2 * n + 1) (ST (PF m c) (WF m c) (BF m c) (2 * n + 1)) h w k := by
  intro n
  induction n with
  | zero => exact fun hn h w k => sc_A m c ⟨0, hn⟩ rfl h w k
  | succ n ih =>
    intro hn h w k
    by_cases h0 : (n + 1) % 32 = 0
    · exact sc_A m c ⟨n + 1, hn⟩ h0 h w k
    · refine sc_B m c ⟨n + 1, hn⟩ h0 (fun h w k => (ih (Nat.lt_of_succ_lt hn) h w k).trans ?_) h w k
      exact congrFun (congrFun (congrFun (ST_step (PF m c) (WF m c) (BF m c) (2 * n + 1) (by omega)).symm h) w) k

/-- What each point leaves in the result's block. -/
theorem point (c : Dev nD) (t : Fin cfg0.N) (y : S128x2048.Idx) (r : Fin 16384) (e : Fin 2048) (hr : r.val = t.val * 128 + (y 0).val) (he : e.val = (y 1).val) :
    (outsAt0 m c t.val t.isLt).1 y = SWEEP (PF m c) (WF m c) (BF m c) r e := by
  by_cases h0 : t.val % 32 = 0
  · exact out_A m c t h0 y r e hr he
  · refine out_B m c t h0 (fun h w k => (carried m c (t.val - 1) _ h w k).trans ?_) y r e hr he
    rw [← ST_step (PF m c) (WF m c) (BF m c) (2 * (t.val - 1) + 1) (by omega), show 2 * (t.val - 1) + 1 + 1 = 2 * t.val by omega]

/-- The result the kernel leaves: the sweep of its arguments. -/
theorem final (c : Dev nD) : (dats m 0 c).arrAt 6 cfg0.N = fun z : S16384x2048.Idx => SWEEP (PF m c) (WF m c) (BF m c) (z 0) (z 1) :=
  (dats m 0 c).arrAt_eq_of_covers 6 _ (by decide +kernel) fun t hf y => by
    blk_simp
    rw [after0_6]
    exact point m c t y _ _ (by blk_simp [idx t]) (by blk_simp [idx t])

end Cert.GlaProof

end
-- ==== Proof.GlaRefA.lean ====
/-
  THE REFERENCE'S INPUTS: the slices of the projections, the gate's pre-activation, and their split into chunks.
-/
module

public import proofs.«01_k».proof.Proof.GlaChunk
public import proofs.«01_k».proof.Proof.Gen.GlaRefIdeal.Step
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaProof

open Cert.GlaRefIdeal Cert.GlaRefIdeal.Step

/-- Row `t` of batch `b`. -/
def RW (b : Fin 4) (t : Fin 4096) : Fin 16384 := ⟨b.val * 4096 + t.val, by omega⟩
/-- Row `i` of chunk `n`, within its batch. -/
def RT (n i : Fin 64) : Fin 4096 := ⟨n.val * 64 + i.val, by omega⟩

variable (a0 : FVec Ideal S16384x11776 .f32) (a1 : FVec Ideal S16x1024 .f32) (a2 : FVec Ideal S1024 .f32)

theorem a1_at (b : Fin 4) (t : Fin 4096) (h : Fin 4) (k : Fin 256) : A_main_v1 (F := Ideal) a0 a1 a2 (ix4 b t h k) = a0 (ix2 (RW b t) ⟨9216 + (HC h k).val, by omega⟩) := by
  pointwise [A_main_v1, A_main_v0, RW, HC]
theorem a3_at (b : Fin 4) (t : Fin 4096) (h : Fin 4) (k : Fin 256) : A_main_v3 (F := Ideal) a0 a1 a2 (ix4 b t h k) = a0 (ix2 (RW b t) ⟨9216 + (HC h k).val, by omega⟩) * Ideal.ofBits .f32 0x3D800000#32 := by
  refine (show _ = A_main_v1 (F := Ideal) a0 a1 a2 (ix4 b t h k) * Ideal.ofBits .f32 0x3D800000#32 by pointwise [A_main_v3, K_main_v2, K_main_cst]).trans ?_
  rw [a1_at]
theorem a5_at (b : Fin 4) (t : Fin 4096) (h : Fin 4) (k : Fin 256) : A_main_v5 (F := Ideal) a0 a1 a2 (ix4 b t h k) = a0 (ix2 (RW b t) ⟨10240 + (HC h k).val, by omega⟩) := by
  pointwise [A_main_v5, A_main_v4, RW, HC]
theorem a7_at (b : Fin 4) (t : Fin 4096) (h : Fin 4) (w : Fin 512) : A_main_v7 (F := Ideal) a0 a1 a2 (ix4 b t h w) = a0 (ix2 (RW b t) ⟨4096 + (VC h w).val, by omega⟩) := by
  pointwise [A_main_v7, A_main_v6, RW, VC]
theorem a9_at (b : Fin 4) (t : Fin 4096) (l : Fin 16) : A_main_v9 (F := Ideal) a0 a1 a2 (ix3 b t l) = a0 (ix2 (RW b t) ⟨11328 + l.val, by omega⟩) := by
  pointwise [A_main_v9, A_main_v8, RW]
theorem a10_at (b : Fin 4) (t : Fin 4096) (c : Fin 1024) : A_main_v10 (F := Ideal) a0 a1 a2 (ix3 b t c) = ∑ l : Fin 16, A_main_v9 (F := Ideal) a0 a1 a2 (ix3 b t l) * a1 (ix2 l c) := by
  pointwise [A_main_v10]
theorem a12_at (b : Fin 4) (t : Fin 4096) (c : Fin 1024) : A_main_v12 (F := Ideal) a0 a1 a2 (ix3 b t c) = a2 (ix1 c) := by
  pointwise [A_main_v12, A_main_v11]
/-- The gate's pre-activation. -/
theorem a13_at (b : Fin 4) (t : Fin 4096) (c : Fin 1024) : A_main_v13 (F := Ideal) a0 a1 a2 (ix3 b t c) = PRE (fun r c => a0 (ix2 r c)) (fun r c => a1 (ix2 r c)) (fun c => a2 (ix1 c)) (RW b t) c := by
  refine (show _ = A_main_v10 (F := Ideal) a0 a1 a2 (ix3 b t c) + A_main_v12 (F := Ideal) a0 a1 a2 (ix3 b t c) by pointwise [A_main_v13]).trans ?_
  rw [a10_at, a12_at]
  simp only [a9_at]
  rfl
theorem a20_at (b : Fin 4) (n i : Fin 64) (h : Fin 4) (k : Fin 256) : A_main_v20 (F := Ideal) a0 a1 a2 (ix5 b n i h k) = A_main_v3 (F := Ideal) a0 a1 a2 (ix4 b (RT n i) h k) := by
  pointwise [A_main_v20, RT]
theorem a21_at (b : Fin 4) (n i : Fin 64) (h : Fin 4) (k : Fin 256) : A_main_v21 (F := Ideal) a0 a1 a2 (ix5 b n i h k) = A_main_v5 (F := Ideal) a0 a1 a2 (ix4 b (RT n i) h k) := by
  pointwise [A_main_v21, RT]
theorem a22_at (b : Fin 4) (n i : Fin 64) (h : Fin 4) (w : Fin 512) : A_main_v22 (F := Ideal) a0 a1 a2 (ix5 b n i h w) = A_main_v7 (F := Ideal) a0 a1 a2 (ix4 b (RT n i) h w) := by
  pointwise [A_main_v22, RT]
theorem a23_at (b : Fin 4) (n i : Fin 64) (h : Fin 4) (k : Fin 256) : A_main_v23 (F := Ideal) a0 a1 a2 (ix5 b n i h k) = A_main_v18 (F := Ideal) a0 a1 a2 (ix3 b (RT n i) (HC h k)) := by
  refine (show _ = A_main_v19 (F := Ideal) a0 a1 a2 (ix4 b (RT n i) h k) by pointwise [A_main_v23, RT]).trans ?_
  pointwise [A_main_v19, RT, HC]

end Cert.GlaProof

end
-- ==== Proof.GlaRefB.lean ====
/-
  THE REFERENCE'S LOG-DECAY: the log-sigmoid of the pre-activation over 16.
-/
module

public import proofs.«01_k».proof.Proof.GlaRefA
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaProof

open Cert.GlaRefIdeal Cert.GlaRefIdeal.Step

variable (a0 : FVec Ideal S16384x11776 .f32) (a1 : FVec Ideal S16x1024 .f32) (a2 : FVec Ideal S1024 .f32)
theorem a14_at (b : Fin 4) (t : Fin 4096) (c : Fin 1024) : A_main_v14 (F := Ideal) a0 a1 a2 (ix3 b t c) = 0 - A_main_v13 (F := Ideal) a0 a1 a2 (ix3 b t c) := by
  refine (show _ = -(A_main_v13 (F := Ideal) a0 a1 a2 (ix3 b t c)) by pointwise [A_main_v14]).trans ?_
  exact (zero_sub _).symm
theorem s1_at (b : Fin 4) (t : Fin 4096) (c : Fin 1024) : A_main_call0_v1 (F := Ideal) a0 a1 a2 (ix3 b t c) = max (A_main_v14 (F := Ideal) a0 a1 a2 (ix3 b t c)) 0 := by
  pointwise [A_main_call0_v1, K_main_call0_v0, K_main_call0_cst]
theorem s3_at (b : Fin 4) (t : Fin 4096) (c : Fin 1024) : A_main_call0_v3 (F := Ideal) a0 a1 a2 (ix3 b t c) = A_main_v14 (F := Ideal) a0 a1 a2 (ix3 b t c) := by
  refine (show _ = A_main_v14 (F := Ideal) a0 a1 a2 (ix3 b t c) - 0 by pointwise [A_main_call0_v3, K_main_call0_v2, K_main_call0_cst]).trans ?_
  exact sub_zero _
theorem s7_at (b : Fin 4) (t : Fin 4096) (c : Fin 1024) : A_main_call0_v7 (F := Ideal) a0 a1 a2 (ix3 b t c) = max (A_main_v14 (F := Ideal) a0 a1 a2 (ix3 b t c)) (-(A_main_v14 (F := Ideal) a0 a1 a2 (ix3 b t c))) := by
  rw [← s3_at]
  exact (show _ = _ by rfl)
theorem s8_at (b : Fin 4) (t : Fin 4096) (c : Fin 1024) : A_main_call0_v8 (F := Ideal) a0 a1 a2 (ix3 b t c) = 0 - A_main_call0_v7 (F := Ideal) a0 a1 a2 (ix3 b t c) := by
  refine (show _ = -(A_main_call0_v7 (F := Ideal) a0 a1 a2 (ix3 b t c)) by pointwise [A_main_call0_v8]).trans ?_
  exact (zero_sub _).symm
theorem s10_at (b : Fin 4) (t : Fin 4096) (c : Fin 1024) : A_main_call0_v10 (F := Ideal) a0 a1 a2 (ix3 b t c) = Ideal.log1p (Ideal.exp (A_main_call0_v8 (F := Ideal) a0 a1 a2 (ix3 b t c))) := by
  pointwise [A_main_call0_v10, A_main_call0_v9]
theorem s11_at (b : Fin 4) (t : Fin 4096) (c : Fin 1024) : A_main_call0_v11 (F := Ideal) a0 a1 a2 (ix3 b t c) = A_main_call0_v1 (F := Ideal) a0 a1 a2 (ix3 b t c) + A_main_call0_v10 (F := Ideal) a0 a1 a2 (ix3 b t c) := by
  pointwise [A_main_call0_v11]
/-- No number differs from itself, so the softplus keeps its second branch. -/
theorem s15_at (b : Fin 4) (t : Fin 4096) (c : Fin 1024) : A_main_v15 (F := Ideal) a0 a1 a2 (ix3 b t c) = A_main_call0_v11 (F := Ideal) a0 a1 a2 (ix3 b t c) := by
  refine (show _ = if A_main_call0_v3 (F := Ideal) a0 a1 a2 (ix3 b t c) ≠ A_main_call0_v3 (F := Ideal) a0 a1 a2 (ix3 b t c) then A_main_call0_v6 (F := Ideal) a0 a1 a2 (ix3 b t c) else A_main_call0_v11 (F := Ideal) a0 a1 a2 (ix3 b t c) by pointwise [A_main_v15, A_main_call0_v4]).trans ?_
  exact if_neg fun hne => hne rfl
theorem s18_at (b : Fin 4) (t : Fin 4096) (c : Fin 1024) : A_main_v18 (F := Ideal) a0 a1 a2 (ix3 b t c) = Ideal.div (0 - A_main_v15 (F := Ideal) a0 a1 a2 (ix3 b t c)) (Ideal.ofBits .f32 0x41800000#32) := by
  refine (show _ = Ideal.div (-(A_main_v15 (F := Ideal) a0 a1 a2 (ix3 b t c))) (Ideal.ofBits .f32 0x41800000#32) by pointwise [A_main_v18, A_main_v16, K_main_v17, K_main_cst_0]).trans ?_
  exact congrArg (fun z => Ideal.div z _) (zero_sub _).symm
/-- The log-decay. -/
theorem gks_at (b : Fin 4) (t : Fin 4096) (c : Fin 1024) : A_main_v18 (F := Ideal) a0 a1 a2 (ix3 b t c) = GKS (PRE (fun r c => a0 (ix2 r c)) (fun r c => a1 (ix2 r c)) (fun c => a2 (ix1 c)) (RW b t) c) := by
  rw [s18_at, s15_at, s11_at, s10_at, s8_at, s7_at, s1_at, a14_at, a13_at]
  rfl

end Cert.GlaProof

end
-- ==== Proof.GlaRefC.lean ====
/-
  RUNNING SUMS DOWN EACH CHUNK, on the reference's side.
-/
module

public import proofs.«01_k».proof.Proof.GlaRefB
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaProof

open Cert.GlaRefIdeal Cert.GlaRefIdeal.Step

/-- The window of one column of 64 rows. -/
abbrev W5 : Shape := ⟨5, ![1, 1, 64, 1, 1]⟩
theorem w5_numel : W5.numel = 64 := by decide
theorem w5_lt (n : Fin W5.numel) : n.val < 64 := lt_of_lt_of_eq n.isLt w5_numel
theorem w5_one0 (p : W5.Idx) : (p 0).val = 0 := Nat.lt_one_iff.1 (p 0).isLt
theorem w5_one1 (p : W5.Idx) : (p 1).val = 0 := Nat.lt_one_iff.1 (p 1).isLt
theorem w5_one3 (p : W5.Idx) : (p 3).val = 0 := Nat.lt_one_iff.1 (p 3).isLt
theorem w5_one4 (p : W5.Idx) : (p 4).val = 0 := Nat.lt_one_iff.1 (p 4).isLt
/-- Position `n` of the window is its row `n`. -/
theorem w5_row (n : Fin W5.numel) : (W5.rowMajor.symm n 2).val = n.val := by
  have e : (W5.rowMajor (W5.rowMajor.symm n)).val = n.val := congrArg Fin.val (Equiv.apply_symm_apply _ _)
  have f := (Shape.rowMajor_val_five (W5.rowMajor.symm n)).symm.trans e
  have h0 := w5_one0 (W5.rowMajor.symm n)
  have h1 := w5_one1 (W5.rowMajor.symm n)
  have h3 := w5_one3 (W5.rowMajor.symm n)
  have h4 := w5_one4 (W5.rowMajor.symm n)
  change (((((W5.rowMajor.symm n 0).val * 1 + (W5.rowMajor.symm n 1).val) * 64 + (W5.rowMajor.symm n 2).val) * 1 + (W5.rowMajor.symm n 3).val) * 1 + (W5.rowMajor.symm n 4).val) = n.val at f
  omega

/-- Adding up a list's values from a start value. -/
theorem foldl_plus (g : Fin W5.numel → EReal) (l : List (Fin W5.numel)) (v : EReal) : l.foldl (fun r n => r + g n) v = v + (l.map g).sum := by
  induction l generalizing v with
  | nil => simp
  | cons a l ih => simp [ih, add_assoc]

/-- The 64 entries a window ending at row `i` covers, those above the chunk counted as zero, are the chunk's first `i + 1` rows. -/
theorem window_sum (g : Fin 64 → EReal) (i : Fin 64) :
    (∑ n : Fin W5.numel, if h : 63 ≤ i.val + n.val then g ⟨i.val + n.val - 63, by have := w5_lt n; omega⟩ else 0) = CUM g i := by
  unfold CUM
  have e : ∀ n : Fin W5.numel, (if h : 63 ≤ i.val + n.val then g ⟨i.val + n.val - 63, by have := w5_lt n; omega⟩ else 0)
      = if 63 ≤ i.val + n.val then g ⟨(i.val + n.val - 63) % 64, Nat.mod_lt _ (by omega)⟩ else 0 := fun n => by
    have := w5_lt n
    split
    · exact congrArg g (Fin.ext (by show _ = _ % 64; rw [Nat.mod_eq_of_lt (by omega)]))
    · rfl
  rw [Finset.sum_congr rfl fun n _ => e n, ← Finset.sum_filter, ← Finset.sum_filter]
  refine Finset.sum_nbij' (fun n => ⟨(i.val + n.val - 63) % 64, Nat.mod_lt _ (by omega)⟩) (fun j => ⟨(j.val + 63 - i.val) % 64, by rw [w5_numel]; exact Nat.mod_lt _ (by omega)⟩) ?_ ?_ ?_ ?_ ?_
  · intro n hn
    have := w5_lt n
    rw [Finset.mem_filter] at hn ⊢
    refine ⟨Finset.mem_univ _, ?_⟩
    show (i.val + n.val - 63) % 64 ≤ i.val
    omega
  · intro j hj
    rw [Finset.mem_filter] at hj ⊢
    have h2 := hj.2
    refine ⟨Finset.mem_univ _, ?_⟩
    show 63 ≤ i.val + (j.val + 63 - i.val) % 64
    omega
  · intro n hn
    have := w5_lt n
    rw [Finset.mem_filter] at hn
    have h2 := hn.2
    refine Fin.ext ?_
    show ((i.val + n.val - 63) % 64 + 63 - i.val) % 64 = n.val
    omega
  · intro j hj
    rw [Finset.mem_filter] at hj
    have h2 := hj.2
    refine Fin.ext ?_
    show (i.val + (j.val + 63 - i.val) % 64 - 63) % 64 = j.val
    omega
  · intro n hn
    rfl

/-- The running sums of the log-decays down each chunk. -/
theorem window_at (x : FVec Ideal S4x64x64x4x256 .f32) (z : FVec Ideal S_ .f32) (hz : ∀ q, z q = 0)
    (hw : S4x64x64x4x256.ReduceWindows (![1, 1, 64, 1, 1] : Fin 5 → Nat) ![1, 1, 1, 1, 1] ![0, 0, 63, 0, 0] ![0, 0, 0, 0, 0] S4x64x64x4x256) (hu : 0 < S_.numel)
    (b : Fin 4) (n i : Fin 64) (h : Fin 4) (k : Fin 256) :
    Host.reduceWindowAdd (F := Ideal) ![1, 1, 64, 1, 1] ![1, 1, 1, 1, 1] ![0, 0, 63, 0, 0] ![0, 0, 0, 0, 0] x z hw hu (ix5 b n i h k) = CUM (fun j => x (ix5 b n j h k)) i := by
  have hv : z (Shape.Idx.first hu) = 0 := hz _
  let G : Fin W5.numel → EReal := fun q => if hc : 63 ≤ i.val + q.val then x (ix5 b n ⟨i.val + q.val - 63, by have := w5_lt q; omega⟩ h k) else 0
  refine Eq.trans ?_ ((foldl_plus G (List.finRange W5.numel) 0).trans ((zero_add _).trans ((Fin.sum_univ_def G).symm.trans (window_sum (fun j => x (ix5 b n j h k)) i))))
  show Ideal.hostReduceWindowAdd _ _ _ _ hw x (z (Shape.Idx.first hu)) (ix5 b n i h k) = _
  rw [hv]
  unfold Ideal.hostReduceWindowAdd Host.reduceWindow
  have hf : ∀ (f g : EReal → Fin W5.numel → EReal), (∀ r q, f r q = g r q) → List.foldl f 0 (List.finRange W5.numel) = List.foldl g 0 (List.finRange W5.numel) := fun f g hfg => by
    rw [funext fun r => funext fun q => hfg r q]
  refine hf _ _ fun r q => ?_
  refine congrArg (r + ·) ?_
  show _ = if hc : 63 ≤ i.val + q.val then x (ix5 b n ⟨i.val + q.val - 63, by have := w5_lt q; omega⟩ h k) else 0
  have hq := w5_lt q
  have h0 := w5_one0 (W5.rowMajor.symm q)
  have h1 := w5_one1 (W5.rowMajor.symm q)
  have h2 := w5_row q
  have h3 := w5_one3 (W5.rowMajor.symm q)
  have h4 := w5_one4 (W5.rowMajor.symm q)
  by_cases hc : 63 ≤ i.val + q.val
  · rw [dif_pos hc]
    refine (dif_pos fun a => ?_).trans (congrArg x (funext fun a => Fin.ext ?_))
    · match a with
      | ⟨0, _⟩ => show 0 ≤ b.val * 1 + (W5.rowMajor.symm q 0).val ∧ b.val * 1 + (W5.rowMajor.symm q 0).val - 0 < 4; omega
      | ⟨1, _⟩ => show 0 ≤ n.val * 1 + (W5.rowMajor.symm q 1).val ∧ n.val * 1 + (W5.rowMajor.symm q 1).val - 0 < 64; omega
      | ⟨2, _⟩ => show 63 ≤ i.val * 1 + (W5.rowMajor.symm q 2).val ∧ i.val * 1 + (W5.rowMajor.symm q 2).val - 63 < 64; omega
      | ⟨3, _⟩ => show 0 ≤ h.val * 1 + (W5.rowMajor.symm q 3).val ∧ h.val * 1 + (W5.rowMajor.symm q 3).val - 0 < 4; omega
      | ⟨4, _⟩ => show 0 ≤ k.val * 1 + (W5.rowMajor.symm q 4).val ∧ k.val * 1 + (W5.rowMajor.symm q 4).val - 0 < 256; omega
    · match a with
      | ⟨0, _⟩ => show b.val * 1 + (W5.rowMajor.symm q 0).val - 0 = b.val; omega
      | ⟨1, _⟩ => show n.val * 1 + (W5.rowMajor.symm q 1).val - 0 = n.val; omega
      | ⟨2, _⟩ => show i.val * 1 + (W5.rowMajor.symm q 2).val - 63 = i.val + q.val - 63; omega
      | ⟨3, _⟩ => show h.val * 1 + (W5.rowMajor.symm q 3).val - 0 = h.val; omega
      | ⟨4, _⟩ => show k.val * 1 + (W5.rowMajor.symm q 4).val - 0 = k.val; omega
  · rw [dif_neg hc]
    refine dif_neg fun hin => hc ?_
    have h5 := (hin 2).1
    change 63 ≤ i.val * 1 + (W5.rowMajor.symm q 2).val at h5
    omega

end Cert.GlaProof

end
-- ==== Proof.GlaRefD.lean ====
/-
  THE REFERENCE'S CHUNK OPERANDS: the decayed queries and keys of every chunk.
-/
module

public import proofs.«01_k».proof.Proof.GlaRefC
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaProof

open Cert.GlaRefIdeal Cert.GlaRefIdeal.Step

variable (a0 : FVec Ideal S16384x11776 .f32) (a1 : FVec Ideal S16x1024 .f32) (a2 : FVec Ideal S1024 .f32)
/-- The number of chunk `n` of batch `b` among all 256. -/
def CH (b : Fin 4) (n : Fin 64) : ℕ := b.val * 64 + n.val
theorem row_ch (b : Fin 4) (n i : Fin 64) : RW b (RT n i) = ROW (CH b n) i := by
  refine Fin.ext ?_
  show b.val * 4096 + (n.val * 64 + i.val) = (64 * (b.val * 64 + n.val) + i.val) % 16384
  omega

/-- The running sum of the log-decays. -/
theorem a24_at (b : Fin 4) (n i : Fin 64) (h : Fin 4) (k : Fin 256) : A_main_v24 (F := Ideal) a0 a1 a2 (ix5 b n i h k) = GC (fun r c => a0 (ix2 r c)) (fun r c => a1 (ix2 r c)) (fun c => a2 (ix1 c)) (CH b n) i (HC h k) := by
  unfold A_main_v24
  refine (window_at _ _ (fun q => (show _ = (0 : EReal) by pointwise [K_main_call1_call0_v0, K_main_call1_call0_cst])) _ _ b n i h k).trans ?_
  unfold GC
  refine congrArg (fun f => CUM f i) (funext fun j => ?_)
  rw [a23_at, gks_at, row_ch]
theorem a26_at (b : Fin 4) (n i : Fin 64) (h : Fin 4) (k : Fin 256) : A_main_v26 (F := Ideal) a0 a1 a2 (ix5 b n i h k) = A_main_v24 (F := Ideal) a0 a1 a2 (ix5 b n 31 h k) := by
  pointwise [A_main_v26, A_main_v25]
theorem a30_at (b : Fin 4) (n i : Fin 64) (h : Fin 4) (k : Fin 256) : A_main_v30 (F := Ideal) a0 a1 a2 (ix5 b n i h k) = A_main_v24 (F := Ideal) a0 a1 a2 (ix5 b n 31 h k) := by
  pointwise [A_main_v30, A_main_v25]
theorem a43_at (b : Fin 4) (n i : Fin 64) (h : Fin 4) (k : Fin 256) : A_main_v43 (F := Ideal) a0 a1 a2 (ix5 b n i h k) = A_main_v24 (F := Ideal) a0 a1 a2 (ix5 b n 63 h k) := by
  pointwise [A_main_v43, A_main_v42]
theorem a28_at (b : Fin 4) (n i : Fin 64) (h : Fin 4) (k : Fin 256) : A_main_v28 (F := Ideal) a0 a1 a2 (ix5 b n i h k) = Ideal.exp (A_main_v24 (F := Ideal) a0 a1 a2 (ix5 b n i h k) - A_main_v26 (F := Ideal) a0 a1 a2 (ix5 b n i h k)) := by
  pointwise [A_main_v28, A_main_v27]
theorem a32_at (b : Fin 4) (n i : Fin 64) (h : Fin 4) (k : Fin 256) : A_main_v32 (F := Ideal) a0 a1 a2 (ix5 b n i h k) = Ideal.exp (A_main_v30 (F := Ideal) a0 a1 a2 (ix5 b n i h k) - A_main_v24 (F := Ideal) a0 a1 a2 (ix5 b n i h k)) := by
  pointwise [A_main_v32, A_main_v31]
theorem a45_at (b : Fin 4) (n i : Fin 64) (h : Fin 4) (k : Fin 256) : A_main_v45 (F := Ideal) a0 a1 a2 (ix5 b n i h k) = Ideal.exp (A_main_v43 (F := Ideal) a0 a1 a2 (ix5 b n i h k) - A_main_v24 (F := Ideal) a0 a1 a2 (ix5 b n i h k)) := by
  pointwise [A_main_v45, A_main_v44]
theorem a40_at (b : Fin 4) (n i : Fin 64) (h : Fin 4) (k : Fin 256) : A_main_v40 (F := Ideal) a0 a1 a2 (ix5 b n i h k) = Ideal.exp (A_main_v24 (F := Ideal) a0 a1 a2 (ix5 b n i h k)) := by
  pointwise [A_main_v40]
theorem m29_at (b : Fin 4) (n i : Fin 64) (h : Fin 4) (k : Fin 256) : A_main_v29 (F := Ideal) a0 a1 a2 (ix5 b n i h k) = A_main_v20 (F := Ideal) a0 a1 a2 (ix5 b n i h k) * A_main_v28 (F := Ideal) a0 a1 a2 (ix5 b n i h k) := by
  pointwise [A_main_v29]
theorem m33_at (b : Fin 4) (n i : Fin 64) (h : Fin 4) (k : Fin 256) : A_main_v33 (F := Ideal) a0 a1 a2 (ix5 b n i h k) = A_main_v21 (F := Ideal) a0 a1 a2 (ix5 b n i h k) * A_main_v32 (F := Ideal) a0 a1 a2 (ix5 b n i h k) := by
  pointwise [A_main_v33]
theorem m41_at (b : Fin 4) (n i : Fin 64) (h : Fin 4) (k : Fin 256) : A_main_v41 (F := Ideal) a0 a1 a2 (ix5 b n i h k) = A_main_v20 (F := Ideal) a0 a1 a2 (ix5 b n i h k) * A_main_v40 (F := Ideal) a0 a1 a2 (ix5 b n i h k) := by
  pointwise [A_main_v41]
theorem m46_at (b : Fin 4) (n i : Fin 64) (h : Fin 4) (k : Fin 256) : A_main_v46 (F := Ideal) a0 a1 a2 (ix5 b n i h k) = A_main_v21 (F := Ideal) a0 a1 a2 (ix5 b n i h k) * A_main_v45 (F := Ideal) a0 a1 a2 (ix5 b n i h k) := by
  pointwise [A_main_v46]

theorem a29_at (b : Fin 4) (n i : Fin 64) (h : Fin 4) (k : Fin 256) : A_main_v29 (F := Ideal) a0 a1 a2 (ix5 b n i h k) = QE (fun r c => a0 (ix2 r c)) (fun r c => a1 (ix2 r c)) (fun c => a2 (ix1 c)) (CH b n) i (HC h k) := by
  rw [m29_at, a20_at, a3_at, a28_at, a26_at, a24_at, a24_at, row_ch]
  rfl
theorem a33_at (b : Fin 4) (n i : Fin 64) (h : Fin 4) (k : Fin 256) : A_main_v33 (F := Ideal) a0 a1 a2 (ix5 b n i h k) = KE (fun r c => a0 (ix2 r c)) (fun r c => a1 (ix2 r c)) (fun c => a2 (ix1 c)) (CH b n) i (HC h k) := by
  rw [m33_at, a21_at, a5_at, a32_at, a30_at, a24_at, a24_at, row_ch]
  rfl
theorem a41_at (b : Fin 4) (n i : Fin 64) (h : Fin 4) (k : Fin 256) : A_main_v41 (F := Ideal) a0 a1 a2 (ix5 b n i h k) = QIN (fun r c => a0 (ix2 r c)) (fun r c => a1 (ix2 r c)) (fun c => a2 (ix1 c)) (CH b n) i (HC h k) := by
  rw [m41_at, a20_at, a3_at, a40_at, a24_at, row_ch]
  rfl
theorem a46_at (b : Fin 4) (n i : Fin 64) (h : Fin 4) (k : Fin 256) : A_main_v46 (F := Ideal) a0 a1 a2 (ix5 b n i h k) = KEND (fun r c => a0 (ix2 r c)) (fun r c => a1 (ix2 r c)) (fun c => a2 (ix1 c)) (CH b n) i (HC h k) := by
  rw [m46_at, a21_at, a5_at, a45_at, a43_at, a24_at, a24_at, row_ch]
  rfl
theorem a22v_at (b : Fin 4) (n i : Fin 64) (h : Fin 4) (w : Fin 512) : A_main_v22 (F := Ideal) a0 a1 a2 (ix5 b n i h w) = VV (fun r c => a0 (ix2 r c)) (CH b n) i (VC h w) := by
  rw [a22_at, a7_at, row_ch]
  rfl
theorem a49_at (b : Fin 4) (n : Fin 64) (h : Fin 4) (k : Fin 256) : A_main_v49 (F := Ideal) a0 a1 a2 (ix4 b n h k) = DEC (fun r c => a0 (ix2 r c)) (fun r c => a1 (ix2 r c)) (fun c => a2 (ix1 c)) (CH b n) (HC h k) := by
  refine (show _ = Ideal.exp (A_main_v48 (F := Ideal) a0 a1 a2 (ix4 b n h k)) by pointwise [A_main_v49]).trans ?_
  refine (congrArg Ideal.exp (show A_main_v48 (F := Ideal) a0 a1 a2 (ix4 b n h k) = A_main_v24 (F := Ideal) a0 a1 a2 (ix5 b n 63 h k) by pointwise [A_main_v48, A_main_v47])).trans ?_
  rw [a24_at]
  rfl

end Cert.GlaProof

end
-- ==== Proof.GlaRefE.lean ====
/-
  THE REFERENCE'S PART OF A CHUNK WITHIN ITSELF.
-/
module

public import proofs.«01_k».proof.Proof.GlaRefD
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaProof

open Cert.GlaRefIdeal Cert.GlaRefIdeal.Step

variable (a0 : FVec Ideal S16384x11776 .f32) (a1 : FVec Ideal S16x1024 .f32) (a2 : FVec Ideal S1024 .f32)
theorem a34_at (b : Fin 4) (n : Fin 64) (h : Fin 4) (i j : Fin 64) : A_main_v34 (F := Ideal) a0 a1 a2 (ix5 b n h i j) = ∑ k : Fin 256, A_main_v29 (F := Ideal) a0 a1 a2 (ix5 b n i h k) * A_main_v33 (F := Ideal) a0 a1 a2 (ix5 b n j h k) := by
  pointwise [A_main_v34]
theorem a38_at (b : Fin 4) (n : Fin 64) (h : Fin 4) (w : Fin 512) (i : Fin 64) : A_main_v38 (F := Ideal) a0 a1 a2 (ix5 b n h w i) = ∑ j : Fin 64, A_main_v22 (F := Ideal) a0 a1 a2 (ix5 b n j h w) * A_main_v37 (F := Ideal) a0 a1 a2 (ix5 b n h i j) := by
  pointwise [A_main_v38]
theorem a39_at (b : Fin 4) (n i : Fin 64) (h : Fin 4) (w : Fin 512) : A_main_v39 (F := Ideal) a0 a1 a2 (ix5 b n i h w) = A_main_v38 (F := Ideal) a0 a1 a2 (ix5 b n h w i) := by
  pointwise [A_main_v39]
/-- The causal mask: row `i` sees row `j` where `j ≤ i`. -/
theorem causal_at (i j : Fin 64) : K_main_v36 (F := Ideal) (ix2 i j) = if j.val ≤ i.val then 1#1 else 0#1 := by
  revert i j
  decide +kernel
theorem a37_at (b : Fin 4) (n : Fin 64) (h : Fin 4) (i j : Fin 64) : A_main_v37 (F := Ideal) a0 a1 a2 (ix5 b n h i j) = if j.val ≤ i.val then A_main_v34 (F := Ideal) a0 a1 a2 (ix5 b n h i j) else 0 := by
  refine (show _ = Scalar.select (K_main_v36 (F := Ideal) (ix2 i j)) (A_main_v34 (F := Ideal) a0 a1 a2 (ix5 b n h i j)) 0 by pointwise [A_main_v37, K_main_call3_v1, K_main_call3_v2, K_main_call3_v0, K_main_cst_1, id]).trans ?_
  rw [causal_at]
  split <;> rfl

end Cert.GlaProof

end
-- ==== Proof.GlaRefF.lean ====
/-
  ONE TRIP OF THE REFERENCE'S LOOP, entry by entry.
-/
module

public import proofs.«01_k».proof.Proof.GlaRefE
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaProof

open Cert.GlaRefIdeal Cert.GlaRefIdeal.Step

/-- A trip's number is where its slices start. -/
theorem start_at : ∀ j : Fin 64, (min (max (BitVec.toInt (BitVec.ofNat 32 j.val)) 0) ((64 - 1 : Nat) : Int)).toNat = j.val := by decide
/-- The other starts are zero. -/
theorem start_zero (d : Int) (h : d = 0) : (min (max (BitVec.toInt (0#32 : BitVec 32)) 0) d).toNat = 0 := by subst h; decide

theorem b4_at (j : Fin 64) (s : State Ideal) (b : Fin 4) (i : Fin 64) (h : Fin 4) (k : Fin 512) : b4 j.val s (ix5 (0 : Fin 1) b i h k) = s.main_v57_0 (ix5 j b i h k) := by
  unfold b4 Host.dynamicSlice extractStridedSlice
  refine congrArg s.main_v57_0 (funext fun a => Fin.ext ?_)
  match a with
  | ⟨0, _⟩ => show (min (max (BitVec.toInt (BitVec.ofNat 32 j.val)) 0) ((64 - 1 : Nat) : Int)).toNat + 0 = j.val; rw [start_at, Nat.add_zero]
  | ⟨1, _⟩ => show (min (max (BitVec.toInt (0#32 : BitVec 32)) 0) ((4 - 4 : Nat) : Int)).toNat + b.val = b.val; rw [start_zero _ (by rfl), Nat.zero_add]
  | ⟨2, _⟩ => show (min (max (BitVec.toInt (0#32 : BitVec 32)) 0) ((64 - 64 : Nat) : Int)).toNat + i.val = i.val; rw [start_zero _ (by rfl), Nat.zero_add]
  | ⟨3, _⟩ => show (min (max (BitVec.toInt (0#32 : BitVec 32)) 0) ((4 - 4 : Nat) : Int)).toNat + h.val = h.val; rw [start_zero _ (by rfl), Nat.zero_add]
  | ⟨4, _⟩ => show (min (max (BitVec.toInt (0#32 : BitVec 32)) 0) ((512 - 512 : Nat) : Int)).toNat + k.val = k.val; rw [start_zero _ (by rfl), Nat.zero_add]
theorem b10_at (j : Fin 64) (s : State Ideal) (b : Fin 4) (i : Fin 64) (h : Fin 4) (k : Fin 256) : b10 j.val s (ix5 (0 : Fin 1) b i h k) = s.main_v57_1 (ix5 j b i h k) := by
  unfold b10 Host.dynamicSlice extractStridedSlice
  refine congrArg s.main_v57_1 (funext fun a => Fin.ext ?_)
  match a with
  | ⟨0, _⟩ => show (min (max (BitVec.toInt (BitVec.ofNat 32 j.val)) 0) ((64 - 1 : Nat) : Int)).toNat + 0 = j.val; rw [start_at, Nat.add_zero]
  | ⟨1, _⟩ => show (min (max (BitVec.toInt (0#32 : BitVec 32)) 0) ((4 - 4 : Nat) : Int)).toNat + b.val = b.val; rw [start_zero _ (by rfl), Nat.zero_add]
  | ⟨2, _⟩ => show (min (max (BitVec.toInt (0#32 : BitVec 32)) 0) ((64 - 64 : Nat) : Int)).toNat + i.val = i.val; rw [start_zero _ (by rfl), Nat.zero_add]
  | ⟨3, _⟩ => show (min (max (BitVec.toInt (0#32 : BitVec 32)) 0) ((4 - 4 : Nat) : Int)).toNat + h.val = h.val; rw [start_zero _ (by rfl), Nat.zero_add]
  | ⟨4, _⟩ => show (min (max (BitVec.toInt (0#32 : BitVec 32)) 0) ((256 - 256 : Nat) : Int)).toNat + k.val = k.val; rw [start_zero _ (by rfl), Nat.zero_add]
theorem b16_at (j : Fin 64) (s : State Ideal) (b : Fin 4) (i : Fin 64) (h : Fin 4) (k : Fin 256) : b16 j.val s (ix5 (0 : Fin 1) b i h k) = s.main_v57_2 (ix5 j b i h k) := by
  unfold b16 Host.dynamicSlice extractStridedSlice
  refine congrArg s.main_v57_2 (funext fun a => Fin.ext ?_)
  match a with
  | ⟨0, _⟩ => show (min (max (BitVec.toInt (BitVec.ofNat 32 j.val)) 0) ((64 - 1 : Nat) : Int)).toNat + 0 = j.val; rw [start_at, Nat.add_zero]
  | ⟨1, _⟩ => show (min (max (BitVec.toInt (0#32 : BitVec 32)) 0) ((4 - 4 : Nat) : Int)).toNat + b.val = b.val; rw [start_zero _ (by rfl), Nat.zero_add]
  | ⟨2, _⟩ => show (min (max (BitVec.toInt (0#32 : BitVec 32)) 0) ((64 - 64 : Nat) : Int)).toNat + i.val = i.val; rw [start_zero _ (by rfl), Nat.zero_add]
  | ⟨3, _⟩ => show (min (max (BitVec.toInt (0#32 : BitVec 32)) 0) ((4 - 4 : Nat) : Int)).toNat + h.val = h.val; rw [start_zero _ (by rfl), Nat.zero_add]
  | ⟨4, _⟩ => show (min (max (BitVec.toInt (0#32 : BitVec 32)) 0) ((256 - 256 : Nat) : Int)).toNat + k.val = k.val; rw [start_zero _ (by rfl), Nat.zero_add]
theorem b22_at (j : Fin 64) (s : State Ideal) (b : Fin 4) (i : Fin 64) (h : Fin 4) (k : Fin 512) : b22 j.val s (ix5 (0 : Fin 1) b i h k) = s.main_v57_3 (ix5 j b i h k) := by
  unfold b22 Host.dynamicSlice extractStridedSlice
  refine congrArg s.main_v57_3 (funext fun a => Fin.ext ?_)
  match a with
  | ⟨0, _⟩ => show (min (max (BitVec.toInt (BitVec.ofNat 32 j.val)) 0) ((64 - 1 : Nat) : Int)).toNat + 0 = j.val; rw [start_at, Nat.add_zero]
  | ⟨1, _⟩ => show (min (max (BitVec.toInt (0#32 : BitVec 32)) 0) ((4 - 4 : Nat) : Int)).toNat + b.val = b.val; rw [start_zero _ (by rfl), Nat.zero_add]
  | ⟨2, _⟩ => show (min (max (BitVec.toInt (0#32 : BitVec 32)) 0) ((64 - 64 : Nat) : Int)).toNat + i.val = i.val; rw [start_zero _ (by rfl), Nat.zero_add]
  | ⟨3, _⟩ => show (min (max (BitVec.toInt (0#32 : BitVec 32)) 0) ((4 - 4 : Nat) : Int)).toNat + h.val = h.val; rw [start_zero _ (by rfl), Nat.zero_add]
  | ⟨4, _⟩ => show (min (max (BitVec.toInt (0#32 : BitVec 32)) 0) ((512 - 512 : Nat) : Int)).toNat + k.val = k.val; rw [start_zero _ (by rfl), Nat.zero_add]
theorem b27_at (j : Fin 64) (s : State Ideal) (b : Fin 4) (h : Fin 4) (k : Fin 256) : b27 j.val s (ix4 (0 : Fin 1) b h k) = s.main_v57_4 (ix4 j b h k) := by
  unfold b27 Host.dynamicSlice extractStridedSlice
  refine congrArg s.main_v57_4 (funext fun a => Fin.ext ?_)
  match a with
  | ⟨0, _⟩ => show (min (max (BitVec.toInt (BitVec.ofNat 32 j.val)) 0) ((64 - 1 : Nat) : Int)).toNat + 0 = j.val; rw [start_at, Nat.add_zero]
  | ⟨1, _⟩ => show (min (max (BitVec.toInt (0#32 : BitVec 32)) 0) ((4 - 4 : Nat) : Int)).toNat + b.val = b.val; rw [start_zero _ (by rfl), Nat.zero_add]
  | ⟨2, _⟩ => show (min (max (BitVec.toInt (0#32 : BitVec 32)) 0) ((4 - 4 : Nat) : Int)).toNat + h.val = h.val; rw [start_zero _ (by rfl), Nat.zero_add]
  | ⟨3, _⟩ => show (min (max (BitVec.toInt (0#32 : BitVec 32)) 0) ((256 - 256 : Nat) : Int)).toNat + k.val = k.val; rw [start_zero _ (by rfl), Nat.zero_add]

theorem b5_at (j : Fin 64) (s : State Ideal) (b : Fin 4) (i : Fin 64) (h : Fin 4) (k : Fin 512) : b5 j.val s (ix4 b i h k) = s.main_v57_0 (ix5 j b i h k) := by
  rw [← b4_at]; pointwise [b5]
theorem b11_at (j : Fin 64) (s : State Ideal) (b : Fin 4) (i : Fin 64) (h : Fin 4) (k : Fin 256) : b11 j.val s (ix4 b i h k) = s.main_v57_1 (ix5 j b i h k) := by
  rw [← b10_at]; pointwise [b11]
theorem b17_at (j : Fin 64) (s : State Ideal) (b : Fin 4) (i : Fin 64) (h : Fin 4) (k : Fin 256) : b17 j.val s (ix4 b i h k) = s.main_v57_2 (ix5 j b i h k) := by
  rw [← b16_at]; pointwise [b17]
theorem b23_at (j : Fin 64) (s : State Ideal) (b : Fin 4) (i : Fin 64) (h : Fin 4) (k : Fin 512) : b23 j.val s (ix4 b i h k) = s.main_v57_3 (ix5 j b i h k) := by
  rw [← b22_at]; pointwise [b23]
theorem b28_at (j : Fin 64) (s : State Ideal) (b : Fin 4) (h : Fin 4) (k : Fin 256) : b28 j.val s (ix3 b h k) = s.main_v57_4 (ix4 j b h k) := by
  rw [← b27_at]; pointwise [b28]
theorem b29_at (j : ℕ) (s : State Ideal) (b h : Fin 4) (w : Fin 512) (i : Fin 64) : b29 j s (ix4 b h w i) = ∑ k : Fin 256, s.main_v57_6 (ix4 b h k w) * b11 j s (ix4 b i h k) := by
  pointwise [b29]
theorem b31_at (j : ℕ) (s : State Ideal) (b : Fin 4) (i : Fin 64) (h : Fin 4) (w : Fin 512) : b31 j s (ix4 b i h w) = b5 j s (ix4 b i h w) + b29 j s (ix4 b h w i) := by
  pointwise [b31, b30]
theorem b34_at (j : ℕ) (s : State Ideal) (b h : Fin 4) (k : Fin 256) (w : Fin 512) : b34 j s (ix4 b h k w) = s.main_v57_6 (ix4 b h k w) * b28 j s (ix3 b h k) := by
  pointwise [b34, b33, b32]
theorem b35_at (j : ℕ) (s : State Ideal) (b h : Fin 4) (k : Fin 256) (w : Fin 512) : b35 j s (ix4 b h k w) = ∑ i : Fin 64, b17 j s (ix4 b i h k) * b23 j s (ix4 b i h w) := by
  pointwise [b35]
theorem b36_at (j : ℕ) (s : State Ideal) (b h : Fin 4) (k : Fin 256) (w : Fin 512) : b36 j s (ix4 b h k w) = b34 j s (ix4 b h k w) + b35 j s (ix4 b h k w) := by
  pointwise [b36]
theorem b37_at (j : ℕ) (s : State Ideal) (b : Fin 4) (i : Fin 64) (h : Fin 4) (w : Fin 512) : b37 j s (ix5 (0 : Fin 1) b i h w) = b31 j s (ix4 b i h w) := by
  pointwise [b37]

/-- Within a trip, the output's block of that trip is replaced. -/
theorem b42_hit (j : Fin 64) (s : State Ideal) (b : Fin 4) (i : Fin 64) (h : Fin 4) (w : Fin 512) : b42 j.val s (ix5 j b i h w) = b31 j.val s (ix4 b i h w) := by
  rw [← b37_at]
  unfold b42 Host.dynamicUpdateSlice updateSlice
  refine (dif_pos fun a => ?_).trans (congrArg (b37 j.val s) (funext fun a => Fin.ext ?_))
  · match a with
    | ⟨0, _⟩ => show (min (max (BitVec.toInt (BitVec.ofNat 32 j.val)) 0) ((64 - 1 : Nat) : Int)).toNat ≤ j.val ∧ j.val < (min (max (BitVec.toInt (BitVec.ofNat 32 j.val)) 0) ((64 - 1 : Nat) : Int)).toNat + 1; rw [start_at]; omega
    | ⟨1, _⟩ => show (min (max (BitVec.toInt (0#32 : BitVec 32)) 0) ((4 - 4 : Nat) : Int)).toNat ≤ b.val ∧ b.val < (min (max (BitVec.toInt (0#32 : BitVec 32)) 0) ((4 - 4 : Nat) : Int)).toNat + 4; rw [start_zero _ (by rfl)]; omega
    | ⟨2, _⟩ => show (min (max (BitVec.toInt (0#32 : BitVec 32)) 0) ((64 - 64 : Nat) : Int)).toNat ≤ i.val ∧ i.val < (min (max (BitVec.toInt (0#32 : BitVec 32)) 0) ((64 - 64 : Nat) : Int)).toNat + 64; rw [start_zero _ (by rfl)]; omega
    | ⟨3, _⟩ => show (min (max (BitVec.toInt (0#32 : BitVec 32)) 0) ((4 - 4 : Nat) : Int)).toNat ≤ h.val ∧ h.val < (min (max (BitVec.toInt (0#32 : BitVec 32)) 0) ((4 - 4 : Nat) : Int)).toNat + 4; rw [start_zero _ (by rfl)]; omega
    | ⟨4, _⟩ => show (min (max (BitVec.toInt (0#32 : BitVec 32)) 0) ((512 - 512 : Nat) : Int)).toNat ≤ w.val ∧ w.val < (min (max (BitVec.toInt (0#32 : BitVec 32)) 0) ((512 - 512 : Nat) : Int)).toNat + 512; rw [start_zero _ (by rfl)]; omega
  · match a with
    | ⟨0, _⟩ => show j.val - (min (max (BitVec.toInt (BitVec.ofNat 32 j.val)) 0) ((64 - 1 : Nat) : Int)).toNat = 0; rw [start_at]; omega
    | ⟨1, _⟩ => show b.val - (min (max (BitVec.toInt (0#32 : BitVec 32)) 0) ((4 - 4 : Nat) : Int)).toNat = b.val; rw [start_zero _ (by rfl)]; omega
    | ⟨2, _⟩ => show i.val - (min (max (BitVec.toInt (0#32 : BitVec 32)) 0) ((64 - 64 : Nat) : Int)).toNat = i.val; rw [start_zero _ (by rfl)]; omega
    | ⟨3, _⟩ => show h.val - (min (max (BitVec.toInt (0#32 : BitVec 32)) 0) ((4 - 4 : Nat) : Int)).toNat = h.val; rw [start_zero _ (by rfl)]; omega
    | ⟨4, _⟩ => show w.val - (min (max (BitVec.toInt (0#32 : BitVec 32)) 0) ((512 - 512 : Nat) : Int)).toNat = w.val; rw [start_zero _ (by rfl)]; omega

/-- The output's other blocks stay. -/
theorem b42_miss (j : Fin 64) (s : State Ideal) (n : Fin 64) (hn : n ≠ j) (b : Fin 4) (i : Fin 64) (h : Fin 4) (w : Fin 512) : b42 j.val s (ix5 n b i h w) = s.main_v57_7 (ix5 n b i h w) := by
  unfold b42 Host.dynamicUpdateSlice updateSlice
  refine dif_neg fun hin => hn ?_
  have h0 := hin 0
  change (min (max (BitVec.toInt (BitVec.ofNat 32 j.val)) 0) ((64 - 1 : Nat) : Int)).toNat ≤ n.val ∧ n.val < (min (max (BitVec.toInt (BitVec.ofNat 32 j.val)) 0) ((64 - 1 : Nat) : Int)).toNat + 1 at h0
  rw [start_at] at h0
  exact Fin.ext (by omega)

end Cert.GlaProof

end
-- ==== Proof.GlaLoop.lean ====
/-
  THE REFERENCE'S LOOP over the 64 chunks, as a sequence of states.
-/
module

public import proofs.«01_k».proof.Proof.Gen.GlaRefIdeal.Run
public import proofs.«01_k».proof.Proof.Gen.GlaRefIdeal.Step
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaProof

open Idealize.ShloMosaic.StableHlo Idealize.ShloMosaic.TcCoe Idealize.SL.Sem
open Cert.GlaRefIdeal Cert.GlaRefIdeal.Gen Cert.GlaRefIdeal.Value

open Cert.GlaRefIdeal.Step (State step init)

/-- The buffers of the loop hold the state `s` at trip `j`. -/
structure AtTrip (V : Valuation τ sig (Elt Ideal)) (s : State Ideal) (j : ℕ) : Prop where
  carried : V (Proc.devRef .tc main_v57_6) = s.main_v57_6
  out : V (Proc.devRef .tc main_v57_7) = s.main_v57_7
  intra : V (Proc.devRef .tc main_v57_0) = s.main_v57_0
  qin : V (Proc.devRef .tc main_v57_1) = s.main_v57_1
  kend : V (Proc.devRef .tc main_v57_2) = s.main_v57_2
  vals : V (Proc.devRef .tc main_v57_3) = s.main_v57_3
  dec : V (Proc.devRef .tc main_v57_4) = s.main_v57_4
  num : V (Proc.devRef .tc main_v57_5) = constantI S_ 32 (BitVec.ofNat 32 j)

variable {V : Valuation τ sig (Elt Ideal)} {s : State Ideal} {j : ℕ}

set_option maxRecDepth 8192 in
theorem carried_step (h : AtTrip V s j) : step_main_v57_6 V = (step j s).main_v57_6 := by
  obtain ⟨s6, s7, s0, s1, s2, s3, s4⟩ := s
  obtain ⟨h6, h7, h0, h1, h2, h3, h4, h5⟩ := h
  dsimp only at h6 h7 h0 h1 h2 h3 h4
  subst h6 h7 h0 h1 h2 h3 h4
  unfold step_main_v57_6 Cert.GlaRefIdeal.Step.step
  dsimp only
  unfold Step.b36 Step.b35 Step.b34 Step.b33 Step.b32 Step.b28 Step.b27 Step.b17 Step.b16 Step.b23 Step.b22
  rw [← h5]
  rfl

set_option maxRecDepth 8192 in
theorem out_step (h : AtTrip V s j) : step_main_v57_7 V = (step j s).main_v57_7 := by
  obtain ⟨s6, s7, s0, s1, s2, s3, s4⟩ := s
  obtain ⟨h6, h7, h0, h1, h2, h3, h4, h5⟩ := h
  dsimp only at h6 h7 h0 h1 h2 h3 h4
  subst h6 h7 h0 h1 h2 h3 h4
  unfold step_main_v57_7 Cert.GlaRefIdeal.Step.step
  dsimp only
  unfold Step.b42 Step.b37 Step.b31 Step.b30 Step.b29 Step.b5 Step.b4 Step.b11 Step.b10
  rw [← h5]
  rfl

theorem num_step (h : AtTrip V s j) : step_main_v57_5 V = constantI S_ 32 (BitVec.ofNat 32 (j + 1)) := by
  unfold step_main_v57_5
  rw [h.num]
  funext i
  show BitVec.ofNat 32 j + 1#32 = BitVec.ofNat 32 (j + 1)
  simp only [BitVec.ofNat_add]

/-- One trip takes a held state to the next one. -/
theorem trip (h : AtTrip V s j) : AtTrip (STEP V) (step j s) (j + 1) :=
  ⟨(STEP_main_v57_6 V).trans (carried_step h), (STEP_main_v57_7 V).trans (out_step h), (STEP_main_v57_0 V).trans h.intra,
    (STEP_main_v57_1 V).trans h.qin, (STEP_main_v57_2 V).trans h.kend, (STEP_main_v57_3 V).trans h.vals, (STEP_main_v57_4 V).trans h.dec,
    (STEP_main_v57_5 V).trans (num_step h)⟩

variable (m : (ℓ : Loc nD τ sig) → Buf (Elt Ideal) ℓ) (c : Dev nD)

/-- The states of the reference's loop. -/
def refState : ℕ → State Ideal
  | 0 => init (m ((c.tc : Thread nD τ).loc main_arg0)) (m ((c.tc : Thread nD τ).loc main_arg1)) (m ((c.tc : Thread nD τ).loc main_arg2))
  | n + 1 => step n (refState n)

set_option maxRecDepth 65536 in
set_option maxHeartbeats 700000 in
theorem at_entry : AtTrip (entryContents preI m c) (refState m c 0) 0 := by
  constructor <;> (simp only [entryContents, afterL_cons, afterL_nil]; after_reads_simp) <;> rfl

theorem at_trip : ∀ k, AtTrip (STEP^[k] (entryContents preI m c)) (refState m c k) k
  | 0 => at_entry m c
  | k + 1 => by
    rw [Function.iterate_succ_apply']
    exact trip (at_trip k)

set_option maxRecDepth 8192 in
/-- The reference's result is the loop's output field after 64 trips, put back in row order. -/
theorem ref_result (k : ℕ) : out_main_v60 (STEP^[k] (entryContents preI m c)) = Step.R_main_v60 (refState m c k) := by
  have h := (at_trip m c k).out
  unfold out_main_v60 Step.R_main_v60
  rw [h]
  rfl

end Cert.GlaProof

end
-- ==== Proof.GlaRefG.lean ====
/-
  THE REFERENCE'S SWEEP: its loop's states are the chunks' states, and its result is the sweep.
-/
module

public import proofs.«01_k».proof.Proof.GlaRefF
public import proofs.«01_k».proof.Proof.GlaLoop
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaProof

open Cert.GlaRefIdeal Cert.GlaRefIdeal.Step Cert.GlaRefIdeal.Gen

section
variable (a0 : FVec Ideal S16384x11776 .f32) (a1 : FVec Ideal S16x1024 .f32) (a2 : FVec Ideal S1024 .f32)
/-- The part of a chunk's output that comes from its own rows. -/
theorem intra_at (b : Fin 4) (n i : Fin 64) (h : Fin 4) (w : Fin 512) :
    A_main_v51 (F := Ideal) a0 a1 a2 (ix5 n b i h w) = ∑ j : Fin 64, (if j.val ≤ i.val then ∑ k : Fin 256, QE (fun r c => a0 (ix2 r c)) (fun r c => a1 (ix2 r c)) (fun c => a2 (ix1 c)) (CH b n) i (HC h k) * KE (fun r c => a0 (ix2 r c)) (fun r c => a1 (ix2 r c)) (fun c => a2 (ix1 c)) (CH b n) j (HC h k) else 0) * VV (fun r c => a0 (ix2 r c)) (CH b n) j (VC h w) := by
  refine (show _ = A_main_v39 (F := Ideal) a0 a1 a2 (ix5 b n i h w) by pointwise [A_main_v51]).trans ?_
  rw [a39_at, a38_at]
  refine Finset.sum_congr rfl fun j _ => ?_
  rw [a22v_at, a37_at, a34_at, mul_comm]
  refine congrArg (fun z => (if j.val ≤ i.val then z else 0) * _) (Finset.sum_congr rfl fun k _ => ?_)
  rw [a29_at, a33_at]
theorem qin_at (b : Fin 4) (n i : Fin 64) (h : Fin 4) (k : Fin 256) : A_main_v52 (F := Ideal) a0 a1 a2 (ix5 n b i h k) = QIN (fun r c => a0 (ix2 r c)) (fun r c => a1 (ix2 r c)) (fun c => a2 (ix1 c)) (CH b n) i (HC h k) := by
  refine (show _ = A_main_v41 (F := Ideal) a0 a1 a2 (ix5 b n i h k) by pointwise [A_main_v52]).trans (a41_at _ _ _ b n i h k)
theorem kend_at (b : Fin 4) (n i : Fin 64) (h : Fin 4) (k : Fin 256) : A_main_v53 (F := Ideal) a0 a1 a2 (ix5 n b i h k) = KEND (fun r c => a0 (ix2 r c)) (fun r c => a1 (ix2 r c)) (fun c => a2 (ix1 c)) (CH b n) i (HC h k) := by
  refine (show _ = A_main_v46 (F := Ideal) a0 a1 a2 (ix5 b n i h k) by pointwise [A_main_v53]).trans (a46_at _ _ _ b n i h k)
theorem vals_at (b : Fin 4) (n i : Fin 64) (h : Fin 4) (w : Fin 512) : A_main_v54 (F := Ideal) a0 a1 a2 (ix5 n b i h w) = VV (fun r c => a0 (ix2 r c)) (CH b n) i (VC h w) := by
  refine (show _ = A_main_v22 (F := Ideal) a0 a1 a2 (ix5 b n i h w) by pointwise [A_main_v54]).trans (a22v_at _ _ _ b n i h w)
theorem dec_at (b : Fin 4) (n : Fin 64) (h : Fin 4) (k : Fin 256) : A_main_v55 (F := Ideal) a0 a1 a2 (ix4 n b h k) = DEC (fun r c => a0 (ix2 r c)) (fun r c => a1 (ix2 r c)) (fun c => a2 (ix1 c)) (CH b n) (HC h k) := by
  refine (show _ = A_main_v49 (F := Ideal) a0 a1 a2 (ix4 b n h k) by pointwise [A_main_v55]).trans (a49_at _ _ _ b n h k)
end

variable (m : (ℓ : Loc nD τ sig) → Buf (Elt Ideal) ℓ) (c : Dev nD)
/-- The reference's projections, read by row and column. -/
def RP (r : Fin 16384) (e : Fin 11776) : EReal := m ((c.tc : Thread nD τ).loc main_arg0) (ix2 r e)
/-- The reference's gate weights. -/
def RWT (r : Fin 16) (e : Fin 1024) : EReal := m ((c.tc : Thread nD τ).loc main_arg1) (ix2 r e)
/-- The reference's gate bias. -/
def RB (e : Fin 1024) : EReal := m ((c.tc : Thread nD τ).loc main_arg2) (ix1 e)

/-- What a trip does not write stays as the loop found it. -/
theorem consts (n : ℕ) : (refState m c n).main_v57_0 = (refState m c 0).main_v57_0 ∧ (refState m c n).main_v57_1 = (refState m c 0).main_v57_1
    ∧ (refState m c n).main_v57_2 = (refState m c 0).main_v57_2 ∧ (refState m c n).main_v57_3 = (refState m c 0).main_v57_3
    ∧ (refState m c n).main_v57_4 = (refState m c 0).main_v57_4 := by
  induction n with
  | zero => exact ⟨rfl, rfl, rfl, rfl, rfl⟩
  | succ n ih => exact ih

theorem c0_at (n' : ℕ) (b : Fin 4) (n i : Fin 64) (h : Fin 4) (w : Fin 512) : (refState m c n').main_v57_0 (ix5 n b i h w)
    = ∑ j : Fin 64, (if j.val ≤ i.val then ∑ k : Fin 256, QE (RP m c) (RWT m c) (RB m c) (CH b n) i (HC h k) * KE (RP m c) (RWT m c) (RB m c) (CH b n) j (HC h k) else 0) * VV (RP m c) (CH b n) j (VC h w) := by
  rw [(consts m c n').1]; exact intra_at _ _ _ b n i h w
theorem c1_at (n' : ℕ) (b : Fin 4) (n i : Fin 64) (h : Fin 4) (k : Fin 256) : (refState m c n').main_v57_1 (ix5 n b i h k) = QIN (RP m c) (RWT m c) (RB m c) (CH b n) i (HC h k) := by
  rw [(consts m c n').2.1]; exact qin_at _ _ _ b n i h k
theorem c2_at (n' : ℕ) (b : Fin 4) (n i : Fin 64) (h : Fin 4) (k : Fin 256) : (refState m c n').main_v57_2 (ix5 n b i h k) = KEND (RP m c) (RWT m c) (RB m c) (CH b n) i (HC h k) := by
  rw [(consts m c n').2.2.1]; exact kend_at _ _ _ b n i h k
theorem c3_at (n' : ℕ) (b : Fin 4) (n i : Fin 64) (h : Fin 4) (w : Fin 512) : (refState m c n').main_v57_3 (ix5 n b i h w) = VV (RP m c) (CH b n) i (VC h w) := by
  rw [(consts m c n').2.2.2.1]; exact vals_at (m ((c.tc : Thread nD τ).loc main_arg0)) (m ((c.tc : Thread nD τ).loc main_arg1)) (m ((c.tc : Thread nD τ).loc main_arg2)) b n i h w
theorem c4_at (n' : ℕ) (b : Fin 4) (n : Fin 64) (h : Fin 4) (k : Fin 256) : (refState m c n').main_v57_4 (ix4 n b h k) = DEC (RP m c) (RWT m c) (RB m c) (CH b n) (HC h k) := by
  rw [(consts m c n').2.2.2.2]; exact dec_at _ _ _ b n h k

/-- THE CARRIED STATE before trip `n`, of each batch and head. -/
theorem carried_at : ∀ (n : ℕ) (hn : n < 64) (b h : Fin 4) (k : Fin 256) (w : Fin 512),
    (refState m c n).main_v57_6 (ix4 b h k w) = ST (RP m c) (RWT m c) (RB m c) (b.val * 64 + n) h w k
  | 0, hn, b, h, k, w => by
    rw [ST_reset _ _ _ (b.val * 64 + 0) (by omega)]
    exact (show K_main_v50 (F := Ideal) (ix4 b h k w) = (0 : EReal) by pointwise [K_main_v50, K_main_cst_2])
  | n + 1, hn, b, h, k, w => by
    have hn' : n < 64 := by omega
    rw [show b.val * 64 + (n + 1) = (b.val * 64 + n) + 1 by omega, ST_step _ _ _ (b.val * 64 + n) (by omega)]
    show b36 (⟨n, hn'⟩ : Fin 64).val (refState m c n) (ix4 b h k w) = _
    rw [b36_at, b34_at, b35_at, b28_at, c4_at, carried_at n hn' b h k w]
    unfold NXT NEWT
    refine congrArg (_ + ·) (Finset.sum_congr rfl fun i _ => ?_)
    rw [b17_at, b23_at, c2_at, c3_at, mul_comm]
    rfl

/-- A trip's output. -/
theorem out_at (n : Fin 64) (b : Fin 4) (i : Fin 64) (h : Fin 4) (w : Fin 512) :
    b31 n.val (refState m c n.val) (ix4 b i h w) = OTC (RP m c) (RWT m c) (RB m c) (CH b n) (ST (RP m c) (RWT m c) (RB m c) (CH b n)) h i w := by
  rw [b31_at, b5_at, b29_at, c0_at]
  unfold OTC OUTT
  refine congrArg (_ + ·) (Finset.sum_congr rfl fun k _ => ?_)
  rw [carried_at m c n.val n.isLt, b11_at, c1_at, mul_comm]
  rfl

/-- The output's blocks of the trips made so far. -/
theorem blocks_at : ∀ (t : ℕ) (ht : t ≤ 64) (n : Fin 64) (hn : n.val < t) (b : Fin 4) (i : Fin 64) (h : Fin 4) (w : Fin 512),
    (refState m c t).main_v57_7 (ix5 n b i h w) = OTC (RP m c) (RWT m c) (RB m c) (CH b n) (ST (RP m c) (RWT m c) (RB m c) (CH b n)) h i w
  | 0, ht, n, hn, b, i, h, w => absurd hn (by omega)
  | t + 1, ht, n, hn, b, i, h, w => by
    show b42 (⟨t, by omega⟩ : Fin 64).val (refState m c t) (ix5 n b i h w) = _
    by_cases e : n = ⟨t, by omega⟩
    · rw [e, b42_hit]
      exact out_at m c _ b i h w
    · rw [b42_miss _ _ n e]
      exact blocks_at t (by omega) n (by
        have : n.val ≠ t := fun q => e (Fin.ext q)
        omega) b i h w

/-- The result's rows and columns are the output's batches, chunks, rows, heads and columns. -/
theorem result_at (s : State Ideal) (b : Fin 4) (n i : Fin 64) (h : Fin 4) (w : Fin 512) :
    R_main_v60 s (ix2 (RW b (RT n i)) (VC h w)) = s.main_v57_7 (ix5 n b i h w) := by
  pointwise [R_main_v60, RW, RT, VC]

/-- THE REFERENCE'S RESULT: the sweep of its own arguments. -/
theorem ref_final : R_main_v60 (refState m c 64) = fun z : S16384x2048.Idx => SWEEP (RP m c) (RWT m c) (RB m c) (z 0) (z 1) := by
  funext z
  have hz1 : (z 1).val < 2048 := (z 1).isLt
  let h : Fin 4 := ⟨(z 1).val / 512, by omega⟩
  let w : Fin 512 := ⟨(z 1).val % 512, by omega⟩
  have hv : z 1 = VC h w := VC_split (z 1)
  have hz : (z 0).val < 16384 := (z 0).isLt
  let b : Fin 4 := ⟨(z 0).val / 4096, by omega⟩
  let n : Fin 64 := ⟨(z 0).val / 64 % 64, by omega⟩
  let i : Fin 64 := ⟨(z 0).val % 64, by omega⟩
  have hr : (z 0).val = 64 * CH b n + i.val := by
    show (z 0).val = 64 * ((z 0).val / 4096 * 64 + (z 0).val / 64 % 64) + (z 0).val % 64
    omega
  have ez : z = ix2 (RW b (RT n i)) (VC h w) := by
    refine (eq_ix2 z).trans (congrArg₂ ix2 (Fin.ext ?_) hv)
    show (z 0).val = (z 0).val / 4096 * 4096 + ((z 0).val / 64 % 64 * 64 + (z 0).val % 64)
    omega
  show _ = SWEEP (RP m c) (RWT m c) (RB m c) (z 0) (z 1)
  rw [hv, SWEEP_at _ _ _ (z 0) (CH b n) i h w hr]
  refine (congrArg (R_main_v60 (refState m c 64)) ez).trans ?_
  rw [result_at, blocks_at m c 64 (le_refl _) n n.isLt]

end Cert.GlaProof

end
-- ==== Proof.GlaClaims.lean ====
/-
  The claims about `Gla`, the forward gated linear attention sweep: the reference's frame and the equality of the kernel's result with the reference's.
-/
module

public import proofs.«01_k».proof.Defs
public import proofs.«01_k».proof.Proof.GlaFinal
public import proofs.«01_k».proof.Proof.GlaRefG

@[expose] public section

set_option maxRecDepth 16384

noncomputable section

open Idealize.ShloMosaic Idealize.ShloMosaic.TcCoe Idealize.SL.Sem
open Idealize.ShloMosaic.Pipeline (Dat)

namespace Cert.GlaProof

/-- The sweep of three arguments, entry by entry. -/
def RES (a0 : FVec Ideal Cert.GlaIdeal.S16384x11776 .f32) (a1 : FVec Ideal Cert.GlaIdeal.S16x1024 .f32) (a2 : FVec Ideal Cert.GlaIdeal.S1024 .f32) :
    Cert.GlaIdeal.S16384x2048.Idx → EReal :=
  fun z => SWEEP (fun r e => a0 (ix2 r e)) (fun r e => a1 (ix2 r e)) (fun e => a2 (ix1 e)) (z 0) (z 1)

/-- The reference's program runs, leaves its arguments as they were and every counter at zero: it declares no semaphore. -/
theorem frame_ref : Cert.quiescent_GlaRefIdeal := fun m ρ _ =>
  (θ_run Cert.GlaRefIdeal.defs _ _).mono (fun r h => ⟨fun c => (h c).2, sem_eq_zero_of_no_sems (by decide) r.2⟩)
    (Cert.GlaRefIdeal.Value.run (F := Ideal) m ρ)

/-- From memories that agree on the arguments, the kernel and the reference end with equal results. -/
theorem algebraic : Cert.algebraic_GlaIdeal_GlaRefIdeal := by
  intro m ρ m' ρ' _ hag
  refine ⟨fun c => RES (m ((c : Thread Cert.GlaIdeal.nD Cert.GlaIdeal.τ).loc Cert.GlaIdeal.main_arg0)) (m ((c : Thread Cert.GlaIdeal.nD Cert.GlaIdeal.τ).loc Cert.GlaIdeal.main_arg1)) (m ((c : Thread Cert.GlaIdeal.nD Cert.GlaIdeal.τ).loc Cert.GlaIdeal.main_arg2)), ?_, ?_⟩
  · exact (θ_run Cert.GlaIdeal.defs _ _).mono (fun _ h c => ⟨(h c).1.trans (final m c), (h c).2⟩)
      (Cert.GlaIdeal.Value.run_blocks (F := Ideal) m ρ)
  · refine (θ_run Cert.GlaRefIdeal.defs _ _).mono (fun _ h c => ⟨(h c).1.trans ?_, (h c).2⟩)
      (Cert.GlaRefIdeal.Value.run (F := Ideal) m' ρ')
    refine (ref_result m' c 64).trans ((ref_final m' c).trans ?_)
    show RES (m' ((c : Thread Cert.GlaRefIdeal.nD Cert.GlaRefIdeal.τ).loc Cert.GlaRefIdeal.main_arg0)) (m' ((c : Thread Cert.GlaRefIdeal.nD Cert.GlaRefIdeal.τ).loc Cert.GlaRefIdeal.main_arg1)) (m' ((c : Thread Cert.GlaRefIdeal.nD Cert.GlaRefIdeal.τ).loc Cert.GlaRefIdeal.main_arg2)) = _
    rw [(hag c).1, (hag c).2.1, (hag c).2.2]

end Cert.GlaProof

end
-- ==== Proof.FfnValue.lean ====
/-
  The feed-forward block: the kernel's accumulated sum over the tiles of the hidden axis is the reference's whole
  sum, and what it stores at the last tile is the reference's value.
-/
module

public import proofs.«01_k».proof.Proof.Gen.FfnIdeal.Frame
public import proofs.«01_k».proof.Proof.Gen.FfnIdeal.Value
public import proofs.«01_k».proof.Proof.Gen.FfnRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnProof

open Cert.FfnIdeal Cert.FfnIdeal.Gen

variable (m : (ℓ : Loc nD τ sig) → Buf (Elt Ideal) ℓ)

/-- The reference's root-mean-square normalization of the rows of `X`, scaled by `w`. -/
def NORM (X : FVec Ideal S16384x2048 .f32) (w : FVec Ideal S2048 .f32) : FVec Ideal S16384x2048 .f32 :=
  mulf (mulf X (broadcastInDim Cert.FfnRefIdeal.S16384x2048 ![0, 1] Cert.FfnRefIdeal.Gen.bcast_S16384x1_S16384x2048_0_1
    (Host.rsqrt (addf (Host.divf (broadcastInDim Cert.FfnRefIdeal.S16384x1 ![0] Cert.FfnRefIdeal.Gen.bcast_S16384_S16384x1_0
      (Host.reduceAdd (mulf X X) (constant Cert.FfnRefIdeal.S_ .f32 0x00000000#32)
        Cert.FfnRefIdeal.Gen.reducesTo_S16384x2048_S16384_d1 Cert.FfnRefIdeal.Gen.h_S_))
      (broadcastInDim Cert.FfnRefIdeal.S16384x1 ![] Cert.FfnRefIdeal.Gen.bcast_S_S16384x1 (constant Cert.FfnRefIdeal.S_ .f32 0x45000000#32)))
      (broadcastInDim Cert.FfnRefIdeal.S16384x1 ![] Cert.FfnRefIdeal.Gen.bcast_S_S16384x1 (constant Cert.FfnRefIdeal.S_ .f32 0x358637BD#32))))))
    (broadcastInDim Cert.FfnRefIdeal.S16384x2048 ![0, 1] Cert.FfnRefIdeal.Gen.bcast_S1x2048_S16384x2048_0_1
      (broadcastInDim Cert.FfnRefIdeal.S1x2048 ![1] Cert.FfnRefIdeal.Gen.bcast_S2048_S1x2048_1 w))

/-- The reference's gated hidden layer of the normalized rows `H`. -/
def ACT (H : FVec Ideal S16384x2048 .f32) (W1 W3 : FVec Ideal S2048x5632 .f32) : FVec Ideal Cert.FfnRefIdeal.S16384x5632 .f32 :=
  mulf (mulf (Host.dotGeneral (F := Ideal) Cert.FfnRefIdeal.dot_S16384x2048_S2048x5632_S16384x5632_1_0_0_1_n_n none H W1)
    (Host.divf (broadcastInDim Cert.FfnRefIdeal.S16384x5632 ![] Cert.FfnRefIdeal.Gen.bcast_S_S16384x5632 (constant Cert.FfnRefIdeal.S_ .f32 0x3F800000#32))
      (addf (broadcastInDim Cert.FfnRefIdeal.S16384x5632 ![] Cert.FfnRefIdeal.Gen.bcast_S_S16384x5632 (constant Cert.FfnRefIdeal.S_ .f32 0x3F800000#32))
        (Host.exp (Host.negf (Host.dotGeneral (F := Ideal) (φ₁ := .f32) (φ₂ := .f32) Cert.FfnRefIdeal.dot_S16384x2048_S2048x5632_S16384x5632_1_0_0_1_n_n none H W1))))))
    (Host.dotGeneral (F := Ideal) Cert.FfnRefIdeal.dot_S16384x2048_S2048x5632_S16384x5632_1_0_0_1_n_n none H W3)

/-- What the reference computes, over its arguments. -/
def REF (X : FVec Ideal S16384x2048 .f32) (w : FVec Ideal S2048 .f32) (W1 W3 : FVec Ideal S2048x5632 .f32)
    (W2 : FVec Ideal S5632x2048 .f32) : FVec Ideal S16384x2048 .f32 :=
  addf X (mulf (broadcastInDim Cert.FfnRefIdeal.S16384x2048 ![] Cert.FfnRefIdeal.Gen.bcast_S_S16384x2048 (constant Cert.FfnRefIdeal.S_ .f32 0x3F000000#32))
    (Host.dotGeneral (F := Ideal) Cert.FfnRefIdeal.dot_S16384x5632_S5632x2048_S16384x2048_1_0_0_1_n_n none (ACT (NORM X w) W1 W3) W2))

/-- Where each window's block sits at a grid point. -/
theorem idx : ∀ t : Fin cfg0.N, win0_0.index t = ![t.val / 11, 0] ∧ win0_1.index t = ![0, 0]
    ∧ win0_2.index t = ![0, t.val % 11] ∧ win0_3.index t = ![0, t.val % 11] ∧ win0_4.index t = ![t.val % 11, 0]
    ∧ win0_5.index t = ![t.val / 11, 0] ∧ t.val / 11 < 32 :=
  (by decide +kernel : ∀ t : Fin grid0.N, _)

/-- The row of the whole array that row `a` of the blocks of run `q` is. -/
abbrev row (q : Nat) (hq : q < 32) (a : Fin 512) : Fin 16384 := ⟨q * 512 + a.val, by omega⟩

/-- The normalized rows of point `t`'s block are those of the reference's normalized array. -/
theorem norm_at (c : Dev nD) (t : Fin cfg0.N) (a : Fin 512) (b : Fin 2048) :
    k0_pay1 (iblk m c 0 t) (iblk m c 1 t) (ix2 a b)
    = NORM (m ((c : Thread nD τ).loc main_arg0)) (m ((c : Thread nD τ).loc main_arg1))
        (ix2 (row (t.val / 11) (idx t).2.2.2.2.2.2 a) b) := by
  pointwise [k0_pay1, NORM]
  blk_point [iblk, V, idx t]

/-- What point `t` adds to the accumulator. -/
def part (c : Dev nD) (t : Fin cfg0.N) (y : S512x2048.Idx) : EReal :=
  ∑ f : Fin 512, ACT (NORM (m ((c : Thread nD τ).loc main_arg0)) (m ((c : Thread nD τ).loc main_arg1)))
      (m ((c : Thread nD τ).loc main_arg2)) (m ((c : Thread nD τ).loc main_arg3))
      (ix2 (row (t.val / 11) (idx t).2.2.2.2.2.2 (y 0)) (⟨t.val % 11 * 512 + f.val, by omega⟩ : Fin 5632))
    * (show FVec Ideal S5632x2048 .f32 from m ((c : Thread nD τ).loc main_arg4)) (ix2 (⟨t.val % 11 * 512 + f.val, by omega⟩ : Fin 5632) (y 1))

/-- The accumulating step over normalized rows `H`: the accumulator plus `part`. -/
theorem step_at (c : Dev nD) (t : Fin cfg0.N) (H : FVec Ideal S512x2048 .bf16) (acc : FVec Ideal S512x2048 .f32)
    (hH : ∀ (a : Fin 512) (b : Fin 2048), H (ix2 a b)
      = NORM (m ((c : Thread nD τ).loc main_arg0)) (m ((c : Thread nD τ).loc main_arg1))
        (ix2 (row (t.val / 11) (idx t).2.2.2.2.2.2 a) b)) (y) :
    k0_pay3 H (iblk m c 2 t) (iblk m c 3 t) acc (iblk m c 4 t) y = acc y + part m c t y := by
  unfold part
  pointwise [k0_pay3, ACT, hH, Ideal.logistic]
  blk_point [iblk, V, idx t]

/-- The carried normalized rows hold the reference's, at every point of a run. -/
theorem rows_at (c : Dev nD) : ∀ (n : ℕ) (hn : n < cfg0.N) (a : Fin 512) (b : Fin 2048),
    (outsAt0 m c n hn).2.1 (ix2 a b)
      = NORM (m ((c : Thread nD τ).loc main_arg0)) (m ((c : Thread nD τ).loc main_arg1))
        (ix2 (row (n / 11) (idx ⟨n, hn⟩).2.2.2.2.2.2 a) b) := by
  intro n
  induction n with
  | zero =>
    intro hn a b
    rw [outsAt0_A m c ⟨0, hn⟩ rfl (by show ¬ (0 % 11 = 10); decide)]
    dsimp only
    frame_out
    exact norm_at m c ⟨0, hn⟩ a b
  | succ n ih =>
    intro hn a b
    by_cases h0 : (n + 1) % 11 = 0
    · rw [outsAt0_A m c ⟨n + 1, hn⟩ h0 (by show ¬ (n + 1) % 11 = 10; omega)]
      dsimp only
      frame_out
      exact norm_at m c ⟨n + 1, hn⟩ a b
    · have hq : (n + 1) / 11 = n / 11 := by omega
      have key := ih (by omega) a b
      have hrow : ∀ h, row ((n + 1) / 11) h a = row (n / 11) (by omega) a := by
        intro h; apply Fin.ext; show (n + 1) / 11 * 512 + a.val = _; rw [hq]
      rw [hrow]
      by_cases h1 : (n + 1) % 11 = 10
      · rw [outsAt0_C m c ⟨n + 1, hn⟩ h0 h1]
        dsimp only
        exact key
      · rw [outsAt0_B m c ⟨n + 1, hn⟩ h0 h1]
        dsimp only
        exact key

/-- The same for the rows the point before left, at a point that does not start a run. -/
theorem rows_before (c : Dev nD) (t : Fin cfg0.N) (h0 : ¬t.val % 11 = 0) (a : Fin 512) (b : Fin 2048) :
    (outsAt0 m c (t.val - 1) (Nat.lt_of_le_of_lt (Nat.sub_le _ _) t.isLt)).2.1 (ix2 a b)
      = NORM (m ((c : Thread nD τ).loc main_arg0)) (m ((c : Thread nD τ).loc main_arg1))
        (ix2 (row (t.val / 11) (idx t).2.2.2.2.2.2 a) b) := by
  rw [rows_at m c (t.val - 1) _ a b]
  have hrow : ∀ h h', row ((t.val - 1) / 11) h a = row (t.val / 11) h' a := by
    intro h h'; apply Fin.ext; show (t.val - 1) / 11 * 512 + a.val = t.val / 11 * 512 + a.val; omega
  rw [hrow]

/-- The accumulator at the start of a run: the first part over zero. -/
theorem acc_first (c : Dev nD) (t : Fin cfg0.N) (h0 : t.val % 11 = 0) (y : S512x2048.Idx) :
    (outsAt0 m c t.val t.isLt).2.2 y = 0 + part m c t y := by
  rw [outsAt0_A m c t h0 (by omega)]
  dsimp only
  frame_out
  rw [step_at m c t _ _ (norm_at m c t)]
  congr 1
  pointwise [k0_pay2]

/-- The accumulator later in a run: what the point before left plus this point's part. -/
theorem acc_next (c : Dev nD) (t : Fin cfg0.N) (h0 : ¬t.val % 11 = 0) (y : S512x2048.Idx) :
    (outsAt0 m c t.val t.isLt).2.2 y
      = (outsAt0 m c (t.val - 1) (Nat.lt_of_le_of_lt (Nat.sub_le _ _) t.isLt)).2.2 y + part m c t y := by
  by_cases h1 : t.val % 11 = 10
  · rw [outsAt0_C m c t h0 h1]
    dsimp only
    frame_out
    simp only [read_unread_whole]
    exact step_at m c t _ _ (rows_before m c t h0) y
  · rw [outsAt0_B m c t h0 h1]
    dsimp only
    frame_out
    simp only [read_unread_whole]
    exact step_at m c t _ _ (rows_before m c t h0) y

/-- The accumulator at the last point of a run is the whole contraction of the hidden axis. -/
theorem acc_last (c : Dev nD) (t : Fin cfg0.N) (h1 : t.val % 11 = 10) (a : Fin 512) (b : Fin 2048) :
    (outsAt0 m c t.val t.isLt).2.2 (ix2 a b)
      = (Host.dotGeneral (F := Ideal) (φ₁ := .f32) (φ₂ := .f32) Cert.FfnRefIdeal.dot_S16384x5632_S5632x2048_S16384x2048_1_0_0_1_n_n none
          (ACT (NORM (m ((c : Thread nD τ).loc main_arg0)) (m ((c : Thread nD τ).loc main_arg1)))
            (m ((c : Thread nD τ).loc main_arg2)) (m ((c : Thread nD τ).loc main_arg3)))
          (m ((c : Thread nD τ).loc main_arg4)) : FVec Ideal S16384x2048 .f32)
        (ix2 (row (t.val / 11) (idx t).2.2.2.2.2.2 a) b) := by
  rw [Pipeline.eq_sum_fin_of_reset_step_apply_of_flush (M := EReal) (fun n h => (outsAt0 m c n h).2.2) 11 (fun _ => 0)
    (part m c) (acc_first m c) (acc_next m c) t h1 (ix2 a b), zero_add]
  unfold part
  pointwise
  refine Fin.sum_mul_add_congr (n := 512) fun s k hl => ?_
  have e1 : (11 * (t.val / 11) + s.val) / 11 = t.val / 11 := by omega
  have e2 : (11 * (t.val / 11) + s.val) % 11 = s.val := by omega
  have r1 : ∀ h h', row ((11 * (t.val / 11) + s.val) / 11) h a = row (t.val / 11) h' a := by
    intro h h'; apply Fin.ext; show (11 * (t.val / 11) + s.val) / 11 * 512 + a.val = t.val / 11 * 512 + a.val; rw [e1]
  have r2 : ∀ h h', (⟨(11 * (t.val / 11) + s.val) % 11 * 512 + k.val, h⟩ : Fin 5632) = ⟨s.val * 512 + k.val, h'⟩ := by
    intro h h'; apply Fin.ext; show (11 * (t.val / 11) + s.val) % 11 * 512 + k.val = _; rw [e2]
  simp only [r1 _ (idx t).2.2.2.2.2.2, r2 _ hl]

/-- What the body stores at the last point of a run is the reference's value where it sits. -/
theorem point (c : Dev nD) (t : Fin cfg0.N) (h1 : t.val % 11 = 10) (y : S512x2048.Idx) :
    (outsAt0 m c t.val t.isLt).1 y
      = REF (m ((c : Thread nD τ).loc main_arg0)) (m ((c : Thread nD τ).loc main_arg1))
        (m ((c : Thread nD τ).loc main_arg2)) (m ((c : Thread nD τ).loc main_arg3)) (m ((c : Thread nD τ).loc main_arg4))
        (((cfg0.win 5).blk t).view.emb y) := by
  have h0 : ¬t.val % 11 = 0 := by omega
  have hacc := acc_last m c t h1
  rw [outsAt0_C m c t h0 h1] at hacc ⊢
  dsimp only at hacc ⊢
  revert hacc
  frame_out
  intro hacc
  idx_vars y
  have hy : (((cfg0.win 5).blk t).view.emb (ix2 y0 y1) : S16384x2048.Idx) = ix2 (row (t.val / 11) (idx t).2.2.2.2.2.2 y0) y1 := by
    blk_ext [idx t]
  rw [hy]
  unfold REF
  pointwise [k0_pay4, hacc]
  blk_point [iblk, V, idx t]

/-- The result array after the run. -/
theorem final (c : Dev nD) : (dats m 0 c).arrAt 5 (cfgs 0).N
    = REF (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  exact point m c t ((flush0_5 t).mp hf) y

end Cert.FfnProof

end
-- ==== Proof.FfnClaims.lean ====
/-
  The claims about `Ffn`, the first half-step feed-forward: the reference's frame and the equality of the kernel's result with the reference's.
-/
module

public import proofs.«01_k».proof.Defs
public import proofs.«01_k».proof.Proof.FfnValue

@[expose] public section

noncomputable section

namespace Cert.FfnProof

open Idealize.ShloMosaic Idealize.ShloMosaic.TcCoe Idealize.SL.Sem

/-- The reference's program runs, leaves its arguments as they were and every counter at zero: it declares no semaphore. -/
theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- From memories that agree on the arguments, the kernel and the reference end with equal results. -/
theorem algebraic : Cert.algebraic_FfnIdeal_FfnRefIdeal := by
  intro m ρ m' ρ' _ hag
  refine ⟨fun c => REF (m ((c : Thread Cert.FfnIdeal.nD Cert.FfnIdeal.τ).loc Cert.FfnIdeal.main_arg0)) (m ((c : Thread Cert.FfnIdeal.nD Cert.FfnIdeal.τ).loc Cert.FfnIdeal.main_arg1)) (m ((c : Thread Cert.FfnIdeal.nD Cert.FfnIdeal.τ).loc Cert.FfnIdeal.main_arg2)) (m ((c : Thread Cert.FfnIdeal.nD Cert.FfnIdeal.τ).loc Cert.FfnIdeal.main_arg3)) (m ((c : Thread Cert.FfnIdeal.nD Cert.FfnIdeal.τ).loc Cert.FfnIdeal.main_arg4)), ?_, ?_⟩
  · exact (θ_run Cert.FfnIdeal.defs _ _).mono (fun _ h c => ⟨(h c).1.trans (final m c), (h c).2⟩)
      (Cert.FfnIdeal.Value.run_blocks (F := Ideal) m ρ)
  · refine (θ_run Cert.FfnRefIdeal.defs _ _).mono (fun _ h c => ⟨(h c).1.trans ?_, (h c).2⟩)
      (Cert.FfnRefIdeal.Value.run (F := Ideal) m' ρ')
    show REF (m' ((c : Thread Cert.FfnRefIdeal.nD Cert.FfnRefIdeal.τ).loc Cert.FfnRefIdeal.main_arg0)) (m' ((c : Thread Cert.FfnRefIdeal.nD Cert.FfnRefIdeal.τ).loc Cert.FfnRefIdeal.main_arg1)) (m' ((c : Thread Cert.FfnRefIdeal.nD Cert.FfnRefIdeal.τ).loc Cert.FfnRefIdeal.main_arg2)) (m' ((c : Thread Cert.FfnRefIdeal.nD Cert.FfnRefIdeal.τ).loc Cert.FfnRefIdeal.main_arg3)) (m' ((c : Thread Cert.FfnRefIdeal.nD Cert.FfnRefIdeal.τ).loc Cert.FfnRefIdeal.main_arg4)) = _
    rw [(hag c).1, (hag c).2.1, (hag c).2.2.1, (hag c).2.2.2.1, (hag c).2.2.2.2]

end Cert.FfnProof

end
-- ==== Proof.FfnFinalValue.lean ====
/-
  The last feed-forward block with the layer's closing normalization: the kernel's accumulated sum over the tiles of
  the hidden axis is the reference's whole sum, and the normalized rows it stores at the last tile are the reference's.
-/
module

public import proofs.«01_k».proof.Proof.Gen.FfnFinalIdeal.Frame
public import proofs.«01_k».proof.Proof.Gen.FfnFinalIdeal.Value
public import proofs.«01_k».proof.Proof.Gen.FfnFinalRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnFinalProof

open Cert.FfnFinalIdeal Cert.FfnFinalIdeal.Gen

variable (m : (ℓ : Loc nD τ sig) → Buf (Elt Ideal) ℓ)

/-- The reference's root-mean-square normalization of the rows of `X`, scaled by `w`. -/
def NORM (X : FVec Ideal S16384x2048 .f32) (w : FVec Ideal S2048 .f32) : FVec Ideal S16384x2048 .f32 :=
  mulf (mulf X (broadcastInDim Cert.FfnFinalRefIdeal.S16384x2048 ![0, 1] Cert.FfnFinalRefIdeal.Gen.bcast_S16384x1_S16384x2048_0_1
    (Host.rsqrt (addf (Host.divf (broadcastInDim Cert.FfnFinalRefIdeal.S16384x1 ![0] Cert.FfnFinalRefIdeal.Gen.bcast_S16384_S16384x1_0
      (Host.reduceAdd (mulf X X) (constant Cert.FfnFinalRefIdeal.S_ .f32 0x00000000#32)
        Cert.FfnFinalRefIdeal.Gen.reducesTo_S16384x2048_S16384_d1 Cert.FfnFinalRefIdeal.Gen.h_S_))
      (broadcastInDim Cert.FfnFinalRefIdeal.S16384x1 ![] Cert.FfnFinalRefIdeal.Gen.bcast_S_S16384x1 (constant Cert.FfnFinalRefIdeal.S_ .f32 0x45000000#32)))
      (broadcastInDim Cert.FfnFinalRefIdeal.S16384x1 ![] Cert.FfnFinalRefIdeal.Gen.bcast_S_S16384x1 (constant Cert.FfnFinalRefIdeal.S_ .f32 0x358637BD#32))))))
    (broadcastInDim Cert.FfnFinalRefIdeal.S16384x2048 ![0, 1] Cert.FfnFinalRefIdeal.Gen.bcast_S1x2048_S16384x2048_0_1
      (broadcastInDim Cert.FfnFinalRefIdeal.S1x2048 ![1] Cert.FfnFinalRefIdeal.Gen.bcast_S2048_S1x2048_1 w))

/-- The reference's gated hidden layer of the normalized rows `H`. -/
def ACT (H : FVec Ideal S16384x2048 .f32) (W1 W3 : FVec Ideal S2048x5632 .f32) : FVec Ideal Cert.FfnFinalRefIdeal.S16384x5632 .f32 :=
  mulf (mulf (Host.dotGeneral (F := Ideal) Cert.FfnFinalRefIdeal.dot_S16384x2048_S2048x5632_S16384x5632_1_0_0_1_n_n none H W1)
    (Host.divf (broadcastInDim Cert.FfnFinalRefIdeal.S16384x5632 ![] Cert.FfnFinalRefIdeal.Gen.bcast_S_S16384x5632 (constant Cert.FfnFinalRefIdeal.S_ .f32 0x3F800000#32))
      (addf (broadcastInDim Cert.FfnFinalRefIdeal.S16384x5632 ![] Cert.FfnFinalRefIdeal.Gen.bcast_S_S16384x5632 (constant Cert.FfnFinalRefIdeal.S_ .f32 0x3F800000#32))
        (Host.exp (Host.negf (Host.dotGeneral (F := Ideal) (φ₁ := .f32) (φ₂ := .f32) Cert.FfnFinalRefIdeal.dot_S16384x2048_S2048x5632_S16384x5632_1_0_0_1_n_n none H W1))))))
    (Host.dotGeneral (F := Ideal) Cert.FfnFinalRefIdeal.dot_S16384x2048_S2048x5632_S16384x5632_1_0_0_1_n_n none H W3)

/-- The reference's rows before the closing normalization: the residual plus half the feed-forward. -/
def BASE (X : FVec Ideal S16384x2048 .f32) (w : FVec Ideal S2048 .f32) (W1 W3 : FVec Ideal S2048x5632 .f32)
    (W2 : FVec Ideal S5632x2048 .f32) : FVec Ideal S16384x2048 .f32 :=
  addf X (mulf (broadcastInDim Cert.FfnFinalRefIdeal.S16384x2048 ![] Cert.FfnFinalRefIdeal.Gen.bcast_S_S16384x2048 (constant Cert.FfnFinalRefIdeal.S_ .f32 0x3F000000#32))
    (Host.dotGeneral (F := Ideal) Cert.FfnFinalRefIdeal.dot_S16384x5632_S5632x2048_S16384x2048_1_0_0_1_n_n none (ACT (NORM X w) W1 W3) W2))

/-- What the reference computes, over its arguments. -/
def REF (X : FVec Ideal S16384x2048 .f32) (w : FVec Ideal S2048 .f32) (W1 W3 : FVec Ideal S2048x5632 .f32)
    (W2 : FVec Ideal S5632x2048 .f32) (w' : FVec Ideal S2048 .f32) : FVec Ideal S16384x2048 .f32 :=
  NORM (BASE X w W1 W3 W2) w'

/-- Where each window's block sits at a grid point. -/
theorem idx : ∀ t : Fin cfg0.N, win0_0.index t = ![t.val / 11, 0] ∧ win0_1.index t = ![0, 0]
    ∧ win0_2.index t = ![0, t.val % 11] ∧ win0_3.index t = ![0, t.val % 11] ∧ win0_4.index t = ![t.val % 11, 0]
    ∧ win0_5.index t = ![0, 0] ∧ win0_6.index t = ![t.val / 11, 0] ∧ t.val / 11 < 32 :=
  (by decide +kernel : ∀ t : Fin grid0.N, _)

/-- The row of the whole array that row `a` of the blocks of run `q` is. -/
abbrev row (q : Nat) (hq : q < 32) (a : Fin 512) : Fin 16384 := ⟨q * 512 + a.val, by omega⟩

/-- The normalized rows of point `t`'s block are those of the reference's normalized array. -/
theorem norm_at (c : Dev nD) (t : Fin cfg0.N) (a : Fin 512) (b : Fin 2048) :
    k0_pay1 (iblk m c 0 t) (iblk m c 1 t) (ix2 a b)
    = NORM (m ((c : Thread nD τ).loc main_arg0)) (m ((c : Thread nD τ).loc main_arg1))
        (ix2 (row (t.val / 11) (idx t).2.2.2.2.2.2.2 a) b) := by
  pointwise [k0_pay1, NORM]
  blk_point [iblk, V, idx t]

/-- What point `t` adds to the accumulator. -/
def part (c : Dev nD) (t : Fin cfg0.N) (y : S512x2048.Idx) : EReal :=
  ∑ f : Fin 512, ACT (NORM (m ((c : Thread nD τ).loc main_arg0)) (m ((c : Thread nD τ).loc main_arg1)))
      (m ((c : Thread nD τ).loc main_arg2)) (m ((c : Thread nD τ).loc main_arg3))
      (ix2 (row (t.val / 11) (idx t).2.2.2.2.2.2.2 (y 0)) (⟨t.val % 11 * 512 + f.val, by omega⟩ : Fin 5632))
    * (show FVec Ideal S5632x2048 .f32 from m ((c : Thread nD τ).loc main_arg4)) (ix2 (⟨t.val % 11 * 512 + f.val, by omega⟩ : Fin 5632) (y 1))

/-- The accumulating step over normalized rows `H`: the accumulator plus `part`. -/
theorem step_at (c : Dev nD) (t : Fin cfg0.N) (H : FVec Ideal S512x2048 .bf16) (acc : FVec Ideal S512x2048 .f32)
    (hH : ∀ (a : Fin 512) (b : Fin 2048), H (ix2 a b)
      = NORM (m ((c : Thread nD τ).loc main_arg0)) (m ((c : Thread nD τ).loc main_arg1))
        (ix2 (row (t.val / 11) (idx t).2.2.2.2.2.2.2 a) b)) (y) :
    k0_pay3 H (iblk m c 2 t) (iblk m c 3 t) acc (iblk m c 4 t) y = acc y + part m c t y := by
  unfold part
  pointwise [k0_pay3, ACT, hH, Ideal.logistic]
  blk_point [iblk, V, idx t]

/-- The carried normalized rows hold the reference's, at every point of a run. -/
theorem rows_at (c : Dev nD) : ∀ (n : ℕ) (hn : n < cfg0.N) (a : Fin 512) (b : Fin 2048),
    (outsAt0 m c n hn).2.1 (ix2 a b)
      = NORM (m ((c : Thread nD τ).loc main_arg0)) (m ((c : Thread nD τ).loc main_arg1))
        (ix2 (row (n / 11) (idx ⟨n, hn⟩).2.2.2.2.2.2.2 a) b) := by
  intro n
  induction n with
  | zero =>
    intro hn a b
    rw [outsAt0_A m c ⟨0, hn⟩ rfl (by show ¬ (0 % 11 = 10); decide)]
    dsimp only
    frame_out
    exact norm_at m c ⟨0, hn⟩ a b
  | succ n ih =>
    intro hn a b
    by_cases h0 : (n + 1) % 11 = 0
    · rw [outsAt0_A m c ⟨n + 1, hn⟩ h0 (by show ¬ (n + 1) % 11 = 10; omega)]
      dsimp only
      frame_out
      exact norm_at m c ⟨n + 1, hn⟩ a b
    · have hq : (n + 1) / 11 = n / 11 := by omega
      have key := ih (by omega) a b
      have hrow : ∀ h, row ((n + 1) / 11) h a = row (n / 11) (by omega) a := by
        intro h; apply Fin.ext; show (n + 1) / 11 * 512 + a.val = _; rw [hq]
      rw [hrow]
      by_cases h1 : (n + 1) % 11 = 10
      · rw [outsAt0_C m c ⟨n + 1, hn⟩ h0 h1]
        dsimp only
        exact key
      · rw [outsAt0_B m c ⟨n + 1, hn⟩ h0 h1]
        dsimp only
        exact key

/-- The same for the rows the point before left, at a point that does not start a run. -/
theorem rows_before (c : Dev nD) (t : Fin cfg0.N) (h0 : ¬t.val % 11 = 0) (a : Fin 512) (b : Fin 2048) :
    (outsAt0 m c (t.val - 1) (Nat.lt_of_le_of_lt (Nat.sub_le _ _) t.isLt)).2.1 (ix2 a b)
      = NORM (m ((c : Thread nD τ).loc main_arg0)) (m ((c : Thread nD τ).loc main_arg1))
        (ix2 (row (t.val / 11) (idx t).2.2.2.2.2.2.2 a) b) := by
  rw [rows_at m c (t.val - 1) _ a b]
  have hrow : ∀ h h', row ((t.val - 1) / 11) h a = row (t.val / 11) h' a := by
    intro h h'; apply Fin.ext; show (t.val - 1) / 11 * 512 + a.val = t.val / 11 * 512 + a.val; omega
  rw [hrow]

/-- The accumulator at the start of a run: the first part over zero. -/
theorem acc_first (c : Dev nD) (t : Fin cfg0.N) (h0 : t.val % 11 = 0) (y : S512x2048.Idx) :
    (outsAt0 m c t.val t.isLt).2.2 y = 0 + part m c t y := by
  rw [outsAt0_A m c t h0 (by omega)]
  dsimp only
  frame_out
  rw [step_at m c t _ _ (norm_at m c t)]
  congr 1
  pointwise [k0_pay2]

/-- The accumulator later in a run: what the point before left plus this point's part. -/
theorem acc_next (c : Dev nD) (t : Fin cfg0.N) (h0 : ¬t.val % 11 = 0) (y : S512x2048.Idx) :
    (outsAt0 m c t.val t.isLt).2.2 y
      = (outsAt0 m c (t.val - 1) (Nat.lt_of_le_of_lt (Nat.sub_le _ _) t.isLt)).2.2 y + part m c t y := by
  by_cases h1 : t.val % 11 = 10
  · rw [outsAt0_C m c t h0 h1]
    dsimp only
    frame_out
    simp only [read_unread_whole]
    exact step_at m c t _ _ (rows_before m c t h0) y
  · rw [outsAt0_B m c t h0 h1]
    dsimp only
    frame_out
    simp only [read_unread_whole]
    exact step_at m c t _ _ (rows_before m c t h0) y

/-- The accumulator at the last point of a run is the whole contraction of the hidden axis. -/
theorem acc_last (c : Dev nD) (t : Fin cfg0.N) (h1 : t.val % 11 = 10) (a : Fin 512) (b : Fin 2048) :
    (outsAt0 m c t.val t.isLt).2.2 (ix2 a b)
      = (Host.dotGeneral (F := Ideal) (φ₁ := .f32) (φ₂ := .f32) Cert.FfnFinalRefIdeal.dot_S16384x5632_S5632x2048_S16384x2048_1_0_0_1_n_n none
          (ACT (NORM (m ((c : Thread nD τ).loc main_arg0)) (m ((c : Thread nD τ).loc main_arg1)))
            (m ((c : Thread nD τ).loc main_arg2)) (m ((c : Thread nD τ).loc main_arg3)))
          (m ((c : Thread nD τ).loc main_arg4)) : FVec Ideal S16384x2048 .f32)
        (ix2 (row (t.val / 11) (idx t).2.2.2.2.2.2.2 a) b) := by
  rw [Pipeline.eq_sum_fin_of_reset_step_apply_of_flush (M := EReal) (fun n h => (outsAt0 m c n h).2.2) 11 (fun _ => 0)
    (part m c) (acc_first m c) (acc_next m c) t h1 (ix2 a b), zero_add]
  unfold part
  pointwise
  refine Fin.sum_mul_add_congr (n := 512) fun s k hl => ?_
  have e1 : (11 * (t.val / 11) + s.val) / 11 = t.val / 11 := by omega
  have e2 : (11 * (t.val / 11) + s.val) % 11 = s.val := by omega
  have r1 : ∀ h h', row ((11 * (t.val / 11) + s.val) / 11) h a = row (t.val / 11) h' a := by
    intro h h'; apply Fin.ext; show (11 * (t.val / 11) + s.val) / 11 * 512 + a.val = t.val / 11 * 512 + a.val; rw [e1]
  have r2 : ∀ h h', (⟨(11 * (t.val / 11) + s.val) % 11 * 512 + k.val, h⟩ : Fin 5632) = ⟨s.val * 512 + k.val, h'⟩ := by
    intro h h'; apply Fin.ext; show (11 * (t.val / 11) + s.val) % 11 * 512 + k.val = _; rw [e2]
  simp only [r1 _ (idx t).2.2.2.2.2.2.2, r2 _ hl]

/-- Over an accumulator whose rows complete to the reference's, the stored normalized rows are the reference's. -/
theorem last_at (c : Dev nD) (t : Fin cfg0.N) (A : FVec Ideal S512x2048 .f32)
    (hA : ∀ (a : Fin 512) (b : Fin 2048), (show FVec Ideal S512x2048 .f32 from iblk m c 0 t) (ix2 a b) + Ideal.ofBits .f32 0x3F000000#32 * A (ix2 a b)
      = BASE (m ((c : Thread nD τ).loc main_arg0)) (m ((c : Thread nD τ).loc main_arg1))
        (m ((c : Thread nD τ).loc main_arg2)) (m ((c : Thread nD τ).loc main_arg3)) (m ((c : Thread nD τ).loc main_arg4))
        (ix2 (row (t.val / 11) (idx t).2.2.2.2.2.2.2 a) b)) (a : Fin 512) (b : Fin 2048) :
    k0_pay4 (iblk m c 0 t) A (iblk m c 5 t) (ix2 a b)
      = REF (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (ix2 (row (t.val / 11) (idx t).2.2.2.2.2.2.2 a) b) := by
  unfold REF
  generalize BASE (m ((c : Thread nD τ).loc main_arg0)) (m ((c : Thread nD τ).loc main_arg1))
        (m ((c : Thread nD τ).loc main_arg2)) (m ((c : Thread nD τ).loc main_arg3)) (m ((c : Thread nD τ).loc main_arg4)) = B at hA ⊢
  pointwise [k0_pay4, NORM, hA]
  blk_point [iblk, V, idx t]

/-- What the body stores at the last point of a run is the reference's value where it sits. -/
theorem point (c : Dev nD) (t : Fin cfg0.N) (h1 : t.val % 11 = 10) (y : S512x2048.Idx) :
    (outsAt0 m c t.val t.isLt).1 y
      = REF (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (((cfg0.win 6).blk t).view.emb y) := by
  have h0 : ¬t.val % 11 = 0 := by omega
  have hacc := acc_last m c t h1
  rw [outsAt0_C m c t h0 h1] at hacc ⊢
  dsimp only at hacc ⊢
  revert hacc
  frame_out
  intro hacc
  idx_vars y
  have hy : (((cfg0.win 6).blk t).view.emb (ix2 y0 y1) : S16384x2048.Idx) = ix2 (row (t.val / 11) (idx t).2.2.2.2.2.2.2 y0) y1 := by
    blk_ext [idx t]
  rw [hy]
  refine last_at m c t _ (fun a b => ?_) y0 y1
  rw [hacc]
  unfold BASE
  pointwise
  blk_point [iblk, V, idx t]

/-- The result array after the run. -/
theorem final (c : Dev nD) : (dats m 0 c).arrAt 6 (cfgs 0).N
    = REF (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  exact point m c t ((flush0_6 t).mp hf) y

end Cert.FfnFinalProof

end
-- ==== Proof.FfnFinalClaims.lean ====
/-
  The claims about `FfnFinal`, the last half-step feed-forward with the final normalization: the reference's frame and the equality of the kernel's result with the reference's.
-/
module

public import proofs.«01_k».proof.Defs
public import proofs.«01_k».proof.Proof.FfnFinalValue

@[expose] public section

noncomputable section

namespace Cert.FfnFinalProof

open Idealize.ShloMosaic Idealize.ShloMosaic.TcCoe Idealize.SL.Sem

/-- The reference's program runs, leaves its arguments as they were and every counter at zero: it declares no semaphore. -/
theorem frame_ref : Cert.quiescent_FfnFinalRefIdeal := fun m ρ _ =>
  (θ_run Cert.FfnFinalRefIdeal.defs _ _).mono (fun r h => ⟨fun c => (h c).2, sem_eq_zero_of_no_sems (by decide) r.2⟩)
    (Cert.FfnFinalRefIdeal.Value.run (F := Ideal) m ρ)

/-- From memories that agree on the arguments, the kernel and the reference end with equal results. -/
theorem algebraic : Cert.algebraic_FfnFinalIdeal_FfnFinalRefIdeal := by
  intro m ρ m' ρ' _ hag
  refine ⟨fun c => REF (m ((c : Thread Cert.FfnFinalIdeal.nD Cert.FfnFinalIdeal.τ).loc Cert.FfnFinalIdeal.main_arg0)) (m ((c : Thread Cert.FfnFinalIdeal.nD Cert.FfnFinalIdeal.τ).loc Cert.FfnFinalIdeal.main_arg1)) (m ((c : Thread Cert.FfnFinalIdeal.nD Cert.FfnFinalIdeal.τ).loc Cert.FfnFinalIdeal.main_arg2)) (m ((c : Thread Cert.FfnFinalIdeal.nD Cert.FfnFinalIdeal.τ).loc Cert.FfnFinalIdeal.main_arg3)) (m ((c : Thread Cert.FfnFinalIdeal.nD Cert.FfnFinalIdeal.τ).loc Cert.FfnFinalIdeal.main_arg4)) (m ((c : Thread Cert.FfnFinalIdeal.nD Cert.FfnFinalIdeal.τ).loc Cert.FfnFinalIdeal.main_arg5)), ?_, ?_⟩
  · exact (θ_run Cert.FfnFinalIdeal.defs _ _).mono (fun _ h c => ⟨(h c).1.trans (final m c), (h c).2⟩)
      (Cert.FfnFinalIdeal.Value.run_blocks (F := Ideal) m ρ)
  · refine (θ_run Cert.FfnFinalRefIdeal.defs _ _).mono (fun _ h c => ⟨(h c).1.trans ?_, (h c).2⟩)
      (Cert.FfnFinalRefIdeal.Value.run (F := Ideal) m' ρ')
    show REF (m' ((c : Thread Cert.FfnFinalRefIdeal.nD Cert.FfnFinalRefIdeal.τ).loc Cert.FfnFinalRefIdeal.main_arg0)) (m' ((c : Thread Cert.FfnFinalRefIdeal.nD Cert.FfnFinalRefIdeal.τ).loc Cert.FfnFinalRefIdeal.main_arg1)) (m' ((c : Thread Cert.FfnFinalRefIdeal.nD Cert.FfnFinalRefIdeal.τ).loc Cert.FfnFinalRefIdeal.main_arg2)) (m' ((c : Thread Cert.FfnFinalRefIdeal.nD Cert.FfnFinalRefIdeal.τ).loc Cert.FfnFinalRefIdeal.main_arg3)) (m' ((c : Thread Cert.FfnFinalRefIdeal.nD Cert.FfnFinalRefIdeal.τ).loc Cert.FfnFinalRefIdeal.main_arg4)) (m' ((c : Thread Cert.FfnFinalRefIdeal.nD Cert.FfnFinalRefIdeal.τ).loc Cert.FfnFinalRefIdeal.main_arg5)) = _
    rw [(hag c).1, (hag c).2.1, (hag c).2.2.1, (hag c).2.2.2.1, (hag c).2.2.2.2.1, (hag c).2.2.2.2.2]

end Cert.FfnFinalProof

end
-- ==== Proof.InProjValue.lean ====
/-
  The input projection: at every grid point the stored block is the reference's product of the normalized rows with
  the weight, where the block sits.
-/
module

public import proofs.«01_k».proof.Proof.Gen.InProjIdeal.Frame
public import proofs.«01_k».proof.Proof.Gen.InProjIdeal.Value
public import proofs.«01_k».proof.Proof.Gen.InProjRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjProof

open Cert.InProjIdeal Cert.InProjIdeal.Gen

variable (m : (ℓ : Loc nD τ sig) → Buf (Elt Ideal) ℓ)

/-- The reference's root-mean-square normalization of the rows of `X`, scaled by `w`. -/
def NORM (X : FVec Ideal S16384x2048 .f32) (w : FVec Ideal S2048 .f32) : FVec Ideal S16384x2048 .f32 :=
  mulf (mulf X (broadcastInDim Cert.InProjRefIdeal.S16384x2048 ![0, 1] Cert.InProjRefIdeal.Gen.bcast_S16384x1_S16384x2048_0_1
    (Host.rsqrt (addf (Host.divf (broadcastInDim Cert.InProjRefIdeal.S16384x1 ![0] Cert.InProjRefIdeal.Gen.bcast_S16384_S16384x1_0
      (Host.reduceAdd (mulf X X) (constant Cert.InProjRefIdeal.S_ .f32 0x00000000#32)
        Cert.InProjRefIdeal.Gen.reducesTo_S16384x2048_S16384_d1 Cert.InProjRefIdeal.Gen.h_S_))
      (broadcastInDim Cert.InProjRefIdeal.S16384x1 ![] Cert.InProjRefIdeal.Gen.bcast_S_S16384x1 (constant Cert.InProjRefIdeal.S_ .f32 0x45000000#32)))
      (broadcastInDim Cert.InProjRefIdeal.S16384x1 ![] Cert.InProjRefIdeal.Gen.bcast_S_S16384x1 (constant Cert.InProjRefIdeal.S_ .f32 0x358637BD#32))))))
    (broadcastInDim Cert.InProjRefIdeal.S16384x2048 ![0, 1] Cert.InProjRefIdeal.Gen.bcast_S1x2048_S16384x2048_0_1
      (broadcastInDim Cert.InProjRefIdeal.S1x2048 ![1] Cert.InProjRefIdeal.Gen.bcast_S2048_S1x2048_1 w))

/-- What the reference computes, over its arguments: the normalized rows times the weight. -/
def REF (X : FVec Ideal S16384x2048 .f32) (w : FVec Ideal S2048 .f32) (W : FVec Ideal S2048x11776 .f32) :
    FVec Ideal S16384x11776 .f32 :=
  Host.dotGeneral (F := Ideal) Cert.InProjRefIdeal.dot_S16384x2048_S2048x11776_S16384x11776_1_0_0_1_n_n none (NORM X w) W

/-- Where each window's block sits at a grid point. -/
theorem idx : ∀ t : Fin cfg0.N, win0_0.index t = ![t.val / 23, 0] ∧ win0_1.index t = ![0, 0]
    ∧ win0_2.index t = ![0, t.val % 23] ∧ win0_3.index t = ![t.val / 23, t.val % 23] ∧ t.val / 23 < 16 :=
  (by decide +kernel : ∀ t : Fin grid0.N, _)

/-- The row of the whole array that row `a` of the blocks of run `q` is. -/
abbrev row (q : Nat) (hq : q < 16) (a : Fin 1024) : Fin 16384 := ⟨q * 1024 + a.val, by omega⟩

/-- The normalized rows of point `t`'s block are those of the reference's normalized array. -/
theorem norm_at (c : Dev nD) (t : Fin cfg0.N) (a : Fin 1024) (b : Fin 2048) :
    k0_pay1 (iblk m c 0 t) (iblk m c 1 t) (ix2 a b)
    = NORM (m ((c : Thread nD τ).loc main_arg0)) (m ((c : Thread nD τ).loc main_arg1))
        (ix2 (row (t.val / 23) (idx t).2.2.2.2 a) b) := by
  pointwise [k0_pay1, NORM]
  blk_point [iblk, V, idx t]

/-- The carried normalized rows hold the reference's, at every point of a run. -/
theorem rows_at (c : Dev nD) : ∀ (n : ℕ) (hn : n < cfg0.N) (a : Fin 1024) (b : Fin 2048),
    (outsAt0 m c n hn).2 (ix2 a b)
      = NORM (m ((c : Thread nD τ).loc main_arg0)) (m ((c : Thread nD τ).loc main_arg1))
        (ix2 (row (n / 23) (idx ⟨n, hn⟩).2.2.2.2 a) b) := by
  intro n
  induction n with
  | zero =>
    intro hn a b
    rw [outsAt0_A m c ⟨0, hn⟩ rfl]
    dsimp only
    frame_out
    exact norm_at m c ⟨0, hn⟩ a b
  | succ n ih =>
    intro hn a b
    by_cases h0 : (n + 1) % 23 = 0
    · rw [outsAt0_A m c ⟨n + 1, hn⟩ h0]
      dsimp only
      frame_out
      exact norm_at m c ⟨n + 1, hn⟩ a b
    · have hq : (n + 1) / 23 = n / 23 := by omega
      have key := ih (by omega) a b
      have hrow : ∀ h, row ((n + 1) / 23) h a = row (n / 23) (by omega) a := by
        intro h; apply Fin.ext; show (n + 1) / 23 * 1024 + a.val = _; rw [hq]
      rw [hrow]
      rw [outsAt0_B m c ⟨n + 1, hn⟩ h0]
      dsimp only
      exact key

/-- The product stored over normalized rows `H` is the reference's where the block sits. -/
theorem prod_at (c : Dev nD) (t : Fin cfg0.N) (H : FVec Ideal S1024x2048 .bf16)
    (hH : ∀ (a : Fin 1024) (b : Fin 2048), H (ix2 a b)
      = NORM (m ((c : Thread nD τ).loc main_arg0)) (m ((c : Thread nD τ).loc main_arg1))
        (ix2 (row (t.val / 23) (idx t).2.2.2.2 a) b)) (y : S1024x512.Idx) :
    k0_pay2 H (iblk m c 2 t) y
      = REF (m ((c : Thread nD τ).loc main_arg0)) (m ((c : Thread nD τ).loc main_arg1)) (m ((c : Thread nD τ).loc main_arg2))
          (((cfg0.win 3).blk t).view.emb y) := by
  pointwise [k0_pay2, REF, hH]
  blk_point [iblk, V, idx t]

/-- What the body leaves in the result's block at point `t` is the reference's value where the block sits. -/
theorem point (c : Dev nD) (t : Fin cfg0.N) (y : S1024x512.Idx) :
    (outsAt0 m c t.val t.isLt).1 y
      = REF (m ((c : Thread nD τ).loc main_arg0)) (m ((c : Thread nD τ).loc main_arg1)) (m ((c : Thread nD τ).loc main_arg2))
          (((cfg0.win 3).blk t).view.emb y) := by
  have key := rows_at m c t.val t.isLt
  by_cases h0 : t.val % 23 = 0
  · rw [outsAt0_A m c t h0]
    dsimp only
    frame_out
    exact prod_at m c t _ (norm_at m c t) y
  · rw [outsAt0_B m c t h0] at key ⊢
    dsimp only at key ⊢
    frame_out
    simp only [read_unread_whole]
    exact prod_at m c t _ key y

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact point m c t y

end Cert.InProjProof

end
-- ==== Proof.InProjClaims.lean ====
/-
  The claims about `InProj`, the input projection: the reference's frame and the equality of the kernel's result with the reference's.
-/
module

public import proofs.«01_k».proof.Defs
public import proofs.«01_k».proof.Proof.InProjValue

@[expose] public section

noncomputable section

namespace Cert.InProjProof

open Idealize.ShloMosaic Idealize.ShloMosaic.TcCoe Idealize.SL.Sem

/-- The reference's program runs, leaves its arguments as they were and every counter at zero: it declares no semaphore. -/
theorem frame_ref : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- From memories that agree on the arguments, the kernel and the reference end with equal results. -/
theorem algebraic : Cert.algebraic_InProjIdeal_InProjRefIdeal := by
  intro m ρ m' ρ' _ hag
  refine ⟨fun c => REF (m ((c : Thread Cert.InProjIdeal.nD Cert.InProjIdeal.τ).loc Cert.InProjIdeal.main_arg0)) (m ((c : Thread Cert.InProjIdeal.nD Cert.InProjIdeal.τ).loc Cert.InProjIdeal.main_arg1)) (m ((c : Thread Cert.InProjIdeal.nD Cert.InProjIdeal.τ).loc Cert.InProjIdeal.main_arg2)), ?_, ?_⟩
  · exact (θ_run Cert.InProjIdeal.defs _ _).mono (fun _ h c => ⟨(h c).1.trans (final m c), (h c).2⟩)
      (Cert.InProjIdeal.Value.run_blocks (F := Ideal) m ρ)
  · refine (θ_run Cert.InProjRefIdeal.defs _ _).mono (fun _ h c => ⟨(h c).1.trans ?_, (h c).2⟩)
      (Cert.InProjRefIdeal.Value.run (F := Ideal) m' ρ')
    show REF (m' ((c : Thread Cert.InProjRefIdeal.nD Cert.InProjRefIdeal.τ).loc Cert.InProjRefIdeal.main_arg0)) (m' ((c : Thread Cert.InProjRefIdeal.nD Cert.InProjRefIdeal.τ).loc Cert.InProjRefIdeal.main_arg1)) (m' ((c : Thread Cert.InProjRefIdeal.nD Cert.InProjRefIdeal.τ).loc Cert.InProjRefIdeal.main_arg2)) = _
    rw [(hag c).1, (hag c).2.1, (hag c).2.2]

end Cert.InProjProof

end
-- ==== Proof.KvProjValue.lean ====
/-
  The memory's key and value projection: at every grid point the stored block is the reference's product of the
  normalized rows with the weight, where the block sits.
-/
module

public import proofs.«01_k».proof.Proof.Gen.KvProjIdeal.Frame
public import proofs.«01_k».proof.Proof.Gen.KvProjIdeal.Value
public import proofs.«01_k».proof.Proof.Gen.KvProjRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KvProjProof

open Cert.KvProjIdeal Cert.KvProjIdeal.Gen

variable (m : (ℓ : Loc nD τ sig) → Buf (Elt Ideal) ℓ)

/-- The reference's root-mean-square normalization of the rows of `X`, scaled by `w`. -/
def NORM (X : FVec Ideal S1024x2048 .f32) (w : FVec Ideal S2048 .f32) : FVec Ideal S1024x2048 .f32 :=
  mulf (mulf X (broadcastInDim Cert.KvProjRefIdeal.S1024x2048 ![0, 1] Cert.KvProjRefIdeal.Gen.bcast_S1024x1_S1024x2048_0_1
    (Host.rsqrt (addf (Host.divf (broadcastInDim Cert.KvProjRefIdeal.S1024x1 ![0] Cert.KvProjRefIdeal.Gen.bcast_S1024_S1024x1_0
      (Host.reduceAdd (mulf X X) (constant Cert.KvProjRefIdeal.S_ .f32 0x00000000#32)
        Cert.KvProjRefIdeal.Gen.reducesTo_S1024x2048_S1024_d1 Cert.KvProjRefIdeal.Gen.h_S_))
      (broadcastInDim Cert.KvProjRefIdeal.S1024x1 ![] Cert.KvProjRefIdeal.Gen.bcast_S_S1024x1 (constant Cert.KvProjRefIdeal.S_ .f32 0x45000000#32)))
      (broadcastInDim Cert.KvProjRefIdeal.S1024x1 ![] Cert.KvProjRefIdeal.Gen.bcast_S_S1024x1 (constant Cert.KvProjRefIdeal.S_ .f32 0x358637BD#32))))))
    (broadcastInDim Cert.KvProjRefIdeal.S1024x2048 ![0, 1] Cert.KvProjRefIdeal.Gen.bcast_S1x2048_S1024x2048_0_1
      (broadcastInDim Cert.KvProjRefIdeal.S1x2048 ![1] Cert.KvProjRefIdeal.Gen.bcast_S2048_S1x2048_1 w))

/-- What the reference computes, over its arguments: the normalized rows times the weight. -/
def REF (X : FVec Ideal S1024x2048 .f32) (w : FVec Ideal S2048 .f32) (W : FVec Ideal S2048x4096 .f32) :
    FVec Ideal S1024x4096 .bf16 :=
  truncf .bf16 (Host.dotGeneral (F := Ideal) Cert.KvProjRefIdeal.dot_S1024x2048_S2048x4096_S1024x4096_1_0_0_1_n_n none (NORM X w) W) Cert.KvProjRefIdeal.Gen.bitsLt_bf16_f32

/-- Where each window's block sits at a grid point. -/
theorem idx : ∀ t : Fin cfg0.N, win0_0.index t = ![t.val / 4, 0] ∧ win0_1.index t = ![0, 0]
    ∧ win0_2.index t = ![0, t.val % 4] ∧ win0_3.index t = ![t.val / 4, t.val % 4] ∧ t.val / 4 < 4 :=
  (by decide +kernel : ∀ t : Fin grid0.N, _)

/-- The row of the whole array that row `a` of the blocks of run `q` is. -/
abbrev row (q : Nat) (hq : q < 4) (a : Fin 256) : Fin 1024 := ⟨q * 256 + a.val, by omega⟩

/-- The normalized rows of point `t`'s block are those of the reference's normalized array. -/
theorem norm_at (c : Dev nD) (t : Fin cfg0.N) (a : Fin 256) (b : Fin 2048) :
    k0_pay1 (iblk m c 0 t) (iblk m c 1 t) (ix2 a b)
    = NORM (m ((c : Thread nD τ).loc main_arg0)) (m ((c : Thread nD τ).loc main_arg1))
        (ix2 (row (t.val / 4) (idx t).2.2.2.2 a) b) := by
  pointwise [k0_pay1, NORM]
  blk_point [iblk, V, idx t]

/-- The carried normalized rows hold the reference's, at every point of a run. -/
theorem rows_at (c : Dev nD) : ∀ (n : ℕ) (hn : n < cfg0.N) (a : Fin 256) (b : Fin 2048),
    (outsAt0 m c n hn).2 (ix2 a b)
      = NORM (m ((c : Thread nD τ).loc main_arg0)) (m ((c : Thread nD τ).loc main_arg1))
        (ix2 (row (n / 4) (idx ⟨n, hn⟩).2.2.2.2 a) b) := by
  intro n
  induction n with
  | zero =>
    intro hn a b
    rw [outsAt0_A m c ⟨0, hn⟩ rfl]
    dsimp only
    frame_out
    exact norm_at m c ⟨0, hn⟩ a b
  | succ n ih =>
    intro hn a b
    by_cases h0 : (n + 1) % 4 = 0
    · rw [outsAt0_A m c ⟨n + 1, hn⟩ h0]
      dsimp only
      frame_out
      exact norm_at m c ⟨n + 1, hn⟩ a b
    · have hq : (n + 1) / 4 = n / 4 := by omega
      have key := ih (by omega) a b
      have hrow : ∀ h, row ((n + 1) / 4) h a = row (n / 4) (by omega) a := by
        intro h; apply Fin.ext; show (n + 1) / 4 * 256 + a.val = _; rw [hq]
      rw [hrow]
      rw [outsAt0_B m c ⟨n + 1, hn⟩ h0]
      dsimp only
      exact key

/-- The product stored over normalized rows `H` is the reference's where the block sits. -/
theorem prod_at (c : Dev nD) (t : Fin cfg0.N) (H : FVec Ideal S256x2048 .bf16)
    (hH : ∀ (a : Fin 256) (b : Fin 2048), H (ix2 a b)
      = NORM (m ((c : Thread nD τ).loc main_arg0)) (m ((c : Thread nD τ).loc main_arg1))
        (ix2 (row (t.val / 4) (idx t).2.2.2.2 a) b)) (y : S256x1024.Idx) :
    k0_pay2 H (iblk m c 2 t) y
      = REF (m ((c : Thread nD τ).loc main_arg0)) (m ((c : Thread nD τ).loc main_arg1)) (m ((c : Thread nD τ).loc main_arg2))
          (((cfg0.win 3).blk t).view.emb y) := by
  pointwise [k0_pay2, REF, hH]
  blk_point [iblk, V, idx t]

/-- What the body leaves in the result's block at point `t` is the reference's value where the block sits. -/
theorem point (c : Dev nD) (t : Fin cfg0.N) (y : S256x1024.Idx) :
    (outsAt0 m c t.val t.isLt).1 y
      = REF (m ((c : Thread nD τ).loc main_arg0)) (m ((c : Thread nD τ).loc main_arg1)) (m ((c : Thread nD τ).loc main_arg2))
          (((cfg0.win 3).blk t).view.emb y) := by
  have key := rows_at m c t.val t.isLt
  by_cases h0 : t.val % 4 = 0
  · rw [outsAt0_A m c t h0]
    dsimp only
    frame_out
    exact prod_at m c t _ (norm_at m c t) y
  · rw [outsAt0_B m c t h0] at key ⊢
    dsimp only at key ⊢
    frame_out
    simp only [read_unread_whole]
    exact prod_at m c t _ key y

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact point m c t y

end Cert.KvProjProof

end
-- ==== Proof.KvProjClaims.lean ====
/-
  The claims about `KvProj`, the key/value projection: the reference's frame and the equality of the kernel's result with the reference's.
-/
module

public import proofs.«01_k».proof.Defs
public import proofs.«01_k».proof.Proof.KvProjValue

@[expose] public section

noncomputable section

namespace Cert.KvProjProof

open Idealize.ShloMosaic Idealize.ShloMosaic.TcCoe Idealize.SL.Sem

/-- The reference's program runs, leaves its arguments as they were and every counter at zero: it declares no semaphore. -/
theorem frame_ref : Cert.quiescent_KvProjRefIdeal := fun m ρ _ =>
  (θ_run Cert.KvProjRefIdeal.defs _ _).mono (fun r h => ⟨fun c => (h c).2, sem_eq_zero_of_no_sems (by decide) r.2⟩)
    (Cert.KvProjRefIdeal.Value.run (F := Ideal) m ρ)

/-- From memories that agree on the arguments, the kernel and the reference end with equal results. -/
theorem algebraic : Cert.algebraic_KvProjIdeal_KvProjRefIdeal := by
  intro m ρ m' ρ' _ hag
  refine ⟨fun c => REF (m ((c : Thread Cert.KvProjIdeal.nD Cert.KvProjIdeal.τ).loc Cert.KvProjIdeal.main_arg0)) (m ((c : Thread Cert.KvProjIdeal.nD Cert.KvProjIdeal.τ).loc Cert.KvProjIdeal.main_arg1)) (m ((c : Thread Cert.KvProjIdeal.nD Cert.KvProjIdeal.τ).loc Cert.KvProjIdeal.main_arg2)), ?_, ?_⟩
  · exact (θ_run Cert.KvProjIdeal.defs _ _).mono (fun _ h c => ⟨(h c).1.trans (final m c), (h c).2⟩)
      (Cert.KvProjIdeal.Value.run_blocks (F := Ideal) m ρ)
  · refine (θ_run Cert.KvProjRefIdeal.defs _ _).mono (fun _ h c => ⟨(h c).1.trans ?_, (h c).2⟩)
      (Cert.KvProjRefIdeal.Value.run (F := Ideal) m' ρ')
    show REF (m' ((c : Thread Cert.KvProjRefIdeal.nD Cert.KvProjRefIdeal.τ).loc Cert.KvProjRefIdeal.main_arg0)) (m' ((c : Thread Cert.KvProjRefIdeal.nD Cert.KvProjRefIdeal.τ).loc Cert.KvProjRefIdeal.main_arg1)) (m' ((c : Thread Cert.KvProjRefIdeal.nD Cert.KvProjRefIdeal.τ).loc Cert.KvProjRefIdeal.main_arg2)) = _
    rw [(hag c).1, (hag c).2.1, (hag c).2.2]

end Cert.KvProjProof

end
-- ==== Proof.OutProjValue.lean ====
/-
  The output projection, kernel side: the array the kernel leaves is the residual plus the product of the two
  branches, side by side, with the whole weight.
-/
module

public import proofs.«01_k».proof.Proof.Gen.OutProjIdeal.Frame
public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProjProof

open Cert.OutProjIdeal Cert.OutProjIdeal.Gen

variable (m : (ℓ : Loc nD τ sig) → Buf (Elt Ideal) ℓ)

/-- What the reference computes, over its four arguments: `x` plus the two branches, concatenated, times the weight. -/
def REF (X : FVec Ideal S16384x2048 .f32) (A B : FVec Ideal S16384x2048 .bf16) (W : FVec Ideal S4096x2048 .f32) :
    FVec Ideal S16384x2048 .f32 :=
  addf X (Host.dotGeneral (F := Ideal) Cert.OutProjRefIdeal.dot_S16384x4096_S4096x2048_S16384x2048_1_0_0_1_n_n none
    (concatenate Cert.OutProjRefIdeal.S16384x4096 1
      [⟨S16384x2048, (extf .f32 A Cert.OutProjRefIdeal.Gen.bitsLt_bf16_f32)⟩,
       ⟨S16384x2048, (extf .f32 B Cert.OutProjRefIdeal.Gen.bitsLt_bf16_f32)⟩]
      Cert.OutProjRefIdeal.Gen.concatenates_S16384x2048_S16384x2048_S16384x4096_d1) W)

/-- Where each window's block sits at a grid point. -/
theorem idx : ∀ t : Fin cfg0.N, win0_0.index t = ![t.val / 4, t.val % 4] ∧ win0_1.index t = ![t.val / 4, 0]
    ∧ win0_2.index t = ![t.val / 4, 0] ∧ win0_3.index t = ![0, t.val % 4] ∧ win0_4.index t = ![0, t.val % 4]
    ∧ win0_5.index t = ![t.val / 4, t.val % 4] :=
  (by decide +kernel : ∀ t : Fin grid0.N, _)

/-- What the body stores at element `y` of point `t`'s block is the reference's value where that element sits. -/
theorem point (c : Dev nD) (t : Fin cfg0.N) (y) :
    k0_pay1 (iblk m c 0 t) (iblk m c 1 t) (iblk m c 3 t) (iblk m c 2 t) (iblk m c 4 t) y
    = REF (m ((c : Thread nD τ).loc main_arg0)) (m ((c : Thread nD τ).loc main_arg1))
        (m ((c : Thread nD τ).loc main_arg2)) (m ((c : Thread nD τ).loc main_arg3)) (((cfg0.win 5).blk t).view.emb y) := by
  pointwise [k0_pay1, REF]
  rw [add_assoc]
  blk_point [iblk, V, idx t]

/-- The result array after the run. -/
theorem final (c : Dev nD) : (dats m 0 c).arrAt 5 (cfgs 0).N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5]; frame_out
  exact point m c t y

end Cert.OutProjProof

end
-- ==== Proof.OutProjClaims.lean ====
/-
  The claims about `OutProj`, the output projection: the reference's frame and the equality of the kernel's result with the reference's.
-/
module

public import proofs.«01_k».proof.Defs
public import proofs.«01_k».proof.Proof.OutProjValue

@[expose] public section

noncomputable section

namespace Cert.OutProjProof

open Idealize.ShloMosaic Idealize.ShloMosaic.TcCoe Idealize.SL.Sem

/-- The reference's program runs, leaves its arguments as they were and every counter at zero: it declares no semaphore. -/
theorem frame_ref : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- From memories that agree on the arguments, the kernel and the reference end with equal results. -/
theorem algebraic : Cert.algebraic_OutProjIdeal_OutProjRefIdeal := by
  intro m ρ m' ρ' _ hag
  refine ⟨fun c => REF (m ((c : Thread Cert.OutProjIdeal.nD Cert.OutProjIdeal.τ).loc Cert.OutProjIdeal.main_arg0)) (m ((c : Thread Cert.OutProjIdeal.nD Cert.OutProjIdeal.τ).loc Cert.OutProjIdeal.main_arg1)) (m ((c : Thread Cert.OutProjIdeal.nD Cert.OutProjIdeal.τ).loc Cert.OutProjIdeal.main_arg2)) (m ((c : Thread Cert.OutProjIdeal.nD Cert.OutProjIdeal.τ).loc Cert.OutProjIdeal.main_arg3)), ?_, ?_⟩
  · exact (θ_run Cert.OutProjIdeal.defs _ _).mono (fun _ h c => ⟨(h c).1.trans (final m c), (h c).2⟩)
      (Cert.OutProjIdeal.Value.run_blocks (F := Ideal) m ρ)
  · refine (θ_run Cert.OutProjRefIdeal.defs _ _).mono (fun _ h c => ⟨(h c).1.trans ?_, (h c).2⟩)
      (Cert.OutProjRefIdeal.Value.run (F := Ideal) m' ρ')
    show REF (m' ((c : Thread Cert.OutProjRefIdeal.nD Cert.OutProjRefIdeal.τ).loc Cert.OutProjRefIdeal.main_arg0)) (m' ((c : Thread Cert.OutProjRefIdeal.nD Cert.OutProjRefIdeal.τ).loc Cert.OutProjRefIdeal.main_arg1)) (m' ((c : Thread Cert.OutProjRefIdeal.nD Cert.OutProjRefIdeal.τ).loc Cert.OutProjRefIdeal.main_arg2)) (m' ((c : Thread Cert.OutProjRefIdeal.nD Cert.OutProjRefIdeal.τ).loc Cert.OutProjRefIdeal.main_arg3)) = _
    rw [(hag c).1, (hag c).2.1, (hag c).2.2.1, (hag c).2.2.2]

end Cert.OutProjProof

end
-- ==== Proof.XattnMath.lean ====
/-
  The cross-attention's mathematics: the reference's terms, and one head's attention for one query row in scalars.
-/
module

public import proofs.«01_k».proof.Proof.Gen.XattnIdeal.Skeleton
public import proofs.«01_k».proof.Proof.Gen.XattnRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.XattnProof

open Cert.XattnIdeal Cert.XattnIdeal.Gen

/-- The reference's root-mean-square normalization of the rows of `X`, scaled by `w`. -/
def NORM (X : FVec Ideal S16384x2048 .f32) (w : FVec Ideal S2048 .f32) : FVec Ideal S16384x2048 .f32 :=
  mulf (mulf X (broadcastInDim Cert.XattnRefIdeal.S16384x2048 ![0, 1] Cert.XattnRefIdeal.Gen.bcast_S16384x1_S16384x2048_0_1
    (Host.rsqrt (addf (Host.divf (broadcastInDim Cert.XattnRefIdeal.S16384x1 ![0] Cert.XattnRefIdeal.Gen.bcast_S16384_S16384x1_0
      (Host.reduceAdd (mulf X X) (constant Cert.XattnRefIdeal.S_ .f32 0x00000000#32)
        Cert.XattnRefIdeal.Gen.reducesTo_S16384x2048_S16384_d1 Cert.XattnRefIdeal.Gen.h_S_))
      (broadcastInDim Cert.XattnRefIdeal.S16384x1 ![] Cert.XattnRefIdeal.Gen.bcast_S_S16384x1 (constant Cert.XattnRefIdeal.S_ .f32 0x45000000#32)))
      (broadcastInDim Cert.XattnRefIdeal.S16384x1 ![] Cert.XattnRefIdeal.Gen.bcast_S_S16384x1 (constant Cert.XattnRefIdeal.S_ .f32 0x358637BD#32))))))
    (broadcastInDim Cert.XattnRefIdeal.S16384x2048 ![0, 1] Cert.XattnRefIdeal.Gen.bcast_S1x2048_S16384x2048_0_1
      (broadcastInDim Cert.XattnRefIdeal.S1x2048 ![1] Cert.XattnRefIdeal.Gen.bcast_S2048_S1x2048_1 w))

/-- The reference's queries: the normalized rows times the query weight. -/
def QS (X : FVec Ideal S16384x2048 .f32) (w : FVec Ideal S2048 .f32) (W : FVec Ideal S2048x2048 .f32) : FVec Ideal S16384x2048 .f32 :=
  Host.dotGeneral (F := Ideal) Cert.XattnRefIdeal.dot_S16384x2048_S2048x2048_S16384x2048_1_0_0_1_n_n none (NORM X w) W

/-- The reference's scaled scores of the queries `Q` against the keys in the memory's projection `KV`. -/
def SCORES (Q : FVec Ideal S16384x2048 .f32) (KV : FVec Ideal S1024x4096 .bf16) : FVec Ideal Cert.XattnRefIdeal.S4x4x4096x256 .f32 :=
  mulf (Host.dotGeneral (F := Ideal) Cert.XattnRefIdeal.dot_S4x4096x4x512_S4x256x4x512_S4x4x4096x256_3_3_1_1_02_02 none
      (shapeCast _ Q Cert.XattnRefIdeal.Gen.shapeCasts_S16384x2048_S4x4096x4x512)
      (shapeCast _ (extractStridedSlice Cert.XattnRefIdeal.S1024x2048 ![0, 0] (extf .f32 KV Cert.XattnRefIdeal.Gen.bitsLt_bf16_f32) Cert.XattnRefIdeal.Gen.slices_S1024x4096_S1024x2048_0_0) Cert.XattnRefIdeal.Gen.shapeCasts_S1024x2048_S4x256x4x512))
    (broadcastInDim Cert.XattnRefIdeal.S4x4x4096x256 ![] Cert.XattnRefIdeal.Gen.bcast_S_S4x4x4096x256 (constant Cert.XattnRefIdeal.S_ .f32 0x3D3504F3#32))

/-- The exponentials of the scores less their row's maximum. -/
def EXPS (S : FVec Ideal Cert.XattnRefIdeal.S4x4x4096x256 .f32) : FVec Ideal Cert.XattnRefIdeal.S4x4x4096x256 .f32 :=
  Host.exp (subf S (broadcastInDim Cert.XattnRefIdeal.S4x4x4096x256 ![0, 1, 2, 3] Cert.XattnRefIdeal.Gen.bcast_S4x4x4096x1_S4x4x4096x256_0_1_2_3 (broadcastInDim Cert.XattnRefIdeal.S4x4x4096x1 ![0, 1, 2] Cert.XattnRefIdeal.Gen.bcast_S4x4x4096_S4x4x4096x1_0_1_2
    (maximumf (broadcastInDim Cert.XattnRefIdeal.S4x4x4096 ![] Cert.XattnRefIdeal.Gen.bcast_S_S4x4x4096 (constant Cert.XattnRefIdeal.S_ .f32 0xFF800000#32))
      (Host.reduce FloatOps.maximumf S (constant Cert.XattnRefIdeal.S_ .f32 0xFF800000#32) Cert.XattnRefIdeal.Gen.reducesTo_S4x4x4096x256_S4x4x4096_d3 Cert.XattnRefIdeal.Gen.h_S_)))))

/-- The reference's attended values over the scores `S`, the heads side by side. -/
def ATT (S : FVec Ideal Cert.XattnRefIdeal.S4x4x4096x256 .f32) (KV : FVec Ideal S1024x4096 .bf16) : FVec Ideal S16384x2048 .f32 :=
  shapeCast _ (transpose Cert.XattnRefIdeal.S4x4096x4x512 [0, 3, 1, 2] (Host.dotGeneral (F := Ideal) Cert.XattnRefIdeal.dot_S4x256x4x512_S4x4x4096x256_S4x4x512x4096_1_3_3_2_02_01 none
      (shapeCast _ (extractStridedSlice Cert.XattnRefIdeal.S1024x2048 ![0, 2048] (extf .f32 KV Cert.XattnRefIdeal.Gen.bitsLt_bf16_f32) Cert.XattnRefIdeal.Gen.slices_S1024x4096_S1024x2048_0_2048) Cert.XattnRefIdeal.Gen.shapeCasts_S1024x2048_S4x256x4x512)
      (Host.divf (EXPS S) (broadcastInDim Cert.XattnRefIdeal.S4x4x4096x256 ![0, 1, 2, 3] Cert.XattnRefIdeal.Gen.bcast_S4x4x4096x1_S4x4x4096x256_0_1_2_3 (broadcastInDim Cert.XattnRefIdeal.S4x4x4096x1 ![0, 1, 2] Cert.XattnRefIdeal.Gen.bcast_S4x4x4096_S4x4x4096x1_0_1_2
        (Host.reduceAdd (EXPS S) (constant Cert.XattnRefIdeal.S_ .f32 0x00000000#32) Cert.XattnRefIdeal.Gen.reducesTo_S4x4x4096x256_S4x4x4096_d3 Cert.XattnRefIdeal.Gen.h_S_)))))
    Cert.XattnRefIdeal.Gen.transposes_S4x4x512x4096_S4x4096x4x512_0_3_1_2) Cert.XattnRefIdeal.Gen.shapeCasts_S4x4096x4x512_S16384x2048

/-- What the reference computes, over its five arguments. -/
def REF (X : FVec Ideal S16384x2048 .f32) (w : FVec Ideal S2048 .f32) (W : FVec Ideal S2048x2048 .f32)
    (KV : FVec Ideal S1024x4096 .bf16) (Wo : FVec Ideal S2048x2048 .f32) : FVec Ideal S16384x2048 .f32 :=
  addf X (Host.dotGeneral (F := Ideal) Cert.XattnRefIdeal.dot_S16384x2048_S2048x2048_S16384x2048_1_0_0_1_n_n none (ATT (SCORES (QS X w W) KV) KV) Wo)

/-- One head's attention for one query row, in scalars: the softmax over 256 keys of the scaled scores, times the values. -/
def HEAD (q : Fin 512 → EReal) (k v : Fin 256 → Fin 512 → EReal) (d : Fin 512) : EReal :=
  ∑ j : Fin 256, Ideal.div (Ideal.exp ((∑ e : Fin 512, q e * k j e) * Ideal.ofBits .f32 0x3D3504F3#32
      - Finset.univ.fold max (Ideal.ofBits .f32 0xFF800000#32) fun l : Fin 256 => (∑ e : Fin 512, q e * k l e) * Ideal.ofBits .f32 0x3D3504F3#32))
    (∑ i : Fin 256, Ideal.exp ((∑ e : Fin 512, q e * k i e) * Ideal.ofBits .f32 0x3D3504F3#32
      - Finset.univ.fold max (Ideal.ofBits .f32 0xFF800000#32) fun l : Fin 256 => (∑ e : Fin 512, q e * k l e) * Ideal.ofBits .f32 0x3D3504F3#32)) * v j d

end Cert.XattnProof

end
-- ==== Proof.XattnHeads.lean ====
/-
  The cross-attention kernel's heads, in scalars: each of the four is the softmax attention of its 512 columns of the queries.
-/
module

public import proofs.«01_k».proof.Proof.XattnMath

@[expose] public section

set_option maxRecDepth 16384

noncomputable section

open Idealize.ShloMosaic Idealize.ShloMosaic.TcCoe Idealize.SL.Sem
open Idealize.ShloMosaic.Pipeline (Dat)

namespace Cert.XattnProof

open Cert.XattnIdeal Cert.XattnIdeal.Gen

/-- The kernel's first head. -/
theorem head0 (x : FVec Ideal S512x2048 .f32) (w : FVec Ideal S1x2048 .f32) (W : FVec Ideal S2048x2048 .bf16) (K V : FVec Ideal S256x512 .bf16) (a d : Fin 512) :
    k0_pay3 (F := Ideal) x w W K V (ix2 a d) = HEAD (fun e => k0_pay2 (F := Ideal) x w W (ix2 a ⟨e.val, by omega⟩)) (fun j e => K (ix2 j e)) (fun j e => V (ix2 j e)) d := by
  unfold HEAD k0_pay3
  generalize k0_pay2 (F := Ideal) x w W = Q
  pointwise

/-- The kernel's second head. -/
theorem head1 (Q : FVec Ideal S512x2048 .bf16) (K V : FVec Ideal S256x512 .bf16) (a d : Fin 512) :
    k0_pay4 (F := Ideal) Q K V (ix2 a d) = HEAD (fun e => Q (ix2 a ⟨512 + e.val, by omega⟩)) (fun j e => K (ix2 j e)) (fun j e => V (ix2 j e)) d := by
  unfold HEAD
  pointwise [k0_pay4]

/-- The kernel's third head. -/
theorem head2 (Q : FVec Ideal S512x2048 .bf16) (K V : FVec Ideal S256x512 .bf16) (a d : Fin 512) :
    k0_pay5 (F := Ideal) Q K V (ix2 a d) = HEAD (fun e => Q (ix2 a ⟨1024 + e.val, by omega⟩)) (fun j e => K (ix2 j e)) (fun j e => V (ix2 j e)) d := by
  unfold HEAD
  pointwise [k0_pay5]

end Cert.XattnProof

end
-- ==== Proof.XattnOut.lean ====
/-
  The cross-attention kernel's stored row: the residual plus the four heads side by side times the output weight.
-/
module

public import proofs.«01_k».proof.Proof.XattnMath

@[expose] public section

set_option maxRecDepth 16384

noncomputable section

open Idealize.ShloMosaic Idealize.ShloMosaic.TcCoe Idealize.SL.Sem
open Idealize.ShloMosaic.Pipeline (Dat)

namespace Cert.XattnProof

open Cert.XattnIdeal Cert.XattnIdeal.Gen

/-- The kernel's result row; the fourth head is computed with it. -/
theorem out_at (x : FVec Ideal S512x2048 .f32) (H0 H1 H2 : FVec Ideal S512x512 .bf16) (Q : FVec Ideal S512x2048 .bf16) (K V : FVec Ideal S256x512 .bf16)
    (W : FVec Ideal S2048x2048 .bf16) (a : Fin 512) (b : Fin 2048) :
    k0_pay1 (F := Ideal) x H0 H1 H2 K V (k0_pay6 Q) (constant S512x256 .f32 0x00000000#32) W (ix2 a b)
      = x (ix2 a b) + ∑ k : Fin 2048, (if h : k.val < 512 then H0 (ix2 a ⟨k.val, h⟩) else if h : k.val - 512 < 512 then H1 (ix2 a ⟨k.val - 512, h⟩)
          else if h : k.val - 512 - 512 < 512 then H2 (ix2 a ⟨k.val - 512 - 512, h⟩)
          else HEAD (fun e => Q (ix2 a ⟨1536 + e.val, by omega⟩)) (fun j e => K (ix2 j e)) (fun j e => V (ix2 j e)) ⟨k.val - 512 - 512 - 512, by omega⟩) * W (ix2 k b) := by
  unfold HEAD
  pointwise [k0_pay1, k0_pay6]

end Cert.XattnProof

end
-- ==== Proof.XattnRefHeads.lean ====
/-
  The cross-attention reference's heads, in scalars.
-/
module

public import proofs.«01_k».proof.Proof.XattnMath

@[expose] public section

set_option maxRecDepth 16384

noncomputable section

open Idealize.ShloMosaic Idealize.ShloMosaic.TcCoe Idealize.SL.Sem
open Idealize.ShloMosaic.Pipeline (Dat)

namespace Cert.XattnProof

open Cert.XattnIdeal Cert.XattnIdeal.Gen

/-- The reference's score of key `j` for row `l` of batch `b` in head `h`. -/
theorem score_at (Q : FVec Ideal S16384x2048 .f32) (KV : FVec Ideal S1024x4096 .bf16) (b h : Fin 4) (l : Fin 4096) (j : Fin 256) :
    SCORES Q KV (ix4 b h l j) = (∑ e : Fin 512, Q (ix2 ⟨b.val * 4096 + l.val, by omega⟩ ⟨h.val * 512 + e.val, by omega⟩)
      * KV (ix2 ⟨b.val * 256 + j.val, by omega⟩ ⟨h.val * 512 + e.val, by omega⟩)) * Ideal.ofBits .f32 0x3D3504F3#32 := by
  pointwise [SCORES]

/-- The maximum with −∞ is the other operand. -/
theorem max_bot (x : EReal) : max (Ideal.ofBits .f32 0xFF800000#32) x = x := by
  simp [Ideal.ofBits, Ideal.ieee]

/-- A row's value spread over the row. -/
theorem spread_at (M : FVec Ideal Cert.XattnRefIdeal.S4x4x4096 .f32) (b h : Fin 4) (l : Fin 4096) (j : Fin 256) :
    broadcastInDim Cert.XattnRefIdeal.S4x4x4096x256 ![0, 1, 2, 3] Cert.XattnRefIdeal.Gen.bcast_S4x4x4096x1_S4x4x4096x256_0_1_2_3
      (broadcastInDim Cert.XattnRefIdeal.S4x4x4096x1 ![0, 1, 2] Cert.XattnRefIdeal.Gen.bcast_S4x4x4096_S4x4x4096x1_0_1_2 M) (ix4 b h l j) = M (ix3 b h l) := by
  pointwise

/-- A row's maximum. -/
theorem rowmax_at (S : FVec Ideal Cert.XattnRefIdeal.S4x4x4096x256 .f32) (b h : Fin 4) (l : Fin 4096) :
    Host.reduce FloatOps.maximumf S (constant Cert.XattnRefIdeal.S_ .f32 0xFF800000#32) Cert.XattnRefIdeal.Gen.reducesTo_S4x4x4096x256_S4x4x4096_d3 Cert.XattnRefIdeal.Gen.h_S_ (ix3 b h l)
      = Finset.univ.fold max (Ideal.ofBits .f32 0xFF800000#32) fun i : Fin 256 => S (ix4 b h l i) := by
  pointwise

/-- The maximum with −∞, at an index. -/
theorem maxinf_at (M : FVec Ideal Cert.XattnRefIdeal.S4x4x4096 .f32) (b h : Fin 4) (l : Fin 4096) :
    maximumf (broadcastInDim Cert.XattnRefIdeal.S4x4x4096 ![] Cert.XattnRefIdeal.Gen.bcast_S_S4x4x4096 (constant Cert.XattnRefIdeal.S_ .f32 0xFF800000#32)) M (ix3 b h l)
      = max (Ideal.ofBits .f32 0xFF800000#32) (M (ix3 b h l)) := by
  pointwise

/-- The exponential of a difference, at an index. -/
theorem expsub_at (S T : FVec Ideal Cert.XattnRefIdeal.S4x4x4096x256 .f32) (b h : Fin 4) (l : Fin 4096) (j : Fin 256) :
    Host.exp (subf S T) (ix4 b h l j) = Ideal.exp (S (ix4 b h l j) - T (ix4 b h l j)) := by
  pointwise

/-- The reference's exponentials, in scalars. -/
theorem exps_at (S : FVec Ideal Cert.XattnRefIdeal.S4x4x4096x256 .f32) (b h : Fin 4) (l : Fin 4096) (j : Fin 256) :
    EXPS S (ix4 b h l j) = Ideal.exp (S (ix4 b h l j) - Finset.univ.fold max (Ideal.ofBits .f32 0xFF800000#32) fun i : Fin 256 => S (ix4 b h l i)) := by
  unfold EXPS
  rw [expsub_at, spread_at, maxinf_at, rowmax_at, max_bot]

/-- A row's sum. -/
theorem rowsum_at (E : FVec Ideal Cert.XattnRefIdeal.S4x4x4096x256 .f32) (b h : Fin 4) (l : Fin 4096) :
    Host.reduceAdd E (constant Cert.XattnRefIdeal.S_ .f32 0x00000000#32) Cert.XattnRefIdeal.Gen.reducesTo_S4x4x4096x256_S4x4x4096_d3 Cert.XattnRefIdeal.Gen.h_S_ (ix3 b h l)
      = ∑ i : Fin 256, E (ix4 b h l i) := by
  pointwise

/-- A quotient, at an index. -/
theorem div_at (E T : FVec Ideal Cert.XattnRefIdeal.S4x4x4096x256 .f32) (b h : Fin 4) (l : Fin 4096) (j : Fin 256) :
    Host.divf E T (ix4 b h l j) = Ideal.div (E (ix4 b h l j)) (T (ix4 b h l j)) := by
  pointwise

/-- The values of each batch and head. -/
def VALS (KV : FVec Ideal S1024x4096 .bf16) : FVec Ideal Cert.XattnRefIdeal.S4x256x4x512 .f32 :=
  shapeCast _ (extractStridedSlice Cert.XattnRefIdeal.S1024x2048 ![0, 2048] (extf .f32 KV Cert.XattnRefIdeal.Gen.bitsLt_bf16_f32) Cert.XattnRefIdeal.Gen.slices_S1024x4096_S1024x2048_0_2048) Cert.XattnRefIdeal.Gen.shapeCasts_S1024x2048_S4x256x4x512

/-- The values, at an index. -/
theorem vals_at (KV : FVec Ideal S1024x4096 .bf16) (b h : Fin 4) (j : Fin 256) (d : Fin 512) :
    VALS KV (ix4 b j h d) = KV (ix2 ⟨b.val * 256 + j.val, by omega⟩ ⟨2048 + (h.val * 512 + d.val), by omega⟩) := by
  pointwise [VALS]

/-- The heads' sums over the keys, at an index. -/
theorem dot_at (U : FVec Ideal Cert.XattnRefIdeal.S4x256x4x512 .f32) (P : FVec Ideal Cert.XattnRefIdeal.S4x4x4096x256 .f32) (b h : Fin 4) (l : Fin 4096) (d : Fin 512) :
    Host.dotGeneral (F := Ideal) Cert.XattnRefIdeal.dot_S4x256x4x512_S4x4x4096x256_S4x4x512x4096_1_3_3_2_02_01 none U P (ix4 b h d l)
      = ∑ j : Fin 256, U (ix4 b j h d) * P (ix4 b h l j) := by
  pointwise

/-- The heads side by side, at an index. -/
theorem side_at (Y : FVec Ideal Cert.XattnRefIdeal.S4x4x512x4096 .f32) (r : Fin 16384) (c : Fin 2048) :
    (shapeCast Cert.XattnRefIdeal.S16384x2048 (transpose Cert.XattnRefIdeal.S4x4096x4x512 [0, 3, 1, 2] Y Cert.XattnRefIdeal.Gen.transposes_S4x4x512x4096_S4x4096x4x512_0_3_1_2) Cert.XattnRefIdeal.Gen.shapeCasts_S4x4096x4x512_S16384x2048 : FVec Ideal Cert.XattnRefIdeal.S16384x2048 .f32) (ix2 r c)
      = Y (ix4 ⟨r.val / 4096, by omega⟩ ⟨c.val / 512, by omega⟩ ⟨c.val % 512, by omega⟩ ⟨r.val % 4096, by omega⟩) := by
  pointwise

/-- The reference's attended values over the exponentials, in scalars. -/
theorem att_of (S : FVec Ideal Cert.XattnRefIdeal.S4x4x4096x256 .f32) (KV : FVec Ideal S1024x4096 .bf16) (r : Fin 16384) (c : Fin 2048) :
    ATT S KV (ix2 r c) = ∑ j : Fin 256, KV (ix2 ⟨r.val / 4096 * 256 + j.val, by omega⟩ ⟨2048 + (c.val / 512 * 512 + c.val % 512), by omega⟩) *
          Ideal.div (EXPS S (ix4 ⟨r.val / 4096, by omega⟩ ⟨c.val / 512, by omega⟩ ⟨r.val % 4096, by omega⟩ j))
            (∑ i : Fin 256, EXPS S (ix4 ⟨r.val / 4096, by omega⟩ ⟨c.val / 512, by omega⟩ ⟨r.val % 4096, by omega⟩ i)) := by
  unfold ATT
  rw [side_at]
  refine (dot_at (VALS KV) _ _ _ _ _).trans (Finset.sum_congr rfl fun j _ => ?_)
  rw [vals_at, div_at, spread_at, rowsum_at]

/-- The reference's attended value of row `r` and column `c`, in scalars. -/
theorem att_at (Q : FVec Ideal S16384x2048 .f32) (KV : FVec Ideal S1024x4096 .bf16) (r : Fin 16384) (c : Fin 2048) :
    ATT (SCORES Q KV) KV (ix2 r c)
      = HEAD (fun e => Q (ix2 r ⟨c.val / 512 * 512 + e.val, by omega⟩)) (fun j e => KV (ix2 ⟨r.val / 4096 * 256 + j.val, by omega⟩ ⟨c.val / 512 * 512 + e.val, by omega⟩))
          (fun j e => KV (ix2 ⟨r.val / 4096 * 256 + j.val, by omega⟩ ⟨2048 + (c.val / 512 * 512 + e.val), by omega⟩)) ⟨c.val % 512, by omega⟩ := by
  have hr : (⟨r.val / 4096 * 4096 + r.val % 4096, by omega⟩ : Fin 16384) = r := Fin.ext (by show r.val / 4096 * 4096 + r.val % 4096 = r.val; omega)
  rw [att_of]
  unfold HEAD
  simp only [exps_at, score_at, hr]
  exact Finset.sum_congr rfl fun j _ => mul_comm _ _

end Cert.XattnProof

end
-- ==== Proof.XattnValue.lean ====
/-
  The cross-attention program's value: the kernel's result array is the reference's.
-/
module

public import proofs.«01_k».proof.Proof.Gen.XattnIdeal.Frame
public import proofs.«01_k».proof.Proof.Gen.XattnIdeal.Value
public import proofs.«01_k».proof.Proof.XattnHeads
public import proofs.«01_k».proof.Proof.XattnOut
public import proofs.«01_k».proof.Proof.XattnRefHeads

@[expose] public section

set_option maxRecDepth 16384

noncomputable section

open Idealize.ShloMosaic Idealize.ShloMosaic.TcCoe Idealize.SL.Sem
open Idealize.ShloMosaic.Pipeline (Dat)

namespace Cert.XattnProof

open Cert.XattnIdeal Cert.XattnIdeal.Gen

variable (m : (ℓ : Loc nD τ sig) → Buf (Elt Ideal) ℓ)

/-- Where each window's block sits at a grid point. -/
theorem idx : ∀ t : Fin cfg0.N, win0_0.index t = ![t.val, 0] ∧ win0_1.index t = ![0, 0]
    ∧ win0_2.index t = ![0, 0] ∧ win0_3.index t = ![t.val / 8, 0] ∧ win0_4.index t = ![0, 0] ∧ win0_5.index t = ![t.val, 0] ∧ t.val < 32 :=
  (by decide +kernel : ∀ t : Fin grid0.N, _)

/-- The row of the whole array that row `a` of point `t`'s block is. -/
abbrev row (t : Fin cfg0.N) (a : Fin 512) : Fin 16384 := ⟨t.val * 512 + a.val, by have := (idx t).2.2.2.2.2.2; omega⟩

/-- The block's queries are the reference's. -/
theorem q_at (c : Dev nD) (t : Fin cfg0.N) (a : Fin 512) (b : Fin 2048) :
    k0_pay2 (F := Ideal) (iblk m c 0 t) (iblk m c 1 t) (iblk m c 2 t) (ix2 a b)
      = QS (m ((c : Thread nD τ).loc main_arg0)) (m ((c : Thread nD τ).loc main_arg1)) (m ((c : Thread nD τ).loc main_arg2)) (ix2 (row t a) b) := by
  pointwise [k0_pay2, QS, NORM]
  blk_point [iblk, V, idx t]

/-- A read of the block of keys and values, in the whole array. -/
theorem kv_at (c : Dev nD) (t : Fin cfg0.N) (j : Fin 256) (e : Fin 4096) :
    iblk m c 3 t (ix2 j e) = (m ((c : Thread nD τ).loc main_arg3)) (ix2 ⟨t.val / 8 * 256 + j.val, by have := (idx t).2.2.2.2.2.2; omega⟩ e) := by
  blk_point [iblk, V, idx t]

/-- One head of the kernel, given where its keys and values sit, is the reference's attended value. -/
theorem head_at (c : Dev nD) (t : Fin cfg0.N) (a : Fin 512) (k : Fin 2048) (o : Nat) (ho : k.val / 512 * 512 = o) (d : Fin 512) (hd : k.val = o + d.val)
    (q : Fin 512 → EReal) (K V : Fin 256 → Fin 512 → EReal)
    (hq : ∀ e : Fin 512, q e = k0_pay2 (F := Ideal) (iblk m c 0 t) (iblk m c 1 t) (iblk m c 2 t) (ix2 a ⟨o + e.val, by omega⟩))
    (hK : ∀ (j : Fin 256) (e : Fin 512), K j e = iblk m c 3 t (ix2 j ⟨o + e.val, by omega⟩))
    (hV : ∀ (j : Fin 256) (e : Fin 512), V j e = iblk m c 3 t (ix2 j ⟨2048 + (o + e.val), by omega⟩)) :
    HEAD q K V d = ATT (SCORES (QS (m ((c : Thread nD τ).loc main_arg0)) (m ((c : Thread nD τ).loc main_arg1)) (m ((c : Thread nD τ).loc main_arg2))) (m ((c : Thread nD τ).loc main_arg3))) (m ((c : Thread nD τ).loc main_arg3)) (ix2 (row t a) k) := by
  subst ho
  rw [att_at]
  have h1 : (t.val * 512 + a.val) / 4096 = t.val / 8 := by omega
  have hd' : d = ⟨k.val % 512, by omega⟩ := Fin.ext (by show d.val = k.val % 512; omega)
  rw [hd']
  congr 1
  · funext e
    rw [hq, q_at]
  · funext j e
    rw [hK, kv_at]
    congr 2
    exact Fin.ext (by show t.val / 8 * 256 + j.val = (t.val * 512 + a.val) / 4096 * 256 + j.val; omega)
  · funext j e
    rw [hV, kv_at]
    congr 2
    exact Fin.ext (by show t.val / 8 * 256 + j.val = (t.val * 512 + a.val) / 4096 * 256 + j.val; omega)

/-- What the body stores at element `y` of point `t`'s block is the reference's value where that element sits. -/
theorem point (c : Dev nD) (t : Fin cfg0.N) (y : S512x2048.Idx) :
    out0_5 (iblk m c 0 t) (iblk m c 1 t) (iblk m c 2 t) (iblk m c 3 t) (iblk m c 4 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  unfold_out out0_5
  frame_out
  idx_vars y
  have hy : (((cfg0.win 5).blk t).view.emb (ix2 y0 y1) : S16384x2048.Idx) = ix2 (row t y0) y1 := by
    blk_ext [idx t]
  rw [hy, out_at]
  unfold REF
  generalize hATT : ATT (SCORES (QS (m ((c : Thread nD τ).loc main_arg0)) (m ((c : Thread nD τ).loc main_arg1)) (m ((c : Thread nD τ).loc main_arg2))) (m ((c : Thread nD τ).loc main_arg3))) (m ((c : Thread nD τ).loc main_arg3)) = AT
  pointwise
  congr 1
  · blk_point [iblk, V, idx t]
  · refine Finset.sum_congr rfl fun k _ => ?_
    congr 1
    · subst hATT
      split
      · rename_i h
        rw [head0]
        refine head_at m c t y0 k 0 (by omega) ⟨k.val, by omega⟩ (by show k.val = 0 + (k.val); omega) _ _ _ (fun e => ?_) (fun j e => ?_) (fun j e => ?_)
        · exact congrArg _ (congrArg (ix2 y0) (Fin.ext (by show _ = 0 + e.val; simp)))
        · blk_point [iblk, V, idx t]
        · blk_point [iblk, V, idx t]
      · split
        · rename_i h0 h
          rw [head1]
          refine head_at m c t y0 k 512 (by omega) ⟨k.val - 512, by omega⟩ (by show k.val = 512 + (k.val - 512); omega) _ _ _ (fun e => ?_) (fun j e => ?_) (fun j e => ?_)
          · exact congrArg _ (congrArg (ix2 y0) (Fin.ext (by show _ = 512 + e.val; simp)))
          · blk_point [iblk, V, idx t]
          · blk_point [iblk, V, idx t]
        · split
          · rename_i h0 h1 h
            rw [head2]
            refine head_at m c t y0 k 1024 (by omega) ⟨k.val - 512 - 512, by omega⟩ (by show k.val = 1024 + (k.val - 512 - 512); omega) _ _ _ (fun e => ?_) (fun j e => ?_) (fun j e => ?_)
            · exact congrArg _ (congrArg (ix2 y0) (Fin.ext (by show _ = 1024 + e.val; simp)))
            · blk_point [iblk, V, idx t]
            · blk_point [iblk, V, idx t]
          · rename_i h0 h1 h2
            refine head_at m c t y0 k 1536 (by omega) ⟨k.val - 512 - 512 - 512, by omega⟩ (by show k.val = 1536 + (k.val - 512 - 512 - 512); omega) _ _ _ (fun e => ?_) (fun j e => ?_) (fun j e => ?_)
            · exact congrArg _ (congrArg (ix2 y0) (Fin.ext (by show _ = 1536 + e.val; simp)))
            · blk_point [iblk, V, idx t]
            · blk_point [iblk, V, idx t]
    · blk_point [iblk, V, idx t]

/-- The result array after the run. -/
theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Cert.XattnProof

end
-- ==== Proof.XattnClaims.lean ====
/-
  The claims about `Xattn`, the cross-attention: the reference's frame and the equality of the kernel's result with the reference's.
-/
module

public import proofs.«01_k».proof.Defs
public import proofs.«01_k».proof.Proof.XattnValue

@[expose] public section

noncomputable section

namespace Cert.XattnProof

open Idealize.ShloMosaic Idealize.ShloMosaic.TcCoe Idealize.SL.Sem

/-- The reference's program runs, leaves its arguments as they were and every counter at zero: it declares no semaphore. -/
theorem frame_ref : Cert.quiescent_XattnRefIdeal := fun m ρ _ =>
  (θ_run Cert.XattnRefIdeal.defs _ _).mono (fun r h => ⟨fun c => (h c).2, sem_eq_zero_of_no_sems (by decide) r.2⟩)
    (Cert.XattnRefIdeal.Value.run (F := Ideal) m ρ)

/-- From memories that agree on the arguments, the kernel and the reference end with equal results. -/
theorem algebraic : Cert.algebraic_XattnIdeal_XattnRefIdeal := by
  intro m ρ m' ρ' _ hag
  refine ⟨fun c => REF (m ((c : Thread Cert.XattnIdeal.nD Cert.XattnIdeal.τ).loc Cert.XattnIdeal.main_arg0)) (m ((c : Thread Cert.XattnIdeal.nD Cert.XattnIdeal.τ).loc Cert.XattnIdeal.main_arg1)) (m ((c : Thread Cert.XattnIdeal.nD Cert.XattnIdeal.τ).loc Cert.XattnIdeal.main_arg2)) (m ((c : Thread Cert.XattnIdeal.nD Cert.XattnIdeal.τ).loc Cert.XattnIdeal.main_arg3)) (m ((c : Thread Cert.XattnIdeal.nD Cert.XattnIdeal.τ).loc Cert.XattnIdeal.main_arg4)), ?_, ?_⟩
  · exact (θ_run Cert.XattnIdeal.defs _ _).mono (fun _ h c => ⟨(h c).1.trans (final m c), (h c).2⟩)
      (Cert.XattnIdeal.Value.run_blocks (F := Ideal) m ρ)
  · refine (θ_run Cert.XattnRefIdeal.defs _ _).mono (fun _ h c => ⟨(h c).1.trans ?_, (h c).2⟩)
      (Cert.XattnRefIdeal.Value.run (F := Ideal) m' ρ')
    show REF (m' ((c : Thread Cert.XattnRefIdeal.nD Cert.XattnRefIdeal.τ).loc Cert.XattnRefIdeal.main_arg0)) (m' ((c : Thread Cert.XattnRefIdeal.nD Cert.XattnRefIdeal.τ).loc Cert.XattnRefIdeal.main_arg1)) (m' ((c : Thread Cert.XattnRefIdeal.nD Cert.XattnRefIdeal.τ).loc Cert.XattnRefIdeal.main_arg2)) (m' ((c : Thread Cert.XattnRefIdeal.nD Cert.XattnRefIdeal.τ).loc Cert.XattnRefIdeal.main_arg3)) (m' ((c : Thread Cert.XattnRefIdeal.nD Cert.XattnRefIdeal.τ).loc Cert.XattnRefIdeal.main_arg4)) = _
    rw [(hag c).1, (hag c).2.1, (hag c).2.2.1, (hag c).2.2.2.1, (hag c).2.2.2.2]

end Cert.XattnProof

end
-- ==== Proof.BackMath.lean ====
/-
  THE BACKWARD SWEEP IN SCALARS: a sweep from the end is the forward sweep over the rows in the opposite order.
-/
module

public import proofs.«01_k».proof.Proof.GlaChunk

@[expose] public section

set_option maxRecDepth 16384

noncomputable section

open Idealize.ShloMosaic Idealize.ShloMosaic.TcCoe Idealize.SL.Sem
open Idealize.ShloMosaic.Pipeline (Dat)

namespace Cert.GlaBwdProof

open Cert.GlaProof

/-- The sum of the numbers from the `i`-th on. -/
def CUMR (g : Fin 64 → EReal) (i : Fin 64) : EReal := ∑ j : Fin 64, if i.val ≤ j.val then g j else 0

/-- The running sum from the end is the running sum of the numbers in the opposite order. -/
theorem CUMR_rev (g : Fin 64 → EReal) (i : Fin 64) : CUMR g i = CUM (fun j => g j.rev) i.rev := by
  unfold CUMR CUM
  refine ((Equiv.sum_comp Fin.revPerm _).symm).trans (Finset.sum_congr rfl fun j _ => ?_)
  show (if i.val ≤ (Fin.rev j).val then g (Fin.rev j) else 0) = _
  by_cases h : i.val ≤ (Fin.rev j).val
  · rw [if_pos h, if_pos (by rw [Fin.val_rev] at h ⊢; omega)]
  · rw [if_neg h, if_neg (by rw [Fin.val_rev] at h ⊢; omega)]

/-- A chunk's output in head `h`, of a sweep from the end: the rows from its own on, and the part read off the carried state `S`. -/
def OUTR (qe ke qin : Fin 64 → Fin 1024 → EReal) (v : Fin 64 → Fin 2048 → EReal) (S : Fin 512 → Fin 256 → EReal) (h : Fin 4) (i : Fin 64) (w : Fin 512) : EReal :=
  (∑ j : Fin 64, (if i.val ≤ j.val then ∑ k : Fin 256, qe i (HC h k) * ke j (HC h k) else 0) * v j (VC h w)) + ∑ k : Fin 256, qin i (HC h k) * S w k

/-- … which is the forward sweep's output over the rows in the opposite order. -/
theorem OUTR_rev (qe ke qin : Fin 64 → Fin 1024 → EReal) (v : Fin 64 → Fin 2048 → EReal) (S : Fin 512 → Fin 256 → EReal) (h : Fin 4) (i : Fin 64) (w : Fin 512) :
    OUTR (fun i => qe i.rev) (fun i => ke i.rev) (fun i => qin i.rev) (fun i => v i.rev) S h i w = OUTT qe ke qin v S h i.rev w := by
  unfold OUTR OUTT
  refine congrArg₂ (· + ·) ?_ rfl
  refine ((Equiv.sum_comp Fin.revPerm _).symm).trans (Finset.sum_congr rfl fun j _ => ?_)
  show (if i.val ≤ (Fin.rev j).val then ∑ k : Fin 256, qe i.rev (HC h k) * ke (Fin.rev (Fin.rev j)) (HC h k) else 0) * v (Fin.rev (Fin.rev j)) (VC h w) = _
  rw [Fin.rev_rev]
  refine congrArg₂ (· * ·) ?_ rfl
  by_cases h : i.val ≤ (Fin.rev j).val
  · rw [if_pos h, if_pos (by rw [Fin.val_rev] at h ⊢; omega)]
  · rw [if_neg h, if_neg (by rw [Fin.val_rev] at h ⊢; omega)]

/-- The state a chunk leaves does not depend on the order of its rows. -/
theorem NEWT_rev (kend : Fin 64 → Fin 1024 → EReal) (dec : Fin 1024 → EReal) (v : Fin 64 → Fin 2048 → EReal) (S : Fin 512 → Fin 256 → EReal) (h : Fin 4) (w : Fin 512) (k : Fin 256) :
    NEWT (fun i => kend i.rev) dec (fun i => v i.rev) S h w k = NEWT kend dec v S h w k := by
  unfold NEWT
  exact congrArg₂ (· + ·) rfl (Equiv.sum_comp Fin.revPerm (fun j => v j (VC h w) * kend j (HC h k)))

/-- The running sum as the product with the triangle of ones, of the high and the low part. -/
theorem cumr_split (t x : Fin 64 → EReal) (i : Fin 64) (ht : ∀ j, t j = if i.val ≤ j.val then 1 else 0) (hx : ∀ j, x j ≠ ⊤) :
    (∑ j, t j * x j) + ∑ j, t j * (x j - x j) = CUMR x i := by
  rw [← Finset.sum_add_distrib]
  refine Finset.sum_congr rfl fun j _ => ?_
  rw [ht j]
  by_cases h : i.val ≤ j.val
  · rw [if_pos h, if_pos h, one_mul, one_mul, add_sub_self (hx j)]
  · rw [if_neg h, if_neg h, zero_mul, zero_mul, add_zero]

/-- A head's row `o` normalized, scaled by the weight `nw` and gated by `g`. -/
def FIN (o nw : Fin 512 → EReal) (g : EReal) (w : Fin 512) : EReal :=
  o w * Ideal.rsqrt (Ideal.div (∑ x : Fin 512, o x * o x) (Ideal.ofBits .f32 0x44000000#32) + Ideal.ofBits .f32 0x358637BD#32) * nw w * (g * Ideal.logistic g)

/-- Row `r` in the opposite order within its sequence of 4096. -/
def FL (r : Fin 16384) : Fin 16384 := ⟨r.val / 4096 * 4096 + (4095 - r.val % 4096), by omega⟩
/-- The columns, with the second gate's low-rank columns in place of the first's. -/
def SH (e : Fin 11776) : Fin 11776 := if h : 11328 ≤ e.val ∧ e.val < 11344 then ⟨e.val + 16, by omega⟩ else e
/-- The projections as the sweep from the end meets them. -/
def BK (P : Fin 16384 → Fin 11776 → EReal) (r : Fin 16384) (e : Fin 11776) : EReal := P (FL r) (SH e)
theorem SH_low (l : Fin 16) : SH ⟨11328 + l.val, by omega⟩ = ⟨11344 + l.val, by omega⟩ := by
  unfold SH
  rw [dif_pos ⟨by dsimp only; omega, by dsimp only; omega⟩]
  exact Fin.ext (by dsimp only; omega)
theorem SH_else (e : Fin 11776) (h : e.val < 11328) : SH e = e := by
  unfold SH
  rw [dif_neg (by omega)]

end Cert.GlaBwdProof

end
-- ==== Proof.BackHeads.lean ====
/-
  THE KERNEL'S HEADS: each head's gated output and each head's new state, as the chunk's mathematics of what goes in.
-/
module

public import proofs.«01_k».proof.Proof.BackMath
public import proofs.«01_k».proof.Proof.Gen.GlaBwdIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaBwdProof

open Cert.GlaProof Cert.GlaBwdIdeal Cert.GlaBwdIdeal.Gen

/-- The mask keeps the rows from the row itself on. -/
theorem mask_at (i j : Fin 64) : k0_pay2 (ix2 i j) = if i.val ≤ j.val then 1#1 else 0#1 := by
  revert i j
  decide +kernel

/-- A product under the mask, as the kernel's selection leaves it. -/
theorem select_mask (i j : Fin 64) (x y : EReal) :
    Scalar.select (k0_pay2 (ix2 i j)) (x * y) 0 = (if i.val ≤ j.val then x else 0) * y := by
  rw [mask_at]
  by_cases h : i.val ≤ j.val <;> simp [h, Scalar.select]

theorem back_3 (w : Fin 512) (h : 1536 + w.val - 512 - 512 - 512 < 512) : (⟨1536 + w.val - 512 - 512 - 512, h⟩ : Fin 512) = w := Fin.ext (by dsimp only; omega)
theorem back_v (w : Fin 512) (h : 1536 + (1536 + w.val - 512 - 512 - 512) < 2048) : (⟨1536 + (1536 + w.val - 512 - 512 - 512), h⟩ : Fin 2048) = ⟨1536 + w.val, by omega⟩ := Fin.ext (by dsimp only; omega)

/-- The first chunk's gated output in head 0. -/
theorem out_0_0 (qin : FVec Ideal S64x1024 .bf16) (v : FVec Ideal S64x2048 .bf16) (tri : FVec Ideal S64x64 .bf16) (a b q k : FVec Ideal S64x1024 .f32) (st : FVec Ideal S1x512x256 .f32) (p g : FVec Ideal S64x512 .f32) (nw : FVec Ideal S1x512 .f32) (i : Fin 64) (w : Fin 512) :
    k0_pay20 qin v (k0_pay17 k0_pay2 tri a b q k) st p nw g (ix2 i w)
      = FIN (fun w => OUTR (fun i c => k0_pay11 tri a b q (ix2 i c)) (fun i c => k0_pay12 tri a b k (ix2 i c)) (fun i c => qin (ix2 i c)) (fun i c => v (ix2 i c)) (fun w k => st (ix3 0 w k)) 0 i w + p (ix2 i w)) (fun w => nw (ix2 0 w)) (g (ix2 i w)) w := by
  pointwise [k0_pay20, k0_pay17, k0_pay18, FIN, OUTR, HC, VC]
  simp only [select_mask]

/-- The first chunk's gated output in head 1. -/
theorem out_0_1 (qe ke qin : FVec Ideal S64x1024 .bf16) (v : FVec Ideal S64x2048 .bf16) (st : FVec Ideal S1x512x256 .f32) (p g : FVec Ideal S64x512 .f32) (nw : FVec Ideal S1x512 .f32) (i : Fin 64) (w : Fin 512) :
    k0_pay27 (k0_pay25 k0_pay2 qin v (k0_pay21 qe) (k0_pay22 ke) (constant (F := Ideal) S64x64 .f32 0x00000000#32) st p nw) g (k0_pay26 g) (ix2 i w)
      = FIN (fun w => OUTR (fun i c => qe (ix2 i c)) (fun i c => ke (ix2 i c)) (fun i c => qin (ix2 i c)) (fun i c => v (ix2 i c)) (fun w k => st (ix3 0 w k)) 1 i w + p (ix2 i w)) (fun w => nw (ix2 0 w)) (g (ix2 i w)) w := by
  pointwise [k0_pay27, k0_pay25, k0_pay21, k0_pay22, k0_pay23, k0_pay26, FIN, OUTR, HC, VC]
  simp only [select_mask]

/-- The first chunk's gated output in head 2. -/
theorem out_0_2 (qe ke qin : FVec Ideal S64x1024 .bf16) (v : FVec Ideal S64x2048 .bf16) (st : FVec Ideal S1x512x256 .f32) (p g : FVec Ideal S64x512 .f32) (nw : FVec Ideal S1x512 .f32) (i : Fin 64) (w : Fin 512) :
    k0_pay32 (k0_pay30 k0_pay2 qe ke qin v st p) (k0_pay31 nw) g (ix2 i w)
      = FIN (fun w => OUTR (fun i c => qe (ix2 i c)) (fun i c => ke (ix2 i c)) (fun i c => qin (ix2 i c)) (fun i c => v (ix2 i c)) (fun w k => st (ix3 0 w k)) 2 i w + p (ix2 i w)) (fun w => nw (ix2 0 w)) (g (ix2 i w)) w := by
  pointwise [k0_pay32, k0_pay31, k0_pay30, k0_pay28, FIN, OUTR, HC, VC]
  simp only [select_mask]

/-- The second chunk's gated output in head 0. -/
theorem out_1_0 (tri : FVec Ideal S64x64 .bf16) (lo : FVec Ideal S64x1024 .bf16) (s q k : FVec Ideal S64x1024 .f32) (v : FVec Ideal S64x2048 .f32) (st : FVec Ideal S1x512x256 .f32) (p g : FVec Ideal S64x512 .f32) (nw : FVec Ideal S1x512 .f32) (i : Fin 64) (w : Fin 512) :
    k0_pay58 (k0_pay55 k0_pay2 tri lo s (constant (F := Ideal) S64x1024 .f32 0x00000000#32) q k v st) p nw g (ix2 i w)
      = FIN (fun w => OUTR (fun i c => k0_pay48 tri lo s (constant (F := Ideal) S64x1024 .f32 0x00000000#32) q (ix2 i c)) (fun i c => k0_pay49 tri lo s (constant (F := Ideal) S64x1024 .f32 0x00000000#32) k (ix2 i c)) (fun i c => k0_pay50 tri lo s (constant (F := Ideal) S64x1024 .f32 0x00000000#32) q (ix2 i c)) (fun i c => k0_pay53 (F := Ideal) v (ix2 i c)) (fun w k => st (ix3 0 w k)) 0 i w + p (ix2 i w)) (fun w => nw (ix2 0 w)) (g (ix2 i w)) w := by
  pointwise [k0_pay58, k0_pay55, k0_pay54, FIN, OUTR, HC, VC]
  simp only [select_mask]

/-- The second chunk's gated output in head 1. -/
theorem out_1_1 (qe ke qin : FVec Ideal S64x1024 .bf16) (v : FVec Ideal S64x2048 .bf16) (st : FVec Ideal S1x512x256 .f32) (p g : FVec Ideal S64x512 .f32) (nw : FVec Ideal S1x512 .f32) (i : Fin 64) (w : Fin 512) :
    k0_pay64 (k0_pay60 k0_pay2 qe ke v) (k0_pay61 qin) (k0_pay62 st) (constant (F := Ideal) S64x512 .f32 0x00000000#32) p nw g (ix2 i w)
      = FIN (fun w => OUTR (fun i c => qe (ix2 i c)) (fun i c => ke (ix2 i c)) (fun i c => qin (ix2 i c)) (fun i c => v (ix2 i c)) (fun w k => st (ix3 0 w k)) 1 i w + p (ix2 i w)) (fun w => nw (ix2 0 w)) (g (ix2 i w)) w := by
  pointwise [k0_pay64, k0_pay60, k0_pay61, k0_pay62, k0_pay59, FIN, OUTR, HC, VC]
  simp only [select_mask]

/-- The second chunk's gated output in head 2. -/
theorem out_1_2 (qe ke qin : FVec Ideal S64x1024 .bf16) (v : FVec Ideal S64x2048 .bf16) (st : FVec Ideal S1x512x256 .f32) (p g : FVec Ideal S64x512 .f32) (nw : FVec Ideal S1x512 .f32) (i : Fin 64) (w : Fin 512) :
    k0_pay69 qin (k0_pay65 k0_pay2 qe ke) (k0_pay66 st) (k0_pay67 v) p nw g (ix2 i w)
      = FIN (fun w => OUTR (fun i c => qe (ix2 i c)) (fun i c => ke (ix2 i c)) (fun i c => qin (ix2 i c)) (fun i c => v (ix2 i c)) (fun w k => st (ix3 0 w k)) 2 i w + p (ix2 i w)) (fun w => nw (ix2 0 w)) (g (ix2 i w)) w := by
  pointwise [k0_pay69, k0_pay65, k0_pay66, k0_pay67, FIN, OUTR, HC, VC]
  simp only [select_mask]

/-- The first chunk's gated output in head 3. -/
theorem out_0_3 (a b c : FVec Ideal S64x512 .f32) (qe ke qin : FVec Ideal S64x1024 .bf16) (v : FVec Ideal S64x2048 .bf16) (st : FVec Ideal S1x512x256 .f32) (p g : FVec Ideal S64x512 .f32) (nw : FVec Ideal S1x512 .f32) (i : Fin 64) (w : Fin 512) :
    k0_pay39 a b c (k0_pay35 k0_pay2 qe ke qin v st p) (k0_pay36 nw) (k0_pay37 k0_pay2 qe ke qin v st p) (k0_pay38 (F := Ideal)) g (ix2 i (VC 3 w))
      = FIN (fun w => OUTR (fun i c => qe (ix2 i c)) (fun i c => ke (ix2 i c)) (fun i c => qin (ix2 i c)) (fun i c => v (ix2 i c)) (fun w k => st (ix3 0 w k)) 3 i w + p (ix2 i w)) (fun w => nw (ix2 0 w)) (g (ix2 i w)) w := by
  pointwise [k0_pay39, k0_pay35, k0_pay36, k0_pay37, k0_pay38, k0_pay33, FIN, OUTR, HC, VC]
  rw [dif_neg (by omega), dif_neg (by omega), dif_neg (by omega)]
  simp only [select_mask, back_3, back_v]

/-- The second chunk's gated output in head 3. -/
theorem out_1_3 (a b c : FVec Ideal S64x512 .f32) (qe ke qin : FVec Ideal S64x1024 .bf16) (v : FVec Ideal S64x2048 .bf16) (st : FVec Ideal S1x512x256 .f32) (p g : FVec Ideal S64x512 .f32) (nw : FVec Ideal S1x512 .f32) (i : Fin 64) (w : Fin 512) :
    k0_pay73 qin v a b c (k0_pay70 k0_pay2 qe ke) st p nw g (ix2 i (VC 3 w))
      = FIN (fun w => OUTR (fun i c => qe (ix2 i c)) (fun i c => ke (ix2 i c)) (fun i c => qin (ix2 i c)) (fun i c => v (ix2 i c)) (fun w k => st (ix3 0 w k)) 3 i w + p (ix2 i w)) (fun w => nw (ix2 0 w)) (g (ix2 i w)) w := by
  pointwise [k0_pay73, k0_pay70, k0_pay71, FIN, OUTR, HC, VC]
  rw [dif_neg (by omega), dif_neg (by omega), dif_neg (by omega)]
  simp only [select_mask, back_3, back_v]

/-- The state the first chunk leaves in head 0. -/
theorem new_0_0 (kend : FVec Ideal S64x1024 .bf16) (dec : FVec Ideal S1x1024 .f32) (v : FVec Ideal S64x2048 .bf16) (st : FVec Ideal S1x512x256 .f32) (w : Fin 512) (k : Fin 256) :
    k0_pay19 kend dec v st (ix3 0 w k)
      = NEWT (fun i c => kend (ix2 i c)) (fun c => dec (ix2 0 c)) (fun i c => v (ix2 i c)) (fun w k => st (ix3 0 w k)) 0 w k := by
  pointwise [k0_pay19, k0_pay18, NEWT, HC, VC]

/-- The state the first chunk leaves in head 1. -/
theorem new_0_1 (kend : FVec Ideal S64x1024 .bf16) (dec : FVec Ideal S1x1024 .f32) (v : FVec Ideal S64x2048 .bf16) (st : FVec Ideal S1x512x256 .f32) (w : Fin 512) (k : Fin 256) :
    k0_pay24 kend dec v st (ix3 0 w k)
      = NEWT (fun i c => kend (ix2 i c)) (fun c => dec (ix2 0 c)) (fun i c => v (ix2 i c)) (fun w k => st (ix3 0 w k)) 1 w k := by
  pointwise [k0_pay24, k0_pay23, NEWT, HC, VC]

/-- The state the first chunk leaves in head 2. -/
theorem new_0_2 (kend : FVec Ideal S64x1024 .bf16) (dec : FVec Ideal S1x1024 .f32) (v : FVec Ideal S64x2048 .bf16) (st : FVec Ideal S1x512x256 .f32) (w : Fin 512) (k : Fin 256) :
    k0_pay29 kend dec v st (ix3 0 w k)
      = NEWT (fun i c => kend (ix2 i c)) (fun c => dec (ix2 0 c)) (fun i c => v (ix2 i c)) (fun w k => st (ix3 0 w k)) 2 w k := by
  pointwise [k0_pay29, k0_pay28, NEWT, HC, VC]

/-- The state the first chunk leaves in head 3. -/
theorem new_0_3 (kend : FVec Ideal S64x1024 .bf16) (dec : FVec Ideal S1x1024 .f32) (v : FVec Ideal S64x2048 .bf16) (st : FVec Ideal S1x512x256 .f32) (w : Fin 512) (k : Fin 256) :
    k0_pay34 kend dec v st (ix3 0 w k)
      = NEWT (fun i c => kend (ix2 i c)) (fun c => dec (ix2 0 c)) (fun i c => v (ix2 i c)) (fun w k => st (ix3 0 w k)) 3 w k := by
  pointwise [k0_pay34, k0_pay33, NEWT, HC, VC]

/-- The state the second chunk leaves in head 0. -/
theorem new_1_0 (tri : FVec Ideal S64x64 .bf16) (lo : FVec Ideal S64x1024 .bf16) (s : FVec Ideal S64x1024 .f32) (kend : FVec Ideal S64x1024 .bf16) (v : FVec Ideal S64x2048 .bf16) (st : FVec Ideal S1x512x256 .f32) (w : Fin 512) (k : Fin 256) :
    k0_pay57 kend v (k0_pay56 tri lo s (constant (F := Ideal) S64x1024 .f32 0x00000000#32) st) (ix3 0 w k)
      = NEWT (fun i c => kend (ix2 i c)) (fun c => k0_pay52 tri lo s (constant (F := Ideal) S64x1024 .f32 0x00000000#32) (ix2 0 c)) (fun i c => v (ix2 i c)) (fun w k => st (ix3 0 w k)) 0 w k := by
  pointwise [k0_pay57, k0_pay56, k0_pay54, NEWT, HC, VC]

/-- The state the second chunk leaves in head 1. -/
theorem new_1_1 (kend : FVec Ideal S64x1024 .bf16) (dec : FVec Ideal S1x1024 .f32) (v : FVec Ideal S64x2048 .bf16) (st : FVec Ideal S1x512x256 .f32) (w : Fin 512) (k : Fin 256) :
    k0_pay63 kend dec v (k0_pay59 st) (ix3 0 w k)
      = NEWT (fun i c => kend (ix2 i c)) (fun c => dec (ix2 0 c)) (fun i c => v (ix2 i c)) (fun w k => st (ix3 0 w k)) 1 w k := by
  pointwise [k0_pay63, k0_pay59, NEWT, HC, VC]

/-- The state the second chunk leaves in head 2. -/
theorem new_1_2 (kend : FVec Ideal S64x1024 .bf16) (dec : FVec Ideal S1x1024 .f32) (v : FVec Ideal S64x2048 .bf16) (st : FVec Ideal S1x512x256 .f32) (w : Fin 512) (k : Fin 256) :
    k0_pay68 kend dec v (k0_pay66 st) (ix3 0 w k)
      = NEWT (fun i c => kend (ix2 i c)) (fun c => dec (ix2 0 c)) (fun i c => v (ix2 i c)) (fun w k => st (ix3 0 w k)) 2 w k := by
  pointwise [k0_pay68, k0_pay66, NEWT, HC, VC]

/-- The state the second chunk leaves in head 3. -/
theorem new_1_3 (kend : FVec Ideal S64x1024 .bf16) (dec : FVec Ideal S1x1024 .f32) (v : FVec Ideal S64x2048 .bf16) (st : FVec Ideal S1x512x256 .f32) (w : Fin 512) (k : Fin 256) :
    k0_pay72 kend dec v st (ix3 0 w k)
      = NEWT (fun i c => kend (ix2 i c)) (fun c => dec (ix2 0 c)) (fun i c => v (ix2 i c)) (fun w k => st (ix3 0 w k)) 3 w k := by
  pointwise [k0_pay72, k0_pay71, NEWT, HC, VC]

/-- The heads' outputs side by side, in head 0. -/
theorem cat_0_0 (a b c : FVec Ideal S64x512 .f32) (e : FVec Ideal S64x512 .f32) (nw : FVec Ideal S1x512 .f32) (f h : FVec Ideal S64x1 .f32) (g : FVec Ideal S64x512 .f32) (i : Fin 64) (w : Fin 512) : k0_pay39 a b c e nw f h g (ix2 i (VC 0 w)) = a (ix2 i w) := by
  pointwise [k0_pay39, VC]

/-- The heads' outputs side by side, in head 1. -/
theorem cat_0_1 (a b c : FVec Ideal S64x512 .f32) (e : FVec Ideal S64x512 .f32) (nw : FVec Ideal S1x512 .f32) (f h : FVec Ideal S64x1 .f32) (g : FVec Ideal S64x512 .f32) (i : Fin 64) (w : Fin 512) : k0_pay39 a b c e nw f h g (ix2 i (VC 1 w)) = b (ix2 i w) := by
  pointwise [k0_pay39, VC]

/-- The heads' outputs side by side, in head 2. -/
theorem cat_0_2 (a b c : FVec Ideal S64x512 .f32) (e : FVec Ideal S64x512 .f32) (nw : FVec Ideal S1x512 .f32) (f h : FVec Ideal S64x1 .f32) (g : FVec Ideal S64x512 .f32) (i : Fin 64) (w : Fin 512) : k0_pay39 a b c e nw f h g (ix2 i (VC 2 w)) = c (ix2 i w) := by
  pointwise [k0_pay39, VC]
  rw [dif_neg (by omega), dif_neg (by omega), dif_pos (by omega)]
  exact congrArg c (congrArg (ix2 i) (Fin.ext (by dsimp only; omega)))

/-- The heads' outputs side by side, in head 0. -/
theorem cat_1_0 (a b c : FVec Ideal S64x512 .f32) (qin : FVec Ideal S64x1024 .bf16) (v : FVec Ideal S64x2048 .bf16) (m : FVec Ideal S64x64 .bf16) (st : FVec Ideal S1x512x256 .f32) (p g : FVec Ideal S64x512 .f32) (nw : FVec Ideal S1x512 .f32) (i : Fin 64) (w : Fin 512) : k0_pay73 qin v a b c m st p nw g (ix2 i (VC 0 w)) = a (ix2 i w) := by
  pointwise [k0_pay73, VC]

/-- The heads' outputs side by side, in head 1. -/
theorem cat_1_1 (a b c : FVec Ideal S64x512 .f32) (qin : FVec Ideal S64x1024 .bf16) (v : FVec Ideal S64x2048 .bf16) (m : FVec Ideal S64x64 .bf16) (st : FVec Ideal S1x512x256 .f32) (p g : FVec Ideal S64x512 .f32) (nw : FVec Ideal S1x512 .f32) (i : Fin 64) (w : Fin 512) : k0_pay73 qin v a b c m st p nw g (ix2 i (VC 1 w)) = b (ix2 i w) := by
  pointwise [k0_pay73, VC]

/-- The heads' outputs side by side, in head 2. -/
theorem cat_1_2 (a b c : FVec Ideal S64x512 .f32) (qin : FVec Ideal S64x1024 .bf16) (v : FVec Ideal S64x2048 .bf16) (m : FVec Ideal S64x64 .bf16) (st : FVec Ideal S1x512x256 .f32) (p g : FVec Ideal S64x512 .f32) (nw : FVec Ideal S1x512 .f32) (i : Fin 64) (w : Fin 512) : k0_pay73 qin v a b c m st p nw g (ix2 i (VC 2 w)) = c (ix2 i w) := by
  pointwise [k0_pay73, VC]
  rw [dif_neg (by omega), dif_neg (by omega), dif_pos (by omega)]
  exact congrArg c (congrArg (ix2 i) (Fin.ext (by dsimp only; omega)))

end Cert.GlaBwdProof

end
-- ==== Proof.BackGate.lean ====
/-
  THE KERNEL'S GATE: the running log-decays and what the chunk multiplies by them.
-/
module

public import proofs.«01_k».proof.Proof.BackHeads
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaBwdProof

open Cert.GlaProof Cert.GlaBwdIdeal Cert.GlaBwdIdeal.Gen

/-- The scaled queries against the middle row. -/
theorem qe_0 (tri : FVec Ideal S64x64 .bf16) (a b x : FVec Ideal S64x1024 .f32) (i : Fin 64) (c : Fin 1024) : k0_pay11 tri a b x (ix2 i c) = x (ix2 i c) * Ideal.ofBits .f32 0x3D800000#32 * Ideal.exp (k0_pay7 tri a b (ix2 i c) - k0_pay7 tri a b (ix2 32 c)) := by
  pointwise [k0_pay11, k0_pay8, k0_pay10]

/-- The keys against the middle row. -/
theorem ke_0 (tri : FVec Ideal S64x64 .bf16) (a b x : FVec Ideal S64x1024 .f32) (i : Fin 64) (c : Fin 1024) : k0_pay12 tri a b x (ix2 i c) = x (ix2 i c) * Ideal.exp (k0_pay7 tri a b (ix2 32 c) - k0_pay7 tri a b (ix2 i c)) := by
  pointwise [k0_pay12, k0_pay8]

/-- The scaled queries decayed from the chunk's last row. -/
theorem qin_0 (tri : FVec Ideal S64x64 .bf16) (a b x : FVec Ideal S64x1024 .f32) (i : Fin 64) (c : Fin 1024) : k0_pay13 tri a b x (ix2 i c) = x (ix2 i c) * Ideal.ofBits .f32 0x3D800000#32 * Ideal.exp (k0_pay7 tri a b (ix2 i c)) := by
  pointwise [k0_pay13, k0_pay10]

/-- The keys decayed to the chunk's first row. -/
theorem kend_0 (tri : FVec Ideal S64x64 .bf16) (a b x : FVec Ideal S64x1024 .f32) (i : Fin 64) (c : Fin 1024) : k0_pay14 tri a b x (ix2 i c) = x (ix2 i c) * Ideal.exp (k0_pay7 tri a b (ix2 0 c) - k0_pay7 tri a b (ix2 i c)) := by
  pointwise [k0_pay14, k0_pay9]

/-- The chunk's whole decay. -/
theorem dec_0 (tri : FVec Ideal S64x64 .bf16) (a b x : FVec Ideal S64x1024 .f32) (i : Fin 64) (c : Fin 1024) : k0_pay15 tri a b (ix2 0 c) = Ideal.exp (k0_pay7 tri a b (ix2 0 c)) := by
  pointwise [k0_pay15, k0_pay9]

/-- The scaled queries against the middle row. -/
theorem qe_1 (tri : FVec Ideal S64x64 .bf16) (lo : FVec Ideal S64x1024 .bf16) (s x : FVec Ideal S64x1024 .f32) (i : Fin 64) (c : Fin 1024) : k0_pay48 tri lo s (constant (F := Ideal) S64x1024 .f32 0x00000000#32) x (ix2 i c) = x (ix2 i c) * Ideal.ofBits .f32 0x3D800000#32 * Ideal.exp (k0_pay44 tri lo s (constant (F := Ideal) S64x1024 .f32 0x00000000#32) (ix2 i c) - k0_pay44 tri lo s (constant (F := Ideal) S64x1024 .f32 0x00000000#32) (ix2 32 c)) := by
  pointwise [k0_pay48, k0_pay45, k0_pay47]

/-- The keys against the middle row. -/
theorem ke_1 (tri : FVec Ideal S64x64 .bf16) (lo : FVec Ideal S64x1024 .bf16) (s x : FVec Ideal S64x1024 .f32) (i : Fin 64) (c : Fin 1024) : k0_pay49 tri lo s (constant (F := Ideal) S64x1024 .f32 0x00000000#32) x (ix2 i c) = x (ix2 i c) * Ideal.exp (k0_pay44 tri lo s (constant (F := Ideal) S64x1024 .f32 0x00000000#32) (ix2 32 c) - k0_pay44 tri lo s (constant (F := Ideal) S64x1024 .f32 0x00000000#32) (ix2 i c)) := by
  pointwise [k0_pay49, k0_pay45]

/-- The scaled queries decayed from the chunk's last row. -/
theorem qin_1 (tri : FVec Ideal S64x64 .bf16) (lo : FVec Ideal S64x1024 .bf16) (s x : FVec Ideal S64x1024 .f32) (i : Fin 64) (c : Fin 1024) : k0_pay50 tri lo s (constant (F := Ideal) S64x1024 .f32 0x00000000#32) x (ix2 i c) = x (ix2 i c) * Ideal.ofBits .f32 0x3D800000#32 * Ideal.exp (k0_pay44 tri lo s (constant (F := Ideal) S64x1024 .f32 0x00000000#32) (ix2 i c)) := by
  pointwise [k0_pay50, k0_pay47]

/-- The keys decayed to the chunk's first row. -/
theorem kend_1 (tri : FVec Ideal S64x64 .bf16) (lo : FVec Ideal S64x1024 .bf16) (s x : FVec Ideal S64x1024 .f32) (i : Fin 64) (c : Fin 1024) : k0_pay51 tri lo s (constant (F := Ideal) S64x1024 .f32 0x00000000#32) x (ix2 i c) = x (ix2 i c) * Ideal.exp (k0_pay44 tri lo s (constant (F := Ideal) S64x1024 .f32 0x00000000#32) (ix2 0 c) - k0_pay44 tri lo s (constant (F := Ideal) S64x1024 .f32 0x00000000#32) (ix2 i c)) := by
  pointwise [k0_pay51, k0_pay46]

/-- The chunk's whole decay. -/
theorem dec_1 (tri : FVec Ideal S64x64 .bf16) (lo : FVec Ideal S64x1024 .bf16) (s x : FVec Ideal S64x1024 .f32) (i : Fin 64) (c : Fin 1024) : k0_pay52 tri lo s (constant (F := Ideal) S64x1024 .f32 0x00000000#32) (ix2 0 c) = Ideal.exp (k0_pay44 tri lo s (constant (F := Ideal) S64x1024 .f32 0x00000000#32) (ix2 0 c)) := by
  pointwise [k0_pay52, k0_pay46]

/-- The values pass as they are. -/
theorem v_0 (x : FVec Ideal S64x2048 .f32) (i : Fin 64) (c : Fin 2048) : k0_pay16 (F := Ideal) x (ix2 i c) = x (ix2 i c) := by
  pointwise [k0_pay16]

/-- The values pass as they are. -/
theorem v_1 (x : FVec Ideal S64x2048 .f32) (i : Fin 64) (c : Fin 2048) : k0_pay53 (F := Ideal) x (ix2 i c) = x (ix2 i c) := by
  pointwise [k0_pay53]

/-- The triangle of ones. -/
theorem tri_at (i j : Fin 64) : k0_pay3 (F := Ideal) (ix2 i j) = if i.val ≤ j.val then 1 else 0 := by
  pointwise [k0_pay3]
  rw [mask_at]
  by_cases h : i.val ≤ j.val <;> simp [h, Scalar.select]

/-- The gate's pre-activation, as the kernel sums it over the 128 columns it loads. -/
def PREK (low : FVec Ideal S64x128 .f32) (W : FVec Ideal S128x1024 .bf16) (b : FVec Ideal S1x1024 .f32) (i : Fin 64) (c : Fin 1024) : EReal :=
  (∑ l : Fin 128, low (ix2 i l) * W (ix2 l c)) + b (ix2 0 c)

theorem p5_at (low : FVec Ideal S64x128 .f32) (W : FVec Ideal S128x1024 .bf16) (b : FVec Ideal S1x1024 .f32) (i : Fin 64) (c : Fin 1024) :
    k0_pay5 (F := Ideal) low W b (ix2 i c) = max (0 - PREK low W b i c) 0 := by
  pointwise [k0_pay5, k0_pay4, PREK]

theorem p6_at (low : FVec Ideal S64x128 .f32) (W : FVec Ideal S128x1024 .bf16) (b : FVec Ideal S1x1024 .f32) (i : Fin 64) (c : Fin 1024) :
    k0_pay6 (F := Ideal) low W b (ix2 i c) = 0 - max (0 - PREK low W b i c) (-(0 - PREK low W b i c)) := by
  pointwise [k0_pay6, k0_pay4, PREK]
  rfl

theorem p40_at (low : FVec Ideal S64x128 .f32) (W : FVec Ideal S128x1024 .bf16) (b : FVec Ideal S1x1024 .f32) (i : Fin 64) (c : Fin 1024) :
    k0_pay40 (F := Ideal) low W b (ix2 i c) = GKS (PREK low W b i c) := by
  pointwise [k0_pay40, PREK, GKS]
  rfl

theorem split_0 (tri : FVec Ideal S64x64 .bf16) (a b : FVec Ideal S64x1024 .f32) (i : Fin 64) (c : Fin 1024) :
    k0_pay7 tri a b (ix2 i c) = (∑ x : Fin 64, tri (ix2 i x) * Ideal.div (0 - (a (ix2 x c) + Ideal.log1p (Ideal.exp (b (ix2 x c))))) (Ideal.ofBits FTy.f32 0x41800000#32)) +
      ∑ x : Fin 64, tri (ix2 i x) * (Ideal.div (0 - (a (ix2 x c) + Ideal.log1p (Ideal.exp (b (ix2 x c))))) (Ideal.ofBits FTy.f32 0x41800000#32) - Ideal.div (0 - (a (ix2 x c) + Ideal.log1p (Ideal.exp (b (ix2 x c))))) (Ideal.ofBits FTy.f32 0x41800000#32)) := by
  pointwise [k0_pay7]

theorem split_1 (tri : FVec Ideal S64x64 .bf16) (low : FVec Ideal S64x128 .f32) (W : FVec Ideal S128x1024 .bf16) (b : FVec Ideal S1x1024 .f32) (i : Fin 64) (c : Fin 1024) :
    k0_pay44 tri (k0_pay42 low W b) (k0_pay43 tri low W b) (constant (F := Ideal) S64x1024 .f32 0x00000000#32) (ix2 i c) = (∑ x : Fin 64, tri (ix2 i x) * k0_pay40 (F := Ideal) low W b (ix2 x c)) +
      ∑ x : Fin 64, tri (ix2 i x) * (k0_pay40 (F := Ideal) low W b (ix2 x c) - k0_pay40 (F := Ideal) low W b (ix2 x c)) := by
  pointwise [k0_pay44, k0_pay42, k0_pay43, k0_pay41]

/-- The first chunk's running log-decay. -/
theorem G_0 (low : FVec Ideal S64x128 .f32) (W : FVec Ideal S128x1024 .bf16) (b : FVec Ideal S1x1024 .f32) (i : Fin 64) (c : Fin 1024) :
    k0_pay7 (F := Ideal) k0_pay3 (k0_pay5 low W b) (k0_pay6 low W b) (ix2 i c) = CUMR (fun j => GKS (PREK low W b j c)) i := by
  rw [split_0]
  simp only [p5_at, p6_at]
  exact cumr_split (fun j => k0_pay3 (F := Ideal) (ix2 i j)) (fun j => GKS (PREK low W b j c)) i (fun j => tri_at i j) (fun j => GKS_ne_top _)

/-- The second chunk's running log-decay. -/
theorem G_1 (low : FVec Ideal S64x128 .f32) (W : FVec Ideal S128x1024 .bf16) (b : FVec Ideal S1x1024 .f32) (i : Fin 64) (c : Fin 1024) :
    k0_pay44 (F := Ideal) k0_pay3 (k0_pay42 low W b) (k0_pay43 k0_pay3 low W b) (constant (F := Ideal) S64x1024 .f32 0x00000000#32) (ix2 i c) = CUMR (fun j => GKS (PREK low W b j c)) i := by
  rw [split_1]
  simp only [p40_at]
  exact cumr_split (fun j => k0_pay3 (F := Ideal) (ix2 i j)) (fun j => GKS (PREK low W b j c)) i (fun j => tri_at i j) (fun j => GKS_ne_top _)

end Cert.GlaBwdProof

end
-- ==== Proof.BackBlocks.lean ====
/-
  THE KERNEL'S BLOCKS: what each load of a grid point reads of the arguments.
-/
module

public import proofs.«01_k».proof.Proof.BackGate
public import Idealize.ShloMosaic.Lib.Routing.OpsSet
public import Idealize.ShloMosaic.Lib.Routing.OpsPair
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaBwdProof

open Cert.GlaProof Cert.GlaBwdIdeal Cert.GlaBwdIdeal.Gen

open Idealize.ShloMosaic.Routing

/-- Where update `(a, e')` of the padded gate weight lands: 80 rows down. -/
theorem lands_pad (idx : IVec S1 32) (hidx : (idx (ix1 0)).toInt = 80) (a : Fin 16) (e' : Fin 1024) (r : Fin 128) (e : Fin 1024) :
    scatter_S128x1024_S1_S16x1024_01_n_0_0.resultIdx? (ix2 a e') idx = some (ix2 r e) ↔ 80 + a.val = r.val ∧ e' = e := by
  have hw0 : scatter_S128x1024_S1_S16x1024_01_n_0_0.window (ix2 a e') 0 = a.val := rfl
  have hw1 : scatter_S128x1024_S1_S16x1024_01_n_0_0.window (ix2 a e') 1 = e'.val := rfl
  have hs1 : scatter_S128x1024_S1_S16x1024_01_n_0_0.start (ix2 a e') idx 1 = 0 := rfl
  have hs0 : scatter_S128x1024_S1_S16x1024_01_n_0_0.start (ix2 a e') idx 0 = 80 := by
    refine Eq.trans ?_ hidx
    unfold ScatterDims.start
    rw [dif_pos (by decide)]
    refine congrArg (fun z => (idx z).toInt) (funext fun b => ?_)
    match b with
    | ⟨0, _⟩ => exact Subsingleton.elim (α := Fin 1) _ _
  refine (resultIdx?_ix2 (R := 128) (C := 1024) scatter_S128x1024_S1_S16x1024_01_n_0_0 (ix2 a e') idx r e).trans ?_
  rw [Fin.ext_iff]
  refine Iff.trans (and_congr (Eq.congr (congrArg₂ (· + ·) hs0 (congrArg Nat.cast hw0)) rfl) (Eq.congr (congrArg₂ (· + ·) hs1 (congrArg Nat.cast hw1)) rfl)) ?_
  omega

/-- The gate weight padded to 128 rows: its 16 rows from row 80, zero elsewhere. -/
theorem pad_at (x0 : FVec Ideal S128x1024 .f32) (idx : IVec S1 32) (hidx : (idx (ix1 0)).toInt = 80) (U : FVec Ideal S16x1024 .f32) (r : Fin 128) (e : Fin 1024) :
    Host.scatter scatter_S128x1024_S1_S16x1024_01_n_0_0 (fun _ b => b) x0 idx U (ix2 r e)
      = if h : 80 ≤ r.val ∧ r.val < 96 then U (ix2 ⟨r.val - 80, by omega⟩ e) else x0 (ix2 r e) := by
  have lands : ∀ j : S16x1024.Idx, scatter_S128x1024_S1_S16x1024_01_n_0_0.resultIdx? j idx = some (ix2 r e) → 80 + (j 0).val = r.val ∧ j 1 = e := fun j hj =>
    (lands_pad idx hidx (j 0) (j 1) r e).1 ((congrArg (fun t => scatter_S128x1024_S1_S16x1024_01_n_0_0.resultIdx? t idx) (eq_ix2 j).symm).trans hj)
  by_cases h : 80 ≤ r.val ∧ r.val < 96
  · rw [dif_pos h]
    refine scatter_set_hit _ x0 idx U _ _ (fun j hj => ?_) (ix2 (⟨r.val - 80, by omega⟩ : Fin 16) e) ((lands_pad idx hidx _ _ r e).2 ⟨by dsimp only; omega, rfl⟩)
    obtain ⟨h0, h1⟩ := lands j hj
    refine (congrArg U (eq_ix2 j)).trans (congrArg U (congrArg₂ ix2 (Fin.ext ?_) h1))
    show (j 0).val = r.val - 80
    omega
  · rw [dif_neg h]
    refine scatter_set_miss _ x0 idx U _ fun j hj => h ?_
    have h0 := (lands j hj).1
    have h2 : (j 0).val < 16 := (j 0).isLt
    omega

variable (m : (ℓ : Loc nD τ sig) → Buf (Elt Ideal) ℓ)

/-- Where each window's block sits at a grid point: the points go from the last rows to the first. -/
theorem idx : ∀ t : Fin cfg0.N, win0_0.index t = ![127 - t.val, 9] ∧ win0_1.index t = ![127 - t.val, 10] ∧ win0_2.index t = ![127 - t.val, 2] ∧ win0_3.index t = ![127 - t.val, 22]
    ∧ win0_4.index t = ![127 - t.val, 3] ∧ win0_5.index t = ![127 - t.val, 0] ∧ win0_6.index t = ![0, 0] ∧ win0_7.index t = ![0, 0] ∧ win0_8.index t = ![0, 0] ∧ win0_9.index t = ![127 - t.val, 0] ∧ t.val < 128 :=
  (by decide +kernel : ∀ t : Fin grid0.N, _)

/-- The projections, as the kernel finds them. -/
abbrev PJ (c : Dev nD) : FVec Ideal S16384x11776 .f32 := m ((c : Thread nD τ).loc main_arg0)
/-- The forward sweep's output, as the kernel finds it. -/
abbrev OF (c : Dev nD) : FVec Ideal S16384x2048 .f32 := m ((c : Thread nD τ).loc main_arg1)
/-- The gate's weight, as the kernel finds it. -/
abbrev GW (c : Dev nD) : FVec Ideal S16x1024 .f32 := m ((c : Thread nD τ).loc main_arg2)
/-- The gate's bias, as the kernel finds it. -/
abbrev GB (c : Dev nD) : FVec Ideal S1024 .f32 := m ((c : Thread nD τ).loc main_arg3)
/-- The normalization's weight, as the kernel finds it. -/
abbrev NW (c : Dev nD) : FVec Ideal S512 .f32 := m ((c : Thread nD τ).loc main_arg4)

/-- What the block of q holds at a point. -/
theorem q_blk (c : Dev nD) (t : Fin cfg0.N) (i : Fin 128) (l : Fin 1024) :
    X0_0 m c t (ix2 i l) = PJ m c (ix2 ⟨(127 - t.val) * 128 + i.val, by omega⟩ ⟨9216 + l.val, by omega⟩) := by
  unfold X0_0 Pipeline.Window.fill
  rw [dif_pos (moved0_0 t _)]
  blk_point [iblk, V, idx t]

theorem q_at0 (c : Dev nD) (t : Fin cfg0.N) (i : Fin 64) (l : Fin 1024) :
    View.ld (X0_0 m c t) (Rect.unit ![64, 0] ![64, 1024] inb_S128x1024_S64x1024_64_0) (ix2 i l) = PJ m c (ix2 ⟨(127 - t.val) * 128 + 64 + i.val, by omega⟩ ⟨9216 + l.val, by omega⟩) :=
  (show _ = X0_0 m c t (ix2 ⟨64 + i.val, by omega⟩ l) by blk_point).trans ((q_blk m c t _ l).trans (congrArg _ (congrArg₂ ix2 (Fin.ext (by dsimp only; omega)) rfl)))

theorem q_at1 (c : Dev nD) (t : Fin cfg0.N) (i : Fin 64) (l : Fin 1024) :
    View.ld (X0_0 m c t) (Rect.unit ![0, 0] ![64, 1024] inb_S128x1024_S64x1024_0_0) (ix2 i l) = PJ m c (ix2 ⟨(127 - t.val) * 128 + 0 + i.val, by omega⟩ ⟨9216 + l.val, by omega⟩) :=
  (show _ = X0_0 m c t (ix2 ⟨0 + i.val, by omega⟩ l) by blk_point).trans ((q_blk m c t _ l).trans (congrArg _ (congrArg₂ ix2 (Fin.ext (by dsimp only; omega)) rfl)))

/-- What the block of k holds at a point. -/
theorem k_blk (c : Dev nD) (t : Fin cfg0.N) (i : Fin 128) (l : Fin 1024) :
    X0_1 m c t (ix2 i l) = PJ m c (ix2 ⟨(127 - t.val) * 128 + i.val, by omega⟩ ⟨10240 + l.val, by omega⟩) := by
  unfold X0_1 Pipeline.Window.fill
  rw [dif_pos (moved0_1 t _)]
  blk_point [iblk, V, idx t]

theorem k_at0 (c : Dev nD) (t : Fin cfg0.N) (i : Fin 64) (l : Fin 1024) :
    View.ld (X0_1 m c t) (Rect.unit ![64, 0] ![64, 1024] inb_S128x1024_S64x1024_64_0) (ix2 i l) = PJ m c (ix2 ⟨(127 - t.val) * 128 + 64 + i.val, by omega⟩ ⟨10240 + l.val, by omega⟩) :=
  (show _ = X0_1 m c t (ix2 ⟨64 + i.val, by omega⟩ l) by blk_point).trans ((k_blk m c t _ l).trans (congrArg _ (congrArg₂ ix2 (Fin.ext (by dsimp only; omega)) rfl)))

theorem k_at1 (c : Dev nD) (t : Fin cfg0.N) (i : Fin 64) (l : Fin 1024) :
    View.ld (X0_1 m c t) (Rect.unit ![0, 0] ![64, 1024] inb_S128x1024_S64x1024_0_0) (ix2 i l) = PJ m c (ix2 ⟨(127 - t.val) * 128 + 0 + i.val, by omega⟩ ⟨10240 + l.val, by omega⟩) :=
  (show _ = X0_1 m c t (ix2 ⟨0 + i.val, by omega⟩ l) by blk_point).trans ((k_blk m c t _ l).trans (congrArg _ (congrArg₂ ix2 (Fin.ext (by dsimp only; omega)) rfl)))

/-- What the block of v holds at a point. -/
theorem v_blk (c : Dev nD) (t : Fin cfg0.N) (i : Fin 128) (l : Fin 2048) :
    X0_2 m c t (ix2 i l) = PJ m c (ix2 ⟨(127 - t.val) * 128 + i.val, by omega⟩ ⟨4096 + l.val, by omega⟩) := by
  unfold X0_2 Pipeline.Window.fill
  rw [dif_pos (moved0_2 t _)]
  blk_point [iblk, V, idx t]

theorem v_at0 (c : Dev nD) (t : Fin cfg0.N) (i : Fin 64) (l : Fin 2048) :
    View.ld (X0_2 m c t) (Rect.unit ![64, 0] ![64, 2048] inb_S128x2048_S64x2048_64_0) (ix2 i l) = PJ m c (ix2 ⟨(127 - t.val) * 128 + 64 + i.val, by omega⟩ ⟨4096 + l.val, by omega⟩) :=
  (show _ = X0_2 m c t (ix2 ⟨64 + i.val, by omega⟩ l) by blk_point).trans ((v_blk m c t _ l).trans (congrArg _ (congrArg₂ ix2 (Fin.ext (by dsimp only; omega)) rfl)))

theorem v_at1 (c : Dev nD) (t : Fin cfg0.N) (i : Fin 64) (l : Fin 2048) :
    View.ld (X0_2 m c t) (Rect.unit ![0, 0] ![64, 2048] inb_S128x2048_S64x2048_0_0) (ix2 i l) = PJ m c (ix2 ⟨(127 - t.val) * 128 + 0 + i.val, by omega⟩ ⟨4096 + l.val, by omega⟩) :=
  (show _ = X0_2 m c t (ix2 ⟨0 + i.val, by omega⟩ l) by blk_point).trans ((v_blk m c t _ l).trans (congrArg _ (congrArg₂ ix2 (Fin.ext (by dsimp only; omega)) rfl)))

/-- What the block of z holds at a point. -/
theorem z_blk (c : Dev nD) (t : Fin cfg0.N) (i : Fin 128) (l : Fin 2048) :
    X0_4 m c t (ix2 i l) = PJ m c (ix2 ⟨(127 - t.val) * 128 + i.val, by omega⟩ ⟨6144 + l.val, by omega⟩) := by
  unfold X0_4 Pipeline.Window.fill
  rw [dif_pos (moved0_4 t _)]
  blk_point [iblk, V, idx t]

theorem z_at0_0 (c : Dev nD) (t : Fin cfg0.N) (i : Fin 64) (w : Fin 512) :
    View.ld (X0_4 m c t) (Rect.unit ![64, 0] ![64, 512] inb_S128x2048_S64x512_64_0) (ix2 i w) = PJ m c (ix2 ⟨(127 - t.val) * 128 + 64 + i.val, by omega⟩ ⟨6144 + (VC 0 w).val, by omega⟩) :=
  (show _ = X0_4 m c t (ix2 ⟨64 + i.val, by omega⟩ (VC 0 w)) by blk_point [VC]).trans ((z_blk m c t _ _).trans (congrArg _ (congrArg₂ ix2 (Fin.ext (by dsimp only; omega)) rfl)))
theorem p_at0_0 (c : Dev nD) (t : Fin cfg0.N) (i : Fin 64) (w : Fin 512) :
    View.ld (iblk m c 5 t) (Rect.unit ![64, 0] ![64, 512] inb_S128x2048_S64x512_64_0) (ix2 i w) = OF m c (ix2 ⟨(127 - t.val) * 128 + 64 + i.val, by omega⟩ (VC 0 w)) := by
  blk_point [iblk, V, idx t, VC]

theorem z_at0_1 (c : Dev nD) (t : Fin cfg0.N) (i : Fin 64) (w : Fin 512) :
    View.ld (X0_4 m c t) (Rect.unit ![64, 512] ![64, 512] inb_S128x2048_S64x512_64_512) (ix2 i w) = PJ m c (ix2 ⟨(127 - t.val) * 128 + 64 + i.val, by omega⟩ ⟨6144 + (VC 1 w).val, by omega⟩) :=
  (show _ = X0_4 m c t (ix2 ⟨64 + i.val, by omega⟩ (VC 1 w)) by blk_point [VC]).trans ((z_blk m c t _ _).trans (congrArg _ (congrArg₂ ix2 (Fin.ext (by dsimp only; omega)) rfl)))
theorem p_at0_1 (c : Dev nD) (t : Fin cfg0.N) (i : Fin 64) (w : Fin 512) :
    View.ld (iblk m c 5 t) (Rect.unit ![64, 512] ![64, 512] inb_S128x2048_S64x512_64_512) (ix2 i w) = OF m c (ix2 ⟨(127 - t.val) * 128 + 64 + i.val, by omega⟩ (VC 1 w)) := by
  blk_point [iblk, V, idx t, VC]

theorem z_at0_2 (c : Dev nD) (t : Fin cfg0.N) (i : Fin 64) (w : Fin 512) :
    View.ld (X0_4 m c t) (Rect.unit ![64, 1024] ![64, 512] inb_S128x2048_S64x512_64_1024) (ix2 i w) = PJ m c (ix2 ⟨(127 - t.val) * 128 + 64 + i.val, by omega⟩ ⟨6144 + (VC 2 w).val, by omega⟩) :=
  (show _ = X0_4 m c t (ix2 ⟨64 + i.val, by omega⟩ (VC 2 w)) by blk_point [VC]).trans ((z_blk m c t _ _).trans (congrArg _ (congrArg₂ ix2 (Fin.ext (by dsimp only; omega)) rfl)))
theorem p_at0_2 (c : Dev nD) (t : Fin cfg0.N) (i : Fin 64) (w : Fin 512) :
    View.ld (iblk m c 5 t) (Rect.unit ![64, 1024] ![64, 512] inb_S128x2048_S64x512_64_1024) (ix2 i w) = OF m c (ix2 ⟨(127 - t.val) * 128 + 64 + i.val, by omega⟩ (VC 2 w)) := by
  blk_point [iblk, V, idx t, VC]

theorem z_at0_3 (c : Dev nD) (t : Fin cfg0.N) (i : Fin 64) (w : Fin 512) :
    View.ld (X0_4 m c t) (Rect.unit ![64, 1536] ![64, 512] inb_S128x2048_S64x512_64_1536) (ix2 i w) = PJ m c (ix2 ⟨(127 - t.val) * 128 + 64 + i.val, by omega⟩ ⟨6144 + (VC 3 w).val, by omega⟩) :=
  (show _ = X0_4 m c t (ix2 ⟨64 + i.val, by omega⟩ (VC 3 w)) by blk_point [VC]).trans ((z_blk m c t _ _).trans (congrArg _ (congrArg₂ ix2 (Fin.ext (by dsimp only; omega)) rfl)))
theorem p_at0_3 (c : Dev nD) (t : Fin cfg0.N) (i : Fin 64) (w : Fin 512) :
    View.ld (iblk m c 5 t) (Rect.unit ![64, 1536] ![64, 512] inb_S128x2048_S64x512_64_1536) (ix2 i w) = OF m c (ix2 ⟨(127 - t.val) * 128 + 64 + i.val, by omega⟩ (VC 3 w)) := by
  blk_point [iblk, V, idx t, VC]

theorem z_at1_0 (c : Dev nD) (t : Fin cfg0.N) (i : Fin 64) (w : Fin 512) :
    View.ld (X0_4 m c t) (Rect.unit ![0, 0] ![64, 512] inb_S128x2048_S64x512_0_0) (ix2 i w) = PJ m c (ix2 ⟨(127 - t.val) * 128 + 0 + i.val, by omega⟩ ⟨6144 + (VC 0 w).val, by omega⟩) :=
  (show _ = X0_4 m c t (ix2 ⟨0 + i.val, by omega⟩ (VC 0 w)) by blk_point [VC]).trans ((z_blk m c t _ _).trans (congrArg _ (congrArg₂ ix2 (Fin.ext (by dsimp only; omega)) rfl)))
theorem p_at1_0 (c : Dev nD) (t : Fin cfg0.N) (i : Fin 64) (w : Fin 512) :
    View.ld (iblk m c 5 t) (Rect.unit ![0, 0] ![64, 512] inb_S128x2048_S64x512_0_0) (ix2 i w) = OF m c (ix2 ⟨(127 - t.val) * 128 + 0 + i.val, by omega⟩ (VC 0 w)) := by
  blk_point [iblk, V, idx t, VC]

theorem z_at1_1 (c : Dev nD) (t : Fin cfg0.N) (i : Fin 64) (w : Fin 512) :
    View.ld (X0_4 m c t) (Rect.unit ![0, 512] ![64, 512] inb_S128x2048_S64x512_0_512) (ix2 i w) = PJ m c (ix2 ⟨(127 - t.val) * 128 + 0 + i.val, by omega⟩ ⟨6144 + (VC 1 w).val, by omega⟩) :=
  (show _ = X0_4 m c t (ix2 ⟨0 + i.val, by omega⟩ (VC 1 w)) by blk_point [VC]).trans ((z_blk m c t _ _).trans (congrArg _ (congrArg₂ ix2 (Fin.ext (by dsimp only; omega)) rfl)))
theorem p_at1_1 (c : Dev nD) (t : Fin cfg0.N) (i : Fin 64) (w : Fin 512) :
    View.ld (iblk m c 5 t) (Rect.unit ![0, 512] ![64, 512] inb_S128x2048_S64x512_0_512) (ix2 i w) = OF m c (ix2 ⟨(127 - t.val) * 128 + 0 + i.val, by omega⟩ (VC 1 w)) := by
  blk_point [iblk, V, idx t, VC]

theorem z_at1_2 (c : Dev nD) (t : Fin cfg0.N) (i : Fin 64) (w : Fin 512) :
    View.ld (X0_4 m c t) (Rect.unit ![0, 1024] ![64, 512] inb_S128x2048_S64x512_0_1024) (ix2 i w) = PJ m c (ix2 ⟨(127 - t.val) * 128 + 0 + i.val, by omega⟩ ⟨6144 + (VC 2 w).val, by omega⟩) :=
  (show _ = X0_4 m c t (ix2 ⟨0 + i.val, by omega⟩ (VC 2 w)) by blk_point [VC]).trans ((z_blk m c t _ _).trans (congrArg _ (congrArg₂ ix2 (Fin.ext (by dsimp only; omega)) rfl)))
theorem p_at1_2 (c : Dev nD) (t : Fin cfg0.N) (i : Fin 64) (w : Fin 512) :
    View.ld (iblk m c 5 t) (Rect.unit ![0, 1024] ![64, 512] inb_S128x2048_S64x512_0_1024) (ix2 i w) = OF m c (ix2 ⟨(127 - t.val) * 128 + 0 + i.val, by omega⟩ (VC 2 w)) := by
  blk_point [iblk, V, idx t, VC]

theorem z_at1_3 (c : Dev nD) (t : Fin cfg0.N) (i : Fin 64) (w : Fin 512) :
    View.ld (X0_4 m c t) (Rect.unit ![0, 1536] ![64, 512] inb_S128x2048_S64x512_0_1536) (ix2 i w) = PJ m c (ix2 ⟨(127 - t.val) * 128 + 0 + i.val, by omega⟩ ⟨6144 + (VC 3 w).val, by omega⟩) :=
  (show _ = X0_4 m c t (ix2 ⟨0 + i.val, by omega⟩ (VC 3 w)) by blk_point [VC]).trans ((z_blk m c t _ _).trans (congrArg _ (congrArg₂ ix2 (Fin.ext (by dsimp only; omega)) rfl)))
theorem p_at1_3 (c : Dev nD) (t : Fin cfg0.N) (i : Fin 64) (w : Fin 512) :
    View.ld (iblk m c 5 t) (Rect.unit ![0, 1536] ![64, 512] inb_S128x2048_S64x512_0_1536) (ix2 i w) = OF m c (ix2 ⟨(127 - t.val) * 128 + 0 + i.val, by omega⟩ (VC 3 w)) := by
  blk_point [iblk, V, idx t, VC]

theorem low_at0 (c : Dev nD) (t : Fin cfg0.N) (i : Fin 64) (l : Fin 128) :
    View.ld (iblk m c 3 t) (Rect.unit ![64, 0] ![64, 128] inb_S128x512_S64x128_64_0) (ix2 i l) = PJ m c (ix2 ⟨(127 - t.val) * 128 + 64 + i.val, by omega⟩ ⟨11264 + l.val, by omega⟩) := by
  blk_point [iblk, V, idx t]

theorem low_at1 (c : Dev nD) (t : Fin cfg0.N) (i : Fin 64) (l : Fin 128) :
    View.ld (iblk m c 3 t) (Rect.unit ![0, 0] ![64, 128] inb_S128x512_S64x128_0_0) (ix2 i l) = PJ m c (ix2 ⟨(127 - t.val) * 128 + 0 + i.val, by omega⟩ ⟨11264 + l.val, by omega⟩) := by
  blk_point [iblk, V, idx t]

theorem b_at (c : Dev nD) (t : Fin cfg0.N) (l : Fin 1024) :
    iblk m c 7 t (ix2 0 l) = GB m c (ix1 l) := by
  blk_point [iblk, V, idx t]
theorem nw_at (c : Dev nD) (t : Fin cfg0.N) (l : Fin 512) :
    iblk m c 8 t (ix2 0 l) = NW m c (ix1 l) := by
  blk_point [iblk, V, idx t]
theorem w_at (c : Dev nD) (t : Fin cfg0.N) (r : Fin 128) (e : Fin 1024) :
    iblk m c 6 t (ix2 r e) = if h : 80 ≤ r.val ∧ r.val < 96 then GW m c (ix2 ⟨r.val - 80, by omega⟩ e) else 0 := by
  blk_simp [iblk, idx t]
  entry_read
  have he : (((View.whole main_v3).slice (win0_6.rect t)).emb (ix2 r e)) = ix2 r e := by blk_ext [idx t]
  rw [he]
  refine (show ∀ X : FVec Ideal S128x1024 .f32, truncf FTy.bf16 X bitsLt_bf16_f32 (ix2 r e) = X (ix2 r e) from fun X => by pointwise) _ |>.trans ?_
  refine (pad_at _ _ (by rfl) _ r e).trans ?_
  by_cases h : 80 ≤ r.val ∧ r.val < 96
  · rw [dif_pos h, dif_pos h]; try rfl
  · rw [dif_neg h, dif_neg h]; pointwise

end Cert.GlaBwdProof

end
-- ==== Proof.BackFns.lean ====
/-
  THE KERNEL'S CHUNK FUNCTIONS: what a grid point computes of its two chunks before the products, in scalars.
-/
module

public import proofs.«01_k».proof.Proof.BackBlocks
public import proofs.«01_k».proof.Proof.GlaChunk
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaBwdProof

open Cert.GlaProof Cert.GlaBwdIdeal Cert.GlaBwdIdeal.Gen

variable (m : (ℓ : Loc nD τ sig) → Buf (Elt Ideal) ℓ)

/-- The projections as a function of row and column, as the sweep from the end meets them. -/
abbrev PF (c : Dev nD) : Fin 16384 → Fin 11776 → EReal := BK fun r e => PJ m c (ix2 r e)
/-- The gate's weight as a function of row and column. -/
abbrev WF (c : Dev nD) : Fin 16 → Fin 1024 → EReal := fun r e => GW m c (ix2 r e)
/-- The gate's bias as a function of the column. -/
abbrev BF (c : Dev nD) : Fin 1024 → EReal := fun e => GB m c (ix1 e)
/-- The number, in the opposite order, of the chunk the kernel comes to as its `m`-th. -/
def NB (m : ℕ) : ℕ := 64 * (3 - m / 64) + m % 64

theorem row_0 (t : Fin cfg0.N) (i : Fin 64) (h : (127 - t.val) * 128 + 64 + i.val < 16384) : (⟨(127 - t.val) * 128 + 64 + i.val, h⟩ : Fin 16384) = FL (ROW (NB (2 * t.val)) i.rev) :=
  Fin.ext (by have := (idx t).2.2.2.2.2.2.2.2.2.2; unfold ROW FL NB; simp only [Fin.val_rev]; omega)

/-- The load of the low-rank columns at half 0. -/
abbrev LW0 (c : Dev nD) (t : Fin cfg0.N) : FVec Ideal S64x128 .f32 := View.ld (iblk m c 3 t) (Rect.unit ![64, 0] ![64, 128] inb_S128x512_S64x128_64_0)
abbrev LQ0 (c : Dev nD) (t : Fin cfg0.N) : FVec Ideal S64x1024 .f32 := View.ld (X0_0 m c t) (Rect.unit ![64, 0] ![64, 1024] inb_S128x1024_S64x1024_64_0)
abbrev LK0 (c : Dev nD) (t : Fin cfg0.N) : FVec Ideal S64x1024 .f32 := View.ld (X0_1 m c t) (Rect.unit ![64, 0] ![64, 1024] inb_S128x1024_S64x1024_64_0)
abbrev LV0 (c : Dev nD) (t : Fin cfg0.N) : FVec Ideal S64x2048 .f32 := View.ld (X0_2 m c t) (Rect.unit ![64, 0] ![64, 2048] inb_S128x2048_S64x2048_64_0)
abbrev LP0_0 (c : Dev nD) (t : Fin cfg0.N) : FVec Ideal S64x512 .f32 := View.ld (iblk m c 5 t) (Rect.unit ![64, 0] ![64, 512] inb_S128x2048_S64x512_64_0)
abbrev LZ0_0 (c : Dev nD) (t : Fin cfg0.N) : FVec Ideal S64x512 .f32 := View.ld (X0_4 m c t) (Rect.unit ![64, 0] ![64, 512] inb_S128x2048_S64x512_64_0)
theorem lp_at0_0 (c : Dev nD) (t : Fin cfg0.N) (i : Fin 64) (w : Fin 512) : LP0_0 m c t (ix2 i w) = OF m c (ix2 (FL (ROW (NB (2 * t.val)) i.rev)) (VC 0 w)) :=
  (p_at0_0 m c t i w).trans (congrArg (OF m c) (congrArg₂ ix2 (row_0 t i _) rfl))
theorem lz_at0_0 (c : Dev nD) (t : Fin cfg0.N) (i : Fin 64) (w : Fin 512) : LZ0_0 m c t (ix2 i w) = PJ m c (ix2 (FL (ROW (NB (2 * t.val)) i.rev)) ⟨6144 + (VC 0 w).val, by omega⟩) :=
  (z_at0_0 m c t i w).trans (congrArg (PJ m c) (congrArg₂ ix2 (row_0 t i _) rfl))
abbrev LP0_1 (c : Dev nD) (t : Fin cfg0.N) : FVec Ideal S64x512 .f32 := View.ld (iblk m c 5 t) (Rect.unit ![64, 512] ![64, 512] inb_S128x2048_S64x512_64_512)
abbrev LZ0_1 (c : Dev nD) (t : Fin cfg0.N) : FVec Ideal S64x512 .f32 := View.ld (X0_4 m c t) (Rect.unit ![64, 512] ![64, 512] inb_S128x2048_S64x512_64_512)
theorem lp_at0_1 (c : Dev nD) (t : Fin cfg0.N) (i : Fin 64) (w : Fin 512) : LP0_1 m c t (ix2 i w) = OF m c (ix2 (FL (ROW (NB (2 * t.val)) i.rev)) (VC 1 w)) :=
  (p_at0_1 m c t i w).trans (congrArg (OF m c) (congrArg₂ ix2 (row_0 t i _) rfl))
theorem lz_at0_1 (c : Dev nD) (t : Fin cfg0.N) (i : Fin 64) (w : Fin 512) : LZ0_1 m c t (ix2 i w) = PJ m c (ix2 (FL (ROW (NB (2 * t.val)) i.rev)) ⟨6144 + (VC 1 w).val, by omega⟩) :=
  (z_at0_1 m c t i w).trans (congrArg (PJ m c) (congrArg₂ ix2 (row_0 t i _) rfl))
abbrev LP0_2 (c : Dev nD) (t : Fin cfg0.N) : FVec Ideal S64x512 .f32 := View.ld (iblk m c 5 t) (Rect.unit ![64, 1024] ![64, 512] inb_S128x2048_S64x512_64_1024)
abbrev LZ0_2 (c : Dev nD) (t : Fin cfg0.N) : FVec Ideal S64x512 .f32 := View.ld (X0_4 m c t) (Rect.unit ![64, 1024] ![64, 512] inb_S128x2048_S64x512_64_1024)
theorem lp_at0_2 (c : Dev nD) (t : Fin cfg0.N) (i : Fin 64) (w : Fin 512) : LP0_2 m c t (ix2 i w) = OF m c (ix2 (FL (ROW (NB (2 * t.val)) i.rev)) (VC 2 w)) :=
  (p_at0_2 m c t i w).trans (congrArg (OF m c) (congrArg₂ ix2 (row_0 t i _) rfl))
theorem lz_at0_2 (c : Dev nD) (t : Fin cfg0.N) (i : Fin 64) (w : Fin 512) : LZ0_2 m c t (ix2 i w) = PJ m c (ix2 (FL (ROW (NB (2 * t.val)) i.rev)) ⟨6144 + (VC 2 w).val, by omega⟩) :=
  (z_at0_2 m c t i w).trans (congrArg (PJ m c) (congrArg₂ ix2 (row_0 t i _) rfl))
abbrev LP0_3 (c : Dev nD) (t : Fin cfg0.N) : FVec Ideal S64x512 .f32 := View.ld (iblk m c 5 t) (Rect.unit ![64, 1536] ![64, 512] inb_S128x2048_S64x512_64_1536)
abbrev LZ0_3 (c : Dev nD) (t : Fin cfg0.N) : FVec Ideal S64x512 .f32 := View.ld (X0_4 m c t) (Rect.unit ![64, 1536] ![64, 512] inb_S128x2048_S64x512_64_1536)
theorem lp_at0_3 (c : Dev nD) (t : Fin cfg0.N) (i : Fin 64) (w : Fin 512) : LP0_3 m c t (ix2 i w) = OF m c (ix2 (FL (ROW (NB (2 * t.val)) i.rev)) (VC 3 w)) :=
  (p_at0_3 m c t i w).trans (congrArg (OF m c) (congrArg₂ ix2 (row_0 t i _) rfl))
theorem lz_at0_3 (c : Dev nD) (t : Fin cfg0.N) (i : Fin 64) (w : Fin 512) : LZ0_3 m c t (ix2 i w) = PJ m c (ix2 (FL (ROW (NB (2 * t.val)) i.rev)) ⟨6144 + (VC 3 w).val, by omega⟩) :=
  (z_at0_3 m c t i w).trans (congrArg (PJ m c) (congrArg₂ ix2 (row_0 t i _) rfl))

theorem lw_at0 (c : Dev nD) (t : Fin cfg0.N) (i : Fin 64) (l : Fin 128) : LW0 m c t (ix2 i l) = PJ m c (ix2 (FL (ROW (NB (2 * t.val)) i.rev)) ⟨11264 + l.val, by omega⟩) :=
  (low_at0 m c t i l).trans (congrArg (PJ m c) (congrArg₂ ix2 (row_0 t i _) rfl))
theorem lq_at0 (c : Dev nD) (t : Fin cfg0.N) (i : Fin 64) (l : Fin 1024) : LQ0 m c t (ix2 i l) = PF m c (ROW (NB (2 * t.val)) i.rev) ⟨9216 + l.val, by omega⟩ :=
  (q_at0 m c t i l).trans (congrArg (PJ m c) (congrArg₂ ix2 (row_0 t i _) (SH_else _ (by dsimp only; omega)).symm))
theorem lk_at0 (c : Dev nD) (t : Fin cfg0.N) (i : Fin 64) (l : Fin 1024) : LK0 m c t (ix2 i l) = PF m c (ROW (NB (2 * t.val)) i.rev) ⟨10240 + l.val, by omega⟩ :=
  (k_at0 m c t i l).trans (congrArg (PJ m c) (congrArg₂ ix2 (row_0 t i _) (SH_else _ (by dsimp only; omega)).symm))
theorem lv_at0 (c : Dev nD) (t : Fin cfg0.N) (i : Fin 64) (l : Fin 2048) : LV0 m c t (ix2 i l) = PF m c (ROW (NB (2 * t.val)) i.rev) ⟨4096 + l.val, by omega⟩ :=
  (v_at0 m c t i l).trans (congrArg (PJ m c) (congrArg₂ ix2 (row_0 t i _) (SH_else _ (by dsimp only; omega)).symm))

/-- The pre-activation, from the padded weight. -/
theorem pre_0 (c : Dev nD) (t : Fin cfg0.N) (i : Fin 64) (e : Fin 1024) :
    PREK (LW0 m c t) (iblk m c 6 t) (iblk m c 7 t) i e = PRE (PF m c) (WF m c) (BF m c) (ROW (NB (2 * t.val)) i.rev) e := by
  unfold PREK PRE
  rw [b_at m c t e]
  refine congrArg₂ (· + ·) (Eq.symm ?_) rfl
  refine Finset.sum_of_injOn (fun l : Fin 16 => (⟨80 + l.val, by omega⟩ : Fin 128)) (fun a _ b _ h => Fin.ext (by have := congrArg Fin.val h; dsimp only at this; omega)) (fun _ _ => Finset.mem_coe.2 (Finset.mem_univ _)) (fun l _ hl => ?_) (fun l _ => ?_)
  · rw [w_at, dif_neg, mul_zero]
    rintro ⟨h1, h2⟩
    exact hl ⟨⟨l.val - 80, by omega⟩, Finset.mem_coe.2 (Finset.mem_univ _), Fin.ext (by dsimp only; omega)⟩
  · rw [w_at, lw_at0, dif_pos ⟨by dsimp only; omega, by dsimp only; omega⟩]
    show PJ m c (ix2 (FL (ROW (NB (2 * t.val)) i.rev)) (SH ⟨11328 + l.val, by omega⟩)) * _ = _
    rw [SH_low]
    refine congrArg₂ (· * ·) (congrArg (PJ m c) (congrArg (ix2 _) (Fin.ext (by dsimp only; omega)))) (congrArg (GW m c) (congrArg₂ ix2 (Fin.ext (by dsimp only; omega)) rfl))

theorem g_0 (c : Dev nD) (t : Fin cfg0.N) (i : Fin 64) (e : Fin 1024) :
    k0_pay7 (F := Ideal) k0_pay3 (k0_pay5 (LW0 m c t) (iblk m c 6 t) (iblk m c 7 t)) (k0_pay6 (LW0 m c t) (iblk m c 6 t) (iblk m c 7 t)) (ix2 i e) = GC (PF m c) (WF m c) (BF m c) (NB (2 * t.val)) i.rev e := by
  rw [G_0, CUMR_rev]
  unfold GC
  refine congrArg (fun f => CUM f i.rev) (funext fun j => congrArg GKS ((pre_0 m c t j.rev e).trans ?_))
  rw [Fin.rev_rev]

theorem qef_0 (c : Dev nD) (t : Fin cfg0.N) :
    (fun i e => k0_pay11 (F := Ideal) k0_pay3 (k0_pay5 (LW0 m c t) (iblk m c 6 t) (iblk m c 7 t)) (k0_pay6 (LW0 m c t) (iblk m c 6 t) (iblk m c 7 t)) (LQ0 m c t) (ix2 i e)) = fun i => QE (PF m c) (WF m c) (BF m c) (NB (2 * t.val)) i.rev := by
  funext i e
  rw [qe_0, lq_at0]
  simp only [g_0]
  rfl

theorem kef_0 (c : Dev nD) (t : Fin cfg0.N) :
    (fun i e => k0_pay12 (F := Ideal) k0_pay3 (k0_pay5 (LW0 m c t) (iblk m c 6 t) (iblk m c 7 t)) (k0_pay6 (LW0 m c t) (iblk m c 6 t) (iblk m c 7 t)) (LK0 m c t) (ix2 i e)) = fun i => KE (PF m c) (WF m c) (BF m c) (NB (2 * t.val)) i.rev := by
  funext i e
  rw [ke_0, lk_at0]
  simp only [g_0]
  rfl

theorem qinf_0 (c : Dev nD) (t : Fin cfg0.N) :
    (fun i e => k0_pay13 (F := Ideal) k0_pay3 (k0_pay5 (LW0 m c t) (iblk m c 6 t) (iblk m c 7 t)) (k0_pay6 (LW0 m c t) (iblk m c 6 t) (iblk m c 7 t)) (LQ0 m c t) (ix2 i e)) = fun i => QIN (PF m c) (WF m c) (BF m c) (NB (2 * t.val)) i.rev := by
  funext i e
  rw [qin_0, lq_at0]
  simp only [g_0]
  rfl

theorem kendf_0 (c : Dev nD) (t : Fin cfg0.N) :
    (fun i e => k0_pay14 (F := Ideal) k0_pay3 (k0_pay5 (LW0 m c t) (iblk m c 6 t) (iblk m c 7 t)) (k0_pay6 (LW0 m c t) (iblk m c 6 t) (iblk m c 7 t)) (LK0 m c t) (ix2 i e)) = fun i => KEND (PF m c) (WF m c) (BF m c) (NB (2 * t.val)) i.rev := by
  funext i e
  rw [kend_0, lk_at0]
  simp only [g_0]
  rfl

theorem decf_0 (c : Dev nD) (t : Fin cfg0.N) :
    (fun e => k0_pay15 (F := Ideal) k0_pay3 (k0_pay5 (LW0 m c t) (iblk m c 6 t) (iblk m c 7 t)) (k0_pay6 (LW0 m c t) (iblk m c 6 t) (iblk m c 7 t)) (ix2 0 e)) = DEC (PF m c) (WF m c) (BF m c) (NB (2 * t.val)) := by
  funext e
  rw [dec_0 _ _ _ (LQ0 m c t) 0]
  simp only [g_0]
  rfl

theorem vf_0 (c : Dev nD) (t : Fin cfg0.N) :
    (fun i e => k0_pay16 (F := Ideal) (LV0 m c t) (ix2 i e)) = fun i => VV (PF m c) (NB (2 * t.val)) i.rev := by
  funext i e
  rw [v_0, lv_at0]
  rfl

theorem row_1 (t : Fin cfg0.N) (i : Fin 64) (h : (127 - t.val) * 128 + 0 + i.val < 16384) : (⟨(127 - t.val) * 128 + 0 + i.val, h⟩ : Fin 16384) = FL (ROW (NB (2 * t.val + 1)) i.rev) :=
  Fin.ext (by have := (idx t).2.2.2.2.2.2.2.2.2.2; unfold ROW FL NB; simp only [Fin.val_rev]; omega)

/-- The load of the low-rank columns at half 1. -/
abbrev LW1 (c : Dev nD) (t : Fin cfg0.N) : FVec Ideal S64x128 .f32 := View.ld (iblk m c 3 t) (Rect.unit ![0, 0] ![64, 128] inb_S128x512_S64x128_0_0)
abbrev LQ1 (c : Dev nD) (t : Fin cfg0.N) : FVec Ideal S64x1024 .f32 := View.ld (X0_0 m c t) (Rect.unit ![0, 0] ![64, 1024] inb_S128x1024_S64x1024_0_0)
abbrev LK1 (c : Dev nD) (t : Fin cfg0.N) : FVec Ideal S64x1024 .f32 := View.ld (X0_1 m c t) (Rect.unit ![0, 0] ![64, 1024] inb_S128x1024_S64x1024_0_0)
abbrev LV1 (c : Dev nD) (t : Fin cfg0.N) : FVec Ideal S64x2048 .f32 := View.ld (X0_2 m c t) (Rect.unit ![0, 0] ![64, 2048] inb_S128x2048_S64x2048_0_0)
abbrev LP1_0 (c : Dev nD) (t : Fin cfg0.N) : FVec Ideal S64x512 .f32 := View.ld (iblk m c 5 t) (Rect.unit ![0, 0] ![64, 512] inb_S128x2048_S64x512_0_0)
abbrev LZ1_0 (c : Dev nD) (t : Fin cfg0.N) : FVec Ideal S64x512 .f32 := View.ld (X0_4 m c t) (Rect.unit ![0, 0] ![64, 512] inb_S128x2048_S64x512_0_0)
theorem lp_at1_0 (c : Dev nD) (t : Fin cfg0.N) (i : Fin 64) (w : Fin 512) : LP1_0 m c t (ix2 i w) = OF m c (ix2 (FL (ROW (NB (2 * t.val + 1)) i.rev)) (VC 0 w)) :=
  (p_at1_0 m c t i w).trans (congrArg (OF m c) (congrArg₂ ix2 (row_1 t i _) rfl))
theorem lz_at1_0 (c : Dev nD) (t : Fin cfg0.N) (i : Fin 64) (w : Fin 512) : LZ1_0 m c t (ix2 i w) = PJ m c (ix2 (FL (ROW (NB (2 * t.val + 1)) i.rev)) ⟨6144 + (VC 0 w).val, by omega⟩) :=
  (z_at1_0 m c t i w).trans (congrArg (PJ m c) (congrArg₂ ix2 (row_1 t i _) rfl))
abbrev LP1_1 (c : Dev nD) (t : Fin cfg0.N) : FVec Ideal S64x512 .f32 := View.ld (iblk m c 5 t) (Rect.unit ![0, 512] ![64, 512] inb_S128x2048_S64x512_0_512)
abbrev LZ1_1 (c : Dev nD) (t : Fin cfg0.N) : FVec Ideal S64x512 .f32 := View.ld (X0_4 m c t) (Rect.unit ![0, 512] ![64, 512] inb_S128x2048_S64x512_0_512)
theorem lp_at1_1 (c : Dev nD) (t : Fin cfg0.N) (i : Fin 64) (w : Fin 512) : LP1_1 m c t (ix2 i w) = OF m c (ix2 (FL (ROW (NB (2 * t.val + 1)) i.rev)) (VC 1 w)) :=
  (p_at1_1 m c t i w).trans (congrArg (OF m c) (congrArg₂ ix2 (row_1 t i _) rfl))
theorem lz_at1_1 (c : Dev nD) (t : Fin cfg0.N) (i : Fin 64) (w : Fin 512) : LZ1_1 m c t (ix2 i w) = PJ m c (ix2 (FL (ROW (NB (2 * t.val + 1)) i.rev)) ⟨6144 + (VC 1 w).val, by omega⟩) :=
  (z_at1_1 m c t i w).trans (congrArg (PJ m c) (congrArg₂ ix2 (row_1 t i _) rfl))
abbrev LP1_2 (c : Dev nD) (t : Fin cfg0.N) : FVec Ideal S64x512 .f32 := View.ld (iblk m c 5 t) (Rect.unit ![0, 1024] ![64, 512] inb_S128x2048_S64x512_0_1024)
abbrev LZ1_2 (c : Dev nD) (t : Fin cfg0.N) : FVec Ideal S64x512 .f32 := View.ld (X0_4 m c t) (Rect.unit ![0, 1024] ![64, 512] inb_S128x2048_S64x512_0_1024)
theorem lp_at1_2 (c : Dev nD) (t : Fin cfg0.N) (i : Fin 64) (w : Fin 512) : LP1_2 m c t (ix2 i w) = OF m c (ix2 (FL (ROW (NB (2 * t.val + 1)) i.rev)) (VC 2 w)) :=
  (p_at1_2 m c t i w).trans (congrArg (OF m c) (congrArg₂ ix2 (row_1 t i _) rfl))
theorem lz_at1_2 (c : Dev nD) (t : Fin cfg0.N) (i : Fin 64) (w : Fin 512) : LZ1_2 m c t (ix2 i w) = PJ m c (ix2 (FL (ROW (NB (2 * t.val + 1)) i.rev)) ⟨6144 + (VC 2 w).val, by omega⟩) :=
  (z_at1_2 m c t i w).trans (congrArg (PJ m c) (congrArg₂ ix2 (row_1 t i _) rfl))
abbrev LP1_3 (c : Dev nD) (t : Fin cfg0.N) : FVec Ideal S64x512 .f32 := View.ld (iblk m c 5 t) (Rect.unit ![0, 1536] ![64, 512] inb_S128x2048_S64x512_0_1536)
abbrev LZ1_3 (c : Dev nD) (t : Fin cfg0.N) : FVec Ideal S64x512 .f32 := View.ld (X0_4 m c t) (Rect.unit ![0, 1536] ![64, 512] inb_S128x2048_S64x512_0_1536)
theorem lp_at1_3 (c : Dev nD) (t : Fin cfg0.N) (i : Fin 64) (w : Fin 512) : LP1_3 m c t (ix2 i w) = OF m c (ix2 (FL (ROW (NB (2 * t.val + 1)) i.rev)) (VC 3 w)) :=
  (p_at1_3 m c t i w).trans (congrArg (OF m c) (congrArg₂ ix2 (row_1 t i _) rfl))
theorem lz_at1_3 (c : Dev nD) (t : Fin cfg0.N) (i : Fin 64) (w : Fin 512) : LZ1_3 m c t (ix2 i w) = PJ m c (ix2 (FL (ROW (NB (2 * t.val + 1)) i.rev)) ⟨6144 + (VC 3 w).val, by omega⟩) :=
  (z_at1_3 m c t i w).trans (congrArg (PJ m c) (congrArg₂ ix2 (row_1 t i _) rfl))

theorem lw_at1 (c : Dev nD) (t : Fin cfg0.N) (i : Fin 64) (l : Fin 128) : LW1 m c t (ix2 i l) = PJ m c (ix2 (FL (ROW (NB (2 * t.val + 1)) i.rev)) ⟨11264 + l.val, by omega⟩) :=
  (low_at1 m c t i l).trans (congrArg (PJ m c) (congrArg₂ ix2 (row_1 t i _) rfl))
theorem lq_at1 (c : Dev nD) (t : Fin cfg0.N) (i : Fin 64) (l : Fin 1024) : LQ1 m c t (ix2 i l) = PF m c (ROW (NB (2 * t.val + 1)) i.rev) ⟨9216 + l.val, by omega⟩ :=
  (q_at1 m c t i l).trans (congrArg (PJ m c) (congrArg₂ ix2 (row_1 t i _) (SH_else _ (by dsimp only; omega)).symm))
theorem lk_at1 (c : Dev nD) (t : Fin cfg0.N) (i : Fin 64) (l : Fin 1024) : LK1 m c t (ix2 i l) = PF m c (ROW (NB (2 * t.val + 1)) i.rev) ⟨10240 + l.val, by omega⟩ :=
  (k_at1 m c t i l).trans (congrArg (PJ m c) (congrArg₂ ix2 (row_1 t i _) (SH_else _ (by dsimp only; omega)).symm))
theorem lv_at1 (c : Dev nD) (t : Fin cfg0.N) (i : Fin 64) (l : Fin 2048) : LV1 m c t (ix2 i l) = PF m c (ROW (NB (2 * t.val + 1)) i.rev) ⟨4096 + l.val, by omega⟩ :=
  (v_at1 m c t i l).trans (congrArg (PJ m c) (congrArg₂ ix2 (row_1 t i _) (SH_else _ (by dsimp only; omega)).symm))

/-- The pre-activation, from the padded weight. -/
theorem pre_1 (c : Dev nD) (t : Fin cfg0.N) (i : Fin 64) (e : Fin 1024) :
    PREK (LW1 m c t) (iblk m c 6 t) (iblk m c 7 t) i e = PRE (PF m c) (WF m c) (BF m c) (ROW (NB (2 * t.val + 1)) i.rev) e := by
  unfold PREK PRE
  rw [b_at m c t e]
  refine congrArg₂ (· + ·) (Eq.symm ?_) rfl
  refine Finset.sum_of_injOn (fun l : Fin 16 => (⟨80 + l.val, by omega⟩ : Fin 128)) (fun a _ b _ h => Fin.ext (by have := congrArg Fin.val h; dsimp only at this; omega)) (fun _ _ => Finset.mem_coe.2 (Finset.mem_univ _)) (fun l _ hl => ?_) (fun l _ => ?_)
  · rw [w_at, dif_neg, mul_zero]
    rintro ⟨h1, h2⟩
    exact hl ⟨⟨l.val - 80, by omega⟩, Finset.mem_coe.2 (Finset.mem_univ _), Fin.ext (by dsimp only; omega)⟩
  · rw [w_at, lw_at1, dif_pos ⟨by dsimp only; omega, by dsimp only; omega⟩]
    show PJ m c (ix2 (FL (ROW (NB (2 * t.val + 1)) i.rev)) (SH ⟨11328 + l.val, by omega⟩)) * _ = _
    rw [SH_low]
    refine congrArg₂ (· * ·) (congrArg (PJ m c) (congrArg (ix2 _) (Fin.ext (by dsimp only; omega)))) (congrArg (GW m c) (congrArg₂ ix2 (Fin.ext (by dsimp only; omega)) rfl))

theorem g_1 (c : Dev nD) (t : Fin cfg0.N) (i : Fin 64) (e : Fin 1024) :
    k0_pay44 (F := Ideal) k0_pay3 (k0_pay42 (LW1 m c t) (iblk m c 6 t) (iblk m c 7 t)) (k0_pay43 k0_pay3 (LW1 m c t) (iblk m c 6 t) (iblk m c 7 t)) (constant (F := Ideal) S64x1024 .f32 0x00000000#32) (ix2 i e) = GC (PF m c) (WF m c) (BF m c) (NB (2 * t.val + 1)) i.rev e := by
  rw [G_1, CUMR_rev]
  unfold GC
  refine congrArg (fun f => CUM f i.rev) (funext fun j => congrArg GKS ((pre_1 m c t j.rev e).trans ?_))
  rw [Fin.rev_rev]

theorem qef_1 (c : Dev nD) (t : Fin cfg0.N) :
    (fun i e => k0_pay48 (F := Ideal) k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LQ1 m c t) (ix2 i e)) = fun i => QE (PF m c) (WF m c) (BF m c) (NB (2 * t.val + 1)) i.rev := by
  funext i e
  rw [qe_1, lq_at1]
  simp only [g_1]
  rfl

theorem kef_1 (c : Dev nD) (t : Fin cfg0.N) :
    (fun i e => k0_pay49 (F := Ideal) k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LK1 m c t) (ix2 i e)) = fun i => KE (PF m c) (WF m c) (BF m c) (NB (2 * t.val + 1)) i.rev := by
  funext i e
  rw [ke_1, lk_at1]
  simp only [g_1]
  rfl

theorem qinf_1 (c : Dev nD) (t : Fin cfg0.N) :
    (fun i e => k0_pay50 (F := Ideal) k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LQ1 m c t) (ix2 i e)) = fun i => QIN (PF m c) (WF m c) (BF m c) (NB (2 * t.val + 1)) i.rev := by
  funext i e
  rw [qin_1, lq_at1]
  simp only [g_1]
  rfl

theorem kendf_1 (c : Dev nD) (t : Fin cfg0.N) :
    (fun i e => k0_pay51 (F := Ideal) k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LK1 m c t) (ix2 i e)) = fun i => KEND (PF m c) (WF m c) (BF m c) (NB (2 * t.val + 1)) i.rev := by
  funext i e
  rw [kend_1, lk_at1]
  simp only [g_1]
  rfl

theorem decf_1 (c : Dev nD) (t : Fin cfg0.N) :
    (fun e => k0_pay52 (F := Ideal) k0_pay3 (k0_pay42 (LW1 m c t) (iblk m c 6 t) (iblk m c 7 t)) (k0_pay43 k0_pay3 (LW1 m c t) (iblk m c 6 t) (iblk m c 7 t)) (constant (F := Ideal) S64x1024 .f32 0x00000000#32) (ix2 0 e)) = DEC (PF m c) (WF m c) (BF m c) (NB (2 * t.val + 1)) := by
  funext e
  rw [dec_1 _ _ _ (LQ1 m c t) 0]
  simp only [g_1]
  rfl

theorem vf_1 (c : Dev nD) (t : Fin cfg0.N) :
    (fun i e => k0_pay53 (F := Ideal) (LV1 m c t) (ix2 i e)) = fun i => VV (PF m c) (NB (2 * t.val + 1)) i.rev := by
  funext i e
  rw [v_1, lv_at1]
  rfl

end Cert.GlaBwdProof

end
-- ==== Proof.BackRes.lean ====
/-
  THE RESULT IN SCALARS: the sum of the two sweeps, normalized and gated.
-/
module

public import proofs.«01_k».proof.Proof.BackMath

@[expose] public section

set_option maxRecDepth 16384

noncomputable section

open Idealize.ShloMosaic Idealize.ShloMosaic.TcCoe Idealize.SL.Sem
open Idealize.ShloMosaic.Pipeline (Dat)

namespace Cert.GlaBwdProof

open Cert.GlaProof

/-- The rows in the opposite order, twice, are the rows. -/
theorem FL_FL (r : Fin 16384) : FL (FL r) = r := Fin.ext (by unfold FL; dsimp only; omega)

variable (P : Fin 16384 → Fin 11776 → EReal) (O : Fin 16384 → Fin 2048 → EReal) (W : Fin 16 → Fin 1024 → EReal) (b : Fin 1024 → EReal) (nw : Fin 512 → EReal)

/-- The result at a row and a column: the two sweeps' sum, normalized within its head and gated. -/
def BRES (r : Fin 16384) (c : Fin 2048) : EReal :=
  FIN (fun w => SWEEP (BK P) W b (FL r) (VC ⟨c.val / 512, by omega⟩ w) + O r (VC ⟨c.val / 512, by omega⟩ w)) nw (P r ⟨6144 + c.val, by omega⟩) ⟨c.val % 512, by omega⟩

theorem BRES_head (r : Fin 16384) (h : Fin 4) (w : Fin 512) :
    BRES P O W b nw r (VC h w) = FIN (fun w => SWEEP (BK P) W b (FL r) (VC h w) + O r (VC h w)) nw (P r ⟨6144 + (VC h w).val, by omega⟩) w := by
  have e1 : (⟨(VC h w).val / 512, by omega⟩ : Fin 4) = h := Fin.ext (by unfold VC; dsimp only; omega)
  have e2 : (⟨(VC h w).val % 512, by omega⟩ : Fin 512) = w := Fin.ext (by unfold VC; dsimp only; omega)
  unfold BRES
  rw [e1, e2]

theorem BRES_at (r : Fin 16384) (n : ℕ) (i : Fin 64) (h : Fin 4) (w : Fin 512) (hr : (FL r).val = 64 * n + i.val) :
    BRES P O W b nw r (VC h w) = FIN (fun w => OTC (BK P) W b n (ST (BK P) W b n) h i w + O r (VC h w)) nw (P r ⟨6144 + (VC h w).val, by omega⟩) w := by
  rw [BRES_head]
  refine congrArg (fun f => FIN f _ _ w) (funext fun w => ?_)
  rw [SWEEP_at _ _ _ (FL r) n i h w hr]

end Cert.GlaBwdProof

end
-- ==== Proof.BackHalf.lean ====
/-
  THE KERNEL'S HALF POINTS: each head's gated output and next state of a chunk, from the state it finds.
-/
module

public import proofs.«01_k».proof.Proof.BackFns
public import proofs.«01_k».proof.Proof.BackHeads
public import proofs.«01_k».proof.Proof.BackRes
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaBwdProof

open Cert.GlaProof Cert.GlaBwdIdeal Cert.GlaBwdIdeal.Gen

variable (m : (ℓ : Loc nD τ sig) → Buf (Elt Ideal) ℓ)

theorem NB_odd (t : ℕ) : NB (2 * t + 1) = NB (2 * t) + 1 := by unfold NB; omega
theorem NB_mid (t : ℕ) : (NB (2 * t) + 1) % 64 ≠ 0 := by unfold NB; omega

theorem back_0 (t : Fin cfg0.N) (i : Fin 64) : (FL (FL (ROW (NB (2 * t.val)) i.rev))).val = 64 * (NB (2 * t.val)) + i.rev.val := by
  have := (idx t).2.2.2.2.2.2.2.2.2.2
  rw [FL_FL]
  unfold ROW NB
  simp only [Fin.val_rev]
  omega

theorem back_1 (t : Fin cfg0.N) (i : Fin 64) : (FL (FL (ROW (NB (2 * t.val + 1)) i.rev))).val = 64 * (NB (2 * t.val + 1)) + i.rev.val := by
  have := (idx t).2.2.2.2.2.2.2.2.2.2
  rw [FL_FL]
  unfold ROW NB
  simp only [Fin.val_rev]
  omega

theorem nxt_0_0 (c : Dev nD) (t : Fin cfg0.N) (st : FVec Ideal S1x512x256 .f32) (S : Fin 4 → Fin 512 → Fin 256 → EReal) (hS : ∀ w k, st (ix3 0 w k) = S 0 w k) (w : Fin 512) (k : Fin 256) :
    k0_pay19 (k0_pay14 k0_pay3 (k0_pay5 (LW0 m c t) (iblk m c 6 t) (iblk m c 7 t)) (k0_pay6 (LW0 m c t) (iblk m c 6 t) (iblk m c 7 t)) (LK0 m c t)) (k0_pay15 k0_pay3 (k0_pay5 (LW0 m c t) (iblk m c 6 t) (iblk m c 7 t)) (k0_pay6 (LW0 m c t) (iblk m c 6 t) (iblk m c 7 t))) (k0_pay16 (F := Ideal) (LV0 m c t)) st (ix3 0 w k) = NXT (PF m c) (WF m c) (BF m c) (NB (2 * t.val)) S 0 w k := by
  refine (new_0_0 _ _ _ _ w k).trans ?_
  rw [kendf_0, decf_0, vf_0, show (fun w k => st (ix3 0 w k)) = S 0 from funext fun w => funext fun k => hS w k]
  exact NEWT_rev _ _ _ _ _ _ _

theorem oct_0_0 (c : Dev nD) (t : Fin cfg0.N) (st : FVec Ideal S1x512x256 .f32) (hS : ∀ w k, st (ix3 0 w k) = ST (PF m c) (WF m c) (BF m c) (NB (2 * t.val)) 0 w k) (i : Fin 64) (w : Fin 512) :
    k0_pay20 (k0_pay13 k0_pay3 (k0_pay5 (LW0 m c t) (iblk m c 6 t) (iblk m c 7 t)) (k0_pay6 (LW0 m c t) (iblk m c 6 t) (iblk m c 7 t)) (LQ0 m c t)) (k0_pay16 (F := Ideal) (LV0 m c t)) (k0_pay17 k0_pay2 k0_pay3 (k0_pay5 (LW0 m c t) (iblk m c 6 t) (iblk m c 7 t)) (k0_pay6 (LW0 m c t) (iblk m c 6 t) (iblk m c 7 t)) (LQ0 m c t) (LK0 m c t)) st (LP0_0 m c t) (iblk m c 8 t) (LZ0_0 m c t) (ix2 i w) = BRES (fun r e => PJ m c (ix2 r e)) (fun r e => OF m c (ix2 r e)) (WF m c) (BF m c) (fun e => NW m c (ix1 e)) (FL (ROW (NB (2 * t.val)) i.rev)) (VC 0 w) := by
  rw [BRES_at _ _ _ _ _ (FL (ROW (NB (2 * t.val)) i.rev)) (NB (2 * t.val)) i.rev 0 w (back_0 t i)]
  refine (out_0_0 _ _ _ _ _ _ _ _ _ _ _ i w).trans ?_
  rw [qef_0, kef_0, qinf_0, vf_0, show (fun w k => st (ix3 0 w k)) = ST (PF m c) (WF m c) (BF m c) (NB (2 * t.val)) 0 from funext fun w => funext fun k => hS w k]
  simp only [lp_at0_0, lz_at0_0, nw_at]
  exact congrArg (fun f => FIN f _ _ w) (funext fun w => congrArg (· + _) (OUTR_rev _ _ _ _ _ _ i w))

theorem nxt_0_1 (c : Dev nD) (t : Fin cfg0.N) (st : FVec Ideal S1x512x256 .f32) (S : Fin 4 → Fin 512 → Fin 256 → EReal) (hS : ∀ w k, st (ix3 0 w k) = S 1 w k) (w : Fin 512) (k : Fin 256) :
    k0_pay24 (k0_pay14 k0_pay3 (k0_pay5 (LW0 m c t) (iblk m c 6 t) (iblk m c 7 t)) (k0_pay6 (LW0 m c t) (iblk m c 6 t) (iblk m c 7 t)) (LK0 m c t)) (k0_pay15 k0_pay3 (k0_pay5 (LW0 m c t) (iblk m c 6 t) (iblk m c 7 t)) (k0_pay6 (LW0 m c t) (iblk m c 6 t) (iblk m c 7 t))) (k0_pay16 (F := Ideal) (LV0 m c t)) st (ix3 0 w k) = NXT (PF m c) (WF m c) (BF m c) (NB (2 * t.val)) S 1 w k := by
  refine (new_0_1 _ _ _ _ w k).trans ?_
  rw [kendf_0, decf_0, vf_0, show (fun w k => st (ix3 0 w k)) = S 1 from funext fun w => funext fun k => hS w k]
  exact NEWT_rev _ _ _ _ _ _ _

theorem oct_0_1 (c : Dev nD) (t : Fin cfg0.N) (st : FVec Ideal S1x512x256 .f32) (hS : ∀ w k, st (ix3 0 w k) = ST (PF m c) (WF m c) (BF m c) (NB (2 * t.val)) 1 w k) (i : Fin 64) (w : Fin 512) :
    k0_pay27 (k0_pay25 k0_pay2 (k0_pay13 k0_pay3 (k0_pay5 (LW0 m c t) (iblk m c 6 t) (iblk m c 7 t)) (k0_pay6 (LW0 m c t) (iblk m c 6 t) (iblk m c 7 t)) (LQ0 m c t)) (k0_pay16 (F := Ideal) (LV0 m c t)) (k0_pay21 (k0_pay11 k0_pay3 (k0_pay5 (LW0 m c t) (iblk m c 6 t) (iblk m c 7 t)) (k0_pay6 (LW0 m c t) (iblk m c 6 t) (iblk m c 7 t)) (LQ0 m c t))) (k0_pay22 (k0_pay12 k0_pay3 (k0_pay5 (LW0 m c t) (iblk m c 6 t) (iblk m c 7 t)) (k0_pay6 (LW0 m c t) (iblk m c 6 t) (iblk m c 7 t)) (LK0 m c t))) (constant (F := Ideal) S64x64 .f32 0x00000000#32) st (LP0_1 m c t) (iblk m c 8 t)) (LZ0_1 m c t) (k0_pay26 (LZ0_1 m c t)) (ix2 i w) = BRES (fun r e => PJ m c (ix2 r e)) (fun r e => OF m c (ix2 r e)) (WF m c) (BF m c) (fun e => NW m c (ix1 e)) (FL (ROW (NB (2 * t.val)) i.rev)) (VC 1 w) := by
  rw [BRES_at _ _ _ _ _ (FL (ROW (NB (2 * t.val)) i.rev)) (NB (2 * t.val)) i.rev 1 w (back_0 t i)]
  refine (out_0_1 _ _ _ _ _ _ _ _ i w).trans ?_
  rw [qef_0, kef_0, qinf_0, vf_0, show (fun w k => st (ix3 0 w k)) = ST (PF m c) (WF m c) (BF m c) (NB (2 * t.val)) 1 from funext fun w => funext fun k => hS w k]
  simp only [lp_at0_1, lz_at0_1, nw_at]
  exact congrArg (fun f => FIN f _ _ w) (funext fun w => congrArg (· + _) (OUTR_rev _ _ _ _ _ _ i w))

theorem nxt_0_2 (c : Dev nD) (t : Fin cfg0.N) (st : FVec Ideal S1x512x256 .f32) (S : Fin 4 → Fin 512 → Fin 256 → EReal) (hS : ∀ w k, st (ix3 0 w k) = S 2 w k) (w : Fin 512) (k : Fin 256) :
    k0_pay29 (k0_pay14 k0_pay3 (k0_pay5 (LW0 m c t) (iblk m c 6 t) (iblk m c 7 t)) (k0_pay6 (LW0 m c t) (iblk m c 6 t) (iblk m c 7 t)) (LK0 m c t)) (k0_pay15 k0_pay3 (k0_pay5 (LW0 m c t) (iblk m c 6 t) (iblk m c 7 t)) (k0_pay6 (LW0 m c t) (iblk m c 6 t) (iblk m c 7 t))) (k0_pay16 (F := Ideal) (LV0 m c t)) st (ix3 0 w k) = NXT (PF m c) (WF m c) (BF m c) (NB (2 * t.val)) S 2 w k := by
  refine (new_0_2 _ _ _ _ w k).trans ?_
  rw [kendf_0, decf_0, vf_0, show (fun w k => st (ix3 0 w k)) = S 2 from funext fun w => funext fun k => hS w k]
  exact NEWT_rev _ _ _ _ _ _ _

theorem oct_0_2 (c : Dev nD) (t : Fin cfg0.N) (st : FVec Ideal S1x512x256 .f32) (hS : ∀ w k, st (ix3 0 w k) = ST (PF m c) (WF m c) (BF m c) (NB (2 * t.val)) 2 w k) (i : Fin 64) (w : Fin 512) :
    k0_pay32 (k0_pay30 k0_pay2 (k0_pay11 k0_pay3 (k0_pay5 (LW0 m c t) (iblk m c 6 t) (iblk m c 7 t)) (k0_pay6 (LW0 m c t) (iblk m c 6 t) (iblk m c 7 t)) (LQ0 m c t)) (k0_pay12 k0_pay3 (k0_pay5 (LW0 m c t) (iblk m c 6 t) (iblk m c 7 t)) (k0_pay6 (LW0 m c t) (iblk m c 6 t) (iblk m c 7 t)) (LK0 m c t)) (k0_pay13 k0_pay3 (k0_pay5 (LW0 m c t) (iblk m c 6 t) (iblk m c 7 t)) (k0_pay6 (LW0 m c t) (iblk m c 6 t) (iblk m c 7 t)) (LQ0 m c t)) (k0_pay16 (F := Ideal) (LV0 m c t)) st (LP0_2 m c t)) (k0_pay31 (iblk m c 8 t)) (LZ0_2 m c t) (ix2 i w) = BRES (fun r e => PJ m c (ix2 r e)) (fun r e => OF m c (ix2 r e)) (WF m c) (BF m c) (fun e => NW m c (ix1 e)) (FL (ROW (NB (2 * t.val)) i.rev)) (VC 2 w) := by
  rw [BRES_at _ _ _ _ _ (FL (ROW (NB (2 * t.val)) i.rev)) (NB (2 * t.val)) i.rev 2 w (back_0 t i)]
  refine (out_0_2 _ _ _ _ _ _ _ _ i w).trans ?_
  rw [qef_0, kef_0, qinf_0, vf_0, show (fun w k => st (ix3 0 w k)) = ST (PF m c) (WF m c) (BF m c) (NB (2 * t.val)) 2 from funext fun w => funext fun k => hS w k]
  simp only [lp_at0_2, lz_at0_2, nw_at]
  exact congrArg (fun f => FIN f _ _ w) (funext fun w => congrArg (· + _) (OUTR_rev _ _ _ _ _ _ i w))

theorem nxt_0_3 (c : Dev nD) (t : Fin cfg0.N) (st : FVec Ideal S1x512x256 .f32) (S : Fin 4 → Fin 512 → Fin 256 → EReal) (hS : ∀ w k, st (ix3 0 w k) = S 3 w k) (w : Fin 512) (k : Fin 256) :
    k0_pay34 (k0_pay14 k0_pay3 (k0_pay5 (LW0 m c t) (iblk m c 6 t) (iblk m c 7 t)) (k0_pay6 (LW0 m c t) (iblk m c 6 t) (iblk m c 7 t)) (LK0 m c t)) (k0_pay15 k0_pay3 (k0_pay5 (LW0 m c t) (iblk m c 6 t) (iblk m c 7 t)) (k0_pay6 (LW0 m c t) (iblk m c 6 t) (iblk m c 7 t))) (k0_pay16 (F := Ideal) (LV0 m c t)) st (ix3 0 w k) = NXT (PF m c) (WF m c) (BF m c) (NB (2 * t.val)) S 3 w k := by
  refine (new_0_3 _ _ _ _ w k).trans ?_
  rw [kendf_0, decf_0, vf_0, show (fun w k => st (ix3 0 w k)) = S 3 from funext fun w => funext fun k => hS w k]
  exact NEWT_rev _ _ _ _ _ _ _

theorem oct_0_3 (c : Dev nD) (t : Fin cfg0.N) (x0 x1 x2 : FVec Ideal S64x512 .f32) (st : FVec Ideal S1x512x256 .f32) (hS : ∀ w k, st (ix3 0 w k) = ST (PF m c) (WF m c) (BF m c) (NB (2 * t.val)) 3 w k) (i : Fin 64) (w : Fin 512) :
    k0_pay39 x0 x1 x2 (k0_pay35 k0_pay2 (k0_pay11 k0_pay3 (k0_pay5 (LW0 m c t) (iblk m c 6 t) (iblk m c 7 t)) (k0_pay6 (LW0 m c t) (iblk m c 6 t) (iblk m c 7 t)) (LQ0 m c t)) (k0_pay12 k0_pay3 (k0_pay5 (LW0 m c t) (iblk m c 6 t) (iblk m c 7 t)) (k0_pay6 (LW0 m c t) (iblk m c 6 t) (iblk m c 7 t)) (LK0 m c t)) (k0_pay13 k0_pay3 (k0_pay5 (LW0 m c t) (iblk m c 6 t) (iblk m c 7 t)) (k0_pay6 (LW0 m c t) (iblk m c 6 t) (iblk m c 7 t)) (LQ0 m c t)) (k0_pay16 (F := Ideal) (LV0 m c t)) st (LP0_3 m c t)) (k0_pay36 (iblk m c 8 t)) (k0_pay37 k0_pay2 (k0_pay11 k0_pay3 (k0_pay5 (LW0 m c t) (iblk m c 6 t) (iblk m c 7 t)) (k0_pay6 (LW0 m c t) (iblk m c 6 t) (iblk m c 7 t)) (LQ0 m c t)) (k0_pay12 k0_pay3 (k0_pay5 (LW0 m c t) (iblk m c 6 t) (iblk m c 7 t)) (k0_pay6 (LW0 m c t) (iblk m c 6 t) (iblk m c 7 t)) (LK0 m c t)) (k0_pay13 k0_pay3 (k0_pay5 (LW0 m c t) (iblk m c 6 t) (iblk m c 7 t)) (k0_pay6 (LW0 m c t) (iblk m c 6 t) (iblk m c 7 t)) (LQ0 m c t)) (k0_pay16 (F := Ideal) (LV0 m c t)) st (LP0_3 m c t)) (k0_pay38 (F := Ideal)) (LZ0_3 m c t) (ix2 i (VC 3 w)) = BRES (fun r e => PJ m c (ix2 r e)) (fun r e => OF m c (ix2 r e)) (WF m c) (BF m c) (fun e => NW m c (ix1 e)) (FL (ROW (NB (2 * t.val)) i.rev)) (VC 3 w) := by
  rw [BRES_at _ _ _ _ _ (FL (ROW (NB (2 * t.val)) i.rev)) (NB (2 * t.val)) i.rev 3 w (back_0 t i)]
  refine (out_0_3 _ _ _ _ _ _ _ _ _ _ _ i w).trans ?_
  rw [qef_0, kef_0, qinf_0, vf_0, show (fun w k => st (ix3 0 w k)) = ST (PF m c) (WF m c) (BF m c) (NB (2 * t.val)) 3 from funext fun w => funext fun k => hS w k]
  simp only [lp_at0_3, lz_at0_3, nw_at]
  exact congrArg (fun f => FIN f _ _ w) (funext fun w => congrArg (· + _) (OUTR_rev _ _ _ _ _ _ i w))

theorem nxt_1_0 (c : Dev nD) (t : Fin cfg0.N) (st : FVec Ideal S1x512x256 .f32) (S : Fin 4 → Fin 512 → Fin 256 → EReal) (hS : ∀ w k, st (ix3 0 w k) = S 0 w k) (w : Fin 512) (k : Fin 256) :
    k0_pay57 (k0_pay51 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LK1 m c t)) (k0_pay53 (F := Ideal) (LV1 m c t)) (k0_pay56 k0_pay3 (k0_pay42 (LW1 m c t) (iblk m c 6 t) (iblk m c 7 t)) (k0_pay43 k0_pay3 (LW1 m c t) (iblk m c 6 t) (iblk m c 7 t)) (constant (F := Ideal) S64x1024 .f32 0x00000000#32) st) (ix3 0 w k) = NXT (PF m c) (WF m c) (BF m c) (NB (2 * t.val + 1)) S 0 w k := by
  refine (new_1_0 _ _ _ _ _ _ w k).trans ?_
  rw [kendf_1, decf_1, vf_1, show (fun w k => st (ix3 0 w k)) = S 0 from funext fun w => funext fun k => hS w k]
  exact NEWT_rev _ _ _ _ _ _ _

theorem oct_1_0 (c : Dev nD) (t : Fin cfg0.N) (st : FVec Ideal S1x512x256 .f32) (hS : ∀ w k, st (ix3 0 w k) = ST (PF m c) (WF m c) (BF m c) (NB (2 * t.val + 1)) 0 w k) (i : Fin 64) (w : Fin 512) :
    k0_pay58 (k0_pay55 k0_pay2 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LQ1 m c t) (LK1 m c t) (LV1 m c t) st) (LP1_0 m c t) (iblk m c 8 t) (LZ1_0 m c t) (ix2 i w) = BRES (fun r e => PJ m c (ix2 r e)) (fun r e => OF m c (ix2 r e)) (WF m c) (BF m c) (fun e => NW m c (ix1 e)) (FL (ROW (NB (2 * t.val + 1)) i.rev)) (VC 0 w) := by
  rw [BRES_at _ _ _ _ _ (FL (ROW (NB (2 * t.val + 1)) i.rev)) (NB (2 * t.val + 1)) i.rev 0 w (back_1 t i)]
  refine (out_1_0 _ _ _ _ _ _ _ _ _ _ i w).trans ?_
  rw [qef_1, kef_1, qinf_1, vf_1, show (fun w k => st (ix3 0 w k)) = ST (PF m c) (WF m c) (BF m c) (NB (2 * t.val + 1)) 0 from funext fun w => funext fun k => hS w k]
  simp only [lp_at1_0, lz_at1_0, nw_at]
  exact congrArg (fun f => FIN f _ _ w) (funext fun w => congrArg (· + _) (OUTR_rev _ _ _ _ _ _ i w))

theorem nxt_1_1 (c : Dev nD) (t : Fin cfg0.N) (st : FVec Ideal S1x512x256 .f32) (S : Fin 4 → Fin 512 → Fin 256 → EReal) (hS : ∀ w k, st (ix3 0 w k) = S 1 w k) (w : Fin 512) (k : Fin 256) :
    k0_pay63 (k0_pay51 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LK1 m c t)) (k0_pay52 k0_pay3 (k0_pay42 (LW1 m c t) (iblk m c 6 t) (iblk m c 7 t)) (k0_pay43 k0_pay3 (LW1 m c t) (iblk m c 6 t) (iblk m c 7 t)) (constant (F := Ideal) S64x1024 .f32 0x00000000#32)) (k0_pay53 (F := Ideal) (LV1 m c t)) (k0_pay59 st) (ix3 0 w k) = NXT (PF m c) (WF m c) (BF m c) (NB (2 * t.val + 1)) S 1 w k := by
  refine (new_1_1 _ _ _ _ w k).trans ?_
  rw [kendf_1, decf_1, vf_1, show (fun w k => st (ix3 0 w k)) = S 1 from funext fun w => funext fun k => hS w k]
  exact NEWT_rev _ _ _ _ _ _ _

theorem oct_1_1 (c : Dev nD) (t : Fin cfg0.N) (st : FVec Ideal S1x512x256 .f32) (hS : ∀ w k, st (ix3 0 w k) = ST (PF m c) (WF m c) (BF m c) (NB (2 * t.val + 1)) 1 w k) (i : Fin 64) (w : Fin 512) :
    k0_pay64 (k0_pay60 k0_pay2 (k0_pay48 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LQ1 m c t)) (k0_pay49 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LK1 m c t)) (k0_pay53 (F := Ideal) (LV1 m c t))) (k0_pay61 (k0_pay50 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LQ1 m c t))) (k0_pay62 st) (constant (F := Ideal) S64x512 .f32 0x00000000#32) (LP1_1 m c t) (iblk m c 8 t) (LZ1_1 m c t) (ix2 i w) = BRES (fun r e => PJ m c (ix2 r e)) (fun r e => OF m c (ix2 r e)) (WF m c) (BF m c) (fun e => NW m c (ix1 e)) (FL (ROW (NB (2 * t.val + 1)) i.rev)) (VC 1 w) := by
  rw [BRES_at _ _ _ _ _ (FL (ROW (NB (2 * t.val + 1)) i.rev)) (NB (2 * t.val + 1)) i.rev 1 w (back_1 t i)]
  refine (out_1_1 _ _ _ _ _ _ _ _ i w).trans ?_
  rw [qef_1, kef_1, qinf_1, vf_1, show (fun w k => st (ix3 0 w k)) = ST (PF m c) (WF m c) (BF m c) (NB (2 * t.val + 1)) 1 from funext fun w => funext fun k => hS w k]
  simp only [lp_at1_1, lz_at1_1, nw_at]
  exact congrArg (fun f => FIN f _ _ w) (funext fun w => congrArg (· + _) (OUTR_rev _ _ _ _ _ _ i w))

theorem nxt_1_2 (c : Dev nD) (t : Fin cfg0.N) (st : FVec Ideal S1x512x256 .f32) (S : Fin 4 → Fin 512 → Fin 256 → EReal) (hS : ∀ w k, st (ix3 0 w k) = S 2 w k) (w : Fin 512) (k : Fin 256) :
    k0_pay68 (k0_pay51 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LK1 m c t)) (k0_pay52 k0_pay3 (k0_pay42 (LW1 m c t) (iblk m c 6 t) (iblk m c 7 t)) (k0_pay43 k0_pay3 (LW1 m c t) (iblk m c 6 t) (iblk m c 7 t)) (constant (F := Ideal) S64x1024 .f32 0x00000000#32)) (k0_pay53 (F := Ideal) (LV1 m c t)) (k0_pay66 st) (ix3 0 w k) = NXT (PF m c) (WF m c) (BF m c) (NB (2 * t.val + 1)) S 2 w k := by
  refine (new_1_2 _ _ _ _ w k).trans ?_
  rw [kendf_1, decf_1, vf_1, show (fun w k => st (ix3 0 w k)) = S 2 from funext fun w => funext fun k => hS w k]
  exact NEWT_rev _ _ _ _ _ _ _

theorem oct_1_2 (c : Dev nD) (t : Fin cfg0.N) (st : FVec Ideal S1x512x256 .f32) (hS : ∀ w k, st (ix3 0 w k) = ST (PF m c) (WF m c) (BF m c) (NB (2 * t.val + 1)) 2 w k) (i : Fin 64) (w : Fin 512) :
    k0_pay69 (k0_pay50 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LQ1 m c t)) (k0_pay65 k0_pay2 (k0_pay48 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LQ1 m c t)) (k0_pay49 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LK1 m c t))) (k0_pay66 st) (k0_pay67 (k0_pay53 (F := Ideal) (LV1 m c t))) (LP1_2 m c t) (iblk m c 8 t) (LZ1_2 m c t) (ix2 i w) = BRES (fun r e => PJ m c (ix2 r e)) (fun r e => OF m c (ix2 r e)) (WF m c) (BF m c) (fun e => NW m c (ix1 e)) (FL (ROW (NB (2 * t.val + 1)) i.rev)) (VC 2 w) := by
  rw [BRES_at _ _ _ _ _ (FL (ROW (NB (2 * t.val + 1)) i.rev)) (NB (2 * t.val + 1)) i.rev 2 w (back_1 t i)]
  refine (out_1_2 _ _ _ _ _ _ _ _ i w).trans ?_
  rw [qef_1, kef_1, qinf_1, vf_1, show (fun w k => st (ix3 0 w k)) = ST (PF m c) (WF m c) (BF m c) (NB (2 * t.val + 1)) 2 from funext fun w => funext fun k => hS w k]
  simp only [lp_at1_2, lz_at1_2, nw_at]
  exact congrArg (fun f => FIN f _ _ w) (funext fun w => congrArg (· + _) (OUTR_rev _ _ _ _ _ _ i w))

theorem nxt_1_3 (c : Dev nD) (t : Fin cfg0.N) (st : FVec Ideal S1x512x256 .f32) (S : Fin 4 → Fin 512 → Fin 256 → EReal) (hS : ∀ w k, st (ix3 0 w k) = S 3 w k) (w : Fin 512) (k : Fin 256) :
    k0_pay72 (k0_pay51 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LK1 m c t)) (k0_pay52 k0_pay3 (k0_pay42 (LW1 m c t) (iblk m c 6 t) (iblk m c 7 t)) (k0_pay43 k0_pay3 (LW1 m c t) (iblk m c 6 t) (iblk m c 7 t)) (constant (F := Ideal) S64x1024 .f32 0x00000000#32)) (k0_pay53 (F := Ideal) (LV1 m c t)) st (ix3 0 w k) = NXT (PF m c) (WF m c) (BF m c) (NB (2 * t.val + 1)) S 3 w k := by
  refine (new_1_3 _ _ _ _ w k).trans ?_
  rw [kendf_1, decf_1, vf_1, show (fun w k => st (ix3 0 w k)) = S 3 from funext fun w => funext fun k => hS w k]
  exact NEWT_rev _ _ _ _ _ _ _

theorem oct_1_3 (c : Dev nD) (t : Fin cfg0.N) (x0 x1 x2 : FVec Ideal S64x512 .f32) (st : FVec Ideal S1x512x256 .f32) (hS : ∀ w k, st (ix3 0 w k) = ST (PF m c) (WF m c) (BF m c) (NB (2 * t.val + 1)) 3 w k) (i : Fin 64) (w : Fin 512) :
    k0_pay73 (k0_pay50 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LQ1 m c t)) (k0_pay53 (F := Ideal) (LV1 m c t)) x0 x1 x2 (k0_pay70 k0_pay2 (k0_pay48 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LQ1 m c t)) (k0_pay49 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LK1 m c t))) st (LP1_3 m c t) (iblk m c 8 t) (LZ1_3 m c t) (ix2 i (VC 3 w)) = BRES (fun r e => PJ m c (ix2 r e)) (fun r e => OF m c (ix2 r e)) (WF m c) (BF m c) (fun e => NW m c (ix1 e)) (FL (ROW (NB (2 * t.val + 1)) i.rev)) (VC 3 w) := by
  rw [BRES_at _ _ _ _ _ (FL (ROW (NB (2 * t.val + 1)) i.rev)) (NB (2 * t.val + 1)) i.rev 3 w (back_1 t i)]
  refine (out_1_3 _ _ _ _ _ _ _ _ _ _ _ i w).trans ?_
  rw [qef_1, kef_1, qinf_1, vf_1, show (fun w k => st (ix3 0 w k)) = ST (PF m c) (WF m c) (BF m c) (NB (2 * t.val + 1)) 3 from funext fun w => funext fun k => hS w k]
  simp only [lp_at1_3, lz_at1_3, nw_at]
  exact congrArg (fun f => FIN f _ _ w) (funext fun w => congrArg (· + _) (OUTR_rev _ _ _ _ _ _ i w))

end Cert.GlaBwdProof

end
-- ==== Proof.BackPoint.lean ====
/-
  THE KERNEL'S POINTS: the rows and the carried state of a grid point, from the state the point before left.
-/
module

public import proofs.«01_k».proof.Proof.BackHalf
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaBwdProof

open Cert.GlaProof Cert.GlaBwdIdeal Cert.GlaBwdIdeal.Gen

variable (m : (ℓ : Loc nD τ sig) → Buf (Elt Ideal) ℓ)

theorem piece_ix (x : S1x512x256.Idx) : x = ix3 0 (x 1) (x 2) :=
  funext fun a => match a with
    | ⟨0, _⟩ => Subsingleton.elim (α := Fin 1) _ _
    | ⟨1, _⟩ => rfl
    | ⟨2, _⟩ => rfl

/-- What the first chunk leaves in head 0. -/
theorem mid_0 (c : Dev nD) (t : Fin cfg0.N) (st : FVec Ideal S1x512x256 .f32) (hS : ∀ w k, st (ix3 0 w k) = ST (PF m c) (WF m c) (BF m c) (NB (2 * t.val)) 0 w k) (w : Fin 512) (k : Fin 256) :
    k0_pay19 (k0_pay14 k0_pay3 (k0_pay5 (LW0 m c t) (iblk m c 6 t) (iblk m c 7 t)) (k0_pay6 (LW0 m c t) (iblk m c 6 t) (iblk m c 7 t)) (LK0 m c t)) (k0_pay15 k0_pay3 (k0_pay5 (LW0 m c t) (iblk m c 6 t) (iblk m c 7 t)) (k0_pay6 (LW0 m c t) (iblk m c 6 t) (iblk m c 7 t))) (k0_pay16 (F := Ideal) (LV0 m c t)) st (ix3 0 w k) = ST (PF m c) (WF m c) (BF m c) (NB (2 * t.val + 1)) 0 w k := by
  rw [nxt_0_0 m c t st _ hS, NB_odd, ST_step _ _ _ _ (NB_mid t.val)]
/-- What the point leaves in head 0. -/
theorem end_0 (c : Dev nD) (t : Fin cfg0.N) (st : FVec Ideal S1x512x256 .f32) (hS : ∀ w k, st (ix3 0 w k) = ST (PF m c) (WF m c) (BF m c) (NB (2 * t.val)) 0 w k) (w : Fin 512) (k : Fin 256) :
    k0_pay57 (k0_pay51 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LK1 m c t)) (k0_pay53 (F := Ideal) (LV1 m c t)) (k0_pay56 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (k0_pay19 (k0_pay14 k0_pay3 (k0_pay5 (LW0 m c t) (iblk m c 6 t) (iblk m c 7 t)) (k0_pay6 (LW0 m c t) (iblk m c 6 t) (iblk m c 7 t)) (LK0 m c t)) (k0_pay15 k0_pay3 (k0_pay5 (LW0 m c t) (iblk m c 6 t) (iblk m c 7 t)) (k0_pay6 (LW0 m c t) (iblk m c 6 t) (iblk m c 7 t))) (k0_pay16 (F := Ideal) (LV0 m c t)) st)) (ix3 0 w k) = NXT (PF m c) (WF m c) (BF m c) (NB (2 * t.val + 1)) (ST (PF m c) (WF m c) (BF m c) (NB (2 * t.val + 1))) 0 w k :=
  nxt_1_0 m c t _ _ (fun w k => mid_0 m c t st hS w k) w k

/-- What the first chunk leaves in head 1. -/
theorem mid_1 (c : Dev nD) (t : Fin cfg0.N) (st : FVec Ideal S1x512x256 .f32) (hS : ∀ w k, st (ix3 0 w k) = ST (PF m c) (WF m c) (BF m c) (NB (2 * t.val)) 1 w k) (w : Fin 512) (k : Fin 256) :
    k0_pay24 (k0_pay14 k0_pay3 (k0_pay5 (LW0 m c t) (iblk m c 6 t) (iblk m c 7 t)) (k0_pay6 (LW0 m c t) (iblk m c 6 t) (iblk m c 7 t)) (LK0 m c t)) (k0_pay15 k0_pay3 (k0_pay5 (LW0 m c t) (iblk m c 6 t) (iblk m c 7 t)) (k0_pay6 (LW0 m c t) (iblk m c 6 t) (iblk m c 7 t))) (k0_pay16 (F := Ideal) (LV0 m c t)) st (ix3 0 w k) = ST (PF m c) (WF m c) (BF m c) (NB (2 * t.val + 1)) 1 w k := by
  rw [nxt_0_1 m c t st _ hS, NB_odd, ST_step _ _ _ _ (NB_mid t.val)]
/-- What the point leaves in head 1. -/
theorem end_1 (c : Dev nD) (t : Fin cfg0.N) (st : FVec Ideal S1x512x256 .f32) (hS : ∀ w k, st (ix3 0 w k) = ST (PF m c) (WF m c) (BF m c) (NB (2 * t.val)) 1 w k) (w : Fin 512) (k : Fin 256) :
    k0_pay63 (k0_pay51 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LK1 m c t)) (k0_pay52 k0_pay3 (k0_pay42 (LW1 m c t) (iblk m c 6 t) (iblk m c 7 t)) (k0_pay43 k0_pay3 (LW1 m c t) (iblk m c 6 t) (iblk m c 7 t)) (constant (F := Ideal) S64x1024 .f32 0x00000000#32)) (k0_pay53 (F := Ideal) (LV1 m c t)) (k0_pay59 (k0_pay24 (k0_pay14 k0_pay3 (k0_pay5 (LW0 m c t) (iblk m c 6 t) (iblk m c 7 t)) (k0_pay6 (LW0 m c t) (iblk m c 6 t) (iblk m c 7 t)) (LK0 m c t)) (k0_pay15 k0_pay3 (k0_pay5 (LW0 m c t) (iblk m c 6 t) (iblk m c 7 t)) (k0_pay6 (LW0 m c t) (iblk m c 6 t) (iblk m c 7 t))) (k0_pay16 (F := Ideal) (LV0 m c t)) st)) (ix3 0 w k) = NXT (PF m c) (WF m c) (BF m c) (NB (2 * t.val + 1)) (ST (PF m c) (WF m c) (BF m c) (NB (2 * t.val + 1))) 1 w k :=
  nxt_1_1 m c t _ _ (fun w k => mid_1 m c t st hS w k) w k

/-- What the first chunk leaves in head 2. -/
theorem mid_2 (c : Dev nD) (t : Fin cfg0.N) (st : FVec Ideal S1x512x256 .f32) (hS : ∀ w k, st (ix3 0 w k) = ST (PF m c) (WF m c) (BF m c) (NB (2 * t.val)) 2 w k) (w : Fin 512) (k : Fin 256) :
    k0_pay29 (k0_pay14 k0_pay3 (k0_pay5 (LW0 m c t) (iblk m c 6 t) (iblk m c 7 t)) (k0_pay6 (LW0 m c t) (iblk m c 6 t) (iblk m c 7 t)) (LK0 m c t)) (k0_pay15 k0_pay3 (k0_pay5 (LW0 m c t) (iblk m c 6 t) (iblk m c 7 t)) (k0_pay6 (LW0 m c t) (iblk m c 6 t) (iblk m c 7 t))) (k0_pay16 (F := Ideal) (LV0 m c t)) st (ix3 0 w k) = ST (PF m c) (WF m c) (BF m c) (NB (2 * t.val + 1)) 2 w k := by
  rw [nxt_0_2 m c t st _ hS, NB_odd, ST_step _ _ _ _ (NB_mid t.val)]
/-- What the point leaves in head 2. -/
theorem end_2 (c : Dev nD) (t : Fin cfg0.N) (st : FVec Ideal S1x512x256 .f32) (hS : ∀ w k, st (ix3 0 w k) = ST (PF m c) (WF m c) (BF m c) (NB (2 * t.val)) 2 w k) (w : Fin 512) (k : Fin 256) :
    k0_pay68 (k0_pay51 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LK1 m c t)) (k0_pay52 k0_pay3 (k0_pay42 (LW1 m c t) (iblk m c 6 t) (iblk m c 7 t)) (k0_pay43 k0_pay3 (LW1 m c t) (iblk m c 6 t) (iblk m c 7 t)) (constant (F := Ideal) S64x1024 .f32 0x00000000#32)) (k0_pay53 (F := Ideal) (LV1 m c t)) (k0_pay66 (k0_pay29 (k0_pay14 k0_pay3 (k0_pay5 (LW0 m c t) (iblk m c 6 t) (iblk m c 7 t)) (k0_pay6 (LW0 m c t) (iblk m c 6 t) (iblk m c 7 t)) (LK0 m c t)) (k0_pay15 k0_pay3 (k0_pay5 (LW0 m c t) (iblk m c 6 t) (iblk m c 7 t)) (k0_pay6 (LW0 m c t) (iblk m c 6 t) (iblk m c 7 t))) (k0_pay16 (F := Ideal) (LV0 m c t)) st)) (ix3 0 w k) = NXT (PF m c) (WF m c) (BF m c) (NB (2 * t.val + 1)) (ST (PF m c) (WF m c) (BF m c) (NB (2 * t.val + 1))) 2 w k :=
  nxt_1_2 m c t _ _ (fun w k => mid_2 m c t st hS w k) w k

/-- What the first chunk leaves in head 3. -/
theorem mid_3 (c : Dev nD) (t : Fin cfg0.N) (st : FVec Ideal S1x512x256 .f32) (hS : ∀ w k, st (ix3 0 w k) = ST (PF m c) (WF m c) (BF m c) (NB (2 * t.val)) 3 w k) (w : Fin 512) (k : Fin 256) :
    k0_pay34 (k0_pay14 k0_pay3 (k0_pay5 (LW0 m c t) (iblk m c 6 t) (iblk m c 7 t)) (k0_pay6 (LW0 m c t) (iblk m c 6 t) (iblk m c 7 t)) (LK0 m c t)) (k0_pay15 k0_pay3 (k0_pay5 (LW0 m c t) (iblk m c 6 t) (iblk m c 7 t)) (k0_pay6 (LW0 m c t) (iblk m c 6 t) (iblk m c 7 t))) (k0_pay16 (F := Ideal) (LV0 m c t)) st (ix3 0 w k) = ST (PF m c) (WF m c) (BF m c) (NB (2 * t.val + 1)) 3 w k := by
  rw [nxt_0_3 m c t st _ hS, NB_odd, ST_step _ _ _ _ (NB_mid t.val)]
/-- What the point leaves in head 3. -/
theorem end_3 (c : Dev nD) (t : Fin cfg0.N) (st : FVec Ideal S1x512x256 .f32) (hS : ∀ w k, st (ix3 0 w k) = ST (PF m c) (WF m c) (BF m c) (NB (2 * t.val)) 3 w k) (w : Fin 512) (k : Fin 256) :
    k0_pay72 (k0_pay51 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LK1 m c t)) (k0_pay52 k0_pay3 (k0_pay42 (LW1 m c t) (iblk m c 6 t) (iblk m c 7 t)) (k0_pay43 k0_pay3 (LW1 m c t) (iblk m c 6 t) (iblk m c 7 t)) (constant (F := Ideal) S64x1024 .f32 0x00000000#32)) (k0_pay53 (F := Ideal) (LV1 m c t)) (k0_pay34 (k0_pay14 k0_pay3 (k0_pay5 (LW0 m c t) (iblk m c 6 t) (iblk m c 7 t)) (k0_pay6 (LW0 m c t) (iblk m c 6 t) (iblk m c 7 t)) (LK0 m c t)) (k0_pay15 k0_pay3 (k0_pay5 (LW0 m c t) (iblk m c 6 t) (iblk m c 7 t)) (k0_pay6 (LW0 m c t) (iblk m c 6 t) (iblk m c 7 t))) (k0_pay16 (F := Ideal) (LV0 m c t)) st) (ix3 0 w k) = NXT (PF m c) (WF m c) (BF m c) (NB (2 * t.val + 1)) (ST (PF m c) (WF m c) (BF m c) (NB (2 * t.val + 1))) 3 w k :=
  nxt_1_3 m c t _ _ (fun w k => mid_3 m c t st hS w k) w k

/-- The rows the point's first chunk leaves. -/
theorem rows_0 (c : Dev nD) (t : Fin cfg0.N) (st0 : FVec Ideal S1x512x256 .f32) (st1 : FVec Ideal S1x512x256 .f32) (st2 : FVec Ideal S1x512x256 .f32) (st3 : FVec Ideal S1x512x256 .f32) (hS0 : ∀ w k, st0 (ix3 0 w k) = ST (PF m c) (WF m c) (BF m c) (NB (2 * t.val)) 0 w k) (hS1 : ∀ w k, st1 (ix3 0 w k) = ST (PF m c) (WF m c) (BF m c) (NB (2 * t.val)) 1 w k) (hS2 : ∀ w k, st2 (ix3 0 w k) = ST (PF m c) (WF m c) (BF m c) (NB (2 * t.val)) 2 w k) (hS3 : ∀ w k, st3 (ix3 0 w k) = ST (PF m c) (WF m c) (BF m c) (NB (2 * t.val)) 3 w k) (i : Fin 64) (e : Fin 2048) :
    k0_pay39 (k0_pay20 (k0_pay13 k0_pay3 (k0_pay5 (LW0 m c t) (iblk m c 6 t) (iblk m c 7 t)) (k0_pay6 (LW0 m c t) (iblk m c 6 t) (iblk m c 7 t)) (LQ0 m c t)) (k0_pay16 (F := Ideal) (LV0 m c t)) (k0_pay17 k0_pay2 k0_pay3 (k0_pay5 (LW0 m c t) (iblk m c 6 t) (iblk m c 7 t)) (k0_pay6 (LW0 m c t) (iblk m c 6 t) (iblk m c 7 t)) (LQ0 m c t) (LK0 m c t)) st0 (LP0_0 m c t) (iblk m c 8 t) (LZ0_0 m c t)) (k0_pay27 (k0_pay25 k0_pay2 (k0_pay13 k0_pay3 (k0_pay5 (LW0 m c t) (iblk m c 6 t) (iblk m c 7 t)) (k0_pay6 (LW0 m c t) (iblk m c 6 t) (iblk m c 7 t)) (LQ0 m c t)) (k0_pay16 (F := Ideal) (LV0 m c t)) (k0_pay21 (k0_pay11 k0_pay3 (k0_pay5 (LW0 m c t) (iblk m c 6 t) (iblk m c 7 t)) (k0_pay6 (LW0 m c t) (iblk m c 6 t) (iblk m c 7 t)) (LQ0 m c t))) (k0_pay22 (k0_pay12 k0_pay3 (k0_pay5 (LW0 m c t) (iblk m c 6 t) (iblk m c 7 t)) (k0_pay6 (LW0 m c t) (iblk m c 6 t) (iblk m c 7 t)) (LK0 m c t))) (constant (F := Ideal) S64x64 .f32 0x00000000#32) st1 (LP0_1 m c t) (iblk m c 8 t)) (LZ0_1 m c t) (k0_pay26 (LZ0_1 m c t))) (k0_pay32 (k0_pay30 k0_pay2 (k0_pay11 k0_pay3 (k0_pay5 (LW0 m c t) (iblk m c 6 t) (iblk m c 7 t)) (k0_pay6 (LW0 m c t) (iblk m c 6 t) (iblk m c 7 t)) (LQ0 m c t)) (k0_pay12 k0_pay3 (k0_pay5 (LW0 m c t) (iblk m c 6 t) (iblk m c 7 t)) (k0_pay6 (LW0 m c t) (iblk m c 6 t) (iblk m c 7 t)) (LK0 m c t)) (k0_pay13 k0_pay3 (k0_pay5 (LW0 m c t) (iblk m c 6 t) (iblk m c 7 t)) (k0_pay6 (LW0 m c t) (iblk m c 6 t) (iblk m c 7 t)) (LQ0 m c t)) (k0_pay16 (F := Ideal) (LV0 m c t)) st2 (LP0_2 m c t)) (k0_pay31 (iblk m c 8 t)) (LZ0_2 m c t)) (k0_pay35 k0_pay2 (k0_pay11 k0_pay3 (k0_pay5 (LW0 m c t) (iblk m c 6 t) (iblk m c 7 t)) (k0_pay6 (LW0 m c t) (iblk m c 6 t) (iblk m c 7 t)) (LQ0 m c t)) (k0_pay12 k0_pay3 (k0_pay5 (LW0 m c t) (iblk m c 6 t) (iblk m c 7 t)) (k0_pay6 (LW0 m c t) (iblk m c 6 t) (iblk m c 7 t)) (LK0 m c t)) (k0_pay13 k0_pay3 (k0_pay5 (LW0 m c t) (iblk m c 6 t) (iblk m c 7 t)) (k0_pay6 (LW0 m c t) (iblk m c 6 t) (iblk m c 7 t)) (LQ0 m c t)) (k0_pay16 (F := Ideal) (LV0 m c t)) st3 (LP0_3 m c t)) (k0_pay36 (iblk m c 8 t)) (k0_pay37 k0_pay2 (k0_pay11 k0_pay3 (k0_pay5 (LW0 m c t) (iblk m c 6 t) (iblk m c 7 t)) (k0_pay6 (LW0 m c t) (iblk m c 6 t) (iblk m c 7 t)) (LQ0 m c t)) (k0_pay12 k0_pay3 (k0_pay5 (LW0 m c t) (iblk m c 6 t) (iblk m c 7 t)) (k0_pay6 (LW0 m c t) (iblk m c 6 t) (iblk m c 7 t)) (LK0 m c t)) (k0_pay13 k0_pay3 (k0_pay5 (LW0 m c t) (iblk m c 6 t) (iblk m c 7 t)) (k0_pay6 (LW0 m c t) (iblk m c 6 t) (iblk m c 7 t)) (LQ0 m c t)) (k0_pay16 (F := Ideal) (LV0 m c t)) st3 (LP0_3 m c t)) (k0_pay38 (F := Ideal)) (LZ0_3 m c t) (ix2 i e) = BRES (fun r e => PJ m c (ix2 r e)) (fun r e => OF m c (ix2 r e)) (WF m c) (BF m c) (fun e => NW m c (ix1 e)) (FL (ROW (NB (2 * t.val)) i.rev)) e := by
  rw [VC_split e]
  generalize (⟨e.val % 512, by omega⟩ : Fin 512) = w
  generalize (⟨e.val / 512, by omega⟩ : Fin 4) = h
  match h with
  | 0 => exact (cat_0_0 _ _ _ _ _ _ _ _ i w).trans (oct_0_0 m c t st0 hS0 i w)
  | 1 => exact (cat_0_1 _ _ _ _ _ _ _ _ i w).trans (oct_0_1 m c t st1 hS1 i w)
  | 2 => exact (cat_0_2 _ _ _ _ _ _ _ _ i w).trans (oct_0_2 m c t st2 hS2 i w)
  | 3 => exact oct_0_3 m c t _ _ _ st3 hS3 i w

/-- The rows the point's second chunk leaves. -/
theorem rows_1 (c : Dev nD) (t : Fin cfg0.N) (st0 : FVec Ideal S1x512x256 .f32) (st1 : FVec Ideal S1x512x256 .f32) (st2 : FVec Ideal S1x512x256 .f32) (st3 : FVec Ideal S1x512x256 .f32) (hS0 : ∀ w k, st0 (ix3 0 w k) = ST (PF m c) (WF m c) (BF m c) (NB (2 * t.val)) 0 w k) (hS1 : ∀ w k, st1 (ix3 0 w k) = ST (PF m c) (WF m c) (BF m c) (NB (2 * t.val)) 1 w k) (hS2 : ∀ w k, st2 (ix3 0 w k) = ST (PF m c) (WF m c) (BF m c) (NB (2 * t.val)) 2 w k) (hS3 : ∀ w k, st3 (ix3 0 w k) = ST (PF m c) (WF m c) (BF m c) (NB (2 * t.val)) 3 w k) (i : Fin 64) (e : Fin 2048) :
    k0_pay73 (k0_pay50 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LQ1 m c t)) (k0_pay53 (F := Ideal) (LV1 m c t)) (k0_pay58 (k0_pay55 k0_pay2 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LQ1 m c t) (LK1 m c t) (LV1 m c t) (k0_pay19 (k0_pay14 k0_pay3 (k0_pay5 (LW0 m c t) (iblk m c 6 t) (iblk m c 7 t)) (k0_pay6 (LW0 m c t) (iblk m c 6 t) (iblk m c 7 t)) (LK0 m c t)) (k0_pay15 k0_pay3 (k0_pay5 (LW0 m c t) (iblk m c 6 t) (iblk m c 7 t)) (k0_pay6 (LW0 m c t) (iblk m c 6 t) (iblk m c 7 t))) (k0_pay16 (F := Ideal) (LV0 m c t)) st0)) (LP1_0 m c t) (iblk m c 8 t) (LZ1_0 m c t)) (k0_pay64 (k0_pay60 k0_pay2 (k0_pay48 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LQ1 m c t)) (k0_pay49 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LK1 m c t)) (k0_pay53 (F := Ideal) (LV1 m c t))) (k0_pay61 (k0_pay50 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LQ1 m c t))) (k0_pay62 (k0_pay24 (k0_pay14 k0_pay3 (k0_pay5 (LW0 m c t) (iblk m c 6 t) (iblk m c 7 t)) (k0_pay6 (LW0 m c t) (iblk m c 6 t) (iblk m c 7 t)) (LK0 m c t)) (k0_pay15 k0_pay3 (k0_pay5 (LW0 m c t) (iblk m c 6 t) (iblk m c 7 t)) (k0_pay6 (LW0 m c t) (iblk m c 6 t) (iblk m c 7 t))) (k0_pay16 (F := Ideal) (LV0 m c t)) st1)) (constant (F := Ideal) S64x512 .f32 0x00000000#32) (LP1_1 m c t) (iblk m c 8 t) (LZ1_1 m c t)) (k0_pay69 (k0_pay50 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LQ1 m c t)) (k0_pay65 k0_pay2 (k0_pay48 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LQ1 m c t)) (k0_pay49 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LK1 m c t))) (k0_pay66 (k0_pay29 (k0_pay14 k0_pay3 (k0_pay5 (LW0 m c t) (iblk m c 6 t) (iblk m c 7 t)) (k0_pay6 (LW0 m c t) (iblk m c 6 t) (iblk m c 7 t)) (LK0 m c t)) (k0_pay15 k0_pay3 (k0_pay5 (LW0 m c t) (iblk m c 6 t) (iblk m c 7 t)) (k0_pay6 (LW0 m c t) (iblk m c 6 t) (iblk m c 7 t))) (k0_pay16 (F := Ideal) (LV0 m c t)) st2)) (k0_pay67 (k0_pay53 (F := Ideal) (LV1 m c t))) (LP1_2 m c t) (iblk m c 8 t) (LZ1_2 m c t)) (k0_pay70 k0_pay2 (k0_pay48 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LQ1 m c t)) (k0_pay49 k0_pay3 (k0_pay42 (LW1 m c t) (iblk m c 6 t) (iblk m c 7 t)) (k0_pay43 k0_pay3 (LW1 m c t) (iblk m c 6 t) (iblk m c 7 t)) (constant (F := Ideal) S64x1024 .f32 0x00000000#32) (LK1 m c t))) (k0_pay34 (k0_pay14 k0_pay3 (k0_pay5 (LW0 m c t) (iblk m c 6 t) (iblk m c 7 t)) (k0_pay6 (LW0 m c t) (iblk m c 6 t) (iblk m c 7 t)) (LK0 m c t)) (k0_pay15 k0_pay3 (k0_pay5 (LW0 m c t) (iblk m c 6 t) (iblk m c 7 t)) (k0_pay6 (LW0 m c t) (iblk m c 6 t) (iblk m c 7 t))) (k0_pay16 (F := Ideal) (LV0 m c t)) st3) (LP1_3 m c t) (iblk m c 8 t) (LZ1_3 m c t) (ix2 i e) = BRES (fun r e => PJ m c (ix2 r e)) (fun r e => OF m c (ix2 r e)) (WF m c) (BF m c) (fun e => NW m c (ix1 e)) (FL (ROW (NB (2 * t.val + 1)) i.rev)) e := by
  rw [VC_split e]
  generalize (⟨e.val % 512, by omega⟩ : Fin 512) = w
  generalize (⟨e.val / 512, by omega⟩ : Fin 4) = h
  match h with
  | 0 => exact (cat_1_0 _ _ _ _ _ _ _ _ _ _ i w).trans (oct_1_0 m c t _ (fun w k => mid_0 m c t st0 hS0 w k) i w)
  | 1 => exact (cat_1_1 _ _ _ _ _ _ _ _ _ _ i w).trans (oct_1_1 m c t _ (fun w k => mid_1 m c t st1 hS1 w k) i w)
  | 2 => exact (cat_1_2 _ _ _ _ _ _ _ _ _ _ i w).trans (oct_1_2 m c t _ (fun w k => mid_2 m c t st2 hS2 w k) i w)
  | 3 => exact oct_1_3 m c t _ _ _ _ (fun w k => mid_3 m c t st3 hS3 w k) i w

theorem emb_0 (w : Fin 512) (k : Fin 256) : (Rect.unit (s := S4x512x256) ![0, 0, 0] ![1, 512, 256] inb_S4x512x256_S1x512x256_0_0_0).emb (ix3 0 w k) = ix3 0 w k := by
  blk_ext
theorem mem_0 (w : Fin 512) (k : Fin 256) : (ix3 0 w k : S4x512x256.Idx) ∈ (Rect.unit (s := S4x512x256) ![0, 0, 0] ![1, 512, 256] inb_S4x512x256_S1x512x256_0_0_0).set :=
  Rect.mem_set_unit.2 fun a => match a with
    | ⟨0, _⟩ => ⟨Nat.le_refl 0, Nat.lt_succ_self 0⟩
    | ⟨1, _⟩ => ⟨Nat.zero_le _, (Nat.zero_add 512).symm ▸ w.isLt⟩
    | ⟨2, _⟩ => ⟨Nat.zero_le _, (Nat.zero_add 256).symm ▸ k.isLt⟩
theorem ld_0 (X : FVec Ideal S4x512x256 .f32) (w : Fin 512) (k : Fin 256) : View.ld (Val := Elt Ideal) (e' := .f32) (S := S4x512x256) X (Rect.unit ![0, 0, 0] ![1, 512, 256] inb_S4x512x256_S1x512x256_0_0_0) (ix3 (0 : Fin 1) w k) = X (ix3 0 w k) := by
  exact congrArg X (emb_0 w k)
theorem zero_0 (c : Dev nD) (t : Fin cfg0.N) (h0 : t.val % 32 = 0) (w : Fin 512) (k : Fin 256) :
    View.ld (Val := Elt Ideal) (e' := .f32) (S := S4x512x256) (k0_pay1 (F := Ideal)) (Rect.unit ![0, 0, 0] ![1, 512, 256] inb_S4x512x256_S1x512x256_0_0_0) (ix3 (0 : Fin 1) w k) = ST (PF m c) (WF m c) (BF m c) (NB (2 * t.val)) 0 w k := by
  rw [ST_reset _ _ _ _ (by unfold NB; omega)]
  refine (ld_0 _ w k).trans ?_
  pointwise [k0_pay1]

theorem emb_1 (w : Fin 512) (k : Fin 256) : (Rect.unit (s := S4x512x256) ![1, 0, 0] ![1, 512, 256] inb_S4x512x256_S1x512x256_1_0_0).emb (ix3 0 w k) = ix3 1 w k := by
  blk_ext
theorem mem_1 (w : Fin 512) (k : Fin 256) : (ix3 1 w k : S4x512x256.Idx) ∈ (Rect.unit (s := S4x512x256) ![1, 0, 0] ![1, 512, 256] inb_S4x512x256_S1x512x256_1_0_0).set :=
  Rect.mem_set_unit.2 fun a => match a with
    | ⟨0, _⟩ => ⟨Nat.le_refl 1, Nat.lt_succ_self 1⟩
    | ⟨1, _⟩ => ⟨Nat.zero_le _, (Nat.zero_add 512).symm ▸ w.isLt⟩
    | ⟨2, _⟩ => ⟨Nat.zero_le _, (Nat.zero_add 256).symm ▸ k.isLt⟩
theorem ld_1 (X : FVec Ideal S4x512x256 .f32) (w : Fin 512) (k : Fin 256) : View.ld (Val := Elt Ideal) (e' := .f32) (S := S4x512x256) X (Rect.unit ![1, 0, 0] ![1, 512, 256] inb_S4x512x256_S1x512x256_1_0_0) (ix3 (0 : Fin 1) w k) = X (ix3 1 w k) := by
  exact congrArg X (emb_1 w k)
theorem zero_1 (c : Dev nD) (t : Fin cfg0.N) (h0 : t.val % 32 = 0) (w : Fin 512) (k : Fin 256) :
    View.ld (Val := Elt Ideal) (e' := .f32) (S := S4x512x256) (k0_pay1 (F := Ideal)) (Rect.unit ![1, 0, 0] ![1, 512, 256] inb_S4x512x256_S1x512x256_1_0_0) (ix3 (0 : Fin 1) w k) = ST (PF m c) (WF m c) (BF m c) (NB (2 * t.val)) 1 w k := by
  rw [ST_reset _ _ _ _ (by unfold NB; omega)]
  refine (ld_1 _ w k).trans ?_
  pointwise [k0_pay1]

theorem emb_2 (w : Fin 512) (k : Fin 256) : (Rect.unit (s := S4x512x256) ![2, 0, 0] ![1, 512, 256] inb_S4x512x256_S1x512x256_2_0_0).emb (ix3 0 w k) = ix3 2 w k := by
  blk_ext
theorem mem_2 (w : Fin 512) (k : Fin 256) : (ix3 2 w k : S4x512x256.Idx) ∈ (Rect.unit (s := S4x512x256) ![2, 0, 0] ![1, 512, 256] inb_S4x512x256_S1x512x256_2_0_0).set :=
  Rect.mem_set_unit.2 fun a => match a with
    | ⟨0, _⟩ => ⟨Nat.le_refl 2, Nat.lt_succ_self 2⟩
    | ⟨1, _⟩ => ⟨Nat.zero_le _, (Nat.zero_add 512).symm ▸ w.isLt⟩
    | ⟨2, _⟩ => ⟨Nat.zero_le _, (Nat.zero_add 256).symm ▸ k.isLt⟩
theorem ld_2 (X : FVec Ideal S4x512x256 .f32) (w : Fin 512) (k : Fin 256) : View.ld (Val := Elt Ideal) (e' := .f32) (S := S4x512x256) X (Rect.unit ![2, 0, 0] ![1, 512, 256] inb_S4x512x256_S1x512x256_2_0_0) (ix3 (0 : Fin 1) w k) = X (ix3 2 w k) := by
  exact congrArg X (emb_2 w k)
theorem zero_2 (c : Dev nD) (t : Fin cfg0.N) (h0 : t.val % 32 = 0) (w : Fin 512) (k : Fin 256) :
    View.ld (Val := Elt Ideal) (e' := .f32) (S := S4x512x256) (k0_pay1 (F := Ideal)) (Rect.unit ![2, 0, 0] ![1, 512, 256] inb_S4x512x256_S1x512x256_2_0_0) (ix3 (0 : Fin 1) w k) = ST (PF m c) (WF m c) (BF m c) (NB (2 * t.val)) 2 w k := by
  rw [ST_reset _ _ _ _ (by unfold NB; omega)]
  refine (ld_2 _ w k).trans ?_
  pointwise [k0_pay1]

theorem emb_3 (w : Fin 512) (k : Fin 256) : (Rect.unit (s := S4x512x256) ![3, 0, 0] ![1, 512, 256] inb_S4x512x256_S1x512x256_3_0_0).emb (ix3 0 w k) = ix3 3 w k := by
  blk_ext
theorem mem_3 (w : Fin 512) (k : Fin 256) : (ix3 3 w k : S4x512x256.Idx) ∈ (Rect.unit (s := S4x512x256) ![3, 0, 0] ![1, 512, 256] inb_S4x512x256_S1x512x256_3_0_0).set :=
  Rect.mem_set_unit.2 fun a => match a with
    | ⟨0, _⟩ => ⟨Nat.le_refl 3, Nat.lt_succ_self 3⟩
    | ⟨1, _⟩ => ⟨Nat.zero_le _, (Nat.zero_add 512).symm ▸ w.isLt⟩
    | ⟨2, _⟩ => ⟨Nat.zero_le _, (Nat.zero_add 256).symm ▸ k.isLt⟩
theorem ld_3 (X : FVec Ideal S4x512x256 .f32) (w : Fin 512) (k : Fin 256) : View.ld (Val := Elt Ideal) (e' := .f32) (S := S4x512x256) X (Rect.unit ![3, 0, 0] ![1, 512, 256] inb_S4x512x256_S1x512x256_3_0_0) (ix3 (0 : Fin 1) w k) = X (ix3 3 w k) := by
  exact congrArg X (emb_3 w k)
theorem zero_3 (c : Dev nD) (t : Fin cfg0.N) (h0 : t.val % 32 = 0) (w : Fin 512) (k : Fin 256) :
    View.ld (Val := Elt Ideal) (e' := .f32) (S := S4x512x256) (k0_pay1 (F := Ideal)) (Rect.unit ![3, 0, 0] ![1, 512, 256] inb_S4x512x256_S1x512x256_3_0_0) (ix3 (0 : Fin 1) w k) = ST (PF m c) (WF m c) (BF m c) (NB (2 * t.val)) 3 w k := by
  rw [ST_reset _ _ _ _ (by unfold NB; omega)]
  refine (ld_3 _ w k).trans ?_
  pointwise [k0_pay1]

theorem at_0 (t : Fin cfg0.N) (i : Fin 64) : (FL (ROW (NB (2 * t.val)) i.rev)).val = (127 - t.val) * 128 + 64 + i.val := by
  have := (idx t).2.2.2.2.2.2.2.2.2.2
  exact congrArg Fin.val (row_0 t i (by omega)).symm

theorem at_1 (t : Fin cfg0.N) (i : Fin 64) : (FL (ROW (NB (2 * t.val + 1)) i.rev)).val = (127 - t.val) * 128 + 0 + i.val := by
  have := (idx t).2.2.2.2.2.2.2.2.2.2
  exact congrArg Fin.val (row_1 t i (by omega)).symm

theorem out_A (c : Dev nD) (t : Fin cfg0.N) (h0 : t.val % 32 = 0) (y : S128x2048.Idx) (r : Fin 16384) (e : Fin 2048) (hr : r.val = (127 - t.val) * 128 + (y 0).val) (he : e.val = (y 1).val) :
    (outsAt0 m c t.val t.isLt).1 y = BRES (fun r e => PJ m c (ix2 r e)) (fun r e => OF m c (ix2 r e)) (WF m c) (BF m c) (fun e => NW m c (ix1 e)) r e := by
  rw [outsAt0_A m c t h0]; dsimp only; frame_open
  simp (disch := decide) only [↓ View.readCov_skip, ↓ View.readCov_cons_toLoadRect, ↓ View.readCov_fill]
  frame_out
  try simp only [read_unread_whole]
  canon_tiles x hh
  · rw [eq_ix2 x]
    refine (rows_1 m c t _ _ _ _ (fun w k => zero_0 m c t h0 w k) (fun w k => zero_1 m c t h0 w k) (fun w k => zero_2 m c t h0 w k) (fun w k => zero_3 m c t h0 w k) (x 0) (x 1)).trans ?_
    refine congrArg₂ (BRES (fun r e => PJ m c (ix2 r e)) (fun r e => OF m c (ix2 r e)) (WF m c) (BF m c) (fun e => NW m c (ix1 e))) (Fin.ext ((at_1 t (x 0)).trans ?_)) (Fin.ext ?_) <;> (try dsimp only) <;> omega
  · rw [eq_ix2 x]
    refine (rows_0 m c t _ _ _ _ (fun w k => zero_0 m c t h0 w k) (fun w k => zero_1 m c t h0 w k) (fun w k => zero_2 m c t h0 w k) (fun w k => zero_3 m c t h0 w k) (x 0) (x 1)).trans ?_
    refine congrArg₂ (BRES (fun r e => PJ m c (ix2 r e)) (fun r e => OF m c (ix2 r e)) (WF m c) (BF m c) (fun e => NW m c (ix1 e))) (Fin.ext ((at_0 t (x 0)).trans ?_)) (Fin.ext ?_) <;> (try dsimp only) <;> omega

theorem sc_A (c : Dev nD) (t : Fin cfg0.N) (h0 : t.val % 32 = 0) (h : Fin 4) (w : Fin 512) (k : Fin 256) :
    (outsAt0 m c t.val t.isLt).2 (ix3 h w k) = NXT (PF m c) (WF m c) (BF m c) (NB (2 * t.val + 1)) (ST (PF m c) (WF m c) (BF m c) (NB (2 * t.val + 1))) h w k := by
  rw [outsAt0_A m c t h0]; dsimp only; frame_open
  simp (disch := decide) only [↓ View.readCov_skip, ↓ View.readCov_cons_toLoadRect, ↓ View.readCov_fill]
  frame_out
  try simp only [read_unread_whole]
  refine View.canon_append_of_piecesOf (Val := Elt Ideal) (e := .f32) (fun z : S4x512x256.Idx => NXT (PF m c) (WF m c) (BF m c) (NB (2 * t.val + 1)) (ST (PF m c) (WF m c) (BF m c) (NB (2 * t.val + 1))) (z 0) (z 1) (z 2)) _ [_, _, _, _] ⟨fun x => ?_, fun x => ?_, fun x => ?_, fun x => ?_, trivial⟩ _ ?_
  · rw [piece_ix x]
    refine (end_3 m c t _ (fun w k => zero_3 m c t h0 w k) (x 1) (x 2)).trans ?_
    exact congrArg (fun z : S4x512x256.Idx => NXT (PF m c) (WF m c) (BF m c) (NB (2 * t.val + 1)) (ST (PF m c) (WF m c) (BF m c) (NB (2 * t.val + 1))) (z 0) (z 1) (z 2)) (emb_3 (x 1) (x 2)).symm
  · rw [piece_ix x]
    refine (end_2 m c t _ (fun w k => zero_2 m c t h0 w k) (x 1) (x 2)).trans ?_
    exact congrArg (fun z : S4x512x256.Idx => NXT (PF m c) (WF m c) (BF m c) (NB (2 * t.val + 1)) (ST (PF m c) (WF m c) (BF m c) (NB (2 * t.val + 1))) (z 0) (z 1) (z 2)) (emb_2 (x 1) (x 2)).symm
  · rw [piece_ix x]
    refine (end_1 m c t _ (fun w k => zero_1 m c t h0 w k) (x 1) (x 2)).trans ?_
    exact congrArg (fun z : S4x512x256.Idx => NXT (PF m c) (WF m c) (BF m c) (NB (2 * t.val + 1)) (ST (PF m c) (WF m c) (BF m c) (NB (2 * t.val + 1))) (z 0) (z 1) (z 2)) (emb_1 (x 1) (x 2)).symm
  · rw [piece_ix x]
    refine (end_0 m c t _ (fun w k => zero_0 m c t h0 w k) (x 1) (x 2)).trans ?_
    exact congrArg (fun z : S4x512x256.Idx => NXT (PF m c) (WF m c) (BF m c) (NB (2 * t.val + 1)) (ST (PF m c) (WF m c) (BF m c) (NB (2 * t.val + 1))) (z 0) (z 1) (z 2)) (emb_0 (x 1) (x 2)).symm
  · match h with
    | 0 => exact ⟨_, List.mem_cons_of_mem _ (List.mem_cons_of_mem _ (List.mem_cons_of_mem _ List.mem_cons_self)), mem_0 w k⟩
    | 1 => exact ⟨_, List.mem_cons_of_mem _ (List.mem_cons_of_mem _ List.mem_cons_self), mem_1 w k⟩
    | 2 => exact ⟨_, List.mem_cons_of_mem _ List.mem_cons_self, mem_2 w k⟩
    | 3 => exact ⟨_, List.mem_cons_self, mem_3 w k⟩

theorem out_B (c : Dev nD) (t : Fin cfg0.N) (h0 : ¬t.val % 32 = 0) (ih : ∀ h w k, (outsAt0 m c (t.val - 1) (Nat.lt_of_le_of_lt (Nat.sub_le _ _) t.isLt)).2 (ix3 h w k) = ST (PF m c) (WF m c) (BF m c) (NB (2 * t.val)) h w k) (y : S128x2048.Idx) (r : Fin 16384) (e : Fin 2048) (hr : r.val = (127 - t.val) * 128 + (y 0).val) (he : e.val = (y 1).val) :
    (outsAt0 m c t.val t.isLt).1 y = BRES (fun r e => PJ m c (ix2 r e)) (fun r e => OF m c (ix2 r e)) (WF m c) (BF m c) (fun e => NW m c (ix1 e)) r e := by
  rw [outsAt0_B m c t h0]; dsimp only; frame_open
  simp (disch := decide) only [↓ View.readCov_skip, ↓ View.readCov_cons_toLoadRect, ↓ View.readCov_fill]
  frame_out
  try simp only [read_unread_whole]
  canon_tiles x hh
  · rw [eq_ix2 x]
    refine (rows_1 m c t _ _ _ _ (fun w k => (ld_0 _ w k).trans (ih 0 w k)) (fun w k => (ld_1 _ w k).trans (ih 1 w k)) (fun w k => (ld_2 _ w k).trans (ih 2 w k)) (fun w k => (ld_3 _ w k).trans (ih 3 w k)) (x 0) (x 1)).trans ?_
    refine congrArg₂ (BRES (fun r e => PJ m c (ix2 r e)) (fun r e => OF m c (ix2 r e)) (WF m c) (BF m c) (fun e => NW m c (ix1 e))) (Fin.ext ((at_1 t (x 0)).trans ?_)) (Fin.ext ?_) <;> (try dsimp only) <;> omega
  · rw [eq_ix2 x]
    refine (rows_0 m c t _ _ _ _ (fun w k => (ld_0 _ w k).trans (ih 0 w k)) (fun w k => (ld_1 _ w k).trans (ih 1 w k)) (fun w k => (ld_2 _ w k).trans (ih 2 w k)) (fun w k => (ld_3 _ w k).trans (ih 3 w k)) (x 0) (x 1)).trans ?_
    refine congrArg₂ (BRES (fun r e => PJ m c (ix2 r e)) (fun r e => OF m c (ix2 r e)) (WF m c) (BF m c) (fun e => NW m c (ix1 e))) (Fin.ext ((at_0 t (x 0)).trans ?_)) (Fin.ext ?_) <;> (try dsimp only) <;> omega

theorem sc_B (c : Dev nD) (t : Fin cfg0.N) (h0 : ¬t.val % 32 = 0) (ih : ∀ h w k, (outsAt0 m c (t.val - 1) (Nat.lt_of_le_of_lt (Nat.sub_le _ _) t.isLt)).2 (ix3 h w k) = ST (PF m c) (WF m c) (BF m c) (NB (2 * t.val)) h w k) (h : Fin 4) (w : Fin 512) (k : Fin 256) :
    (outsAt0 m c t.val t.isLt).2 (ix3 h w k) = NXT (PF m c) (WF m c) (BF m c) (NB (2 * t.val + 1)) (ST (PF m c) (WF m c) (BF m c) (NB (2 * t.val + 1))) h w k := by
  rw [outsAt0_B m c t h0]; dsimp only; frame_open
  simp (disch := decide) only [↓ View.readCov_skip, ↓ View.readCov_cons_toLoadRect, ↓ View.readCov_fill]
  frame_out
  try simp only [read_unread_whole]
  refine View.canon_append_of_piecesOf (Val := Elt Ideal) (e := .f32) (fun z : S4x512x256.Idx => NXT (PF m c) (WF m c) (BF m c) (NB (2 * t.val + 1)) (ST (PF m c) (WF m c) (BF m c) (NB (2 * t.val + 1))) (z 0) (z 1) (z 2)) _ [_, _, _, _] ⟨fun x => ?_, fun x => ?_, fun x => ?_, fun x => ?_, trivial⟩ _ ?_
  · rw [piece_ix x]
    refine (end_3 m c t _ (fun w k => (ld_3 _ w k).trans (ih 3 w k)) (x 1) (x 2)).trans ?_
    exact congrArg (fun z : S4x512x256.Idx => NXT (PF m c) (WF m c) (BF m c) (NB (2 * t.val + 1)) (ST (PF m c) (WF m c) (BF m c) (NB (2 * t.val + 1))) (z 0) (z 1) (z 2)) (emb_3 (x 1) (x 2)).symm
  · rw [piece_ix x]
    refine (end_2 m c t _ (fun w k => (ld_2 _ w k).trans (ih 2 w k)) (x 1) (x 2)).trans ?_
    exact congrArg (fun z : S4x512x256.Idx => NXT (PF m c) (WF m c) (BF m c) (NB (2 * t.val + 1)) (ST (PF m c) (WF m c) (BF m c) (NB (2 * t.val + 1))) (z 0) (z 1) (z 2)) (emb_2 (x 1) (x 2)).symm
  · rw [piece_ix x]
    refine (end_1 m c t _ (fun w k => (ld_1 _ w k).trans (ih 1 w k)) (x 1) (x 2)).trans ?_
    exact congrArg (fun z : S4x512x256.Idx => NXT (PF m c) (WF m c) (BF m c) (NB (2 * t.val + 1)) (ST (PF m c) (WF m c) (BF m c) (NB (2 * t.val + 1))) (z 0) (z 1) (z 2)) (emb_1 (x 1) (x 2)).symm
  · rw [piece_ix x]
    refine (end_0 m c t _ (fun w k => (ld_0 _ w k).trans (ih 0 w k)) (x 1) (x 2)).trans ?_
    exact congrArg (fun z : S4x512x256.Idx => NXT (PF m c) (WF m c) (BF m c) (NB (2 * t.val + 1)) (ST (PF m c) (WF m c) (BF m c) (NB (2 * t.val + 1))) (z 0) (z 1) (z 2)) (emb_0 (x 1) (x 2)).symm
  · match h with
    | 0 => exact ⟨_, List.mem_cons_of_mem _ (List.mem_cons_of_mem _ (List.mem_cons_of_mem _ List.mem_cons_self)), mem_0 w k⟩
    | 1 => exact ⟨_, List.mem_cons_of_mem _ (List.mem_cons_of_mem _ List.mem_cons_self), mem_1 w k⟩
    | 2 => exact ⟨_, List.mem_cons_of_mem _ List.mem_cons_self, mem_2 w k⟩
    | 3 => exact ⟨_, List.mem_cons_self, mem_3 w k⟩

end Cert.GlaBwdProof

end
-- ==== Proof.BackFinal.lean ====
/-
  THE KERNEL'S RESULT: the state carried from point to point, each point's rows, and the array they fill.
-/
module

public import proofs.«01_k».proof.Proof.BackPoint
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaBwdProof

open Cert.GlaProof Cert.GlaBwdIdeal Cert.GlaBwdIdeal.Gen

variable (m : (ℓ : Loc nD τ sig) → Buf (Elt Ideal) ℓ)

/-- From one point to the next within a sequence, the carried state goes on. -/
theorem NB_next (n : ℕ) (hn : n + 1 < 128) (h0 : ¬(n + 1) % 32 = 0) : NB (2 * (n + 1)) = NB (2 * n + 1) + 1 ∧ (NB (2 * n + 1) + 1) % 64 ≠ 0 := by
  unfold NB
  omega

/-- The carried state after each point. -/
theorem carried (c : Dev nD) : ∀ (n : ℕ) (hn : n < cfg0.N) (h : Fin 4) (w : Fin 512) (k : Fin 256),
    (outsAt0 m c n hn).2 (ix3 h w k) = NXT (PF m c) (WF m c) (BF m c) (NB (2 * n + 1)) (ST (PF m c) (WF m c) (BF m c) (NB (2 * n + 1))) h w k := by
  intro n
  induction n with
  | zero => exact fun hn h w k => sc_A m c ⟨0, hn⟩ rfl h w k
  | succ n ih =>
    intro hn h w k
    by_cases h0 : (n + 1) % 32 = 0
    · exact sc_A m c ⟨n + 1, hn⟩ h0 h w k
    · refine sc_B m c ⟨n + 1, hn⟩ h0 (fun h w k => (ih (Nat.lt_of_succ_lt hn) h w k).trans ?_) h w k
      have e := NB_next n (idx ⟨n + 1, hn⟩).2.2.2.2.2.2.2.2.2.2 h0
      show _ = ST (PF m c) (WF m c) (BF m c) (NB (2 * (n + 1))) h w k
      rw [e.1]
      exact congrFun (congrFun (congrFun (ST_step (PF m c) (WF m c) (BF m c) (NB (2 * n + 1)) e.2).symm h) w) k

/-- What each point leaves in the result's block. -/
theorem point (c : Dev nD) (t : Fin cfg0.N) (y : S128x2048.Idx) (r : Fin 16384) (e : Fin 2048) (hr : r.val = (127 - t.val) * 128 + (y 0).val) (he : e.val = (y 1).val) :
    (outsAt0 m c t.val t.isLt).1 y = BRES (fun r e => PJ m c (ix2 r e)) (fun r e => OF m c (ix2 r e)) (WF m c) (BF m c) (fun e => NW m c (ix1 e)) r e := by
  by_cases h0 : t.val % 32 = 0
  · exact out_A m c t h0 y r e hr he
  · refine out_B m c t h0 (fun h w k => (carried m c (t.val - 1) _ h w k).trans ?_) y r e hr he
    have hp : t.val - 1 + 1 = t.val := by omega
    have hb := (idx t).2.2.2.2.2.2.2.2.2.2
    have q := NB_next (t.val - 1) (by omega) (by rwa [hp])
    rw [hp] at q
    rw [q.1, ST_step (PF m c) (WF m c) (BF m c) _ q.2]

/-- The result the kernel leaves: the two sweeps of its arguments added, normalized and gated. -/
theorem final (c : Dev nD) : (dats m 0 c).arrAt 9 cfg0.N = fun z : S16384x2048.Idx => BRES (fun r e => PJ m c (ix2 r e)) (fun r e => OF m c (ix2 r e)) (WF m c) (BF m c) (fun e => NW m c (ix1 e)) (z 0) (z 1) :=
  (dats m 0 c).arrAt_eq_of_covers 9 _ (by decide +kernel) fun t hf y => by
    blk_simp
    rw [after0_9]
    exact point m c t y _ _ (by blk_simp [idx t]) (by blk_simp [idx t])

end Cert.GlaBwdProof

end
-- ==== Proof.BackRefA.lean ====
/-
  THE REFERENCE'S INPUTS: the slices of the projections, the gate's pre-activation, and their split into chunks in the opposite order.
-/
module

public import proofs.«01_k».proof.Proof.BackRes
public import proofs.«01_k».proof.Proof.Gen.GlaBwdRefIdeal.Step
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaBwdProof

open Cert.GlaProof Cert.GlaBwdRefIdeal Cert.GlaBwdRefIdeal.Step

/-- Row `t` of batch `b`. -/
def RW (b : Fin 4) (t : Fin 4096) : Fin 16384 := ⟨b.val * 4096 + t.val, by omega⟩
/-- Row `i` of chunk `n`, within its batch. -/
def RT (n i : Fin 64) : Fin 4096 := ⟨n.val * 64 + i.val, by omega⟩
/-- Row `t` in the opposite order, within its batch. -/
def FT (t : Fin 4096) : Fin 4096 := ⟨4095 - t.val, by omega⟩

theorem bk_else (P : Fin 16384 → Fin 11776 → EReal) (r : Fin 16384) (e : Fin 11776) (h : e.val < 11328) : BK P (FL r) e = P r e := by
  unfold BK
  rw [FL_FL, SH_else e h]
theorem bk_low (P : Fin 16384 → Fin 11776 → EReal) (r : Fin 16384) (l : Fin 16) : BK P (FL r) ⟨11328 + l.val, by omega⟩ = P r ⟨11344 + l.val, by omega⟩ := by
  unfold BK
  rw [FL_FL, SH_low]

theorem flip_256 (x : FVec Ideal S4x4096x4x256 .f32) (b : Fin 4) (t : Fin 4096) (h : Fin 4) (k : Fin 256) : Host.reverse [1] x (ix4 b t h k) = x (ix4 b (FT t) h k) := by
  refine (show _ = x (ix4 (if (0 : Fin 4) ∈ [(1 : Fin 4)] then b.rev else b) (if (1 : Fin 4) ∈ [(1 : Fin 4)] then t.rev else t) (if (2 : Fin 4) ∈ [(1 : Fin 4)] then h.rev else h) (if (3 : Fin 4) ∈ [(1 : Fin 4)] then k.rev else k)) by pointwise).trans ?_
  rw [if_neg (show ¬(0 : Fin 4) ∈ [(1 : Fin 4)] by decide), if_pos (show (1 : Fin 4) ∈ [(1 : Fin 4)] by decide), if_neg (show ¬(2 : Fin 4) ∈ [(1 : Fin 4)] by decide), if_neg (show ¬(3 : Fin 4) ∈ [(1 : Fin 4)] by decide)]
  exact congrArg (fun t => x (ix4 b t h k)) (Fin.ext (by unfold FT; rw [Fin.val_rev]; dsimp only; omega))
theorem flip_512 (x : FVec Ideal S4x4096x4x512 .f32) (b : Fin 4) (t : Fin 4096) (h : Fin 4) (k : Fin 512) : Host.reverse [1] x (ix4 b t h k) = x (ix4 b (FT t) h k) := by
  refine (show _ = x (ix4 (if (0 : Fin 4) ∈ [(1 : Fin 4)] then b.rev else b) (if (1 : Fin 4) ∈ [(1 : Fin 4)] then t.rev else t) (if (2 : Fin 4) ∈ [(1 : Fin 4)] then h.rev else h) (if (3 : Fin 4) ∈ [(1 : Fin 4)] then k.rev else k)) by pointwise).trans ?_
  rw [if_neg (show ¬(0 : Fin 4) ∈ [(1 : Fin 4)] by decide), if_pos (show (1 : Fin 4) ∈ [(1 : Fin 4)] by decide), if_neg (show ¬(2 : Fin 4) ∈ [(1 : Fin 4)] by decide), if_neg (show ¬(3 : Fin 4) ∈ [(1 : Fin 4)] by decide)]
  exact congrArg (fun t => x (ix4 b t h k)) (Fin.ext (by unfold FT; rw [Fin.val_rev]; dsimp only; omega))

variable (a0 : FVec Ideal S16384x11776 .f32) (a1 : FVec Ideal S16x1024 .f32) (a2 : FVec Ideal S1024 .f32)

theorem a1_at (b : Fin 4) (t : Fin 4096) (h : Fin 4) (k : Fin 256) : A_main_v1 (F := Ideal) a0 a1 a2 (ix4 b t h k) = BK (fun r c => a0 (ix2 r c)) (FL (RW b t)) ⟨9216 + (HC h k).val, by omega⟩ := by
  refine Eq.trans ?_ (bk_else (fun r c => a0 (ix2 r c)) (RW b t) ⟨9216 + (HC h k).val, by omega⟩ (by dsimp only; omega)).symm
  pointwise [A_main_v1, A_main_v0, RW, HC]
theorem a3_at (b : Fin 4) (t : Fin 4096) (h : Fin 4) (k : Fin 256) : A_main_v3 (F := Ideal) a0 a1 a2 (ix4 b t h k) = BK (fun r c => a0 (ix2 r c)) (FL (RW b t)) ⟨9216 + (HC h k).val, by omega⟩ * Ideal.ofBits .f32 0x3D800000#32 := by
  refine (show _ = A_main_v1 (F := Ideal) a0 a1 a2 (ix4 b t h k) * Ideal.ofBits .f32 0x3D800000#32 by pointwise [A_main_v3, K_main_v2, K_main_cst]).trans ?_
  rw [a1_at]
theorem a5_at (b : Fin 4) (t : Fin 4096) (h : Fin 4) (k : Fin 256) : A_main_v5 (F := Ideal) a0 a1 a2 (ix4 b t h k) = BK (fun r c => a0 (ix2 r c)) (FL (RW b t)) ⟨10240 + (HC h k).val, by omega⟩ := by
  refine Eq.trans ?_ (bk_else (fun r c => a0 (ix2 r c)) (RW b t) ⟨10240 + (HC h k).val, by omega⟩ (by dsimp only; omega)).symm
  pointwise [A_main_v5, A_main_v4, RW, HC]
theorem a7_at (b : Fin 4) (t : Fin 4096) (h : Fin 4) (w : Fin 512) : A_main_v7 (F := Ideal) a0 a1 a2 (ix4 b t h w) = BK (fun r c => a0 (ix2 r c)) (FL (RW b t)) ⟨4096 + (VC h w).val, by omega⟩ := by
  refine Eq.trans ?_ (bk_else (fun r c => a0 (ix2 r c)) (RW b t) ⟨4096 + (VC h w).val, by omega⟩ (by dsimp only; omega)).symm
  pointwise [A_main_v7, A_main_v6, RW, VC]
theorem a9_at (b : Fin 4) (t : Fin 4096) (l : Fin 16) : A_main_v9 (F := Ideal) a0 a1 a2 (ix3 b t l) = BK (fun r c => a0 (ix2 r c)) (FL (RW b t)) ⟨11328 + l.val, by omega⟩ := by
  refine Eq.trans ?_ (bk_low (fun r c => a0 (ix2 r c)) (RW b t) l).symm
  pointwise [A_main_v9, A_main_v8, RW]
theorem a10_at (b : Fin 4) (t : Fin 4096) (c : Fin 1024) : A_main_v10 (F := Ideal) a0 a1 a2 (ix3 b t c) = ∑ l : Fin 16, A_main_v9 (F := Ideal) a0 a1 a2 (ix3 b t l) * a1 (ix2 l c) := by
  pointwise [A_main_v10]
theorem a12_at (b : Fin 4) (t : Fin 4096) (c : Fin 1024) : A_main_v12 (F := Ideal) a0 a1 a2 (ix3 b t c) = a2 (ix1 c) := by
  pointwise [A_main_v12, A_main_v11]
/-- The gate's pre-activation. -/
theorem a13_at (b : Fin 4) (t : Fin 4096) (c : Fin 1024) : A_main_v13 (F := Ideal) a0 a1 a2 (ix3 b t c) = PRE (BK fun r c => a0 (ix2 r c)) (fun r c => a1 (ix2 r c)) (fun c => a2 (ix1 c)) (FL (RW b t)) c := by
  refine (show _ = A_main_v10 (F := Ideal) a0 a1 a2 (ix3 b t c) + A_main_v12 (F := Ideal) a0 a1 a2 (ix3 b t c) by pointwise [A_main_v13]).trans ?_
  rw [a10_at, a12_at]
  simp only [a9_at]
  rfl
theorem f20_at (b : Fin 4) (t : Fin 4096) (h : Fin 4) (k : Fin 256) : A_main_v20 (F := Ideal) a0 a1 a2 (ix4 b t h k) = A_main_v3 (F := Ideal) a0 a1 a2 (ix4 b (FT t) h k) :=
  flip_256 _ b t h k
theorem f21_at (b : Fin 4) (t : Fin 4096) (h : Fin 4) (k : Fin 256) : A_main_v21 (F := Ideal) a0 a1 a2 (ix4 b t h k) = A_main_v5 (F := Ideal) a0 a1 a2 (ix4 b (FT t) h k) :=
  flip_256 _ b t h k
theorem f22_at (b : Fin 4) (t : Fin 4096) (h : Fin 4) (k : Fin 512) : A_main_v22 (F := Ideal) a0 a1 a2 (ix4 b t h k) = A_main_v7 (F := Ideal) a0 a1 a2 (ix4 b (FT t) h k) :=
  flip_512 _ b t h k
theorem f23_at (b : Fin 4) (t : Fin 4096) (h : Fin 4) (k : Fin 256) : A_main_v23 (F := Ideal) a0 a1 a2 (ix4 b t h k) = A_main_v19 (F := Ideal) a0 a1 a2 (ix4 b (FT t) h k) :=
  flip_256 _ b t h k
theorem a20_at (b : Fin 4) (n i : Fin 64) (h : Fin 4) (k : Fin 256) : A_main_v24 (F := Ideal) a0 a1 a2 (ix5 b n i h k) = A_main_v3 (F := Ideal) a0 a1 a2 (ix4 b (FT (RT n i)) h k) :=
  (show _ = A_main_v20 (F := Ideal) a0 a1 a2 (ix4 b (RT n i) h k) by pointwise [A_main_v24, RT]).trans (f20_at _ _ _ b _ h k)
theorem a21_at (b : Fin 4) (n i : Fin 64) (h : Fin 4) (k : Fin 256) : A_main_v25 (F := Ideal) a0 a1 a2 (ix5 b n i h k) = A_main_v5 (F := Ideal) a0 a1 a2 (ix4 b (FT (RT n i)) h k) :=
  (show _ = A_main_v21 (F := Ideal) a0 a1 a2 (ix4 b (RT n i) h k) by pointwise [A_main_v25, RT]).trans (f21_at _ _ _ b _ h k)
theorem a22_at (b : Fin 4) (n i : Fin 64) (h : Fin 4) (w : Fin 512) : A_main_v26 (F := Ideal) a0 a1 a2 (ix5 b n i h w) = A_main_v7 (F := Ideal) a0 a1 a2 (ix4 b (FT (RT n i)) h w) :=
  (show _ = A_main_v22 (F := Ideal) a0 a1 a2 (ix4 b (RT n i) h w) by pointwise [A_main_v26, RT]).trans (f22_at _ _ _ b _ h w)
theorem a23_at (b : Fin 4) (n i : Fin 64) (h : Fin 4) (k : Fin 256) : A_main_v27 (F := Ideal) a0 a1 a2 (ix5 b n i h k) = A_main_v18 (F := Ideal) a0 a1 a2 (ix3 b (FT (RT n i)) (HC h k)) := by
  refine (show _ = A_main_v23 (F := Ideal) a0 a1 a2 (ix4 b (RT n i) h k) by pointwise [A_main_v27, RT]).trans ((f23_at _ _ _ b _ h k).trans ?_)
  pointwise [A_main_v19, FT, RT, HC]

end Cert.GlaBwdProof

end
-- ==== Proof.BackRefB.lean ====
/-
  THE REFERENCE'S LOG-DECAY: the log-sigmoid of the pre-activation over 16.
-/
module

public import proofs.«01_k».proof.Proof.BackRefA
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaBwdProof

open Cert.GlaProof Cert.GlaBwdRefIdeal Cert.GlaBwdRefIdeal.Step

variable (a0 : FVec Ideal S16384x11776 .f32) (a1 : FVec Ideal S16x1024 .f32) (a2 : FVec Ideal S1024 .f32)
theorem a14_at (b : Fin 4) (t : Fin 4096) (c : Fin 1024) : A_main_v14 (F := Ideal) a0 a1 a2 (ix3 b t c) = 0 - A_main_v13 (F := Ideal) a0 a1 a2 (ix3 b t c) := by
  refine (show _ = -(A_main_v13 (F := Ideal) a0 a1 a2 (ix3 b t c)) by pointwise [A_main_v14]).trans ?_
  exact (zero_sub _).symm
theorem s1_at (b : Fin 4) (t : Fin 4096) (c : Fin 1024) : A_main_call0_v1 (F := Ideal) a0 a1 a2 (ix3 b t c) = max (A_main_v14 (F := Ideal) a0 a1 a2 (ix3 b t c)) 0 := by
  pointwise [A_main_call0_v1, K_main_call0_v0, K_main_call0_cst]
theorem s3_at (b : Fin 4) (t : Fin 4096) (c : Fin 1024) : A_main_call0_v3 (F := Ideal) a0 a1 a2 (ix3 b t c) = A_main_v14 (F := Ideal) a0 a1 a2 (ix3 b t c) := by
  refine (show _ = A_main_v14 (F := Ideal) a0 a1 a2 (ix3 b t c) - 0 by pointwise [A_main_call0_v3, K_main_call0_v2, K_main_call0_cst]).trans ?_
  exact sub_zero _
theorem s7_at (b : Fin 4) (t : Fin 4096) (c : Fin 1024) : A_main_call0_v7 (F := Ideal) a0 a1 a2 (ix3 b t c) = max (A_main_v14 (F := Ideal) a0 a1 a2 (ix3 b t c)) (-(A_main_v14 (F := Ideal) a0 a1 a2 (ix3 b t c))) := by
  rw [← s3_at]
  exact (show _ = _ by rfl)
theorem s8_at (b : Fin 4) (t : Fin 4096) (c : Fin 1024) : A_main_call0_v8 (F := Ideal) a0 a1 a2 (ix3 b t c) = 0 - A_main_call0_v7 (F := Ideal) a0 a1 a2 (ix3 b t c) := by
  refine (show _ = -(A_main_call0_v7 (F := Ideal) a0 a1 a2 (ix3 b t c)) by pointwise [A_main_call0_v8]).trans ?_
  exact (zero_sub _).symm
theorem s10_at (b : Fin 4) (t : Fin 4096) (c : Fin 1024) : A_main_call0_v10 (F := Ideal) a0 a1 a2 (ix3 b t c) = Ideal.log1p (Ideal.exp (A_main_call0_v8 (F := Ideal) a0 a1 a2 (ix3 b t c))) := by
  pointwise [A_main_call0_v10, A_main_call0_v9]
theorem s11_at (b : Fin 4) (t : Fin 4096) (c : Fin 1024) : A_main_call0_v11 (F := Ideal) a0 a1 a2 (ix3 b t c) = A_main_call0_v1 (F := Ideal) a0 a1 a2 (ix3 b t c) + A_main_call0_v10 (F := Ideal) a0 a1 a2 (ix3 b t c) := by
  pointwise [A_main_call0_v11]
/-- No number differs from itself, so the softplus keeps its second branch. -/
theorem s15_at (b : Fin 4) (t : Fin 4096) (c : Fin 1024) : A_main_v15 (F := Ideal) a0 a1 a2 (ix3 b t c) = A_main_call0_v11 (F := Ideal) a0 a1 a2 (ix3 b t c) := by
  refine (show _ = if A_main_call0_v3 (F := Ideal) a0 a1 a2 (ix3 b t c) ≠ A_main_call0_v3 (F := Ideal) a0 a1 a2 (ix3 b t c) then A_main_call0_v6 (F := Ideal) a0 a1 a2 (ix3 b t c) else A_main_call0_v11 (F := Ideal) a0 a1 a2 (ix3 b t c) by pointwise [A_main_v15, A_main_call0_v4]).trans ?_
  exact if_neg fun hne => hne rfl
theorem s18_at (b : Fin 4) (t : Fin 4096) (c : Fin 1024) : A_main_v18 (F := Ideal) a0 a1 a2 (ix3 b t c) = Ideal.div (0 - A_main_v15 (F := Ideal) a0 a1 a2 (ix3 b t c)) (Ideal.ofBits .f32 0x41800000#32) := by
  refine (show _ = Ideal.div (-(A_main_v15 (F := Ideal) a0 a1 a2 (ix3 b t c))) (Ideal.ofBits .f32 0x41800000#32) by pointwise [A_main_v18, A_main_v16, K_main_v17, K_main_cst_0]).trans ?_
  exact congrArg (fun z => Ideal.div z _) (zero_sub _).symm
/-- The log-decay. -/
theorem gks_at (b : Fin 4) (t : Fin 4096) (c : Fin 1024) : A_main_v18 (F := Ideal) a0 a1 a2 (ix3 b t c) = GKS (PRE (BK fun r c => a0 (ix2 r c)) (fun r c => a1 (ix2 r c)) (fun c => a2 (ix1 c)) (FL (RW b t)) c) := by
  rw [s18_at, s15_at, s11_at, s10_at, s8_at, s7_at, s1_at, a14_at, a13_at]
  rfl

end Cert.GlaBwdProof

end
-- ==== Proof.BackRefC.lean ====
/-
  RUNNING SUMS DOWN EACH CHUNK, on the reference's side.
-/
module

public import proofs.«01_k».proof.Proof.BackRefB
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaBwdProof

open Cert.GlaProof Cert.GlaBwdRefIdeal Cert.GlaBwdRefIdeal.Step

/-- The window of one column of 64 rows. -/
abbrev W5 : Shape := ⟨5, ![1, 1, 64, 1, 1]⟩
theorem w5_numel : W5.numel = 64 := by decide
theorem w5_lt (n : Fin W5.numel) : n.val < 64 := lt_of_lt_of_eq n.isLt w5_numel
theorem w5_one0 (p : W5.Idx) : (p 0).val = 0 := Nat.lt_one_iff.1 (p 0).isLt
theorem w5_one1 (p : W5.Idx) : (p 1).val = 0 := Nat.lt_one_iff.1 (p 1).isLt
theorem w5_one3 (p : W5.Idx) : (p 3).val = 0 := Nat.lt_one_iff.1 (p 3).isLt
theorem w5_one4 (p : W5.Idx) : (p 4).val = 0 := Nat.lt_one_iff.1 (p 4).isLt
/-- Position `n` of the window is its row `n`. -/
theorem w5_row (n : Fin W5.numel) : (W5.rowMajor.symm n 2).val = n.val := by
  have e : (W5.rowMajor (W5.rowMajor.symm n)).val = n.val := congrArg Fin.val (Equiv.apply_symm_apply _ _)
  have f := (Shape.rowMajor_val_five (W5.rowMajor.symm n)).symm.trans e
  have h0 := w5_one0 (W5.rowMajor.symm n)
  have h1 := w5_one1 (W5.rowMajor.symm n)
  have h3 := w5_one3 (W5.rowMajor.symm n)
  have h4 := w5_one4 (W5.rowMajor.symm n)
  change (((((W5.rowMajor.symm n 0).val * 1 + (W5.rowMajor.symm n 1).val) * 64 + (W5.rowMajor.symm n 2).val) * 1 + (W5.rowMajor.symm n 3).val) * 1 + (W5.rowMajor.symm n 4).val) = n.val at f
  omega

/-- Adding up a list's values from a start value. -/
theorem foldl_plus (g : Fin W5.numel → EReal) (l : List (Fin W5.numel)) (v : EReal) : l.foldl (fun r n => r + g n) v = v + (l.map g).sum := by
  induction l generalizing v with
  | nil => simp
  | cons a l ih => simp [ih, add_assoc]

/-- The 64 entries a window ending at row `i` covers, those above the chunk counted as zero, are the chunk's first `i + 1` rows. -/
theorem window_sum (g : Fin 64 → EReal) (i : Fin 64) :
    (∑ n : Fin W5.numel, if h : 63 ≤ i.val + n.val then g ⟨i.val + n.val - 63, by have := w5_lt n; omega⟩ else 0) = CUM g i := by
  unfold CUM
  have e : ∀ n : Fin W5.numel, (if h : 63 ≤ i.val + n.val then g ⟨i.val + n.val - 63, by have := w5_lt n; omega⟩ else 0)
      = if 63 ≤ i.val + n.val then g ⟨(i.val + n.val - 63) % 64, Nat.mod_lt _ (by omega)⟩ else 0 := fun n => by
    have := w5_lt n
    split
    · exact congrArg g (Fin.ext (by show _ = _ % 64; rw [Nat.mod_eq_of_lt (by omega)]))
    · rfl
  rw [Finset.sum_congr rfl fun n _ => e n, ← Finset.sum_filter, ← Finset.sum_filter]
  refine Finset.sum_nbij' (fun n => ⟨(i.val + n.val - 63) % 64, Nat.mod_lt _ (by omega)⟩) (fun j => ⟨(j.val + 63 - i.val) % 64, by rw [w5_numel]; exact Nat.mod_lt _ (by omega)⟩) ?_ ?_ ?_ ?_ ?_
  · intro n hn
    have := w5_lt n
    rw [Finset.mem_filter] at hn ⊢
    refine ⟨Finset.mem_univ _, ?_⟩
    show (i.val + n.val - 63) % 64 ≤ i.val
    omega
  · intro j hj
    rw [Finset.mem_filter] at hj ⊢
    have h2 := hj.2
    refine ⟨Finset.mem_univ _, ?_⟩
    show 63 ≤ i.val + (j.val + 63 - i.val) % 64
    omega
  · intro n hn
    have := w5_lt n
    rw [Finset.mem_filter] at hn
    have h2 := hn.2
    refine Fin.ext ?_
    show ((i.val + n.val - 63) % 64 + 63 - i.val) % 64 = n.val
    omega
  · intro j hj
    rw [Finset.mem_filter] at hj
    have h2 := hj.2
    refine Fin.ext ?_
    show (i.val + (j.val + 63 - i.val) % 64 - 63) % 64 = j.val
    omega
  · intro n hn
    rfl

/-- The running sums of the log-decays down each chunk. -/
theorem window_at (x : FVec Ideal S4x64x64x4x256 .f32) (z : FVec Ideal S_ .f32) (hz : ∀ q, z q = 0)
    (hw : S4x64x64x4x256.ReduceWindows (![1, 1, 64, 1, 1] : Fin 5 → Nat) ![1, 1, 1, 1, 1] ![0, 0, 63, 0, 0] ![0, 0, 0, 0, 0] S4x64x64x4x256) (hu : 0 < S_.numel)
    (b : Fin 4) (n i : Fin 64) (h : Fin 4) (k : Fin 256) :
    Host.reduceWindowAdd (F := Ideal) ![1, 1, 64, 1, 1] ![1, 1, 1, 1, 1] ![0, 0, 63, 0, 0] ![0, 0, 0, 0, 0] x z hw hu (ix5 b n i h k) = CUM (fun j => x (ix5 b n j h k)) i := by
  have hv : z (Shape.Idx.first hu) = 0 := hz _
  let G : Fin W5.numel → EReal := fun q => if hc : 63 ≤ i.val + q.val then x (ix5 b n ⟨i.val + q.val - 63, by have := w5_lt q; omega⟩ h k) else 0
  refine Eq.trans ?_ ((foldl_plus G (List.finRange W5.numel) 0).trans ((zero_add _).trans ((Fin.sum_univ_def G).symm.trans (window_sum (fun j => x (ix5 b n j h k)) i))))
  show Ideal.hostReduceWindowAdd _ _ _ _ hw x (z (Shape.Idx.first hu)) (ix5 b n i h k) = _
  rw [hv]
  unfold Ideal.hostReduceWindowAdd Host.reduceWindow
  have hf : ∀ (f g : EReal → Fin W5.numel → EReal), (∀ r q, f r q = g r q) → List.foldl f 0 (List.finRange W5.numel) = List.foldl g 0 (List.finRange W5.numel) := fun f g hfg => by
    rw [funext fun r => funext fun q => hfg r q]
  refine hf _ _ fun r q => ?_
  refine congrArg (r + ·) ?_
  show _ = if hc : 63 ≤ i.val + q.val then x (ix5 b n ⟨i.val + q.val - 63, by have := w5_lt q; omega⟩ h k) else 0
  have hq := w5_lt q
  have h0 := w5_one0 (W5.rowMajor.symm q)
  have h1 := w5_one1 (W5.rowMajor.symm q)
  have h2 := w5_row q
  have h3 := w5_one3 (W5.rowMajor.symm q)
  have h4 := w5_one4 (W5.rowMajor.symm q)
  by_cases hc : 63 ≤ i.val + q.val
  · rw [dif_pos hc]
    refine (dif_pos fun a => ?_).trans (congrArg x (funext fun a => Fin.ext ?_))
    · match a with
      | ⟨0, _⟩ => show 0 ≤ b.val * 1 + (W5.rowMajor.symm q 0).val ∧ b.val * 1 + (W5.rowMajor.symm q 0).val - 0 < 4; omega
      | ⟨1, _⟩ => show 0 ≤ n.val * 1 + (W5.rowMajor.symm q 1).val ∧ n.val * 1 + (W5.rowMajor.symm q 1).val - 0 < 64; omega
      | ⟨2, _⟩ => show 63 ≤ i.val * 1 + (W5.rowMajor.symm q 2).val ∧ i.val * 1 + (W5.rowMajor.symm q 2).val - 63 < 64; omega
      | ⟨3, _⟩ => show 0 ≤ h.val * 1 + (W5.rowMajor.symm q 3).val ∧ h.val * 1 + (W5.rowMajor.symm q 3).val - 0 < 4; omega
      | ⟨4, _⟩ => show 0 ≤ k.val * 1 + (W5.rowMajor.symm q 4).val ∧ k.val * 1 + (W5.rowMajor.symm q 4).val - 0 < 256; omega
    · match a with
      | ⟨0, _⟩ => show b.val * 1 + (W5.rowMajor.symm q 0).val - 0 = b.val; omega
      | ⟨1, _⟩ => show n.val * 1 + (W5.rowMajor.symm q 1).val - 0 = n.val; omega
      | ⟨2, _⟩ => show i.val * 1 + (W5.rowMajor.symm q 2).val - 63 = i.val + q.val - 63; omega
      | ⟨3, _⟩ => show h.val * 1 + (W5.rowMajor.symm q 3).val - 0 = h.val; omega
      | ⟨4, _⟩ => show k.val * 1 + (W5.rowMajor.symm q 4).val - 0 = k.val; omega
  · rw [dif_neg hc]
    refine dif_neg fun hin => hc ?_
    have h5 := (hin 2).1
    change 63 ≤ i.val * 1 + (W5.rowMajor.symm q 2).val at h5
    omega

end Cert.GlaBwdProof

end
-- ==== Proof.BackRefD.lean ====
/-
  THE REFERENCE'S CHUNK OPERANDS: the decayed queries and keys of every chunk.
-/
module

public import proofs.«01_k».proof.Proof.BackRefC
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaBwdProof

open Cert.GlaProof Cert.GlaBwdRefIdeal Cert.GlaBwdRefIdeal.Step

variable (a0 : FVec Ideal S16384x11776 .f32) (a1 : FVec Ideal S16x1024 .f32) (a2 : FVec Ideal S1024 .f32)
/-- The number of chunk `n` of batch `b` among all 256. -/
def CH (b : Fin 4) (n : Fin 64) : ℕ := b.val * 64 + n.val
theorem row_ch (b : Fin 4) (n i : Fin 64) : FL (RW b (FT (RT n i))) = ROW (CH b n) i := by
  refine Fin.ext ?_
  unfold FL RW FT RT ROW CH
  dsimp only
  omega

/-- The running sum of the log-decays. -/
theorem a24_at (b : Fin 4) (n i : Fin 64) (h : Fin 4) (k : Fin 256) : A_main_v28 (F := Ideal) a0 a1 a2 (ix5 b n i h k) = GC (BK fun r c => a0 (ix2 r c)) (fun r c => a1 (ix2 r c)) (fun c => a2 (ix1 c)) (CH b n) i (HC h k) := by
  unfold A_main_v28
  refine (window_at _ _ (fun q => (show _ = (0 : EReal) by pointwise [K_main_call5_call0_v0, K_main_call5_call0_cst])) _ _ b n i h k).trans ?_
  unfold GC
  refine congrArg (fun f => CUM f i) (funext fun j => ?_)
  rw [a23_at, gks_at, row_ch]
theorem a26_at (b : Fin 4) (n i : Fin 64) (h : Fin 4) (k : Fin 256) : A_main_v30 (F := Ideal) a0 a1 a2 (ix5 b n i h k) = A_main_v28 (F := Ideal) a0 a1 a2 (ix5 b n 31 h k) := by
  pointwise [A_main_v30, A_main_v29]
theorem a30_at (b : Fin 4) (n i : Fin 64) (h : Fin 4) (k : Fin 256) : A_main_v34 (F := Ideal) a0 a1 a2 (ix5 b n i h k) = A_main_v28 (F := Ideal) a0 a1 a2 (ix5 b n 31 h k) := by
  pointwise [A_main_v34, A_main_v29]
theorem a43_at (b : Fin 4) (n i : Fin 64) (h : Fin 4) (k : Fin 256) : A_main_v47 (F := Ideal) a0 a1 a2 (ix5 b n i h k) = A_main_v28 (F := Ideal) a0 a1 a2 (ix5 b n 63 h k) := by
  pointwise [A_main_v47, A_main_v46]
theorem a28_at (b : Fin 4) (n i : Fin 64) (h : Fin 4) (k : Fin 256) : A_main_v32 (F := Ideal) a0 a1 a2 (ix5 b n i h k) = Ideal.exp (A_main_v28 (F := Ideal) a0 a1 a2 (ix5 b n i h k) - A_main_v30 (F := Ideal) a0 a1 a2 (ix5 b n i h k)) := by
  pointwise [A_main_v32, A_main_v31]
theorem a32_at (b : Fin 4) (n i : Fin 64) (h : Fin 4) (k : Fin 256) : A_main_v36 (F := Ideal) a0 a1 a2 (ix5 b n i h k) = Ideal.exp (A_main_v34 (F := Ideal) a0 a1 a2 (ix5 b n i h k) - A_main_v28 (F := Ideal) a0 a1 a2 (ix5 b n i h k)) := by
  pointwise [A_main_v36, A_main_v35]
theorem a45_at (b : Fin 4) (n i : Fin 64) (h : Fin 4) (k : Fin 256) : A_main_v49 (F := Ideal) a0 a1 a2 (ix5 b n i h k) = Ideal.exp (A_main_v47 (F := Ideal) a0 a1 a2 (ix5 b n i h k) - A_main_v28 (F := Ideal) a0 a1 a2 (ix5 b n i h k)) := by
  pointwise [A_main_v49, A_main_v48]
theorem a40_at (b : Fin 4) (n i : Fin 64) (h : Fin 4) (k : Fin 256) : A_main_v44 (F := Ideal) a0 a1 a2 (ix5 b n i h k) = Ideal.exp (A_main_v28 (F := Ideal) a0 a1 a2 (ix5 b n i h k)) := by
  pointwise [A_main_v44]
theorem m29_at (b : Fin 4) (n i : Fin 64) (h : Fin 4) (k : Fin 256) : A_main_v33 (F := Ideal) a0 a1 a2 (ix5 b n i h k) = A_main_v24 (F := Ideal) a0 a1 a2 (ix5 b n i h k) * A_main_v32 (F := Ideal) a0 a1 a2 (ix5 b n i h k) := by
  pointwise [A_main_v33]
theorem m33_at (b : Fin 4) (n i : Fin 64) (h : Fin 4) (k : Fin 256) : A_main_v37 (F := Ideal) a0 a1 a2 (ix5 b n i h k) = A_main_v25 (F := Ideal) a0 a1 a2 (ix5 b n i h k) * A_main_v36 (F := Ideal) a0 a1 a2 (ix5 b n i h k) := by
  pointwise [A_main_v37]
theorem m41_at (b : Fin 4) (n i : Fin 64) (h : Fin 4) (k : Fin 256) : A_main_v45 (F := Ideal) a0 a1 a2 (ix5 b n i h k) = A_main_v24 (F := Ideal) a0 a1 a2 (ix5 b n i h k) * A_main_v44 (F := Ideal) a0 a1 a2 (ix5 b n i h k) := by
  pointwise [A_main_v45]
theorem m46_at (b : Fin 4) (n i : Fin 64) (h : Fin 4) (k : Fin 256) : A_main_v50 (F := Ideal) a0 a1 a2 (ix5 b n i h k) = A_main_v25 (F := Ideal) a0 a1 a2 (ix5 b n i h k) * A_main_v49 (F := Ideal) a0 a1 a2 (ix5 b n i h k) := by
  pointwise [A_main_v50]

theorem a29_at (b : Fin 4) (n i : Fin 64) (h : Fin 4) (k : Fin 256) : A_main_v33 (F := Ideal) a0 a1 a2 (ix5 b n i h k) = QE (BK fun r c => a0 (ix2 r c)) (fun r c => a1 (ix2 r c)) (fun c => a2 (ix1 c)) (CH b n) i (HC h k) := by
  rw [m29_at, a20_at, a3_at, a28_at, a26_at, a24_at, a24_at, row_ch]
  rfl
theorem a33_at (b : Fin 4) (n i : Fin 64) (h : Fin 4) (k : Fin 256) : A_main_v37 (F := Ideal) a0 a1 a2 (ix5 b n i h k) = KE (BK fun r c => a0 (ix2 r c)) (fun r c => a1 (ix2 r c)) (fun c => a2 (ix1 c)) (CH b n) i (HC h k) := by
  rw [m33_at, a21_at, a5_at, a32_at, a30_at, a24_at, a24_at, row_ch]
  rfl
theorem a41_at (b : Fin 4) (n i : Fin 64) (h : Fin 4) (k : Fin 256) : A_main_v45 (F := Ideal) a0 a1 a2 (ix5 b n i h k) = QIN (BK fun r c => a0 (ix2 r c)) (fun r c => a1 (ix2 r c)) (fun c => a2 (ix1 c)) (CH b n) i (HC h k) := by
  rw [m41_at, a20_at, a3_at, a40_at, a24_at, row_ch]
  rfl
theorem a46_at (b : Fin 4) (n i : Fin 64) (h : Fin 4) (k : Fin 256) : A_main_v50 (F := Ideal) a0 a1 a2 (ix5 b n i h k) = KEND (BK fun r c => a0 (ix2 r c)) (fun r c => a1 (ix2 r c)) (fun c => a2 (ix1 c)) (CH b n) i (HC h k) := by
  rw [m46_at, a21_at, a5_at, a45_at, a43_at, a24_at, a24_at, row_ch]
  rfl
theorem a22v_at (b : Fin 4) (n i : Fin 64) (h : Fin 4) (w : Fin 512) : A_main_v26 (F := Ideal) a0 a1 a2 (ix5 b n i h w) = VV (BK fun r c => a0 (ix2 r c)) (CH b n) i (VC h w) := by
  rw [a22_at, a7_at, row_ch]
  rfl
theorem a49_at (b : Fin 4) (n : Fin 64) (h : Fin 4) (k : Fin 256) : A_main_v53 (F := Ideal) a0 a1 a2 (ix4 b n h k) = DEC (BK fun r c => a0 (ix2 r c)) (fun r c => a1 (ix2 r c)) (fun c => a2 (ix1 c)) (CH b n) (HC h k) := by
  refine (show _ = Ideal.exp (A_main_v52 (F := Ideal) a0 a1 a2 (ix4 b n h k)) by pointwise [A_main_v53]).trans ?_
  refine (congrArg Ideal.exp (show A_main_v52 (F := Ideal) a0 a1 a2 (ix4 b n h k) = A_main_v28 (F := Ideal) a0 a1 a2 (ix5 b n 63 h k) by pointwise [A_main_v52, A_main_v51])).trans ?_
  rw [a24_at]
  rfl

end Cert.GlaBwdProof

end
-- ==== Proof.BackRefE.lean ====
/-
  THE REFERENCE'S PART OF A CHUNK WITHIN ITSELF.
-/
module

public import proofs.«01_k».proof.Proof.BackRefD
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaBwdProof

open Cert.GlaProof Cert.GlaBwdRefIdeal Cert.GlaBwdRefIdeal.Step

variable (a0 : FVec Ideal S16384x11776 .f32) (a1 : FVec Ideal S16x1024 .f32) (a2 : FVec Ideal S1024 .f32)
theorem a34_at (b : Fin 4) (n : Fin 64) (h : Fin 4) (i j : Fin 64) : A_main_v38 (F := Ideal) a0 a1 a2 (ix5 b n h i j) = ∑ k : Fin 256, A_main_v33 (F := Ideal) a0 a1 a2 (ix5 b n i h k) * A_main_v37 (F := Ideal) a0 a1 a2 (ix5 b n j h k) := by
  pointwise [A_main_v38]
theorem a38_at (b : Fin 4) (n : Fin 64) (h : Fin 4) (w : Fin 512) (i : Fin 64) : A_main_v42 (F := Ideal) a0 a1 a2 (ix5 b n h w i) = ∑ j : Fin 64, A_main_v26 (F := Ideal) a0 a1 a2 (ix5 b n j h w) * A_main_v41 (F := Ideal) a0 a1 a2 (ix5 b n h i j) := by
  pointwise [A_main_v42]
theorem a39_at (b : Fin 4) (n i : Fin 64) (h : Fin 4) (w : Fin 512) : A_main_v43 (F := Ideal) a0 a1 a2 (ix5 b n i h w) = A_main_v42 (F := Ideal) a0 a1 a2 (ix5 b n h w i) := by
  pointwise [A_main_v43]
/-- The causal mask: row `i` sees row `j` where `j ≤ i`. -/
theorem causal_at (i j : Fin 64) : K_main_v40 (F := Ideal) (ix2 i j) = if j.val ≤ i.val then 1#1 else 0#1 := by
  revert i j
  decide +kernel
theorem a37_at (b : Fin 4) (n : Fin 64) (h : Fin 4) (i j : Fin 64) : A_main_v41 (F := Ideal) a0 a1 a2 (ix5 b n h i j) = if j.val ≤ i.val then A_main_v38 (F := Ideal) a0 a1 a2 (ix5 b n h i j) else 0 := by
  refine (show _ = Scalar.select (K_main_v40 (F := Ideal) (ix2 i j)) (A_main_v38 (F := Ideal) a0 a1 a2 (ix5 b n h i j)) 0 by pointwise [A_main_v41, K_main_call7_v1, K_main_call7_v2, K_main_call7_v0, K_main_cst_1, id]).trans ?_
  rw [causal_at]
  split <;> rfl

end Cert.GlaBwdProof

end
-- ==== Proof.BackRefF.lean ====
/-
  ONE TRIP OF THE REFERENCE'S LOOP, entry by entry.
-/
module

public import proofs.«01_k».proof.Proof.BackRefE
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaBwdProof

open Cert.GlaProof Cert.GlaBwdRefIdeal Cert.GlaBwdRefIdeal.Step

/-- A trip's number is where its slices start. -/
theorem start_at : ∀ j : Fin 64, (min (max (BitVec.toInt (BitVec.ofNat 32 j.val)) 0) ((64 - 1 : Nat) : Int)).toNat = j.val := by decide
/-- The other starts are zero. -/
theorem start_zero (d : Int) (h : d = 0) : (min (max (BitVec.toInt (0#32 : BitVec 32)) 0) d).toNat = 0 := by subst h; decide

theorem b4_at (j : Fin 64) (s : State Ideal) (b : Fin 4) (i : Fin 64) (h : Fin 4) (k : Fin 512) : b4 j.val s (ix5 (0 : Fin 1) b i h k) = s.main_v61_0 (ix5 j b i h k) := by
  unfold b4 Host.dynamicSlice extractStridedSlice
  refine congrArg s.main_v61_0 (funext fun a => Fin.ext ?_)
  match a with
  | ⟨0, _⟩ => show (min (max (BitVec.toInt (BitVec.ofNat 32 j.val)) 0) ((64 - 1 : Nat) : Int)).toNat + 0 = j.val; rw [start_at, Nat.add_zero]
  | ⟨1, _⟩ => show (min (max (BitVec.toInt (0#32 : BitVec 32)) 0) ((4 - 4 : Nat) : Int)).toNat + b.val = b.val; rw [start_zero _ (by rfl), Nat.zero_add]
  | ⟨2, _⟩ => show (min (max (BitVec.toInt (0#32 : BitVec 32)) 0) ((64 - 64 : Nat) : Int)).toNat + i.val = i.val; rw [start_zero _ (by rfl), Nat.zero_add]
  | ⟨3, _⟩ => show (min (max (BitVec.toInt (0#32 : BitVec 32)) 0) ((4 - 4 : Nat) : Int)).toNat + h.val = h.val; rw [start_zero _ (by rfl), Nat.zero_add]
  | ⟨4, _⟩ => show (min (max (BitVec.toInt (0#32 : BitVec 32)) 0) ((512 - 512 : Nat) : Int)).toNat + k.val = k.val; rw [start_zero _ (by rfl), Nat.zero_add]
theorem b10_at (j : Fin 64) (s : State Ideal) (b : Fin 4) (i : Fin 64) (h : Fin 4) (k : Fin 256) : b10 j.val s (ix5 (0 : Fin 1) b i h k) = s.main_v61_1 (ix5 j b i h k) := by
  unfold b10 Host.dynamicSlice extractStridedSlice
  refine congrArg s.main_v61_1 (funext fun a => Fin.ext ?_)
  match a with
  | ⟨0, _⟩ => show (min (max (BitVec.toInt (BitVec.ofNat 32 j.val)) 0) ((64 - 1 : Nat) : Int)).toNat + 0 = j.val; rw [start_at, Nat.add_zero]
  | ⟨1, _⟩ => show (min (max (BitVec.toInt (0#32 : BitVec 32)) 0) ((4 - 4 : Nat) : Int)).toNat + b.val = b.val; rw [start_zero _ (by rfl), Nat.zero_add]
  | ⟨2, _⟩ => show (min (max (BitVec.toInt (0#32 : BitVec 32)) 0) ((64 - 64 : Nat) : Int)).toNat + i.val = i.val; rw [start_zero _ (by rfl), Nat.zero_add]
  | ⟨3, _⟩ => show (min (max (BitVec.toInt (0#32 : BitVec 32)) 0) ((4 - 4 : Nat) : Int)).toNat + h.val = h.val; rw [start_zero _ (by rfl), Nat.zero_add]
  | ⟨4, _⟩ => show (min (max (BitVec.toInt (0#32 : BitVec 32)) 0) ((256 - 256 : Nat) : Int)).toNat + k.val = k.val; rw [start_zero _ (by rfl), Nat.zero_add]
theorem b16_at (j : Fin 64) (s : State Ideal) (b : Fin 4) (i : Fin 64) (h : Fin 4) (k : Fin 256) : b16 j.val s (ix5 (0 : Fin 1) b i h k) = s.main_v61_2 (ix5 j b i h k) := by
  unfold b16 Host.dynamicSlice extractStridedSlice
  refine congrArg s.main_v61_2 (funext fun a => Fin.ext ?_)
  match a with
  | ⟨0, _⟩ => show (min (max (BitVec.toInt (BitVec.ofNat 32 j.val)) 0) ((64 - 1 : Nat) : Int)).toNat + 0 = j.val; rw [start_at, Nat.add_zero]
  | ⟨1, _⟩ => show (min (max (BitVec.toInt (0#32 : BitVec 32)) 0) ((4 - 4 : Nat) : Int)).toNat + b.val = b.val; rw [start_zero _ (by rfl), Nat.zero_add]
  | ⟨2, _⟩ => show (min (max (BitVec.toInt (0#32 : BitVec 32)) 0) ((64 - 64 : Nat) : Int)).toNat + i.val = i.val; rw [start_zero _ (by rfl), Nat.zero_add]
  | ⟨3, _⟩ => show (min (max (BitVec.toInt (0#32 : BitVec 32)) 0) ((4 - 4 : Nat) : Int)).toNat + h.val = h.val; rw [start_zero _ (by rfl), Nat.zero_add]
  | ⟨4, _⟩ => show (min (max (BitVec.toInt (0#32 : BitVec 32)) 0) ((256 - 256 : Nat) : Int)).toNat + k.val = k.val; rw [start_zero _ (by rfl), Nat.zero_add]
theorem b22_at (j : Fin 64) (s : State Ideal) (b : Fin 4) (i : Fin 64) (h : Fin 4) (k : Fin 512) : b22 j.val s (ix5 (0 : Fin 1) b i h k) = s.main_v61_3 (ix5 j b i h k) := by
  unfold b22 Host.dynamicSlice extractStridedSlice
  refine congrArg s.main_v61_3 (funext fun a => Fin.ext ?_)
  match a with
  | ⟨0, _⟩ => show (min (max (BitVec.toInt (BitVec.ofNat 32 j.val)) 0) ((64 - 1 : Nat) : Int)).toNat + 0 = j.val; rw [start_at, Nat.add_zero]
  | ⟨1, _⟩ => show (min (max (BitVec.toInt (0#32 : BitVec 32)) 0) ((4 - 4 : Nat) : Int)).toNat + b.val = b.val; rw [start_zero _ (by rfl), Nat.zero_add]
  | ⟨2, _⟩ => show (min (max (BitVec.toInt (0#32 : BitVec 32)) 0) ((64 - 64 : Nat) : Int)).toNat + i.val = i.val; rw [start_zero _ (by rfl), Nat.zero_add]
  | ⟨3, _⟩ => show (min (max (BitVec.toInt (0#32 : BitVec 32)) 0) ((4 - 4 : Nat) : Int)).toNat + h.val = h.val; rw [start_zero _ (by rfl), Nat.zero_add]
  | ⟨4, _⟩ => show (min (max (BitVec.toInt (0#32 : BitVec 32)) 0) ((512 - 512 : Nat) : Int)).toNat + k.val = k.val; rw [start_zero _ (by rfl), Nat.zero_add]
theorem b27_at (j : Fin 64) (s : State Ideal) (b : Fin 4) (h : Fin 4) (k : Fin 256) : b27 j.val s (ix4 (0 : Fin 1) b h k) = s.main_v61_4 (ix4 j b h k) := by
  unfold b27 Host.dynamicSlice extractStridedSlice
  refine congrArg s.main_v61_4 (funext fun a => Fin.ext ?_)
  match a with
  | ⟨0, _⟩ => show (min (max (BitVec.toInt (BitVec.ofNat 32 j.val)) 0) ((64 - 1 : Nat) : Int)).toNat + 0 = j.val; rw [start_at, Nat.add_zero]
  | ⟨1, _⟩ => show (min (max (BitVec.toInt (0#32 : BitVec 32)) 0) ((4 - 4 : Nat) : Int)).toNat + b.val = b.val; rw [start_zero _ (by rfl), Nat.zero_add]
  | ⟨2, _⟩ => show (min (max (BitVec.toInt (0#32 : BitVec 32)) 0) ((4 - 4 : Nat) : Int)).toNat + h.val = h.val; rw [start_zero _ (by rfl), Nat.zero_add]
  | ⟨3, _⟩ => show (min (max (BitVec.toInt (0#32 : BitVec 32)) 0) ((256 - 256 : Nat) : Int)).toNat + k.val = k.val; rw [start_zero _ (by rfl), Nat.zero_add]

theorem b5_at (j : Fin 64) (s : State Ideal) (b : Fin 4) (i : Fin 64) (h : Fin 4) (k : Fin 512) : b5 j.val s (ix4 b i h k) = s.main_v61_0 (ix5 j b i h k) := by
  rw [← b4_at]; pointwise [b5]
theorem b11_at (j : Fin 64) (s : State Ideal) (b : Fin 4) (i : Fin 64) (h : Fin 4) (k : Fin 256) : b11 j.val s (ix4 b i h k) = s.main_v61_1 (ix5 j b i h k) := by
  rw [← b10_at]; pointwise [b11]
theorem b17_at (j : Fin 64) (s : State Ideal) (b : Fin 4) (i : Fin 64) (h : Fin 4) (k : Fin 256) : b17 j.val s (ix4 b i h k) = s.main_v61_2 (ix5 j b i h k) := by
  rw [← b16_at]; pointwise [b17]
theorem b23_at (j : Fin 64) (s : State Ideal) (b : Fin 4) (i : Fin 64) (h : Fin 4) (k : Fin 512) : b23 j.val s (ix4 b i h k) = s.main_v61_3 (ix5 j b i h k) := by
  rw [← b22_at]; pointwise [b23]
theorem b28_at (j : Fin 64) (s : State Ideal) (b : Fin 4) (h : Fin 4) (k : Fin 256) : b28 j.val s (ix3 b h k) = s.main_v61_4 (ix4 j b h k) := by
  rw [← b27_at]; pointwise [b28]
theorem b29_at (j : ℕ) (s : State Ideal) (b h : Fin 4) (w : Fin 512) (i : Fin 64) : b29 j s (ix4 b h w i) = ∑ k : Fin 256, s.main_v61_6 (ix4 b h k w) * b11 j s (ix4 b i h k) := by
  pointwise [b29]
theorem b31_at (j : ℕ) (s : State Ideal) (b : Fin 4) (i : Fin 64) (h : Fin 4) (w : Fin 512) : b31 j s (ix4 b i h w) = b5 j s (ix4 b i h w) + b29 j s (ix4 b h w i) := by
  pointwise [b31, b30]
theorem b34_at (j : ℕ) (s : State Ideal) (b h : Fin 4) (k : Fin 256) (w : Fin 512) : b34 j s (ix4 b h k w) = s.main_v61_6 (ix4 b h k w) * b28 j s (ix3 b h k) := by
  pointwise [b34, b33, b32]
theorem b35_at (j : ℕ) (s : State Ideal) (b h : Fin 4) (k : Fin 256) (w : Fin 512) : b35 j s (ix4 b h k w) = ∑ i : Fin 64, b17 j s (ix4 b i h k) * b23 j s (ix4 b i h w) := by
  pointwise [b35]
theorem b36_at (j : ℕ) (s : State Ideal) (b h : Fin 4) (k : Fin 256) (w : Fin 512) : b36 j s (ix4 b h k w) = b34 j s (ix4 b h k w) + b35 j s (ix4 b h k w) := by
  pointwise [b36]
theorem b37_at (j : ℕ) (s : State Ideal) (b : Fin 4) (i : Fin 64) (h : Fin 4) (w : Fin 512) : b37 j s (ix5 (0 : Fin 1) b i h w) = b31 j s (ix4 b i h w) := by
  pointwise [b37]

/-- Within a trip, the output's block of that trip is replaced. -/
theorem b42_hit (j : Fin 64) (s : State Ideal) (b : Fin 4) (i : Fin 64) (h : Fin 4) (w : Fin 512) : b42 j.val s (ix5 j b i h w) = b31 j.val s (ix4 b i h w) := by
  rw [← b37_at]
  unfold b42 Host.dynamicUpdateSlice updateSlice
  refine (dif_pos fun a => ?_).trans (congrArg (b37 j.val s) (funext fun a => Fin.ext ?_))
  · match a with
    | ⟨0, _⟩ => show (min (max (BitVec.toInt (BitVec.ofNat 32 j.val)) 0) ((64 - 1 : Nat) : Int)).toNat ≤ j.val ∧ j.val < (min (max (BitVec.toInt (BitVec.ofNat 32 j.val)) 0) ((64 - 1 : Nat) : Int)).toNat + 1; rw [start_at]; omega
    | ⟨1, _⟩ => show (min (max (BitVec.toInt (0#32 : BitVec 32)) 0) ((4 - 4 : Nat) : Int)).toNat ≤ b.val ∧ b.val < (min (max (BitVec.toInt (0#32 : BitVec 32)) 0) ((4 - 4 : Nat) : Int)).toNat + 4; rw [start_zero _ (by rfl)]; omega
    | ⟨2, _⟩ => show (min (max (BitVec.toInt (0#32 : BitVec 32)) 0) ((64 - 64 : Nat) : Int)).toNat ≤ i.val ∧ i.val < (min (max (BitVec.toInt (0#32 : BitVec 32)) 0) ((64 - 64 : Nat) : Int)).toNat + 64; rw [start_zero _ (by rfl)]; omega
    | ⟨3, _⟩ => show (min (max (BitVec.toInt (0#32 : BitVec 32)) 0) ((4 - 4 : Nat) : Int)).toNat ≤ h.val ∧ h.val < (min (max (BitVec.toInt (0#32 : BitVec 32)) 0) ((4 - 4 : Nat) : Int)).toNat + 4; rw [start_zero _ (by rfl)]; omega
    | ⟨4, _⟩ => show (min (max (BitVec.toInt (0#32 : BitVec 32)) 0) ((512 - 512 : Nat) : Int)).toNat ≤ w.val ∧ w.val < (min (max (BitVec.toInt (0#32 : BitVec 32)) 0) ((512 - 512 : Nat) : Int)).toNat + 512; rw [start_zero _ (by rfl)]; omega
  · match a with
    | ⟨0, _⟩ => show j.val - (min (max (BitVec.toInt (BitVec.ofNat 32 j.val)) 0) ((64 - 1 : Nat) : Int)).toNat = 0; rw [start_at]; omega
    | ⟨1, _⟩ => show b.val - (min (max (BitVec.toInt (0#32 : BitVec 32)) 0) ((4 - 4 : Nat) : Int)).toNat = b.val; rw [start_zero _ (by rfl)]; omega
    | ⟨2, _⟩ => show i.val - (min (max (BitVec.toInt (0#32 : BitVec 32)) 0) ((64 - 64 : Nat) : Int)).toNat = i.val; rw [start_zero _ (by rfl)]; omega
    | ⟨3, _⟩ => show h.val - (min (max (BitVec.toInt (0#32 : BitVec 32)) 0) ((4 - 4 : Nat) : Int)).toNat = h.val; rw [start_zero _ (by rfl)]; omega
    | ⟨4, _⟩ => show w.val - (min (max (BitVec.toInt (0#32 : BitVec 32)) 0) ((512 - 512 : Nat) : Int)).toNat = w.val; rw [start_zero _ (by rfl)]; omega

/-- The output's other blocks stay. -/
theorem b42_miss (j : Fin 64) (s : State Ideal) (n : Fin 64) (hn : n ≠ j) (b : Fin 4) (i : Fin 64) (h : Fin 4) (w : Fin 512) : b42 j.val s (ix5 n b i h w) = s.main_v61_7 (ix5 n b i h w) := by
  unfold b42 Host.dynamicUpdateSlice updateSlice
  refine dif_neg fun hin => hn ?_
  have h0 := hin 0
  change (min (max (BitVec.toInt (BitVec.ofNat 32 j.val)) 0) ((64 - 1 : Nat) : Int)).toNat ≤ n.val ∧ n.val < (min (max (BitVec.toInt (BitVec.ofNat 32 j.val)) 0) ((64 - 1 : Nat) : Int)).toNat + 1 at h0
  rw [start_at] at h0
  exact Fin.ext (by omega)

end Cert.GlaBwdProof

end
-- ==== Proof.BackLoop.lean ====
/-
  THE REFERENCE'S LOOP over the 64 chunks, as a sequence of states.
-/
module

public import proofs.«01_k».proof.Proof.Gen.GlaBwdRefIdeal.Run
public import proofs.«01_k».proof.Proof.Gen.GlaBwdRefIdeal.Step
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaBwdProof

open Idealize.ShloMosaic.StableHlo Idealize.ShloMosaic.TcCoe Idealize.SL.Sem
open Cert.GlaBwdRefIdeal Cert.GlaBwdRefIdeal.Gen Cert.GlaBwdRefIdeal.Value

open Cert.GlaBwdRefIdeal.Step (State step init)

/-- The buffers of the loop hold the state `s` at trip `j`. -/
structure AtTrip (V : Valuation τ sig (Elt Ideal)) (s : State Ideal) (j : ℕ) : Prop where
  carried : V (Proc.devRef .tc main_v61_6) = s.main_v61_6
  out : V (Proc.devRef .tc main_v61_7) = s.main_v61_7
  intra : V (Proc.devRef .tc main_v61_0) = s.main_v61_0
  qin : V (Proc.devRef .tc main_v61_1) = s.main_v61_1
  kend : V (Proc.devRef .tc main_v61_2) = s.main_v61_2
  vals : V (Proc.devRef .tc main_v61_3) = s.main_v61_3
  dec : V (Proc.devRef .tc main_v61_4) = s.main_v61_4
  num : V (Proc.devRef .tc main_v61_5) = constantI S_ 32 (BitVec.ofNat 32 j)

variable {V : Valuation τ sig (Elt Ideal)} {s : State Ideal} {j : ℕ}

set_option maxRecDepth 8192 in
theorem carried_step (h : AtTrip V s j) : step_main_v61_6 V = (step j s).main_v61_6 := by
  obtain ⟨s6, s7, s0, s1, s2, s3, s4⟩ := s
  obtain ⟨h6, h7, h0, h1, h2, h3, h4, h5⟩ := h
  dsimp only at h6 h7 h0 h1 h2 h3 h4
  subst h6 h7 h0 h1 h2 h3 h4
  unfold step_main_v61_6 Cert.GlaBwdRefIdeal.Step.step
  dsimp only
  unfold Step.b36 Step.b35 Step.b34 Step.b33 Step.b32 Step.b28 Step.b27 Step.b17 Step.b16 Step.b23 Step.b22
  rw [← h5]
  rfl

set_option maxRecDepth 8192 in
theorem out_step (h : AtTrip V s j) : step_main_v61_7 V = (step j s).main_v61_7 := by
  obtain ⟨s6, s7, s0, s1, s2, s3, s4⟩ := s
  obtain ⟨h6, h7, h0, h1, h2, h3, h4, h5⟩ := h
  dsimp only at h6 h7 h0 h1 h2 h3 h4
  subst h6 h7 h0 h1 h2 h3 h4
  unfold step_main_v61_7 Cert.GlaBwdRefIdeal.Step.step
  dsimp only
  unfold Step.b42 Step.b37 Step.b31 Step.b30 Step.b29 Step.b5 Step.b4 Step.b11 Step.b10
  rw [← h5]
  rfl

theorem num_step (h : AtTrip V s j) : step_main_v61_5 V = constantI S_ 32 (BitVec.ofNat 32 (j + 1)) := by
  unfold step_main_v61_5
  rw [h.num]
  funext i
  show BitVec.ofNat 32 j + 1#32 = BitVec.ofNat 32 (j + 1)
  simp only [BitVec.ofNat_add]

/-- One trip takes a held state to the next one. -/
theorem trip (h : AtTrip V s j) : AtTrip (STEP V) (step j s) (j + 1) :=
  ⟨(STEP_main_v61_6 V).trans (carried_step h), (STEP_main_v61_7 V).trans (out_step h), (STEP_main_v61_0 V).trans h.intra,
    (STEP_main_v61_1 V).trans h.qin, (STEP_main_v61_2 V).trans h.kend, (STEP_main_v61_3 V).trans h.vals, (STEP_main_v61_4 V).trans h.dec,
    (STEP_main_v61_5 V).trans (num_step h)⟩

variable (m : (ℓ : Loc nD τ sig) → Buf (Elt Ideal) ℓ) (c : Dev nD)

/-- The states of the reference's loop. -/
def refState : ℕ → State Ideal
  | 0 => init (m ((c.tc : Thread nD τ).loc main_arg0)) (m ((c.tc : Thread nD τ).loc main_arg2)) (m ((c.tc : Thread nD τ).loc main_arg3))
  | n + 1 => step n (refState n)

set_option maxRecDepth 65536 in
set_option maxHeartbeats 700000 in
theorem at_entry : AtTrip (entryContents preI m c) (refState m c 0) 0 := by
  constructor <;> (simp only [entryContents, afterL_cons, afterL_nil]; after_reads_simp) <;> rfl

theorem at_trip : ∀ k, AtTrip (STEP^[k] (entryContents preI m c)) (refState m c k) k
  | 0 => at_entry m c
  | k + 1 => by
    rw [Function.iterate_succ_apply']
    exact trip (at_trip k)

set_option maxRecDepth 8192 in
/-- The reference's result is made of the loop's output field and the arguments. -/
theorem ref_result (k : ℕ) : out_main_v86 (STEP^[k] (entryContents preI m c))
    = Step.R_main_v86 (refState m c k) (m ((c.tc : Thread nD τ).loc main_arg0)) (m ((c.tc : Thread nD τ).loc main_arg1)) (m ((c.tc : Thread nD τ).loc main_arg4)) := by
  have h := (at_trip m c k).out
  unfold out_main_v86 Step.R_main_v86
  rw [h, iter_main_arg0, iter_main_arg1, iter_main_arg4]
  rfl

end Cert.GlaBwdProof

end
-- ==== Proof.BackRefG.lean ====
/-
  THE REFERENCE'S SWEEP: its loop's states are the chunks' states, and its result is the sweep.
-/
module

public import proofs.«01_k».proof.Proof.BackRefF
public import proofs.«01_k».proof.Proof.BackLoop
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaBwdProof

open Cert.GlaProof Cert.GlaBwdRefIdeal Cert.GlaBwdRefIdeal.Step Cert.GlaBwdRefIdeal.Gen

section
variable (a0 : FVec Ideal S16384x11776 .f32) (a1 : FVec Ideal S16x1024 .f32) (a2 : FVec Ideal S1024 .f32)
/-- The part of a chunk's output that comes from its own rows. -/
theorem intra_at (b : Fin 4) (n i : Fin 64) (h : Fin 4) (w : Fin 512) :
    A_main_v55 (F := Ideal) a0 a1 a2 (ix5 n b i h w) = ∑ j : Fin 64, (if j.val ≤ i.val then ∑ k : Fin 256, QE (BK fun r c => a0 (ix2 r c)) (fun r c => a1 (ix2 r c)) (fun c => a2 (ix1 c)) (CH b n) i (HC h k) * KE (BK fun r c => a0 (ix2 r c)) (fun r c => a1 (ix2 r c)) (fun c => a2 (ix1 c)) (CH b n) j (HC h k) else 0) * VV (BK fun r c => a0 (ix2 r c)) (CH b n) j (VC h w) := by
  refine (show _ = A_main_v43 (F := Ideal) a0 a1 a2 (ix5 b n i h w) by pointwise [A_main_v55]).trans ?_
  rw [a39_at, a38_at]
  refine Finset.sum_congr rfl fun j _ => ?_
  rw [a22v_at, a37_at, a34_at, mul_comm]
  refine congrArg (fun z => (if j.val ≤ i.val then z else 0) * _) (Finset.sum_congr rfl fun k _ => ?_)
  rw [a29_at, a33_at]
theorem qin_at (b : Fin 4) (n i : Fin 64) (h : Fin 4) (k : Fin 256) : A_main_v56 (F := Ideal) a0 a1 a2 (ix5 n b i h k) = QIN (BK fun r c => a0 (ix2 r c)) (fun r c => a1 (ix2 r c)) (fun c => a2 (ix1 c)) (CH b n) i (HC h k) := by
  refine (show _ = A_main_v45 (F := Ideal) a0 a1 a2 (ix5 b n i h k) by pointwise [A_main_v56]).trans (a41_at _ _ _ b n i h k)
theorem kend_at (b : Fin 4) (n i : Fin 64) (h : Fin 4) (k : Fin 256) : A_main_v57 (F := Ideal) a0 a1 a2 (ix5 n b i h k) = KEND (BK fun r c => a0 (ix2 r c)) (fun r c => a1 (ix2 r c)) (fun c => a2 (ix1 c)) (CH b n) i (HC h k) := by
  refine (show _ = A_main_v50 (F := Ideal) a0 a1 a2 (ix5 b n i h k) by pointwise [A_main_v57]).trans (a46_at _ _ _ b n i h k)
theorem vals_at (b : Fin 4) (n i : Fin 64) (h : Fin 4) (w : Fin 512) : A_main_v58 (F := Ideal) a0 a1 a2 (ix5 n b i h w) = VV (BK fun r c => a0 (ix2 r c)) (CH b n) i (VC h w) := by
  refine (show _ = A_main_v26 (F := Ideal) a0 a1 a2 (ix5 b n i h w) by pointwise [A_main_v58]).trans (a22v_at _ _ _ b n i h w)
theorem dec_at (b : Fin 4) (n : Fin 64) (h : Fin 4) (k : Fin 256) : A_main_v59 (F := Ideal) a0 a1 a2 (ix4 n b h k) = DEC (BK fun r c => a0 (ix2 r c)) (fun r c => a1 (ix2 r c)) (fun c => a2 (ix1 c)) (CH b n) (HC h k) := by
  refine (show _ = A_main_v53 (F := Ideal) a0 a1 a2 (ix4 b n h k) by pointwise [A_main_v59]).trans (a49_at _ _ _ b n h k)
end

variable (m : (ℓ : Loc nD τ sig) → Buf (Elt Ideal) ℓ) (c : Dev nD)
/-- The reference's projections, as the sweep from the end meets them. -/
def RP : Fin 16384 → Fin 11776 → EReal := BK fun r e => m ((c.tc : Thread nD τ).loc main_arg0) (ix2 r e)
/-- The reference's gate weights. -/
def RWT (r : Fin 16) (e : Fin 1024) : EReal := m ((c.tc : Thread nD τ).loc main_arg2) (ix2 r e)
/-- The reference's gate bias. -/
def RB (e : Fin 1024) : EReal := m ((c.tc : Thread nD τ).loc main_arg3) (ix1 e)

/-- What a trip does not write stays as the loop found it. -/
theorem consts (n : ℕ) : (refState m c n).main_v61_0 = (refState m c 0).main_v61_0 ∧ (refState m c n).main_v61_1 = (refState m c 0).main_v61_1
    ∧ (refState m c n).main_v61_2 = (refState m c 0).main_v61_2 ∧ (refState m c n).main_v61_3 = (refState m c 0).main_v61_3
    ∧ (refState m c n).main_v61_4 = (refState m c 0).main_v61_4 := by
  induction n with
  | zero => exact ⟨rfl, rfl, rfl, rfl, rfl⟩
  | succ n ih => exact ih

theorem c0_at (n' : ℕ) (b : Fin 4) (n i : Fin 64) (h : Fin 4) (w : Fin 512) : (refState m c n').main_v61_0 (ix5 n b i h w)
    = ∑ j : Fin 64, (if j.val ≤ i.val then ∑ k : Fin 256, QE (RP m c) (RWT m c) (RB m c) (CH b n) i (HC h k) * KE (RP m c) (RWT m c) (RB m c) (CH b n) j (HC h k) else 0) * VV (RP m c) (CH b n) j (VC h w) := by
  rw [(consts m c n').1]; exact intra_at _ _ _ b n i h w
theorem c1_at (n' : ℕ) (b : Fin 4) (n i : Fin 64) (h : Fin 4) (k : Fin 256) : (refState m c n').main_v61_1 (ix5 n b i h k) = QIN (RP m c) (RWT m c) (RB m c) (CH b n) i (HC h k) := by
  rw [(consts m c n').2.1]; exact qin_at _ _ _ b n i h k
theorem c2_at (n' : ℕ) (b : Fin 4) (n i : Fin 64) (h : Fin 4) (k : Fin 256) : (refState m c n').main_v61_2 (ix5 n b i h k) = KEND (RP m c) (RWT m c) (RB m c) (CH b n) i (HC h k) := by
  rw [(consts m c n').2.2.1]; exact kend_at _ _ _ b n i h k
theorem c3_at (n' : ℕ) (b : Fin 4) (n i : Fin 64) (h : Fin 4) (w : Fin 512) : (refState m c n').main_v61_3 (ix5 n b i h w) = VV (RP m c) (CH b n) i (VC h w) := by
  rw [(consts m c n').2.2.2.1]; exact vals_at (m ((c.tc : Thread nD τ).loc main_arg0)) (m ((c.tc : Thread nD τ).loc main_arg2)) (m ((c.tc : Thread nD τ).loc main_arg3)) b n i h w
theorem c4_at (n' : ℕ) (b : Fin 4) (n : Fin 64) (h : Fin 4) (k : Fin 256) : (refState m c n').main_v61_4 (ix4 n b h k) = DEC (RP m c) (RWT m c) (RB m c) (CH b n) (HC h k) := by
  rw [(consts m c n').2.2.2.2]; exact dec_at _ _ _ b n h k

/-- THE CARRIED STATE before trip `n`, of each batch and head. -/
theorem carried_at : ∀ (n : ℕ) (hn : n < 64) (b h : Fin 4) (k : Fin 256) (w : Fin 512),
    (refState m c n).main_v61_6 (ix4 b h k w) = ST (RP m c) (RWT m c) (RB m c) (b.val * 64 + n) h w k
  | 0, hn, b, h, k, w => by
    rw [ST_reset _ _ _ (b.val * 64 + 0) (by omega)]
    exact (show K_main_v54 (F := Ideal) (ix4 b h k w) = (0 : EReal) by pointwise [K_main_v54, K_main_cst_2])
  | n + 1, hn, b, h, k, w => by
    have hn' : n < 64 := by omega
    rw [show b.val * 64 + (n + 1) = (b.val * 64 + n) + 1 by omega, ST_step _ _ _ (b.val * 64 + n) (by omega)]
    show b36 (⟨n, hn'⟩ : Fin 64).val (refState m c n) (ix4 b h k w) = _
    rw [b36_at, b34_at, b35_at, b28_at, c4_at, carried_at n hn' b h k w]
    unfold NXT NEWT
    refine congrArg (_ + ·) (Finset.sum_congr rfl fun i _ => ?_)
    rw [b17_at, b23_at, c2_at, c3_at, mul_comm]
    rfl

/-- A trip's output. -/
theorem out_at (n : Fin 64) (b : Fin 4) (i : Fin 64) (h : Fin 4) (w : Fin 512) :
    b31 n.val (refState m c n.val) (ix4 b i h w) = OTC (RP m c) (RWT m c) (RB m c) (CH b n) (ST (RP m c) (RWT m c) (RB m c) (CH b n)) h i w := by
  rw [b31_at, b5_at, b29_at, c0_at]
  unfold OTC OUTT
  refine congrArg (_ + ·) (Finset.sum_congr rfl fun k _ => ?_)
  rw [carried_at m c n.val n.isLt, b11_at, c1_at, mul_comm]
  rfl

/-- The output's blocks of the trips made so far. -/
theorem blocks_at : ∀ (t : ℕ) (ht : t ≤ 64) (n : Fin 64) (hn : n.val < t) (b : Fin 4) (i : Fin 64) (h : Fin 4) (w : Fin 512),
    (refState m c t).main_v61_7 (ix5 n b i h w) = OTC (RP m c) (RWT m c) (RB m c) (CH b n) (ST (RP m c) (RWT m c) (RB m c) (CH b n)) h i w
  | 0, ht, n, hn, b, i, h, w => absurd hn (by omega)
  | t + 1, ht, n, hn, b, i, h, w => by
    show b42 (⟨t, by omega⟩ : Fin 64).val (refState m c t) (ix5 n b i h w) = _
    by_cases e : n = ⟨t, by omega⟩
    · rw [e, b42_hit]
      exact out_at m c _ b i h w
    · rw [b42_miss _ _ n e]
      exact blocks_at t (by omega) n (by
        have : n.val ≠ t := fun q => e (Fin.ext q)
        omega) b i h w

end Cert.GlaBwdProof

end
-- ==== Proof.BackRefH.lean ====
/-
  THE REFERENCE'S RESULT: the sweep's rows put back in order, added to the other sweep's, normalized and gated.
-/
module

public import proofs.«01_k».proof.Proof.BackRefG
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaBwdProof

open Cert.GlaProof Cert.GlaBwdRefIdeal Cert.GlaBwdRefIdeal.Step Cert.GlaBwdRefIdeal.Gen

section
variable (o : FVec Ideal S4x4096x4x512 .f32) (a0 : FVec Ideal S16384x11776 .f32) (a1 : FVec Ideal S16384x2048 .f32) (a4 : FVec Ideal S512 .f32)

/-- The sum of the two sweeps' outputs. -/
def both (s : State Ideal) : FVec Ideal S4x4096x4x512 .f32 :=
  addf (shapeCast S4x4096x4x512 a1 shapeCasts_S16384x2048_S4x4096x4x512) (Host.reverse [1] (shapeCast S4x4096x4x512 (transpose S4x64x64x4x512 [1, 0, 2, 3, 4] s.main_v61_7 transposes_S64x4x64x4x512_S4x64x64x4x512_1_0_2_3_4) shapeCasts_S4x64x64x4x512_S4x4096x4x512))
/-- The sum of squares of each head's row. -/
def squares : FVec Ideal S4x4096x4 .f32 :=
  Host.reduceAdd (mulf o o) (constant S_ .f32 0x00000000#32) reducesTo_S4x4096x4x512_S4x4096x4_d3 h_S_
/-- The reciprocal root of the mean square of each head's row. -/
def scale (q : FVec Ideal S4x4096x4 .f32) : FVec Ideal S4x4096x4x1 .f32 :=
  Host.rsqrt (addf (Host.divf (broadcastInDim S4x4096x4x1 ![0, 1, 2] bcast_S4x4096x4_S4x4096x4x1_0_1_2 q) (broadcastInDim S4x4096x4x1 ![] bcast_S_S4x4096x4x1 (constant S_ .f32 0x44000000#32))) (broadcastInDim S4x4096x4x1 ![] bcast_S_S4x4096x4x1 (constant S_ .f32 0x358637BD#32)))
/-- The normalized rows. -/
def normed (r : FVec Ideal S4x4096x4x1 .f32) : FVec Ideal S4x4096x4x512 .f32 :=
  mulf (mulf o (broadcastInDim S4x4096x4x512 ![0, 1, 2, 3] bcast_S4x4096x4x1_S4x4096x4x512_0_1_2_3 r)) (broadcastInDim S4x4096x4x512 ![0, 1, 2, 3] bcast_S1x1x1x512_S4x4096x4x512_0_1_2_3 (broadcastInDim S1x1x1x512 ![3] bcast_S512_S1x1x1x512_3 a4))
/-- The gate's columns. -/
def gcols : FVec Ideal S4x4096x2048 .f32 :=
  shapeCast S4x4096x2048 (extractStridedSlice S16384x2048 ![0, 6144] a0 slices_S16384x11776_S16384x2048_0_6144) shapeCasts_S16384x2048_S4x4096x2048
/-- The gate. -/
def gate (g : FVec Ideal S4x4096x2048 .f32) : FVec Ideal S4x4096x2048 .f32 :=
  mulf g (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf g))))
/-- The result. -/
def gated (x : FVec Ideal S4x4096x4x512 .f32) (g : FVec Ideal S4x4096x2048 .f32) : FVec Ideal S16384x2048 .bf16 :=
  truncf .bf16 (shapeCast S16384x2048 (mulf (shapeCast S4x4096x2048 x shapeCasts_S4x4096x4x512_S4x4096x2048) g) shapeCasts_S4x4096x2048_S16384x2048) bitsLt_bf16_f32

theorem result_eq (s : State Ideal) : R_main_v86 s a0 a1 a4 = gated (normed (both a1 s) a4 (scale (squares (both a1 s)))) (gate (gcols a0)) := rfl

theorem squares_at (b : Fin 4) (t : Fin 4096) (h : Fin 4) : squares o (ix3 b t h) = ∑ w : Fin 512, o (ix4 b t h w) * o (ix4 b t h w) := by
  pointwise [squares]
theorem scale_at (q : FVec Ideal S4x4096x4 .f32) (b : Fin 4) (t : Fin 4096) (h : Fin 4) :
    scale q (ix4 b t h 0) = Ideal.rsqrt (Ideal.div (q (ix3 b t h)) (Ideal.ofBits .f32 0x44000000#32) + Ideal.ofBits .f32 0x358637BD#32) := by
  pointwise [scale]
theorem normed_at (r : FVec Ideal S4x4096x4x1 .f32) (b : Fin 4) (t : Fin 4096) (h : Fin 4) (w : Fin 512) :
    normed o a4 r (ix4 b t h w) = o (ix4 b t h w) * r (ix4 b t h 0) * a4 (ix1 w) := by
  pointwise [normed]
theorem gcols_at (b : Fin 4) (t : Fin 4096) (e : Fin 2048) : gcols a0 (ix3 b t e) = a0 (ix2 (RW b t) ⟨6144 + e.val, by omega⟩) := by
  pointwise [gcols, RW]
theorem gate_at (g : FVec Ideal S4x4096x2048 .f32) (b : Fin 4) (t : Fin 4096) (e : Fin 2048) : gate g (ix3 b t e) = g (ix3 b t e) * Ideal.logistic (g (ix3 b t e)) := by
  pointwise [gate, Ideal.logistic]
theorem gated_at (x : FVec Ideal S4x4096x4x512 .f32) (g : FVec Ideal S4x4096x2048 .f32) (b : Fin 4) (t : Fin 4096) (h : Fin 4) (w : Fin 512) :
    gated x g (ix2 (RW b t) (VC h w)) = x (ix4 b t h w) * g (ix3 b t (VC h w)) := by
  pointwise [gated, RW, VC]
theorem order_at (y : FVec Ideal S64x4x64x4x512 .f32) (b : Fin 4) (n i : Fin 64) (h : Fin 4) (w : Fin 512) :
    shapeCast S4x4096x4x512 (transpose S4x64x64x4x512 [1, 0, 2, 3, 4] y transposes_S64x4x64x4x512_S4x64x64x4x512_1_0_2_3_4) shapeCasts_S4x64x64x4x512_S4x4096x4x512 (ix4 b (RT n i) h w) = y (ix5 n b i h w) := by
  pointwise [RT]
theorem both_at (s : State Ideal) (b : Fin 4) (n i : Fin 64) (h : Fin 4) (w : Fin 512) :
    both a1 s (ix4 b (FT (RT n i)) h w) = s.main_v61_7 (ix5 n b i h w) + a1 (ix2 (RW b (FT (RT n i))) (VC h w)) := by
  refine (show _ = shapeCast S4x4096x4x512 a1 shapeCasts_S16384x2048_S4x4096x4x512 (ix4 b (FT (RT n i)) h w) + Host.reverse [1] (shapeCast S4x4096x4x512 (transpose S4x64x64x4x512 [1, 0, 2, 3, 4] s.main_v61_7 transposes_S64x4x64x4x512_S4x64x64x4x512_1_0_2_3_4) shapeCasts_S4x64x64x4x512_S4x4096x4x512) (ix4 b (FT (RT n i)) h w) from rfl).trans ?_
  rw [flip_512, show FT (FT (RT n i)) = RT n i from Fin.ext (by unfold FT RT; dsimp only; omega), order_at, add_comm]
  refine congrArg (_ + ·) ?_
  pointwise [RW, VC]
end

variable (m : (ℓ : Loc nD τ sig) → Buf (Elt Ideal) ℓ) (c : Dev nD)

/-- THE REFERENCE'S RESULT: the two sweeps of its arguments added, normalized and gated. -/
theorem ref_final : R_main_v86 (refState m c 64) (m ((c.tc : Thread nD τ).loc main_arg0)) (m ((c.tc : Thread nD τ).loc main_arg1)) (m ((c.tc : Thread nD τ).loc main_arg4))
    = fun z : S16384x2048.Idx => BRES (fun r e => m ((c.tc : Thread nD τ).loc main_arg0) (ix2 r e)) (fun r e => m ((c.tc : Thread nD τ).loc main_arg1) (ix2 r e)) (RWT m c) (RB m c)
        (fun e => m ((c.tc : Thread nD τ).loc main_arg4) (ix1 e)) (z 0) (z 1) := by
  funext z
  have hz1 : (z 1).val < 2048 := (z 1).isLt
  have hz : (z 0).val < 16384 := (z 0).isLt
  obtain ⟨h, w, hv⟩ : ∃ (h : Fin 4) (w : Fin 512), z 1 = VC h w := ⟨_, _, VC_split (z 1)⟩
  obtain ⟨b, n, i, hr⟩ : ∃ (b : Fin 4) (n i : Fin 64), z 0 = RW b (FT (RT n i)) :=
    ⟨⟨(z 0).val / 4096, by omega⟩, ⟨(4095 - (z 0).val % 4096) / 64, by omega⟩, ⟨(4095 - (z 0).val % 4096) % 64, by omega⟩, Fin.ext (by
      unfold RW FT RT
      dsimp only
      omega)⟩
  have ez : z = ix2 (RW b (FT (RT n i))) (VC h w) := (eq_ix2 z).trans (congrArg₂ ix2 hr hv)
  have hf : (FL (RW b (FT (RT n i)))).val = 64 * CH b n + i.val := by
    rw [row_ch]
    unfold ROW CH
    dsimp only
    omega
  show _ = BRES _ _ _ _ _ (z 0) (z 1)
  rw [hr, hv, BRES_at _ _ _ _ _ (RW b (FT (RT n i))) (CH b n) i h w hf, result_eq]
  refine (congrArg (gated _ _) ez).trans ?_
  rw [gated_at, normed_at, scale_at, squares_at, gate_at, gcols_at]
  simp only [both_at, blocks_at m c 64 (le_refl _) n n.isLt]
  rfl

end Cert.GlaBwdProof

end
-- ==== Proof.BackClaims.lean ====
/-
  The claims about `GlaBwd`, the backward gated linear attention sweep: the reference's frame and the equality of the kernel's result with the reference's.
-/
module

public import proofs.«01_k».proof.Defs
public import proofs.«01_k».proof.Proof.BackFinal
public import proofs.«01_k».proof.Proof.BackRefH

@[expose] public section

set_option maxRecDepth 16384

noncomputable section

open Idealize.ShloMosaic Idealize.ShloMosaic.TcCoe Idealize.SL.Sem
open Idealize.ShloMosaic.Pipeline (Dat)

namespace Cert.GlaBwdProof

open Cert.GlaProof

/-- The result of five arguments, entry by entry. -/
def RES (a0 : FVec Ideal Cert.GlaBwdIdeal.S16384x11776 .f32) (a1 : FVec Ideal Cert.GlaBwdIdeal.S16384x2048 .f32) (a2 : FVec Ideal Cert.GlaBwdIdeal.S16x1024 .f32) (a3 : FVec Ideal Cert.GlaBwdIdeal.S1024 .f32) (a4 : FVec Ideal Cert.GlaBwdIdeal.S512 .f32) :
    Cert.GlaBwdIdeal.S16384x2048.Idx → EReal :=
  fun z => BRES (fun r e => a0 (ix2 r e)) (fun r e => a1 (ix2 r e)) (fun r e => a2 (ix2 r e)) (fun e => a3 (ix1 e)) (fun e => a4 (ix1 e)) (z 0) (z 1)

/-- The reference's program runs, leaves its arguments as they were and every counter at zero: it declares no semaphore. -/
theorem frame_ref : Cert.quiescent_GlaBwdRefIdeal := fun m ρ _ =>
  (θ_run Cert.GlaBwdRefIdeal.defs _ _).mono (fun r h => ⟨fun c => (h c).2, sem_eq_zero_of_no_sems (by decide) r.2⟩)
    (Cert.GlaBwdRefIdeal.Value.run (F := Ideal) m ρ)

/-- From memories that agree on the arguments, the kernel and the reference end with equal results. -/
theorem algebraic : Cert.algebraic_GlaBwdIdeal_GlaBwdRefIdeal := by
  intro m ρ m' ρ' _ hag
  refine ⟨fun c => RES (m ((c : Thread Cert.GlaBwdIdeal.nD Cert.GlaBwdIdeal.τ).loc Cert.GlaBwdIdeal.main_arg0)) (m ((c : Thread Cert.GlaBwdIdeal.nD Cert.GlaBwdIdeal.τ).loc Cert.GlaBwdIdeal.main_arg1)) (m ((c : Thread Cert.GlaBwdIdeal.nD Cert.GlaBwdIdeal.τ).loc Cert.GlaBwdIdeal.main_arg2)) (m ((c : Thread Cert.GlaBwdIdeal.nD Cert.GlaBwdIdeal.τ).loc Cert.GlaBwdIdeal.main_arg3)) (m ((c : Thread Cert.GlaBwdIdeal.nD Cert.GlaBwdIdeal.τ).loc Cert.GlaBwdIdeal.main_arg4)), ?_, ?_⟩
  · exact (θ_run Cert.GlaBwdIdeal.defs _ _).mono (fun _ h c => ⟨(h c).1.trans (final m c), (h c).2⟩)
      (Cert.GlaBwdIdeal.Value.run_blocks (F := Ideal) m ρ)
  · refine (θ_run Cert.GlaBwdRefIdeal.defs _ _).mono (fun _ h c => ⟨(h c).1.trans ?_, (h c).2⟩)
      (Cert.GlaBwdRefIdeal.Value.run (F := Ideal) m' ρ')
    refine (ref_result m' c 64).trans ((ref_final m' c).trans ?_)
    show RES (m' ((c : Thread Cert.GlaBwdRefIdeal.nD Cert.GlaBwdRefIdeal.τ).loc Cert.GlaBwdRefIdeal.main_arg0)) (m' ((c : Thread Cert.GlaBwdRefIdeal.nD Cert.GlaBwdRefIdeal.τ).loc Cert.GlaBwdRefIdeal.main_arg1)) (m' ((c : Thread Cert.GlaBwdRefIdeal.nD Cert.GlaBwdRefIdeal.τ).loc Cert.GlaBwdRefIdeal.main_arg2)) (m' ((c : Thread Cert.GlaBwdRefIdeal.nD Cert.GlaBwdRefIdeal.τ).loc Cert.GlaBwdRefIdeal.main_arg3)) (m' ((c : Thread Cert.GlaBwdRefIdeal.nD Cert.GlaBwdRefIdeal.τ).loc Cert.GlaBwdRefIdeal.main_arg4)) = _
    rw [(hag c).1, (hag c).2.1, (hag c).2.2.1, (hag c).2.2.2.1, (hag c).2.2.2.2]

end Cert.GlaBwdProof

end
-- ==== Proof.XattnSampleMath.lean ====
/-
  The cross-attention's mathematics: the reference's terms, and one head's attention for one query row in scalars.
-/
module

public import proofs.«01_k».proof.Proof.Gen.XattnSampleIdeal.Skeleton
public import proofs.«01_k».proof.Proof.Gen.XattnSampleRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.XattnSampleProof

open Cert.XattnSampleIdeal Cert.XattnSampleIdeal.Gen

/-- The reference's root-mean-square normalization of the rows of `X`, scaled by `w`. -/
def NORM (X : FVec Ideal S16384x2048 .f32) (w : FVec Ideal S2048 .f32) : FVec Ideal S16384x2048 .f32 :=
  mulf (mulf X (broadcastInDim Cert.XattnSampleRefIdeal.S16384x2048 ![0, 1] Cert.XattnSampleRefIdeal.Gen.bcast_S16384x1_S16384x2048_0_1
    (Host.rsqrt (addf (Host.divf (broadcastInDim Cert.XattnSampleRefIdeal.S16384x1 ![0] Cert.XattnSampleRefIdeal.Gen.bcast_S16384_S16384x1_0
      (Host.reduceAdd (mulf X X) (constant Cert.XattnSampleRefIdeal.S_ .f32 0x00000000#32)
        Cert.XattnSampleRefIdeal.Gen.reducesTo_S16384x2048_S16384_d1 Cert.XattnSampleRefIdeal.Gen.h_S_))
      (broadcastInDim Cert.XattnSampleRefIdeal.S16384x1 ![] Cert.XattnSampleRefIdeal.Gen.bcast_S_S16384x1 (constant Cert.XattnSampleRefIdeal.S_ .f32 0x45000000#32)))
      (broadcastInDim Cert.XattnSampleRefIdeal.S16384x1 ![] Cert.XattnSampleRefIdeal.Gen.bcast_S_S16384x1 (constant Cert.XattnSampleRefIdeal.S_ .f32 0x358637BD#32))))))
    (broadcastInDim Cert.XattnSampleRefIdeal.S16384x2048 ![0, 1] Cert.XattnSampleRefIdeal.Gen.bcast_S1x2048_S16384x2048_0_1
      (broadcastInDim Cert.XattnSampleRefIdeal.S1x2048 ![1] Cert.XattnSampleRefIdeal.Gen.bcast_S2048_S1x2048_1 w))

/-- The reference's queries: the normalized rows times the query weight. -/
def QS (X : FVec Ideal S16384x2048 .f32) (w : FVec Ideal S2048 .f32) (W : FVec Ideal S2048x2048 .f32) : FVec Ideal S16384x2048 .f32 :=
  Host.dotGeneral (F := Ideal) Cert.XattnSampleRefIdeal.dot_S16384x2048_S2048x2048_S16384x2048_1_0_0_1_n_n none (NORM X w) W

/-- The reference's scaled scores of the queries `Q` against the keys in the memory's projection `KV`. -/
def SCORES (Q : FVec Ideal S16384x2048 .f32) (KV : FVec Ideal S256x4096 .bf16) : FVec Ideal Cert.XattnSampleRefIdeal.S1x4x16384x256 .f32 :=
  mulf (Host.dotGeneral (F := Ideal) Cert.XattnSampleRefIdeal.dot_S1x16384x4x512_S1x256x4x512_S1x4x16384x256_3_3_1_1_02_02 none
      (shapeCast _ Q Cert.XattnSampleRefIdeal.Gen.shapeCasts_S16384x2048_S1x16384x4x512)
      (shapeCast _ (extractStridedSlice Cert.XattnSampleRefIdeal.S256x2048 ![0, 0] (extf .f32 KV Cert.XattnSampleRefIdeal.Gen.bitsLt_bf16_f32) Cert.XattnSampleRefIdeal.Gen.slices_S256x4096_S256x2048_0_0) Cert.XattnSampleRefIdeal.Gen.shapeCasts_S256x2048_S1x256x4x512))
    (broadcastInDim Cert.XattnSampleRefIdeal.S1x4x16384x256 ![] Cert.XattnSampleRefIdeal.Gen.bcast_S_S1x4x16384x256 (constant Cert.XattnSampleRefIdeal.S_ .f32 0x3D3504F3#32))

/-- The exponentials of the scores less their row's maximum. -/
def EXPS (S : FVec Ideal Cert.XattnSampleRefIdeal.S1x4x16384x256 .f32) : FVec Ideal Cert.XattnSampleRefIdeal.S1x4x16384x256 .f32 :=
  Host.exp (subf S (broadcastInDim Cert.XattnSampleRefIdeal.S1x4x16384x256 ![0, 1, 2, 3] Cert.XattnSampleRefIdeal.Gen.bcast_S1x4x16384x1_S1x4x16384x256_0_1_2_3 (broadcastInDim Cert.XattnSampleRefIdeal.S1x4x16384x1 ![0, 1, 2] Cert.XattnSampleRefIdeal.Gen.bcast_S1x4x16384_S1x4x16384x1_0_1_2
    (maximumf (broadcastInDim Cert.XattnSampleRefIdeal.S1x4x16384 ![] Cert.XattnSampleRefIdeal.Gen.bcast_S_S1x4x16384 (constant Cert.XattnSampleRefIdeal.S_ .f32 0xFF800000#32))
      (Host.reduce FloatOps.maximumf S (constant Cert.XattnSampleRefIdeal.S_ .f32 0xFF800000#32) Cert.XattnSampleRefIdeal.Gen.reducesTo_S1x4x16384x256_S1x4x16384_d3 Cert.XattnSampleRefIdeal.Gen.h_S_)))))

/-- The reference's attended values over the scores `S`, the heads side by side. -/
def ATT (S : FVec Ideal Cert.XattnSampleRefIdeal.S1x4x16384x256 .f32) (KV : FVec Ideal S256x4096 .bf16) : FVec Ideal S16384x2048 .f32 :=
  shapeCast _ (transpose Cert.XattnSampleRefIdeal.S1x16384x4x512 [0, 3, 1, 2] (Host.dotGeneral (F := Ideal) Cert.XattnSampleRefIdeal.dot_S1x256x4x512_S1x4x16384x256_S1x4x512x16384_1_3_3_2_02_01 none
      (shapeCast _ (extractStridedSlice Cert.XattnSampleRefIdeal.S256x2048 ![0, 2048] (extf .f32 KV Cert.XattnSampleRefIdeal.Gen.bitsLt_bf16_f32) Cert.XattnSampleRefIdeal.Gen.slices_S256x4096_S256x2048_0_2048) Cert.XattnSampleRefIdeal.Gen.shapeCasts_S256x2048_S1x256x4x512)
      (Host.divf (EXPS S) (broadcastInDim Cert.XattnSampleRefIdeal.S1x4x16384x256 ![0, 1, 2, 3] Cert.XattnSampleRefIdeal.Gen.bcast_S1x4x16384x1_S1x4x16384x256_0_1_2_3 (broadcastInDim Cert.XattnSampleRefIdeal.S1x4x16384x1 ![0, 1, 2] Cert.XattnSampleRefIdeal.Gen.bcast_S1x4x16384_S1x4x16384x1_0_1_2
        (Host.reduceAdd (EXPS S) (constant Cert.XattnSampleRefIdeal.S_ .f32 0x00000000#32) Cert.XattnSampleRefIdeal.Gen.reducesTo_S1x4x16384x256_S1x4x16384_d3 Cert.XattnSampleRefIdeal.Gen.h_S_)))))
    Cert.XattnSampleRefIdeal.Gen.transposes_S1x4x512x16384_S1x16384x4x512_0_3_1_2) Cert.XattnSampleRefIdeal.Gen.shapeCasts_S1x16384x4x512_S16384x2048

/-- What the reference computes, over its five arguments. -/
def REF (X : FVec Ideal S16384x2048 .f32) (w : FVec Ideal S2048 .f32) (W : FVec Ideal S2048x2048 .f32)
    (KV : FVec Ideal S256x4096 .bf16) (Wo : FVec Ideal S2048x2048 .f32) : FVec Ideal S16384x2048 .f32 :=
  addf X (Host.dotGeneral (F := Ideal) Cert.XattnSampleRefIdeal.dot_S16384x2048_S2048x2048_S16384x2048_1_0_0_1_n_n none (ATT (SCORES (QS X w W) KV) KV) Wo)

/-- One head's attention for one query row, in scalars: the softmax over 256 keys of the scaled scores, times the values. -/
def HEAD (q : Fin 512 → EReal) (k v : Fin 256 → Fin 512 → EReal) (d : Fin 512) : EReal :=
  ∑ j : Fin 256, Ideal.div (Ideal.exp ((∑ e : Fin 512, q e * k j e) * Ideal.ofBits .f32 0x3D3504F3#32
      - Finset.univ.fold max (Ideal.ofBits .f32 0xFF800000#32) fun l : Fin 256 => (∑ e : Fin 512, q e * k l e) * Ideal.ofBits .f32 0x3D3504F3#32))
    (∑ i : Fin 256, Ideal.exp ((∑ e : Fin 512, q e * k i e) * Ideal.ofBits .f32 0x3D3504F3#32
      - Finset.univ.fold max (Ideal.ofBits .f32 0xFF800000#32) fun l : Fin 256 => (∑ e : Fin 512, q e * k l e) * Ideal.ofBits .f32 0x3D3504F3#32)) * v j d

end Cert.XattnSampleProof

end
-- ==== Proof.XattnSampleHeads.lean ====
/-
  The cross-attention kernel's heads, in scalars: each of the four is the softmax attention of its 512 columns of the queries.
-/
module

public import proofs.«01_k».proof.Proof.XattnSampleMath

@[expose] public section

set_option maxRecDepth 16384

noncomputable section

open Idealize.ShloMosaic Idealize.ShloMosaic.TcCoe Idealize.SL.Sem
open Idealize.ShloMosaic.Pipeline (Dat)

namespace Cert.XattnSampleProof

open Cert.XattnSampleIdeal Cert.XattnSampleIdeal.Gen

/-- The kernel's first head. -/
theorem head0 (x : FVec Ideal S512x2048 .f32) (w : FVec Ideal S1x2048 .f32) (W : FVec Ideal S2048x2048 .bf16) (K V : FVec Ideal S256x512 .bf16) (a d : Fin 512) :
    k0_pay3 (F := Ideal) x w W K V (ix2 a d) = HEAD (fun e => k0_pay2 (F := Ideal) x w W (ix2 a ⟨e.val, by omega⟩)) (fun j e => K (ix2 j e)) (fun j e => V (ix2 j e)) d := by
  unfold HEAD k0_pay3
  generalize k0_pay2 (F := Ideal) x w W = Q
  pointwise

/-- The kernel's second head. -/
theorem head1 (Q : FVec Ideal S512x2048 .bf16) (K V : FVec Ideal S256x512 .bf16) (a d : Fin 512) :
    k0_pay4 (F := Ideal) Q K V (ix2 a d) = HEAD (fun e => Q (ix2 a ⟨512 + e.val, by omega⟩)) (fun j e => K (ix2 j e)) (fun j e => V (ix2 j e)) d := by
  unfold HEAD
  pointwise [k0_pay4]

/-- The kernel's third head. -/
theorem head2 (Q : FVec Ideal S512x2048 .bf16) (K V : FVec Ideal S256x512 .bf16) (a d : Fin 512) :
    k0_pay5 (F := Ideal) Q K V (ix2 a d) = HEAD (fun e => Q (ix2 a ⟨1024 + e.val, by omega⟩)) (fun j e => K (ix2 j e)) (fun j e => V (ix2 j e)) d := by
  unfold HEAD
  pointwise [k0_pay5]

end Cert.XattnSampleProof

end
-- ==== Proof.XattnSampleOut.lean ====
/-
  The cross-attention kernel's stored row: the residual plus the four heads side by side times the output weight.
-/
module

public import proofs.«01_k».proof.Proof.XattnSampleMath

@[expose] public section

set_option maxRecDepth 16384

noncomputable section

open Idealize.ShloMosaic Idealize.ShloMosaic.TcCoe Idealize.SL.Sem
open Idealize.ShloMosaic.Pipeline (Dat)

namespace Cert.XattnSampleProof

open Cert.XattnSampleIdeal Cert.XattnSampleIdeal.Gen

/-- The kernel's result row; the fourth head is computed with it. -/
theorem out_at (x : FVec Ideal S512x2048 .f32) (H0 H1 H2 : FVec Ideal S512x512 .bf16) (Q : FVec Ideal S512x2048 .bf16) (K V : FVec Ideal S256x512 .bf16)
    (W : FVec Ideal S2048x2048 .bf16) (a : Fin 512) (b : Fin 2048) :
    k0_pay1 (F := Ideal) x H0 H1 H2 K V (k0_pay6 Q) (constant S512x256 .f32 0x00000000#32) W (ix2 a b)
      = x (ix2 a b) + ∑ k : Fin 2048, (if h : k.val < 512 then H0 (ix2 a ⟨k.val, h⟩) else if h : k.val - 512 < 512 then H1 (ix2 a ⟨k.val - 512, h⟩)
          else if h : k.val - 512 - 512 < 512 then H2 (ix2 a ⟨k.val - 512 - 512, h⟩)
          else HEAD (fun e => Q (ix2 a ⟨1536 + e.val, by omega⟩)) (fun j e => K (ix2 j e)) (fun j e => V (ix2 j e)) ⟨k.val - 512 - 512 - 512, by omega⟩) * W (ix2 k b) := by
  unfold HEAD
  pointwise [k0_pay1, k0_pay6]

end Cert.XattnSampleProof

end
-- ==== Proof.XattnSampleRefHeads.lean ====
/-
  The cross-attention reference's heads, in scalars.
-/
module

public import proofs.«01_k».proof.Proof.XattnSampleMath

@[expose] public section

set_option maxRecDepth 16384

noncomputable section

open Idealize.ShloMosaic Idealize.ShloMosaic.TcCoe Idealize.SL.Sem
open Idealize.ShloMosaic.Pipeline (Dat)

namespace Cert.XattnSampleProof

open Cert.XattnSampleIdeal Cert.XattnSampleIdeal.Gen

/-- The reference's score of key `j` for row `l` of batch `b` in head `h`. -/
theorem score_at (Q : FVec Ideal S16384x2048 .f32) (KV : FVec Ideal S256x4096 .bf16) (b : Fin 1) (h : Fin 4) (l : Fin 16384) (j : Fin 256) :
    SCORES Q KV (ix4 b h l j) = (∑ e : Fin 512, Q (ix2 ⟨b.val * 16384 + l.val, by omega⟩ ⟨h.val * 512 + e.val, by omega⟩)
      * KV (ix2 ⟨b.val * 256 + j.val, by omega⟩ ⟨h.val * 512 + e.val, by omega⟩)) * Ideal.ofBits .f32 0x3D3504F3#32 := by
  pointwise [SCORES]

/-- The maximum with −∞ is the other operand. -/
theorem max_bot (x : EReal) : max (Ideal.ofBits .f32 0xFF800000#32) x = x := by
  simp [Ideal.ofBits, Ideal.ieee]

/-- A row's value spread over the row. -/
theorem spread_at (M : FVec Ideal Cert.XattnSampleRefIdeal.S1x4x16384 .f32) (b : Fin 1) (h : Fin 4) (l : Fin 16384) (j : Fin 256) :
    broadcastInDim Cert.XattnSampleRefIdeal.S1x4x16384x256 ![0, 1, 2, 3] Cert.XattnSampleRefIdeal.Gen.bcast_S1x4x16384x1_S1x4x16384x256_0_1_2_3
      (broadcastInDim Cert.XattnSampleRefIdeal.S1x4x16384x1 ![0, 1, 2] Cert.XattnSampleRefIdeal.Gen.bcast_S1x4x16384_S1x4x16384x1_0_1_2 M) (ix4 b h l j) = M (ix3 b h l) := by
  obtain rfl : b = 0 := Subsingleton.elim _ _
  pointwise

/-- A row's maximum. -/
theorem rowmax_at (S : FVec Ideal Cert.XattnSampleRefIdeal.S1x4x16384x256 .f32) (b : Fin 1) (h : Fin 4) (l : Fin 16384) :
    Host.reduce FloatOps.maximumf S (constant Cert.XattnSampleRefIdeal.S_ .f32 0xFF800000#32) Cert.XattnSampleRefIdeal.Gen.reducesTo_S1x4x16384x256_S1x4x16384_d3 Cert.XattnSampleRefIdeal.Gen.h_S_ (ix3 b h l)
      = Finset.univ.fold max (Ideal.ofBits .f32 0xFF800000#32) fun i : Fin 256 => S (ix4 b h l i) := by
  obtain rfl : b = 0 := Subsingleton.elim _ _
  pointwise

/-- The maximum with −∞, at an index. -/
theorem maxinf_at (M : FVec Ideal Cert.XattnSampleRefIdeal.S1x4x16384 .f32) (b : Fin 1) (h : Fin 4) (l : Fin 16384) :
    maximumf (broadcastInDim Cert.XattnSampleRefIdeal.S1x4x16384 ![] Cert.XattnSampleRefIdeal.Gen.bcast_S_S1x4x16384 (constant Cert.XattnSampleRefIdeal.S_ .f32 0xFF800000#32)) M (ix3 b h l)
      = max (Ideal.ofBits .f32 0xFF800000#32) (M (ix3 b h l)) := by
  pointwise

/-- The exponential of a difference, at an index. -/
theorem expsub_at (S T : FVec Ideal Cert.XattnSampleRefIdeal.S1x4x16384x256 .f32) (b : Fin 1) (h : Fin 4) (l : Fin 16384) (j : Fin 256) :
    Host.exp (subf S T) (ix4 b h l j) = Ideal.exp (S (ix4 b h l j) - T (ix4 b h l j)) := by
  pointwise

/-- The reference's exponentials, in scalars. -/
theorem exps_at (S : FVec Ideal Cert.XattnSampleRefIdeal.S1x4x16384x256 .f32) (b : Fin 1) (h : Fin 4) (l : Fin 16384) (j : Fin 256) :
    EXPS S (ix4 b h l j) = Ideal.exp (S (ix4 b h l j) - Finset.univ.fold max (Ideal.ofBits .f32 0xFF800000#32) fun i : Fin 256 => S (ix4 b h l i)) := by
  unfold EXPS
  rw [expsub_at, spread_at, maxinf_at, rowmax_at, max_bot]

/-- A row's sum. -/
theorem rowsum_at (E : FVec Ideal Cert.XattnSampleRefIdeal.S1x4x16384x256 .f32) (b : Fin 1) (h : Fin 4) (l : Fin 16384) :
    Host.reduceAdd E (constant Cert.XattnSampleRefIdeal.S_ .f32 0x00000000#32) Cert.XattnSampleRefIdeal.Gen.reducesTo_S1x4x16384x256_S1x4x16384_d3 Cert.XattnSampleRefIdeal.Gen.h_S_ (ix3 b h l)
      = ∑ i : Fin 256, E (ix4 b h l i) := by
  obtain rfl : b = 0 := Subsingleton.elim _ _
  pointwise

/-- A quotient, at an index. -/
theorem div_at (E T : FVec Ideal Cert.XattnSampleRefIdeal.S1x4x16384x256 .f32) (b : Fin 1) (h : Fin 4) (l : Fin 16384) (j : Fin 256) :
    Host.divf E T (ix4 b h l j) = Ideal.div (E (ix4 b h l j)) (T (ix4 b h l j)) := by
  pointwise

/-- The values of each batch and head. -/
def VALS (KV : FVec Ideal S256x4096 .bf16) : FVec Ideal Cert.XattnSampleRefIdeal.S1x256x4x512 .f32 :=
  shapeCast _ (extractStridedSlice Cert.XattnSampleRefIdeal.S256x2048 ![0, 2048] (extf .f32 KV Cert.XattnSampleRefIdeal.Gen.bitsLt_bf16_f32) Cert.XattnSampleRefIdeal.Gen.slices_S256x4096_S256x2048_0_2048) Cert.XattnSampleRefIdeal.Gen.shapeCasts_S256x2048_S1x256x4x512

/-- The values, at an index. -/
theorem vals_at (KV : FVec Ideal S256x4096 .bf16) (b : Fin 1) (h : Fin 4) (j : Fin 256) (d : Fin 512) :
    VALS KV (ix4 b j h d) = KV (ix2 ⟨b.val * 256 + j.val, by omega⟩ ⟨2048 + (h.val * 512 + d.val), by omega⟩) := by
  pointwise [VALS]

/-- The heads' sums over the keys, at an index. -/
theorem dot_at (U : FVec Ideal Cert.XattnSampleRefIdeal.S1x256x4x512 .f32) (P : FVec Ideal Cert.XattnSampleRefIdeal.S1x4x16384x256 .f32) (b : Fin 1) (h : Fin 4) (l : Fin 16384) (d : Fin 512) :
    Host.dotGeneral (F := Ideal) Cert.XattnSampleRefIdeal.dot_S1x256x4x512_S1x4x16384x256_S1x4x512x16384_1_3_3_2_02_01 none U P (ix4 b h d l)
      = ∑ j : Fin 256, U (ix4 b j h d) * P (ix4 b h l j) := by
  pointwise

/-- The heads side by side, at an index. -/
theorem side_at (Y : FVec Ideal Cert.XattnSampleRefIdeal.S1x4x512x16384 .f32) (r : Fin 16384) (c : Fin 2048) :
    (shapeCast Cert.XattnSampleRefIdeal.S16384x2048 (transpose Cert.XattnSampleRefIdeal.S1x16384x4x512 [0, 3, 1, 2] Y Cert.XattnSampleRefIdeal.Gen.transposes_S1x4x512x16384_S1x16384x4x512_0_3_1_2) Cert.XattnSampleRefIdeal.Gen.shapeCasts_S1x16384x4x512_S16384x2048 : FVec Ideal Cert.XattnSampleRefIdeal.S16384x2048 .f32) (ix2 r c)
      = Y (ix4 ⟨r.val / 16384, by omega⟩ ⟨c.val / 512, by omega⟩ ⟨c.val % 512, by omega⟩ ⟨r.val % 16384, by omega⟩) := by
  have e1 : (⟨r.val / 16384, by omega⟩ : Fin 1) = 0 := Subsingleton.elim _ _
  have e2 : (⟨r.val % 16384, by omega⟩ : Fin 16384) = r := Fin.ext (Nat.mod_eq_of_lt r.isLt)
  rw [e1, e2]
  pointwise

/-- The reference's attended values over the exponentials, in scalars. -/
theorem att_of (S : FVec Ideal Cert.XattnSampleRefIdeal.S1x4x16384x256 .f32) (KV : FVec Ideal S256x4096 .bf16) (r : Fin 16384) (c : Fin 2048) :
    ATT S KV (ix2 r c) = ∑ j : Fin 256, KV (ix2 ⟨r.val / 16384 * 256 + j.val, by omega⟩ ⟨2048 + (c.val / 512 * 512 + c.val % 512), by omega⟩) *
          Ideal.div (EXPS S (ix4 ⟨r.val / 16384, by omega⟩ ⟨c.val / 512, by omega⟩ ⟨r.val % 16384, by omega⟩ j))
            (∑ i : Fin 256, EXPS S (ix4 ⟨r.val / 16384, by omega⟩ ⟨c.val / 512, by omega⟩ ⟨r.val % 16384, by omega⟩ i)) := by
  unfold ATT
  rw [side_at]
  refine (dot_at (VALS KV) _ _ _ _ _).trans (Finset.sum_congr rfl fun j _ => ?_)
  rw [vals_at, div_at, spread_at, rowsum_at]

/-- The reference's attended value of row `r` and column `c`, in scalars. -/
theorem att_at (Q : FVec Ideal S16384x2048 .f32) (KV : FVec Ideal S256x4096 .bf16) (r : Fin 16384) (c : Fin 2048) :
    ATT (SCORES Q KV) KV (ix2 r c)
      = HEAD (fun e => Q (ix2 r ⟨c.val / 512 * 512 + e.val, by omega⟩)) (fun j e => KV (ix2 ⟨r.val / 16384 * 256 + j.val, by omega⟩ ⟨c.val / 512 * 512 + e.val, by omega⟩))
          (fun j e => KV (ix2 ⟨r.val / 16384 * 256 + j.val, by omega⟩ ⟨2048 + (c.val / 512 * 512 + e.val), by omega⟩)) ⟨c.val % 512, by omega⟩ := by
  have hr : (⟨r.val / 16384 * 16384 + r.val % 16384, by omega⟩ : Fin 16384) = r := Fin.ext (by show r.val / 16384 * 16384 + r.val % 16384 = r.val; omega)
  rw [att_of]
  unfold HEAD
  simp only [exps_at, score_at, hr]
  exact Finset.sum_congr rfl fun j _ => mul_comm _ _

end Cert.XattnSampleProof

end
-- ==== Proof.XattnSampleValue.lean ====
/-
  The cross-attention program's value: the kernel's result array is the reference's.
-/
module

public import proofs.«01_k».proof.Proof.Gen.XattnSampleIdeal.Frame
public import proofs.«01_k».proof.Proof.Gen.XattnSampleIdeal.Value
public import proofs.«01_k».proof.Proof.XattnSampleHeads
public import proofs.«01_k».proof.Proof.XattnSampleOut
public import proofs.«01_k».proof.Proof.XattnSampleRefHeads

@[expose] public section

set_option maxRecDepth 16384

noncomputable section

open Idealize.ShloMosaic Idealize.ShloMosaic.TcCoe Idealize.SL.Sem
open Idealize.ShloMosaic.Pipeline (Dat)

namespace Cert.XattnSampleProof

open Cert.XattnSampleIdeal Cert.XattnSampleIdeal.Gen

variable (m : (ℓ : Loc nD τ sig) → Buf (Elt Ideal) ℓ)

/-- Where each window's block sits at a grid point. -/
theorem idx : ∀ t : Fin cfg0.N, win0_0.index t = ![t.val, 0] ∧ win0_1.index t = ![0, 0]
    ∧ win0_2.index t = ![0, 0] ∧ win0_3.index t = ![t.val / 32, 0] ∧ win0_4.index t = ![0, 0] ∧ win0_5.index t = ![t.val, 0] ∧ t.val < 32 :=
  (by decide +kernel : ∀ t : Fin grid0.N, _)

/-- The row of the whole array that row `a` of point `t`'s block is. -/
abbrev row (t : Fin cfg0.N) (a : Fin 512) : Fin 16384 := ⟨t.val * 512 + a.val, by have := (idx t).2.2.2.2.2.2; omega⟩

/-- The block's queries are the reference's. -/
theorem q_at (c : Dev nD) (t : Fin cfg0.N) (a : Fin 512) (b : Fin 2048) :
    k0_pay2 (F := Ideal) (iblk m c 0 t) (iblk m c 1 t) (iblk m c 2 t) (ix2 a b)
      = QS (m ((c : Thread nD τ).loc main_arg0)) (m ((c : Thread nD τ).loc main_arg1)) (m ((c : Thread nD τ).loc main_arg2)) (ix2 (row t a) b) := by
  pointwise [k0_pay2, QS, NORM]
  blk_point [iblk, V, idx t]

/-- A read of the block of keys and values, in the whole array. -/
theorem kv_at (c : Dev nD) (t : Fin cfg0.N) (j : Fin 256) (e : Fin 4096) :
    iblk m c 3 t (ix2 j e) = (m ((c : Thread nD τ).loc main_arg3)) (ix2 ⟨t.val / 32 * 256 + j.val, by have := (idx t).2.2.2.2.2.2; omega⟩ e) := by
  blk_point [iblk, V, idx t]

/-- One head of the kernel, given where its keys and values sit, is the reference's attended value. -/
theorem head_at (c : Dev nD) (t : Fin cfg0.N) (a : Fin 512) (k : Fin 2048) (o : Nat) (ho : k.val / 512 * 512 = o) (d : Fin 512) (hd : k.val = o + d.val)
    (q : Fin 512 → EReal) (K V : Fin 256 → Fin 512 → EReal)
    (hq : ∀ e : Fin 512, q e = k0_pay2 (F := Ideal) (iblk m c 0 t) (iblk m c 1 t) (iblk m c 2 t) (ix2 a ⟨o + e.val, by omega⟩))
    (hK : ∀ (j : Fin 256) (e : Fin 512), K j e = iblk m c 3 t (ix2 j ⟨o + e.val, by omega⟩))
    (hV : ∀ (j : Fin 256) (e : Fin 512), V j e = iblk m c 3 t (ix2 j ⟨2048 + (o + e.val), by omega⟩)) :
    HEAD q K V d = ATT (SCORES (QS (m ((c : Thread nD τ).loc main_arg0)) (m ((c : Thread nD τ).loc main_arg1)) (m ((c : Thread nD τ).loc main_arg2))) (m ((c : Thread nD τ).loc main_arg3))) (m ((c : Thread nD τ).loc main_arg3)) (ix2 (row t a) k) := by
  subst ho
  rw [att_at]
  have h1 : (t.val * 512 + a.val) / 16384 = t.val / 32 := by omega
  have hd' : d = ⟨k.val % 512, by omega⟩ := Fin.ext (by show d.val = k.val % 512; omega)
  rw [hd']
  congr 1
  · funext e
    rw [hq, q_at]
  · funext j e
    rw [hK, kv_at]
    congr 2
    exact Fin.ext (by show t.val / 32 * 256 + j.val = (t.val * 512 + a.val) / 16384 * 256 + j.val; omega)
  · funext j e
    rw [hV, kv_at]
    congr 2
    exact Fin.ext (by show t.val / 32 * 256 + j.val = (t.val * 512 + a.val) / 16384 * 256 + j.val; omega)

/-- What the body stores at element `y` of point `t`'s block is the reference's value where that element sits. -/
theorem point (c : Dev nD) (t : Fin cfg0.N) (y : S512x2048.Idx) :
    out0_5 (iblk m c 0 t) (iblk m c 1 t) (iblk m c 2 t) (iblk m c 3 t) (iblk m c 4 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  unfold_out out0_5
  frame_out
  idx_vars y
  have hy : (((cfg0.win 5).blk t).view.emb (ix2 y0 y1) : S16384x2048.Idx) = ix2 (row t y0) y1 := by
    blk_ext [idx t]
  rw [hy, out_at]
  unfold REF
  generalize hATT : ATT (SCORES (QS (m ((c : Thread nD τ).loc main_arg0)) (m ((c : Thread nD τ).loc main_arg1)) (m ((c : Thread nD τ).loc main_arg2))) (m ((c : Thread nD τ).loc main_arg3))) (m ((c : Thread nD τ).loc main_arg3)) = AT
  pointwise
  congr 1
  · blk_point [iblk, V, idx t]
  · refine Finset.sum_congr rfl fun k _ => ?_
    congr 1
    · subst hATT
      split
      · rename_i h
        rw [head0]
        refine head_at m c t y0 k 0 (by omega) ⟨k.val, by omega⟩ (by show k.val = 0 + (k.val); omega) _ _ _ (fun e => ?_) (fun j e => ?_) (fun j e => ?_)
        · exact congrArg _ (congrArg (ix2 y0) (Fin.ext (by show _ = 0 + e.val; simp)))
        · blk_point [iblk, V, idx t]
        · blk_point [iblk, V, idx t]
      · split
        · rename_i h0 h
          rw [head1]
          refine head_at m c t y0 k 512 (by omega) ⟨k.val - 512, by omega⟩ (by show k.val = 512 + (k.val - 512); omega) _ _ _ (fun e => ?_) (fun j e => ?_) (fun j e => ?_)
          · exact congrArg _ (congrArg (ix2 y0) (Fin.ext (by show _ = 512 + e.val; simp)))
          · blk_point [iblk, V, idx t]
          · blk_point [iblk, V, idx t]
        · split
          · rename_i h0 h1 h
            rw [head2]
            refine head_at m c t y0 k 1024 (by omega) ⟨k.val - 512 - 512, by omega⟩ (by show k.val = 1024 + (k.val - 512 - 512); omega) _ _ _ (fun e => ?_) (fun j e => ?_) (fun j e => ?_)
            · exact congrArg _ (congrArg (ix2 y0) (Fin.ext (by show _ = 1024 + e.val; simp)))
            · blk_point [iblk, V, idx t]
            · blk_point [iblk, V, idx t]
          · rename_i h0 h1 h2
            refine head_at m c t y0 k 1536 (by omega) ⟨k.val - 512 - 512 - 512, by omega⟩ (by show k.val = 1536 + (k.val - 512 - 512 - 512); omega) _ _ _ (fun e => ?_) (fun j e => ?_) (fun j e => ?_)
            · exact congrArg _ (congrArg (ix2 y0) (Fin.ext (by show _ = 1536 + e.val; simp)))
            · blk_point [iblk, V, idx t]
            · blk_point [iblk, V, idx t]
    · blk_point [iblk, V, idx t]

/-- The result array after the run. -/
theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Cert.XattnSampleProof

end
-- ==== Proof.XattnSampleClaims.lean ====
/-
  The claims about `XattnSample`, the cross-attention: the reference's frame and the equality of the kernel's result with the reference's.
-/
module

public import proofs.«01_k».proof.Defs
public import proofs.«01_k».proof.Proof.XattnSampleValue

@[expose] public section

noncomputable section

namespace Cert.XattnSampleProof

open Idealize.ShloMosaic Idealize.ShloMosaic.TcCoe Idealize.SL.Sem

/-- The reference's program runs, leaves its arguments as they were and every counter at zero: it declares no semaphore. -/
theorem frame_ref : Cert.quiescent_XattnSampleRefIdeal := fun m ρ _ =>
  (θ_run Cert.XattnSampleRefIdeal.defs _ _).mono (fun r h => ⟨fun c => (h c).2, sem_eq_zero_of_no_sems (by decide) r.2⟩)
    (Cert.XattnSampleRefIdeal.Value.run (F := Ideal) m ρ)

/-- From memories that agree on the arguments, the kernel and the reference end with equal results. -/
theorem algebraic : Cert.algebraic_XattnSampleIdeal_XattnSampleRefIdeal := by
  intro m ρ m' ρ' _ hag
  refine ⟨fun c => REF (m ((c : Thread Cert.XattnSampleIdeal.nD Cert.XattnSampleIdeal.τ).loc Cert.XattnSampleIdeal.main_arg0)) (m ((c : Thread Cert.XattnSampleIdeal.nD Cert.XattnSampleIdeal.τ).loc Cert.XattnSampleIdeal.main_arg1)) (m ((c : Thread Cert.XattnSampleIdeal.nD Cert.XattnSampleIdeal.τ).loc Cert.XattnSampleIdeal.main_arg2)) (m ((c : Thread Cert.XattnSampleIdeal.nD Cert.XattnSampleIdeal.τ).loc Cert.XattnSampleIdeal.main_arg3)) (m ((c : Thread Cert.XattnSampleIdeal.nD Cert.XattnSampleIdeal.τ).loc Cert.XattnSampleIdeal.main_arg4)), ?_, ?_⟩
  · exact (θ_run Cert.XattnSampleIdeal.defs _ _).mono (fun _ h c => ⟨(h c).1.trans (final m c), (h c).2⟩)
      (Cert.XattnSampleIdeal.Value.run_blocks (F := Ideal) m ρ)
  · refine (θ_run Cert.XattnSampleRefIdeal.defs _ _).mono (fun _ h c => ⟨(h c).1.trans ?_, (h c).2⟩)
      (Cert.XattnSampleRefIdeal.Value.run (F := Ideal) m' ρ')
    show REF (m' ((c : Thread Cert.XattnSampleRefIdeal.nD Cert.XattnSampleRefIdeal.τ).loc Cert.XattnSampleRefIdeal.main_arg0)) (m' ((c : Thread Cert.XattnSampleRefIdeal.nD Cert.XattnSampleRefIdeal.τ).loc Cert.XattnSampleRefIdeal.main_arg1)) (m' ((c : Thread Cert.XattnSampleRefIdeal.nD Cert.XattnSampleRefIdeal.τ).loc Cert.XattnSampleRefIdeal.main_arg2)) (m' ((c : Thread Cert.XattnSampleRefIdeal.nD Cert.XattnSampleRefIdeal.τ).loc Cert.XattnSampleRefIdeal.main_arg3)) (m' ((c : Thread Cert.XattnSampleRefIdeal.nD Cert.XattnSampleRefIdeal.τ).loc Cert.XattnSampleRefIdeal.main_arg4)) = _
    rw [(hag c).1, (hag c).2.1, (hag c).2.2.1, (hag c).2.2.2.1, (hag c).2.2.2.2]

end Cert.XattnSampleProof

end
-- ==== Proof.KvProjSampleValue.lean ====
/-
  The memory's key and value projection: at every grid point the stored block is the reference's product of the
  normalized rows with the weight, where the block sits.
-/
module

public import proofs.«01_k».proof.Proof.Gen.KvProjSampleIdeal.Frame
public import proofs.«01_k».proof.Proof.Gen.KvProjSampleIdeal.Value
public import proofs.«01_k».proof.Proof.Gen.KvProjSampleRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KvProjSampleProof

open Cert.KvProjSampleIdeal Cert.KvProjSampleIdeal.Gen

variable (m : (ℓ : Loc nD τ sig) → Buf (Elt Ideal) ℓ)

/-- The reference's root-mean-square normalization of the rows of `X`, scaled by `w`. -/
def NORM (X : FVec Ideal S256x2048 .f32) (w : FVec Ideal S2048 .f32) : FVec Ideal S256x2048 .f32 :=
  mulf (mulf X (broadcastInDim Cert.KvProjSampleRefIdeal.S256x2048 ![0, 1] Cert.KvProjSampleRefIdeal.Gen.bcast_S256x1_S256x2048_0_1
    (Host.rsqrt (addf (Host.divf (broadcastInDim Cert.KvProjSampleRefIdeal.S256x1 ![0] Cert.KvProjSampleRefIdeal.Gen.bcast_S256_S256x1_0
      (Host.reduceAdd (mulf X X) (constant Cert.KvProjSampleRefIdeal.S_ .f32 0x00000000#32)
        Cert.KvProjSampleRefIdeal.Gen.reducesTo_S256x2048_S256_d1 Cert.KvProjSampleRefIdeal.Gen.h_S_))
      (broadcastInDim Cert.KvProjSampleRefIdeal.S256x1 ![] Cert.KvProjSampleRefIdeal.Gen.bcast_S_S256x1 (constant Cert.KvProjSampleRefIdeal.S_ .f32 0x45000000#32)))
      (broadcastInDim Cert.KvProjSampleRefIdeal.S256x1 ![] Cert.KvProjSampleRefIdeal.Gen.bcast_S_S256x1 (constant Cert.KvProjSampleRefIdeal.S_ .f32 0x358637BD#32))))))
    (broadcastInDim Cert.KvProjSampleRefIdeal.S256x2048 ![0, 1] Cert.KvProjSampleRefIdeal.Gen.bcast_S1x2048_S256x2048_0_1
      (broadcastInDim Cert.KvProjSampleRefIdeal.S1x2048 ![1] Cert.KvProjSampleRefIdeal.Gen.bcast_S2048_S1x2048_1 w))

/-- What the reference computes, over its arguments: the normalized rows times the weight. -/
def REF (X : FVec Ideal S256x2048 .f32) (w : FVec Ideal S2048 .f32) (W : FVec Ideal S2048x4096 .f32) :
    FVec Ideal S256x4096 .bf16 :=
  truncf .bf16 (Host.dotGeneral (F := Ideal) Cert.KvProjSampleRefIdeal.dot_S256x2048_S2048x4096_S256x4096_1_0_0_1_n_n none (NORM X w) W) Cert.KvProjSampleRefIdeal.Gen.bitsLt_bf16_f32

/-- Where each window's block sits at a grid point. -/
theorem idx : ∀ t : Fin cfg0.N, win0_0.index t = ![t.val / 4, 0] ∧ win0_1.index t = ![0, 0]
    ∧ win0_2.index t = ![0, t.val % 4] ∧ win0_3.index t = ![t.val / 4, t.val % 4] ∧ t.val / 4 < 1 :=
  (by decide +kernel : ∀ t : Fin grid0.N, _)

/-- The row of the whole array that row `a` of the blocks of run `q` is. -/
abbrev row (q : Nat) (hq : q < 1) (a : Fin 256) : Fin 256 := ⟨q * 256 + a.val, by omega⟩

/-- The normalized rows of point `t`'s block are those of the reference's normalized array. -/
theorem norm_at (c : Dev nD) (t : Fin cfg0.N) (a : Fin 256) (b : Fin 2048) :
    k0_pay1 (iblk m c 0 t) (iblk m c 1 t) (ix2 a b)
    = NORM (m ((c : Thread nD τ).loc main_arg0)) (m ((c : Thread nD τ).loc main_arg1))
        (ix2 (row (t.val / 4) (idx t).2.2.2.2 a) b) := by
  pointwise [k0_pay1, NORM]
  blk_point [iblk, V, idx t]

/-- The carried normalized rows hold the reference's, at every point of a run. -/
theorem rows_at (c : Dev nD) : ∀ (n : ℕ) (hn : n < cfg0.N) (a : Fin 256) (b : Fin 2048),
    (outsAt0 m c n hn).2 (ix2 a b)
      = NORM (m ((c : Thread nD τ).loc main_arg0)) (m ((c : Thread nD τ).loc main_arg1))
        (ix2 (row (n / 4) (idx ⟨n, hn⟩).2.2.2.2 a) b) := by
  intro n
  induction n with
  | zero =>
    intro hn a b
    rw [outsAt0_A m c ⟨0, hn⟩ rfl]
    dsimp only
    frame_out
    exact norm_at m c ⟨0, hn⟩ a b
  | succ n ih =>
    intro hn a b
    by_cases h0 : (n + 1) % 4 = 0
    · rw [outsAt0_A m c ⟨n + 1, hn⟩ h0]
      dsimp only
      frame_out
      exact norm_at m c ⟨n + 1, hn⟩ a b
    · have hq : (n + 1) / 4 = n / 4 := by omega
      have key := ih (by omega) a b
      have hrow : ∀ h, row ((n + 1) / 4) h a = row (n / 4) (by omega) a := by
        intro h; apply Fin.ext; show (n + 1) / 4 * 256 + a.val = _; rw [hq]
      rw [hrow]
      rw [outsAt0_B m c ⟨n + 1, hn⟩ h0]
      dsimp only
      exact key

/-- The product stored over normalized rows `H` is the reference's where the block sits. -/
theorem prod_at (c : Dev nD) (t : Fin cfg0.N) (H : FVec Ideal S256x2048 .bf16)
    (hH : ∀ (a : Fin 256) (b : Fin 2048), H (ix2 a b)
      = NORM (m ((c : Thread nD τ).loc main_arg0)) (m ((c : Thread nD τ).loc main_arg1))
        (ix2 (row (t.val / 4) (idx t).2.2.2.2 a) b)) (y : S256x1024.Idx) :
    k0_pay2 H (iblk m c 2 t) y
      = REF (m ((c : Thread nD τ).loc main_arg0)) (m ((c : Thread nD τ).loc main_arg1)) (m ((c : Thread nD τ).loc main_arg2))
          (((cfg0.win 3).blk t).view.emb y) := by
  pointwise [k0_pay2, REF, hH]
  blk_point [iblk, V, idx t]

/-- What the body leaves in the result's block at point `t` is the reference's value where the block sits. -/
theorem point (c : Dev nD) (t : Fin cfg0.N) (y : S256x1024.Idx) :
    (outsAt0 m c t.val t.isLt).1 y
      = REF (m ((c : Thread nD τ).loc main_arg0)) (m ((c : Thread nD τ).loc main_arg1)) (m ((c : Thread nD τ).loc main_arg2))
          (((cfg0.win 3).blk t).view.emb y) := by
  have key := rows_at m c t.val t.isLt
  by_cases h0 : t.val % 4 = 0
  · rw [outsAt0_A m c t h0]
    dsimp only
    frame_out
    exact prod_at m c t _ (norm_at m c t) y
  · rw [outsAt0_B m c t h0] at key ⊢
    dsimp only at key ⊢
    frame_out
    simp only [read_unread_whole]
    exact prod_at m c t _ key y

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact point m c t y

end Cert.KvProjSampleProof

end
-- ==== Proof.KvProjSampleClaims.lean ====
/-
  The claims about `KvProjSample`, the key/value projection: the reference's frame and the equality of the kernel's result with the reference's.
-/
module

public import proofs.«01_k».proof.Defs
public import proofs.«01_k».proof.Proof.KvProjSampleValue

@[expose] public section

noncomputable section

namespace Cert.KvProjSampleProof

open Idealize.ShloMosaic Idealize.ShloMosaic.TcCoe Idealize.SL.Sem

/-- The reference's program runs, leaves its arguments as they were and every counter at zero: it declares no semaphore. -/
theorem frame_ref : Cert.quiescent_KvProjSampleRefIdeal := fun m ρ _ =>
  (θ_run Cert.KvProjSampleRefIdeal.defs _ _).mono (fun r h => ⟨fun c => (h c).2, sem_eq_zero_of_no_sems (by decide) r.2⟩)
    (Cert.KvProjSampleRefIdeal.Value.run (F := Ideal) m ρ)

/-- From memories that agree on the arguments, the kernel and the reference end with equal results. -/
theorem algebraic : Cert.algebraic_KvProjSampleIdeal_KvProjSampleRefIdeal := by
  intro m ρ m' ρ' _ hag
  refine ⟨fun c => REF (m ((c : Thread Cert.KvProjSampleIdeal.nD Cert.KvProjSampleIdeal.τ).loc Cert.KvProjSampleIdeal.main_arg0)) (m ((c : Thread Cert.KvProjSampleIdeal.nD Cert.KvProjSampleIdeal.τ).loc Cert.KvProjSampleIdeal.main_arg1)) (m ((c : Thread Cert.KvProjSampleIdeal.nD Cert.KvProjSampleIdeal.τ).loc Cert.KvProjSampleIdeal.main_arg2)), ?_, ?_⟩
  · exact (θ_run Cert.KvProjSampleIdeal.defs _ _).mono (fun _ h c => ⟨(h c).1.trans (final m c), (h c).2⟩)
      (Cert.KvProjSampleIdeal.Value.run_blocks (F := Ideal) m ρ)
  · refine (θ_run Cert.KvProjSampleRefIdeal.defs _ _).mono (fun _ h c => ⟨(h c).1.trans ?_, (h c).2⟩)
      (Cert.KvProjSampleRefIdeal.Value.run (F := Ideal) m' ρ')
    show REF (m' ((c : Thread Cert.KvProjSampleRefIdeal.nD Cert.KvProjSampleRefIdeal.τ).loc Cert.KvProjSampleRefIdeal.main_arg0)) (m' ((c : Thread Cert.KvProjSampleRefIdeal.nD Cert.KvProjSampleRefIdeal.τ).loc Cert.KvProjSampleRefIdeal.main_arg1)) (m' ((c : Thread Cert.KvProjSampleRefIdeal.nD Cert.KvProjSampleRefIdeal.τ).loc Cert.KvProjSampleRefIdeal.main_arg2)) = _
    rw [(hag c).1, (hag c).2.1, (hag c).2.2]

end Cert.KvProjSampleProof

end
-- ==== Proof.GlaSampleHeads.lean ====
/-
  THE KERNEL'S HEADS: each head's output and each head's new state, as the chunk's mathematics of what goes in.
-/
module

public import proofs.«01_k».proof.Proof.GlaMath
public import proofs.«01_k».proof.Proof.Gen.GlaSampleIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaSampleProof

open Cert.GlaProof

open Cert.GlaSampleIdeal Cert.GlaSampleIdeal.Gen

/-- The mask keeps the rows up to the row itself. -/
theorem mask_at (i j : Fin 64) : k0_pay3 (ix2 i j) = if j.val ≤ i.val then 1#1 else 0#1 := by
  revert i j
  decide +kernel

/-- A product under the mask, as the kernel's selection leaves it. -/
theorem select_mask (i j : Fin 64) (x y : EReal) :
    Scalar.select (k0_pay3 (ix2 i j)) (x * y) 0 = (if j.val ≤ i.val then x else 0) * y := by
  rw [mask_at]
  by_cases h : j.val ≤ i.val <;> simp [h, Scalar.select]

/-- The first chunk's output in head 0. -/
theorem out_0_0 (qin : FVec Ideal S64x1024 .bf16) (v : FVec Ideal S64x2048 .bf16) (tri : FVec Ideal S64x64 .bf16) (a b q k : FVec Ideal S64x1024 .f32) (st : FVec Ideal S1x512x256 .f32) (i : Fin 64) (w : Fin 512) :
    k0_pay20 qin v (k0_pay18 k0_pay3 tri a b q k) st (ix2 i w)
      = OUTT (fun i c => k0_pay12 tri a b q (ix2 i c)) (fun i c => k0_pay13 tri a b k (ix2 i c)) (fun i c => qin (ix2 i c)) (fun i c => v (ix2 i c)) (fun w k => st (ix3 0 w k)) 0 i w := by
  pointwise [k0_pay20, k0_pay18, k0_pay19, OUTT, HC, VC]
  exact congrArg₂ (· + ·) (Finset.sum_congr rfl fun j _ => select_mask i j _ _) rfl

/-- The first chunk's output in head 1. -/
theorem out_0_1 (qe ke qin : FVec Ideal S64x1024 .bf16) (v : FVec Ideal S64x2048 .bf16) (st : FVec Ideal S1x512x256 .f32) (i : Fin 64) (w : Fin 512) :
    k0_pay23 k0_pay3 qe ke qin v st (ix2 i w)
      = OUTT (fun i c => qe (ix2 i c)) (fun i c => ke (ix2 i c)) (fun i c => qin (ix2 i c)) (fun i c => v (ix2 i c)) (fun w k => st (ix3 0 w k)) 1 i w := by
  pointwise [k0_pay23, k0_pay22, OUTT, HC, VC]
  exact congrArg₂ (· + ·) (Finset.sum_congr rfl fun j _ => select_mask i j _ _) rfl

/-- The first chunk's output in head 2. -/
theorem out_0_2 (qe ke qin : FVec Ideal S64x1024 .bf16) (v : FVec Ideal S64x2048 .bf16) (st : FVec Ideal S1x512x256 .f32) (i : Fin 64) (w : Fin 512) :
    k0_pay27 k0_pay3 qe ke qin v st (ix2 i w)
      = OUTT (fun i c => qe (ix2 i c)) (fun i c => ke (ix2 i c)) (fun i c => qin (ix2 i c)) (fun i c => v (ix2 i c)) (fun w k => st (ix3 0 w k)) 2 i w := by
  pointwise [k0_pay27, k0_pay26, OUTT, HC, VC]
  exact congrArg₂ (· + ·) (Finset.sum_congr rfl fun j _ => select_mask i j _ _) rfl

/-- The first chunk's output in head 3. -/
theorem out_0_3 (qe ke qin : FVec Ideal S64x1024 .bf16) (v : FVec Ideal S64x2048 .bf16) (st : FVec Ideal S1x512x256 .f32) (i : Fin 64) (w : Fin 512) :
    k0_pay30 k0_pay3 qe ke qin v st (ix2 i w)
      = OUTT (fun i c => qe (ix2 i c)) (fun i c => ke (ix2 i c)) (fun i c => qin (ix2 i c)) (fun i c => v (ix2 i c)) (fun w k => st (ix3 0 w k)) 3 i w := by
  pointwise [k0_pay30, k0_pay29, OUTT, HC, VC]
  exact congrArg₂ (· + ·) (Finset.sum_congr rfl fun j _ => select_mask i j _ _) rfl

/-- The second chunk's output in head 0. -/
theorem out_1_0 (tri : FVec Ideal S64x64 .bf16) (lo : FVec Ideal S64x1024 .bf16) (s q k : FVec Ideal S64x1024 .f32) (v : FVec Ideal S64x2048 .f32) (st : FVec Ideal S1x512x256 .f32) (i : Fin 64) (w : Fin 512) :
    k0_pay49 k0_pay3 tri lo s q k v st (ix2 i w)
      = OUTT (fun i c => k0_pay42 tri lo s q (ix2 i c)) (fun i c => k0_pay43 tri lo s k (ix2 i c)) (fun i c => k0_pay44 tri lo s q (ix2 i c)) (fun i c => k0_pay47 (F := Ideal) v (ix2 i c)) (fun w k => st (ix3 0 w k)) 0 i w := by
  pointwise [k0_pay49, k0_pay48, OUTT, HC, VC]
  exact congrArg₂ (· + ·) (Finset.sum_congr rfl fun j _ => select_mask i j _ _) rfl

/-- The second chunk's output in head 1. -/
theorem out_1_1 (qe ke qin : FVec Ideal S64x1024 .bf16) (v : FVec Ideal S64x2048 .bf16) (st : FVec Ideal S1x512x256 .f32) (i : Fin 64) (w : Fin 512) :
    k0_pay53 k0_pay3 qe ke qin v st (ix2 i w)
      = OUTT (fun i c => qe (ix2 i c)) (fun i c => ke (ix2 i c)) (fun i c => qin (ix2 i c)) (fun i c => v (ix2 i c)) (fun w k => st (ix3 0 w k)) 1 i w := by
  pointwise [k0_pay53, k0_pay52, OUTT, HC, VC]
  exact congrArg₂ (· + ·) (Finset.sum_congr rfl fun j _ => select_mask i j _ _) rfl

/-- The second chunk's output in head 2. -/
theorem out_1_2 (qe ke qin : FVec Ideal S64x1024 .bf16) (v : FVec Ideal S64x2048 .bf16) (st : FVec Ideal S1x512x256 .f32) (i : Fin 64) (w : Fin 512) :
    k0_pay57 qin v (k0_pay55 k0_pay3 qe ke) st (ix2 i w)
      = OUTT (fun i c => qe (ix2 i c)) (fun i c => ke (ix2 i c)) (fun i c => qin (ix2 i c)) (fun i c => v (ix2 i c)) (fun w k => st (ix3 0 w k)) 2 i w := by
  pointwise [k0_pay57, k0_pay55, k0_pay56, OUTT, HC, VC]
  exact congrArg₂ (· + ·) (Finset.sum_congr rfl fun j _ => select_mask i j _ _) rfl

/-- The second chunk's output in head 3. -/
theorem out_1_3 (qe ke qin : FVec Ideal S64x1024 .bf16) (v : FVec Ideal S64x2048 .bf16) (st : FVec Ideal S1x512x256 .f32) (i : Fin 64) (w : Fin 512) :
    k0_pay60 k0_pay3 qe ke qin v st (ix2 i w)
      = OUTT (fun i c => qe (ix2 i c)) (fun i c => ke (ix2 i c)) (fun i c => qin (ix2 i c)) (fun i c => v (ix2 i c)) (fun w k => st (ix3 0 w k)) 3 i w := by
  pointwise [k0_pay60, k0_pay59, OUTT, HC, VC]
  exact congrArg₂ (· + ·) (Finset.sum_congr rfl fun j _ => select_mask i j _ _) rfl

/-- The state the first chunk leaves in head 0. -/
theorem new_0_0 (kend : FVec Ideal S64x1024 .bf16) (dec : FVec Ideal S1x1024 .f32) (v : FVec Ideal S64x2048 .bf16) (st : FVec Ideal S1x512x256 .f32) (w : Fin 512) (k : Fin 256) :
    k0_pay21 kend dec v st (ix3 0 w k)
      = NEWT (fun i c => kend (ix2 i c)) (fun c => dec (ix2 0 c)) (fun i c => v (ix2 i c)) (fun w k => st (ix3 0 w k)) 0 w k := by
  pointwise [k0_pay21, k0_pay19, NEWT, HC, VC]

/-- The state the first chunk leaves in head 1. -/
theorem new_0_1 (kend : FVec Ideal S64x1024 .bf16) (dec : FVec Ideal S1x1024 .f32) (v : FVec Ideal S64x2048 .bf16) (st : FVec Ideal S1x512x256 .f32) (w : Fin 512) (k : Fin 256) :
    k0_pay25 (k0_pay24 kend dec v st) (ix3 0 w k)
      = NEWT (fun i c => kend (ix2 i c)) (fun c => dec (ix2 0 c)) (fun i c => v (ix2 i c)) (fun w k => st (ix3 0 w k)) 1 w k := by
  pointwise [k0_pay25, k0_pay24, k0_pay22, NEWT, HC, VC]

/-- The state the first chunk leaves in head 2. -/
theorem new_0_2 (kend : FVec Ideal S64x1024 .bf16) (dec : FVec Ideal S1x1024 .f32) (v : FVec Ideal S64x2048 .bf16) (st : FVec Ideal S1x512x256 .f32) (w : Fin 512) (k : Fin 256) :
    k0_pay28 kend dec v st (ix3 0 w k)
      = NEWT (fun i c => kend (ix2 i c)) (fun c => dec (ix2 0 c)) (fun i c => v (ix2 i c)) (fun w k => st (ix3 0 w k)) 2 w k := by
  pointwise [k0_pay28, k0_pay26, NEWT, HC, VC]

/-- The state the first chunk leaves in head 3. -/
theorem new_0_3 (kend : FVec Ideal S64x1024 .bf16) (dec : FVec Ideal S1x1024 .f32) (v : FVec Ideal S64x2048 .bf16) (st : FVec Ideal S1x512x256 .f32) (w : Fin 512) (k : Fin 256) :
    k0_pay32 kend v (k0_pay29 st) (k0_pay31 dec) (ix3 0 w k)
      = NEWT (fun i c => kend (ix2 i c)) (fun c => dec (ix2 0 c)) (fun i c => v (ix2 i c)) (fun w k => st (ix3 0 w k)) 3 w k := by
  pointwise [k0_pay32, k0_pay31, k0_pay29, NEWT, HC, VC]

/-- The state the second chunk leaves in head 0. -/
theorem new_1_0 (tri : FVec Ideal S64x64 .bf16) (lo : FVec Ideal S64x1024 .bf16) (s : FVec Ideal S64x1024 .f32) (kend : FVec Ideal S64x1024 .bf16) (v : FVec Ideal S64x2048 .bf16) (st : FVec Ideal S1x512x256 .f32) (w : Fin 512) (k : Fin 256) :
    k0_pay51 kend v (k0_pay48 st) (k0_pay50 tri lo s) (ix3 0 w k)
      = NEWT (fun i c => kend (ix2 i c)) (fun c => k0_pay46 tri lo s (ix2 0 c)) (fun i c => v (ix2 i c)) (fun w k => st (ix3 0 w k)) 0 w k := by
  pointwise [k0_pay51, k0_pay50, k0_pay48, NEWT, HC, VC]

/-- The state the second chunk leaves in head 1. -/
theorem new_1_1 (kend : FVec Ideal S64x1024 .bf16) (dec : FVec Ideal S1x1024 .f32) (v : FVec Ideal S64x2048 .bf16) (st : FVec Ideal S1x512x256 .f32) (w : Fin 512) (k : Fin 256) :
    k0_pay54 kend dec v st (ix3 0 w k)
      = NEWT (fun i c => kend (ix2 i c)) (fun c => dec (ix2 0 c)) (fun i c => v (ix2 i c)) (fun w k => st (ix3 0 w k)) 1 w k := by
  pointwise [k0_pay54, k0_pay52, NEWT, HC, VC]

/-- The state the second chunk leaves in head 2. -/
theorem new_1_2 (kend : FVec Ideal S64x1024 .bf16) (dec : FVec Ideal S1x1024 .f32) (v : FVec Ideal S64x2048 .bf16) (st : FVec Ideal S1x512x256 .f32) (w : Fin 512) (k : Fin 256) :
    k0_pay58 kend dec v st (ix3 0 w k)
      = NEWT (fun i c => kend (ix2 i c)) (fun c => dec (ix2 0 c)) (fun i c => v (ix2 i c)) (fun w k => st (ix3 0 w k)) 2 w k := by
  pointwise [k0_pay58, k0_pay56, NEWT, HC, VC]

/-- The state the second chunk leaves in head 3. -/
theorem new_1_3 (kend : FVec Ideal S64x1024 .bf16) (dec : FVec Ideal S1x1024 .f32) (v : FVec Ideal S64x2048 .bf16) (st : FVec Ideal S1x512x256 .f32) (w : Fin 512) (k : Fin 256) :
    k0_pay61 kend dec v st (ix3 0 w k)
      = NEWT (fun i c => kend (ix2 i c)) (fun c => dec (ix2 0 c)) (fun i c => v (ix2 i c)) (fun w k => st (ix3 0 w k)) 3 w k := by
  pointwise [k0_pay61, k0_pay59, NEWT, HC, VC]

/-- The heads' outputs side by side, in head 0. -/
theorem cat_0_0 (a b c d : FVec Ideal S64x512 .f32) (i : Fin 64) (w : Fin 512) : k0_pay33 a b c d (ix2 i (VC 0 w)) = a (ix2 i w) := by
  pointwise [k0_pay33, VC]

/-- The heads' outputs side by side, in head 1. -/
theorem cat_0_1 (a b c d : FVec Ideal S64x512 .f32) (i : Fin 64) (w : Fin 512) : k0_pay33 a b c d (ix2 i (VC 1 w)) = b (ix2 i w) := by
  pointwise [k0_pay33, VC]

/-- The heads' outputs side by side, in head 2. -/
theorem cat_0_2 (a b c d : FVec Ideal S64x512 .f32) (i : Fin 64) (w : Fin 512) : k0_pay33 a b c d (ix2 i (VC 2 w)) = c (ix2 i w) := by
  pointwise [k0_pay33, VC]
  rw [dif_neg (by omega), dif_neg (by omega), dif_pos (by omega)]
  exact congrArg c (congrArg (ix2 i) (Fin.ext (by dsimp only; omega)))

/-- The heads' outputs side by side, in head 3. -/
theorem cat_0_3 (a b c d : FVec Ideal S64x512 .f32) (i : Fin 64) (w : Fin 512) : k0_pay33 a b c d (ix2 i (VC 3 w)) = d (ix2 i w) := by
  pointwise [k0_pay33, VC]
  rw [dif_neg (by omega), dif_neg (by omega), dif_neg (by omega)]
  exact congrArg d (congrArg (ix2 i) (Fin.ext (by dsimp only; omega)))

/-- The heads' outputs side by side, in head 0. -/
theorem cat_1_0 (a b c d : FVec Ideal S64x512 .f32) (i : Fin 64) (w : Fin 512) : k0_pay1 a b c d (ix2 i (VC 0 w)) = a (ix2 i w) := by
  pointwise [k0_pay1, VC]

/-- The heads' outputs side by side, in head 1. -/
theorem cat_1_1 (a b c d : FVec Ideal S64x512 .f32) (i : Fin 64) (w : Fin 512) : k0_pay1 a b c d (ix2 i (VC 1 w)) = b (ix2 i w) := by
  pointwise [k0_pay1, VC]

/-- The heads' outputs side by side, in head 2. -/
theorem cat_1_2 (a b c d : FVec Ideal S64x512 .f32) (i : Fin 64) (w : Fin 512) : k0_pay1 a b c d (ix2 i (VC 2 w)) = c (ix2 i w) := by
  pointwise [k0_pay1, VC]
  rw [dif_neg (by omega), dif_neg (by omega), dif_pos (by omega)]
  exact congrArg c (congrArg (ix2 i) (Fin.ext (by dsimp only; omega)))

/-- The heads' outputs side by side, in head 3. -/
theorem cat_1_3 (a b c d : FVec Ideal S64x512 .f32) (i : Fin 64) (w : Fin 512) : k0_pay1 a b c d (ix2 i (VC 3 w)) = d (ix2 i w) := by
  pointwise [k0_pay1, VC]
  rw [dif_neg (by omega), dif_neg (by omega), dif_neg (by omega)]
  exact congrArg d (congrArg (ix2 i) (Fin.ext (by dsimp only; omega)))

end Cert.GlaSampleProof

end
-- ==== Proof.GlaSampleGate.lean ====
/-
  THE KERNEL'S GATE: the running log-decays and what the chunk multiplies by them.
-/
module

public import proofs.«01_k».proof.Proof.GlaSampleHeads
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaSampleProof

open Cert.GlaProof

open Cert.GlaSampleIdeal Cert.GlaSampleIdeal.Gen

/-- The scaled queries against the middle row. -/
theorem qe_0 (tri : FVec Ideal S64x64 .bf16) (a b x : FVec Ideal S64x1024 .f32) (i : Fin 64) (c : Fin 1024) : k0_pay12 tri a b x (ix2 i c) = x (ix2 i c) * Ideal.ofBits .f32 0x3D800000#32 * Ideal.exp (k0_pay8 tri a b (ix2 i c) - k0_pay8 tri a b (ix2 31 c)) := by
  pointwise [k0_pay12, k0_pay9, k0_pay11]

/-- The keys against the middle row. -/
theorem ke_0 (tri : FVec Ideal S64x64 .bf16) (a b x : FVec Ideal S64x1024 .f32) (i : Fin 64) (c : Fin 1024) : k0_pay13 tri a b x (ix2 i c) = x (ix2 i c) * Ideal.exp (k0_pay8 tri a b (ix2 31 c) - k0_pay8 tri a b (ix2 i c)) := by
  pointwise [k0_pay13, k0_pay9]

/-- The scaled queries decayed from the chunk's start. -/
theorem qin_0 (tri : FVec Ideal S64x64 .bf16) (a b x : FVec Ideal S64x1024 .f32) (i : Fin 64) (c : Fin 1024) : k0_pay14 tri a b x (ix2 i c) = x (ix2 i c) * Ideal.ofBits .f32 0x3D800000#32 * Ideal.exp (k0_pay8 tri a b (ix2 i c)) := by
  pointwise [k0_pay14, k0_pay11]

/-- The keys decayed to the chunk's end. -/
theorem kend_0 (tri : FVec Ideal S64x64 .bf16) (a b x : FVec Ideal S64x1024 .f32) (i : Fin 64) (c : Fin 1024) : k0_pay15 tri a b x (ix2 i c) = x (ix2 i c) * Ideal.exp (k0_pay8 tri a b (ix2 63 c) - k0_pay8 tri a b (ix2 i c)) := by
  pointwise [k0_pay15, k0_pay10]

/-- The chunk's whole decay. -/
theorem dec_0 (tri : FVec Ideal S64x64 .bf16) (a b x : FVec Ideal S64x1024 .f32) (i : Fin 64) (c : Fin 1024) : k0_pay16 tri a b (ix2 0 c) = Ideal.exp (k0_pay8 tri a b (ix2 63 c)) := by
  pointwise [k0_pay16, k0_pay10]

/-- The scaled queries against the middle row. -/
theorem qe_1 (tri : FVec Ideal S64x64 .bf16) (lo : FVec Ideal S64x1024 .bf16) (s x : FVec Ideal S64x1024 .f32) (i : Fin 64) (c : Fin 1024) : k0_pay42 tri lo s x (ix2 i c) = x (ix2 i c) * Ideal.ofBits .f32 0x3D800000#32 * Ideal.exp (k0_pay38 tri lo s (ix2 i c) - k0_pay38 tri lo s (ix2 31 c)) := by
  pointwise [k0_pay42, k0_pay39, k0_pay41]

/-- The keys against the middle row. -/
theorem ke_1 (tri : FVec Ideal S64x64 .bf16) (lo : FVec Ideal S64x1024 .bf16) (s x : FVec Ideal S64x1024 .f32) (i : Fin 64) (c : Fin 1024) : k0_pay43 tri lo s x (ix2 i c) = x (ix2 i c) * Ideal.exp (k0_pay38 tri lo s (ix2 31 c) - k0_pay38 tri lo s (ix2 i c)) := by
  pointwise [k0_pay43, k0_pay39]

/-- The scaled queries decayed from the chunk's start. -/
theorem qin_1 (tri : FVec Ideal S64x64 .bf16) (lo : FVec Ideal S64x1024 .bf16) (s x : FVec Ideal S64x1024 .f32) (i : Fin 64) (c : Fin 1024) : k0_pay44 tri lo s x (ix2 i c) = x (ix2 i c) * Ideal.ofBits .f32 0x3D800000#32 * Ideal.exp (k0_pay38 tri lo s (ix2 i c)) := by
  pointwise [k0_pay44, k0_pay41]

/-- The keys decayed to the chunk's end. -/
theorem kend_1 (tri : FVec Ideal S64x64 .bf16) (lo : FVec Ideal S64x1024 .bf16) (s x : FVec Ideal S64x1024 .f32) (i : Fin 64) (c : Fin 1024) : k0_pay45 tri lo s x (ix2 i c) = x (ix2 i c) * Ideal.exp (k0_pay38 tri lo s (ix2 63 c) - k0_pay38 tri lo s (ix2 i c)) := by
  pointwise [k0_pay45, k0_pay40]

/-- The chunk's whole decay. -/
theorem dec_1 (tri : FVec Ideal S64x64 .bf16) (lo : FVec Ideal S64x1024 .bf16) (s x : FVec Ideal S64x1024 .f32) (i : Fin 64) (c : Fin 1024) : k0_pay46 tri lo s (ix2 0 c) = Ideal.exp (k0_pay38 tri lo s (ix2 63 c)) := by
  pointwise [k0_pay46, k0_pay40]

/-- The values pass as they are. -/
theorem v_0 (x : FVec Ideal S64x2048 .f32) (i : Fin 64) (c : Fin 2048) : k0_pay17 (F := Ideal) x (ix2 i c) = x (ix2 i c) := by
  pointwise [k0_pay17]

/-- The values pass as they are. -/
theorem v_1 (x : FVec Ideal S64x2048 .f32) (i : Fin 64) (c : Fin 2048) : k0_pay47 (F := Ideal) x (ix2 i c) = x (ix2 i c) := by
  pointwise [k0_pay47]

/-- The triangle of ones. -/
theorem tri_at (i j : Fin 64) : k0_pay4 (F := Ideal) (ix2 i j) = if j.val ≤ i.val then 1 else 0 := by
  pointwise [k0_pay4]
  rw [mask_at]
  by_cases h : j.val ≤ i.val <;> simp [h, Scalar.select]

/-- The gate's pre-activation, as the kernel sums it over the 128 columns it loads. -/
def PREK (low : FVec Ideal S64x128 .f32) (W : FVec Ideal S128x1024 .bf16) (b : FVec Ideal S1x1024 .f32) (i : Fin 64) (c : Fin 1024) : EReal :=
  (∑ l : Fin 128, low (ix2 i l) * W (ix2 l c)) + b (ix2 0 c)

/-- The kernel's absolute value. -/
theorem abs_max (x : Ideal .f32) : FloatOps.absf x = max (x : EReal) (-x) := rfl

theorem p6_at (low : FVec Ideal S64x128 .f32) (W : FVec Ideal S128x1024 .bf16) (b : FVec Ideal S1x1024 .f32)(i : Fin 64) (c : Fin 1024) :
    k0_pay6 (F := Ideal) low W b (ix2 i c) = max (0 - PREK low W b i c) 0 := by
  pointwise [k0_pay6, k0_pay5, PREK]

theorem p7_at (low : FVec Ideal S64x128 .f32) (W : FVec Ideal S128x1024 .bf16) (b : FVec Ideal S1x1024 .f32)(i : Fin 64) (c : Fin 1024) :
    k0_pay7 (F := Ideal) low W b (ix2 i c) = Ideal.log1p (Ideal.exp (0 - max (0 - PREK low W b i c) (-(0 - PREK low W b i c)))) := by
  pointwise [k0_pay7, k0_pay5, PREK]
  rfl

theorem p34_at (low : FVec Ideal S64x128 .f32) (W : FVec Ideal S128x1024 .bf16) (b : FVec Ideal S1x1024 .f32)(i : Fin 64) (c : Fin 1024) :
    k0_pay34 (F := Ideal) low W b (ix2 i c) = GKS (PREK low W b i c) := by
  pointwise [k0_pay34, PREK, GKS]
  rfl

theorem split_0 (tri : FVec Ideal S64x64 .bf16) (a b : FVec Ideal S64x1024 .f32) (i : Fin 64) (c : Fin 1024) :
    k0_pay8 tri a b (ix2 i c) = (∑ x : Fin 64, tri (ix2 i x) * Ideal.div (0 - (a (ix2 x c) + b (ix2 x c))) (Ideal.ofBits FTy.f32 0x41800000#32)) +
      ∑ x : Fin 64, tri (ix2 i x) * (Ideal.div (0 - (a (ix2 x c) + b (ix2 x c))) (Ideal.ofBits FTy.f32 0x41800000#32) - Ideal.div (0 - (a (ix2 x c) + b (ix2 x c))) (Ideal.ofBits FTy.f32 0x41800000#32)) := by
  pointwise [k0_pay8]

theorem split_1 (tri : FVec Ideal S64x64 .bf16) (low : FVec Ideal S64x128 .f32) (W : FVec Ideal S128x1024 .bf16) (b : FVec Ideal S1x1024 .f32)(i : Fin 64) (c : Fin 1024) :
    k0_pay38 tri (k0_pay36 low W b) (k0_pay37 tri low W b) (ix2 i c) = (∑ x : Fin 64, tri (ix2 i x) * k0_pay34 (F := Ideal) low W b (ix2 x c)) +
      ∑ x : Fin 64, tri (ix2 i x) * (k0_pay34 (F := Ideal) low W b (ix2 x c) - k0_pay34 (F := Ideal) low W b (ix2 x c)) := by
  pointwise [k0_pay38, k0_pay36, k0_pay37, k0_pay35]

/-- The first chunk's running log-decay. -/
theorem G_0 (low : FVec Ideal S64x128 .f32) (W : FVec Ideal S128x1024 .bf16) (b : FVec Ideal S1x1024 .f32) (i : Fin 64) (c : Fin 1024) :
    k0_pay8 (F := Ideal) k0_pay4 (k0_pay6 low W b) (k0_pay7 low W b) (ix2 i c) = CUM (fun j => GKS (PREK low W b j c)) i := by
  rw [split_0]
  simp only [p6_at, p7_at]
  exact cum_split (fun j => k0_pay4 (F := Ideal) (ix2 i j)) (fun j => GKS (PREK low W b j c)) i (fun j => tri_at i j) (fun j => GKS_ne_top _)

/-- The second chunk's running log-decay. -/
theorem G_1 (low : FVec Ideal S64x128 .f32) (W : FVec Ideal S128x1024 .bf16) (b : FVec Ideal S1x1024 .f32) (i : Fin 64) (c : Fin 1024) :
    k0_pay38 (F := Ideal) k0_pay4 (k0_pay36 low W b) (k0_pay37 k0_pay4 low W b) (ix2 i c) = CUM (fun j => GKS (PREK low W b j c)) i := by
  rw [split_1]
  simp only [p34_at]
  exact cum_split (fun j => k0_pay4 (F := Ideal) (ix2 i j)) (fun j => GKS (PREK low W b j c)) i (fun j => tri_at i j) (fun j => GKS_ne_top _)

end Cert.GlaSampleProof

end
-- ==== Proof.GlaSampleBlocks.lean ====
/-
  THE KERNEL'S BLOCKS: what each load of a grid point reads of the arguments.
-/
module

public import proofs.«01_k».proof.Proof.GlaSampleGate
public import Idealize.ShloMosaic.Lib.Routing.OpsSet
public import Idealize.ShloMosaic.Lib.Routing.OpsPair
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaSampleProof

open Cert.GlaProof

open Cert.GlaSampleIdeal Cert.GlaSampleIdeal.Gen

open Idealize.ShloMosaic.Routing

/-- Where update `(a, e')` of the padded gate weight lands: 64 rows down. -/
theorem lands_pad (idx : IVec S1 32) (hidx : (idx (ix1 0)).toInt = 64) (a : Fin 16) (e' : Fin 1024) (r : Fin 128) (e : Fin 1024) :
    scatter_S128x1024_S1_S16x1024_01_n_0_0.resultIdx? (ix2 a e') idx = some (ix2 r e) ↔ 64 + a.val = r.val ∧ e' = e := by
  have hw0 : scatter_S128x1024_S1_S16x1024_01_n_0_0.window (ix2 a e') 0 = a.val := rfl
  have hw1 : scatter_S128x1024_S1_S16x1024_01_n_0_0.window (ix2 a e') 1 = e'.val := rfl
  have hs1 : scatter_S128x1024_S1_S16x1024_01_n_0_0.start (ix2 a e') idx 1 = 0 := rfl
  have hs0 : scatter_S128x1024_S1_S16x1024_01_n_0_0.start (ix2 a e') idx 0 = 64 := by
    refine Eq.trans ?_ hidx
    unfold ScatterDims.start
    rw [dif_pos (by decide)]
    refine congrArg (fun z => (idx z).toInt) (funext fun b => ?_)
    match b with
    | ⟨0, _⟩ => exact Subsingleton.elim (α := Fin 1) _ _
  refine (resultIdx?_ix2 (R := 128) (C := 1024) scatter_S128x1024_S1_S16x1024_01_n_0_0 (ix2 a e') idx r e).trans ?_
  rw [Fin.ext_iff]
  refine Iff.trans (and_congr (Eq.congr (congrArg₂ (· + ·) hs0 (congrArg Nat.cast hw0)) rfl) (Eq.congr (congrArg₂ (· + ·) hs1 (congrArg Nat.cast hw1)) rfl)) ?_
  omega

/-- The gate weight padded to 128 rows: its 16 rows from row 64, zero elsewhere. -/
theorem pad_at (x0 : FVec Ideal S128x1024 .f32) (idx : IVec S1 32) (hidx : (idx (ix1 0)).toInt = 64) (U : FVec Ideal S16x1024 .f32) (r : Fin 128) (e : Fin 1024) :
    Host.scatter scatter_S128x1024_S1_S16x1024_01_n_0_0 (fun _ b => b) x0 idx U (ix2 r e)
      = if h : 64 ≤ r.val ∧ r.val < 80 then U (ix2 ⟨r.val - 64, by omega⟩ e) else x0 (ix2 r e) := by
  have lands : ∀ j : S16x1024.Idx, scatter_S128x1024_S1_S16x1024_01_n_0_0.resultIdx? j idx = some (ix2 r e) → 64 + (j 0).val = r.val ∧ j 1 = e := fun j hj =>
    (lands_pad idx hidx (j 0) (j 1) r e).1 ((congrArg (fun t => scatter_S128x1024_S1_S16x1024_01_n_0_0.resultIdx? t idx) (eq_ix2 j).symm).trans hj)
  by_cases h : 64 ≤ r.val ∧ r.val < 80
  · rw [dif_pos h]
    refine scatter_set_hit _ x0 idx U _ _ (fun j hj => ?_) (ix2 (⟨r.val - 64, by omega⟩ : Fin 16) e) ((lands_pad idx hidx _ _ r e).2 ⟨by dsimp only; omega, rfl⟩)
    obtain ⟨h0, h1⟩ := lands j hj
    refine (congrArg U (eq_ix2 j)).trans (congrArg U (congrArg₂ ix2 (Fin.ext ?_) h1))
    show (j 0).val = r.val - 64
    omega
  · rw [dif_neg h]
    refine scatter_set_miss _ x0 idx U _ fun j hj => h ?_
    have h0 := (lands j hj).1
    have h2 : (j 0).val < 16 := (j 0).isLt
    omega

variable (m : (ℓ : Loc nD τ sig) → Buf (Elt Ideal) ℓ)

/-- Where each window's block sits at a grid point. -/
theorem idx : ∀ t : Fin cfg0.N, win0_0.index t = ![t.val, 9] ∧ win0_1.index t = ![t.val, 10] ∧ win0_2.index t = ![t.val, 2] ∧ win0_3.index t = ![t.val, 22]
    ∧ win0_4.index t = ![0, 0] ∧ win0_5.index t = ![0, 0] ∧ win0_6.index t = ![t.val, 0] ∧ t.val < 128 :=
  (by decide +kernel : ∀ t : Fin grid0.N, _)

/-- The projections, as the kernel finds them. -/
abbrev PJ (c : Dev nD) : FVec Ideal S16384x11776 .f32 := m ((c : Thread nD τ).loc main_arg0)
/-- The gate's weight, as the kernel finds it. -/
abbrev GW (c : Dev nD) : FVec Ideal S16x1024 .f32 := m ((c : Thread nD τ).loc main_arg1)
/-- The gate's bias, as the kernel finds it. -/
abbrev GB (c : Dev nD) : FVec Ideal S1024 .f32 := m ((c : Thread nD τ).loc main_arg2)

theorem q_blk (c : Dev nD) (t : Fin cfg0.N) (i : Fin 128) (l : Fin 1024) :
    X0_0 m c t (ix2 i l) = PJ m c (ix2 ⟨t.val * 128 + i.val, by have := (idx t).2.2.2.2.2.2.2; omega⟩ ⟨9216 + l.val, by omega⟩) := by
  unfold X0_0 Pipeline.Window.fill
  rw [dif_pos (moved0_0 t _)]
  blk_point [iblk, V, idx t]

theorem q_at0 (c : Dev nD) (t : Fin cfg0.N) (i : Fin 64) (l : Fin 1024) :
    View.ld (X0_0 m c t) (Rect.unit ![0, 0] ![64, 1024] inb_S128x1024_S64x1024_0_0) (ix2 i l) = PJ m c (ix2 ⟨t.val * 128 + 0 + i.val, by have := (idx t).2.2.2.2.2.2.2; omega⟩ ⟨9216 + l.val, by omega⟩) :=
  (show _ = X0_0 m c t (ix2 ⟨0 + i.val, by omega⟩ l) by blk_point).trans ((q_blk m c t _ l).trans (congrArg _ (congrArg₂ ix2 (Fin.ext (by dsimp only; omega)) rfl)))

theorem q_at1 (c : Dev nD) (t : Fin cfg0.N) (i : Fin 64) (l : Fin 1024) :
    View.ld (X0_0 m c t) (Rect.unit ![64, 0] ![64, 1024] inb_S128x1024_S64x1024_64_0) (ix2 i l) = PJ m c (ix2 ⟨t.val * 128 + 64 + i.val, by have := (idx t).2.2.2.2.2.2.2; omega⟩ ⟨9216 + l.val, by omega⟩) :=
  (show _ = X0_0 m c t (ix2 ⟨64 + i.val, by omega⟩ l) by blk_point).trans ((q_blk m c t _ l).trans (congrArg _ (congrArg₂ ix2 (Fin.ext (by dsimp only; omega)) rfl)))

theorem k_blk (c : Dev nD) (t : Fin cfg0.N) (i : Fin 128) (l : Fin 1024) :
    X0_1 m c t (ix2 i l) = PJ m c (ix2 ⟨t.val * 128 + i.val, by have := (idx t).2.2.2.2.2.2.2; omega⟩ ⟨10240 + l.val, by omega⟩) := by
  unfold X0_1 Pipeline.Window.fill
  rw [dif_pos (moved0_1 t _)]
  blk_point [iblk, V, idx t]

theorem k_at0 (c : Dev nD) (t : Fin cfg0.N) (i : Fin 64) (l : Fin 1024) :
    View.ld (X0_1 m c t) (Rect.unit ![0, 0] ![64, 1024] inb_S128x1024_S64x1024_0_0) (ix2 i l) = PJ m c (ix2 ⟨t.val * 128 + 0 + i.val, by have := (idx t).2.2.2.2.2.2.2; omega⟩ ⟨10240 + l.val, by omega⟩) :=
  (show _ = X0_1 m c t (ix2 ⟨0 + i.val, by omega⟩ l) by blk_point).trans ((k_blk m c t _ l).trans (congrArg _ (congrArg₂ ix2 (Fin.ext (by dsimp only; omega)) rfl)))

theorem k_at1 (c : Dev nD) (t : Fin cfg0.N) (i : Fin 64) (l : Fin 1024) :
    View.ld (X0_1 m c t) (Rect.unit ![64, 0] ![64, 1024] inb_S128x1024_S64x1024_64_0) (ix2 i l) = PJ m c (ix2 ⟨t.val * 128 + 64 + i.val, by have := (idx t).2.2.2.2.2.2.2; omega⟩ ⟨10240 + l.val, by omega⟩) :=
  (show _ = X0_1 m c t (ix2 ⟨64 + i.val, by omega⟩ l) by blk_point).trans ((k_blk m c t _ l).trans (congrArg _ (congrArg₂ ix2 (Fin.ext (by dsimp only; omega)) rfl)))

theorem v_blk (c : Dev nD) (t : Fin cfg0.N) (i : Fin 128) (l : Fin 2048) :
    X0_2 m c t (ix2 i l) = PJ m c (ix2 ⟨t.val * 128 + i.val, by have := (idx t).2.2.2.2.2.2.2; omega⟩ ⟨4096 + l.val, by omega⟩) := by
  unfold X0_2 Pipeline.Window.fill
  rw [dif_pos (moved0_2 t _)]
  blk_point [iblk, V, idx t]

theorem v_at0 (c : Dev nD) (t : Fin cfg0.N) (i : Fin 64) (l : Fin 2048) :
    View.ld (X0_2 m c t) (Rect.unit ![0, 0] ![64, 2048] inb_S128x2048_S64x2048_0_0) (ix2 i l) = PJ m c (ix2 ⟨t.val * 128 + 0 + i.val, by have := (idx t).2.2.2.2.2.2.2; omega⟩ ⟨4096 + l.val, by omega⟩) :=
  (show _ = X0_2 m c t (ix2 ⟨0 + i.val, by omega⟩ l) by blk_point).trans ((v_blk m c t _ l).trans (congrArg _ (congrArg₂ ix2 (Fin.ext (by dsimp only; omega)) rfl)))

theorem v_at1 (c : Dev nD) (t : Fin cfg0.N) (i : Fin 64) (l : Fin 2048) :
    View.ld (X0_2 m c t) (Rect.unit ![64, 0] ![64, 2048] inb_S128x2048_S64x2048_64_0) (ix2 i l) = PJ m c (ix2 ⟨t.val * 128 + 64 + i.val, by have := (idx t).2.2.2.2.2.2.2; omega⟩ ⟨4096 + l.val, by omega⟩) :=
  (show _ = X0_2 m c t (ix2 ⟨64 + i.val, by omega⟩ l) by blk_point).trans ((v_blk m c t _ l).trans (congrArg _ (congrArg₂ ix2 (Fin.ext (by dsimp only; omega)) rfl)))

theorem low_at0 (c : Dev nD) (t : Fin cfg0.N) (i : Fin 64) (l : Fin 128) :
    View.ld (iblk m c 3 t) (Rect.unit ![0, 0] ![64, 128] inb_S128x512_S64x128_0_0) (ix2 i l) = PJ m c (ix2 ⟨t.val * 128 + 0 + i.val, by have := (idx t).2.2.2.2.2.2.2; omega⟩ ⟨11264 + l.val, by omega⟩) := by
  blk_point [iblk, V, idx t]

theorem low_at1 (c : Dev nD) (t : Fin cfg0.N) (i : Fin 64) (l : Fin 128) :
    View.ld (iblk m c 3 t) (Rect.unit ![64, 0] ![64, 128] inb_S128x512_S64x128_64_0) (ix2 i l) = PJ m c (ix2 ⟨t.val * 128 + 64 + i.val, by have := (idx t).2.2.2.2.2.2.2; omega⟩ ⟨11264 + l.val, by omega⟩) := by
  blk_point [iblk, V, idx t]

theorem b_at (c : Dev nD) (t : Fin cfg0.N) (l : Fin 1024) :
    iblk m c 5 t (ix2 0 l) = GB m c (ix1 l) := by
  blk_point [iblk, V, idx t]
theorem w_at (c : Dev nD) (t : Fin cfg0.N) (r : Fin 128) (e : Fin 1024) :
    iblk m c 4 t (ix2 r e) = if h : 64 ≤ r.val ∧ r.val < 80 then GW m c (ix2 ⟨r.val - 64, by omega⟩ e) else 0 := by
  blk_simp [iblk, idx t]
  entry_read
  have he : (((View.whole main_v3).slice (win0_4.rect t)).emb (ix2 r e)) = ix2 r e := by blk_ext [idx t]
  rw [he]
  refine (show ∀ X : FVec Ideal S128x1024 .f32, truncf FTy.bf16 X bitsLt_bf16_f32 (ix2 r e) = X (ix2 r e) from fun X => by pointwise) _ |>.trans ?_
  refine (pad_at _ _ (by rfl) _ r e).trans ?_
  by_cases h : 64 ≤ r.val ∧ r.val < 80
  · rw [dif_pos h, dif_pos h]; try rfl
  · rw [dif_neg h, dif_neg h]; pointwise

end Cert.GlaSampleProof

end
-- ==== Proof.GlaSampleChunk.lean ====
/-
  THE SWEEP OF ONE SEQUENCE of 256 chunks, in scalars.
-/
module

public import proofs.«01_k».proof.Proof.GlaChunk
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaSampleProof

open Cert.GlaProof

variable (P : Fin 16384 → Fin 11776 → EReal) (W : Fin 16 → Fin 1024 → EReal) (b : Fin 1024 → EReal)

/-- The state chunk `n` finds; every sequence of 256 chunks starts from nothing. -/
def ST : ℕ → Fin 4 → Fin 512 → Fin 256 → EReal
  | 0 => fun _ _ _ => 0
  | n + 1 => if (n + 1) % 256 = 0 then fun _ _ _ => 0 else NXT P W b n (ST n)

theorem ST_reset (n : ℕ) (h : n % 256 = 0) : ST P W b n = fun _ _ _ => 0 := by
  cases n with
  | zero => rfl
  | succ n => rw [ST, if_pos h]
theorem ST_step (n : ℕ) (h : (n + 1) % 256 ≠ 0) : ST P W b (n + 1) = NXT P W b n (ST P W b n) := by
  rw [ST, if_neg h]

/-- The sweep's result at a row and a column. -/
def SWEEP (r : Fin 16384) (c : Fin 2048) : EReal :=
  OTC P W b (r.val / 64) (ST P W b (r.val / 64)) ⟨c.val / 512, by omega⟩ ⟨r.val % 64, by omega⟩ ⟨c.val % 512, by omega⟩

theorem SWEEP_at (r : Fin 16384) (n : ℕ) (i : Fin 64) (h : Fin 4) (w : Fin 512) (hr : r.val = 64 * n + i.val) :
    SWEEP P W b r (VC h w) = OTC P W b n (ST P W b n) h i w := by
  unfold SWEEP
  rw [show r.val / 64 = n by omega]
  congr 1
  · exact Fin.ext (by unfold VC; dsimp only; omega)
  · exact Fin.ext (by dsimp only; omega)
  · exact Fin.ext (by unfold VC; dsimp only; omega)

end Cert.GlaSampleProof

end
-- ==== Proof.GlaSampleFns.lean ====
/-
  THE KERNEL'S CHUNK FUNCTIONS: what a grid point computes of its two chunks before the products, in scalars.
-/
module

public import proofs.«01_k».proof.Proof.GlaSampleBlocks
public import proofs.«01_k».proof.Proof.GlaSampleChunk
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaSampleProof

open Cert.GlaProof

open Cert.GlaSampleIdeal Cert.GlaSampleIdeal.Gen

variable (m : (ℓ : Loc nD τ sig) → Buf (Elt Ideal) ℓ)

/-- The projections as a function of row and column. -/
abbrev PF (c : Dev nD) : Fin 16384 → Fin 11776 → EReal := fun r e => PJ m c (ix2 r e)
/-- The gate's weight as a function of row and column. -/
abbrev WF (c : Dev nD) : Fin 16 → Fin 1024 → EReal := fun r e => GW m c (ix2 r e)
/-- The gate's bias as a function of the column. -/
abbrev BF (c : Dev nD) : Fin 1024 → EReal := fun e => GB m c (ix1 e)

theorem row_0 (t : Fin cfg0.N) (i : Fin 64) (h : t.val * 128 + 0 + i.val < 16384) : (⟨t.val * 128 + 0 + i.val, h⟩ : Fin 16384) = ROW (2 * t.val) i :=
  Fin.ext (by unfold ROW; dsimp only; omega)

/-- The load of the low-rank columns at half 0. -/
abbrev LW0 (c : Dev nD) (t : Fin cfg0.N) : FVec Ideal S64x128 .f32 := View.ld (iblk m c 3 t) (Rect.unit ![0, 0] ![64, 128] inb_S128x512_S64x128_0_0)
abbrev LQ0 (c : Dev nD) (t : Fin cfg0.N) : FVec Ideal S64x1024 .f32 := View.ld (X0_0 m c t) (Rect.unit ![0, 0] ![64, 1024] inb_S128x1024_S64x1024_0_0)
abbrev LK0 (c : Dev nD) (t : Fin cfg0.N) : FVec Ideal S64x1024 .f32 := View.ld (X0_1 m c t) (Rect.unit ![0, 0] ![64, 1024] inb_S128x1024_S64x1024_0_0)
abbrev LV0 (c : Dev nD) (t : Fin cfg0.N) : FVec Ideal S64x2048 .f32 := View.ld (X0_2 m c t) (Rect.unit ![0, 0] ![64, 2048] inb_S128x2048_S64x2048_0_0)

theorem lw_at0 (c : Dev nD) (t : Fin cfg0.N) (i : Fin 64) (l : Fin 128) : LW0 m c t (ix2 i l) = PF m c (ROW (2 * t.val) i) ⟨11264 + l.val, by omega⟩ :=
  (low_at0 m c t i l).trans (congrArg (PJ m c) (congrArg₂ ix2 (row_0 t i _) rfl))
theorem lq_at0 (c : Dev nD) (t : Fin cfg0.N) (i : Fin 64) (l : Fin 1024) : LQ0 m c t (ix2 i l) = PF m c (ROW (2 * t.val) i) ⟨9216 + l.val, by omega⟩ :=
  (q_at0 m c t i l).trans (congrArg (PJ m c) (congrArg₂ ix2 (row_0 t i _) rfl))
theorem lk_at0 (c : Dev nD) (t : Fin cfg0.N) (i : Fin 64) (l : Fin 1024) : LK0 m c t (ix2 i l) = PF m c (ROW (2 * t.val) i) ⟨10240 + l.val, by omega⟩ :=
  (k_at0 m c t i l).trans (congrArg (PJ m c) (congrArg₂ ix2 (row_0 t i _) rfl))
theorem lv_at0 (c : Dev nD) (t : Fin cfg0.N) (i : Fin 64) (l : Fin 2048) : LV0 m c t (ix2 i l) = PF m c (ROW (2 * t.val) i) ⟨4096 + l.val, by omega⟩ :=
  (v_at0 m c t i l).trans (congrArg (PJ m c) (congrArg₂ ix2 (row_0 t i _) rfl))

/-- The pre-activation, from the padded weight. -/
theorem pre_0 (c : Dev nD) (t : Fin cfg0.N) (i : Fin 64) (e : Fin 1024) :
    PREK (LW0 m c t) (iblk m c 4 t) (iblk m c 5 t) i e = PRE (PF m c) (WF m c) (BF m c) (ROW (2 * t.val) i) e := by
  unfold PREK PRE
  rw [b_at m c t e]
  refine congrArg₂ (· + ·) (Eq.symm ?_) rfl
  refine Finset.sum_of_injOn (fun l : Fin 16 => (⟨64 + l.val, by omega⟩ : Fin 128)) (fun a _ b _ h => Fin.ext (by have := congrArg Fin.val h; dsimp only at this; omega)) (fun _ _ => Finset.mem_coe.2 (Finset.mem_univ _)) (fun l _ hl => ?_) (fun l _ => ?_)
  · rw [w_at, dif_neg, mul_zero]
    rintro ⟨h1, h2⟩
    exact hl ⟨⟨l.val - 64, by omega⟩, Finset.mem_coe.2 (Finset.mem_univ _), Fin.ext (by dsimp only; omega)⟩
  · rw [w_at, lw_at0, dif_pos ⟨by dsimp only; omega, by dsimp only; omega⟩]
    refine congrArg₂ (· * ·) (congrArg (PJ m c) (congrArg (ix2 _) (Fin.ext (by dsimp only; omega)))) (congrArg (GW m c) (congrArg₂ ix2 (Fin.ext (by dsimp only; omega)) rfl))

theorem g_0 (c : Dev nD) (t : Fin cfg0.N) (i : Fin 64) (e : Fin 1024) :
    k0_pay8 (F := Ideal) k0_pay4 (k0_pay6 (LW0 m c t) (iblk m c 4 t) (iblk m c 5 t)) (k0_pay7 (LW0 m c t) (iblk m c 4 t) (iblk m c 5 t)) (ix2 i e) = GC (PF m c) (WF m c) (BF m c) (2 * t.val) i e := by
  rw [G_0]
  unfold GC
  exact congrArg (fun f => CUM f i) (funext fun j => congrArg GKS (pre_0 m c t j e))

theorem qef_0 (c : Dev nD) (t : Fin cfg0.N) :
    (fun i e => k0_pay12 (F := Ideal) k0_pay4 (k0_pay6 (LW0 m c t) (iblk m c 4 t) (iblk m c 5 t)) (k0_pay7 (LW0 m c t) (iblk m c 4 t) (iblk m c 5 t)) (LQ0 m c t) (ix2 i e)) = QE (PF m c) (WF m c) (BF m c) (2 * t.val) := by
  funext i e
  rw [qe_0, lq_at0]
  simp only [g_0]
  rfl

theorem kef_0 (c : Dev nD) (t : Fin cfg0.N) :
    (fun i e => k0_pay13 (F := Ideal) k0_pay4 (k0_pay6 (LW0 m c t) (iblk m c 4 t) (iblk m c 5 t)) (k0_pay7 (LW0 m c t) (iblk m c 4 t) (iblk m c 5 t)) (LK0 m c t) (ix2 i e)) = KE (PF m c) (WF m c) (BF m c) (2 * t.val) := by
  funext i e
  rw [ke_0, lk_at0]
  simp only [g_0]
  rfl

theorem qinf_0 (c : Dev nD) (t : Fin cfg0.N) :
    (fun i e => k0_pay14 (F := Ideal) k0_pay4 (k0_pay6 (LW0 m c t) (iblk m c 4 t) (iblk m c 5 t)) (k0_pay7 (LW0 m c t) (iblk m c 4 t) (iblk m c 5 t)) (LQ0 m c t) (ix2 i e)) = QIN (PF m c) (WF m c) (BF m c) (2 * t.val) := by
  funext i e
  rw [qin_0, lq_at0]
  simp only [g_0]
  rfl

theorem kendf_0 (c : Dev nD) (t : Fin cfg0.N) :
    (fun i e => k0_pay15 (F := Ideal) k0_pay4 (k0_pay6 (LW0 m c t) (iblk m c 4 t) (iblk m c 5 t)) (k0_pay7 (LW0 m c t) (iblk m c 4 t) (iblk m c 5 t)) (LK0 m c t) (ix2 i e)) = KEND (PF m c) (WF m c) (BF m c) (2 * t.val) := by
  funext i e
  rw [kend_0, lk_at0]
  simp only [g_0]
  rfl

theorem decf_0 (c : Dev nD) (t : Fin cfg0.N) :
    (fun e => k0_pay16 (F := Ideal) k0_pay4 (k0_pay6 (LW0 m c t) (iblk m c 4 t) (iblk m c 5 t)) (k0_pay7 (LW0 m c t) (iblk m c 4 t) (iblk m c 5 t)) (ix2 0 e)) = DEC (PF m c) (WF m c) (BF m c) (2 * t.val) := by
  funext e
  rw [dec_0 _ _ _ (LQ0 m c t) 0]
  simp only [g_0]
  rfl

theorem vf_0 (c : Dev nD) (t : Fin cfg0.N) :
    (fun i e => k0_pay17 (F := Ideal) (LV0 m c t) (ix2 i e)) = VV (PF m c) (2 * t.val) := by
  funext i e
  rw [v_0, lv_at0]
  rfl

theorem row_1 (t : Fin cfg0.N) (i : Fin 64) (h : t.val * 128 + 64 + i.val < 16384) : (⟨t.val * 128 + 64 + i.val, h⟩ : Fin 16384) = ROW (2 * t.val + 1) i :=
  Fin.ext (by unfold ROW; dsimp only; omega)

/-- The load of the low-rank columns at half 1. -/
abbrev LW1 (c : Dev nD) (t : Fin cfg0.N) : FVec Ideal S64x128 .f32 := View.ld (iblk m c 3 t) (Rect.unit ![64, 0] ![64, 128] inb_S128x512_S64x128_64_0)
abbrev LQ1 (c : Dev nD) (t : Fin cfg0.N) : FVec Ideal S64x1024 .f32 := View.ld (X0_0 m c t) (Rect.unit ![64, 0] ![64, 1024] inb_S128x1024_S64x1024_64_0)
abbrev LK1 (c : Dev nD) (t : Fin cfg0.N) : FVec Ideal S64x1024 .f32 := View.ld (X0_1 m c t) (Rect.unit ![64, 0] ![64, 1024] inb_S128x1024_S64x1024_64_0)
abbrev LV1 (c : Dev nD) (t : Fin cfg0.N) : FVec Ideal S64x2048 .f32 := View.ld (X0_2 m c t) (Rect.unit ![64, 0] ![64, 2048] inb_S128x2048_S64x2048_64_0)

theorem lw_at1 (c : Dev nD) (t : Fin cfg0.N) (i : Fin 64) (l : Fin 128) : LW1 m c t (ix2 i l) = PF m c (ROW (2 * t.val + 1) i) ⟨11264 + l.val, by omega⟩ :=
  (low_at1 m c t i l).trans (congrArg (PJ m c) (congrArg₂ ix2 (row_1 t i _) rfl))
theorem lq_at1 (c : Dev nD) (t : Fin cfg0.N) (i : Fin 64) (l : Fin 1024) : LQ1 m c t (ix2 i l) = PF m c (ROW (2 * t.val + 1) i) ⟨9216 + l.val, by omega⟩ :=
  (q_at1 m c t i l).trans (congrArg (PJ m c) (congrArg₂ ix2 (row_1 t i _) rfl))
theorem lk_at1 (c : Dev nD) (t : Fin cfg0.N) (i : Fin 64) (l : Fin 1024) : LK1 m c t (ix2 i l) = PF m c (ROW (2 * t.val + 1) i) ⟨10240 + l.val, by omega⟩ :=
  (k_at1 m c t i l).trans (congrArg (PJ m c) (congrArg₂ ix2 (row_1 t i _) rfl))
theorem lv_at1 (c : Dev nD) (t : Fin cfg0.N) (i : Fin 64) (l : Fin 2048) : LV1 m c t (ix2 i l) = PF m c (ROW (2 * t.val + 1) i) ⟨4096 + l.val, by omega⟩ :=
  (v_at1 m c t i l).trans (congrArg (PJ m c) (congrArg₂ ix2 (row_1 t i _) rfl))

/-- The pre-activation, from the padded weight. -/
theorem pre_1 (c : Dev nD) (t : Fin cfg0.N) (i : Fin 64) (e : Fin 1024) :
    PREK (LW1 m c t) (iblk m c 4 t) (iblk m c 5 t) i e = PRE (PF m c) (WF m c) (BF m c) (ROW (2 * t.val + 1) i) e := by
  unfold PREK PRE
  rw [b_at m c t e]
  refine congrArg₂ (· + ·) (Eq.symm ?_) rfl
  refine Finset.sum_of_injOn (fun l : Fin 16 => (⟨64 + l.val, by omega⟩ : Fin 128)) (fun a _ b _ h => Fin.ext (by have := congrArg Fin.val h; dsimp only at this; omega)) (fun _ _ => Finset.mem_coe.2 (Finset.mem_univ _)) (fun l _ hl => ?_) (fun l _ => ?_)
  · rw [w_at, dif_neg, mul_zero]
    rintro ⟨h1, h2⟩
    exact hl ⟨⟨l.val - 64, by omega⟩, Finset.mem_coe.2 (Finset.mem_univ _), Fin.ext (by dsimp only; omega)⟩
  · rw [w_at, lw_at1, dif_pos ⟨by dsimp only; omega, by dsimp only; omega⟩]
    refine congrArg₂ (· * ·) (congrArg (PJ m c) (congrArg (ix2 _) (Fin.ext (by dsimp only; omega)))) (congrArg (GW m c) (congrArg₂ ix2 (Fin.ext (by dsimp only; omega)) rfl))

theorem g_1 (c : Dev nD) (t : Fin cfg0.N) (i : Fin 64) (e : Fin 1024) :
    k0_pay38 (F := Ideal) k0_pay4 (k0_pay36 (LW1 m c t) (iblk m c 4 t) (iblk m c 5 t)) (k0_pay37 k0_pay4 (LW1 m c t) (iblk m c 4 t) (iblk m c 5 t)) (ix2 i e) = GC (PF m c) (WF m c) (BF m c) (2 * t.val + 1) i e := by
  rw [G_1]
  unfold GC
  exact congrArg (fun f => CUM f i) (funext fun j => congrArg GKS (pre_1 m c t j e))

theorem qef_1 (c : Dev nD) (t : Fin cfg0.N) :
    (fun i e => k0_pay42 (F := Ideal) k0_pay4 (k0_pay36 (LW1 m c t) (iblk m c 4 t) (iblk m c 5 t)) (k0_pay37 k0_pay4 (LW1 m c t) (iblk m c 4 t) (iblk m c 5 t)) (LQ1 m c t) (ix2 i e)) = QE (PF m c) (WF m c) (BF m c) (2 * t.val + 1) := by
  funext i e
  rw [qe_1, lq_at1]
  simp only [g_1]
  rfl

theorem kef_1 (c : Dev nD) (t : Fin cfg0.N) :
    (fun i e => k0_pay43 (F := Ideal) k0_pay4 (k0_pay36 (LW1 m c t) (iblk m c 4 t) (iblk m c 5 t)) (k0_pay37 k0_pay4 (LW1 m c t) (iblk m c 4 t) (iblk m c 5 t)) (LK1 m c t) (ix2 i e)) = KE (PF m c) (WF m c) (BF m c) (2 * t.val + 1) := by
  funext i e
  rw [ke_1, lk_at1]
  simp only [g_1]
  rfl

theorem qinf_1 (c : Dev nD) (t : Fin cfg0.N) :
    (fun i e => k0_pay44 (F := Ideal) k0_pay4 (k0_pay36 (LW1 m c t) (iblk m c 4 t) (iblk m c 5 t)) (k0_pay37 k0_pay4 (LW1 m c t) (iblk m c 4 t) (iblk m c 5 t)) (LQ1 m c t) (ix2 i e)) = QIN (PF m c) (WF m c) (BF m c) (2 * t.val + 1) := by
  funext i e
  rw [qin_1, lq_at1]
  simp only [g_1]
  rfl

theorem kendf_1 (c : Dev nD) (t : Fin cfg0.N) :
    (fun i e => k0_pay45 (F := Ideal) k0_pay4 (k0_pay36 (LW1 m c t) (iblk m c 4 t) (iblk m c 5 t)) (k0_pay37 k0_pay4 (LW1 m c t) (iblk m c 4 t) (iblk m c 5 t)) (LK1 m c t) (ix2 i e)) = KEND (PF m c) (WF m c) (BF m c) (2 * t.val + 1) := by
  funext i e
  rw [kend_1, lk_at1]
  simp only [g_1]
  rfl

theorem decf_1 (c : Dev nD) (t : Fin cfg0.N) :
    (fun e => k0_pay46 (F := Ideal) k0_pay4 (k0_pay36 (LW1 m c t) (iblk m c 4 t) (iblk m c 5 t)) (k0_pay37 k0_pay4 (LW1 m c t) (iblk m c 4 t) (iblk m c 5 t)) (ix2 0 e)) = DEC (PF m c) (WF m c) (BF m c) (2 * t.val + 1) := by
  funext e
  rw [dec_1 _ _ _ (LQ1 m c t) 0]
  simp only [g_1]
  rfl

theorem vf_1 (c : Dev nD) (t : Fin cfg0.N) :
    (fun i e => k0_pay47 (F := Ideal) (LV1 m c t) (ix2 i e)) = VV (PF m c) (2 * t.val + 1) := by
  funext i e
  rw [v_1, lv_at1]
  rfl

end Cert.GlaSampleProof

end
-- ==== Proof.GlaSampleHalf.lean ====
/-
  THE KERNEL'S HALF POINTS: each head's output and next state of a chunk, from the state it finds.
-/
module

public import proofs.«01_k».proof.Proof.GlaSampleFns
public import proofs.«01_k».proof.Proof.GlaSampleHeads
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaSampleProof

open Cert.GlaProof

open Cert.GlaSampleIdeal Cert.GlaSampleIdeal.Gen

variable (m : (ℓ : Loc nD τ sig) → Buf (Elt Ideal) ℓ)

theorem nxt_0_0 (c : Dev nD) (t : Fin cfg0.N) (st : FVec Ideal S1x512x256 .f32) (S : Fin 4 → Fin 512 → Fin 256 → EReal) (hS : ∀ w k, st (ix3 0 w k) = S 0 w k) (w : Fin 512) (k : Fin 256) :
    k0_pay21 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st (ix3 0 w k) = NXT (PF m c) (WF m c) (BF m c) (2 * t.val) S 0 w k := by
  refine (new_0_0 _ _ _ _ w k).trans ?_
  rw [kendf_0, decf_0, vf_0, show (fun w k => st (ix3 0 w k)) = S 0 from funext fun w => funext fun k => hS w k]
  rfl

theorem oct_0_0 (c : Dev nD) (t : Fin cfg0.N) (st : FVec Ideal S1x512x256 .f32) (S : Fin 4 → Fin 512 → Fin 256 → EReal) (hS : ∀ w k, st (ix3 0 w k) = S 0 w k) (i : Fin 64) (w : Fin 512) :
    k0_pay20 (k0_pay14 k0_pay4 (k0_pay6 (LW0 m c t) (iblk m c 4 t) (iblk m c 5 t)) (k0_pay7 (LW0 m c t) (iblk m c 4 t) (iblk m c 5 t)) (LQ0 m c t)) (k0_pay17 (F := Ideal) (LV0 m c t)) (k0_pay18 k0_pay3 k0_pay4 (k0_pay6 (LW0 m c t) (iblk m c 4 t) (iblk m c 5 t)) (k0_pay7 (LW0 m c t) (iblk m c 4 t) (iblk m c 5 t)) (LQ0 m c t) (LK0 m c t)) st (ix2 i w) = OTC (PF m c) (WF m c) (BF m c) (2 * t.val) S 0 i w := by
  refine (out_0_0 _ _ _ _ _ _ _ _ i w).trans ?_
  rw [qef_0, kef_0, qinf_0, vf_0, show (fun w k => st (ix3 0 w k)) = S 0 from funext fun w => funext fun k => hS w k]
  rfl

theorem nxt_0_1 (c : Dev nD) (t : Fin cfg0.N) (st : FVec Ideal S1x512x256 .f32) (S : Fin 4 → Fin 512 → Fin 256 → EReal) (hS : ∀ w k, st (ix3 0 w k) = S 1 w k) (w : Fin 512) (k : Fin 256) :
    k0_pay25 (k0_pay24 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st) (ix3 0 w k) = NXT (PF m c) (WF m c) (BF m c) (2 * t.val) S 1 w k := by
  refine (new_0_1 _ _ _ _ w k).trans ?_
  rw [kendf_0, decf_0, vf_0, show (fun w k => st (ix3 0 w k)) = S 1 from funext fun w => funext fun k => hS w k]
  rfl

theorem oct_0_1 (c : Dev nD) (t : Fin cfg0.N) (st : FVec Ideal S1x512x256 .f32) (S : Fin 4 → Fin 512 → Fin 256 → EReal) (hS : ∀ w k, st (ix3 0 w k) = S 1 w k) (i : Fin 64) (w : Fin 512) :
    k0_pay23 k0_pay3 (k0_pay12 k0_pay4 (k0_pay6 (LW0 m c t) (iblk m c 4 t) (iblk m c 5 t)) (k0_pay7 (LW0 m c t) (iblk m c 4 t) (iblk m c 5 t)) (LQ0 m c t)) (k0_pay13 k0_pay4 (k0_pay6 (LW0 m c t) (iblk m c 4 t) (iblk m c 5 t)) (k0_pay7 (LW0 m c t) (iblk m c 4 t) (iblk m c 5 t)) (LK0 m c t)) (k0_pay14 k0_pay4 (k0_pay6 (LW0 m c t) (iblk m c 4 t) (iblk m c 5 t)) (k0_pay7 (LW0 m c t) (iblk m c 4 t) (iblk m c 5 t)) (LQ0 m c t)) (k0_pay17 (F := Ideal) (LV0 m c t)) st (ix2 i w) = OTC (PF m c) (WF m c) (BF m c) (2 * t.val) S 1 i w := by
  refine (out_0_1 _ _ _ _ _ i w).trans ?_
  rw [qef_0, kef_0, qinf_0, vf_0, show (fun w k => st (ix3 0 w k)) = S 1 from funext fun w => funext fun k => hS w k]
  rfl

theorem nxt_0_2 (c : Dev nD) (t : Fin cfg0.N) (st : FVec Ideal S1x512x256 .f32) (S : Fin 4 → Fin 512 → Fin 256 → EReal) (hS : ∀ w k, st (ix3 0 w k) = S 2 w k) (w : Fin 512) (k : Fin 256) :
    k0_pay28 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st (ix3 0 w k) = NXT (PF m c) (WF m c) (BF m c) (2 * t.val) S 2 w k := by
  refine (new_0_2 _ _ _ _ w k).trans ?_
  rw [kendf_0, decf_0, vf_0, show (fun w k => st (ix3 0 w k)) = S 2 from funext fun w => funext fun k => hS w k]
  rfl

theorem oct_0_2 (c : Dev nD) (t : Fin cfg0.N) (st : FVec Ideal S1x512x256 .f32) (S : Fin 4 → Fin 512 → Fin 256 → EReal) (hS : ∀ w k, st (ix3 0 w k) = S 2 w k) (i : Fin 64) (w : Fin 512) :
    k0_pay27 k0_pay3 (k0_pay12 k0_pay4 (k0_pay6 (LW0 m c t) (iblk m c 4 t) (iblk m c 5 t)) (k0_pay7 (LW0 m c t) (iblk m c 4 t) (iblk m c 5 t)) (LQ0 m c t)) (k0_pay13 k0_pay4 (k0_pay6 (LW0 m c t) (iblk m c 4 t) (iblk m c 5 t)) (k0_pay7 (LW0 m c t) (iblk m c 4 t) (iblk m c 5 t)) (LK0 m c t)) (k0_pay14 k0_pay4 (k0_pay6 (LW0 m c t) (iblk m c 4 t) (iblk m c 5 t)) (k0_pay7 (LW0 m c t) (iblk m c 4 t) (iblk m c 5 t)) (LQ0 m c t)) (k0_pay17 (F := Ideal) (LV0 m c t)) st (ix2 i w) = OTC (PF m c) (WF m c) (BF m c) (2 * t.val) S 2 i w := by
  refine (out_0_2 _ _ _ _ _ i w).trans ?_
  rw [qef_0, kef_0, qinf_0, vf_0, show (fun w k => st (ix3 0 w k)) = S 2 from funext fun w => funext fun k => hS w k]
  rfl

theorem nxt_0_3 (c : Dev nD) (t : Fin cfg0.N) (st : FVec Ideal S1x512x256 .f32) (S : Fin 4 → Fin 512 → Fin 256 → EReal) (hS : ∀ w k, st (ix3 0 w k) = S 3 w k) (w : Fin 512) (k : Fin 256) :
    k0_pay32 (k0_pay15 k0_pay4 (k0_pay6 (LW0 m c t) (iblk m c 4 t) (iblk m c 5 t)) (k0_pay7 (LW0 m c t) (iblk m c 4 t) (iblk m c 5 t)) (LK0 m c t)) (k0_pay17 (F := Ideal) (LV0 m c t)) (k0_pay29 st) (k0_pay31 (k0_pay16 k0_pay4 (k0_pay6 (LW0 m c t) (iblk m c 4 t) (iblk m c 5 t)) (k0_pay7 (LW0 m c t) (iblk m c 4 t) (iblk m c 5 t)))) (ix3 0 w k) = NXT (PF m c) (WF m c) (BF m c) (2 * t.val) S 3 w k := by
  refine (new_0_3 _ _ _ _ w k).trans ?_
  rw [kendf_0, decf_0, vf_0, show (fun w k => st (ix3 0 w k)) = S 3 from funext fun w => funext fun k => hS w k]
  rfl

theorem oct_0_3 (c : Dev nD) (t : Fin cfg0.N) (st : FVec Ideal S1x512x256 .f32) (S : Fin 4 → Fin 512 → Fin 256 → EReal) (hS : ∀ w k, st (ix3 0 w k) = S 3 w k) (i : Fin 64) (w : Fin 512) :
    k0_pay30 k0_pay3 (k0_pay12 k0_pay4 (k0_pay6 (LW0 m c t) (iblk m c 4 t) (iblk m c 5 t)) (k0_pay7 (LW0 m c t) (iblk m c 4 t) (iblk m c 5 t)) (LQ0 m c t)) (k0_pay13 k0_pay4 (k0_pay6 (LW0 m c t) (iblk m c 4 t) (iblk m c 5 t)) (k0_pay7 (LW0 m c t) (iblk m c 4 t) (iblk m c 5 t)) (LK0 m c t)) (k0_pay14 k0_pay4 (k0_pay6 (LW0 m c t) (iblk m c 4 t) (iblk m c 5 t)) (k0_pay7 (LW0 m c t) (iblk m c 4 t) (iblk m c 5 t)) (LQ0 m c t)) (k0_pay17 (F := Ideal) (LV0 m c t)) st (ix2 i w) = OTC (PF m c) (WF m c) (BF m c) (2 * t.val) S 3 i w := by
  refine (out_0_3 _ _ _ _ _ i w).trans ?_
  rw [qef_0, kef_0, qinf_0, vf_0, show (fun w k => st (ix3 0 w k)) = S 3 from funext fun w => funext fun k => hS w k]
  rfl

theorem nxt_1_0 (c : Dev nD) (t : Fin cfg0.N) (st : FVec Ideal S1x512x256 .f32) (S : Fin 4 → Fin 512 → Fin 256 → EReal) (hS : ∀ w k, st (ix3 0 w k) = S 0 w k) (w : Fin 512) (k : Fin 256) :
    k0_pay51 (k0_pay45 k0_pay4 (k0_pay36 (LW1 m c t) (iblk m c 4 t) (iblk m c 5 t)) (k0_pay37 k0_pay4 (LW1 m c t) (iblk m c 4 t) (iblk m c 5 t)) (LK1 m c t)) (k0_pay47 (F := Ideal) (LV1 m c t)) (k0_pay48 st) (k0_pay50 k0_pay4 (k0_pay36 (LW1 m c t) (iblk m c 4 t) (iblk m c 5 t)) (k0_pay37 k0_pay4 (LW1 m c t) (iblk m c 4 t) (iblk m c 5 t))) (ix3 0 w k) = NXT (PF m c) (WF m c) (BF m c) (2 * t.val + 1) S 0 w k := by
  refine (new_1_0 _ _ _ _ _ _ w k).trans ?_
  rw [kendf_1, decf_1, vf_1, show (fun w k => st (ix3 0 w k)) = S 0 from funext fun w => funext fun k => hS w k]
  rfl

theorem oct_1_0 (c : Dev nD) (t : Fin cfg0.N) (st : FVec Ideal S1x512x256 .f32) (S : Fin 4 → Fin 512 → Fin 256 → EReal) (hS : ∀ w k, st (ix3 0 w k) = S 0 w k) (i : Fin 64) (w : Fin 512) :
    k0_pay49 k0_pay3 k0_pay4 (k0_pay36 (LW1 m c t) (iblk m c 4 t) (iblk m c 5 t)) (k0_pay37 k0_pay4 (LW1 m c t) (iblk m c 4 t) (iblk m c 5 t)) (LQ1 m c t) (LK1 m c t) (LV1 m c t) st (ix2 i w) = OTC (PF m c) (WF m c) (BF m c) (2 * t.val + 1) S 0 i w := by
  refine (out_1_0 _ _ _ _ _ _ _ i w).trans ?_
  rw [qef_1, kef_1, qinf_1, vf_1, show (fun w k => st (ix3 0 w k)) = S 0 from funext fun w => funext fun k => hS w k]
  rfl

theorem nxt_1_1 (c : Dev nD) (t : Fin cfg0.N) (st : FVec Ideal S1x512x256 .f32) (S : Fin 4 → Fin 512 → Fin 256 → EReal) (hS : ∀ w k, st (ix3 0 w k) = S 1 w k) (w : Fin 512) (k : Fin 256) :
    k0_pay54 (k0_pay45 k0_pay4 (k0_pay36 (LW1 m c t) (iblk m c 4 t) (iblk m c 5 t)) (k0_pay37 k0_pay4 (LW1 m c t) (iblk m c 4 t) (iblk m c 5 t)) (LK1 m c t)) (k0_pay46 k0_pay4 (k0_pay36 (LW1 m c t) (iblk m c 4 t) (iblk m c 5 t)) (k0_pay37 k0_pay4 (LW1 m c t) (iblk m c 4 t) (iblk m c 5 t))) (k0_pay47 (F := Ideal) (LV1 m c t)) st (ix3 0 w k) = NXT (PF m c) (WF m c) (BF m c) (2 * t.val + 1) S 1 w k := by
  refine (new_1_1 _ _ _ _ w k).trans ?_
  rw [kendf_1, decf_1, vf_1, show (fun w k => st (ix3 0 w k)) = S 1 from funext fun w => funext fun k => hS w k]
  rfl

theorem oct_1_1 (c : Dev nD) (t : Fin cfg0.N) (st : FVec Ideal S1x512x256 .f32) (S : Fin 4 → Fin 512 → Fin 256 → EReal) (hS : ∀ w k, st (ix3 0 w k) = S 1 w k) (i : Fin 64) (w : Fin 512) :
    k0_pay53 k0_pay3 (k0_pay42 k0_pay4 (k0_pay36 (LW1 m c t) (iblk m c 4 t) (iblk m c 5 t)) (k0_pay37 k0_pay4 (LW1 m c t) (iblk m c 4 t) (iblk m c 5 t)) (LQ1 m c t)) (k0_pay43 k0_pay4 (k0_pay36 (LW1 m c t) (iblk m c 4 t) (iblk m c 5 t)) (k0_pay37 k0_pay4 (LW1 m c t) (iblk m c 4 t) (iblk m c 5 t)) (LK1 m c t)) (k0_pay44 k0_pay4 (k0_pay36 (LW1 m c t) (iblk m c 4 t) (iblk m c 5 t)) (k0_pay37 k0_pay4 (LW1 m c t) (iblk m c 4 t) (iblk m c 5 t)) (LQ1 m c t)) (k0_pay47 (F := Ideal) (LV1 m c t)) st (ix2 i w) = OTC (PF m c) (WF m c) (BF m c) (2 * t.val + 1) S 1 i w := by
  refine (out_1_1 _ _ _ _ _ i w).trans ?_
  rw [qef_1, kef_1, qinf_1, vf_1, show (fun w k => st (ix3 0 w k)) = S 1 from funext fun w => funext fun k => hS w k]
  rfl

theorem nxt_1_2 (c : Dev nD) (t : Fin cfg0.N) (st : FVec Ideal S1x512x256 .f32) (S : Fin 4 → Fin 512 → Fin 256 → EReal) (hS : ∀ w k, st (ix3 0 w k) = S 2 w k) (w : Fin 512) (k : Fin 256) :
    k0_pay58 (k0_pay45 k0_pay4 (k0_pay36 (LW1 m c t) (iblk m c 4 t) (iblk m c 5 t)) (k0_pay37 k0_pay4 (LW1 m c t) (iblk m c 4 t) (iblk m c 5 t)) (LK1 m c t)) (k0_pay46 k0_pay4 (k0_pay36 (LW1 m c t) (iblk m c 4 t) (iblk m c 5 t)) (k0_pay37 k0_pay4 (LW1 m c t) (iblk m c 4 t) (iblk m c 5 t))) (k0_pay47 (F := Ideal) (LV1 m c t)) st (ix3 0 w k) = NXT (PF m c) (WF m c) (BF m c) (2 * t.val + 1) S 2 w k := by
  refine (new_1_2 _ _ _ _ w k).trans ?_
  rw [kendf_1, decf_1, vf_1, show (fun w k => st (ix3 0 w k)) = S 2 from funext fun w => funext fun k => hS w k]
  rfl

theorem oct_1_2 (c : Dev nD) (t : Fin cfg0.N) (st : FVec Ideal S1x512x256 .f32) (S : Fin 4 → Fin 512 → Fin 256 → EReal) (hS : ∀ w k, st (ix3 0 w k) = S 2 w k) (i : Fin 64) (w : Fin 512) :
    k0_pay57 (k0_pay44 k0_pay4 (k0_pay36 (LW1 m c t) (iblk m c 4 t) (iblk m c 5 t)) (k0_pay37 k0_pay4 (LW1 m c t) (iblk m c 4 t) (iblk m c 5 t)) (LQ1 m c t)) (k0_pay47 (F := Ideal) (LV1 m c t)) (k0_pay55 k0_pay3 (k0_pay42 k0_pay4 (k0_pay36 (LW1 m c t) (iblk m c 4 t) (iblk m c 5 t)) (k0_pay37 k0_pay4 (LW1 m c t) (iblk m c 4 t) (iblk m c 5 t)) (LQ1 m c t)) (k0_pay43 k0_pay4 (k0_pay36 (LW1 m c t) (iblk m c 4 t) (iblk m c 5 t)) (k0_pay37 k0_pay4 (LW1 m c t) (iblk m c 4 t) (iblk m c 5 t)) (LK1 m c t))) st (ix2 i w) = OTC (PF m c) (WF m c) (BF m c) (2 * t.val + 1) S 2 i w := by
  refine (out_1_2 _ _ _ _ _ i w).trans ?_
  rw [qef_1, kef_1, qinf_1, vf_1, show (fun w k => st (ix3 0 w k)) = S 2 from funext fun w => funext fun k => hS w k]
  rfl

theorem nxt_1_3 (c : Dev nD) (t : Fin cfg0.N) (st : FVec Ideal S1x512x256 .f32) (S : Fin 4 → Fin 512 → Fin 256 → EReal) (hS : ∀ w k, st (ix3 0 w k) = S 3 w k) (w : Fin 512) (k : Fin 256) :
    k0_pay61 (k0_pay45 k0_pay4 (k0_pay36 (LW1 m c t) (iblk m c 4 t) (iblk m c 5 t)) (k0_pay37 k0_pay4 (LW1 m c t) (iblk m c 4 t) (iblk m c 5 t)) (LK1 m c t)) (k0_pay46 k0_pay4 (k0_pay36 (LW1 m c t) (iblk m c 4 t) (iblk m c 5 t)) (k0_pay37 k0_pay4 (LW1 m c t) (iblk m c 4 t) (iblk m c 5 t))) (k0_pay47 (F := Ideal) (LV1 m c t)) st (ix3 0 w k) = NXT (PF m c) (WF m c) (BF m c) (2 * t.val + 1) S 3 w k := by
  refine (new_1_3 _ _ _ _ w k).trans ?_
  rw [kendf_1, decf_1, vf_1, show (fun w k => st (ix3 0 w k)) = S 3 from funext fun w => funext fun k => hS w k]
  rfl

theorem oct_1_3 (c : Dev nD) (t : Fin cfg0.N) (st : FVec Ideal S1x512x256 .f32) (S : Fin 4 → Fin 512 → Fin 256 → EReal) (hS : ∀ w k, st (ix3 0 w k) = S 3 w k) (i : Fin 64) (w : Fin 512) :
    k0_pay60 k0_pay3 (k0_pay42 k0_pay4 (k0_pay36 (LW1 m c t) (iblk m c 4 t) (iblk m c 5 t)) (k0_pay37 k0_pay4 (LW1 m c t) (iblk m c 4 t) (iblk m c 5 t)) (LQ1 m c t)) (k0_pay43 k0_pay4 (k0_pay36 (LW1 m c t) (iblk m c 4 t) (iblk m c 5 t)) (k0_pay37 k0_pay4 (LW1 m c t) (iblk m c 4 t) (iblk m c 5 t)) (LK1 m c t)) (k0_pay44 k0_pay4 (k0_pay36 (LW1 m c t) (iblk m c 4 t) (iblk m c 5 t)) (k0_pay37 k0_pay4 (LW1 m c t) (iblk m c 4 t) (iblk m c 5 t)) (LQ1 m c t)) (k0_pay47 (F := Ideal) (LV1 m c t)) st (ix2 i w) = OTC (PF m c) (WF m c) (BF m c) (2 * t.val + 1) S 3 i w := by
  refine (out_1_3 _ _ _ _ _ i w).trans ?_
  rw [qef_1, kef_1, qinf_1, vf_1, show (fun w k => st (ix3 0 w k)) = S 3 from funext fun w => funext fun k => hS w k]
  rfl

end Cert.GlaSampleProof

end
-- ==== Proof.GlaSamplePoint.lean ====
/-
  THE KERNEL'S POINTS: the rows and the carried state of a grid point, from the state the point before left.
-/
module

public import proofs.«01_k».proof.Proof.GlaSampleHalf
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaSampleProof

open Cert.GlaProof

open Cert.GlaSampleIdeal Cert.GlaSampleIdeal.Gen

variable (m : (ℓ : Loc nD τ sig) → Buf (Elt Ideal) ℓ)

theorem piece_ix (x : S1x512x256.Idx) : x = ix3 0 (x 1) (x 2) :=
  funext fun a => match a with
    | ⟨0, _⟩ => Subsingleton.elim (α := Fin 1) _ _
    | ⟨1, _⟩ => rfl
    | ⟨2, _⟩ => rfl

/-- The four heads side by side, at any column. -/
theorem cats_0 (a b c d : FVec Ideal S64x512 .f32) (T : Fin 4 → Fin 64 → Fin 512 → EReal) (ha : ∀ i w, a (ix2 i w) = T 0 i w) (hb : ∀ i w, b (ix2 i w) = T 1 i w) (hc : ∀ i w, c (ix2 i w) = T 2 i w) (hd : ∀ i w, d (ix2 i w) = T 3 i w)
    (i : Fin 64) (e : Fin 2048) : k0_pay33 a b c d (ix2 i e) = T ⟨e.val / 512, by omega⟩ i ⟨e.val % 512, by omega⟩ := by
  conv_lhs => rw [VC_split e]
  generalize (⟨e.val % 512, by omega⟩ : Fin 512) = w
  generalize (⟨e.val / 512, by omega⟩ : Fin 4) = h
  match h with
  | 0 => exact (cat_0_0 a b c d i w).trans (ha i w)
  | 1 => exact (cat_0_1 a b c d i w).trans (hb i w)
  | 2 => exact (cat_0_2 a b c d i w).trans (hc i w)
  | 3 => exact (cat_0_3 a b c d i w).trans (hd i w)

/-- The four heads side by side, at any column. -/
theorem cats_1 (a b c d : FVec Ideal S64x512 .f32) (T : Fin 4 → Fin 64 → Fin 512 → EReal) (ha : ∀ i w, a (ix2 i w) = T 0 i w) (hb : ∀ i w, b (ix2 i w) = T 1 i w) (hc : ∀ i w, c (ix2 i w) = T 2 i w) (hd : ∀ i w, d (ix2 i w) = T 3 i w)
    (i : Fin 64) (e : Fin 2048) : k0_pay1 a b c d (ix2 i e) = T ⟨e.val / 512, by omega⟩ i ⟨e.val % 512, by omega⟩ := by
  conv_lhs => rw [VC_split e]
  generalize (⟨e.val % 512, by omega⟩ : Fin 512) = w
  generalize (⟨e.val / 512, by omega⟩ : Fin 4) = h
  match h with
  | 0 => exact (cat_1_0 a b c d i w).trans (ha i w)
  | 1 => exact (cat_1_1 a b c d i w).trans (hb i w)
  | 2 => exact (cat_1_2 a b c d i w).trans (hc i w)
  | 3 => exact (cat_1_3 a b c d i w).trans (hd i w)

/-- What the first chunk leaves in head 0. -/
theorem mid_0 (c : Dev nD) (t : Fin cfg0.N) (st : FVec Ideal S1x512x256 .f32) (hS : ∀ w k, st (ix3 0 w k) = ST (PF m c) (WF m c) (BF m c) (2 * t.val) 0 w k) (w : Fin 512) (k : Fin 256) :
    k0_pay21 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st (ix3 0 w k) = ST (PF m c) (WF m c) (BF m c) (2 * t.val + 1) 0 w k := by
  rw [nxt_0_0 m c t st _ hS, ST_step _ _ _ _ (by omega)]
/-- What the point leaves in head 0. -/
theorem end_0 (c : Dev nD) (t : Fin cfg0.N) (st : FVec Ideal S1x512x256 .f32) (hS : ∀ w k, st (ix3 0 w k) = ST (PF m c) (WF m c) (BF m c) (2 * t.val) 0 w k) (w : Fin 512) (k : Fin 256) :
    k0_pay51 (k0_pay45 k0_pay4 (k0_pay36 (LW1 m c t) (iblk m c 4 t) (iblk m c 5 t)) (k0_pay37 k0_pay4 (LW1 m c t) (iblk m c 4 t) (iblk m c 5 t)) (LK1 m c t)) (k0_pay47 (F := Ideal) (LV1 m c t)) (k0_pay48 (k0_pay21 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st)) (k0_pay50 k0_pay4 (k0_pay36 (LW1 m c t) (iblk m c 4 t) (iblk m c 5 t)) (k0_pay37 k0_pay4 (LW1 m c t) (iblk m c 4 t) (iblk m c 5 t))) (ix3 0 w k) = NXT (PF m c) (WF m c) (BF m c) (2 * t.val + 1) (ST (PF m c) (WF m c) (BF m c) (2 * t.val + 1)) 0 w k :=
  nxt_1_0 m c t _ _ (fun w k => mid_0 m c t st hS w k) w k

/-- What the first chunk leaves in head 1. -/
theorem mid_1 (c : Dev nD) (t : Fin cfg0.N) (st : FVec Ideal S1x512x256 .f32) (hS : ∀ w k, st (ix3 0 w k) = ST (PF m c) (WF m c) (BF m c) (2 * t.val) 1 w k) (w : Fin 512) (k : Fin 256) :
    k0_pay25 (k0_pay24 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st) (ix3 0 w k) = ST (PF m c) (WF m c) (BF m c) (2 * t.val + 1) 1 w k := by
  rw [nxt_0_1 m c t st _ hS, ST_step _ _ _ _ (by omega)]
/-- What the point leaves in head 1. -/
theorem end_1 (c : Dev nD) (t : Fin cfg0.N) (st : FVec Ideal S1x512x256 .f32) (hS : ∀ w k, st (ix3 0 w k) = ST (PF m c) (WF m c) (BF m c) (2 * t.val) 1 w k) (w : Fin 512) (k : Fin 256) :
    k0_pay54 (k0_pay45 k0_pay4 (k0_pay36 (LW1 m c t) (iblk m c 4 t) (iblk m c 5 t)) (k0_pay37 k0_pay4 (LW1 m c t) (iblk m c 4 t) (iblk m c 5 t)) (LK1 m c t)) (k0_pay46 k0_pay4 (k0_pay36 (LW1 m c t) (iblk m c 4 t) (iblk m c 5 t)) (k0_pay37 k0_pay4 (LW1 m c t) (iblk m c 4 t) (iblk m c 5 t))) (k0_pay47 (F := Ideal) (LV1 m c t)) (k0_pay25 (k0_pay24 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st)) (ix3 0 w k) = NXT (PF m c) (WF m c) (BF m c) (2 * t.val + 1) (ST (PF m c) (WF m c) (BF m c) (2 * t.val + 1)) 1 w k :=
  nxt_1_1 m c t _ _ (fun w k => mid_1 m c t st hS w k) w k

/-- What the first chunk leaves in head 2. -/
theorem mid_2 (c : Dev nD) (t : Fin cfg0.N) (st : FVec Ideal S1x512x256 .f32) (hS : ∀ w k, st (ix3 0 w k) = ST (PF m c) (WF m c) (BF m c) (2 * t.val) 2 w k) (w : Fin 512) (k : Fin 256) :
    k0_pay28 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st (ix3 0 w k) = ST (PF m c) (WF m c) (BF m c) (2 * t.val + 1) 2 w k := by
  rw [nxt_0_2 m c t st _ hS, ST_step _ _ _ _ (by omega)]
/-- What the point leaves in head 2. -/
theorem end_2 (c : Dev nD) (t : Fin cfg0.N) (st : FVec Ideal S1x512x256 .f32) (hS : ∀ w k, st (ix3 0 w k) = ST (PF m c) (WF m c) (BF m c) (2 * t.val) 2 w k) (w : Fin 512) (k : Fin 256) :
    k0_pay58 (k0_pay45 k0_pay4 (k0_pay36 (LW1 m c t) (iblk m c 4 t) (iblk m c 5 t)) (k0_pay37 k0_pay4 (LW1 m c t) (iblk m c 4 t) (iblk m c 5 t)) (LK1 m c t)) (k0_pay46 k0_pay4 (k0_pay36 (LW1 m c t) (iblk m c 4 t) (iblk m c 5 t)) (k0_pay37 k0_pay4 (LW1 m c t) (iblk m c 4 t) (iblk m c 5 t))) (k0_pay47 (F := Ideal) (LV1 m c t)) (k0_pay28 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st) (ix3 0 w k) = NXT (PF m c) (WF m c) (BF m c) (2 * t.val + 1) (ST (PF m c) (WF m c) (BF m c) (2 * t.val + 1)) 2 w k :=
  nxt_1_2 m c t _ _ (fun w k => mid_2 m c t st hS w k) w k

/-- What the first chunk leaves in head 3. -/
theorem mid_3 (c : Dev nD) (t : Fin cfg0.N) (st : FVec Ideal S1x512x256 .f32) (hS : ∀ w k, st (ix3 0 w k) = ST (PF m c) (WF m c) (BF m c) (2 * t.val) 3 w k) (w : Fin 512) (k : Fin 256) :
    k0_pay32 (k0_pay15 k0_pay4 (k0_pay6 (LW0 m c t) (iblk m c 4 t) (iblk m c 5 t)) (k0_pay7 (LW0 m c t) (iblk m c 4 t) (iblk m c 5 t)) (LK0 m c t)) (k0_pay17 (F := Ideal) (LV0 m c t)) (k0_pay29 st) (k0_pay31 (k0_pay16 k0_pay4 (k0_pay6 (LW0 m c t) (iblk m c 4 t) (iblk m c 5 t)) (k0_pay7 (LW0 m c t) (iblk m c 4 t) (iblk m c 5 t)))) (ix3 0 w k) = ST (PF m c) (WF m c) (BF m c) (2 * t.val + 1) 3 w k := by
  rw [nxt_0_3 m c t st _ hS, ST_step _ _ _ _ (by omega)]
/-- What the point leaves in head 3. -/
theorem end_3 (c : Dev nD) (t : Fin cfg0.N) (st : FVec Ideal S1x512x256 .f32) (hS : ∀ w k, st (ix3 0 w k) = ST (PF m c) (WF m c) (BF m c) (2 * t.val) 3 w k) (w : Fin 512) (k : Fin 256) :
    k0_pay61 (k0_pay45 k0_pay4 (k0_pay36 (LW1 m c t) (iblk m c 4 t) (iblk m c 5 t)) (k0_pay37 k0_pay4 (LW1 m c t) (iblk m c 4 t) (iblk m c 5 t)) (LK1 m c t)) (k0_pay46 k0_pay4 (k0_pay36 (LW1 m c t) (iblk m c 4 t) (iblk m c 5 t)) (k0_pay37 k0_pay4 (LW1 m c t) (iblk m c 4 t) (iblk m c 5 t))) (k0_pay47 (F := Ideal) (LV1 m c t)) (k0_pay32 (k0_pay15 k0_pay4 (k0_pay6 (LW0 m c t) (iblk m c 4 t) (iblk m c 5 t)) (k0_pay7 (LW0 m c t) (iblk m c 4 t) (iblk m c 5 t)) (LK0 m c t)) (k0_pay17 (F := Ideal) (LV0 m c t)) (k0_pay29 st) (k0_pay31 (k0_pay16 k0_pay4 (k0_pay6 (LW0 m c t) (iblk m c 4 t) (iblk m c 5 t)) (k0_pay7 (LW0 m c t) (iblk m c 4 t) (iblk m c 5 t))))) (ix3 0 w k) = NXT (PF m c) (WF m c) (BF m c) (2 * t.val + 1) (ST (PF m c) (WF m c) (BF m c) (2 * t.val + 1)) 3 w k :=
  nxt_1_3 m c t _ _ (fun w k => mid_3 m c t st hS w k) w k

/-- The first 64 rows a point leaves. -/
theorem rows_0 (c : Dev nD) (t : Fin cfg0.N) (st0 : FVec Ideal S1x512x256 .f32) (st1 : FVec Ideal S1x512x256 .f32) (st2 : FVec Ideal S1x512x256 .f32) (st3 : FVec Ideal S1x512x256 .f32) (hS0 : ∀ w k, st0 (ix3 0 w k) = ST (PF m c) (WF m c) (BF m c) (2 * t.val) 0 w k) (hS1 : ∀ w k, st1 (ix3 0 w k) = ST (PF m c) (WF m c) (BF m c) (2 * t.val) 1 w k) (hS2 : ∀ w k, st2 (ix3 0 w k) = ST (PF m c) (WF m c) (BF m c) (2 * t.val) 2 w k) (hS3 : ∀ w k, st3 (ix3 0 w k) = ST (PF m c) (WF m c) (BF m c) (2 * t.val) 3 w k) (i : Fin 64) (e : Fin 2048) :
    k0_pay33 (k0_pay20 (k0_pay14 k0_pay4 (k0_pay6 (LW0 m c t) (iblk m c 4 t) (iblk m c 5 t)) (k0_pay7 (LW0 m c t) (iblk m c 4 t) (iblk m c 5 t)) (LQ0 m c t)) (k0_pay17 (F := Ideal) (LV0 m c t)) (k0_pay18 k0_pay3 k0_pay4 (k0_pay6 (LW0 m c t) (iblk m c 4 t) (iblk m c 5 t)) (k0_pay7 (LW0 m c t) (iblk m c 4 t) (iblk m c 5 t)) (LQ0 m c t) (LK0 m c t)) st0) (k0_pay23 k0_pay3 (k0_pay12 k0_pay4 (k0_pay6 (LW0 m c t) (iblk m c 4 t) (iblk m c 5 t)) (k0_pay7 (LW0 m c t) (iblk m c 4 t) (iblk m c 5 t)) (LQ0 m c t)) (k0_pay13 k0_pay4 (k0_pay6 (LW0 m c t) (iblk m c 4 t) (iblk m c 5 t)) (k0_pay7 (LW0 m c t) (iblk m c 4 t) (iblk m c 5 t)) (LK0 m c t)) (k0_pay14 k0_pay4 (k0_pay6 (LW0 m c t) (iblk m c 4 t) (iblk m c 5 t)) (k0_pay7 (LW0 m c t) (iblk m c 4 t) (iblk m c 5 t)) (LQ0 m c t)) (k0_pay17 (F := Ideal) (LV0 m c t)) st1) (k0_pay27 k0_pay3 (k0_pay12 k0_pay4 (k0_pay6 (LW0 m c t) (iblk m c 4 t) (iblk m c 5 t)) (k0_pay7 (LW0 m c t) (iblk m c 4 t) (iblk m c 5 t)) (LQ0 m c t)) (k0_pay13 k0_pay4 (k0_pay6 (LW0 m c t) (iblk m c 4 t) (iblk m c 5 t)) (k0_pay7 (LW0 m c t) (iblk m c 4 t) (iblk m c 5 t)) (LK0 m c t)) (k0_pay14 k0_pay4 (k0_pay6 (LW0 m c t) (iblk m c 4 t) (iblk m c 5 t)) (k0_pay7 (LW0 m c t) (iblk m c 4 t) (iblk m c 5 t)) (LQ0 m c t)) (k0_pay17 (F := Ideal) (LV0 m c t)) st2) (k0_pay30 k0_pay3 (k0_pay12 k0_pay4 (k0_pay6 (LW0 m c t) (iblk m c 4 t) (iblk m c 5 t)) (k0_pay7 (LW0 m c t) (iblk m c 4 t) (iblk m c 5 t)) (LQ0 m c t)) (k0_pay13 k0_pay4 (k0_pay6 (LW0 m c t) (iblk m c 4 t) (iblk m c 5 t)) (k0_pay7 (LW0 m c t) (iblk m c 4 t) (iblk m c 5 t)) (LK0 m c t)) (k0_pay14 k0_pay4 (k0_pay6 (LW0 m c t) (iblk m c 4 t) (iblk m c 5 t)) (k0_pay7 (LW0 m c t) (iblk m c 4 t) (iblk m c 5 t)) (LQ0 m c t)) (k0_pay17 (F := Ideal) (LV0 m c t)) st3) (ix2 i e) = OTC (PF m c) (WF m c) (BF m c) (2 * t.val) (ST (PF m c) (WF m c) (BF m c) (2 * t.val)) ⟨e.val / 512, by omega⟩ i ⟨e.val % 512, by omega⟩ :=
  cats_0 _ _ _ _ (OTC (PF m c) (WF m c) (BF m c) (2 * t.val) (ST (PF m c) (WF m c) (BF m c) (2 * t.val))) (oct_0_0 m c t st0 _ hS0) (oct_0_1 m c t st1 _ hS1) (oct_0_2 m c t st2 _ hS2) (oct_0_3 m c t st3 _ hS3) i e
/-- The last 64 rows a point leaves. -/
theorem rows_1 (c : Dev nD) (t : Fin cfg0.N) (st0 : FVec Ideal S1x512x256 .f32) (st1 : FVec Ideal S1x512x256 .f32) (st2 : FVec Ideal S1x512x256 .f32) (st3 : FVec Ideal S1x512x256 .f32) (hS0 : ∀ w k, st0 (ix3 0 w k) = ST (PF m c) (WF m c) (BF m c) (2 * t.val) 0 w k) (hS1 : ∀ w k, st1 (ix3 0 w k) = ST (PF m c) (WF m c) (BF m c) (2 * t.val) 1 w k) (hS2 : ∀ w k, st2 (ix3 0 w k) = ST (PF m c) (WF m c) (BF m c) (2 * t.val) 2 w k) (hS3 : ∀ w k, st3 (ix3 0 w k) = ST (PF m c) (WF m c) (BF m c) (2 * t.val) 3 w k) (i : Fin 64) (e : Fin 2048) :
    k0_pay1 (k0_pay49 k0_pay3 k0_pay4 (k0_pay36 (LW1 m c t) (iblk m c 4 t) (iblk m c 5 t)) (k0_pay37 k0_pay4 (LW1 m c t) (iblk m c 4 t) (iblk m c 5 t)) (LQ1 m c t) (LK1 m c t) (LV1 m c t) (k0_pay21 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st0)) (k0_pay53 k0_pay3 (k0_pay42 k0_pay4 (k0_pay36 (LW1 m c t) (iblk m c 4 t) (iblk m c 5 t)) (k0_pay37 k0_pay4 (LW1 m c t) (iblk m c 4 t) (iblk m c 5 t)) (LQ1 m c t)) (k0_pay43 k0_pay4 (k0_pay36 (LW1 m c t) (iblk m c 4 t) (iblk m c 5 t)) (k0_pay37 k0_pay4 (LW1 m c t) (iblk m c 4 t) (iblk m c 5 t)) (LK1 m c t)) (k0_pay44 k0_pay4 (k0_pay36 (LW1 m c t) (iblk m c 4 t) (iblk m c 5 t)) (k0_pay37 k0_pay4 (LW1 m c t) (iblk m c 4 t) (iblk m c 5 t)) (LQ1 m c t)) (k0_pay47 (F := Ideal) (LV1 m c t)) (k0_pay25 (k0_pay24 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st1))) (k0_pay57 (k0_pay44 k0_pay4 (k0_pay36 (LW1 m c t) (iblk m c 4 t) (iblk m c 5 t)) (k0_pay37 k0_pay4 (LW1 m c t) (iblk m c 4 t) (iblk m c 5 t)) (LQ1 m c t)) (k0_pay47 (F := Ideal) (LV1 m c t)) (k0_pay55 k0_pay3 (k0_pay42 k0_pay4 (k0_pay36 (LW1 m c t) (iblk m c 4 t) (iblk m c 5 t)) (k0_pay37 k0_pay4 (LW1 m c t) (iblk m c 4 t) (iblk m c 5 t)) (LQ1 m c t)) (k0_pay43 k0_pay4 (k0_pay36 (LW1 m c t) (iblk m c 4 t) (iblk m c 5 t)) (k0_pay37 k0_pay4 (LW1 m c t) (iblk m c 4 t) (iblk m c 5 t)) (LK1 m c t))) (k0_pay28 (k0_pay15 k0_pay4 (k0_pay6 (LW0 m c t) (iblk m c 4 t) (iblk m c 5 t)) (k0_pay7 (LW0 m c t) (iblk m c 4 t) (iblk m c 5 t)) (LK0 m c t)) (k0_pay16 k0_pay4 (k0_pay6 (LW0 m c t) (iblk m c 4 t) (iblk m c 5 t)) (k0_pay7 (LW0 m c t) (iblk m c 4 t) (iblk m c 5 t))) (k0_pay17 (F := Ideal) (LV0 m c t)) st2)) (k0_pay60 k0_pay3 (k0_pay42 k0_pay4 (k0_pay36 (LW1 m c t) (iblk m c 4 t) (iblk m c 5 t)) (k0_pay37 k0_pay4 (LW1 m c t) (iblk m c 4 t) (iblk m c 5 t)) (LQ1 m c t)) (k0_pay43 k0_pay4 (k0_pay36 (LW1 m c t) (iblk m c 4 t) (iblk m c 5 t)) (k0_pay37 k0_pay4 (LW1 m c t) (iblk m c 4 t) (iblk m c 5 t)) (LK1 m c t)) (k0_pay44 k0_pay4 (k0_pay36 (LW1 m c t) (iblk m c 4 t) (iblk m c 5 t)) (k0_pay37 k0_pay4 (LW1 m c t) (iblk m c 4 t) (iblk m c 5 t)) (LQ1 m c t)) (k0_pay47 (F := Ideal) (LV1 m c t)) (k0_pay32 (k0_pay15 k0_pay4 (k0_pay6 (LW0 m c t) (iblk m c 4 t) (iblk m c 5 t)) (k0_pay7 (LW0 m c t) (iblk m c 4 t) (iblk m c 5 t)) (LK0 m c t)) (k0_pay17 (F := Ideal) (LV0 m c t)) (k0_pay29 st3) (k0_pay31 (k0_pay16 k0_pay4 (k0_pay6 (LW0 m c t) (iblk m c 4 t) (iblk m c 5 t)) (k0_pay7 (LW0 m c t) (iblk m c 4 t) (iblk m c 5 t)))))) (ix2 i e) = OTC (PF m c) (WF m c) (BF m c) (2 * t.val + 1) (ST (PF m c) (WF m c) (BF m c) (2 * t.val + 1)) ⟨e.val / 512, by omega⟩ i ⟨e.val % 512, by omega⟩ :=
  cats_1 _ _ _ _ (OTC (PF m c) (WF m c) (BF m c) (2 * t.val + 1) (ST (PF m c) (WF m c) (BF m c) (2 * t.val + 1))) (oct_1_0 m c t _ _ (fun w k => mid_0 m c t st0 hS0 w k)) (oct_1_1 m c t _ _ (fun w k => mid_1 m c t st1 hS1 w k)) (oct_1_2 m c t _ _ (fun w k => mid_2 m c t st2 hS2 w k)) (oct_1_3 m c t _ _ (fun w k => mid_3 m c t st3 hS3 w k)) i e

theorem emb_0 (w : Fin 512) (k : Fin 256) : (Rect.unit (s := S4x512x256) ![0, 0, 0] ![1, 512, 256] inb_S4x512x256_S1x512x256_0_0_0).emb (ix3 0 w k) = ix3 0 w k := by
  blk_ext
theorem mem_0 (w : Fin 512) (k : Fin 256) : (ix3 0 w k : S4x512x256.Idx) ∈ (Rect.unit (s := S4x512x256) ![0, 0, 0] ![1, 512, 256] inb_S4x512x256_S1x512x256_0_0_0).set :=
  Rect.mem_set_unit.2 fun a => match a with
    | ⟨0, _⟩ => ⟨Nat.le_refl 0, Nat.lt_succ_self 0⟩
    | ⟨1, _⟩ => ⟨Nat.zero_le _, (Nat.zero_add 512).symm ▸ w.isLt⟩
    | ⟨2, _⟩ => ⟨Nat.zero_le _, (Nat.zero_add 256).symm ▸ k.isLt⟩
theorem ld_0 (X : FVec Ideal S4x512x256 .f32) (w : Fin 512) (k : Fin 256) : View.ld (Val := Elt Ideal) (e' := .f32) (S := S4x512x256) X (Rect.unit ![0, 0, 0] ![1, 512, 256] inb_S4x512x256_S1x512x256_0_0_0) (ix3 (0 : Fin 1) w k) = X (ix3 0 w k) := by
  exact congrArg X (emb_0 w k)
theorem zero_0 (c : Dev nD) (t : Fin cfg0.N) (h0 : t.val % 128 = 0) (w : Fin 512) (k : Fin 256) :
    View.ld (Val := Elt Ideal) (e' := .f32) (S := S4x512x256) (k0_pay2 (F := Ideal)) (Rect.unit ![0, 0, 0] ![1, 512, 256] inb_S4x512x256_S1x512x256_0_0_0) (ix3 (0 : Fin 1) w k) = ST (PF m c) (WF m c) (BF m c) (2 * t.val) 0 w k := by
  rw [ST_reset _ _ _ _ (by omega)]
  refine (ld_0 _ w k).trans ?_
  pointwise [k0_pay2]

theorem emb_1 (w : Fin 512) (k : Fin 256) : (Rect.unit (s := S4x512x256) ![1, 0, 0] ![1, 512, 256] inb_S4x512x256_S1x512x256_1_0_0).emb (ix3 0 w k) = ix3 1 w k := by
  blk_ext
theorem mem_1 (w : Fin 512) (k : Fin 256) : (ix3 1 w k : S4x512x256.Idx) ∈ (Rect.unit (s := S4x512x256) ![1, 0, 0] ![1, 512, 256] inb_S4x512x256_S1x512x256_1_0_0).set :=
  Rect.mem_set_unit.2 fun a => match a with
    | ⟨0, _⟩ => ⟨Nat.le_refl 1, Nat.lt_succ_self 1⟩
    | ⟨1, _⟩ => ⟨Nat.zero_le _, (Nat.zero_add 512).symm ▸ w.isLt⟩
    | ⟨2, _⟩ => ⟨Nat.zero_le _, (Nat.zero_add 256).symm ▸ k.isLt⟩
theorem ld_1 (X : FVec Ideal S4x512x256 .f32) (w : Fin 512) (k : Fin 256) : View.ld (Val := Elt Ideal) (e' := .f32) (S := S4x512x256) X (Rect.unit ![1, 0, 0] ![1, 512, 256] inb_S4x512x256_S1x512x256_1_0_0) (ix3 (0 : Fin 1) w k) = X (ix3 1 w k) := by
  exact congrArg X (emb_1 w k)
theorem zero_1 (c : Dev nD) (t : Fin cfg0.N) (h0 : t.val % 128 = 0) (w : Fin 512) (k : Fin 256) :
    View.ld (Val := Elt Ideal) (e' := .f32) (S := S4x512x256) (k0_pay2 (F := Ideal)) (Rect.unit ![1, 0, 0] ![1, 512, 256] inb_S4x512x256_S1x512x256_1_0_0) (ix3 (0 : Fin 1) w k) = ST (PF m c) (WF m c) (BF m c) (2 * t.val) 1 w k := by
  rw [ST_reset _ _ _ _ (by omega)]
  refine (ld_1 _ w k).trans ?_
  pointwise [k0_pay2]

theorem emb_2 (w : Fin 512) (k : Fin 256) : (Rect.unit (s := S4x512x256) ![2, 0, 0] ![1, 512, 256] inb_S4x512x256_S1x512x256_2_0_0).emb (ix3 0 w k) = ix3 2 w k := by
  blk_ext
theorem mem_2 (w : Fin 512) (k : Fin 256) : (ix3 2 w k : S4x512x256.Idx) ∈ (Rect.unit (s := S4x512x256) ![2, 0, 0] ![1, 512, 256] inb_S4x512x256_S1x512x256_2_0_0).set :=
  Rect.mem_set_unit.2 fun a => match a with
    | ⟨0, _⟩ => ⟨Nat.le_refl 2, Nat.lt_succ_self 2⟩
    | ⟨1, _⟩ => ⟨Nat.zero_le _, (Nat.zero_add 512).symm ▸ w.isLt⟩
    | ⟨2, _⟩ => ⟨Nat.zero_le _, (Nat.zero_add 256).symm ▸ k.isLt⟩
theorem ld_2 (X : FVec Ideal S4x512x256 .f32) (w : Fin 512) (k : Fin 256) : View.ld (Val := Elt Ideal) (e' := .f32) (S := S4x512x256) X (Rect.unit ![2, 0, 0] ![1, 512, 256] inb_S4x512x256_S1x512x256_2_0_0) (ix3 (0 : Fin 1) w k) = X (ix3 2 w k) := by
  exact congrArg X (emb_2 w k)
theorem zero_2 (c : Dev nD) (t : Fin cfg0.N) (h0 : t.val % 128 = 0) (w : Fin 512) (k : Fin 256) :
    View.ld (Val := Elt Ideal) (e' := .f32) (S := S4x512x256) (k0_pay2 (F := Ideal)) (Rect.unit ![2, 0, 0] ![1, 512, 256] inb_S4x512x256_S1x512x256_2_0_0) (ix3 (0 : Fin 1) w k) = ST (PF m c) (WF m c) (BF m c) (2 * t.val) 2 w k := by
  rw [ST_reset _ _ _ _ (by omega)]
  refine (ld_2 _ w k).trans ?_
  pointwise [k0_pay2]

theorem emb_3 (w : Fin 512) (k : Fin 256) : (Rect.unit (s := S4x512x256) ![3, 0, 0] ![1, 512, 256] inb_S4x512x256_S1x512x256_3_0_0).emb (ix3 0 w k) = ix3 3 w k := by
  blk_ext
theorem mem_3 (w : Fin 512) (k : Fin 256) : (ix3 3 w k : S4x512x256.Idx) ∈ (Rect.unit (s := S4x512x256) ![3, 0, 0] ![1, 512, 256] inb_S4x512x256_S1x512x256_3_0_0).set :=
  Rect.mem_set_unit.2 fun a => match a with
    | ⟨0, _⟩ => ⟨Nat.le_refl 3, Nat.lt_succ_self 3⟩
    | ⟨1, _⟩ => ⟨Nat.zero_le _, (Nat.zero_add 512).symm ▸ w.isLt⟩
    | ⟨2, _⟩ => ⟨Nat.zero_le _, (Nat.zero_add 256).symm ▸ k.isLt⟩
theorem ld_3 (X : FVec Ideal S4x512x256 .f32) (w : Fin 512) (k : Fin 256) : View.ld (Val := Elt Ideal) (e' := .f32) (S := S4x512x256) X (Rect.unit ![3, 0, 0] ![1, 512, 256] inb_S4x512x256_S1x512x256_3_0_0) (ix3 (0 : Fin 1) w k) = X (ix3 3 w k) := by
  exact congrArg X (emb_3 w k)
theorem zero_3 (c : Dev nD) (t : Fin cfg0.N) (h0 : t.val % 128 = 0) (w : Fin 512) (k : Fin 256) :
    View.ld (Val := Elt Ideal) (e' := .f32) (S := S4x512x256) (k0_pay2 (F := Ideal)) (Rect.unit ![3, 0, 0] ![1, 512, 256] inb_S4x512x256_S1x512x256_3_0_0) (ix3 (0 : Fin 1) w k) = ST (PF m c) (WF m c) (BF m c) (2 * t.val) 3 w k := by
  rw [ST_reset _ _ _ _ (by omega)]
  refine (ld_3 _ w k).trans ?_
  pointwise [k0_pay2]

theorem out_A (c : Dev nD) (t : Fin cfg0.N) (h0 : t.val % 128 = 0) (y : S128x2048.Idx) (r : Fin 16384) (e : Fin 2048) (hr : r.val = t.val * 128 + (y 0).val) (he : e.val = (y 1).val) :
    (outsAt0 m c t.val t.isLt).1 y = SWEEP (PF m c) (WF m c) (BF m c) r e := by
  rw [outsAt0_A m c t h0]; dsimp only; frame_open
  simp (disch := decide) only [↓ View.readCov_skip, ↓ View.readCov_cons_toLoadRect, ↓ View.readCov_fill]
  frame_out
  try simp only [read_unread_whole]
  canon_tiles x hh
  · rw [eq_ix2 x]
    refine (rows_1 m c t _ _ _ _ (fun w k => zero_0 m c t h0 w k) (fun w k => zero_1 m c t h0 w k) (fun w k => zero_2 m c t h0 w k) (fun w k => zero_3 m c t h0 w k) (x 0) (x 1)).trans ?_
    unfold SWEEP
    rw [show r.val / 64 = 2 * t.val + 1 by omega]
    congr 1 <;> exact Fin.ext (by dsimp only; omega)
  · rw [eq_ix2 x]
    refine (rows_0 m c t _ _ _ _ (fun w k => zero_0 m c t h0 w k) (fun w k => zero_1 m c t h0 w k) (fun w k => zero_2 m c t h0 w k) (fun w k => zero_3 m c t h0 w k) (x 0) (x 1)).trans ?_
    unfold SWEEP
    rw [show r.val / 64 = 2 * t.val by omega]
    congr 1 <;> exact Fin.ext (by dsimp only; omega)

theorem sc_A (c : Dev nD) (t : Fin cfg0.N) (h0 : t.val % 128 = 0) (h : Fin 4) (w : Fin 512) (k : Fin 256) :
    (outsAt0 m c t.val t.isLt).2 (ix3 h w k) = NXT (PF m c) (WF m c) (BF m c) (2 * t.val + 1) (ST (PF m c) (WF m c) (BF m c) (2 * t.val + 1)) h w k := by
  rw [outsAt0_A m c t h0]; dsimp only; frame_open
  simp (disch := decide) only [↓ View.readCov_skip, ↓ View.readCov_cons_toLoadRect, ↓ View.readCov_fill]
  frame_out
  try simp only [read_unread_whole]
  refine View.canon_append_of_piecesOf (Val := Elt Ideal) (e := .f32) (fun z : S4x512x256.Idx => NXT (PF m c) (WF m c) (BF m c) (2 * t.val + 1) (ST (PF m c) (WF m c) (BF m c) (2 * t.val + 1)) (z 0) (z 1) (z 2)) _ [_, _, _, _] ⟨fun x => ?_, fun x => ?_, fun x => ?_, fun x => ?_, trivial⟩ _ ?_
  · rw [piece_ix x]
    refine (end_3 m c t _ (fun w k => zero_3 m c t h0 w k) (x 1) (x 2)).trans ?_
    exact congrArg (fun z : S4x512x256.Idx => NXT (PF m c) (WF m c) (BF m c) (2 * t.val + 1) (ST (PF m c) (WF m c) (BF m c) (2 * t.val + 1)) (z 0) (z 1) (z 2)) (emb_3 (x 1) (x 2)).symm
  · rw [piece_ix x]
    refine (end_2 m c t _ (fun w k => zero_2 m c t h0 w k) (x 1) (x 2)).trans ?_
    exact congrArg (fun z : S4x512x256.Idx => NXT (PF m c) (WF m c) (BF m c) (2 * t.val + 1) (ST (PF m c) (WF m c) (BF m c) (2 * t.val + 1)) (z 0) (z 1) (z 2)) (emb_2 (x 1) (x 2)).symm
  · rw [piece_ix x]
    refine (end_1 m c t _ (fun w k => zero_1 m c t h0 w k) (x 1) (x 2)).trans ?_
    exact congrArg (fun z : S4x512x256.Idx => NXT (PF m c) (WF m c) (BF m c) (2 * t.val + 1) (ST (PF m c) (WF m c) (BF m c) (2 * t.val + 1)) (z 0) (z 1) (z 2)) (emb_1 (x 1) (x 2)).symm
  · rw [piece_ix x]
    refine (end_0 m c t _ (fun w k => zero_0 m c t h0 w k) (x 1) (x 2)).trans ?_
    exact congrArg (fun z : S4x512x256.Idx => NXT (PF m c) (WF m c) (BF m c) (2 * t.val + 1) (ST (PF m c) (WF m c) (BF m c) (2 * t.val + 1)) (z 0) (z 1) (z 2)) (emb_0 (x 1) (x 2)).symm
  · match h with
    | 0 => exact ⟨_, List.mem_cons_of_mem _ (List.mem_cons_of_mem _ (List.mem_cons_of_mem _ List.mem_cons_self)), mem_0 w k⟩
    | 1 => exact ⟨_, List.mem_cons_of_mem _ (List.mem_cons_of_mem _ List.mem_cons_self), mem_1 w k⟩
    | 2 => exact ⟨_, List.mem_cons_of_mem _ List.mem_cons_self, mem_2 w k⟩
    | 3 => exact ⟨_, List.mem_cons_self, mem_3 w k⟩

theorem out_B (c : Dev nD) (t : Fin cfg0.N) (h0 : ¬t.val % 128 = 0) (ih : ∀ h w k, (outsAt0 m c (t.val - 1) (Nat.lt_of_le_of_lt (Nat.sub_le _ _) t.isLt)).2 (ix3 h w k) = ST (PF m c) (WF m c) (BF m c) (2 * t.val) h w k) (y : S128x2048.Idx) (r : Fin 16384) (e : Fin 2048) (hr : r.val = t.val * 128 + (y 0).val) (he : e.val = (y 1).val) :
    (outsAt0 m c t.val t.isLt).1 y = SWEEP (PF m c) (WF m c) (BF m c) r e := by
  rw [outsAt0_B m c t h0]; dsimp only; frame_open
  simp (disch := decide) only [↓ View.readCov_skip, ↓ View.readCov_cons_toLoadRect, ↓ View.readCov_fill]
  frame_out
  try simp only [read_unread_whole]
  canon_tiles x hh
  · rw [eq_ix2 x]
    refine (rows_1 m c t _ _ _ _ (fun w k => (ld_0 _ w k).trans (ih 0 w k)) (fun w k => (ld_1 _ w k).trans (ih 1 w k)) (fun w k => (ld_2 _ w k).trans (ih 2 w k)) (fun w k => (ld_3 _ w k).trans (ih 3 w k)) (x 0) (x 1)).trans ?_
    unfold SWEEP
    rw [show r.val / 64 = 2 * t.val + 1 by omega]
    congr 1 <;> exact Fin.ext (by dsimp only; omega)
  · rw [eq_ix2 x]
    refine (rows_0 m c t _ _ _ _ (fun w k => (ld_0 _ w k).trans (ih 0 w k)) (fun w k => (ld_1 _ w k).trans (ih 1 w k)) (fun w k => (ld_2 _ w k).trans (ih 2 w k)) (fun w k => (ld_3 _ w k).trans (ih 3 w k)) (x 0) (x 1)).trans ?_
    unfold SWEEP
    rw [show r.val / 64 = 2 * t.val by omega]
    congr 1 <;> exact Fin.ext (by dsimp only; omega)

theorem sc_B (c : Dev nD) (t : Fin cfg0.N) (h0 : ¬t.val % 128 = 0) (ih : ∀ h w k, (outsAt0 m c (t.val - 1) (Nat.lt_of_le_of_lt (Nat.sub_le _ _) t.isLt)).2 (ix3 h w k) = ST (PF m c) (WF m c) (BF m c) (2 * t.val) h w k) (h : Fin 4) (w : Fin 512) (k : Fin 256) :
    (outsAt0 m c t.val t.isLt).2 (ix3 h w k) = NXT (PF m c) (WF m c) (BF m c) (2 * t.val + 1) (ST (PF m c) (WF m c) (BF m c) (2 * t.val + 1)) h w k := by
  rw [outsAt0_B m c t h0]; dsimp only; frame_open
  simp (disch := decide) only [↓ View.readCov_skip, ↓ View.readCov_cons_toLoadRect, ↓ View.readCov_fill]
  frame_out
  try simp only [read_unread_whole]
  refine View.canon_append_of_piecesOf (Val := Elt Ideal) (e := .f32) (fun z : S4x512x256.Idx => NXT (PF m c) (WF m c) (BF m c) (2 * t.val + 1) (ST (PF m c) (WF m c) (BF m c) (2 * t.val + 1)) (z 0) (z 1) (z 2)) _ [_, _, _, _] ⟨fun x => ?_, fun x => ?_, fun x => ?_, fun x => ?_, trivial⟩ _ ?_
  · rw [piece_ix x]
    refine (end_3 m c t _ (fun w k => (ld_3 _ w k).trans (ih 3 w k)) (x 1) (x 2)).trans ?_
    exact congrArg (fun z : S4x512x256.Idx => NXT (PF m c) (WF m c) (BF m c) (2 * t.val + 1) (ST (PF m c) (WF m c) (BF m c) (2 * t.val + 1)) (z 0) (z 1) (z 2)) (emb_3 (x 1) (x 2)).symm
  · rw [piece_ix x]
    refine (end_2 m c t _ (fun w k => (ld_2 _ w k).trans (ih 2 w k)) (x 1) (x 2)).trans ?_
    exact congrArg (fun z : S4x512x256.Idx => NXT (PF m c) (WF m c) (BF m c) (2 * t.val + 1) (ST (PF m c) (WF m c) (BF m c) (2 * t.val + 1)) (z 0) (z 1) (z 2)) (emb_2 (x 1) (x 2)).symm
  · rw [piece_ix x]
    refine (end_1 m c t _ (fun w k => (ld_1 _ w k).trans (ih 1 w k)) (x 1) (x 2)).trans ?_
    exact congrArg (fun z : S4x512x256.Idx => NXT (PF m c) (WF m c) (BF m c) (2 * t.val + 1) (ST (PF m c) (WF m c) (BF m c) (2 * t.val + 1)) (z 0) (z 1) (z 2)) (emb_1 (x 1) (x 2)).symm
  · rw [piece_ix x]
    refine (end_0 m c t _ (fun w k => (ld_0 _ w k).trans (ih 0 w k)) (x 1) (x 2)).trans ?_
    exact congrArg (fun z : S4x512x256.Idx => NXT (PF m c) (WF m c) (BF m c) (2 * t.val + 1) (ST (PF m c) (WF m c) (BF m c) (2 * t.val + 1)) (z 0) (z 1) (z 2)) (emb_0 (x 1) (x 2)).symm
  · match h with
    | 0 => exact ⟨_, List.mem_cons_of_mem _ (List.mem_cons_of_mem _ (List.mem_cons_of_mem _ List.mem_cons_self)), mem_0 w k⟩
    | 1 => exact ⟨_, List.mem_cons_of_mem _ (List.mem_cons_of_mem _ List.mem_cons_self), mem_1 w k⟩
    | 2 => exact ⟨_, List.mem_cons_of_mem _ List.mem_cons_self, mem_2 w k⟩
    | 3 => exact ⟨_, List.mem_cons_self, mem_3 w k⟩

end Cert.GlaSampleProof

end
-- ==== Proof.GlaSampleFinal.lean ====
/-
  THE KERNEL'S RESULT: the state carried from point to point, each point's rows, and the array they fill.
-/
module

public import proofs.«01_k».proof.Proof.GlaSamplePoint
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaSampleProof

open Cert.GlaProof

open Cert.GlaSampleIdeal Cert.GlaSampleIdeal.Gen

variable (m : (ℓ : Loc nD τ sig) → Buf (Elt Ideal) ℓ)

/-- The carried state after each point. -/
theorem carried (c : Dev nD) : ∀ (n : ℕ) (hn : n < cfg0.N) (h : Fin 4) (w : Fin 512) (k : Fin 256),
    (outsAt0 m c n hn).2 (ix3 h w k) = NXT (PF m c) (WF m c) (BF m c) (2 * n + 1) (ST (PF m c) (WF m c) (BF m c) (2 * n + 1)) h w k := by
  intro n
  induction n with
  | zero => exact fun hn h w k => sc_A m c ⟨0, hn⟩ rfl h w k
  | succ n ih =>
    intro hn h w k
    by_cases h0 : (n + 1) % 128 = 0
    · exact sc_A m c ⟨n + 1, hn⟩ h0 h w k
    · refine sc_B m c ⟨n + 1, hn⟩ h0 (fun h w k => (ih (Nat.lt_of_succ_lt hn) h w k).trans ?_) h w k
      exact congrFun (congrFun (congrFun (ST_step (PF m c) (WF m c) (BF m c) (2 * n + 1) (by omega)).symm h) w) k

/-- What each point leaves in the result's block. -/
theorem point (c : Dev nD) (t : Fin cfg0.N) (y : S128x2048.Idx) (r : Fin 16384) (e : Fin 2048) (hr : r.val = t.val * 128 + (y 0).val) (he : e.val = (y 1).val) :
    (outsAt0 m c t.val t.isLt).1 y = SWEEP (PF m c) (WF m c) (BF m c) r e := by
  by_cases h0 : t.val % 128 = 0
  · exact out_A m c t h0 y r e hr he
  · refine out_B m c t h0 (fun h w k => (carried m c (t.val - 1) _ h w k).trans ?_) y r e hr he
    rw [← ST_step (PF m c) (WF m c) (BF m c) (2 * (t.val - 1) + 1) (by omega), show 2 * (t.val - 1) + 1 + 1 = 2 * t.val by omega]

/-- The result the kernel leaves: the sweep of its arguments. -/
theorem final (c : Dev nD) : (dats m 0 c).arrAt 6 cfg0.N = fun z : S16384x2048.Idx => SWEEP (PF m c) (WF m c) (BF m c) (z 0) (z 1) :=
  (dats m 0 c).arrAt_eq_of_covers 6 _ (by decide +kernel) fun t hf y => by
    blk_simp
    rw [after0_6]
    exact point m c t y _ _ (by blk_simp [idx t]) (by blk_simp [idx t])

end Cert.GlaSampleProof

end
-- ==== Proof.GlaSampleRefA.lean ====
/-
  THE REFERENCE'S INPUTS: the slices of the projections, the gate's pre-activation, and their split into chunks.
-/
module

public import proofs.«01_k».proof.Proof.GlaSampleChunk
public import proofs.«01_k».proof.Proof.Gen.GlaSampleRefIdeal.Step
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaSampleProof

open Cert.GlaProof

open Cert.GlaSampleRefIdeal Cert.GlaSampleRefIdeal.Step

/-- Row `t` of batch `b`. -/
def RW (b : Fin 1) (t : Fin 16384) : Fin 16384 := ⟨b.val * 16384 + t.val, by omega⟩
/-- Row `i` of chunk `n`, within its batch. -/
def RT (n : Fin 256) (i : Fin 64) : Fin 16384 := ⟨n.val * 64 + i.val, by omega⟩

variable (a0 : FVec Ideal S16384x11776 .f32) (a1 : FVec Ideal S16x1024 .f32) (a2 : FVec Ideal S1024 .f32)

theorem a1_at (b : Fin 1) (t : Fin 16384) (h : Fin 4) (k : Fin 256) : A_main_v1 (F := Ideal) a0 a1 a2 (ix4 b t h k) = a0 (ix2 (RW b t) ⟨9216 + (HC h k).val, by omega⟩) := by
  obtain rfl : b = 0 := Subsingleton.elim _ _
  pointwise [A_main_v1, A_main_v0, RW, HC]
theorem a3_at (b : Fin 1) (t : Fin 16384) (h : Fin 4) (k : Fin 256) : A_main_v3 (F := Ideal) a0 a1 a2 (ix4 b t h k) = a0 (ix2 (RW b t) ⟨9216 + (HC h k).val, by omega⟩) * Ideal.ofBits .f32 0x3D800000#32 := by
  obtain rfl : b = 0 := Subsingleton.elim _ _
  refine (show _ = A_main_v1 (F := Ideal) a0 a1 a2 (ix4 (0 : Fin 1) t h k) * Ideal.ofBits .f32 0x3D800000#32 by pointwise [A_main_v3, K_main_v2, K_main_cst]).trans ?_
  rw [a1_at]
theorem a5_at (b : Fin 1) (t : Fin 16384) (h : Fin 4) (k : Fin 256) : A_main_v5 (F := Ideal) a0 a1 a2 (ix4 b t h k) = a0 (ix2 (RW b t) ⟨10240 + (HC h k).val, by omega⟩) := by
  obtain rfl : b = 0 := Subsingleton.elim _ _
  pointwise [A_main_v5, A_main_v4, RW, HC]
theorem a7_at (b : Fin 1) (t : Fin 16384) (h : Fin 4) (w : Fin 512) : A_main_v7 (F := Ideal) a0 a1 a2 (ix4 b t h w) = a0 (ix2 (RW b t) ⟨4096 + (VC h w).val, by omega⟩) := by
  obtain rfl : b = 0 := Subsingleton.elim _ _
  pointwise [A_main_v7, A_main_v6, RW, VC]
theorem a9_at (b : Fin 1) (t : Fin 16384) (l : Fin 16) : A_main_v9 (F := Ideal) a0 a1 a2 (ix3 b t l) = a0 (ix2 (RW b t) ⟨11328 + l.val, by omega⟩) := by
  obtain rfl : b = 0 := Subsingleton.elim _ _
  pointwise [A_main_v9, A_main_v8, RW]
theorem a10_at (b : Fin 1) (t : Fin 16384) (c : Fin 1024) : A_main_v10 (F := Ideal) a0 a1 a2 (ix3 b t c) = ∑ l : Fin 16, A_main_v9 (F := Ideal) a0 a1 a2 (ix3 b t l) * a1 (ix2 l c) := by
  obtain rfl : b = 0 := Subsingleton.elim _ _
  pointwise [A_main_v10]
theorem a12_at (b : Fin 1) (t : Fin 16384) (c : Fin 1024) : A_main_v12 (F := Ideal) a0 a1 a2 (ix3 b t c) = a2 (ix1 c) := by
  obtain rfl : b = 0 := Subsingleton.elim _ _
  pointwise [A_main_v12, A_main_v11]
/-- The gate's pre-activation. -/
theorem a13_at (b : Fin 1) (t : Fin 16384) (c : Fin 1024) : A_main_v13 (F := Ideal) a0 a1 a2 (ix3 b t c) = PRE (fun r c => a0 (ix2 r c)) (fun r c => a1 (ix2 r c)) (fun c => a2 (ix1 c)) (RW b t) c := by
  obtain rfl : b = 0 := Subsingleton.elim _ _
  refine (show _ = A_main_v10 (F := Ideal) a0 a1 a2 (ix3 (0 : Fin 1) t c) + A_main_v12 (F := Ideal) a0 a1 a2 (ix3 (0 : Fin 1) t c) by pointwise [A_main_v13]).trans ?_
  rw [a10_at, a12_at]
  simp only [a9_at]
  rfl
theorem a20_at (b : Fin 1) (n : Fin 256) (i : Fin 64) (h : Fin 4) (k : Fin 256) : A_main_v20 (F := Ideal) a0 a1 a2 (ix5 b n i h k) = A_main_v3 (F := Ideal) a0 a1 a2 (ix4 b (RT n i) h k) := by
  obtain rfl : b = 0 := Subsingleton.elim _ _
  pointwise [A_main_v20, RT]
theorem a21_at (b : Fin 1) (n : Fin 256) (i : Fin 64) (h : Fin 4) (k : Fin 256) : A_main_v21 (F := Ideal) a0 a1 a2 (ix5 b n i h k) = A_main_v5 (F := Ideal) a0 a1 a2 (ix4 b (RT n i) h k) := by
  obtain rfl : b = 0 := Subsingleton.elim _ _
  pointwise [A_main_v21, RT]
theorem a22_at (b : Fin 1) (n : Fin 256) (i : Fin 64) (h : Fin 4) (w : Fin 512) : A_main_v22 (F := Ideal) a0 a1 a2 (ix5 b n i h w) = A_main_v7 (F := Ideal) a0 a1 a2 (ix4 b (RT n i) h w) := by
  obtain rfl : b = 0 := Subsingleton.elim _ _
  pointwise [A_main_v22, RT]
theorem a23_at (b : Fin 1) (n : Fin 256) (i : Fin 64) (h : Fin 4) (k : Fin 256) : A_main_v23 (F := Ideal) a0 a1 a2 (ix5 b n i h k) = A_main_v18 (F := Ideal) a0 a1 a2 (ix3 b (RT n i) (HC h k)) := by
  obtain rfl : b = 0 := Subsingleton.elim _ _
  refine (show _ = A_main_v19 (F := Ideal) a0 a1 a2 (ix4 (0 : Fin 1) (RT n i) h k) by pointwise [A_main_v23, RT]).trans ?_
  pointwise [A_main_v19, RT, HC]

end Cert.GlaSampleProof

end
-- ==== Proof.GlaSampleRefB.lean ====
/-
  THE REFERENCE'S LOG-DECAY: the log-sigmoid of the pre-activation over 16.
-/
module

public import proofs.«01_k».proof.Proof.GlaSampleRefA
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaSampleProof

open Cert.GlaProof

open Cert.GlaSampleRefIdeal Cert.GlaSampleRefIdeal.Step

variable (a0 : FVec Ideal S16384x11776 .f32) (a1 : FVec Ideal S16x1024 .f32) (a2 : FVec Ideal S1024 .f32)
theorem a14_at (b : Fin 1) (t : Fin 16384) (c : Fin 1024) : A_main_v14 (F := Ideal) a0 a1 a2 (ix3 b t c) = 0 - A_main_v13 (F := Ideal) a0 a1 a2 (ix3 b t c) := by
  obtain rfl : b = 0 := Subsingleton.elim _ _
  refine (show _ = -(A_main_v13 (F := Ideal) a0 a1 a2 (ix3 (0 : Fin 1) t c)) by pointwise [A_main_v14]).trans ?_
  exact (zero_sub _).symm
theorem s1_at (b : Fin 1) (t : Fin 16384) (c : Fin 1024) : A_main_call0_v1 (F := Ideal) a0 a1 a2 (ix3 b t c) = max (A_main_v14 (F := Ideal) a0 a1 a2 (ix3 b t c)) 0 := by
  obtain rfl : b = 0 := Subsingleton.elim _ _
  pointwise [A_main_call0_v1, K_main_call0_v0, K_main_call0_cst]
theorem s3_at (b : Fin 1) (t : Fin 16384) (c : Fin 1024) : A_main_call0_v3 (F := Ideal) a0 a1 a2 (ix3 b t c) = A_main_v14 (F := Ideal) a0 a1 a2 (ix3 b t c) := by
  obtain rfl : b = 0 := Subsingleton.elim _ _
  refine (show _ = A_main_v14 (F := Ideal) a0 a1 a2 (ix3 (0 : Fin 1) t c) - 0 by pointwise [A_main_call0_v3, K_main_call0_v2, K_main_call0_cst]).trans ?_
  exact sub_zero _
theorem s7_at (b : Fin 1) (t : Fin 16384) (c : Fin 1024) : A_main_call0_v7 (F := Ideal) a0 a1 a2 (ix3 b t c) = max (A_main_v14 (F := Ideal) a0 a1 a2 (ix3 b t c)) (-(A_main_v14 (F := Ideal) a0 a1 a2 (ix3 b t c))) := by
  obtain rfl : b = 0 := Subsingleton.elim _ _
  rw [← s3_at]
  exact (show _ = _ by rfl)
theorem s8_at (b : Fin 1) (t : Fin 16384) (c : Fin 1024) : A_main_call0_v8 (F := Ideal) a0 a1 a2 (ix3 b t c) = 0 - A_main_call0_v7 (F := Ideal) a0 a1 a2 (ix3 b t c) := by
  obtain rfl : b = 0 := Subsingleton.elim _ _
  refine (show _ = -(A_main_call0_v7 (F := Ideal) a0 a1 a2 (ix3 (0 : Fin 1) t c)) by pointwise [A_main_call0_v8]).trans ?_
  exact (zero_sub _).symm
theorem s10_at (b : Fin 1) (t : Fin 16384) (c : Fin 1024) : A_main_call0_v10 (F := Ideal) a0 a1 a2 (ix3 b t c) = Ideal.log1p (Ideal.exp (A_main_call0_v8 (F := Ideal) a0 a1 a2 (ix3 b t c))) := by
  obtain rfl : b = 0 := Subsingleton.elim _ _
  pointwise [A_main_call0_v10, A_main_call0_v9]
theorem s11_at (b : Fin 1) (t : Fin 16384) (c : Fin 1024) : A_main_call0_v11 (F := Ideal) a0 a1 a2 (ix3 b t c) = A_main_call0_v1 (F := Ideal) a0 a1 a2 (ix3 b t c) + A_main_call0_v10 (F := Ideal) a0 a1 a2 (ix3 b t c) := by
  obtain rfl : b = 0 := Subsingleton.elim _ _
  pointwise [A_main_call0_v11]
/-- No number differs from itself, so the softplus keeps its second branch. -/
theorem s15_at (b : Fin 1) (t : Fin 16384) (c : Fin 1024) : A_main_v15 (F := Ideal) a0 a1 a2 (ix3 b t c) = A_main_call0_v11 (F := Ideal) a0 a1 a2 (ix3 b t c) := by
  obtain rfl : b = 0 := Subsingleton.elim _ _
  refine (show _ = if A_main_call0_v3 (F := Ideal) a0 a1 a2 (ix3 (0 : Fin 1) t c) ≠ A_main_call0_v3 (F := Ideal) a0 a1 a2 (ix3 (0 : Fin 1) t c) then A_main_call0_v6 (F := Ideal) a0 a1 a2 (ix3 (0 : Fin 1) t c) else A_main_call0_v11 (F := Ideal) a0 a1 a2 (ix3 (0 : Fin 1) t c) by pointwise [A_main_v15, A_main_call0_v4]).trans ?_
  exact if_neg fun hne => hne rfl
theorem s18_at (b : Fin 1) (t : Fin 16384) (c : Fin 1024) : A_main_v18 (F := Ideal) a0 a1 a2 (ix3 b t c) = Ideal.div (0 - A_main_v15 (F := Ideal) a0 a1 a2 (ix3 b t c)) (Ideal.ofBits .f32 0x41800000#32) := by
  obtain rfl : b = 0 := Subsingleton.elim _ _
  refine (show _ = Ideal.div (-(A_main_v15 (F := Ideal) a0 a1 a2 (ix3 (0 : Fin 1) t c))) (Ideal.ofBits .f32 0x41800000#32) by pointwise [A_main_v18, A_main_v16, K_main_v17, K_main_cst_0]).trans ?_
  exact congrArg (fun z => Ideal.div z _) (zero_sub _).symm
/-- The log-decay. -/
theorem gks_at (b : Fin 1) (t : Fin 16384) (c : Fin 1024) : A_main_v18 (F := Ideal) a0 a1 a2 (ix3 b t c) = GKS (PRE (fun r c => a0 (ix2 r c)) (fun r c => a1 (ix2 r c)) (fun c => a2 (ix1 c)) (RW b t) c) := by
  obtain rfl : b = 0 := Subsingleton.elim _ _
  rw [s18_at, s15_at, s11_at, s10_at, s8_at, s7_at, s1_at, a14_at, a13_at]
  rfl

end Cert.GlaSampleProof

end
-- ==== Proof.GlaSampleRefC.lean ====
/-
  RUNNING SUMS DOWN EACH CHUNK, on the reference's side.
-/
module

public import proofs.«01_k».proof.Proof.GlaSampleRefB
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaSampleProof

open Cert.GlaProof

open Cert.GlaSampleRefIdeal Cert.GlaSampleRefIdeal.Step

/-- The window of one column of 64 rows. -/
abbrev W5 : Shape := ⟨5, ![1, 1, 64, 1, 1]⟩
theorem w5_numel : W5.numel = 64 := by decide
theorem w5_lt (n : Fin W5.numel) : n.val < 64 := lt_of_lt_of_eq n.isLt w5_numel
theorem w5_one0 (p : W5.Idx) : (p 0).val = 0 := Nat.lt_one_iff.1 (p 0).isLt
theorem w5_one1 (p : W5.Idx) : (p 1).val = 0 := Nat.lt_one_iff.1 (p 1).isLt
theorem w5_one3 (p : W5.Idx) : (p 3).val = 0 := Nat.lt_one_iff.1 (p 3).isLt
theorem w5_one4 (p : W5.Idx) : (p 4).val = 0 := Nat.lt_one_iff.1 (p 4).isLt
/-- Position `n` of the window is its row `n`. -/
theorem w5_row (n : Fin W5.numel) : (W5.rowMajor.symm n 2).val = n.val := by
  have e : (W5.rowMajor (W5.rowMajor.symm n)).val = n.val := congrArg Fin.val (Equiv.apply_symm_apply _ _)
  have f := (Shape.rowMajor_val_five (W5.rowMajor.symm n)).symm.trans e
  have h0 := w5_one0 (W5.rowMajor.symm n)
  have h1 := w5_one1 (W5.rowMajor.symm n)
  have h3 := w5_one3 (W5.rowMajor.symm n)
  have h4 := w5_one4 (W5.rowMajor.symm n)
  change (((((W5.rowMajor.symm n 0).val * 1 + (W5.rowMajor.symm n 1).val) * 64 + (W5.rowMajor.symm n 2).val) * 1 + (W5.rowMajor.symm n 3).val) * 1 + (W5.rowMajor.symm n 4).val) = n.val at f
  omega

/-- Adding up a list's values from a start value. -/
theorem foldl_plus (g : Fin W5.numel → EReal) (l : List (Fin W5.numel)) (v : EReal) : l.foldl (fun r n => r + g n) v = v + (l.map g).sum := by
  induction l generalizing v with
  | nil => simp
  | cons a l ih => simp [ih, add_assoc]

/-- The 64 entries a window ending at row `i` covers, those above the chunk counted as zero, are the chunk's first `i + 1` rows. -/
theorem window_sum (g : Fin 64 → EReal) (i : Fin 64) :
    (∑ n : Fin W5.numel, if h : 63 ≤ i.val + n.val then g ⟨i.val + n.val - 63, by have := w5_lt n; omega⟩ else 0) = CUM g i := by
  unfold CUM
  have e : ∀ n : Fin W5.numel, (if h : 63 ≤ i.val + n.val then g ⟨i.val + n.val - 63, by have := w5_lt n; omega⟩ else 0)
      = if 63 ≤ i.val + n.val then g ⟨(i.val + n.val - 63) % 64, Nat.mod_lt _ (by omega)⟩ else 0 := fun n => by
    have := w5_lt n
    split
    · exact congrArg g (Fin.ext (by show _ = _ % 64; rw [Nat.mod_eq_of_lt (by omega)]))
    · rfl
  rw [Finset.sum_congr rfl fun n _ => e n, ← Finset.sum_filter, ← Finset.sum_filter]
  refine Finset.sum_nbij' (fun n => ⟨(i.val + n.val - 63) % 64, Nat.mod_lt _ (by omega)⟩) (fun j => ⟨(j.val + 63 - i.val) % 64, by rw [w5_numel]; exact Nat.mod_lt _ (by omega)⟩) ?_ ?_ ?_ ?_ ?_
  · intro n hn
    have := w5_lt n
    rw [Finset.mem_filter] at hn ⊢
    refine ⟨Finset.mem_univ _, ?_⟩
    show (i.val + n.val - 63) % 64 ≤ i.val
    omega
  · intro j hj
    rw [Finset.mem_filter] at hj ⊢
    have h2 := hj.2
    refine ⟨Finset.mem_univ _, ?_⟩
    show 63 ≤ i.val + (j.val + 63 - i.val) % 64
    omega
  · intro n hn
    have := w5_lt n
    rw [Finset.mem_filter] at hn
    have h2 := hn.2
    refine Fin.ext ?_
    show ((i.val + n.val - 63) % 64 + 63 - i.val) % 64 = n.val
    omega
  · intro j hj
    rw [Finset.mem_filter] at hj
    have h2 := hj.2
    refine Fin.ext ?_
    show (i.val + (j.val + 63 - i.val) % 64 - 63) % 64 = j.val
    omega
  · intro n hn
    rfl

/-- The running sums of the log-decays down each chunk. -/
theorem window_at (x : FVec Ideal S1x256x64x4x256 .f32) (z : FVec Ideal S_ .f32) (hz : ∀ q, z q = 0)
    (hw : S1x256x64x4x256.ReduceWindows (![1, 1, 64, 1, 1] : Fin 5 → Nat) ![1, 1, 1, 1, 1] ![0, 0, 63, 0, 0] ![0, 0, 0, 0, 0] S1x256x64x4x256) (hu : 0 < S_.numel)
    (b : Fin 1) (n : Fin 256) (i : Fin 64) (h : Fin 4) (k : Fin 256) :
    Host.reduceWindowAdd (F := Ideal) ![1, 1, 64, 1, 1] ![1, 1, 1, 1, 1] ![0, 0, 63, 0, 0] ![0, 0, 0, 0, 0] x z hw hu (ix5 b n i h k) = CUM (fun j => x (ix5 b n j h k)) i := by
  have hv : z (Shape.Idx.first hu) = 0 := hz _
  let G : Fin W5.numel → EReal := fun q => if hc : 63 ≤ i.val + q.val then x (ix5 b n ⟨i.val + q.val - 63, by have := w5_lt q; omega⟩ h k) else 0
  refine Eq.trans ?_ ((foldl_plus G (List.finRange W5.numel) 0).trans ((zero_add _).trans ((Fin.sum_univ_def G).symm.trans (window_sum (fun j => x (ix5 b n j h k)) i))))
  show Ideal.hostReduceWindowAdd _ _ _ _ hw x (z (Shape.Idx.first hu)) (ix5 b n i h k) = _
  rw [hv]
  unfold Ideal.hostReduceWindowAdd Host.reduceWindow
  have hf : ∀ (f g : EReal → Fin W5.numel → EReal), (∀ r q, f r q = g r q) → List.foldl f 0 (List.finRange W5.numel) = List.foldl g 0 (List.finRange W5.numel) := fun f g hfg => by
    rw [funext fun r => funext fun q => hfg r q]
  refine hf _ _ fun r q => ?_
  refine congrArg (r + ·) ?_
  show _ = if hc : 63 ≤ i.val + q.val then x (ix5 b n ⟨i.val + q.val - 63, by have := w5_lt q; omega⟩ h k) else 0
  have hq := w5_lt q
  have h0 := w5_one0 (W5.rowMajor.symm q)
  have h1 := w5_one1 (W5.rowMajor.symm q)
  have h2 := w5_row q
  have h3 := w5_one3 (W5.rowMajor.symm q)
  have h4 := w5_one4 (W5.rowMajor.symm q)
  by_cases hc : 63 ≤ i.val + q.val
  · rw [dif_pos hc]
    refine (dif_pos fun a => ?_).trans (congrArg x (funext fun a => Fin.ext ?_))
    · match a with
      | ⟨0, _⟩ => show 0 ≤ b.val * 1 + (W5.rowMajor.symm q 0).val ∧ b.val * 1 + (W5.rowMajor.symm q 0).val - 0 < 1; omega
      | ⟨1, _⟩ => show 0 ≤ n.val * 1 + (W5.rowMajor.symm q 1).val ∧ n.val * 1 + (W5.rowMajor.symm q 1).val - 0 < 256; omega
      | ⟨2, _⟩ => show 63 ≤ i.val * 1 + (W5.rowMajor.symm q 2).val ∧ i.val * 1 + (W5.rowMajor.symm q 2).val - 63 < 64; omega
      | ⟨3, _⟩ => show 0 ≤ h.val * 1 + (W5.rowMajor.symm q 3).val ∧ h.val * 1 + (W5.rowMajor.symm q 3).val - 0 < 4; omega
      | ⟨4, _⟩ => show 0 ≤ k.val * 1 + (W5.rowMajor.symm q 4).val ∧ k.val * 1 + (W5.rowMajor.symm q 4).val - 0 < 256; omega
    · match a with
      | ⟨0, _⟩ => show b.val * 1 + (W5.rowMajor.symm q 0).val - 0 = b.val; omega
      | ⟨1, _⟩ => show n.val * 1 + (W5.rowMajor.symm q 1).val - 0 = n.val; omega
      | ⟨2, _⟩ => show i.val * 1 + (W5.rowMajor.symm q 2).val - 63 = i.val + q.val - 63; omega
      | ⟨3, _⟩ => show h.val * 1 + (W5.rowMajor.symm q 3).val - 0 = h.val; omega
      | ⟨4, _⟩ => show k.val * 1 + (W5.rowMajor.symm q 4).val - 0 = k.val; omega
  · rw [dif_neg hc]
    refine dif_neg fun hin => hc ?_
    have h5 := (hin 2).1
    change 63 ≤ i.val * 1 + (W5.rowMajor.symm q 2).val at h5
    omega

end Cert.GlaSampleProof

end
-- ==== Proof.GlaSampleRefD.lean ====
/-
  THE REFERENCE'S CHUNK OPERANDS: the decayed queries and keys of every chunk.
-/
module

public import proofs.«01_k».proof.Proof.GlaSampleRefC
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaSampleProof

open Cert.GlaProof

open Cert.GlaSampleRefIdeal Cert.GlaSampleRefIdeal.Step

variable (a0 : FVec Ideal S16384x11776 .f32) (a1 : FVec Ideal S16x1024 .f32) (a2 : FVec Ideal S1024 .f32)
/-- The number of chunk `n` of batch `b` among all 256. -/
def CH (b : Fin 1) (n : Fin 256) : ℕ := b.val * 256 + n.val
theorem row_ch (b : Fin 1) (n : Fin 256) (i : Fin 64) : RW b (RT n i) = ROW (CH b n) i := by
  obtain rfl : b = 0 := Subsingleton.elim _ _
  refine Fin.ext ?_
  show (0 : Fin 1).val * 16384 + (n.val * 64 + i.val) = (64 * ((0 : Fin 1).val * 256 + n.val) + i.val) % 16384
  omega

/-- The running sum of the log-decays. -/
theorem a24_at (b : Fin 1) (n : Fin 256) (i : Fin 64) (h : Fin 4) (k : Fin 256) : A_main_v24 (F := Ideal) a0 a1 a2 (ix5 b n i h k) = GC (fun r c => a0 (ix2 r c)) (fun r c => a1 (ix2 r c)) (fun c => a2 (ix1 c)) (CH b n) i (HC h k) := by
  obtain rfl : b = 0 := Subsingleton.elim _ _
  unfold A_main_v24
  refine (window_at _ _ (fun q => (show _ = (0 : EReal) by pointwise [K_main_call1_call0_v0, K_main_call1_call0_cst])) _ _ (0 : Fin 1) n i h k).trans ?_
  unfold GC
  refine congrArg (fun f => CUM f i) (funext fun j => ?_)
  rw [a23_at, gks_at, row_ch]
theorem a26_at (b : Fin 1) (n : Fin 256) (i : Fin 64) (h : Fin 4) (k : Fin 256) : A_main_v26 (F := Ideal) a0 a1 a2 (ix5 b n i h k) = A_main_v24 (F := Ideal) a0 a1 a2 (ix5 b n 31 h k) := by
  obtain rfl : b = 0 := Subsingleton.elim _ _
  pointwise [A_main_v26, A_main_v25]
theorem a30_at (b : Fin 1) (n : Fin 256) (i : Fin 64) (h : Fin 4) (k : Fin 256) : A_main_v30 (F := Ideal) a0 a1 a2 (ix5 b n i h k) = A_main_v24 (F := Ideal) a0 a1 a2 (ix5 b n 31 h k) := by
  obtain rfl : b = 0 := Subsingleton.elim _ _
  pointwise [A_main_v30, A_main_v25]
theorem a43_at (b : Fin 1) (n : Fin 256) (i : Fin 64) (h : Fin 4) (k : Fin 256) : A_main_v43 (F := Ideal) a0 a1 a2 (ix5 b n i h k) = A_main_v24 (F := Ideal) a0 a1 a2 (ix5 b n 63 h k) := by
  obtain rfl : b = 0 := Subsingleton.elim _ _
  pointwise [A_main_v43, A_main_v42]
theorem a28_at (b : Fin 1) (n : Fin 256) (i : Fin 64) (h : Fin 4) (k : Fin 256) : A_main_v28 (F := Ideal) a0 a1 a2 (ix5 b n i h k) = Ideal.exp (A_main_v24 (F := Ideal) a0 a1 a2 (ix5 b n i h k) - A_main_v26 (F := Ideal) a0 a1 a2 (ix5 b n i h k)) := by
  obtain rfl : b = 0 := Subsingleton.elim _ _
  pointwise [A_main_v28, A_main_v27]
theorem a32_at (b : Fin 1) (n : Fin 256) (i : Fin 64) (h : Fin 4) (k : Fin 256) : A_main_v32 (F := Ideal) a0 a1 a2 (ix5 b n i h k) = Ideal.exp (A_main_v30 (F := Ideal) a0 a1 a2 (ix5 b n i h k) - A_main_v24 (F := Ideal) a0 a1 a2 (ix5 b n i h k)) := by
  obtain rfl : b = 0 := Subsingleton.elim _ _
  pointwise [A_main_v32, A_main_v31]
theorem a45_at (b : Fin 1) (n : Fin 256) (i : Fin 64) (h : Fin 4) (k : Fin 256) : A_main_v45 (F := Ideal) a0 a1 a2 (ix5 b n i h k) = Ideal.exp (A_main_v43 (F := Ideal) a0 a1 a2 (ix5 b n i h k) - A_main_v24 (F := Ideal) a0 a1 a2 (ix5 b n i h k)) := by
  obtain rfl : b = 0 := Subsingleton.elim _ _
  pointwise [A_main_v45, A_main_v44]
theorem a40_at (b : Fin 1) (n : Fin 256) (i : Fin 64) (h : Fin 4) (k : Fin 256) : A_main_v40 (F := Ideal) a0 a1 a2 (ix5 b n i h k) = Ideal.exp (A_main_v24 (F := Ideal) a0 a1 a2 (ix5 b n i h k)) := by
  obtain rfl : b = 0 := Subsingleton.elim _ _
  pointwise [A_main_v40]
theorem m29_at (b : Fin 1) (n : Fin 256) (i : Fin 64) (h : Fin 4) (k : Fin 256) : A_main_v29 (F := Ideal) a0 a1 a2 (ix5 b n i h k) = A_main_v20 (F := Ideal) a0 a1 a2 (ix5 b n i h k) * A_main_v28 (F := Ideal) a0 a1 a2 (ix5 b n i h k) := by
  obtain rfl : b = 0 := Subsingleton.elim _ _
  pointwise [A_main_v29]
theorem m33_at (b : Fin 1) (n : Fin 256) (i : Fin 64) (h : Fin 4) (k : Fin 256) : A_main_v33 (F := Ideal) a0 a1 a2 (ix5 b n i h k) = A_main_v21 (F := Ideal) a0 a1 a2 (ix5 b n i h k) * A_main_v32 (F := Ideal) a0 a1 a2 (ix5 b n i h k) := by
  obtain rfl : b = 0 := Subsingleton.elim _ _
  pointwise [A_main_v33]
theorem m41_at (b : Fin 1) (n : Fin 256) (i : Fin 64) (h : Fin 4) (k : Fin 256) : A_main_v41 (F := Ideal) a0 a1 a2 (ix5 b n i h k) = A_main_v20 (F := Ideal) a0 a1 a2 (ix5 b n i h k) * A_main_v40 (F := Ideal) a0 a1 a2 (ix5 b n i h k) := by
  obtain rfl : b = 0 := Subsingleton.elim _ _
  pointwise [A_main_v41]
theorem m46_at (b : Fin 1) (n : Fin 256) (i : Fin 64) (h : Fin 4) (k : Fin 256) : A_main_v46 (F := Ideal) a0 a1 a2 (ix5 b n i h k) = A_main_v21 (F := Ideal) a0 a1 a2 (ix5 b n i h k) * A_main_v45 (F := Ideal) a0 a1 a2 (ix5 b n i h k) := by
  obtain rfl : b = 0 := Subsingleton.elim _ _
  pointwise [A_main_v46]

theorem a29_at (b : Fin 1) (n : Fin 256) (i : Fin 64) (h : Fin 4) (k : Fin 256) : A_main_v29 (F := Ideal) a0 a1 a2 (ix5 b n i h k) = QE (fun r c => a0 (ix2 r c)) (fun r c => a1 (ix2 r c)) (fun c => a2 (ix1 c)) (CH b n) i (HC h k) := by
  obtain rfl : b = 0 := Subsingleton.elim _ _
  rw [m29_at, a20_at, a3_at, a28_at, a26_at, a24_at, a24_at, row_ch]
  rfl
theorem a33_at (b : Fin 1) (n : Fin 256) (i : Fin 64) (h : Fin 4) (k : Fin 256) : A_main_v33 (F := Ideal) a0 a1 a2 (ix5 b n i h k) = KE (fun r c => a0 (ix2 r c)) (fun r c => a1 (ix2 r c)) (fun c => a2 (ix1 c)) (CH b n) i (HC h k) := by
  obtain rfl : b = 0 := Subsingleton.elim _ _
  rw [m33_at, a21_at, a5_at, a32_at, a30_at, a24_at, a24_at, row_ch]
  rfl
theorem a41_at (b : Fin 1) (n : Fin 256) (i : Fin 64) (h : Fin 4) (k : Fin 256) : A_main_v41 (F := Ideal) a0 a1 a2 (ix5 b n i h k) = QIN (fun r c => a0 (ix2 r c)) (fun r c => a1 (ix2 r c)) (fun c => a2 (ix1 c)) (CH b n) i (HC h k) := by
  obtain rfl : b = 0 := Subsingleton.elim _ _
  rw [m41_at, a20_at, a3_at, a40_at, a24_at, row_ch]
  rfl
theorem a46_at (b : Fin 1) (n : Fin 256) (i : Fin 64) (h : Fin 4) (k : Fin 256) : A_main_v46 (F := Ideal) a0 a1 a2 (ix5 b n i h k) = KEND (fun r c => a0 (ix2 r c)) (fun r c => a1 (ix2 r c)) (fun c => a2 (ix1 c)) (CH b n) i (HC h k) := by
  obtain rfl : b = 0 := Subsingleton.elim _ _
  rw [m46_at, a21_at, a5_at, a45_at, a43_at, a24_at, a24_at, row_ch]
  rfl
theorem a22v_at (b : Fin 1) (n : Fin 256) (i : Fin 64) (h : Fin 4) (w : Fin 512) : A_main_v22 (F := Ideal) a0 a1 a2 (ix5 b n i h w) = VV (fun r c => a0 (ix2 r c)) (CH b n) i (VC h w) := by
  obtain rfl : b = 0 := Subsingleton.elim _ _
  rw [a22_at, a7_at, row_ch]
  rfl
theorem a49_at (b : Fin 1) (n : Fin 256) (h : Fin 4) (k : Fin 256) : A_main_v49 (F := Ideal) a0 a1 a2 (ix4 b n h k) = DEC (fun r c => a0 (ix2 r c)) (fun r c => a1 (ix2 r c)) (fun c => a2 (ix1 c)) (CH b n) (HC h k) := by
  obtain rfl : b = 0 := Subsingleton.elim _ _
  refine (show _ = Ideal.exp (A_main_v48 (F := Ideal) a0 a1 a2 (ix4 (0 : Fin 1) n h k)) by pointwise [A_main_v49]).trans ?_
  refine (congrArg Ideal.exp (show A_main_v48 (F := Ideal) a0 a1 a2 (ix4 (0 : Fin 1) n h k) = A_main_v24 (F := Ideal) a0 a1 a2 (ix5 (0 : Fin 1) n 63 h k) by pointwise [A_main_v48, A_main_v47])).trans ?_
  rw [a24_at]
  rfl

end Cert.GlaSampleProof

end
-- ==== Proof.GlaSampleRefE.lean ====
/-
  THE REFERENCE'S PART OF A CHUNK WITHIN ITSELF.
-/
module

public import proofs.«01_k».proof.Proof.GlaSampleRefD
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaSampleProof

open Cert.GlaProof

open Cert.GlaSampleRefIdeal Cert.GlaSampleRefIdeal.Step

variable (a0 : FVec Ideal S16384x11776 .f32) (a1 : FVec Ideal S16x1024 .f32) (a2 : FVec Ideal S1024 .f32)
theorem a34_at (b : Fin 1) (n : Fin 256) (h : Fin 4) (i j : Fin 64) : A_main_v34 (F := Ideal) a0 a1 a2 (ix5 b n h i j) = ∑ k : Fin 256, A_main_v29 (F := Ideal) a0 a1 a2 (ix5 b n i h k) * A_main_v33 (F := Ideal) a0 a1 a2 (ix5 b n j h k) := by
  obtain rfl : b = 0 := Subsingleton.elim _ _
  pointwise [A_main_v34]
theorem a38_at (b : Fin 1) (n : Fin 256) (h : Fin 4) (w : Fin 512) (i : Fin 64) : A_main_v38 (F := Ideal) a0 a1 a2 (ix5 b n h w i) = ∑ j : Fin 64, A_main_v22 (F := Ideal) a0 a1 a2 (ix5 b n j h w) * A_main_v37 (F := Ideal) a0 a1 a2 (ix5 b n h i j) := by
  obtain rfl : b = 0 := Subsingleton.elim _ _
  pointwise [A_main_v38]
theorem a39_at (b : Fin 1) (n : Fin 256) (i : Fin 64) (h : Fin 4) (w : Fin 512) : A_main_v39 (F := Ideal) a0 a1 a2 (ix5 b n i h w) = A_main_v38 (F := Ideal) a0 a1 a2 (ix5 b n h w i) := by
  obtain rfl : b = 0 := Subsingleton.elim _ _
  pointwise [A_main_v39]
/-- The causal mask: row `i` sees row `j` where `j ≤ i`. -/
theorem causal_at (i j : Fin 64) : K_main_v36 (F := Ideal) (ix2 i j) = if j.val ≤ i.val then 1#1 else 0#1 := by
  revert i j
  decide +kernel
theorem a37_at (b : Fin 1) (n : Fin 256) (h : Fin 4) (i j : Fin 64) : A_main_v37 (F := Ideal) a0 a1 a2 (ix5 b n h i j) = if j.val ≤ i.val then A_main_v34 (F := Ideal) a0 a1 a2 (ix5 b n h i j) else 0 := by
  obtain rfl : b = 0 := Subsingleton.elim _ _
  refine (show _ = Scalar.select (K_main_v36 (F := Ideal) (ix2 i j)) (A_main_v34 (F := Ideal) a0 a1 a2 (ix5 (0 : Fin 1) n h i j)) 0 by pointwise [A_main_v37, K_main_call3_v1, K_main_call3_v2, K_main_call3_v0, K_main_cst_1, id]).trans ?_
  rw [causal_at]
  split <;> rfl

end Cert.GlaSampleProof

end
-- ==== Proof.GlaSampleRefF.lean ====
/-
  ONE TRIP OF THE REFERENCE'S LOOP, entry by entry.
-/
module

public import proofs.«01_k».proof.Proof.GlaSampleRefE
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaSampleProof

open Cert.GlaProof

open Cert.GlaSampleRefIdeal Cert.GlaSampleRefIdeal.Step

/-- A trip's number is where its slices start. -/
theorem start_at : ∀ j : Fin 256, (min (max (BitVec.toInt (BitVec.ofNat 32 j.val)) 0) ((256 - 1 : Nat) : Int)).toNat = j.val := by decide
/-- The other starts are zero. -/
theorem start_zero (d : Int) (h : d = 0) : (min (max (BitVec.toInt (0#32 : BitVec 32)) 0) d).toNat = 0 := by subst h; decide

theorem b4_at (j : Fin 256) (s : State Ideal) (b : Fin 1) (i : Fin 64) (h : Fin 4) (k : Fin 512) : b4 j.val s (ix5 (0 : Fin 1) b i h k) = s.main_v57_0 (ix5 j b i h k) := by
  obtain rfl : b = 0 := Subsingleton.elim _ _
  unfold b4 Host.dynamicSlice extractStridedSlice
  refine congrArg s.main_v57_0 (funext fun a => Fin.ext ?_)
  match a with
  | ⟨0, _⟩ => show (min (max (BitVec.toInt (BitVec.ofNat 32 j.val)) 0) ((256 - 1 : Nat) : Int)).toNat + 0 = j.val; rw [start_at, Nat.add_zero]
  | ⟨1, _⟩ => show (min (max (BitVec.toInt (0#32 : BitVec 32)) 0) ((1 - 1 : Nat) : Int)).toNat + (0 : Fin 1).val = (0 : Fin 1).val; rw [start_zero _ (by rfl), Nat.zero_add]
  | ⟨2, _⟩ => show (min (max (BitVec.toInt (0#32 : BitVec 32)) 0) ((64 - 64 : Nat) : Int)).toNat + i.val = i.val; rw [start_zero _ (by rfl), Nat.zero_add]
  | ⟨3, _⟩ => show (min (max (BitVec.toInt (0#32 : BitVec 32)) 0) ((4 - 4 : Nat) : Int)).toNat + h.val = h.val; rw [start_zero _ (by rfl), Nat.zero_add]
  | ⟨4, _⟩ => show (min (max (BitVec.toInt (0#32 : BitVec 32)) 0) ((512 - 512 : Nat) : Int)).toNat + k.val = k.val; rw [start_zero _ (by rfl), Nat.zero_add]
theorem b10_at (j : Fin 256) (s : State Ideal) (b : Fin 1) (i : Fin 64) (h : Fin 4) (k : Fin 256) : b10 j.val s (ix5 (0 : Fin 1) b i h k) = s.main_v57_1 (ix5 j b i h k) := by
  obtain rfl : b = 0 := Subsingleton.elim _ _
  unfold b10 Host.dynamicSlice extractStridedSlice
  refine congrArg s.main_v57_1 (funext fun a => Fin.ext ?_)
  match a with
  | ⟨0, _⟩ => show (min (max (BitVec.toInt (BitVec.ofNat 32 j.val)) 0) ((256 - 1 : Nat) : Int)).toNat + 0 = j.val; rw [start_at, Nat.add_zero]
  | ⟨1, _⟩ => show (min (max (BitVec.toInt (0#32 : BitVec 32)) 0) ((1 - 1 : Nat) : Int)).toNat + (0 : Fin 1).val = (0 : Fin 1).val; rw [start_zero _ (by rfl), Nat.zero_add]
  | ⟨2, _⟩ => show (min (max (BitVec.toInt (0#32 : BitVec 32)) 0) ((64 - 64 : Nat) : Int)).toNat + i.val = i.val; rw [start_zero _ (by rfl), Nat.zero_add]
  | ⟨3, _⟩ => show (min (max (BitVec.toInt (0#32 : BitVec 32)) 0) ((4 - 4 : Nat) : Int)).toNat + h.val = h.val; rw [start_zero _ (by rfl), Nat.zero_add]
  | ⟨4, _⟩ => show (min (max (BitVec.toInt (0#32 : BitVec 32)) 0) ((256 - 256 : Nat) : Int)).toNat + k.val = k.val; rw [start_zero _ (by rfl), Nat.zero_add]
theorem b16_at (j : Fin 256) (s : State Ideal) (b : Fin 1) (i : Fin 64) (h : Fin 4) (k : Fin 256) : b16 j.val s (ix5 (0 : Fin 1) b i h k) = s.main_v57_2 (ix5 j b i h k) := by
  obtain rfl : b = 0 := Subsingleton.elim _ _
  unfold b16 Host.dynamicSlice extractStridedSlice
  refine congrArg s.main_v57_2 (funext fun a => Fin.ext ?_)
  match a with
  | ⟨0, _⟩ => show (min (max (BitVec.toInt (BitVec.ofNat 32 j.val)) 0) ((256 - 1 : Nat) : Int)).toNat + 0 = j.val; rw [start_at, Nat.add_zero]
  | ⟨1, _⟩ => show (min (max (BitVec.toInt (0#32 : BitVec 32)) 0) ((1 - 1 : Nat) : Int)).toNat + (0 : Fin 1).val = (0 : Fin 1).val; rw [start_zero _ (by rfl), Nat.zero_add]
  | ⟨2, _⟩ => show (min (max (BitVec.toInt (0#32 : BitVec 32)) 0) ((64 - 64 : Nat) : Int)).toNat + i.val = i.val; rw [start_zero _ (by rfl), Nat.zero_add]
  | ⟨3, _⟩ => show (min (max (BitVec.toInt (0#32 : BitVec 32)) 0) ((4 - 4 : Nat) : Int)).toNat + h.val = h.val; rw [start_zero _ (by rfl), Nat.zero_add]
  | ⟨4, _⟩ => show (min (max (BitVec.toInt (0#32 : BitVec 32)) 0) ((256 - 256 : Nat) : Int)).toNat + k.val = k.val; rw [start_zero _ (by rfl), Nat.zero_add]
theorem b22_at (j : Fin 256) (s : State Ideal) (b : Fin 1) (i : Fin 64) (h : Fin 4) (k : Fin 512) : b22 j.val s (ix5 (0 : Fin 1) b i h k) = s.main_v57_3 (ix5 j b i h k) := by
  obtain rfl : b = 0 := Subsingleton.elim _ _
  unfold b22 Host.dynamicSlice extractStridedSlice
  refine congrArg s.main_v57_3 (funext fun a => Fin.ext ?_)
  match a with
  | ⟨0, _⟩ => show (min (max (BitVec.toInt (BitVec.ofNat 32 j.val)) 0) ((256 - 1 : Nat) : Int)).toNat + 0 = j.val; rw [start_at, Nat.add_zero]
  | ⟨1, _⟩ => show (min (max (BitVec.toInt (0#32 : BitVec 32)) 0) ((1 - 1 : Nat) : Int)).toNat + (0 : Fin 1).val = (0 : Fin 1).val; rw [start_zero _ (by rfl), Nat.zero_add]
  | ⟨2, _⟩ => show (min (max (BitVec.toInt (0#32 : BitVec 32)) 0) ((64 - 64 : Nat) : Int)).toNat + i.val = i.val; rw [start_zero _ (by rfl), Nat.zero_add]
  | ⟨3, _⟩ => show (min (max (BitVec.toInt (0#32 : BitVec 32)) 0) ((4 - 4 : Nat) : Int)).toNat + h.val = h.val; rw [start_zero _ (by rfl), Nat.zero_add]
  | ⟨4, _⟩ => show (min (max (BitVec.toInt (0#32 : BitVec 32)) 0) ((512 - 512 : Nat) : Int)).toNat + k.val = k.val; rw [start_zero _ (by rfl), Nat.zero_add]
theorem b27_at (j : Fin 256) (s : State Ideal) (b : Fin 1) (h : Fin 4) (k : Fin 256) : b27 j.val s (ix4 (0 : Fin 1) b h k) = s.main_v57_4 (ix4 j b h k) := by
  obtain rfl : b = 0 := Subsingleton.elim _ _
  unfold b27 Host.dynamicSlice extractStridedSlice
  refine congrArg s.main_v57_4 (funext fun a => Fin.ext ?_)
  match a with
  | ⟨0, _⟩ => show (min (max (BitVec.toInt (BitVec.ofNat 32 j.val)) 0) ((256 - 1 : Nat) : Int)).toNat + 0 = j.val; rw [start_at, Nat.add_zero]
  | ⟨1, _⟩ => show (min (max (BitVec.toInt (0#32 : BitVec 32)) 0) ((1 - 1 : Nat) : Int)).toNat + (0 : Fin 1).val = (0 : Fin 1).val; rw [start_zero _ (by rfl), Nat.zero_add]
  | ⟨2, _⟩ => show (min (max (BitVec.toInt (0#32 : BitVec 32)) 0) ((4 - 4 : Nat) : Int)).toNat + h.val = h.val; rw [start_zero _ (by rfl), Nat.zero_add]
  | ⟨3, _⟩ => show (min (max (BitVec.toInt (0#32 : BitVec 32)) 0) ((256 - 256 : Nat) : Int)).toNat + k.val = k.val; rw [start_zero _ (by rfl), Nat.zero_add]

theorem b5_at (j : Fin 256) (s : State Ideal) (b : Fin 1) (i : Fin 64) (h : Fin 4) (k : Fin 512) : b5 j.val s (ix4 b i h k) = s.main_v57_0 (ix5 j b i h k) := by
  obtain rfl : b = 0 := Subsingleton.elim _ _
  rw [← b4_at]; pointwise [b5]
theorem b11_at (j : Fin 256) (s : State Ideal) (b : Fin 1) (i : Fin 64) (h : Fin 4) (k : Fin 256) : b11 j.val s (ix4 b i h k) = s.main_v57_1 (ix5 j b i h k) := by
  obtain rfl : b = 0 := Subsingleton.elim _ _
  rw [← b10_at]; pointwise [b11]
theorem b17_at (j : Fin 256) (s : State Ideal) (b : Fin 1) (i : Fin 64) (h : Fin 4) (k : Fin 256) : b17 j.val s (ix4 b i h k) = s.main_v57_2 (ix5 j b i h k) := by
  obtain rfl : b = 0 := Subsingleton.elim _ _
  rw [← b16_at]; pointwise [b17]
theorem b23_at (j : Fin 256) (s : State Ideal) (b : Fin 1) (i : Fin 64) (h : Fin 4) (k : Fin 512) : b23 j.val s (ix4 b i h k) = s.main_v57_3 (ix5 j b i h k) := by
  obtain rfl : b = 0 := Subsingleton.elim _ _
  rw [← b22_at]; pointwise [b23]
theorem b28_at (j : Fin 256) (s : State Ideal) (b : Fin 1) (h : Fin 4) (k : Fin 256) : b28 j.val s (ix3 b h k) = s.main_v57_4 (ix4 j b h k) := by
  obtain rfl : b = 0 := Subsingleton.elim _ _
  rw [← b27_at]; pointwise [b28]
theorem b29_at (j : ℕ) (s : State Ideal) (b : Fin 1) (h : Fin 4) (w : Fin 512) (i : Fin 64) : b29 j s (ix4 b h w i) = ∑ k : Fin 256, s.main_v57_6 (ix4 b h k w) * b11 j s (ix4 b i h k) := by
  obtain rfl : b = 0 := Subsingleton.elim _ _
  pointwise [b29]
theorem b31_at (j : ℕ) (s : State Ideal) (b : Fin 1) (i : Fin 64) (h : Fin 4) (w : Fin 512) : b31 j s (ix4 b i h w) = b5 j s (ix4 b i h w) + b29 j s (ix4 b h w i) := by
  obtain rfl : b = 0 := Subsingleton.elim _ _
  pointwise [b31, b30]
theorem b34_at (j : ℕ) (s : State Ideal) (b : Fin 1) (h : Fin 4) (k : Fin 256) (w : Fin 512) : b34 j s (ix4 b h k w) = s.main_v57_6 (ix4 b h k w) * b28 j s (ix3 b h k) := by
  obtain rfl : b = 0 := Subsingleton.elim _ _
  pointwise [b34, b33, b32]
theorem b35_at (j : ℕ) (s : State Ideal) (b : Fin 1) (h : Fin 4) (k : Fin 256) (w : Fin 512) : b35 j s (ix4 b h k w) = ∑ i : Fin 64, b17 j s (ix4 b i h k) * b23 j s (ix4 b i h w) := by
  obtain rfl : b = 0 := Subsingleton.elim _ _
  pointwise [b35]
theorem b36_at (j : ℕ) (s : State Ideal) (b : Fin 1) (h : Fin 4) (k : Fin 256) (w : Fin 512) : b36 j s (ix4 b h k w) = b34 j s (ix4 b h k w) + b35 j s (ix4 b h k w) := by
  obtain rfl : b = 0 := Subsingleton.elim _ _
  pointwise [b36]
theorem b37_at (j : ℕ) (s : State Ideal) (b : Fin 1) (i : Fin 64) (h : Fin 4) (w : Fin 512) : b37 j s (ix5 (0 : Fin 1) b i h w) = b31 j s (ix4 b i h w) := by
  obtain rfl : b = 0 := Subsingleton.elim _ _
  pointwise [b37]

/-- Within a trip, the output's block of that trip is replaced. -/
theorem b42_hit (j : Fin 256) (s : State Ideal) (b : Fin 1) (i : Fin 64) (h : Fin 4) (w : Fin 512) : b42 j.val s (ix5 j b i h w) = b31 j.val s (ix4 b i h w) := by
  obtain rfl : b = 0 := Subsingleton.elim _ _
  rw [← b37_at]
  unfold b42 Host.dynamicUpdateSlice updateSlice
  refine (dif_pos fun a => ?_).trans (congrArg (b37 j.val s) (funext fun a => Fin.ext ?_))
  · match a with
    | ⟨0, _⟩ => show (min (max (BitVec.toInt (BitVec.ofNat 32 j.val)) 0) ((256 - 1 : Nat) : Int)).toNat ≤ j.val ∧ j.val < (min (max (BitVec.toInt (BitVec.ofNat 32 j.val)) 0) ((256 - 1 : Nat) : Int)).toNat + 1; rw [start_at]; omega
    | ⟨1, _⟩ => show (min (max (BitVec.toInt (0#32 : BitVec 32)) 0) ((1 - 1 : Nat) : Int)).toNat ≤ (0 : Fin 1).val ∧ (0 : Fin 1).val < (min (max (BitVec.toInt (0#32 : BitVec 32)) 0) ((1 - 1 : Nat) : Int)).toNat + 1; rw [start_zero _ (by rfl)]; omega
    | ⟨2, _⟩ => show (min (max (BitVec.toInt (0#32 : BitVec 32)) 0) ((64 - 64 : Nat) : Int)).toNat ≤ i.val ∧ i.val < (min (max (BitVec.toInt (0#32 : BitVec 32)) 0) ((64 - 64 : Nat) : Int)).toNat + 64; rw [start_zero _ (by rfl)]; omega
    | ⟨3, _⟩ => show (min (max (BitVec.toInt (0#32 : BitVec 32)) 0) ((4 - 4 : Nat) : Int)).toNat ≤ h.val ∧ h.val < (min (max (BitVec.toInt (0#32 : BitVec 32)) 0) ((4 - 4 : Nat) : Int)).toNat + 4; rw [start_zero _ (by rfl)]; omega
    | ⟨4, _⟩ => show (min (max (BitVec.toInt (0#32 : BitVec 32)) 0) ((512 - 512 : Nat) : Int)).toNat ≤ w.val ∧ w.val < (min (max (BitVec.toInt (0#32 : BitVec 32)) 0) ((512 - 512 : Nat) : Int)).toNat + 512; rw [start_zero _ (by rfl)]; omega
  · match a with
    | ⟨0, _⟩ => show j.val - (min (max (BitVec.toInt (BitVec.ofNat 32 j.val)) 0) ((256 - 1 : Nat) : Int)).toNat = 0; rw [start_at]; omega
    | ⟨1, _⟩ => show (0 : Fin 1).val - (min (max (BitVec.toInt (0#32 : BitVec 32)) 0) ((1 - 1 : Nat) : Int)).toNat = (0 : Fin 1).val; rw [start_zero _ (by rfl)]; omega
    | ⟨2, _⟩ => show i.val - (min (max (BitVec.toInt (0#32 : BitVec 32)) 0) ((64 - 64 : Nat) : Int)).toNat = i.val; rw [start_zero _ (by rfl)]; omega
    | ⟨3, _⟩ => show h.val - (min (max (BitVec.toInt (0#32 : BitVec 32)) 0) ((4 - 4 : Nat) : Int)).toNat = h.val; rw [start_zero _ (by rfl)]; omega
    | ⟨4, _⟩ => show w.val - (min (max (BitVec.toInt (0#32 : BitVec 32)) 0) ((512 - 512 : Nat) : Int)).toNat = w.val; rw [start_zero _ (by rfl)]; omega

/-- The output's other blocks stay. -/
theorem b42_miss (j : Fin 256) (s : State Ideal) (n : Fin 256) (hn : n ≠ j) (b : Fin 1) (i : Fin 64) (h : Fin 4) (w : Fin 512) : b42 j.val s (ix5 n b i h w) = s.main_v57_7 (ix5 n b i h w) := by
  obtain rfl : b = 0 := Subsingleton.elim _ _
  unfold b42 Host.dynamicUpdateSlice updateSlice
  refine dif_neg fun hin => hn ?_
  have h0 := hin 0
  change (min (max (BitVec.toInt (BitVec.ofNat 32 j.val)) 0) ((256 - 1 : Nat) : Int)).toNat ≤ n.val ∧ n.val < (min (max (BitVec.toInt (BitVec.ofNat 32 j.val)) 0) ((256 - 1 : Nat) : Int)).toNat + 1 at h0
  rw [start_at] at h0
  exact Fin.ext (by omega)

end Cert.GlaSampleProof

end
-- ==== Proof.GlaSampleLoop.lean ====
/-
  THE REFERENCE'S LOOP over the 256 chunks, as a sequence of states.
-/
module

public import proofs.«01_k».proof.Proof.Gen.GlaSampleRefIdeal.Run
public import proofs.«01_k».proof.Proof.Gen.GlaSampleRefIdeal.Step
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaSampleProof

open Idealize.ShloMosaic.StableHlo Idealize.ShloMosaic.TcCoe Idealize.SL.Sem
open Cert.GlaSampleRefIdeal Cert.GlaSampleRefIdeal.Gen Cert.GlaSampleRefIdeal.Value

open Cert.GlaSampleRefIdeal.Step (State step init)

/-- The buffers of the loop hold the state `s` at trip `j`. -/
structure AtTrip (V : Valuation τ sig (Elt Ideal)) (s : State Ideal) (j : ℕ) : Prop where
  carried : V (Proc.devRef .tc main_v57_6) = s.main_v57_6
  out : V (Proc.devRef .tc main_v57_7) = s.main_v57_7
  intra : V (Proc.devRef .tc main_v57_0) = s.main_v57_0
  qin : V (Proc.devRef .tc main_v57_1) = s.main_v57_1
  kend : V (Proc.devRef .tc main_v57_2) = s.main_v57_2
  vals : V (Proc.devRef .tc main_v57_3) = s.main_v57_3
  dec : V (Proc.devRef .tc main_v57_4) = s.main_v57_4
  num : V (Proc.devRef .tc main_v57_5) = constantI S_ 32 (BitVec.ofNat 32 j)

variable {V : Valuation τ sig (Elt Ideal)} {s : State Ideal} {j : ℕ}

set_option maxRecDepth 8192 in
theorem carried_step (h : AtTrip V s j) : step_main_v57_6 V = (step j s).main_v57_6 := by
  obtain ⟨s6, s7, s0, s1, s2, s3, s4⟩ := s
  obtain ⟨h6, h7, h0, h1, h2, h3, h4, h5⟩ := h
  dsimp only at h6 h7 h0 h1 h2 h3 h4
  subst h6 h7 h0 h1 h2 h3 h4
  unfold step_main_v57_6 Cert.GlaSampleRefIdeal.Step.step
  dsimp only
  unfold Step.b36 Step.b35 Step.b34 Step.b33 Step.b32 Step.b28 Step.b27 Step.b17 Step.b16 Step.b23 Step.b22
  rw [← h5]
  rfl

set_option maxRecDepth 8192 in
theorem out_step (h : AtTrip V s j) : step_main_v57_7 V = (step j s).main_v57_7 := by
  obtain ⟨s6, s7, s0, s1, s2, s3, s4⟩ := s
  obtain ⟨h6, h7, h0, h1, h2, h3, h4, h5⟩ := h
  dsimp only at h6 h7 h0 h1 h2 h3 h4
  subst h6 h7 h0 h1 h2 h3 h4
  unfold step_main_v57_7 Cert.GlaSampleRefIdeal.Step.step
  dsimp only
  unfold Step.b42 Step.b37 Step.b31 Step.b30 Step.b29 Step.b5 Step.b4 Step.b11 Step.b10
  rw [← h5]
  rfl

theorem num_step (h : AtTrip V s j) : step_main_v57_5 V = constantI S_ 32 (BitVec.ofNat 32 (j + 1)) := by
  unfold step_main_v57_5
  rw [h.num]
  funext i
  show BitVec.ofNat 32 j + 1#32 = BitVec.ofNat 32 (j + 1)
  simp only [BitVec.ofNat_add]

/-- One trip takes a held state to the next one. -/
theorem trip (h : AtTrip V s j) : AtTrip (STEP V) (step j s) (j + 1) :=
  ⟨(STEP_main_v57_6 V).trans (carried_step h), (STEP_main_v57_7 V).trans (out_step h), (STEP_main_v57_0 V).trans h.intra,
    (STEP_main_v57_1 V).trans h.qin, (STEP_main_v57_2 V).trans h.kend, (STEP_main_v57_3 V).trans h.vals, (STEP_main_v57_4 V).trans h.dec,
    (STEP_main_v57_5 V).trans (num_step h)⟩

variable (m : (ℓ : Loc nD τ sig) → Buf (Elt Ideal) ℓ) (c : Dev nD)

/-- The states of the reference's loop. -/
def refState : ℕ → State Ideal
  | 0 => init (m ((c.tc : Thread nD τ).loc main_arg0)) (m ((c.tc : Thread nD τ).loc main_arg1)) (m ((c.tc : Thread nD τ).loc main_arg2))
  | n + 1 => step n (refState n)

set_option maxRecDepth 65536 in
set_option maxHeartbeats 700000 in
theorem at_entry : AtTrip (entryContents preI m c) (refState m c 0) 0 := by
  constructor <;> (simp only [entryContents, afterL_cons, afterL_nil]; after_reads_simp) <;> rfl

theorem at_trip : ∀ k, AtTrip (STEP^[k] (entryContents preI m c)) (refState m c k) k
  | 0 => at_entry m c
  | k + 1 => by
    rw [Function.iterate_succ_apply']
    exact trip (at_trip k)

set_option maxRecDepth 8192 in
/-- The reference's result is the loop's output field after its trips, put back in row order. -/
theorem ref_result (k : ℕ) : out_main_v60 (STEP^[k] (entryContents preI m c)) = Step.R_main_v60 (refState m c k) := by
  have h := (at_trip m c k).out
  unfold out_main_v60 Step.R_main_v60
  rw [h]
  rfl

end Cert.GlaSampleProof

end
-- ==== Proof.GlaSampleRefG.lean ====
/-
  THE REFERENCE'S SWEEP: its loop's states are the chunks' states, and its result is the sweep.
-/
module

public import proofs.«01_k».proof.Proof.GlaSampleRefF
public import proofs.«01_k».proof.Proof.GlaSampleLoop
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlaSampleProof

open Cert.GlaProof

open Cert.GlaSampleRefIdeal Cert.GlaSampleRefIdeal.Step Cert.GlaSampleRefIdeal.Gen

section
variable (a0 : FVec Ideal S16384x11776 .f32) (a1 : FVec Ideal S16x1024 .f32) (a2 : FVec Ideal S1024 .f32)
/-- The part of a chunk's output that comes from its own rows. -/
theorem intra_at (b : Fin 1) (n : Fin 256) (i : Fin 64) (h : Fin 4) (w : Fin 512) :
    A_main_v51 (F := Ideal) a0 a1 a2 (ix5 n b i h w) = ∑ j : Fin 64, (if j.val ≤ i.val then ∑ k : Fin 256, QE (fun r c => a0 (ix2 r c)) (fun r c => a1 (ix2 r c)) (fun c => a2 (ix1 c)) (CH b n) i (HC h k) * KE (fun r c => a0 (ix2 r c)) (fun r c => a1 (ix2 r c)) (fun c => a2 (ix1 c)) (CH b n) j (HC h k) else 0) * VV (fun r c => a0 (ix2 r c)) (CH b n) j (VC h w) := by
  obtain rfl : b = 0 := Subsingleton.elim _ _
  refine (show _ = A_main_v39 (F := Ideal) a0 a1 a2 (ix5 (0 : Fin 1) n i h w) by pointwise [A_main_v51]).trans ?_
  rw [a39_at, a38_at]
  refine Finset.sum_congr rfl fun j _ => ?_
  rw [a22v_at, a37_at, a34_at, mul_comm]
  refine congrArg (fun z => (if j.val ≤ i.val then z else 0) * _) (Finset.sum_congr rfl fun k _ => ?_)
  rw [a29_at, a33_at]
theorem qin_at (b : Fin 1) (n : Fin 256) (i : Fin 64) (h : Fin 4) (k : Fin 256) : A_main_v52 (F := Ideal) a0 a1 a2 (ix5 n b i h k) = QIN (fun r c => a0 (ix2 r c)) (fun r c => a1 (ix2 r c)) (fun c => a2 (ix1 c)) (CH b n) i (HC h k) := by
  obtain rfl : b = 0 := Subsingleton.elim _ _
  refine (show _ = A_main_v41 (F := Ideal) a0 a1 a2 (ix5 (0 : Fin 1) n i h k) by pointwise [A_main_v52]).trans (a41_at _ _ _ (0 : Fin 1) n i h k)
theorem kend_at (b : Fin 1) (n : Fin 256) (i : Fin 64) (h : Fin 4) (k : Fin 256) : A_main_v53 (F := Ideal) a0 a1 a2 (ix5 n b i h k) = KEND (fun r c => a0 (ix2 r c)) (fun r c => a1 (ix2 r c)) (fun c => a2 (ix1 c)) (CH b n) i (HC h k) := by
  obtain rfl : b = 0 := Subsingleton.elim _ _
  refine (show _ = A_main_v46 (F := Ideal) a0 a1 a2 (ix5 (0 : Fin 1) n i h k) by pointwise [A_main_v53]).trans (a46_at _ _ _ (0 : Fin 1) n i h k)
theorem vals_at (b : Fin 1) (n : Fin 256) (i : Fin 64) (h : Fin 4) (w : Fin 512) : A_main_v54 (F := Ideal) a0 a1 a2 (ix5 n b i h w) = VV (fun r c => a0 (ix2 r c)) (CH b n) i (VC h w) := by
  obtain rfl : b = 0 := Subsingleton.elim _ _
  refine (show _ = A_main_v22 (F := Ideal) a0 a1 a2 (ix5 (0 : Fin 1) n i h w) by pointwise [A_main_v54]).trans (a22v_at _ _ _ (0 : Fin 1) n i h w)
theorem dec_at (b : Fin 1) (n : Fin 256) (h : Fin 4) (k : Fin 256) : A_main_v55 (F := Ideal) a0 a1 a2 (ix4 n b h k) = DEC (fun r c => a0 (ix2 r c)) (fun r c => a1 (ix2 r c)) (fun c => a2 (ix1 c)) (CH b n) (HC h k) := by
  obtain rfl : b = 0 := Subsingleton.elim _ _
  refine (show _ = A_main_v49 (F := Ideal) a0 a1 a2 (ix4 (0 : Fin 1) n h k) by pointwise [A_main_v55]).trans (a49_at _ _ _ (0 : Fin 1) n h k)
end

variable (m : (ℓ : Loc nD τ sig) → Buf (Elt Ideal) ℓ) (c : Dev nD)
/-- The reference's projections, read by row and column. -/
def RP (r : Fin 16384) (e : Fin 11776) : EReal := m ((c.tc : Thread nD τ).loc main_arg0) (ix2 r e)
/-- The reference's gate weights. -/
def RWT (r : Fin 16) (e : Fin 1024) : EReal := m ((c.tc : Thread nD τ).loc main_arg1) (ix2 r e)
/-- The reference's gate bias. -/
def RB (e : Fin 1024) : EReal := m ((c.tc : Thread nD τ).loc main_arg2) (ix1 e)

/-- What a trip does not write stays as the loop found it. -/
theorem consts (n : ℕ) : (refState m c n).main_v57_0 = (refState m c 0).main_v57_0 ∧ (refState m c n).main_v57_1 = (refState m c 0).main_v57_1
    ∧ (refState m c n).main_v57_2 = (refState m c 0).main_v57_2 ∧ (refState m c n).main_v57_3 = (refState m c 0).main_v57_3
    ∧ (refState m c n).main_v57_4 = (refState m c 0).main_v57_4 := by
  induction n with
  | zero => exact ⟨rfl, rfl, rfl, rfl, rfl⟩
  | succ n ih => exact ih

theorem c0_at (n' : ℕ) (b : Fin 1) (n : Fin 256) (i : Fin 64) (h : Fin 4) (w : Fin 512) : (refState m c n').main_v57_0 (ix5 n b i h w)
    = ∑ j : Fin 64, (if j.val ≤ i.val then ∑ k : Fin 256, QE (RP m c) (RWT m c) (RB m c) (CH b n) i (HC h k) * KE (RP m c) (RWT m c) (RB m c) (CH b n) j (HC h k) else 0) * VV (RP m c) (CH b n) j (VC h w) := by
  obtain rfl : b = 0 := Subsingleton.elim _ _
  rw [(consts m c n').1]; exact intra_at _ _ _ (0 : Fin 1) n i h w
theorem c1_at (n' : ℕ) (b : Fin 1) (n : Fin 256) (i : Fin 64) (h : Fin 4) (k : Fin 256) : (refState m c n').main_v57_1 (ix5 n b i h k) = QIN (RP m c) (RWT m c) (RB m c) (CH b n) i (HC h k) := by
  obtain rfl : b = 0 := Subsingleton.elim _ _
  rw [(consts m c n').2.1]; exact qin_at _ _ _ (0 : Fin 1) n i h k
theorem c2_at (n' : ℕ) (b : Fin 1) (n : Fin 256) (i : Fin 64) (h : Fin 4) (k : Fin 256) : (refState m c n').main_v57_2 (ix5 n b i h k) = KEND (RP m c) (RWT m c) (RB m c) (CH b n) i (HC h k) := by
  obtain rfl : b = 0 := Subsingleton.elim _ _
  rw [(consts m c n').2.2.1]; exact kend_at _ _ _ (0 : Fin 1) n i h k
theorem c3_at (n' : ℕ) (b : Fin 1) (n : Fin 256) (i : Fin 64) (h : Fin 4) (w : Fin 512) : (refState m c n').main_v57_3 (ix5 n b i h w) = VV (RP m c) (CH b n) i (VC h w) := by
  obtain rfl : b = 0 := Subsingleton.elim _ _
  rw [(consts m c n').2.2.2.1]; exact vals_at (m ((c.tc : Thread nD τ).loc main_arg0)) (m ((c.tc : Thread nD τ).loc main_arg1)) (m ((c.tc : Thread nD τ).loc main_arg2)) (0 : Fin 1) n i h w
theorem c4_at (n' : ℕ) (b : Fin 1) (n : Fin 256) (h : Fin 4) (k : Fin 256) : (refState m c n').main_v57_4 (ix4 n b h k) = DEC (RP m c) (RWT m c) (RB m c) (CH b n) (HC h k) := by
  obtain rfl : b = 0 := Subsingleton.elim _ _
  rw [(consts m c n').2.2.2.2]; exact dec_at _ _ _ (0 : Fin 1) n h k

/-- THE CARRIED STATE before trip `n`, of each batch and head. -/
theorem carried_at : ∀ (n : ℕ) (hn : n < 256) (b : Fin 1) (h : Fin 4) (k : Fin 256) (w : Fin 512),
    (refState m c n).main_v57_6 (ix4 b h k w) = ST (RP m c) (RWT m c) (RB m c) (b.val * 256 + n) h w k
  | 0, hn, b, h, k, w => by
    rw [ST_reset _ _ _ (b.val * 256 + 0) (by omega)]
    exact (show K_main_v50 (F := Ideal) (ix4 b h k w) = (0 : EReal) by pointwise [K_main_v50, K_main_cst_2])
  | n + 1, hn, b, h, k, w => by
    have hn' : n < 256 := by omega
    rw [show b.val * 256 + (n + 1) = (b.val * 256 + n) + 1 by omega, ST_step _ _ _ (b.val * 256 + n) (by omega)]
    show b36 (⟨n, hn'⟩ : Fin 256).val (refState m c n) (ix4 b h k w) = _
    rw [b36_at, b34_at, b35_at, b28_at, c4_at, carried_at n hn' b h k w]
    unfold NXT NEWT
    refine congrArg (_ + ·) (Finset.sum_congr rfl fun i _ => ?_)
    rw [b17_at, b23_at, c2_at, c3_at, mul_comm]
    rfl

/-- A trip's output. -/
theorem out_at (n : Fin 256) (b : Fin 1) (i : Fin 64) (h : Fin 4) (w : Fin 512) :
    b31 n.val (refState m c n.val) (ix4 b i h w) = OTC (RP m c) (RWT m c) (RB m c) (CH b n) (ST (RP m c) (RWT m c) (RB m c) (CH b n)) h i w := by
  obtain rfl : b = 0 := Subsingleton.elim _ _
  rw [b31_at, b5_at, b29_at, c0_at]
  unfold OTC OUTT
  refine congrArg (_ + ·) (Finset.sum_congr rfl fun k _ => ?_)
  rw [carried_at m c n.val n.isLt, b11_at, c1_at, mul_comm]
  rfl

/-- The output's blocks of the trips made so far. -/
theorem blocks_at : ∀ (t : ℕ) (ht : t ≤ 256) (n : Fin 256) (hn : n.val < t) (b : Fin 1) (i : Fin 64) (h : Fin 4) (w : Fin 512),
    (refState m c t).main_v57_7 (ix5 n b i h w) = OTC (RP m c) (RWT m c) (RB m c) (CH b n) (ST (RP m c) (RWT m c) (RB m c) (CH b n)) h i w
  | 0, ht, n, hn, b, i, h, w => absurd hn (by omega)
  | t + 1, ht, n, hn, b, i, h, w => by
    show b42 (⟨t, by omega⟩ : Fin 256).val (refState m c t) (ix5 n b i h w) = _
    by_cases e : n = ⟨t, by omega⟩
    · rw [e, b42_hit]
      exact out_at m c _ b i h w
    · rw [b42_miss _ _ n e]
      exact blocks_at t (by omega) n (by
        have : n.val ≠ t := fun q => e (Fin.ext q)
        omega) b i h w

/-- A row and a column of the result, in the output's chunks, rows, heads and columns. -/
theorem result_split (s : State Ideal) (r : Fin 16384) (e : Fin 2048) :
    R_main_v60 s (ix2 r e) = s.main_v57_7 (ix5 ⟨r.val / 64, by omega⟩ 0 ⟨r.val % 64, by omega⟩ ⟨e.val / 512, by omega⟩ ⟨e.val % 512, by omega⟩) := by
  pointwise [R_main_v60]

/-- The result's rows and columns are the output's chunks, rows, heads and columns. -/
theorem result_at (s : State Ideal) (b : Fin 1) (n : Fin 256) (i : Fin 64) (h : Fin 4) (w : Fin 512) :
    R_main_v60 s (ix2 (RW b (RT n i)) (VC h w)) = s.main_v57_7 (ix5 n b i h w) := by
  obtain rfl : b = 0 := Subsingleton.elim _ _
  have hr : (RW 0 (RT n i)).val = n.val * 64 + i.val := by
    show (0 : Fin 1).val * 16384 + (n.val * 64 + i.val) = _
    simp
  have he : (VC h w).val = h.val * 512 + w.val := rfl
  rw [result_split]
  have e1 : (⟨(RW 0 (RT n i)).val / 64, by omega⟩ : Fin 256) = n := Fin.ext (by dsimp only; omega)
  have e2 : (⟨(RW 0 (RT n i)).val % 64, by omega⟩ : Fin 64) = i := Fin.ext (by dsimp only; omega)
  have e3 : (⟨(VC h w).val / 512, by omega⟩ : Fin 4) = h := Fin.ext (by dsimp only; omega)
  have e4 : (⟨(VC h w).val % 512, by omega⟩ : Fin 512) = w := Fin.ext (by dsimp only; omega)
  rw [e1, e2, e3, e4]

/-- THE REFERENCE'S RESULT: the sweep of its own arguments. -/
theorem ref_final : R_main_v60 (refState m c 256) = fun z : S16384x2048.Idx => SWEEP (RP m c) (RWT m c) (RB m c) (z 0) (z 1) := by
  funext z
  have hz1 : (z 1).val < 2048 := (z 1).isLt
  let h : Fin 4 := ⟨(z 1).val / 512, by omega⟩
  let w : Fin 512 := ⟨(z 1).val % 512, by omega⟩
  have hv : z 1 = VC h w := VC_split (z 1)
  have hz : (z 0).val < 16384 := (z 0).isLt
  let b : Fin 1 := ⟨(z 0).val / 16384, by omega⟩
  let n : Fin 256 := ⟨(z 0).val / 64 % 256, by omega⟩
  let i : Fin 64 := ⟨(z 0).val % 64, by omega⟩
  have hr : (z 0).val = 64 * CH b n + i.val := by
    show (z 0).val = 64 * ((z 0).val / 16384 * 256 + (z 0).val / 64 % 256) + (z 0).val % 64
    omega
  have ez : z = ix2 (RW b (RT n i)) (VC h w) := by
    refine (eq_ix2 z).trans (congrArg₂ ix2 (Fin.ext ?_) hv)
    show (z 0).val = (z 0).val / 16384 * 16384 + ((z 0).val / 64 % 256 * 64 + (z 0).val % 64)
    omega
  show _ = SWEEP (RP m c) (RWT m c) (RB m c) (z 0) (z 1)
  rw [hv, SWEEP_at _ _ _ (z 0) (CH b n) i h w hr]
  refine (congrArg (R_main_v60 (refState m c 256)) ez).trans ?_
  rw [result_at, blocks_at m c 256 (le_refl _) n n.isLt]

end Cert.GlaSampleProof

end
-- ==== Proof.GlaSampleClaims.lean ====
/-
  The claims about `GlaSample`, the forward gated linear attention sweep: the reference's frame and the equality of the kernel's result with the reference's.
-/
module

public import proofs.«01_k».proof.Defs
public import proofs.«01_k».proof.Proof.GlaSampleFinal
public import proofs.«01_k».proof.Proof.GlaSampleRefG

@[expose] public section

set_option maxRecDepth 16384

noncomputable section

open Idealize.ShloMosaic Idealize.ShloMosaic.TcCoe Idealize.SL.Sem
open Idealize.ShloMosaic.Pipeline (Dat)

namespace Cert.GlaSampleProof

open Cert.GlaProof

/-- The sweep of three arguments, entry by entry. -/
def RES (a0 : FVec Ideal Cert.GlaSampleIdeal.S16384x11776 .f32) (a1 : FVec Ideal Cert.GlaSampleIdeal.S16x1024 .f32) (a2 : FVec Ideal Cert.GlaSampleIdeal.S1024 .f32) :
    Cert.GlaSampleIdeal.S16384x2048.Idx → EReal :=
  fun z => SWEEP (fun r e => a0 (ix2 r e)) (fun r e => a1 (ix2 r e)) (fun e => a2 (ix1 e)) (z 0) (z 1)

/-- The reference's program runs, leaves its arguments as they were and every counter at zero: it declares no semaphore. -/
theorem frame_ref : Cert.quiescent_GlaSampleRefIdeal := fun m ρ _ =>
  (θ_run Cert.GlaSampleRefIdeal.defs _ _).mono (fun r h => ⟨fun c => (h c).2, sem_eq_zero_of_no_sems (by decide) r.2⟩)
    (Cert.GlaSampleRefIdeal.Value.run (F := Ideal) m ρ)

/-- From memories that agree on the arguments, the kernel and the reference end with equal results. -/
theorem algebraic : Cert.algebraic_GlaSampleIdeal_GlaSampleRefIdeal := by
  intro m ρ m' ρ' _ hag
  refine ⟨fun c => RES (m ((c : Thread Cert.GlaSampleIdeal.nD Cert.GlaSampleIdeal.τ).loc Cert.GlaSampleIdeal.main_arg0)) (m ((c : Thread Cert.GlaSampleIdeal.nD Cert.GlaSampleIdeal.τ).loc Cert.GlaSampleIdeal.main_arg1)) (m ((c : Thread Cert.GlaSampleIdeal.nD Cert.GlaSampleIdeal.τ).loc Cert.GlaSampleIdeal.main_arg2)), ?_, ?_⟩
  · exact (θ_run Cert.GlaSampleIdeal.defs _ _).mono (fun _ h c => ⟨(h c).1.trans (final m c), (h c).2⟩)
      (Cert.GlaSampleIdeal.Value.run_blocks (F := Ideal) m ρ)
  · refine (θ_run Cert.GlaSampleRefIdeal.defs _ _).mono (fun _ h c => ⟨(h c).1.trans ?_, (h c).2⟩)
      (Cert.GlaSampleRefIdeal.Value.run (F := Ideal) m' ρ')
    refine (ref_result m' c 256).trans ((ref_final m' c).trans ?_)
    show RES (m' ((c : Thread Cert.GlaSampleRefIdeal.nD Cert.GlaSampleRefIdeal.τ).loc Cert.GlaSampleRefIdeal.main_arg0)) (m' ((c : Thread Cert.GlaSampleRefIdeal.nD Cert.GlaSampleRefIdeal.τ).loc Cert.GlaSampleRefIdeal.main_arg1)) (m' ((c : Thread Cert.GlaSampleRefIdeal.nD Cert.GlaSampleRefIdeal.τ).loc Cert.GlaSampleRefIdeal.main_arg2)) = _
    rw [(hag c).1, (hag c).2.1, (hag c).2.2]

end Cert.GlaSampleProof

end
-- ==== Proof.lean ====
/-
  The certificate: the facts of every program, the frames, and for each kernel call the equality of its result with the
  reference's, assembled from the modules under `Proof/`.
-/
module

public import proofs.«01_k».proof.Defs
public import proofs.«01_k».proof.Proof.Gen.Gla.Frame
public import proofs.«01_k».proof.Proof.Gen.GlaIdeal.Frame
public import proofs.«01_k».proof.Proof.Gen.GlaIdeal.Value
public import proofs.«01_k».proof.Proof.Gen.GlaRefIdeal.Run
public import proofs.«01_k».proof.Proof.GlaClaims
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.FfnClaims
public import proofs.«01_k».proof.Proof.Gen.FfnFinal.Frame
public import proofs.«01_k».proof.Proof.Gen.FfnFinalIdeal.Frame
public import proofs.«01_k».proof.Proof.Gen.FfnFinalIdeal.Value
public import proofs.«01_k».proof.Proof.Gen.FfnFinalRefIdeal.Run
public import proofs.«01_k».proof.Proof.FfnFinalClaims
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.InProjClaims
public import proofs.«01_k».proof.Proof.Gen.KvProj.Frame
public import proofs.«01_k».proof.Proof.Gen.KvProjIdeal.Frame
public import proofs.«01_k».proof.Proof.Gen.KvProjIdeal.Value
public import proofs.«01_k».proof.Proof.Gen.KvProjRefIdeal.Run
public import proofs.«01_k».proof.Proof.KvProjClaims
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.OutProjClaims
public import proofs.«01_k».proof.Proof.Gen.Xattn.Frame
public import proofs.«01_k».proof.Proof.Gen.XattnIdeal.Frame
public import proofs.«01_k».proof.Proof.Gen.XattnIdeal.Value
public import proofs.«01_k».proof.Proof.Gen.XattnRefIdeal.Run
public import proofs.«01_k».proof.Proof.XattnClaims
public import proofs.«01_k».proof.Proof.Gen.GlaBwd.Frame
public import proofs.«01_k».proof.Proof.Gen.GlaBwdIdeal.Frame
public import proofs.«01_k».proof.Proof.Gen.GlaBwdIdeal.Value
public import proofs.«01_k».proof.Proof.Gen.GlaBwdRefIdeal.Run
public import proofs.«01_k».proof.Proof.BackClaims
public import proofs.«01_k».proof.Proof.Gen.XattnSample.Frame
public import proofs.«01_k».proof.Proof.Gen.XattnSampleIdeal.Frame
public import proofs.«01_k».proof.Proof.Gen.XattnSampleIdeal.Value
public import proofs.«01_k».proof.Proof.Gen.XattnSampleRefIdeal.Run
public import proofs.«01_k».proof.Proof.XattnSampleClaims
public import proofs.«01_k».proof.Proof.Gen.KvProjSample.Frame
public import proofs.«01_k».proof.Proof.Gen.KvProjSampleIdeal.Frame
public import proofs.«01_k».proof.Proof.Gen.KvProjSampleIdeal.Value
public import proofs.«01_k».proof.Proof.Gen.KvProjSampleRefIdeal.Run
public import proofs.«01_k».proof.Proof.KvProjSampleClaims
public import proofs.«01_k».proof.Proof.Gen.GlaSample.Frame
public import proofs.«01_k».proof.Proof.Gen.GlaSampleIdeal.Frame
public import proofs.«01_k».proof.Proof.Gen.GlaSampleIdeal.Value
public import proofs.«01_k».proof.Proof.Gen.GlaSampleRefIdeal.Run
public import proofs.«01_k».proof.Proof.GlaSampleClaims
public import Idealize.ShloMosaic.Adequacy
public import Idealize.ShloMosaic.Init

@[expose] public section

noncomputable section

namespace Cert.Proof

open Idealize.ShloMosaic Idealize.SL.Sem

/-- The certificate's claim. -/
theorem claim : Cert.Claim :=
  ⟨Cert.Gla.Gen.facts,
    Cert.GlaIdeal.Gen.facts,
    Cert.GlaRefIdeal.Gen.facts,
    Cert.Ffn.Gen.facts,
    Cert.FfnIdeal.Gen.facts,
    Cert.FfnRefIdeal.Gen.facts,
    Cert.FfnFinal.Gen.facts,
    Cert.FfnFinalIdeal.Gen.facts,
    Cert.FfnFinalRefIdeal.Gen.facts,
    Cert.InProj.Gen.facts,
    Cert.InProjIdeal.Gen.facts,
    Cert.InProjRefIdeal.Gen.facts,
    Cert.KvProj.Gen.facts,
    Cert.KvProjIdeal.Gen.facts,
    Cert.KvProjRefIdeal.Gen.facts,
    Cert.OutProj.Gen.facts,
    Cert.OutProjIdeal.Gen.facts,
    Cert.OutProjRefIdeal.Gen.facts,
    Cert.Xattn.Gen.facts,
    Cert.XattnIdeal.Gen.facts,
    Cert.XattnRefIdeal.Gen.facts,
    Cert.GlaBwd.Gen.facts,
    Cert.GlaBwdIdeal.Gen.facts,
    Cert.GlaBwdRefIdeal.Gen.facts,
    Cert.XattnSample.Gen.facts,
    Cert.XattnSampleIdeal.Gen.facts,
    Cert.XattnSampleRefIdeal.Gen.facts,
    Cert.KvProjSample.Gen.facts,
    Cert.KvProjSampleIdeal.Gen.facts,
    Cert.KvProjSampleRefIdeal.Gen.facts,
    Cert.GlaSample.Gen.facts,
    Cert.GlaSampleIdeal.Gen.facts,
    Cert.GlaSampleRefIdeal.Gen.facts,
    fun m ρ _ => Cert.Gla.Gen.frame m ρ,
    fun m ρ _ => Cert.GlaIdeal.Gen.frame m ρ,
    Cert.GlaProof.frame_ref,
    fun m ρ _ => Cert.Ffn.Gen.frame m ρ,
    fun m ρ _ => Cert.FfnIdeal.Gen.frame m ρ,
    Cert.FfnProof.frame_ref,
    fun m ρ _ => Cert.FfnFinal.Gen.frame m ρ,
    fun m ρ _ => Cert.FfnFinalIdeal.Gen.frame m ρ,
    Cert.FfnFinalProof.frame_ref,
    fun m ρ _ => Cert.InProj.Gen.frame m ρ,
    fun m ρ _ => Cert.InProjIdeal.Gen.frame m ρ,
    Cert.InProjProof.frame_ref,
    fun m ρ _ => Cert.KvProj.Gen.frame m ρ,
    fun m ρ _ => Cert.KvProjIdeal.Gen.frame m ρ,
    Cert.KvProjProof.frame_ref,
    fun m ρ _ => Cert.OutProj.Gen.frame m ρ,
    fun m ρ _ => Cert.OutProjIdeal.Gen.frame m ρ,
    Cert.OutProjProof.frame_ref,
    fun m ρ _ => Cert.Xattn.Gen.frame m ρ,
    fun m ρ _ => Cert.XattnIdeal.Gen.frame m ρ,
    Cert.XattnProof.frame_ref,
    fun m ρ _ => Cert.GlaBwd.Gen.frame m ρ,
    fun m ρ _ => Cert.GlaBwdIdeal.Gen.frame m ρ,
    Cert.GlaBwdProof.frame_ref,
    fun m ρ _ => Cert.XattnSample.Gen.frame m ρ,
    fun m ρ _ => Cert.XattnSampleIdeal.Gen.frame m ρ,
    Cert.XattnSampleProof.frame_ref,
    fun m ρ _ => Cert.KvProjSample.Gen.frame m ρ,
    fun m ρ _ => Cert.KvProjSampleIdeal.Gen.frame m ρ,
    Cert.KvProjSampleProof.frame_ref,
    fun m ρ _ => Cert.GlaSample.Gen.frame m ρ,
    fun m ρ _ => Cert.GlaSampleIdeal.Gen.frame m ρ,
    Cert.GlaSampleProof.frame_ref,
    trivial,
    Cert.GlaProof.algebraic,
    trivial,
    Cert.FfnProof.algebraic,
    trivial,
    Cert.FfnFinalProof.algebraic,
    trivial,
    Cert.InProjProof.algebraic,
    trivial,
    Cert.KvProjProof.algebraic,
    trivial,
    Cert.OutProjProof.algebraic,
    trivial,
    Cert.XattnProof.algebraic,
    trivial,
    Cert.GlaBwdProof.algebraic,
    trivial,
    Cert.XattnSampleProof.algebraic,
    trivial,
    Cert.KvProjSampleProof.algebraic,
    trivial,
    Cert.GlaSampleProof.algebraic⟩

end Cert.Proof

end
